-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Fwd (m : (ℓ : Loc Cert.Fwd.nD Cert.Fwd.τ Cert.Fwd.sig) → Buf (Elt Bits) ℓ) : Prop :=
  True

def Pre_FwdIdeal (m : (ℓ : Loc Cert.FwdIdeal.nD Cert.FwdIdeal.τ Cert.FwdIdeal.sig) → Buf (Elt Ideal) ℓ) : Prop :=
  True

def Pre_FwdIdeal_finite_fwd [hPre_finite_fwd : Cert.Pre_finite_fwd.Facts] (m : (ℓ : Loc Cert.FwdIdeal.nD Cert.FwdIdeal.τ Cert.FwdIdeal.sig) → Buf (Elt Ideal) ℓ) : Prop :=
  ∀ c : Dev Cert.FwdIdeal.nD,
    (Cert.Pre_finite_fwd.fn (F := Ideal) (m ((c.tc : Thread Cert.FwdIdeal.nD Cert.FwdIdeal.τ).loc Cert.FwdIdeal.main_arg0)) (m ((c.tc : Thread Cert.FwdIdeal.nD Cert.FwdIdeal.τ).loc Cert.FwdIdeal.main_arg1)) (m ((c.tc : Thread Cert.FwdIdeal.nD Cert.FwdIdeal.τ).loc Cert.FwdIdeal.main_arg2))) = (fun _ => 1#1)

def Pre_FwdRefIdeal (m : (ℓ : Loc Cert.FwdRefIdeal.nD Cert.FwdRefIdeal.τ Cert.FwdRefIdeal.sig) → Buf (Elt Ideal) ℓ) : Prop :=
  True

def Pre_FwdRefIdeal_finite_fwd [hPre_finite_fwd : Cert.Pre_finite_fwd.Facts] (m : (ℓ : Loc Cert.FwdRefIdeal.nD Cert.FwdRefIdeal.τ Cert.FwdRefIdeal.sig) → Buf (Elt Ideal) ℓ) : Prop :=
  ∀ c : Dev Cert.FwdRefIdeal.nD,
    (Cert.Pre_finite_fwd.fn (F := Ideal) (m ((c.tc : Thread Cert.FwdRefIdeal.nD Cert.FwdRefIdeal.τ).loc Cert.FwdRefIdeal.main_arg0)) (m ((c.tc : Thread Cert.FwdRefIdeal.nD Cert.FwdRefIdeal.τ).loc Cert.FwdRefIdeal.main_arg1)) (m ((c.tc : Thread Cert.FwdRefIdeal.nD Cert.FwdRefIdeal.τ).loc Cert.FwdRefIdeal.main_arg2))) = (fun _ => 1#1)

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpRefIdeal (m : (ℓ : Loc Cert.UpRefIdeal.nD Cert.UpRefIdeal.τ Cert.UpRefIdeal.sig) → Buf (Elt Ideal) ℓ) : Prop :=
  True

def Pre_Dh (m : (ℓ : Loc Cert.Dh.nD Cert.Dh.τ Cert.Dh.sig) → Buf (Elt Bits) ℓ) : Prop :=
  True

def Pre_DhIdeal (m : (ℓ : Loc Cert.DhIdeal.nD Cert.DhIdeal.τ Cert.DhIdeal.sig) → Buf (Elt Ideal) ℓ) : Prop :=
  True

def Pre_DhIdeal_finite_dh [hPre_finite_dh : Cert.Pre_finite_dh.Facts] (m : (ℓ : Loc Cert.DhIdeal.nD Cert.DhIdeal.τ Cert.DhIdeal.sig) → Buf (Elt Ideal) ℓ) : Prop :=
  ∀ c : Dev Cert.DhIdeal.nD,
    (Cert.Pre_finite_dh.fn (F := Ideal) (m ((c.tc : Thread Cert.DhIdeal.nD Cert.DhIdeal.τ).loc Cert.DhIdeal.main_arg0)) (m ((c.tc : Thread Cert.DhIdeal.nD Cert.DhIdeal.τ).loc Cert.DhIdeal.main_arg1)) (m ((c.tc : Thread Cert.DhIdeal.nD Cert.DhIdeal.τ).loc Cert.DhIdeal.main_arg2)) (m ((c.tc : Thread Cert.DhIdeal.nD Cert.DhIdeal.τ).loc Cert.DhIdeal.main_arg3)) (m ((c.tc : Thread Cert.DhIdeal.nD Cert.DhIdeal.τ).loc Cert.DhIdeal.main_arg4))) = (fun _ => 1#1)

def Pre_DhRefIdeal (m : (ℓ : Loc Cert.DhRefIdeal.nD Cert.DhRefIdeal.τ Cert.DhRefIdeal.sig) → Buf (Elt Ideal) ℓ) : Prop :=
  True

def Pre_DhRefIdeal_finite_dh [hPre_finite_dh : Cert.Pre_finite_dh.Facts] (m : (ℓ : Loc Cert.DhRefIdeal.nD Cert.DhRefIdeal.τ Cert.DhRefIdeal.sig) → Buf (Elt Ideal) ℓ) : Prop :=
  ∀ c : Dev Cert.DhRefIdeal.nD,
    (Cert.Pre_finite_dh.fn (F := Ideal) (m ((c.tc : Thread Cert.DhRefIdeal.nD Cert.DhRefIdeal.τ).loc Cert.DhRefIdeal.main_arg0)) (m ((c.tc : Thread Cert.DhRefIdeal.nD Cert.DhRefIdeal.τ).loc Cert.DhRefIdeal.main_arg1)) (m ((c.tc : Thread Cert.DhRefIdeal.nD Cert.DhRefIdeal.τ).loc Cert.DhRefIdeal.main_arg2)) (m ((c.tc : Thread Cert.DhRefIdeal.nD Cert.DhRefIdeal.τ).loc Cert.DhRefIdeal.main_arg3)) (m ((c.tc : Thread Cert.DhRefIdeal.nD Cert.DhRefIdeal.τ).loc Cert.DhRefIdeal.main_arg4))) = (fun _ => 1#1)

def Pre_Dw (m : (ℓ : Loc Cert.Dw.nD Cert.Dw.τ Cert.Dw.sig) → Buf (Elt Bits) ℓ) : Prop :=
  True

def Pre_DwIdeal (m : (ℓ : Loc Cert.DwIdeal.nD Cert.DwIdeal.τ Cert.DwIdeal.sig) → Buf (Elt Ideal) ℓ) : Prop :=
  True

def Pre_DwRefIdeal (m : (ℓ : Loc Cert.DwRefIdeal.nD Cert.DwRefIdeal.τ Cert.DwRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_Dw2 (m : (ℓ : Loc Cert.Dw2.nD Cert.Dw2.τ Cert.Dw2.sig) → Buf (Elt Bits) ℓ) : Prop :=
  True

def Pre_Dw2Ideal (m : (ℓ : Loc Cert.Dw2Ideal.nD Cert.Dw2Ideal.τ Cert.Dw2Ideal.sig) → Buf (Elt Ideal) ℓ) : Prop :=
  True

def Pre_Dw2RefIdeal (m : (ℓ : Loc Cert.Dw2RefIdeal.nD Cert.Dw2RefIdeal.τ Cert.Dw2RefIdeal.sig) → Buf (Elt Ideal) ℓ) : Prop :=
  True

def Pre_InB (m : (ℓ : Loc Cert.InB.nD Cert.InB.τ Cert.InB.sig) → Buf (Elt Bits) ℓ) : Prop :=
  True

def Pre_InBIdeal (m : (ℓ : Loc Cert.InBIdeal.nD Cert.InBIdeal.τ Cert.InBIdeal.sig) → Buf (Elt Ideal) ℓ) : Prop :=
  True

def Pre_InBRefIdeal (m : (ℓ : Loc Cert.InBRefIdeal.nD Cert.InBRefIdeal.τ Cert.InBRefIdeal.sig) → Buf (Elt Ideal) ℓ) : Prop :=
  True

def Pre_DhB (m : (ℓ : Loc Cert.DhB.nD Cert.DhB.τ Cert.DhB.sig) → Buf (Elt Bits) ℓ) : Prop :=
  True

def Pre_DhBIdeal (m : (ℓ : Loc Cert.DhBIdeal.nD Cert.DhBIdeal.τ Cert.DhBIdeal.sig) → Buf (Elt Ideal) ℓ) : Prop :=
  True

def Pre_DhBRefIdeal (m : (ℓ : Loc Cert.DhBRefIdeal.nD Cert.DhBRefIdeal.τ Cert.DhBRefIdeal.sig) → Buf (Elt Ideal) ℓ) : Prop :=
  True

def Pre_DwB (m : (ℓ : Loc Cert.DwB.nD Cert.DwB.τ Cert.DwB.sig) → Buf (Elt Bits) ℓ) : Prop :=
  True

def Pre_DwBIdeal (m : (ℓ : Loc Cert.DwBIdeal.nD Cert.DwBIdeal.τ Cert.DwBIdeal.sig) → Buf (Elt Ideal) ℓ) : Prop :=
  True

def Pre_DwBRefIdeal (m : (ℓ : Loc Cert.DwBRefIdeal.nD Cert.DwBRefIdeal.τ Cert.DwBRefIdeal.sig) → Buf (Elt Ideal) ℓ) : Prop :=
  True

def Pre_InG (m : (ℓ : Loc Cert.InG.nD Cert.InG.τ Cert.InG.sig) → Buf (Elt Bits) ℓ) : Prop :=
  True

def Pre_InGIdeal (m : (ℓ : Loc Cert.InGIdeal.nD Cert.InGIdeal.τ Cert.InGIdeal.sig) → Buf (Elt Ideal) ℓ) : Prop :=
  True

def Pre_InGRefIdeal (m : (ℓ : Loc Cert.InGRefIdeal.nD Cert.InGRefIdeal.τ Cert.InGRefIdeal.sig) → Buf (Elt Ideal) ℓ) : Prop :=
  True

def Pre_DhG (m : (ℓ : Loc Cert.DhG.nD Cert.DhG.τ Cert.DhG.sig) → Buf (Elt Bits) ℓ) : Prop :=
  True

def Pre_DhGIdeal (m : (ℓ : Loc Cert.DhGIdeal.nD Cert.DhGIdeal.τ Cert.DhGIdeal.sig) → Buf (Elt Ideal) ℓ) : Prop :=
  True

def Pre_DhGRefIdeal (m : (ℓ : Loc Cert.DhGRefIdeal.nD Cert.DhGRefIdeal.τ Cert.DhGRefIdeal.sig) → Buf (Elt Ideal) ℓ) : Prop :=
  True

def Pre_DwG (m : (ℓ : Loc Cert.DwG.nD Cert.DwG.τ Cert.DwG.sig) → Buf (Elt Bits) ℓ) : Prop :=
  True

def Pre_DwGIdeal (m : (ℓ : Loc Cert.DwGIdeal.nD Cert.DwGIdeal.τ Cert.DwGIdeal.sig) → Buf (Elt Ideal) ℓ) : Prop :=
  True

def Pre_DwGRefIdeal (m : (ℓ : Loc Cert.DwGRefIdeal.nD Cert.DwGRefIdeal.τ Cert.DwGRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_DwOut (m : (ℓ : Loc Cert.DwOut.nD Cert.DwOut.τ Cert.DwOut.sig) → Buf (Elt Bits) ℓ) : Prop :=
  True

def Pre_DwOutIdeal (m : (ℓ : Loc Cert.DwOutIdeal.nD Cert.DwOutIdeal.τ Cert.DwOutIdeal.sig) → Buf (Elt Ideal) ℓ) : Prop :=
  True

def Pre_DwOutRefIdeal (m : (ℓ : Loc Cert.DwOutRefIdeal.nD Cert.DwOutRefIdeal.τ Cert.DwOutRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_MergeBwd (m : (ℓ : Loc Cert.MergeBwd.nD Cert.MergeBwd.τ Cert.MergeBwd.sig) → Buf (Elt Bits) ℓ) : Prop :=
  True

def Pre_MergeBwdIdeal (m : (ℓ : Loc Cert.MergeBwdIdeal.nD Cert.MergeBwdIdeal.τ Cert.MergeBwdIdeal.sig) → Buf (Elt Ideal) ℓ) : Prop :=
  True

def Pre_MergeBwdRefIdeal (m : (ℓ : Loc Cert.MergeBwdRefIdeal.nD Cert.MergeBwdRefIdeal.τ Cert.MergeBwdRefIdeal.sig) → Buf (Elt Ideal) ℓ) : Prop :=
  True

def Pre_Cross (m : (ℓ : Loc Cert.Cross.nD Cert.Cross.τ Cert.Cross.sig) → Buf (Elt Bits) ℓ) : Prop :=
  True

def Pre_CrossIdeal (m : (ℓ : Loc Cert.CrossIdeal.nD Cert.CrossIdeal.τ Cert.CrossIdeal.sig) → Buf (Elt Ideal) ℓ) : Prop :=
  True

def Pre_CrossRefIdeal (m : (ℓ : Loc Cert.CrossRefIdeal.nD Cert.CrossRefIdeal.τ Cert.CrossRefIdeal.sig) → Buf (Elt Ideal) ℓ) : Prop :=
  True

def Pre_Xq (m : (ℓ : Loc Cert.Xq.nD Cert.Xq.τ Cert.Xq.sig) → Buf (Elt Bits) ℓ) : Prop :=
  True

def Pre_XqIdeal (m : (ℓ : Loc Cert.XqIdeal.nD Cert.XqIdeal.τ Cert.XqIdeal.sig) → Buf (Elt Ideal) ℓ) : Prop :=
  True

def Pre_XqRefIdeal (m : (ℓ : Loc Cert.XqRefIdeal.nD Cert.XqRefIdeal.τ Cert.XqRefIdeal.sig) → Buf (Elt Ideal) ℓ) : Prop :=
  True

def Pre_Dox (m : (ℓ : Loc Cert.Dox.nD Cert.Dox.τ Cert.Dox.sig) → Buf (Elt Bits) ℓ) : Prop :=
  True

def Pre_DoxIdeal (m : (ℓ : Loc Cert.DoxIdeal.nD Cert.DoxIdeal.τ Cert.DoxIdeal.sig) → Buf (Elt Ideal) ℓ) : Prop :=
  True

def Pre_DoxRefIdeal (m : (ℓ : Loc Cert.DoxRefIdeal.nD Cert.DoxRefIdeal.τ Cert.DoxRefIdeal.sig) → Buf (Elt Ideal) ℓ) : Prop :=
  True

def Pre_Dmerged (m : (ℓ : Loc Cert.Dmerged.nD Cert.Dmerged.τ Cert.Dmerged.sig) → Buf (Elt Bits) ℓ) : Prop :=
  True

def Pre_DmergedIdeal (m : (ℓ : Loc Cert.DmergedIdeal.nD Cert.DmergedIdeal.τ Cert.DmergedIdeal.sig) → Buf (Elt Ideal) ℓ) : Prop :=
  True

def Pre_DmergedRefIdeal (m : (ℓ : Loc Cert.DmergedRefIdeal.nD Cert.DmergedRefIdeal.τ Cert.DmergedRefIdeal.sig) → Buf (Elt Ideal) ℓ) : Prop :=
  True

def Pre_Dh1 (m : (ℓ : Loc Cert.Dh1.nD Cert.Dh1.τ Cert.Dh1.sig) → Buf (Elt Bits) ℓ) : Prop :=
  True

def Pre_Dh1Ideal (m : (ℓ : Loc Cert.Dh1Ideal.nD Cert.Dh1Ideal.τ Cert.Dh1Ideal.sig) → Buf (Elt Ideal) ℓ) : Prop :=
  True

def Pre_Dh1RefIdeal (m : (ℓ : Loc Cert.Dh1RefIdeal.nD Cert.Dh1RefIdeal.τ Cert.Dh1RefIdeal.sig) → Buf (Elt Ideal) ℓ) : Prop :=
  True

def Pre_DyA (m : (ℓ : Loc Cert.DyA.nD Cert.DyA.τ Cert.DyA.sig) → Buf (Elt Bits) ℓ) : Prop :=
  True

def Pre_DyAIdeal (m : (ℓ : Loc Cert.DyAIdeal.nD Cert.DyAIdeal.τ Cert.DyAIdeal.sig) → Buf (Elt Ideal) ℓ) : Prop :=
  True

def Pre_DyARefIdeal (m : (ℓ : Loc Cert.DyARefIdeal.nD Cert.DyARefIdeal.τ Cert.DyARefIdeal.sig) → Buf (Elt Ideal) ℓ) : Prop :=
  True

def Pre_DyB (m : (ℓ : Loc Cert.DyB.nD Cert.DyB.τ Cert.DyB.sig) → Buf (Elt Bits) ℓ) : Prop :=
  True

def Pre_DyBIdeal (m : (ℓ : Loc Cert.DyBIdeal.nD Cert.DyBIdeal.τ Cert.DyBIdeal.sig) → Buf (Elt Ideal) ℓ) : Prop :=
  True

def Pre_DyBRefIdeal (m : (ℓ : Loc Cert.DyBRefIdeal.nD Cert.DyBRefIdeal.τ Cert.DyBRefIdeal.sig) → Buf (Elt Ideal) ℓ) : Prop :=
  True

def Pre_DwBrA (m : (ℓ : Loc Cert.DwBrA.nD Cert.DwBrA.τ Cert.DwBrA.sig) → Buf (Elt Bits) ℓ) : Prop :=
  True

def Pre_DwBrAIdeal (m : (ℓ : Loc Cert.DwBrAIdeal.nD Cert.DwBrAIdeal.τ Cert.DwBrAIdeal.sig) → Buf (Elt Ideal) ℓ) : Prop :=
  True

def Pre_DwBrARefIdeal (m : (ℓ : Loc Cert.DwBrARefIdeal.nD Cert.DwBrARefIdeal.τ Cert.DwBrARefIdeal.sig) → Buf (Elt Ideal) ℓ) : Prop :=
  True

def Pre_DwBrB (m : (ℓ : Loc Cert.DwBrB.nD Cert.DwBrB.τ Cert.DwBrB.sig) → Buf (Elt Bits) ℓ) : Prop :=
  True

def Pre_DwBrBIdeal (m : (ℓ : Loc Cert.DwBrBIdeal.nD Cert.DwBrBIdeal.τ Cert.DwBrBIdeal.sig) → Buf (Elt Ideal) ℓ) : Prop :=
  True

def Pre_DwBrBRefIdeal (m : (ℓ : Loc Cert.DwBrBRefIdeal.nD Cert.DwBrBRefIdeal.τ Cert.DwBrBRefIdeal.sig) → Buf (Elt Ideal) ℓ) : Prop :=
  True

def Pre_InC (m : (ℓ : Loc Cert.InC.nD Cert.InC.τ Cert.InC.sig) → Buf (Elt Bits) ℓ) : Prop :=
  True

def Pre_InCIdeal (m : (ℓ : Loc Cert.InCIdeal.nD Cert.InCIdeal.τ Cert.InCIdeal.sig) → Buf (Elt Ideal) ℓ) : Prop :=
  True

def Pre_InCRefIdeal (m : (ℓ : Loc Cert.InCRefIdeal.nD Cert.InCRefIdeal.τ Cert.InCRefIdeal.sig) → Buf (Elt Ideal) ℓ) : Prop :=
  True

def Pre_DhC (m : (ℓ : Loc Cert.DhC.nD Cert.DhC.τ Cert.DhC.sig) → Buf (Elt Bits) ℓ) : Prop :=
  True

def Pre_DhCIdeal (m : (ℓ : Loc Cert.DhCIdeal.nD Cert.DhCIdeal.τ Cert.DhCIdeal.sig) → Buf (Elt Ideal) ℓ) : Prop :=
  True

def Pre_DhCRefIdeal (m : (ℓ : Loc Cert.DhCRefIdeal.nD Cert.DhCRefIdeal.τ Cert.DhCRefIdeal.sig) → Buf (Elt Ideal) ℓ) : Prop :=
  True

def Pre_DwC (m : (ℓ : Loc Cert.DwC.nD Cert.DwC.τ Cert.DwC.sig) → Buf (Elt Bits) ℓ) : Prop :=
  True

def Pre_DwCIdeal (m : (ℓ : Loc Cert.DwCIdeal.nD Cert.DwCIdeal.τ Cert.DwCIdeal.sig) → Buf (Elt Ideal) ℓ) : Prop :=
  True

def Pre_DwCRefIdeal (m : (ℓ : Loc Cert.DwCRefIdeal.nD Cert.DwCRefIdeal.τ Cert.DwCRefIdeal.sig) → Buf (Elt Ideal) ℓ) : Prop :=
  True

def Pre_Rms (m : (ℓ : Loc Cert.Rms.nD Cert.Rms.τ Cert.Rms.sig) → Buf (Elt Bits) ℓ) : Prop :=
  True

def Pre_RmsIdeal (m : (ℓ : Loc Cert.RmsIdeal.nD Cert.RmsIdeal.τ Cert.RmsIdeal.sig) → Buf (Elt Ideal) ℓ) : Prop :=
  True

def Pre_RmsRefIdeal (m : (ℓ : Loc Cert.RmsRefIdeal.nD Cert.RmsRefIdeal.τ Cert.RmsRefIdeal.sig) → Buf (Elt Ideal) ℓ) : Prop :=
  True

def Pre_RmsMem (m : (ℓ : Loc Cert.RmsMem.nD Cert.RmsMem.τ Cert.RmsMem.sig) → Buf (Elt Bits) ℓ) : Prop :=
  True

def Pre_RmsMemIdeal (m : (ℓ : Loc Cert.RmsMemIdeal.nD Cert.RmsMemIdeal.τ Cert.RmsMemIdeal.sig) → Buf (Elt Ideal) ℓ) : Prop :=
  True

def Pre_RmsMemRefIdeal (m : (ℓ : Loc Cert.RmsMemRefIdeal.nD Cert.RmsMemRefIdeal.τ Cert.RmsMemRefIdeal.sig) → Buf (Elt Ideal) ℓ) : Prop :=
  True

def Pre_RmsCq (m : (ℓ : Loc Cert.RmsCq.nD Cert.RmsCq.τ Cert.RmsCq.sig) → Buf (Elt Bits) ℓ) : Prop :=
  True

def Pre_RmsCqIdeal (m : (ℓ : Loc Cert.RmsCqIdeal.nD Cert.RmsCqIdeal.τ Cert.RmsCqIdeal.sig) → Buf (Elt Ideal) ℓ) : Prop :=
  True

def Pre_RmsCqRefIdeal (m : (ℓ : Loc Cert.RmsCqRefIdeal.nD Cert.RmsCqRefIdeal.τ Cert.RmsCqRefIdeal.sig) → Buf (Elt Ideal) ℓ) : Prop :=
  True

def Pre_RmsCkv (m : (ℓ : Loc Cert.RmsCkv.nD Cert.RmsCkv.τ Cert.RmsCkv.sig) → Buf (Elt Bits) ℓ) : Prop :=
  True

def Pre_RmsCkvIdeal (m : (ℓ : Loc Cert.RmsCkvIdeal.nD Cert.RmsCkvIdeal.τ Cert.RmsCkvIdeal.sig) → Buf (Elt Ideal) ℓ) : Prop :=
  True

def Pre_RmsCkvRefIdeal (m : (ℓ : Loc Cert.RmsCkvRefIdeal.nD Cert.RmsCkvRefIdeal.τ Cert.RmsCkvRefIdeal.sig) → Buf (Elt Ideal) ℓ) : Prop :=
  True

def Pre_Xkv (m : (ℓ : Loc Cert.Xkv.nD Cert.Xkv.τ Cert.Xkv.sig) → Buf (Elt Bits) ℓ) : Prop :=
  True

def Pre_XkvIdeal (m : (ℓ : Loc Cert.XkvIdeal.nD Cert.XkvIdeal.τ Cert.XkvIdeal.sig) → Buf (Elt Ideal) ℓ) : Prop :=
  True

def Pre_XkvRefIdeal (m : (ℓ : Loc Cert.XkvRefIdeal.nD Cert.XkvRefIdeal.τ Cert.XkvRefIdeal.sig) → Buf (Elt Ideal) ℓ) : Prop :=
  True

def Pre_Dmemn (m : (ℓ : Loc Cert.Dmemn.nD Cert.Dmemn.τ Cert.Dmemn.sig) → Buf (Elt Bits) ℓ) : Prop :=
  True

def Pre_DmemnIdeal (m : (ℓ : Loc Cert.DmemnIdeal.nD Cert.DmemnIdeal.τ Cert.DmemnIdeal.sig) → Buf (Elt Ideal) ℓ) : Prop :=
  True

def Pre_DmemnRefIdeal (m : (ℓ : Loc Cert.DmemnRefIdeal.nD Cert.DmemnRefIdeal.τ Cert.DmemnRefIdeal.sig) → Buf (Elt Ideal) ℓ) : Prop :=
  True

def Pre_Dwkv (m : (ℓ : Loc Cert.Dwkv.nD Cert.Dwkv.τ Cert.Dwkv.sig) → Buf (Elt Bits) ℓ) : Prop :=
  True

def Pre_DwkvIdeal (m : (ℓ : Loc Cert.DwkvIdeal.nD Cert.DwkvIdeal.τ Cert.DwkvIdeal.sig) → Buf (Elt Ideal) ℓ) : Prop :=
  True

def Pre_DwkvRefIdeal (m : (ℓ : Loc Cert.DwkvRefIdeal.nD Cert.DwkvRefIdeal.τ Cert.DwkvRefIdeal.sig) → Buf (Elt Ideal) ℓ) : Prop :=
  True

def Pre_InA (m : (ℓ : Loc Cert.InA.nD Cert.InA.τ Cert.InA.sig) → Buf (Elt Bits) ℓ) : Prop :=
  True

def Pre_InAIdeal (m : (ℓ : Loc Cert.InAIdeal.nD Cert.InAIdeal.τ Cert.InAIdeal.sig) → Buf (Elt Ideal) ℓ) : Prop :=
  True

def Pre_InARefIdeal (m : (ℓ : Loc Cert.InARefIdeal.nD Cert.InARefIdeal.τ Cert.InARefIdeal.sig) → Buf (Elt Ideal) ℓ) : Prop :=
  True

def Pre_Ukv (m : (ℓ : Loc Cert.Ukv.nD Cert.Ukv.τ Cert.Ukv.sig) → Buf (Elt Bits) ℓ) : Prop :=
  True

def Pre_UkvIdeal (m : (ℓ : Loc Cert.UkvIdeal.nD Cert.UkvIdeal.τ Cert.UkvIdeal.sig) → Buf (Elt Ideal) ℓ) : Prop :=
  True

def Pre_UkvRefIdeal (m : (ℓ : Loc Cert.UkvRefIdeal.nD Cert.UkvRefIdeal.τ Cert.UkvRefIdeal.sig) → Buf (Elt Ideal) ℓ) : Prop :=
  True

def Pre_DhCq (m : (ℓ : Loc Cert.DhCq.nD Cert.DhCq.τ Cert.DhCq.sig) → Buf (Elt Bits) ℓ) : Prop :=
  True

def Pre_DhCqIdeal (m : (ℓ : Loc Cert.DhCqIdeal.nD Cert.DhCqIdeal.τ Cert.DhCqIdeal.sig) → Buf (Elt Ideal) ℓ) : Prop :=
  True

def Pre_DhCqRefIdeal (m : (ℓ : Loc Cert.DhCqRefIdeal.nD Cert.DhCqRefIdeal.τ Cert.DhCqRefIdeal.sig) → Buf (Elt Ideal) ℓ) : Prop :=
  True

def Pre_DhCkv (m : (ℓ : Loc Cert.DhCkv.nD Cert.DhCkv.τ Cert.DhCkv.sig) → Buf (Elt Bits) ℓ) : Prop :=
  True

def Pre_DhCkvIdeal (m : (ℓ : Loc Cert.DhCkvIdeal.nD Cert.DhCkvIdeal.τ Cert.DhCkvIdeal.sig) → Buf (Elt Ideal) ℓ) : Prop :=
  True

def Pre_DhCkvRefIdeal (m : (ℓ : Loc Cert.DhCkvRefIdeal.nD Cert.DhCkvRefIdeal.τ Cert.DhCkvRefIdeal.sig) → Buf (Elt Ideal) ℓ) : Prop :=
  True

def Pre_DwCq (m : (ℓ : Loc Cert.DwCq.nD Cert.DwCq.τ Cert.DwCq.sig) → Buf (Elt Bits) ℓ) : Prop :=
  True

def Pre_DwCqIdeal (m : (ℓ : Loc Cert.DwCqIdeal.nD Cert.DwCqIdeal.τ Cert.DwCqIdeal.sig) → Buf (Elt Ideal) ℓ) : Prop :=
  True

def Pre_DwCqRefIdeal (m : (ℓ : Loc Cert.DwCqRefIdeal.nD Cert.DwCqRefIdeal.τ Cert.DwCqRefIdeal.sig) → Buf (Elt Ideal) ℓ) : Prop :=
  True

def Pre_DwCkv (m : (ℓ : Loc Cert.DwCkv.nD Cert.DwCkv.τ Cert.DwCkv.sig) → Buf (Elt Bits) ℓ) : Prop :=
  True

def Pre_DwCkvIdeal (m : (ℓ : Loc Cert.DwCkvIdeal.nD Cert.DwCkvIdeal.τ Cert.DwCkvIdeal.sig) → Buf (Elt Ideal) ℓ) : Prop :=
  True

def Pre_DwCkvRefIdeal (m : (ℓ : Loc Cert.DwCkvRefIdeal.nD Cert.DwCkvRefIdeal.τ Cert.DwCkvRefIdeal.sig) → Buf (Elt Ideal) ℓ) : Prop :=
  True

def Pre_Dcqn (m : (ℓ : Loc Cert.Dcqn.nD Cert.Dcqn.τ Cert.Dcqn.sig) → Buf (Elt Bits) ℓ) : Prop :=
  True

def Pre_DcqnIdeal (m : (ℓ : Loc Cert.DcqnIdeal.nD Cert.DcqnIdeal.τ Cert.DcqnIdeal.sig) → Buf (Elt Ideal) ℓ) : Prop :=
  True

def Pre_DcqnRefIdeal (m : (ℓ : Loc Cert.DcqnRefIdeal.nD Cert.DcqnRefIdeal.τ Cert.DcqnRefIdeal.sig) → Buf (Elt Ideal) ℓ) : Prop :=
  True

def Pre_Dwq2 (m : (ℓ : Loc Cert.Dwq2.nD Cert.Dwq2.τ Cert.Dwq2.sig) → Buf (Elt Bits) ℓ) : Prop :=
  True

def Pre_Dwq2Ideal (m : (ℓ : Loc Cert.Dwq2Ideal.nD Cert.Dwq2Ideal.τ Cert.Dwq2Ideal.sig) → Buf (Elt Ideal) ℓ) : Prop :=
  True

def Pre_Dwq2RefIdeal (m : (ℓ : Loc Cert.Dwq2RefIdeal.nD Cert.Dwq2RefIdeal.τ Cert.Dwq2RefIdeal.sig) → Buf (Elt Ideal) ℓ) : Prop :=
  True

def Pre_DckvnK (m : (ℓ : Loc Cert.DckvnK.nD Cert.DckvnK.τ Cert.DckvnK.sig) → Buf (Elt Bits) ℓ) : Prop :=
  True

def Pre_DckvnKIdeal (m : (ℓ : Loc Cert.DckvnKIdeal.nD Cert.DckvnKIdeal.τ Cert.DckvnKIdeal.sig) → Buf (Elt Ideal) ℓ) : Prop :=
  True

def Pre_DckvnKRefIdeal (m : (ℓ : Loc Cert.DckvnKRefIdeal.nD Cert.DckvnKRefIdeal.τ Cert.DckvnKRefIdeal.sig) → Buf (Elt Ideal) ℓ) : Prop :=
  True

def Pre_DckvnV (m : (ℓ : Loc Cert.DckvnV.nD Cert.DckvnV.τ Cert.DckvnV.sig) → Buf (Elt Bits) ℓ) : Prop :=
  True

def Pre_DckvnVIdeal (m : (ℓ : Loc Cert.DckvnVIdeal.nD Cert.DckvnVIdeal.τ Cert.DckvnVIdeal.sig) → Buf (Elt Ideal) ℓ) : Prop :=
  True

def Pre_DckvnVRefIdeal (m : (ℓ : Loc Cert.DckvnVRefIdeal.nD Cert.DckvnVRefIdeal.τ Cert.DckvnVRefIdeal.sig) → Buf (Elt Ideal) ℓ) : Prop :=
  True

def Pre_DhKr (m : (ℓ : Loc Cert.DhKr.nD Cert.DhKr.τ Cert.DhKr.sig) → Buf (Elt Bits) ℓ) : Prop :=
  True

def Pre_DhKrIdeal (m : (ℓ : Loc Cert.DhKrIdeal.nD Cert.DhKrIdeal.τ Cert.DhKrIdeal.sig) → Buf (Elt Ideal) ℓ) : Prop :=
  True

def Pre_DhKrRefIdeal (m : (ℓ : Loc Cert.DhKrRefIdeal.nD Cert.DhKrRefIdeal.τ Cert.DhKrRefIdeal.sig) → Buf (Elt Ideal) ℓ) : Prop :=
  True

def Pre_Dwkn (m : (ℓ : Loc Cert.Dwkn.nD Cert.Dwkn.τ Cert.Dwkn.sig) → Buf (Elt Bits) ℓ) : Prop :=
  True

def Pre_DwknIdeal (m : (ℓ : Loc Cert.DwknIdeal.nD Cert.DwknIdeal.τ Cert.DwknIdeal.sig) → Buf (Elt Ideal) ℓ) : Prop :=
  True

def Pre_DwknRefIdeal (m : (ℓ : Loc Cert.DwknRefIdeal.nD Cert.DwknRefIdeal.τ Cert.DwknRefIdeal.sig) → Buf (Elt Ideal) ℓ) : Prop :=
  True

def Pre_Dwv (m : (ℓ : Loc Cert.Dwv.nD Cert.Dwv.τ Cert.Dwv.sig) → Buf (Elt Bits) ℓ) : Prop :=
  True

def Pre_DwvIdeal (m : (ℓ : Loc Cert.DwvIdeal.nD Cert.DwvIdeal.τ Cert.DwvIdeal.sig) → Buf (Elt Ideal) ℓ) : Prop :=
  True

def Pre_DwvRefIdeal (m : (ℓ : Loc Cert.DwvRefIdeal.nD Cert.DwvRefIdeal.τ Cert.DwvRefIdeal.sig) → Buf (Elt Ideal) ℓ) : Prop :=
  True

def Pre_DwKr (m : (ℓ : Loc Cert.DwKr.nD Cert.DwKr.τ Cert.DwKr.sig) → Buf (Elt Bits) ℓ) : Prop :=
  True

def Pre_DwKrIdeal (m : (ℓ : Loc Cert.DwKrIdeal.nD Cert.DwKrIdeal.τ Cert.DwKrIdeal.sig) → Buf (Elt Ideal) ℓ) : Prop :=
  True

def Pre_DwKrRefIdeal (m : (ℓ : Loc Cert.DwKrRefIdeal.nD Cert.DwKrRefIdeal.τ Cert.DwKrRefIdeal.sig) → Buf (Elt Ideal) ℓ) : Prop :=
  True

def Pre_Delta (m : (ℓ : Loc Cert.Delta.nD Cert.Delta.τ Cert.Delta.sig) → Buf (Elt Bits) ℓ) : Prop :=
  True

def Pre_DeltaIdeal (m : (ℓ : Loc Cert.DeltaIdeal.nD Cert.DeltaIdeal.τ Cert.DeltaIdeal.sig) → Buf (Elt Ideal) ℓ) : Prop :=
  True

def Pre_DeltaRefIdeal (m : (ℓ : Loc Cert.DeltaRefIdeal.nD Cert.DeltaRefIdeal.τ Cert.DeltaRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Fwd [hFwd : Cert.Fwd.Facts] : Prop :=
  ∀ (m : (ℓ : Loc Cert.Fwd.nD Cert.Fwd.τ Cert.Fwd.sig) → Buf (Elt Bits) ℓ) (g : Dev Cert.Fwd.nD → PrngReg), Pre_Fwd m →
    θ_run (Cert.Fwd.defs (F := Bits)) (onTc (τ := Cert.Fwd.τ) (Cert.Fwd.main (F := Bits))) ⟨m, fun _ => 0, g⟩ (fun r => (∀ c : Dev Cert.Fwd.nD,
      r.2.mem ((c.tc : Thread Cert.Fwd.nD Cert.Fwd.τ).loc Cert.Fwd.main_arg0) = m ((c.tc : Thread Cert.Fwd.nD Cert.Fwd.τ).loc Cert.Fwd.main_arg0)
      ∧ r.2.mem ((c.tc : Thread Cert.Fwd.nD Cert.Fwd.τ).loc Cert.Fwd.main_arg1) = m ((c.tc : Thread Cert.Fwd.nD Cert.Fwd.τ).loc Cert.Fwd.main_arg1)
      ∧ r.2.mem ((c.tc : Thread Cert.Fwd.nD Cert.Fwd.τ).loc Cert.Fwd.main_arg2) = m ((c.tc : Thread Cert.Fwd.nD Cert.Fwd.τ).loc Cert.Fwd.main_arg2))
      ∧ r.2.sem = fun _ => 0)

def quiescent_FwdIdeal [hFwdIdeal : Cert.FwdIdeal.Facts] : Prop :=
  ∀ (m : (ℓ : Loc Cert.FwdIdeal.nD Cert.FwdIdeal.τ Cert.FwdIdeal.sig) → Buf (Elt Ideal) ℓ) (g : Dev Cert.FwdIdeal.nD → PrngReg), Pre_FwdIdeal m →
    θ_run (Cert.FwdIdeal.defs (F := Ideal)) (onTc (τ := Cert.FwdIdeal.τ) (Cert.FwdIdeal.main (F := Ideal))) ⟨m, fun _ => 0, g⟩ (fun r => (∀ c : Dev Cert.FwdIdeal.nD,
      r.2.mem ((c.tc : Thread Cert.FwdIdeal.nD Cert.FwdIdeal.τ).loc Cert.FwdIdeal.main_arg0) = m ((c.tc : Thread Cert.FwdIdeal.nD Cert.FwdIdeal.τ).loc Cert.FwdIdeal.main_arg0)
      ∧ r.2.mem ((c.tc : Thread Cert.FwdIdeal.nD Cert.FwdIdeal.τ).loc Cert.FwdIdeal.main_arg1) = m ((c.tc : Thread Cert.FwdIdeal.nD Cert.FwdIdeal.τ).loc Cert.FwdIdeal.main_arg1)
      ∧ r.2.mem ((c.tc : Thread Cert.FwdIdeal.nD Cert.FwdIdeal.τ).loc Cert.FwdIdeal.main_arg2) = m ((c.tc : Thread Cert.FwdIdeal.nD Cert.FwdIdeal.τ).loc Cert.FwdIdeal.main_arg2))
      ∧ r.2.sem = fun _ => 0)

def quiescent_FwdIdeal_pre_finite_fwd [hFwdIdeal : Cert.FwdIdeal.Facts] [hPre_finite_fwd : Cert.Pre_finite_fwd.Facts] : Prop :=
  ∀ (m : (ℓ : Loc Cert.FwdIdeal.nD Cert.FwdIdeal.τ Cert.FwdIdeal.sig) → Buf (Elt Ideal) ℓ) (g : Dev Cert.FwdIdeal.nD → PrngReg), Pre_FwdIdeal_finite_fwd m →
    θ_run (Cert.FwdIdeal.defs (F := Ideal)) (onTc (τ := Cert.FwdIdeal.τ) (Cert.FwdIdeal.main (F := Ideal))) ⟨m, fun _ => 0, g⟩ (fun r => (∀ c : Dev Cert.FwdIdeal.nD,
      r.2.mem ((c.tc : Thread Cert.FwdIdeal.nD Cert.FwdIdeal.τ).loc Cert.FwdIdeal.main_arg0) = m ((c.tc : Thread Cert.FwdIdeal.nD Cert.FwdIdeal.τ).loc Cert.FwdIdeal.main_arg0)
      ∧ r.2.mem ((c.tc : Thread Cert.FwdIdeal.nD Cert.FwdIdeal.τ).loc Cert.FwdIdeal.main_arg1) = m ((c.tc : Thread Cert.FwdIdeal.nD Cert.FwdIdeal.τ).loc Cert.FwdIdeal.main_arg1)
      ∧ r.2.mem ((c.tc : Thread Cert.FwdIdeal.nD Cert.FwdIdeal.τ).loc Cert.FwdIdeal.main_arg2) = m ((c.tc : Thread Cert.FwdIdeal.nD Cert.FwdIdeal.τ).loc Cert.FwdIdeal.main_arg2))
      ∧ r.2.sem = fun _ => 0)

def quiescent_FwdRefIdeal [hFwdRefIdeal : Cert.FwdRefIdeal.Facts] : Prop :=
  ∀ (m : (ℓ : Loc Cert.FwdRefIdeal.nD Cert.FwdRefIdeal.τ Cert.FwdRefIdeal.sig) → Buf (Elt Ideal) ℓ) (g : Dev Cert.FwdRefIdeal.nD → PrngReg), Pre_FwdRefIdeal m →
    θ_run (Cert.FwdRefIdeal.defs (F := Ideal)) (onTc (τ := Cert.FwdRefIdeal.τ) (Cert.FwdRefIdeal.main (F := Ideal))) ⟨m, fun _ => 0, g⟩ (fun r => (∀ c : Dev Cert.FwdRefIdeal.nD,
      r.2.mem ((c.tc : Thread Cert.FwdRefIdeal.nD Cert.FwdRefIdeal.τ).loc Cert.FwdRefIdeal.main_arg0) = m ((c.tc : Thread Cert.FwdRefIdeal.nD Cert.FwdRefIdeal.τ).loc Cert.FwdRefIdeal.main_arg0)
      ∧ r.2.mem ((c.tc : Thread Cert.FwdRefIdeal.nD Cert.FwdRefIdeal.τ).loc Cert.FwdRefIdeal.main_arg1) = m ((c.tc : Thread Cert.FwdRefIdeal.nD Cert.FwdRefIdeal.τ).loc Cert.FwdRefIdeal.main_arg1)
      ∧ r.2.mem ((c.tc : Thread Cert.FwdRefIdeal.nD Cert.FwdRefIdeal.τ).loc Cert.FwdRefIdeal.main_arg2) = m ((c.tc : Thread Cert.FwdRefIdeal.nD Cert.FwdRefIdeal.τ).loc Cert.FwdRefIdeal.main_arg2))
      ∧ r.2.sem = fun _ => 0)

def quiescent_FwdRefIdeal_pre_finite_fwd [hFwdRefIdeal : Cert.FwdRefIdeal.Facts] [hPre_finite_fwd : Cert.Pre_finite_fwd.Facts] : Prop :=
  ∀ (m : (ℓ : Loc Cert.FwdRefIdeal.nD Cert.FwdRefIdeal.τ Cert.FwdRefIdeal.sig) → Buf (Elt Ideal) ℓ) (g : Dev Cert.FwdRefIdeal.nD → PrngReg), Pre_FwdRefIdeal_finite_fwd m →
    θ_run (Cert.FwdRefIdeal.defs (F := Ideal)) (onTc (τ := Cert.FwdRefIdeal.τ) (Cert.FwdRefIdeal.main (F := Ideal))) ⟨m, fun _ => 0, g⟩ (fun r => (∀ c : Dev Cert.FwdRefIdeal.nD,
      r.2.mem ((c.tc : Thread Cert.FwdRefIdeal.nD Cert.FwdRefIdeal.τ).loc Cert.FwdRefIdeal.main_arg0) = m ((c.tc : Thread Cert.FwdRefIdeal.nD Cert.FwdRefIdeal.τ).loc Cert.FwdRefIdeal.main_arg0)
      ∧ r.2.mem ((c.tc : Thread Cert.FwdRefIdeal.nD Cert.FwdRefIdeal.τ).loc Cert.FwdRefIdeal.main_arg1) = m ((c.tc : Thread Cert.FwdRefIdeal.nD Cert.FwdRefIdeal.τ).loc Cert.FwdRefIdeal.main_arg1)
      ∧ r.2.mem ((c.tc : Thread Cert.FwdRefIdeal.nD Cert.FwdRefIdeal.τ).loc Cert.FwdRefIdeal.main_arg2) = m ((c.tc : Thread Cert.FwdRefIdeal.nD Cert.FwdRefIdeal.τ).loc Cert.FwdRefIdeal.main_arg2))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1)
      ∧ r.2.mem ((c.tc : Thread Cert.Up.nD Cert.Up.τ).loc Cert.Up.main_arg2) = m ((c.tc : Thread Cert.Up.nD Cert.Up.τ).loc Cert.Up.main_arg2))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
      ∧ r.2.mem ((c.tc : Thread Cert.UpIdeal.nD Cert.UpIdeal.τ).loc Cert.UpIdeal.main_arg2) = m ((c.tc : Thread Cert.UpIdeal.nD Cert.UpIdeal.τ).loc Cert.UpIdeal.main_arg2))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1)
      ∧ r.2.mem ((c.tc : Thread Cert.UpRefIdeal.nD Cert.UpRefIdeal.τ).loc Cert.UpRefIdeal.main_arg2) = m ((c.tc : Thread Cert.UpRefIdeal.nD Cert.UpRefIdeal.τ).loc Cert.UpRefIdeal.main_arg2))
      ∧ r.2.sem = fun _ => 0)

def quiescent_Dh [hDh : Cert.Dh.Facts] : Prop :=
  ∀ (m : (ℓ : Loc Cert.Dh.nD Cert.Dh.τ Cert.Dh.sig) → Buf (Elt Bits) ℓ) (g : Dev Cert.Dh.nD → PrngReg), Pre_Dh m →
    θ_run (Cert.Dh.defs (F := Bits)) (onTc (τ := Cert.Dh.τ) (Cert.Dh.main (F := Bits))) ⟨m, fun _ => 0, g⟩ (fun r => (∀ c : Dev Cert.Dh.nD,
      r.2.mem ((c.tc : Thread Cert.Dh.nD Cert.Dh.τ).loc Cert.Dh.main_arg0) = m ((c.tc : Thread Cert.Dh.nD Cert.Dh.τ).loc Cert.Dh.main_arg0)
      ∧ r.2.mem ((c.tc : Thread Cert.Dh.nD Cert.Dh.τ).loc Cert.Dh.main_arg1) = m ((c.tc : Thread Cert.Dh.nD Cert.Dh.τ).loc Cert.Dh.main_arg1)
      ∧ r.2.mem ((c.tc : Thread Cert.Dh.nD Cert.Dh.τ).loc Cert.Dh.main_arg2) = m ((c.tc : Thread Cert.Dh.nD Cert.Dh.τ).loc Cert.Dh.main_arg2)
      ∧ r.2.mem ((c.tc : Thread Cert.Dh.nD Cert.Dh.τ).loc Cert.Dh.main_arg3) = m ((c.tc : Thread Cert.Dh.nD Cert.Dh.τ).loc Cert.Dh.main_arg3)
      ∧ r.2.mem ((c.tc : Thread Cert.Dh.nD Cert.Dh.τ).loc Cert.Dh.main_arg4) = m ((c.tc : Thread Cert.Dh.nD Cert.Dh.τ).loc Cert.Dh.main_arg4))
      ∧ r.2.sem = fun _ => 0)

def quiescent_DhIdeal [hDhIdeal : Cert.DhIdeal.Facts] : Prop :=
  ∀ (m : (ℓ : Loc Cert.DhIdeal.nD Cert.DhIdeal.τ Cert.DhIdeal.sig) → Buf (Elt Ideal) ℓ) (g : Dev Cert.DhIdeal.nD → PrngReg), Pre_DhIdeal m →
    θ_run (Cert.DhIdeal.defs (F := Ideal)) (onTc (τ := Cert.DhIdeal.τ) (Cert.DhIdeal.main (F := Ideal))) ⟨m, fun _ => 0, g⟩ (fun r => (∀ c : Dev Cert.DhIdeal.nD,
      r.2.mem ((c.tc : Thread Cert.DhIdeal.nD Cert.DhIdeal.τ).loc Cert.DhIdeal.main_arg0) = m ((c.tc : Thread Cert.DhIdeal.nD Cert.DhIdeal.τ).loc Cert.DhIdeal.main_arg0)
      ∧ r.2.mem ((c.tc : Thread Cert.DhIdeal.nD Cert.DhIdeal.τ).loc Cert.DhIdeal.main_arg1) = m ((c.tc : Thread Cert.DhIdeal.nD Cert.DhIdeal.τ).loc Cert.DhIdeal.main_arg1)
      ∧ r.2.mem ((c.tc : Thread Cert.DhIdeal.nD Cert.DhIdeal.τ).loc Cert.DhIdeal.main_arg2) = m ((c.tc : Thread Cert.DhIdeal.nD Cert.DhIdeal.τ).loc Cert.DhIdeal.main_arg2)
      ∧ r.2.mem ((c.tc : Thread Cert.DhIdeal.nD Cert.DhIdeal.τ).loc Cert.DhIdeal.main_arg3) = m ((c.tc : Thread Cert.DhIdeal.nD Cert.DhIdeal.τ).loc Cert.DhIdeal.main_arg3)
      ∧ r.2.mem ((c.tc : Thread Cert.DhIdeal.nD Cert.DhIdeal.τ).loc Cert.DhIdeal.main_arg4) = m ((c.tc : Thread Cert.DhIdeal.nD Cert.DhIdeal.τ).loc Cert.DhIdeal.main_arg4))
      ∧ r.2.sem = fun _ => 0)

def quiescent_DhIdeal_pre_finite_dh [hDhIdeal : Cert.DhIdeal.Facts] [hPre_finite_dh : Cert.Pre_finite_dh.Facts] : Prop :=
  ∀ (m : (ℓ : Loc Cert.DhIdeal.nD Cert.DhIdeal.τ Cert.DhIdeal.sig) → Buf (Elt Ideal) ℓ) (g : Dev Cert.DhIdeal.nD → PrngReg), Pre_DhIdeal_finite_dh m →
    θ_run (Cert.DhIdeal.defs (F := Ideal)) (onTc (τ := Cert.DhIdeal.τ) (Cert.DhIdeal.main (F := Ideal))) ⟨m, fun _ => 0, g⟩ (fun r => (∀ c : Dev Cert.DhIdeal.nD,
      r.2.mem ((c.tc : Thread Cert.DhIdeal.nD Cert.DhIdeal.τ).loc Cert.DhIdeal.main_arg0) = m ((c.tc : Thread Cert.DhIdeal.nD Cert.DhIdeal.τ).loc Cert.DhIdeal.main_arg0)
      ∧ r.2.mem ((c.tc : Thread Cert.DhIdeal.nD Cert.DhIdeal.τ).loc Cert.DhIdeal.main_arg1) = m ((c.tc : Thread Cert.DhIdeal.nD Cert.DhIdeal.τ).loc Cert.DhIdeal.main_arg1)
      ∧ r.2.mem ((c.tc : Thread Cert.DhIdeal.nD Cert.DhIdeal.τ).loc Cert.DhIdeal.main_arg2) = m ((c.tc : Thread Cert.DhIdeal.nD Cert.DhIdeal.τ).loc Cert.DhIdeal.main_arg2)
      ∧ r.2.mem ((c.tc : Thread Cert.DhIdeal.nD Cert.DhIdeal.τ).loc Cert.DhIdeal.main_arg3) = m ((c.tc : Thread Cert.DhIdeal.nD Cert.DhIdeal.τ).loc Cert.DhIdeal.main_arg3)
      ∧ r.2.mem ((c.tc : Thread Cert.DhIdeal.nD Cert.DhIdeal.τ).loc Cert.DhIdeal.main_arg4) = m ((c.tc : Thread Cert.DhIdeal.nD Cert.DhIdeal.τ).loc Cert.DhIdeal.main_arg4))
      ∧ r.2.sem = fun _ => 0)

def quiescent_DhRefIdeal [hDhRefIdeal : Cert.DhRefIdeal.Facts] : Prop :=
  ∀ (m : (ℓ : Loc Cert.DhRefIdeal.nD Cert.DhRefIdeal.τ Cert.DhRefIdeal.sig) → Buf (Elt Ideal) ℓ) (g : Dev Cert.DhRefIdeal.nD → PrngReg), Pre_DhRefIdeal m →
    θ_run (Cert.DhRefIdeal.defs (F := Ideal)) (onTc (τ := Cert.DhRefIdeal.τ) (Cert.DhRefIdeal.main (F := Ideal))) ⟨m, fun _ => 0, g⟩ (fun r => (∀ c : Dev Cert.DhRefIdeal.nD,
      r.2.mem ((c.tc : Thread Cert.DhRefIdeal.nD Cert.DhRefIdeal.τ).loc Cert.DhRefIdeal.main_arg0) = m ((c.tc : Thread Cert.DhRefIdeal.nD Cert.DhRefIdeal.τ).loc Cert.DhRefIdeal.main_arg0)
      ∧ r.2.mem ((c.tc : Thread Cert.DhRefIdeal.nD Cert.DhRefIdeal.τ).loc Cert.DhRefIdeal.main_arg1) = m ((c.tc : Thread Cert.DhRefIdeal.nD Cert.DhRefIdeal.τ).loc Cert.DhRefIdeal.main_arg1)
      ∧ r.2.mem ((c.tc : Thread Cert.DhRefIdeal.nD Cert.DhRefIdeal.τ).loc Cert.DhRefIdeal.main_arg2) = m ((c.tc : Thread Cert.DhRefIdeal.nD Cert.DhRefIdeal.τ).loc Cert.DhRefIdeal.main_arg2)
      ∧ r.2.mem ((c.tc : Thread Cert.DhRefIdeal.nD Cert.DhRefIdeal.τ).loc Cert.DhRefIdeal.main_arg3) = m ((c.tc : Thread Cert.DhRefIdeal.nD Cert.DhRefIdeal.τ).loc Cert.DhRefIdeal.main_arg3)
      ∧ r.2.mem ((c.tc : Thread Cert.DhRefIdeal.nD Cert.DhRefIdeal.τ).loc Cert.DhRefIdeal.main_arg4) = m ((c.tc : Thread Cert.DhRefIdeal.nD Cert.DhRefIdeal.τ).loc Cert.DhRefIdeal.main_arg4))
      ∧ r.2.sem = fun _ => 0)

def quiescent_DhRefIdeal_pre_finite_dh [hDhRefIdeal : Cert.DhRefIdeal.Facts] [hPre_finite_dh : Cert.Pre_finite_dh.Facts] : Prop :=
  ∀ (m : (ℓ : Loc Cert.DhRefIdeal.nD Cert.DhRefIdeal.τ Cert.DhRefIdeal.sig) → Buf (Elt Ideal) ℓ) (g : Dev Cert.DhRefIdeal.nD → PrngReg), Pre_DhRefIdeal_finite_dh m →
    θ_run (Cert.DhRefIdeal.defs (F := Ideal)) (onTc (τ := Cert.DhRefIdeal.τ) (Cert.DhRefIdeal.main (F := Ideal))) ⟨m, fun _ => 0, g⟩ (fun r => (∀ c : Dev Cert.DhRefIdeal.nD,
      r.2.mem ((c.tc : Thread Cert.DhRefIdeal.nD Cert.DhRefIdeal.τ).loc Cert.DhRefIdeal.main_arg0) = m ((c.tc : Thread Cert.DhRefIdeal.nD Cert.DhRefIdeal.τ).loc Cert.DhRefIdeal.main_arg0)
      ∧ r.2.mem ((c.tc : Thread Cert.DhRefIdeal.nD Cert.DhRefIdeal.τ).loc Cert.DhRefIdeal.main_arg1) = m ((c.tc : Thread Cert.DhRefIdeal.nD Cert.DhRefIdeal.τ).loc Cert.DhRefIdeal.main_arg1)
      ∧ r.2.mem ((c.tc : Thread Cert.DhRefIdeal.nD Cert.DhRefIdeal.τ).loc Cert.DhRefIdeal.main_arg2) = m ((c.tc : Thread Cert.DhRefIdeal.nD Cert.DhRefIdeal.τ).loc Cert.DhRefIdeal.main_arg2)
      ∧ r.2.mem ((c.tc : Thread Cert.DhRefIdeal.nD Cert.DhRefIdeal.τ).loc Cert.DhRefIdeal.main_arg3) = m ((c.tc : Thread Cert.DhRefIdeal.nD Cert.DhRefIdeal.τ).loc Cert.DhRefIdeal.main_arg3)
      ∧ r.2.mem ((c.tc : Thread Cert.DhRefIdeal.nD Cert.DhRefIdeal.τ).loc Cert.DhRefIdeal.main_arg4) = m ((c.tc : Thread Cert.DhRefIdeal.nD Cert.DhRefIdeal.τ).loc Cert.DhRefIdeal.main_arg4))
      ∧ r.2.sem = fun _ => 0)

def quiescent_Dw [hDw : Cert.Dw.Facts] : Prop :=
  ∀ (m : (ℓ : Loc Cert.Dw.nD Cert.Dw.τ Cert.Dw.sig) → Buf (Elt Bits) ℓ) (g : Dev Cert.Dw.nD → PrngReg), Pre_Dw m →
    θ_run (Cert.Dw.defs (F := Bits)) (onTc (τ := Cert.Dw.τ) (Cert.Dw.main (F := Bits))) ⟨m, fun _ => 0, g⟩ (fun r => (∀ c : Dev Cert.Dw.nD,
      r.2.mem ((c.tc : Thread Cert.Dw.nD Cert.Dw.τ).loc Cert.Dw.main_arg0) = m ((c.tc : Thread Cert.Dw.nD Cert.Dw.τ).loc Cert.Dw.main_arg0)
      ∧ r.2.mem ((c.tc : Thread Cert.Dw.nD Cert.Dw.τ).loc Cert.Dw.main_arg1) = m ((c.tc : Thread Cert.Dw.nD Cert.Dw.τ).loc Cert.Dw.main_arg1))
      ∧ r.2.sem = fun _ => 0)

def quiescent_DwIdeal [hDwIdeal : Cert.DwIdeal.Facts] : Prop :=
  ∀ (m : (ℓ : Loc Cert.DwIdeal.nD Cert.DwIdeal.τ Cert.DwIdeal.sig) → Buf (Elt Ideal) ℓ) (g : Dev Cert.DwIdeal.nD → PrngReg), Pre_DwIdeal m →
    θ_run (Cert.DwIdeal.defs (F := Ideal)) (onTc (τ := Cert.DwIdeal.τ) (Cert.DwIdeal.main (F := Ideal))) ⟨m, fun _ => 0, g⟩ (fun r => (∀ c : Dev Cert.DwIdeal.nD,
      r.2.mem ((c.tc : Thread Cert.DwIdeal.nD Cert.DwIdeal.τ).loc Cert.DwIdeal.main_arg0) = m ((c.tc : Thread Cert.DwIdeal.nD Cert.DwIdeal.τ).loc Cert.DwIdeal.main_arg0)
      ∧ r.2.mem ((c.tc : Thread Cert.DwIdeal.nD Cert.DwIdeal.τ).loc Cert.DwIdeal.main_arg1) = m ((c.tc : Thread Cert.DwIdeal.nD Cert.DwIdeal.τ).loc Cert.DwIdeal.main_arg1))
      ∧ r.2.sem = fun _ => 0)

def quiescent_DwRefIdeal [hDwRefIdeal : Cert.DwRefIdeal.Facts] : Prop :=
  ∀ (m : (ℓ : Loc Cert.DwRefIdeal.nD Cert.DwRefIdeal.τ Cert.DwRefIdeal.sig) → Buf (Elt Ideal) ℓ) (g : Dev Cert.DwRefIdeal.nD → PrngReg), Pre_DwRefIdeal m →
    θ_run (Cert.DwRefIdeal.defs (F := Ideal)) (onTc (τ := Cert.DwRefIdeal.τ) (Cert.DwRefIdeal.main (F := Ideal))) ⟨m, fun _ => 0, g⟩ (fun r => (∀ c : Dev Cert.DwRefIdeal.nD,
      r.2.mem ((c.tc : Thread Cert.DwRefIdeal.nD Cert.DwRefIdeal.τ).loc Cert.DwRefIdeal.main_arg0) = m ((c.tc : Thread Cert.DwRefIdeal.nD Cert.DwRefIdeal.τ).loc Cert.DwRefIdeal.main_arg0)
      ∧ r.2.mem ((c.tc : Thread Cert.DwRefIdeal.nD Cert.DwRefIdeal.τ).loc Cert.DwRefIdeal.main_arg1) = m ((c.tc : Thread Cert.DwRefIdeal.nD Cert.DwRefIdeal.τ).loc Cert.DwRefIdeal.main_arg1))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2))
      ∧ r.2.sem = fun _ => 0)

def quiescent_Dw2 [hDw2 : Cert.Dw2.Facts] : Prop :=
  ∀ (m : (ℓ : Loc Cert.Dw2.nD Cert.Dw2.τ Cert.Dw2.sig) → Buf (Elt Bits) ℓ) (g : Dev Cert.Dw2.nD → PrngReg), Pre_Dw2 m →
    θ_run (Cert.Dw2.defs (F := Bits)) (onTc (τ := Cert.Dw2.τ) (Cert.Dw2.main (F := Bits))) ⟨m, fun _ => 0, g⟩ (fun r => (∀ c : Dev Cert.Dw2.nD,
      r.2.mem ((c.tc : Thread Cert.Dw2.nD Cert.Dw2.τ).loc Cert.Dw2.main_arg0) = m ((c.tc : Thread Cert.Dw2.nD Cert.Dw2.τ).loc Cert.Dw2.main_arg0)
      ∧ r.2.mem ((c.tc : Thread Cert.Dw2.nD Cert.Dw2.τ).loc Cert.Dw2.main_arg1) = m ((c.tc : Thread Cert.Dw2.nD Cert.Dw2.τ).loc Cert.Dw2.main_arg1))
      ∧ r.2.sem = fun _ => 0)

def quiescent_Dw2Ideal [hDw2Ideal : Cert.Dw2Ideal.Facts] : Prop :=
  ∀ (m : (ℓ : Loc Cert.Dw2Ideal.nD Cert.Dw2Ideal.τ Cert.Dw2Ideal.sig) → Buf (Elt Ideal) ℓ) (g : Dev Cert.Dw2Ideal.nD → PrngReg), Pre_Dw2Ideal m →
    θ_run (Cert.Dw2Ideal.defs (F := Ideal)) (onTc (τ := Cert.Dw2Ideal.τ) (Cert.Dw2Ideal.main (F := Ideal))) ⟨m, fun _ => 0, g⟩ (fun r => (∀ c : Dev Cert.Dw2Ideal.nD,
      r.2.mem ((c.tc : Thread Cert.Dw2Ideal.nD Cert.Dw2Ideal.τ).loc Cert.Dw2Ideal.main_arg0) = m ((c.tc : Thread Cert.Dw2Ideal.nD Cert.Dw2Ideal.τ).loc Cert.Dw2Ideal.main_arg0)
      ∧ r.2.mem ((c.tc : Thread Cert.Dw2Ideal.nD Cert.Dw2Ideal.τ).loc Cert.Dw2Ideal.main_arg1) = m ((c.tc : Thread Cert.Dw2Ideal.nD Cert.Dw2Ideal.τ).loc Cert.Dw2Ideal.main_arg1))
      ∧ r.2.sem = fun _ => 0)

def quiescent_Dw2RefIdeal [hDw2RefIdeal : Cert.Dw2RefIdeal.Facts] : Prop :=
  ∀ (m : (ℓ : Loc Cert.Dw2RefIdeal.nD Cert.Dw2RefIdeal.τ Cert.Dw2RefIdeal.sig) → Buf (Elt Ideal) ℓ) (g : Dev Cert.Dw2RefIdeal.nD → PrngReg), Pre_Dw2RefIdeal m →
    θ_run (Cert.Dw2RefIdeal.defs (F := Ideal)) (onTc (τ := Cert.Dw2RefIdeal.τ) (Cert.Dw2RefIdeal.main (F := Ideal))) ⟨m, fun _ => 0, g⟩ (fun r => (∀ c : Dev Cert.Dw2RefIdeal.nD,
      r.2.mem ((c.tc : Thread Cert.Dw2RefIdeal.nD Cert.Dw2RefIdeal.τ).loc Cert.Dw2RefIdeal.main_arg0) = m ((c.tc : Thread Cert.Dw2RefIdeal.nD Cert.Dw2RefIdeal.τ).loc Cert.Dw2RefIdeal.main_arg0)
      ∧ r.2.mem ((c.tc : Thread Cert.Dw2RefIdeal.nD Cert.Dw2RefIdeal.τ).loc Cert.Dw2RefIdeal.main_arg1) = m ((c.tc : Thread Cert.Dw2RefIdeal.nD Cert.Dw2RefIdeal.τ).loc Cert.Dw2RefIdeal.main_arg1))
      ∧ r.2.sem = fun _ => 0)

def quiescent_InB [hInB : Cert.InB.Facts] : Prop :=
  ∀ (m : (ℓ : Loc Cert.InB.nD Cert.InB.τ Cert.InB.sig) → Buf (Elt Bits) ℓ) (g : Dev Cert.InB.nD → PrngReg), Pre_InB m →
    θ_run (Cert.InB.defs (F := Bits)) (onTc (τ := Cert.InB.τ) (Cert.InB.main (F := Bits))) ⟨m, fun _ => 0, g⟩ (fun r => (∀ c : Dev Cert.InB.nD,
      r.2.mem ((c.tc : Thread Cert.InB.nD Cert.InB.τ).loc Cert.InB.main_arg0) = m ((c.tc : Thread Cert.InB.nD Cert.InB.τ).loc Cert.InB.main_arg0)
      ∧ r.2.mem ((c.tc : Thread Cert.InB.nD Cert.InB.τ).loc Cert.InB.main_arg1) = m ((c.tc : Thread Cert.InB.nD Cert.InB.τ).loc Cert.InB.main_arg1))
      ∧ r.2.sem = fun _ => 0)

def quiescent_InBIdeal [hInBIdeal : Cert.InBIdeal.Facts] : Prop :=
  ∀ (m : (ℓ : Loc Cert.InBIdeal.nD Cert.InBIdeal.τ Cert.InBIdeal.sig) → Buf (Elt Ideal) ℓ) (g : Dev Cert.InBIdeal.nD → PrngReg), Pre_InBIdeal m →
    θ_run (Cert.InBIdeal.defs (F := Ideal)) (onTc (τ := Cert.InBIdeal.τ) (Cert.InBIdeal.main (F := Ideal))) ⟨m, fun _ => 0, g⟩ (fun r => (∀ c : Dev Cert.InBIdeal.nD,
      r.2.mem ((c.tc : Thread Cert.InBIdeal.nD Cert.InBIdeal.τ).loc Cert.InBIdeal.main_arg0) = m ((c.tc : Thread Cert.InBIdeal.nD Cert.InBIdeal.τ).loc Cert.InBIdeal.main_arg0)
      ∧ r.2.mem ((c.tc : Thread Cert.InBIdeal.nD Cert.InBIdeal.τ).loc Cert.InBIdeal.main_arg1) = m ((c.tc : Thread Cert.InBIdeal.nD Cert.InBIdeal.τ).loc Cert.InBIdeal.main_arg1))
      ∧ r.2.sem = fun _ => 0)

def quiescent_InBRefIdeal [hInBRefIdeal : Cert.InBRefIdeal.Facts] : Prop :=
  ∀ (m : (ℓ : Loc Cert.InBRefIdeal.nD Cert.InBRefIdeal.τ Cert.InBRefIdeal.sig) → Buf (Elt Ideal) ℓ) (g : Dev Cert.InBRefIdeal.nD → PrngReg), Pre_InBRefIdeal m →
    θ_run (Cert.InBRefIdeal.defs (F := Ideal)) (onTc (τ := Cert.InBRefIdeal.τ) (Cert.InBRefIdeal.main (F := Ideal))) ⟨m, fun _ => 0, g⟩ (fun r => (∀ c : Dev Cert.InBRefIdeal.nD,
      r.2.mem ((c.tc : Thread Cert.InBRefIdeal.nD Cert.InBRefIdeal.τ).loc Cert.InBRefIdeal.main_arg0) = m ((c.tc : Thread Cert.InBRefIdeal.nD Cert.InBRefIdeal.τ).loc Cert.InBRefIdeal.main_arg0)
      ∧ r.2.mem ((c.tc : Thread Cert.InBRefIdeal.nD Cert.InBRefIdeal.τ).loc Cert.InBRefIdeal.main_arg1) = m ((c.tc : Thread Cert.InBRefIdeal.nD Cert.InBRefIdeal.τ).loc Cert.InBRefIdeal.main_arg1))
      ∧ r.2.sem = fun _ => 0)

def quiescent_DhB [hDhB : Cert.DhB.Facts] : Prop :=
  ∀ (m : (ℓ : Loc Cert.DhB.nD Cert.DhB.τ Cert.DhB.sig) → Buf (Elt Bits) ℓ) (g : Dev Cert.DhB.nD → PrngReg), Pre_DhB m →
    θ_run (Cert.DhB.defs (F := Bits)) (onTc (τ := Cert.DhB.τ) (Cert.DhB.main (F := Bits))) ⟨m, fun _ => 0, g⟩ (fun r => (∀ c : Dev Cert.DhB.nD,
      r.2.mem ((c.tc : Thread Cert.DhB.nD Cert.DhB.τ).loc Cert.DhB.main_arg0) = m ((c.tc : Thread Cert.DhB.nD Cert.DhB.τ).loc Cert.DhB.main_arg0)
      ∧ r.2.mem ((c.tc : Thread Cert.DhB.nD Cert.DhB.τ).loc Cert.DhB.main_arg1) = m ((c.tc : Thread Cert.DhB.nD Cert.DhB.τ).loc Cert.DhB.main_arg1)
      ∧ r.2.mem ((c.tc : Thread Cert.DhB.nD Cert.DhB.τ).loc Cert.DhB.main_arg2) = m ((c.tc : Thread Cert.DhB.nD Cert.DhB.τ).loc Cert.DhB.main_arg2))
      ∧ r.2.sem = fun _ => 0)

def quiescent_DhBIdeal [hDhBIdeal : Cert.DhBIdeal.Facts] : Prop :=
  ∀ (m : (ℓ : Loc Cert.DhBIdeal.nD Cert.DhBIdeal.τ Cert.DhBIdeal.sig) → Buf (Elt Ideal) ℓ) (g : Dev Cert.DhBIdeal.nD → PrngReg), Pre_DhBIdeal m →
    θ_run (Cert.DhBIdeal.defs (F := Ideal)) (onTc (τ := Cert.DhBIdeal.τ) (Cert.DhBIdeal.main (F := Ideal))) ⟨m, fun _ => 0, g⟩ (fun r => (∀ c : Dev Cert.DhBIdeal.nD,
      r.2.mem ((c.tc : Thread Cert.DhBIdeal.nD Cert.DhBIdeal.τ).loc Cert.DhBIdeal.main_arg0) = m ((c.tc : Thread Cert.DhBIdeal.nD Cert.DhBIdeal.τ).loc Cert.DhBIdeal.main_arg0)
      ∧ r.2.mem ((c.tc : Thread Cert.DhBIdeal.nD Cert.DhBIdeal.τ).loc Cert.DhBIdeal.main_arg1) = m ((c.tc : Thread Cert.DhBIdeal.nD Cert.DhBIdeal.τ).loc Cert.DhBIdeal.main_arg1)
      ∧ r.2.mem ((c.tc : Thread Cert.DhBIdeal.nD Cert.DhBIdeal.τ).loc Cert.DhBIdeal.main_arg2) = m ((c.tc : Thread Cert.DhBIdeal.nD Cert.DhBIdeal.τ).loc Cert.DhBIdeal.main_arg2))
      ∧ r.2.sem = fun _ => 0)

def quiescent_DhBRefIdeal [hDhBRefIdeal : Cert.DhBRefIdeal.Facts] : Prop :=
  ∀ (m : (ℓ : Loc Cert.DhBRefIdeal.nD Cert.DhBRefIdeal.τ Cert.DhBRefIdeal.sig) → Buf (Elt Ideal) ℓ) (g : Dev Cert.DhBRefIdeal.nD → PrngReg), Pre_DhBRefIdeal m →
    θ_run (Cert.DhBRefIdeal.defs (F := Ideal)) (onTc (τ := Cert.DhBRefIdeal.τ) (Cert.DhBRefIdeal.main (F := Ideal))) ⟨m, fun _ => 0, g⟩ (fun r => (∀ c : Dev Cert.DhBRefIdeal.nD,
      r.2.mem ((c.tc : Thread Cert.DhBRefIdeal.nD Cert.DhBRefIdeal.τ).loc Cert.DhBRefIdeal.main_arg0) = m ((c.tc : Thread Cert.DhBRefIdeal.nD Cert.DhBRefIdeal.τ).loc Cert.DhBRefIdeal.main_arg0)
      ∧ r.2.mem ((c.tc : Thread Cert.DhBRefIdeal.nD Cert.DhBRefIdeal.τ).loc Cert.DhBRefIdeal.main_arg1) = m ((c.tc : Thread Cert.DhBRefIdeal.nD Cert.DhBRefIdeal.τ).loc Cert.DhBRefIdeal.main_arg1)
      ∧ r.2.mem ((c.tc : Thread Cert.DhBRefIdeal.nD Cert.DhBRefIdeal.τ).loc Cert.DhBRefIdeal.main_arg2) = m ((c.tc : Thread Cert.DhBRefIdeal.nD Cert.DhBRefIdeal.τ).loc Cert.DhBRefIdeal.main_arg2))
      ∧ r.2.sem = fun _ => 0)

def quiescent_DwB [hDwB : Cert.DwB.Facts] : Prop :=
  ∀ (m : (ℓ : Loc Cert.DwB.nD Cert.DwB.τ Cert.DwB.sig) → Buf (Elt Bits) ℓ) (g : Dev Cert.DwB.nD → PrngReg), Pre_DwB m →
    θ_run (Cert.DwB.defs (F := Bits)) (onTc (τ := Cert.DwB.τ) (Cert.DwB.main (F := Bits))) ⟨m, fun _ => 0, g⟩ (fun r => (∀ c : Dev Cert.DwB.nD,
      r.2.mem ((c.tc : Thread Cert.DwB.nD Cert.DwB.τ).loc Cert.DwB.main_arg0) = m ((c.tc : Thread Cert.DwB.nD Cert.DwB.τ).loc Cert.DwB.main_arg0)
      ∧ r.2.mem ((c.tc : Thread Cert.DwB.nD Cert.DwB.τ).loc Cert.DwB.main_arg1) = m ((c.tc : Thread Cert.DwB.nD Cert.DwB.τ).loc Cert.DwB.main_arg1))
      ∧ r.2.sem = fun _ => 0)

def quiescent_DwBIdeal [hDwBIdeal : Cert.DwBIdeal.Facts] : Prop :=
  ∀ (m : (ℓ : Loc Cert.DwBIdeal.nD Cert.DwBIdeal.τ Cert.DwBIdeal.sig) → Buf (Elt Ideal) ℓ) (g : Dev Cert.DwBIdeal.nD → PrngReg), Pre_DwBIdeal m →
    θ_run (Cert.DwBIdeal.defs (F := Ideal)) (onTc (τ := Cert.DwBIdeal.τ) (Cert.DwBIdeal.main (F := Ideal))) ⟨m, fun _ => 0, g⟩ (fun r => (∀ c : Dev Cert.DwBIdeal.nD,
      r.2.mem ((c.tc : Thread Cert.DwBIdeal.nD Cert.DwBIdeal.τ).loc Cert.DwBIdeal.main_arg0) = m ((c.tc : Thread Cert.DwBIdeal.nD Cert.DwBIdeal.τ).loc Cert.DwBIdeal.main_arg0)
      ∧ r.2.mem ((c.tc : Thread Cert.DwBIdeal.nD Cert.DwBIdeal.τ).loc Cert.DwBIdeal.main_arg1) = m ((c.tc : Thread Cert.DwBIdeal.nD Cert.DwBIdeal.τ).loc Cert.DwBIdeal.main_arg1))
      ∧ r.2.sem = fun _ => 0)

def quiescent_DwBRefIdeal [hDwBRefIdeal : Cert.DwBRefIdeal.Facts] : Prop :=
  ∀ (m : (ℓ : Loc Cert.DwBRefIdeal.nD Cert.DwBRefIdeal.τ Cert.DwBRefIdeal.sig) → Buf (Elt Ideal) ℓ) (g : Dev Cert.DwBRefIdeal.nD → PrngReg), Pre_DwBRefIdeal m →
    θ_run (Cert.DwBRefIdeal.defs (F := Ideal)) (onTc (τ := Cert.DwBRefIdeal.τ) (Cert.DwBRefIdeal.main (F := Ideal))) ⟨m, fun _ => 0, g⟩ (fun r => (∀ c : Dev Cert.DwBRefIdeal.nD,
      r.2.mem ((c.tc : Thread Cert.DwBRefIdeal.nD Cert.DwBRefIdeal.τ).loc Cert.DwBRefIdeal.main_arg0) = m ((c.tc : Thread Cert.DwBRefIdeal.nD Cert.DwBRefIdeal.τ).loc Cert.DwBRefIdeal.main_arg0)
      ∧ r.2.mem ((c.tc : Thread Cert.DwBRefIdeal.nD Cert.DwBRefIdeal.τ).loc Cert.DwBRefIdeal.main_arg1) = m ((c.tc : Thread Cert.DwBRefIdeal.nD Cert.DwBRefIdeal.τ).loc Cert.DwBRefIdeal.main_arg1))
      ∧ r.2.sem = fun _ => 0)

def quiescent_InG [hInG : Cert.InG.Facts] : Prop :=
  ∀ (m : (ℓ : Loc Cert.InG.nD Cert.InG.τ Cert.InG.sig) → Buf (Elt Bits) ℓ) (g : Dev Cert.InG.nD → PrngReg), Pre_InG m →
    θ_run (Cert.InG.defs (F := Bits)) (onTc (τ := Cert.InG.τ) (Cert.InG.main (F := Bits))) ⟨m, fun _ => 0, g⟩ (fun r => (∀ c : Dev Cert.InG.nD,
      r.2.mem ((c.tc : Thread Cert.InG.nD Cert.InG.τ).loc Cert.InG.main_arg0) = m ((c.tc : Thread Cert.InG.nD Cert.InG.τ).loc Cert.InG.main_arg0)
      ∧ r.2.mem ((c.tc : Thread Cert.InG.nD Cert.InG.τ).loc Cert.InG.main_arg1) = m ((c.tc : Thread Cert.InG.nD Cert.InG.τ).loc Cert.InG.main_arg1))
      ∧ r.2.sem = fun _ => 0)

def quiescent_InGIdeal [hInGIdeal : Cert.InGIdeal.Facts] : Prop :=
  ∀ (m : (ℓ : Loc Cert.InGIdeal.nD Cert.InGIdeal.τ Cert.InGIdeal.sig) → Buf (Elt Ideal) ℓ) (g : Dev Cert.InGIdeal.nD → PrngReg), Pre_InGIdeal m →
    θ_run (Cert.InGIdeal.defs (F := Ideal)) (onTc (τ := Cert.InGIdeal.τ) (Cert.InGIdeal.main (F := Ideal))) ⟨m, fun _ => 0, g⟩ (fun r => (∀ c : Dev Cert.InGIdeal.nD,
      r.2.mem ((c.tc : Thread Cert.InGIdeal.nD Cert.InGIdeal.τ).loc Cert.InGIdeal.main_arg0) = m ((c.tc : Thread Cert.InGIdeal.nD Cert.InGIdeal.τ).loc Cert.InGIdeal.main_arg0)
      ∧ r.2.mem ((c.tc : Thread Cert.InGIdeal.nD Cert.InGIdeal.τ).loc Cert.InGIdeal.main_arg1) = m ((c.tc : Thread Cert.InGIdeal.nD Cert.InGIdeal.τ).loc Cert.InGIdeal.main_arg1))
      ∧ r.2.sem = fun _ => 0)

def quiescent_InGRefIdeal [hInGRefIdeal : Cert.InGRefIdeal.Facts] : Prop :=
  ∀ (m : (ℓ : Loc Cert.InGRefIdeal.nD Cert.InGRefIdeal.τ Cert.InGRefIdeal.sig) → Buf (Elt Ideal) ℓ) (g : Dev Cert.InGRefIdeal.nD → PrngReg), Pre_InGRefIdeal m →
    θ_run (Cert.InGRefIdeal.defs (F := Ideal)) (onTc (τ := Cert.InGRefIdeal.τ) (Cert.InGRefIdeal.main (F := Ideal))) ⟨m, fun _ => 0, g⟩ (fun r => (∀ c : Dev Cert.InGRefIdeal.nD,
      r.2.mem ((c.tc : Thread Cert.InGRefIdeal.nD Cert.InGRefIdeal.τ).loc Cert.InGRefIdeal.main_arg0) = m ((c.tc : Thread Cert.InGRefIdeal.nD Cert.InGRefIdeal.τ).loc Cert.InGRefIdeal.main_arg0)
      ∧ r.2.mem ((c.tc : Thread Cert.InGRefIdeal.nD Cert.InGRefIdeal.τ).loc Cert.InGRefIdeal.main_arg1) = m ((c.tc : Thread Cert.InGRefIdeal.nD Cert.InGRefIdeal.τ).loc Cert.InGRefIdeal.main_arg1))
      ∧ r.2.sem = fun _ => 0)

def quiescent_DhG [hDhG : Cert.DhG.Facts] : Prop :=
  ∀ (m : (ℓ : Loc Cert.DhG.nD Cert.DhG.τ Cert.DhG.sig) → Buf (Elt Bits) ℓ) (g : Dev Cert.DhG.nD → PrngReg), Pre_DhG m →
    θ_run (Cert.DhG.defs (F := Bits)) (onTc (τ := Cert.DhG.τ) (Cert.DhG.main (F := Bits))) ⟨m, fun _ => 0, g⟩ (fun r => (∀ c : Dev Cert.DhG.nD,
      r.2.mem ((c.tc : Thread Cert.DhG.nD Cert.DhG.τ).loc Cert.DhG.main_arg0) = m ((c.tc : Thread Cert.DhG.nD Cert.DhG.τ).loc Cert.DhG.main_arg0)
      ∧ r.2.mem ((c.tc : Thread Cert.DhG.nD Cert.DhG.τ).loc Cert.DhG.main_arg1) = m ((c.tc : Thread Cert.DhG.nD Cert.DhG.τ).loc Cert.DhG.main_arg1)
      ∧ r.2.mem ((c.tc : Thread Cert.DhG.nD Cert.DhG.τ).loc Cert.DhG.main_arg2) = m ((c.tc : Thread Cert.DhG.nD Cert.DhG.τ).loc Cert.DhG.main_arg2))
      ∧ r.2.sem = fun _ => 0)

def quiescent_DhGIdeal [hDhGIdeal : Cert.DhGIdeal.Facts] : Prop :=
  ∀ (m : (ℓ : Loc Cert.DhGIdeal.nD Cert.DhGIdeal.τ Cert.DhGIdeal.sig) → Buf (Elt Ideal) ℓ) (g : Dev Cert.DhGIdeal.nD → PrngReg), Pre_DhGIdeal m →
    θ_run (Cert.DhGIdeal.defs (F := Ideal)) (onTc (τ := Cert.DhGIdeal.τ) (Cert.DhGIdeal.main (F := Ideal))) ⟨m, fun _ => 0, g⟩ (fun r => (∀ c : Dev Cert.DhGIdeal.nD,
      r.2.mem ((c.tc : Thread Cert.DhGIdeal.nD Cert.DhGIdeal.τ).loc Cert.DhGIdeal.main_arg0) = m ((c.tc : Thread Cert.DhGIdeal.nD Cert.DhGIdeal.τ).loc Cert.DhGIdeal.main_arg0)
      ∧ r.2.mem ((c.tc : Thread Cert.DhGIdeal.nD Cert.DhGIdeal.τ).loc Cert.DhGIdeal.main_arg1) = m ((c.tc : Thread Cert.DhGIdeal.nD Cert.DhGIdeal.τ).loc Cert.DhGIdeal.main_arg1)
      ∧ r.2.mem ((c.tc : Thread Cert.DhGIdeal.nD Cert.DhGIdeal.τ).loc Cert.DhGIdeal.main_arg2) = m ((c.tc : Thread Cert.DhGIdeal.nD Cert.DhGIdeal.τ).loc Cert.DhGIdeal.main_arg2))
      ∧ r.2.sem = fun _ => 0)

def quiescent_DhGRefIdeal [hDhGRefIdeal : Cert.DhGRefIdeal.Facts] : Prop :=
  ∀ (m : (ℓ : Loc Cert.DhGRefIdeal.nD Cert.DhGRefIdeal.τ Cert.DhGRefIdeal.sig) → Buf (Elt Ideal) ℓ) (g : Dev Cert.DhGRefIdeal.nD → PrngReg), Pre_DhGRefIdeal m →
    θ_run (Cert.DhGRefIdeal.defs (F := Ideal)) (onTc (τ := Cert.DhGRefIdeal.τ) (Cert.DhGRefIdeal.main (F := Ideal))) ⟨m, fun _ => 0, g⟩ (fun r => (∀ c : Dev Cert.DhGRefIdeal.nD,
      r.2.mem ((c.tc : Thread Cert.DhGRefIdeal.nD Cert.DhGRefIdeal.τ).loc Cert.DhGRefIdeal.main_arg0) = m ((c.tc : Thread Cert.DhGRefIdeal.nD Cert.DhGRefIdeal.τ).loc Cert.DhGRefIdeal.main_arg0)
      ∧ r.2.mem ((c.tc : Thread Cert.DhGRefIdeal.nD Cert.DhGRefIdeal.τ).loc Cert.DhGRefIdeal.main_arg1) = m ((c.tc : Thread Cert.DhGRefIdeal.nD Cert.DhGRefIdeal.τ).loc Cert.DhGRefIdeal.main_arg1)
      ∧ r.2.mem ((c.tc : Thread Cert.DhGRefIdeal.nD Cert.DhGRefIdeal.τ).loc Cert.DhGRefIdeal.main_arg2) = m ((c.tc : Thread Cert.DhGRefIdeal.nD Cert.DhGRefIdeal.τ).loc Cert.DhGRefIdeal.main_arg2))
      ∧ r.2.sem = fun _ => 0)

def quiescent_DwG [hDwG : Cert.DwG.Facts] : Prop :=
  ∀ (m : (ℓ : Loc Cert.DwG.nD Cert.DwG.τ Cert.DwG.sig) → Buf (Elt Bits) ℓ) (g : Dev Cert.DwG.nD → PrngReg), Pre_DwG m →
    θ_run (Cert.DwG.defs (F := Bits)) (onTc (τ := Cert.DwG.τ) (Cert.DwG.main (F := Bits))) ⟨m, fun _ => 0, g⟩ (fun r => (∀ c : Dev Cert.DwG.nD,
      r.2.mem ((c.tc : Thread Cert.DwG.nD Cert.DwG.τ).loc Cert.DwG.main_arg0) = m ((c.tc : Thread Cert.DwG.nD Cert.DwG.τ).loc Cert.DwG.main_arg0)
      ∧ r.2.mem ((c.tc : Thread Cert.DwG.nD Cert.DwG.τ).loc Cert.DwG.main_arg1) = m ((c.tc : Thread Cert.DwG.nD Cert.DwG.τ).loc Cert.DwG.main_arg1))
      ∧ r.2.sem = fun _ => 0)

def quiescent_DwGIdeal [hDwGIdeal : Cert.DwGIdeal.Facts] : Prop :=
  ∀ (m : (ℓ : Loc Cert.DwGIdeal.nD Cert.DwGIdeal.τ Cert.DwGIdeal.sig) → Buf (Elt Ideal) ℓ) (g : Dev Cert.DwGIdeal.nD → PrngReg), Pre_DwGIdeal m →
    θ_run (Cert.DwGIdeal.defs (F := Ideal)) (onTc (τ := Cert.DwGIdeal.τ) (Cert.DwGIdeal.main (F := Ideal))) ⟨m, fun _ => 0, g⟩ (fun r => (∀ c : Dev Cert.DwGIdeal.nD,
      r.2.mem ((c.tc : Thread Cert.DwGIdeal.nD Cert.DwGIdeal.τ).loc Cert.DwGIdeal.main_arg0) = m ((c.tc : Thread Cert.DwGIdeal.nD Cert.DwGIdeal.τ).loc Cert.DwGIdeal.main_arg0)
      ∧ r.2.mem ((c.tc : Thread Cert.DwGIdeal.nD Cert.DwGIdeal.τ).loc Cert.DwGIdeal.main_arg1) = m ((c.tc : Thread Cert.DwGIdeal.nD Cert.DwGIdeal.τ).loc Cert.DwGIdeal.main_arg1))
      ∧ r.2.sem = fun _ => 0)

def quiescent_DwGRefIdeal [hDwGRefIdeal : Cert.DwGRefIdeal.Facts] : Prop :=
  ∀ (m : (ℓ : Loc Cert.DwGRefIdeal.nD Cert.DwGRefIdeal.τ Cert.DwGRefIdeal.sig) → Buf (Elt Ideal) ℓ) (g : Dev Cert.DwGRefIdeal.nD → PrngReg), Pre_DwGRefIdeal m →
    θ_run (Cert.DwGRefIdeal.defs (F := Ideal)) (onTc (τ := Cert.DwGRefIdeal.τ) (Cert.DwGRefIdeal.main (F := Ideal))) ⟨m, fun _ => 0, g⟩ (fun r => (∀ c : Dev Cert.DwGRefIdeal.nD,
      r.2.mem ((c.tc : Thread Cert.DwGRefIdeal.nD Cert.DwGRefIdeal.τ).loc Cert.DwGRefIdeal.main_arg0) = m ((c.tc : Thread Cert.DwGRefIdeal.nD Cert.DwGRefIdeal.τ).loc Cert.DwGRefIdeal.main_arg0)
      ∧ r.2.mem ((c.tc : Thread Cert.DwGRefIdeal.nD Cert.DwGRefIdeal.τ).loc Cert.DwGRefIdeal.main_arg1) = m ((c.tc : Thread Cert.DwGRefIdeal.nD Cert.DwGRefIdeal.τ).loc Cert.DwGRefIdeal.main_arg1))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2))
      ∧ r.2.sem = fun _ => 0)

def quiescent_DwOut [hDwOut : Cert.DwOut.Facts] : Prop :=
  ∀ (m : (ℓ : Loc Cert.DwOut.nD Cert.DwOut.τ Cert.DwOut.sig) → Buf (Elt Bits) ℓ) (g : Dev Cert.DwOut.nD → PrngReg), Pre_DwOut m →
    θ_run (Cert.DwOut.defs (F := Bits)) (onTc (τ := Cert.DwOut.τ) (Cert.DwOut.main (F := Bits))) ⟨m, fun _ => 0, g⟩ (fun r => (∀ c : Dev Cert.DwOut.nD,
      r.2.mem ((c.tc : Thread Cert.DwOut.nD Cert.DwOut.τ).loc Cert.DwOut.main_arg0) = m ((c.tc : Thread Cert.DwOut.nD Cert.DwOut.τ).loc Cert.DwOut.main_arg0)
      ∧ r.2.mem ((c.tc : Thread Cert.DwOut.nD Cert.DwOut.τ).loc Cert.DwOut.main_arg1) = m ((c.tc : Thread Cert.DwOut.nD Cert.DwOut.τ).loc Cert.DwOut.main_arg1))
      ∧ r.2.sem = fun _ => 0)

def quiescent_DwOutIdeal [hDwOutIdeal : Cert.DwOutIdeal.Facts] : Prop :=
  ∀ (m : (ℓ : Loc Cert.DwOutIdeal.nD Cert.DwOutIdeal.τ Cert.DwOutIdeal.sig) → Buf (Elt Ideal) ℓ) (g : Dev Cert.DwOutIdeal.nD → PrngReg), Pre_DwOutIdeal m →
    θ_run (Cert.DwOutIdeal.defs (F := Ideal)) (onTc (τ := Cert.DwOutIdeal.τ) (Cert.DwOutIdeal.main (F := Ideal))) ⟨m, fun _ => 0, g⟩ (fun r => (∀ c : Dev Cert.DwOutIdeal.nD,
      r.2.mem ((c.tc : Thread Cert.DwOutIdeal.nD Cert.DwOutIdeal.τ).loc Cert.DwOutIdeal.main_arg0) = m ((c.tc : Thread Cert.DwOutIdeal.nD Cert.DwOutIdeal.τ).loc Cert.DwOutIdeal.main_arg0)
      ∧ r.2.mem ((c.tc : Thread Cert.DwOutIdeal.nD Cert.DwOutIdeal.τ).loc Cert.DwOutIdeal.main_arg1) = m ((c.tc : Thread Cert.DwOutIdeal.nD Cert.DwOutIdeal.τ).loc Cert.DwOutIdeal.main_arg1))
      ∧ r.2.sem = fun _ => 0)

def quiescent_DwOutRefIdeal [hDwOutRefIdeal : Cert.DwOutRefIdeal.Facts] : Prop :=
  ∀ (m : (ℓ : Loc Cert.DwOutRefIdeal.nD Cert.DwOutRefIdeal.τ Cert.DwOutRefIdeal.sig) → Buf (Elt Ideal) ℓ) (g : Dev Cert.DwOutRefIdeal.nD → PrngReg), Pre_DwOutRefIdeal m →
    θ_run (Cert.DwOutRefIdeal.defs (F := Ideal)) (onTc (τ := Cert.DwOutRefIdeal.τ) (Cert.DwOutRefIdeal.main (F := Ideal))) ⟨m, fun _ => 0, g⟩ (fun r => (∀ c : Dev Cert.DwOutRefIdeal.nD,
      r.2.mem ((c.tc : Thread Cert.DwOutRefIdeal.nD Cert.DwOutRefIdeal.τ).loc Cert.DwOutRefIdeal.main_arg0) = m ((c.tc : Thread Cert.DwOutRefIdeal.nD Cert.DwOutRefIdeal.τ).loc Cert.DwOutRefIdeal.main_arg0)
      ∧ r.2.mem ((c.tc : Thread Cert.DwOutRefIdeal.nD Cert.DwOutRefIdeal.τ).loc Cert.DwOutRefIdeal.main_arg1) = m ((c.tc : Thread Cert.DwOutRefIdeal.nD Cert.DwOutRefIdeal.τ).loc Cert.DwOutRefIdeal.main_arg1))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6))
      ∧ r.2.sem = fun _ => 0)

def quiescent_MergeBwd [hMergeBwd : Cert.MergeBwd.Facts] : Prop :=
  ∀ (m : (ℓ : Loc Cert.MergeBwd.nD Cert.MergeBwd.τ Cert.MergeBwd.sig) → Buf (Elt Bits) ℓ) (g : Dev Cert.MergeBwd.nD → PrngReg), Pre_MergeBwd m →
    θ_run (Cert.MergeBwd.defs (F := Bits)) (onTc (τ := Cert.MergeBwd.τ) (Cert.MergeBwd.main (F := Bits))) ⟨m, fun _ => 0, g⟩ (fun r => (∀ c : Dev Cert.MergeBwd.nD,
      r.2.mem ((c.tc : Thread Cert.MergeBwd.nD Cert.MergeBwd.τ).loc Cert.MergeBwd.main_arg0) = m ((c.tc : Thread Cert.MergeBwd.nD Cert.MergeBwd.τ).loc Cert.MergeBwd.main_arg0)
      ∧ r.2.mem ((c.tc : Thread Cert.MergeBwd.nD Cert.MergeBwd.τ).loc Cert.MergeBwd.main_arg1) = m ((c.tc : Thread Cert.MergeBwd.nD Cert.MergeBwd.τ).loc Cert.MergeBwd.main_arg1)
      ∧ r.2.mem ((c.tc : Thread Cert.MergeBwd.nD Cert.MergeBwd.τ).loc Cert.MergeBwd.main_arg2) = m ((c.tc : Thread Cert.MergeBwd.nD Cert.MergeBwd.τ).loc Cert.MergeBwd.main_arg2)
      ∧ r.2.mem ((c.tc : Thread Cert.MergeBwd.nD Cert.MergeBwd.τ).loc Cert.MergeBwd.main_arg3) = m ((c.tc : Thread Cert.MergeBwd.nD Cert.MergeBwd.τ).loc Cert.MergeBwd.main_arg3)
      ∧ r.2.mem ((c.tc : Thread Cert.MergeBwd.nD Cert.MergeBwd.τ).loc Cert.MergeBwd.main_arg4) = m ((c.tc : Thread Cert.MergeBwd.nD Cert.MergeBwd.τ).loc Cert.MergeBwd.main_arg4)
      ∧ r.2.mem ((c.tc : Thread Cert.MergeBwd.nD Cert.MergeBwd.τ).loc Cert.MergeBwd.main_arg5) = m ((c.tc : Thread Cert.MergeBwd.nD Cert.MergeBwd.τ).loc Cert.MergeBwd.main_arg5)
      ∧ r.2.mem ((c.tc : Thread Cert.MergeBwd.nD Cert.MergeBwd.τ).loc Cert.MergeBwd.main_arg6) = m ((c.tc : Thread Cert.MergeBwd.nD Cert.MergeBwd.τ).loc Cert.MergeBwd.main_arg6)
      ∧ r.2.mem ((c.tc : Thread Cert.MergeBwd.nD Cert.MergeBwd.τ).loc Cert.MergeBwd.main_arg7) = m ((c.tc : Thread Cert.MergeBwd.nD Cert.MergeBwd.τ).loc Cert.MergeBwd.main_arg7))
      ∧ r.2.sem = fun _ => 0)

def quiescent_MergeBwdIdeal [hMergeBwdIdeal : Cert.MergeBwdIdeal.Facts] : Prop :=
  ∀ (m : (ℓ : Loc Cert.MergeBwdIdeal.nD Cert.MergeBwdIdeal.τ Cert.MergeBwdIdeal.sig) → Buf (Elt Ideal) ℓ) (g : Dev Cert.MergeBwdIdeal.nD → PrngReg), Pre_MergeBwdIdeal m →
    θ_run (Cert.MergeBwdIdeal.defs (F := Ideal)) (onTc (τ := Cert.MergeBwdIdeal.τ) (Cert.MergeBwdIdeal.main (F := Ideal))) ⟨m, fun _ => 0, g⟩ (fun r => (∀ c : Dev Cert.MergeBwdIdeal.nD,
      r.2.mem ((c.tc : Thread Cert.MergeBwdIdeal.nD Cert.MergeBwdIdeal.τ).loc Cert.MergeBwdIdeal.main_arg0) = m ((c.tc : Thread Cert.MergeBwdIdeal.nD Cert.MergeBwdIdeal.τ).loc Cert.MergeBwdIdeal.main_arg0)
      ∧ r.2.mem ((c.tc : Thread Cert.MergeBwdIdeal.nD Cert.MergeBwdIdeal.τ).loc Cert.MergeBwdIdeal.main_arg1) = m ((c.tc : Thread Cert.MergeBwdIdeal.nD Cert.MergeBwdIdeal.τ).loc Cert.MergeBwdIdeal.main_arg1)
      ∧ r.2.mem ((c.tc : Thread Cert.MergeBwdIdeal.nD Cert.MergeBwdIdeal.τ).loc Cert.MergeBwdIdeal.main_arg2) = m ((c.tc : Thread Cert.MergeBwdIdeal.nD Cert.MergeBwdIdeal.τ).loc Cert.MergeBwdIdeal.main_arg2)
      ∧ r.2.mem ((c.tc : Thread Cert.MergeBwdIdeal.nD Cert.MergeBwdIdeal.τ).loc Cert.MergeBwdIdeal.main_arg3) = m ((c.tc : Thread Cert.MergeBwdIdeal.nD Cert.MergeBwdIdeal.τ).loc Cert.MergeBwdIdeal.main_arg3)
      ∧ r.2.mem ((c.tc : Thread Cert.MergeBwdIdeal.nD Cert.MergeBwdIdeal.τ).loc Cert.MergeBwdIdeal.main_arg4) = m ((c.tc : Thread Cert.MergeBwdIdeal.nD Cert.MergeBwdIdeal.τ).loc Cert.MergeBwdIdeal.main_arg4)
      ∧ r.2.mem ((c.tc : Thread Cert.MergeBwdIdeal.nD Cert.MergeBwdIdeal.τ).loc Cert.MergeBwdIdeal.main_arg5) = m ((c.tc : Thread Cert.MergeBwdIdeal.nD Cert.MergeBwdIdeal.τ).loc Cert.MergeBwdIdeal.main_arg5)
      ∧ r.2.mem ((c.tc : Thread Cert.MergeBwdIdeal.nD Cert.MergeBwdIdeal.τ).loc Cert.MergeBwdIdeal.main_arg6) = m ((c.tc : Thread Cert.MergeBwdIdeal.nD Cert.MergeBwdIdeal.τ).loc Cert.MergeBwdIdeal.main_arg6)
      ∧ r.2.mem ((c.tc : Thread Cert.MergeBwdIdeal.nD Cert.MergeBwdIdeal.τ).loc Cert.MergeBwdIdeal.main_arg7) = m ((c.tc : Thread Cert.MergeBwdIdeal.nD Cert.MergeBwdIdeal.τ).loc Cert.MergeBwdIdeal.main_arg7))
      ∧ r.2.sem = fun _ => 0)

def quiescent_MergeBwdRefIdeal [hMergeBwdRefIdeal : Cert.MergeBwdRefIdeal.Facts] : Prop :=
  ∀ (m : (ℓ : Loc Cert.MergeBwdRefIdeal.nD Cert.MergeBwdRefIdeal.τ Cert.MergeBwdRefIdeal.sig) → Buf (Elt Ideal) ℓ) (g : Dev Cert.MergeBwdRefIdeal.nD → PrngReg), Pre_MergeBwdRefIdeal m →
    θ_run (Cert.MergeBwdRefIdeal.defs (F := Ideal)) (onTc (τ := Cert.MergeBwdRefIdeal.τ) (Cert.MergeBwdRefIdeal.main (F := Ideal))) ⟨m, fun _ => 0, g⟩ (fun r => (∀ c : Dev Cert.MergeBwdRefIdeal.nD,
      r.2.mem ((c.tc : Thread Cert.MergeBwdRefIdeal.nD Cert.MergeBwdRefIdeal.τ).loc Cert.MergeBwdRefIdeal.main_arg0) = m ((c.tc : Thread Cert.MergeBwdRefIdeal.nD Cert.MergeBwdRefIdeal.τ).loc Cert.MergeBwdRefIdeal.main_arg0)
      ∧ r.2.mem ((c.tc : Thread Cert.MergeBwdRefIdeal.nD Cert.MergeBwdRefIdeal.τ).loc Cert.MergeBwdRefIdeal.main_arg1) = m ((c.tc : Thread Cert.MergeBwdRefIdeal.nD Cert.MergeBwdRefIdeal.τ).loc Cert.MergeBwdRefIdeal.main_arg1)
      ∧ r.2.mem ((c.tc : Thread Cert.MergeBwdRefIdeal.nD Cert.MergeBwdRefIdeal.τ).loc Cert.MergeBwdRefIdeal.main_arg2) = m ((c.tc : Thread Cert.MergeBwdRefIdeal.nD Cert.MergeBwdRefIdeal.τ).loc Cert.MergeBwdRefIdeal.main_arg2)
      ∧ r.2.mem ((c.tc : Thread Cert.MergeBwdRefIdeal.nD Cert.MergeBwdRefIdeal.τ).loc Cert.MergeBwdRefIdeal.main_arg3) = m ((c.tc : Thread Cert.MergeBwdRefIdeal.nD Cert.MergeBwdRefIdeal.τ).loc Cert.MergeBwdRefIdeal.main_arg3)
      ∧ r.2.mem ((c.tc : Thread Cert.MergeBwdRefIdeal.nD Cert.MergeBwdRefIdeal.τ).loc Cert.MergeBwdRefIdeal.main_arg4) = m ((c.tc : Thread Cert.MergeBwdRefIdeal.nD Cert.MergeBwdRefIdeal.τ).loc Cert.MergeBwdRefIdeal.main_arg4)
      ∧ r.2.mem ((c.tc : Thread Cert.MergeBwdRefIdeal.nD Cert.MergeBwdRefIdeal.τ).loc Cert.MergeBwdRefIdeal.main_arg5) = m ((c.tc : Thread Cert.MergeBwdRefIdeal.nD Cert.MergeBwdRefIdeal.τ).loc Cert.MergeBwdRefIdeal.main_arg5)
      ∧ r.2.mem ((c.tc : Thread Cert.MergeBwdRefIdeal.nD Cert.MergeBwdRefIdeal.τ).loc Cert.MergeBwdRefIdeal.main_arg6) = m ((c.tc : Thread Cert.MergeBwdRefIdeal.nD Cert.MergeBwdRefIdeal.τ).loc Cert.MergeBwdRefIdeal.main_arg6)
      ∧ r.2.mem ((c.tc : Thread Cert.MergeBwdRefIdeal.nD Cert.MergeBwdRefIdeal.τ).loc Cert.MergeBwdRefIdeal.main_arg7) = m ((c.tc : Thread Cert.MergeBwdRefIdeal.nD Cert.MergeBwdRefIdeal.τ).loc Cert.MergeBwdRefIdeal.main_arg7))
      ∧ r.2.sem = fun _ => 0)

def quiescent_Cross [hCross : Cert.Cross.Facts] : Prop :=
  ∀ (m : (ℓ : Loc Cert.Cross.nD Cert.Cross.τ Cert.Cross.sig) → Buf (Elt Bits) ℓ) (g : Dev Cert.Cross.nD → PrngReg), Pre_Cross m →
    θ_run (Cert.Cross.defs (F := Bits)) (onTc (τ := Cert.Cross.τ) (Cert.Cross.main (F := Bits))) ⟨m, fun _ => 0, g⟩ (fun r => (∀ c : Dev Cert.Cross.nD,
      r.2.mem ((c.tc : Thread Cert.Cross.nD Cert.Cross.τ).loc Cert.Cross.main_arg0) = m ((c.tc : Thread Cert.Cross.nD Cert.Cross.τ).loc Cert.Cross.main_arg0)
      ∧ r.2.mem ((c.tc : Thread Cert.Cross.nD Cert.Cross.τ).loc Cert.Cross.main_arg1) = m ((c.tc : Thread Cert.Cross.nD Cert.Cross.τ).loc Cert.Cross.main_arg1))
      ∧ r.2.sem = fun _ => 0)

def quiescent_CrossIdeal [hCrossIdeal : Cert.CrossIdeal.Facts] : Prop :=
  ∀ (m : (ℓ : Loc Cert.CrossIdeal.nD Cert.CrossIdeal.τ Cert.CrossIdeal.sig) → Buf (Elt Ideal) ℓ) (g : Dev Cert.CrossIdeal.nD → PrngReg), Pre_CrossIdeal m →
    θ_run (Cert.CrossIdeal.defs (F := Ideal)) (onTc (τ := Cert.CrossIdeal.τ) (Cert.CrossIdeal.main (F := Ideal))) ⟨m, fun _ => 0, g⟩ (fun r => (∀ c : Dev Cert.CrossIdeal.nD,
      r.2.mem ((c.tc : Thread Cert.CrossIdeal.nD Cert.CrossIdeal.τ).loc Cert.CrossIdeal.main_arg0) = m ((c.tc : Thread Cert.CrossIdeal.nD Cert.CrossIdeal.τ).loc Cert.CrossIdeal.main_arg0)
      ∧ r.2.mem ((c.tc : Thread Cert.CrossIdeal.nD Cert.CrossIdeal.τ).loc Cert.CrossIdeal.main_arg1) = m ((c.tc : Thread Cert.CrossIdeal.nD Cert.CrossIdeal.τ).loc Cert.CrossIdeal.main_arg1))
      ∧ r.2.sem = fun _ => 0)

def quiescent_CrossRefIdeal [hCrossRefIdeal : Cert.CrossRefIdeal.Facts] : Prop :=
  ∀ (m : (ℓ : Loc Cert.CrossRefIdeal.nD Cert.CrossRefIdeal.τ Cert.CrossRefIdeal.sig) → Buf (Elt Ideal) ℓ) (g : Dev Cert.CrossRefIdeal.nD → PrngReg), Pre_CrossRefIdeal m →
    θ_run (Cert.CrossRefIdeal.defs (F := Ideal)) (onTc (τ := Cert.CrossRefIdeal.τ) (Cert.CrossRefIdeal.main (F := Ideal))) ⟨m, fun _ => 0, g⟩ (fun r => (∀ c : Dev Cert.CrossRefIdeal.nD,
      r.2.mem ((c.tc : Thread Cert.CrossRefIdeal.nD Cert.CrossRefIdeal.τ).loc Cert.CrossRefIdeal.main_arg0) = m ((c.tc : Thread Cert.CrossRefIdeal.nD Cert.CrossRefIdeal.τ).loc Cert.CrossRefIdeal.main_arg0)
      ∧ r.2.mem ((c.tc : Thread Cert.CrossRefIdeal.nD Cert.CrossRefIdeal.τ).loc Cert.CrossRefIdeal.main_arg1) = m ((c.tc : Thread Cert.CrossRefIdeal.nD Cert.CrossRefIdeal.τ).loc Cert.CrossRefIdeal.main_arg1))
      ∧ r.2.sem = fun _ => 0)

def quiescent_Xq [hXq : Cert.Xq.Facts] : Prop :=
  ∀ (m : (ℓ : Loc Cert.Xq.nD Cert.Xq.τ Cert.Xq.sig) → Buf (Elt Bits) ℓ) (g : Dev Cert.Xq.nD → PrngReg), Pre_Xq m →
    θ_run (Cert.Xq.defs (F := Bits)) (onTc (τ := Cert.Xq.τ) (Cert.Xq.main (F := Bits))) ⟨m, fun _ => 0, g⟩ (fun r => (∀ c : Dev Cert.Xq.nD,
      r.2.mem ((c.tc : Thread Cert.Xq.nD Cert.Xq.τ).loc Cert.Xq.main_arg0) = m ((c.tc : Thread Cert.Xq.nD Cert.Xq.τ).loc Cert.Xq.main_arg0)
      ∧ r.2.mem ((c.tc : Thread Cert.Xq.nD Cert.Xq.τ).loc Cert.Xq.main_arg1) = m ((c.tc : Thread Cert.Xq.nD Cert.Xq.τ).loc Cert.Xq.main_arg1))
      ∧ r.2.sem = fun _ => 0)

def quiescent_XqIdeal [hXqIdeal : Cert.XqIdeal.Facts] : Prop :=
  ∀ (m : (ℓ : Loc Cert.XqIdeal.nD Cert.XqIdeal.τ Cert.XqIdeal.sig) → Buf (Elt Ideal) ℓ) (g : Dev Cert.XqIdeal.nD → PrngReg), Pre_XqIdeal m →
    θ_run (Cert.XqIdeal.defs (F := Ideal)) (onTc (τ := Cert.XqIdeal.τ) (Cert.XqIdeal.main (F := Ideal))) ⟨m, fun _ => 0, g⟩ (fun r => (∀ c : Dev Cert.XqIdeal.nD,
      r.2.mem ((c.tc : Thread Cert.XqIdeal.nD Cert.XqIdeal.τ).loc Cert.XqIdeal.main_arg0) = m ((c.tc : Thread Cert.XqIdeal.nD Cert.XqIdeal.τ).loc Cert.XqIdeal.main_arg0)
      ∧ r.2.mem ((c.tc : Thread Cert.XqIdeal.nD Cert.XqIdeal.τ).loc Cert.XqIdeal.main_arg1) = m ((c.tc : Thread Cert.XqIdeal.nD Cert.XqIdeal.τ).loc Cert.XqIdeal.main_arg1))
      ∧ r.2.sem = fun _ => 0)

def quiescent_XqRefIdeal [hXqRefIdeal : Cert.XqRefIdeal.Facts] : Prop :=
  ∀ (m : (ℓ : Loc Cert.XqRefIdeal.nD Cert.XqRefIdeal.τ Cert.XqRefIdeal.sig) → Buf (Elt Ideal) ℓ) (g : Dev Cert.XqRefIdeal.nD → PrngReg), Pre_XqRefIdeal m →
    θ_run (Cert.XqRefIdeal.defs (F := Ideal)) (onTc (τ := Cert.XqRefIdeal.τ) (Cert.XqRefIdeal.main (F := Ideal))) ⟨m, fun _ => 0, g⟩ (fun r => (∀ c : Dev Cert.XqRefIdeal.nD,
      r.2.mem ((c.tc : Thread Cert.XqRefIdeal.nD Cert.XqRefIdeal.τ).loc Cert.XqRefIdeal.main_arg0) = m ((c.tc : Thread Cert.XqRefIdeal.nD Cert.XqRefIdeal.τ).loc Cert.XqRefIdeal.main_arg0)
      ∧ r.2.mem ((c.tc : Thread Cert.XqRefIdeal.nD Cert.XqRefIdeal.τ).loc Cert.XqRefIdeal.main_arg1) = m ((c.tc : Thread Cert.XqRefIdeal.nD Cert.XqRefIdeal.τ).loc Cert.XqRefIdeal.main_arg1))
      ∧ r.2.sem = fun _ => 0)

def quiescent_Dox [hDox : Cert.Dox.Facts] : Prop :=
  ∀ (m : (ℓ : Loc Cert.Dox.nD Cert.Dox.τ Cert.Dox.sig) → Buf (Elt Bits) ℓ) (g : Dev Cert.Dox.nD → PrngReg), Pre_Dox m →
    θ_run (Cert.Dox.defs (F := Bits)) (onTc (τ := Cert.Dox.τ) (Cert.Dox.main (F := Bits))) ⟨m, fun _ => 0, g⟩ (fun r => (∀ c : Dev Cert.Dox.nD,
      r.2.mem ((c.tc : Thread Cert.Dox.nD Cert.Dox.τ).loc Cert.Dox.main_arg0) = m ((c.tc : Thread Cert.Dox.nD Cert.Dox.τ).loc Cert.Dox.main_arg0)
      ∧ r.2.mem ((c.tc : Thread Cert.Dox.nD Cert.Dox.τ).loc Cert.Dox.main_arg1) = m ((c.tc : Thread Cert.Dox.nD Cert.Dox.τ).loc Cert.Dox.main_arg1))
      ∧ r.2.sem = fun _ => 0)

def quiescent_DoxIdeal [hDoxIdeal : Cert.DoxIdeal.Facts] : Prop :=
  ∀ (m : (ℓ : Loc Cert.DoxIdeal.nD Cert.DoxIdeal.τ Cert.DoxIdeal.sig) → Buf (Elt Ideal) ℓ) (g : Dev Cert.DoxIdeal.nD → PrngReg), Pre_DoxIdeal m →
    θ_run (Cert.DoxIdeal.defs (F := Ideal)) (onTc (τ := Cert.DoxIdeal.τ) (Cert.DoxIdeal.main (F := Ideal))) ⟨m, fun _ => 0, g⟩ (fun r => (∀ c : Dev Cert.DoxIdeal.nD,
      r.2.mem ((c.tc : Thread Cert.DoxIdeal.nD Cert.DoxIdeal.τ).loc Cert.DoxIdeal.main_arg0) = m ((c.tc : Thread Cert.DoxIdeal.nD Cert.DoxIdeal.τ).loc Cert.DoxIdeal.main_arg0)
      ∧ r.2.mem ((c.tc : Thread Cert.DoxIdeal.nD Cert.DoxIdeal.τ).loc Cert.DoxIdeal.main_arg1) = m ((c.tc : Thread Cert.DoxIdeal.nD Cert.DoxIdeal.τ).loc Cert.DoxIdeal.main_arg1))
      ∧ r.2.sem = fun _ => 0)

def quiescent_DoxRefIdeal [hDoxRefIdeal : Cert.DoxRefIdeal.Facts] : Prop :=
  ∀ (m : (ℓ : Loc Cert.DoxRefIdeal.nD Cert.DoxRefIdeal.τ Cert.DoxRefIdeal.sig) → Buf (Elt Ideal) ℓ) (g : Dev Cert.DoxRefIdeal.nD → PrngReg), Pre_DoxRefIdeal m →
    θ_run (Cert.DoxRefIdeal.defs (F := Ideal)) (onTc (τ := Cert.DoxRefIdeal.τ) (Cert.DoxRefIdeal.main (F := Ideal))) ⟨m, fun _ => 0, g⟩ (fun r => (∀ c : Dev Cert.DoxRefIdeal.nD,
      r.2.mem ((c.tc : Thread Cert.DoxRefIdeal.nD Cert.DoxRefIdeal.τ).loc Cert.DoxRefIdeal.main_arg0) = m ((c.tc : Thread Cert.DoxRefIdeal.nD Cert.DoxRefIdeal.τ).loc Cert.DoxRefIdeal.main_arg0)
      ∧ r.2.mem ((c.tc : Thread Cert.DoxRefIdeal.nD Cert.DoxRefIdeal.τ).loc Cert.DoxRefIdeal.main_arg1) = m ((c.tc : Thread Cert.DoxRefIdeal.nD Cert.DoxRefIdeal.τ).loc Cert.DoxRefIdeal.main_arg1))
      ∧ r.2.sem = fun _ => 0)

def quiescent_Dmerged [hDmerged : Cert.Dmerged.Facts] : Prop :=
  ∀ (m : (ℓ : Loc Cert.Dmerged.nD Cert.Dmerged.τ Cert.Dmerged.sig) → Buf (Elt Bits) ℓ) (g : Dev Cert.Dmerged.nD → PrngReg), Pre_Dmerged m →
    θ_run (Cert.Dmerged.defs (F := Bits)) (onTc (τ := Cert.Dmerged.τ) (Cert.Dmerged.main (F := Bits))) ⟨m, fun _ => 0, g⟩ (fun r => (∀ c : Dev Cert.Dmerged.nD,
      r.2.mem ((c.tc : Thread Cert.Dmerged.nD Cert.Dmerged.τ).loc Cert.Dmerged.main_arg0) = m ((c.tc : Thread Cert.Dmerged.nD Cert.Dmerged.τ).loc Cert.Dmerged.main_arg0)
      ∧ r.2.mem ((c.tc : Thread Cert.Dmerged.nD Cert.Dmerged.τ).loc Cert.Dmerged.main_arg1) = m ((c.tc : Thread Cert.Dmerged.nD Cert.Dmerged.τ).loc Cert.Dmerged.main_arg1))
      ∧ r.2.sem = fun _ => 0)

def quiescent_DmergedIdeal [hDmergedIdeal : Cert.DmergedIdeal.Facts] : Prop :=
  ∀ (m : (ℓ : Loc Cert.DmergedIdeal.nD Cert.DmergedIdeal.τ Cert.DmergedIdeal.sig) → Buf (Elt Ideal) ℓ) (g : Dev Cert.DmergedIdeal.nD → PrngReg), Pre_DmergedIdeal m →
    θ_run (Cert.DmergedIdeal.defs (F := Ideal)) (onTc (τ := Cert.DmergedIdeal.τ) (Cert.DmergedIdeal.main (F := Ideal))) ⟨m, fun _ => 0, g⟩ (fun r => (∀ c : Dev Cert.DmergedIdeal.nD,
      r.2.mem ((c.tc : Thread Cert.DmergedIdeal.nD Cert.DmergedIdeal.τ).loc Cert.DmergedIdeal.main_arg0) = m ((c.tc : Thread Cert.DmergedIdeal.nD Cert.DmergedIdeal.τ).loc Cert.DmergedIdeal.main_arg0)
      ∧ r.2.mem ((c.tc : Thread Cert.DmergedIdeal.nD Cert.DmergedIdeal.τ).loc Cert.DmergedIdeal.main_arg1) = m ((c.tc : Thread Cert.DmergedIdeal.nD Cert.DmergedIdeal.τ).loc Cert.DmergedIdeal.main_arg1))
      ∧ r.2.sem = fun _ => 0)

def quiescent_DmergedRefIdeal [hDmergedRefIdeal : Cert.DmergedRefIdeal.Facts] : Prop :=
  ∀ (m : (ℓ : Loc Cert.DmergedRefIdeal.nD Cert.DmergedRefIdeal.τ Cert.DmergedRefIdeal.sig) → Buf (Elt Ideal) ℓ) (g : Dev Cert.DmergedRefIdeal.nD → PrngReg), Pre_DmergedRefIdeal m →
    θ_run (Cert.DmergedRefIdeal.defs (F := Ideal)) (onTc (τ := Cert.DmergedRefIdeal.τ) (Cert.DmergedRefIdeal.main (F := Ideal))) ⟨m, fun _ => 0, g⟩ (fun r => (∀ c : Dev Cert.DmergedRefIdeal.nD,
      r.2.mem ((c.tc : Thread Cert.DmergedRefIdeal.nD Cert.DmergedRefIdeal.τ).loc Cert.DmergedRefIdeal.main_arg0) = m ((c.tc : Thread Cert.DmergedRefIdeal.nD Cert.DmergedRefIdeal.τ).loc Cert.DmergedRefIdeal.main_arg0)
      ∧ r.2.mem ((c.tc : Thread Cert.DmergedRefIdeal.nD Cert.DmergedRefIdeal.τ).loc Cert.DmergedRefIdeal.main_arg1) = m ((c.tc : Thread Cert.DmergedRefIdeal.nD Cert.DmergedRefIdeal.τ).loc Cert.DmergedRefIdeal.main_arg1))
      ∧ r.2.sem = fun _ => 0)

def quiescent_Dh1 [hDh1 : Cert.Dh1.Facts] : Prop :=
  ∀ (m : (ℓ : Loc Cert.Dh1.nD Cert.Dh1.τ Cert.Dh1.sig) → Buf (Elt Bits) ℓ) (g : Dev Cert.Dh1.nD → PrngReg), Pre_Dh1 m →
    θ_run (Cert.Dh1.defs (F := Bits)) (onTc (τ := Cert.Dh1.τ) (Cert.Dh1.main (F := Bits))) ⟨m, fun _ => 0, g⟩ (fun r => (∀ c : Dev Cert.Dh1.nD,
      r.2.mem ((c.tc : Thread Cert.Dh1.nD Cert.Dh1.τ).loc Cert.Dh1.main_arg0) = m ((c.tc : Thread Cert.Dh1.nD Cert.Dh1.τ).loc Cert.Dh1.main_arg0)
      ∧ r.2.mem ((c.tc : Thread Cert.Dh1.nD Cert.Dh1.τ).loc Cert.Dh1.main_arg1) = m ((c.tc : Thread Cert.Dh1.nD Cert.Dh1.τ).loc Cert.Dh1.main_arg1))
      ∧ r.2.sem = fun _ => 0)

def quiescent_Dh1Ideal [hDh1Ideal : Cert.Dh1Ideal.Facts] : Prop :=
  ∀ (m : (ℓ : Loc Cert.Dh1Ideal.nD Cert.Dh1Ideal.τ Cert.Dh1Ideal.sig) → Buf (Elt Ideal) ℓ) (g : Dev Cert.Dh1Ideal.nD → PrngReg), Pre_Dh1Ideal m →
    θ_run (Cert.Dh1Ideal.defs (F := Ideal)) (onTc (τ := Cert.Dh1Ideal.τ) (Cert.Dh1Ideal.main (F := Ideal))) ⟨m, fun _ => 0, g⟩ (fun r => (∀ c : Dev Cert.Dh1Ideal.nD,
      r.2.mem ((c.tc : Thread Cert.Dh1Ideal.nD Cert.Dh1Ideal.τ).loc Cert.Dh1Ideal.main_arg0) = m ((c.tc : Thread Cert.Dh1Ideal.nD Cert.Dh1Ideal.τ).loc Cert.Dh1Ideal.main_arg0)
      ∧ r.2.mem ((c.tc : Thread Cert.Dh1Ideal.nD Cert.Dh1Ideal.τ).loc Cert.Dh1Ideal.main_arg1) = m ((c.tc : Thread Cert.Dh1Ideal.nD Cert.Dh1Ideal.τ).loc Cert.Dh1Ideal.main_arg1))
      ∧ r.2.sem = fun _ => 0)

def quiescent_Dh1RefIdeal [hDh1RefIdeal : Cert.Dh1RefIdeal.Facts] : Prop :=
  ∀ (m : (ℓ : Loc Cert.Dh1RefIdeal.nD Cert.Dh1RefIdeal.τ Cert.Dh1RefIdeal.sig) → Buf (Elt Ideal) ℓ) (g : Dev Cert.Dh1RefIdeal.nD → PrngReg), Pre_Dh1RefIdeal m →
    θ_run (Cert.Dh1RefIdeal.defs (F := Ideal)) (onTc (τ := Cert.Dh1RefIdeal.τ) (Cert.Dh1RefIdeal.main (F := Ideal))) ⟨m, fun _ => 0, g⟩ (fun r => (∀ c : Dev Cert.Dh1RefIdeal.nD,
      r.2.mem ((c.tc : Thread Cert.Dh1RefIdeal.nD Cert.Dh1RefIdeal.τ).loc Cert.Dh1RefIdeal.main_arg0) = m ((c.tc : Thread Cert.Dh1RefIdeal.nD Cert.Dh1RefIdeal.τ).loc Cert.Dh1RefIdeal.main_arg0)
      ∧ r.2.mem ((c.tc : Thread Cert.Dh1RefIdeal.nD Cert.Dh1RefIdeal.τ).loc Cert.Dh1RefIdeal.main_arg1) = m ((c.tc : Thread Cert.Dh1RefIdeal.nD Cert.Dh1RefIdeal.τ).loc Cert.Dh1RefIdeal.main_arg1))
      ∧ r.2.sem = fun _ => 0)

def quiescent_DyA [hDyA : Cert.DyA.Facts] : Prop :=
  ∀ (m : (ℓ : Loc Cert.DyA.nD Cert.DyA.τ Cert.DyA.sig) → Buf (Elt Bits) ℓ) (g : Dev Cert.DyA.nD → PrngReg), Pre_DyA m →
    θ_run (Cert.DyA.defs (F := Bits)) (onTc (τ := Cert.DyA.τ) (Cert.DyA.main (F := Bits))) ⟨m, fun _ => 0, g⟩ (fun r => (∀ c : Dev Cert.DyA.nD,
      r.2.mem ((c.tc : Thread Cert.DyA.nD Cert.DyA.τ).loc Cert.DyA.main_arg0) = m ((c.tc : Thread Cert.DyA.nD Cert.DyA.τ).loc Cert.DyA.main_arg0)
      ∧ r.2.mem ((c.tc : Thread Cert.DyA.nD Cert.DyA.τ).loc Cert.DyA.main_arg1) = m ((c.tc : Thread Cert.DyA.nD Cert.DyA.τ).loc Cert.DyA.main_arg1))
      ∧ r.2.sem = fun _ => 0)

def quiescent_DyAIdeal [hDyAIdeal : Cert.DyAIdeal.Facts] : Prop :=
  ∀ (m : (ℓ : Loc Cert.DyAIdeal.nD Cert.DyAIdeal.τ Cert.DyAIdeal.sig) → Buf (Elt Ideal) ℓ) (g : Dev Cert.DyAIdeal.nD → PrngReg), Pre_DyAIdeal m →
    θ_run (Cert.DyAIdeal.defs (F := Ideal)) (onTc (τ := Cert.DyAIdeal.τ) (Cert.DyAIdeal.main (F := Ideal))) ⟨m, fun _ => 0, g⟩ (fun r => (∀ c : Dev Cert.DyAIdeal.nD,
      r.2.mem ((c.tc : Thread Cert.DyAIdeal.nD Cert.DyAIdeal.τ).loc Cert.DyAIdeal.main_arg0) = m ((c.tc : Thread Cert.DyAIdeal.nD Cert.DyAIdeal.τ).loc Cert.DyAIdeal.main_arg0)
      ∧ r.2.mem ((c.tc : Thread Cert.DyAIdeal.nD Cert.DyAIdeal.τ).loc Cert.DyAIdeal.main_arg1) = m ((c.tc : Thread Cert.DyAIdeal.nD Cert.DyAIdeal.τ).loc Cert.DyAIdeal.main_arg1))
      ∧ r.2.sem = fun _ => 0)

def quiescent_DyARefIdeal [hDyARefIdeal : Cert.DyARefIdeal.Facts] : Prop :=
  ∀ (m : (ℓ : Loc Cert.DyARefIdeal.nD Cert.DyARefIdeal.τ Cert.DyARefIdeal.sig) → Buf (Elt Ideal) ℓ) (g : Dev Cert.DyARefIdeal.nD → PrngReg), Pre_DyARefIdeal m →
    θ_run (Cert.DyARefIdeal.defs (F := Ideal)) (onTc (τ := Cert.DyARefIdeal.τ) (Cert.DyARefIdeal.main (F := Ideal))) ⟨m, fun _ => 0, g⟩ (fun r => (∀ c : Dev Cert.DyARefIdeal.nD,
      r.2.mem ((c.tc : Thread Cert.DyARefIdeal.nD Cert.DyARefIdeal.τ).loc Cert.DyARefIdeal.main_arg0) = m ((c.tc : Thread Cert.DyARefIdeal.nD Cert.DyARefIdeal.τ).loc Cert.DyARefIdeal.main_arg0)
      ∧ r.2.mem ((c.tc : Thread Cert.DyARefIdeal.nD Cert.DyARefIdeal.τ).loc Cert.DyARefIdeal.main_arg1) = m ((c.tc : Thread Cert.DyARefIdeal.nD Cert.DyARefIdeal.τ).loc Cert.DyARefIdeal.main_arg1))
      ∧ r.2.sem = fun _ => 0)

def quiescent_DyB [hDyB : Cert.DyB.Facts] : Prop :=
  ∀ (m : (ℓ : Loc Cert.DyB.nD Cert.DyB.τ Cert.DyB.sig) → Buf (Elt Bits) ℓ) (g : Dev Cert.DyB.nD → PrngReg), Pre_DyB m →
    θ_run (Cert.DyB.defs (F := Bits)) (onTc (τ := Cert.DyB.τ) (Cert.DyB.main (F := Bits))) ⟨m, fun _ => 0, g⟩ (fun r => (∀ c : Dev Cert.DyB.nD,
      r.2.mem ((c.tc : Thread Cert.DyB.nD Cert.DyB.τ).loc Cert.DyB.main_arg0) = m ((c.tc : Thread Cert.DyB.nD Cert.DyB.τ).loc Cert.DyB.main_arg0)
      ∧ r.2.mem ((c.tc : Thread Cert.DyB.nD Cert.DyB.τ).loc Cert.DyB.main_arg1) = m ((c.tc : Thread Cert.DyB.nD Cert.DyB.τ).loc Cert.DyB.main_arg1))
      ∧ r.2.sem = fun _ => 0)

def quiescent_DyBIdeal [hDyBIdeal : Cert.DyBIdeal.Facts] : Prop :=
  ∀ (m : (ℓ : Loc Cert.DyBIdeal.nD Cert.DyBIdeal.τ Cert.DyBIdeal.sig) → Buf (Elt Ideal) ℓ) (g : Dev Cert.DyBIdeal.nD → PrngReg), Pre_DyBIdeal m →
    θ_run (Cert.DyBIdeal.defs (F := Ideal)) (onTc (τ := Cert.DyBIdeal.τ) (Cert.DyBIdeal.main (F := Ideal))) ⟨m, fun _ => 0, g⟩ (fun r => (∀ c : Dev Cert.DyBIdeal.nD,
      r.2.mem ((c.tc : Thread Cert.DyBIdeal.nD Cert.DyBIdeal.τ).loc Cert.DyBIdeal.main_arg0) = m ((c.tc : Thread Cert.DyBIdeal.nD Cert.DyBIdeal.τ).loc Cert.DyBIdeal.main_arg0)
      ∧ r.2.mem ((c.tc : Thread Cert.DyBIdeal.nD Cert.DyBIdeal.τ).loc Cert.DyBIdeal.main_arg1) = m ((c.tc : Thread Cert.DyBIdeal.nD Cert.DyBIdeal.τ).loc Cert.DyBIdeal.main_arg1))
      ∧ r.2.sem = fun _ => 0)

def quiescent_DyBRefIdeal [hDyBRefIdeal : Cert.DyBRefIdeal.Facts] : Prop :=
  ∀ (m : (ℓ : Loc Cert.DyBRefIdeal.nD Cert.DyBRefIdeal.τ Cert.DyBRefIdeal.sig) → Buf (Elt Ideal) ℓ) (g : Dev Cert.DyBRefIdeal.nD → PrngReg), Pre_DyBRefIdeal m →
    θ_run (Cert.DyBRefIdeal.defs (F := Ideal)) (onTc (τ := Cert.DyBRefIdeal.τ) (Cert.DyBRefIdeal.main (F := Ideal))) ⟨m, fun _ => 0, g⟩ (fun r => (∀ c : Dev Cert.DyBRefIdeal.nD,
      r.2.mem ((c.tc : Thread Cert.DyBRefIdeal.nD Cert.DyBRefIdeal.τ).loc Cert.DyBRefIdeal.main_arg0) = m ((c.tc : Thread Cert.DyBRefIdeal.nD Cert.DyBRefIdeal.τ).loc Cert.DyBRefIdeal.main_arg0)
      ∧ r.2.mem ((c.tc : Thread Cert.DyBRefIdeal.nD Cert.DyBRefIdeal.τ).loc Cert.DyBRefIdeal.main_arg1) = m ((c.tc : Thread Cert.DyBRefIdeal.nD Cert.DyBRefIdeal.τ).loc Cert.DyBRefIdeal.main_arg1))
      ∧ r.2.sem = fun _ => 0)

def quiescent_DwBrA [hDwBrA : Cert.DwBrA.Facts] : Prop :=
  ∀ (m : (ℓ : Loc Cert.DwBrA.nD Cert.DwBrA.τ Cert.DwBrA.sig) → Buf (Elt Bits) ℓ) (g : Dev Cert.DwBrA.nD → PrngReg), Pre_DwBrA m →
    θ_run (Cert.DwBrA.defs (F := Bits)) (onTc (τ := Cert.DwBrA.τ) (Cert.DwBrA.main (F := Bits))) ⟨m, fun _ => 0, g⟩ (fun r => (∀ c : Dev Cert.DwBrA.nD,
      r.2.mem ((c.tc : Thread Cert.DwBrA.nD Cert.DwBrA.τ).loc Cert.DwBrA.main_arg0) = m ((c.tc : Thread Cert.DwBrA.nD Cert.DwBrA.τ).loc Cert.DwBrA.main_arg0)
      ∧ r.2.mem ((c.tc : Thread Cert.DwBrA.nD Cert.DwBrA.τ).loc Cert.DwBrA.main_arg1) = m ((c.tc : Thread Cert.DwBrA.nD Cert.DwBrA.τ).loc Cert.DwBrA.main_arg1))
      ∧ r.2.sem = fun _ => 0)

def quiescent_DwBrAIdeal [hDwBrAIdeal : Cert.DwBrAIdeal.Facts] : Prop :=
  ∀ (m : (ℓ : Loc Cert.DwBrAIdeal.nD Cert.DwBrAIdeal.τ Cert.DwBrAIdeal.sig) → Buf (Elt Ideal) ℓ) (g : Dev Cert.DwBrAIdeal.nD → PrngReg), Pre_DwBrAIdeal m →
    θ_run (Cert.DwBrAIdeal.defs (F := Ideal)) (onTc (τ := Cert.DwBrAIdeal.τ) (Cert.DwBrAIdeal.main (F := Ideal))) ⟨m, fun _ => 0, g⟩ (fun r => (∀ c : Dev Cert.DwBrAIdeal.nD,
      r.2.mem ((c.tc : Thread Cert.DwBrAIdeal.nD Cert.DwBrAIdeal.τ).loc Cert.DwBrAIdeal.main_arg0) = m ((c.tc : Thread Cert.DwBrAIdeal.nD Cert.DwBrAIdeal.τ).loc Cert.DwBrAIdeal.main_arg0)
      ∧ r.2.mem ((c.tc : Thread Cert.DwBrAIdeal.nD Cert.DwBrAIdeal.τ).loc Cert.DwBrAIdeal.main_arg1) = m ((c.tc : Thread Cert.DwBrAIdeal.nD Cert.DwBrAIdeal.τ).loc Cert.DwBrAIdeal.main_arg1))
      ∧ r.2.sem = fun _ => 0)

def quiescent_DwBrARefIdeal [hDwBrARefIdeal : Cert.DwBrARefIdeal.Facts] : Prop :=
  ∀ (m : (ℓ : Loc Cert.DwBrARefIdeal.nD Cert.DwBrARefIdeal.τ Cert.DwBrARefIdeal.sig) → Buf (Elt Ideal) ℓ) (g : Dev Cert.DwBrARefIdeal.nD → PrngReg), Pre_DwBrARefIdeal m →
    θ_run (Cert.DwBrARefIdeal.defs (F := Ideal)) (onTc (τ := Cert.DwBrARefIdeal.τ) (Cert.DwBrARefIdeal.main (F := Ideal))) ⟨m, fun _ => 0, g⟩ (fun r => (∀ c : Dev Cert.DwBrARefIdeal.nD,
      r.2.mem ((c.tc : Thread Cert.DwBrARefIdeal.nD Cert.DwBrARefIdeal.τ).loc Cert.DwBrARefIdeal.main_arg0) = m ((c.tc : Thread Cert.DwBrARefIdeal.nD Cert.DwBrARefIdeal.τ).loc Cert.DwBrARefIdeal.main_arg0)
      ∧ r.2.mem ((c.tc : Thread Cert.DwBrARefIdeal.nD Cert.DwBrARefIdeal.τ).loc Cert.DwBrARefIdeal.main_arg1) = m ((c.tc : Thread Cert.DwBrARefIdeal.nD Cert.DwBrARefIdeal.τ).loc Cert.DwBrARefIdeal.main_arg1))
      ∧ r.2.sem = fun _ => 0)

def quiescent_DwBrB [hDwBrB : Cert.DwBrB.Facts] : Prop :=
  ∀ (m : (ℓ : Loc Cert.DwBrB.nD Cert.DwBrB.τ Cert.DwBrB.sig) → Buf (Elt Bits) ℓ) (g : Dev Cert.DwBrB.nD → PrngReg), Pre_DwBrB m →
    θ_run (Cert.DwBrB.defs (F := Bits)) (onTc (τ := Cert.DwBrB.τ) (Cert.DwBrB.main (F := Bits))) ⟨m, fun _ => 0, g⟩ (fun r => (∀ c : Dev Cert.DwBrB.nD,
      r.2.mem ((c.tc : Thread Cert.DwBrB.nD Cert.DwBrB.τ).loc Cert.DwBrB.main_arg0) = m ((c.tc : Thread Cert.DwBrB.nD Cert.DwBrB.τ).loc Cert.DwBrB.main_arg0)
      ∧ r.2.mem ((c.tc : Thread Cert.DwBrB.nD Cert.DwBrB.τ).loc Cert.DwBrB.main_arg1) = m ((c.tc : Thread Cert.DwBrB.nD Cert.DwBrB.τ).loc Cert.DwBrB.main_arg1))
      ∧ r.2.sem = fun _ => 0)

def quiescent_DwBrBIdeal [hDwBrBIdeal : Cert.DwBrBIdeal.Facts] : Prop :=
  ∀ (m : (ℓ : Loc Cert.DwBrBIdeal.nD Cert.DwBrBIdeal.τ Cert.DwBrBIdeal.sig) → Buf (Elt Ideal) ℓ) (g : Dev Cert.DwBrBIdeal.nD → PrngReg), Pre_DwBrBIdeal m →
    θ_run (Cert.DwBrBIdeal.defs (F := Ideal)) (onTc (τ := Cert.DwBrBIdeal.τ) (Cert.DwBrBIdeal.main (F := Ideal))) ⟨m, fun _ => 0, g⟩ (fun r => (∀ c : Dev Cert.DwBrBIdeal.nD,
      r.2.mem ((c.tc : Thread Cert.DwBrBIdeal.nD Cert.DwBrBIdeal.τ).loc Cert.DwBrBIdeal.main_arg0) = m ((c.tc : Thread Cert.DwBrBIdeal.nD Cert.DwBrBIdeal.τ).loc Cert.DwBrBIdeal.main_arg0)
      ∧ r.2.mem ((c.tc : Thread Cert.DwBrBIdeal.nD Cert.DwBrBIdeal.τ).loc Cert.DwBrBIdeal.main_arg1) = m ((c.tc : Thread Cert.DwBrBIdeal.nD Cert.DwBrBIdeal.τ).loc Cert.DwBrBIdeal.main_arg1))
      ∧ r.2.sem = fun _ => 0)

def quiescent_DwBrBRefIdeal [hDwBrBRefIdeal : Cert.DwBrBRefIdeal.Facts] : Prop :=
  ∀ (m : (ℓ : Loc Cert.DwBrBRefIdeal.nD Cert.DwBrBRefIdeal.τ Cert.DwBrBRefIdeal.sig) → Buf (Elt Ideal) ℓ) (g : Dev Cert.DwBrBRefIdeal.nD → PrngReg), Pre_DwBrBRefIdeal m →
    θ_run (Cert.DwBrBRefIdeal.defs (F := Ideal)) (onTc (τ := Cert.DwBrBRefIdeal.τ) (Cert.DwBrBRefIdeal.main (F := Ideal))) ⟨m, fun _ => 0, g⟩ (fun r => (∀ c : Dev Cert.DwBrBRefIdeal.nD,
      r.2.mem ((c.tc : Thread Cert.DwBrBRefIdeal.nD Cert.DwBrBRefIdeal.τ).loc Cert.DwBrBRefIdeal.main_arg0) = m ((c.tc : Thread Cert.DwBrBRefIdeal.nD Cert.DwBrBRefIdeal.τ).loc Cert.DwBrBRefIdeal.main_arg0)
      ∧ r.2.mem ((c.tc : Thread Cert.DwBrBRefIdeal.nD Cert.DwBrBRefIdeal.τ).loc Cert.DwBrBRefIdeal.main_arg1) = m ((c.tc : Thread Cert.DwBrBRefIdeal.nD Cert.DwBrBRefIdeal.τ).loc Cert.DwBrBRefIdeal.main_arg1))
      ∧ r.2.sem = fun _ => 0)

def quiescent_InC [hInC : Cert.InC.Facts] : Prop :=
  ∀ (m : (ℓ : Loc Cert.InC.nD Cert.InC.τ Cert.InC.sig) → Buf (Elt Bits) ℓ) (g : Dev Cert.InC.nD → PrngReg), Pre_InC m →
    θ_run (Cert.InC.defs (F := Bits)) (onTc (τ := Cert.InC.τ) (Cert.InC.main (F := Bits))) ⟨m, fun _ => 0, g⟩ (fun r => (∀ c : Dev Cert.InC.nD,
      r.2.mem ((c.tc : Thread Cert.InC.nD Cert.InC.τ).loc Cert.InC.main_arg0) = m ((c.tc : Thread Cert.InC.nD Cert.InC.τ).loc Cert.InC.main_arg0)
      ∧ r.2.mem ((c.tc : Thread Cert.InC.nD Cert.InC.τ).loc Cert.InC.main_arg1) = m ((c.tc : Thread Cert.InC.nD Cert.InC.τ).loc Cert.InC.main_arg1))
      ∧ r.2.sem = fun _ => 0)

def quiescent_InCIdeal [hInCIdeal : Cert.InCIdeal.Facts] : Prop :=
  ∀ (m : (ℓ : Loc Cert.InCIdeal.nD Cert.InCIdeal.τ Cert.InCIdeal.sig) → Buf (Elt Ideal) ℓ) (g : Dev Cert.InCIdeal.nD → PrngReg), Pre_InCIdeal m →
    θ_run (Cert.InCIdeal.defs (F := Ideal)) (onTc (τ := Cert.InCIdeal.τ) (Cert.InCIdeal.main (F := Ideal))) ⟨m, fun _ => 0, g⟩ (fun r => (∀ c : Dev Cert.InCIdeal.nD,
      r.2.mem ((c.tc : Thread Cert.InCIdeal.nD Cert.InCIdeal.τ).loc Cert.InCIdeal.main_arg0) = m ((c.tc : Thread Cert.InCIdeal.nD Cert.InCIdeal.τ).loc Cert.InCIdeal.main_arg0)
      ∧ r.2.mem ((c.tc : Thread Cert.InCIdeal.nD Cert.InCIdeal.τ).loc Cert.InCIdeal.main_arg1) = m ((c.tc : Thread Cert.InCIdeal.nD Cert.InCIdeal.τ).loc Cert.InCIdeal.main_arg1))
      ∧ r.2.sem = fun _ => 0)

def quiescent_InCRefIdeal [hInCRefIdeal : Cert.InCRefIdeal.Facts] : Prop :=
  ∀ (m : (ℓ : Loc Cert.InCRefIdeal.nD Cert.InCRefIdeal.τ Cert.InCRefIdeal.sig) → Buf (Elt Ideal) ℓ) (g : Dev Cert.InCRefIdeal.nD → PrngReg), Pre_InCRefIdeal m →
    θ_run (Cert.InCRefIdeal.defs (F := Ideal)) (onTc (τ := Cert.InCRefIdeal.τ) (Cert.InCRefIdeal.main (F := Ideal))) ⟨m, fun _ => 0, g⟩ (fun r => (∀ c : Dev Cert.InCRefIdeal.nD,
      r.2.mem ((c.tc : Thread Cert.InCRefIdeal.nD Cert.InCRefIdeal.τ).loc Cert.InCRefIdeal.main_arg0) = m ((c.tc : Thread Cert.InCRefIdeal.nD Cert.InCRefIdeal.τ).loc Cert.InCRefIdeal.main_arg0)
      ∧ r.2.mem ((c.tc : Thread Cert.InCRefIdeal.nD Cert.InCRefIdeal.τ).loc Cert.InCRefIdeal.main_arg1) = m ((c.tc : Thread Cert.InCRefIdeal.nD Cert.InCRefIdeal.τ).loc Cert.InCRefIdeal.main_arg1))
      ∧ r.2.sem = fun _ => 0)

def quiescent_DhC [hDhC : Cert.DhC.Facts] : Prop :=
  ∀ (m : (ℓ : Loc Cert.DhC.nD Cert.DhC.τ Cert.DhC.sig) → Buf (Elt Bits) ℓ) (g : Dev Cert.DhC.nD → PrngReg), Pre_DhC m →
    θ_run (Cert.DhC.defs (F := Bits)) (onTc (τ := Cert.DhC.τ) (Cert.DhC.main (F := Bits))) ⟨m, fun _ => 0, g⟩ (fun r => (∀ c : Dev Cert.DhC.nD,
      r.2.mem ((c.tc : Thread Cert.DhC.nD Cert.DhC.τ).loc Cert.DhC.main_arg0) = m ((c.tc : Thread Cert.DhC.nD Cert.DhC.τ).loc Cert.DhC.main_arg0)
      ∧ r.2.mem ((c.tc : Thread Cert.DhC.nD Cert.DhC.τ).loc Cert.DhC.main_arg1) = m ((c.tc : Thread Cert.DhC.nD Cert.DhC.τ).loc Cert.DhC.main_arg1)
      ∧ r.2.mem ((c.tc : Thread Cert.DhC.nD Cert.DhC.τ).loc Cert.DhC.main_arg2) = m ((c.tc : Thread Cert.DhC.nD Cert.DhC.τ).loc Cert.DhC.main_arg2))
      ∧ r.2.sem = fun _ => 0)

def quiescent_DhCIdeal [hDhCIdeal : Cert.DhCIdeal.Facts] : Prop :=
  ∀ (m : (ℓ : Loc Cert.DhCIdeal.nD Cert.DhCIdeal.τ Cert.DhCIdeal.sig) → Buf (Elt Ideal) ℓ) (g : Dev Cert.DhCIdeal.nD → PrngReg), Pre_DhCIdeal m →
    θ_run (Cert.DhCIdeal.defs (F := Ideal)) (onTc (τ := Cert.DhCIdeal.τ) (Cert.DhCIdeal.main (F := Ideal))) ⟨m, fun _ => 0, g⟩ (fun r => (∀ c : Dev Cert.DhCIdeal.nD,
      r.2.mem ((c.tc : Thread Cert.DhCIdeal.nD Cert.DhCIdeal.τ).loc Cert.DhCIdeal.main_arg0) = m ((c.tc : Thread Cert.DhCIdeal.nD Cert.DhCIdeal.τ).loc Cert.DhCIdeal.main_arg0)
      ∧ r.2.mem ((c.tc : Thread Cert.DhCIdeal.nD Cert.DhCIdeal.τ).loc Cert.DhCIdeal.main_arg1) = m ((c.tc : Thread Cert.DhCIdeal.nD Cert.DhCIdeal.τ).loc Cert.DhCIdeal.main_arg1)
      ∧ r.2.mem ((c.tc : Thread Cert.DhCIdeal.nD Cert.DhCIdeal.τ).loc Cert.DhCIdeal.main_arg2) = m ((c.tc : Thread Cert.DhCIdeal.nD Cert.DhCIdeal.τ).loc Cert.DhCIdeal.main_arg2))
      ∧ r.2.sem = fun _ => 0)

def quiescent_DhCRefIdeal [hDhCRefIdeal : Cert.DhCRefIdeal.Facts] : Prop :=
  ∀ (m : (ℓ : Loc Cert.DhCRefIdeal.nD Cert.DhCRefIdeal.τ Cert.DhCRefIdeal.sig) → Buf (Elt Ideal) ℓ) (g : Dev Cert.DhCRefIdeal.nD → PrngReg), Pre_DhCRefIdeal m →
    θ_run (Cert.DhCRefIdeal.defs (F := Ideal)) (onTc (τ := Cert.DhCRefIdeal.τ) (Cert.DhCRefIdeal.main (F := Ideal))) ⟨m, fun _ => 0, g⟩ (fun r => (∀ c : Dev Cert.DhCRefIdeal.nD,
      r.2.mem ((c.tc : Thread Cert.DhCRefIdeal.nD Cert.DhCRefIdeal.τ).loc Cert.DhCRefIdeal.main_arg0) = m ((c.tc : Thread Cert.DhCRefIdeal.nD Cert.DhCRefIdeal.τ).loc Cert.DhCRefIdeal.main_arg0)
      ∧ r.2.mem ((c.tc : Thread Cert.DhCRefIdeal.nD Cert.DhCRefIdeal.τ).loc Cert.DhCRefIdeal.main_arg1) = m ((c.tc : Thread Cert.DhCRefIdeal.nD Cert.DhCRefIdeal.τ).loc Cert.DhCRefIdeal.main_arg1)
      ∧ r.2.mem ((c.tc : Thread Cert.DhCRefIdeal.nD Cert.DhCRefIdeal.τ).loc Cert.DhCRefIdeal.main_arg2) = m ((c.tc : Thread Cert.DhCRefIdeal.nD Cert.DhCRefIdeal.τ).loc Cert.DhCRefIdeal.main_arg2))
      ∧ r.2.sem = fun _ => 0)

def quiescent_DwC [hDwC : Cert.DwC.Facts] : Prop :=
  ∀ (m : (ℓ : Loc Cert.DwC.nD Cert.DwC.τ Cert.DwC.sig) → Buf (Elt Bits) ℓ) (g : Dev Cert.DwC.nD → PrngReg), Pre_DwC m →
    θ_run (Cert.DwC.defs (F := Bits)) (onTc (τ := Cert.DwC.τ) (Cert.DwC.main (F := Bits))) ⟨m, fun _ => 0, g⟩ (fun r => (∀ c : Dev Cert.DwC.nD,
      r.2.mem ((c.tc : Thread Cert.DwC.nD Cert.DwC.τ).loc Cert.DwC.main_arg0) = m ((c.tc : Thread Cert.DwC.nD Cert.DwC.τ).loc Cert.DwC.main_arg0)
      ∧ r.2.mem ((c.tc : Thread Cert.DwC.nD Cert.DwC.τ).loc Cert.DwC.main_arg1) = m ((c.tc : Thread Cert.DwC.nD Cert.DwC.τ).loc Cert.DwC.main_arg1))
      ∧ r.2.sem = fun _ => 0)

def quiescent_DwCIdeal [hDwCIdeal : Cert.DwCIdeal.Facts] : Prop :=
  ∀ (m : (ℓ : Loc Cert.DwCIdeal.nD Cert.DwCIdeal.τ Cert.DwCIdeal.sig) → Buf (Elt Ideal) ℓ) (g : Dev Cert.DwCIdeal.nD → PrngReg), Pre_DwCIdeal m →
    θ_run (Cert.DwCIdeal.defs (F := Ideal)) (onTc (τ := Cert.DwCIdeal.τ) (Cert.DwCIdeal.main (F := Ideal))) ⟨m, fun _ => 0, g⟩ (fun r => (∀ c : Dev Cert.DwCIdeal.nD,
      r.2.mem ((c.tc : Thread Cert.DwCIdeal.nD Cert.DwCIdeal.τ).loc Cert.DwCIdeal.main_arg0) = m ((c.tc : Thread Cert.DwCIdeal.nD Cert.DwCIdeal.τ).loc Cert.DwCIdeal.main_arg0)
      ∧ r.2.mem ((c.tc : Thread Cert.DwCIdeal.nD Cert.DwCIdeal.τ).loc Cert.DwCIdeal.main_arg1) = m ((c.tc : Thread Cert.DwCIdeal.nD Cert.DwCIdeal.τ).loc Cert.DwCIdeal.main_arg1))
      ∧ r.2.sem = fun _ => 0)

def quiescent_DwCRefIdeal [hDwCRefIdeal : Cert.DwCRefIdeal.Facts] : Prop :=
  ∀ (m : (ℓ : Loc Cert.DwCRefIdeal.nD Cert.DwCRefIdeal.τ Cert.DwCRefIdeal.sig) → Buf (Elt Ideal) ℓ) (g : Dev Cert.DwCRefIdeal.nD → PrngReg), Pre_DwCRefIdeal m →
    θ_run (Cert.DwCRefIdeal.defs (F := Ideal)) (onTc (τ := Cert.DwCRefIdeal.τ) (Cert.DwCRefIdeal.main (F := Ideal))) ⟨m, fun _ => 0, g⟩ (fun r => (∀ c : Dev Cert.DwCRefIdeal.nD,
      r.2.mem ((c.tc : Thread Cert.DwCRefIdeal.nD Cert.DwCRefIdeal.τ).loc Cert.DwCRefIdeal.main_arg0) = m ((c.tc : Thread Cert.DwCRefIdeal.nD Cert.DwCRefIdeal.τ).loc Cert.DwCRefIdeal.main_arg0)
      ∧ r.2.mem ((c.tc : Thread Cert.DwCRefIdeal.nD Cert.DwCRefIdeal.τ).loc Cert.DwCRefIdeal.main_arg1) = m ((c.tc : Thread Cert.DwCRefIdeal.nD Cert.DwCRefIdeal.τ).loc Cert.DwCRefIdeal.main_arg1))
      ∧ r.2.sem = fun _ => 0)

def quiescent_Rms [hRms : Cert.Rms.Facts] : Prop :=
  ∀ (m : (ℓ : Loc Cert.Rms.nD Cert.Rms.τ Cert.Rms.sig) → Buf (Elt Bits) ℓ) (g : Dev Cert.Rms.nD → PrngReg), Pre_Rms m →
    θ_run (Cert.Rms.defs (F := Bits)) (onTc (τ := Cert.Rms.τ) (Cert.Rms.main (F := Bits))) ⟨m, fun _ => 0, g⟩ (fun r => (∀ c : Dev Cert.Rms.nD,
      r.2.mem ((c.tc : Thread Cert.Rms.nD Cert.Rms.τ).loc Cert.Rms.main_arg0) = m ((c.tc : Thread Cert.Rms.nD Cert.Rms.τ).loc Cert.Rms.main_arg0)
      ∧ r.2.mem ((c.tc : Thread Cert.Rms.nD Cert.Rms.τ).loc Cert.Rms.main_arg1) = m ((c.tc : Thread Cert.Rms.nD Cert.Rms.τ).loc Cert.Rms.main_arg1))
      ∧ r.2.sem = fun _ => 0)

def quiescent_RmsIdeal [hRmsIdeal : Cert.RmsIdeal.Facts] : Prop :=
  ∀ (m : (ℓ : Loc Cert.RmsIdeal.nD Cert.RmsIdeal.τ Cert.RmsIdeal.sig) → Buf (Elt Ideal) ℓ) (g : Dev Cert.RmsIdeal.nD → PrngReg), Pre_RmsIdeal m →
    θ_run (Cert.RmsIdeal.defs (F := Ideal)) (onTc (τ := Cert.RmsIdeal.τ) (Cert.RmsIdeal.main (F := Ideal))) ⟨m, fun _ => 0, g⟩ (fun r => (∀ c : Dev Cert.RmsIdeal.nD,
      r.2.mem ((c.tc : Thread Cert.RmsIdeal.nD Cert.RmsIdeal.τ).loc Cert.RmsIdeal.main_arg0) = m ((c.tc : Thread Cert.RmsIdeal.nD Cert.RmsIdeal.τ).loc Cert.RmsIdeal.main_arg0)
      ∧ r.2.mem ((c.tc : Thread Cert.RmsIdeal.nD Cert.RmsIdeal.τ).loc Cert.RmsIdeal.main_arg1) = m ((c.tc : Thread Cert.RmsIdeal.nD Cert.RmsIdeal.τ).loc Cert.RmsIdeal.main_arg1))
      ∧ r.2.sem = fun _ => 0)

def quiescent_RmsRefIdeal [hRmsRefIdeal : Cert.RmsRefIdeal.Facts] : Prop :=
  ∀ (m : (ℓ : Loc Cert.RmsRefIdeal.nD Cert.RmsRefIdeal.τ Cert.RmsRefIdeal.sig) → Buf (Elt Ideal) ℓ) (g : Dev Cert.RmsRefIdeal.nD → PrngReg), Pre_RmsRefIdeal m →
    θ_run (Cert.RmsRefIdeal.defs (F := Ideal)) (onTc (τ := Cert.RmsRefIdeal.τ) (Cert.RmsRefIdeal.main (F := Ideal))) ⟨m, fun _ => 0, g⟩ (fun r => (∀ c : Dev Cert.RmsRefIdeal.nD,
      r.2.mem ((c.tc : Thread Cert.RmsRefIdeal.nD Cert.RmsRefIdeal.τ).loc Cert.RmsRefIdeal.main_arg0) = m ((c.tc : Thread Cert.RmsRefIdeal.nD Cert.RmsRefIdeal.τ).loc Cert.RmsRefIdeal.main_arg0)
      ∧ r.2.mem ((c.tc : Thread Cert.RmsRefIdeal.nD Cert.RmsRefIdeal.τ).loc Cert.RmsRefIdeal.main_arg1) = m ((c.tc : Thread Cert.RmsRefIdeal.nD Cert.RmsRefIdeal.τ).loc Cert.RmsRefIdeal.main_arg1))
      ∧ r.2.sem = fun _ => 0)

def quiescent_RmsMem [hRmsMem : Cert.RmsMem.Facts] : Prop :=
  ∀ (m : (ℓ : Loc Cert.RmsMem.nD Cert.RmsMem.τ Cert.RmsMem.sig) → Buf (Elt Bits) ℓ) (g : Dev Cert.RmsMem.nD → PrngReg), Pre_RmsMem m →
    θ_run (Cert.RmsMem.defs (F := Bits)) (onTc (τ := Cert.RmsMem.τ) (Cert.RmsMem.main (F := Bits))) ⟨m, fun _ => 0, g⟩ (fun r => (∀ c : Dev Cert.RmsMem.nD,
      r.2.mem ((c.tc : Thread Cert.RmsMem.nD Cert.RmsMem.τ).loc Cert.RmsMem.main_arg0) = m ((c.tc : Thread Cert.RmsMem.nD Cert.RmsMem.τ).loc Cert.RmsMem.main_arg0)
      ∧ r.2.mem ((c.tc : Thread Cert.RmsMem.nD Cert.RmsMem.τ).loc Cert.RmsMem.main_arg1) = m ((c.tc : Thread Cert.RmsMem.nD Cert.RmsMem.τ).loc Cert.RmsMem.main_arg1))
      ∧ r.2.sem = fun _ => 0)

def quiescent_RmsMemIdeal [hRmsMemIdeal : Cert.RmsMemIdeal.Facts] : Prop :=
  ∀ (m : (ℓ : Loc Cert.RmsMemIdeal.nD Cert.RmsMemIdeal.τ Cert.RmsMemIdeal.sig) → Buf (Elt Ideal) ℓ) (g : Dev Cert.RmsMemIdeal.nD → PrngReg), Pre_RmsMemIdeal m →
    θ_run (Cert.RmsMemIdeal.defs (F := Ideal)) (onTc (τ := Cert.RmsMemIdeal.τ) (Cert.RmsMemIdeal.main (F := Ideal))) ⟨m, fun _ => 0, g⟩ (fun r => (∀ c : Dev Cert.RmsMemIdeal.nD,
      r.2.mem ((c.tc : Thread Cert.RmsMemIdeal.nD Cert.RmsMemIdeal.τ).loc Cert.RmsMemIdeal.main_arg0) = m ((c.tc : Thread Cert.RmsMemIdeal.nD Cert.RmsMemIdeal.τ).loc Cert.RmsMemIdeal.main_arg0)
      ∧ r.2.mem ((c.tc : Thread Cert.RmsMemIdeal.nD Cert.RmsMemIdeal.τ).loc Cert.RmsMemIdeal.main_arg1) = m ((c.tc : Thread Cert.RmsMemIdeal.nD Cert.RmsMemIdeal.τ).loc Cert.RmsMemIdeal.main_arg1))
      ∧ r.2.sem = fun _ => 0)

def quiescent_RmsMemRefIdeal [hRmsMemRefIdeal : Cert.RmsMemRefIdeal.Facts] : Prop :=
  ∀ (m : (ℓ : Loc Cert.RmsMemRefIdeal.nD Cert.RmsMemRefIdeal.τ Cert.RmsMemRefIdeal.sig) → Buf (Elt Ideal) ℓ) (g : Dev Cert.RmsMemRefIdeal.nD → PrngReg), Pre_RmsMemRefIdeal m →
    θ_run (Cert.RmsMemRefIdeal.defs (F := Ideal)) (onTc (τ := Cert.RmsMemRefIdeal.τ) (Cert.RmsMemRefIdeal.main (F := Ideal))) ⟨m, fun _ => 0, g⟩ (fun r => (∀ c : Dev Cert.RmsMemRefIdeal.nD,
      r.2.mem ((c.tc : Thread Cert.RmsMemRefIdeal.nD Cert.RmsMemRefIdeal.τ).loc Cert.RmsMemRefIdeal.main_arg0) = m ((c.tc : Thread Cert.RmsMemRefIdeal.nD Cert.RmsMemRefIdeal.τ).loc Cert.RmsMemRefIdeal.main_arg0)
      ∧ r.2.mem ((c.tc : Thread Cert.RmsMemRefIdeal.nD Cert.RmsMemRefIdeal.τ).loc Cert.RmsMemRefIdeal.main_arg1) = m ((c.tc : Thread Cert.RmsMemRefIdeal.nD Cert.RmsMemRefIdeal.τ).loc Cert.RmsMemRefIdeal.main_arg1))
      ∧ r.2.sem = fun _ => 0)

def quiescent_RmsCq [hRmsCq : Cert.RmsCq.Facts] : Prop :=
  ∀ (m : (ℓ : Loc Cert.RmsCq.nD Cert.RmsCq.τ Cert.RmsCq.sig) → Buf (Elt Bits) ℓ) (g : Dev Cert.RmsCq.nD → PrngReg), Pre_RmsCq m →
    θ_run (Cert.RmsCq.defs (F := Bits)) (onTc (τ := Cert.RmsCq.τ) (Cert.RmsCq.main (F := Bits))) ⟨m, fun _ => 0, g⟩ (fun r => (∀ c : Dev Cert.RmsCq.nD,
      r.2.mem ((c.tc : Thread Cert.RmsCq.nD Cert.RmsCq.τ).loc Cert.RmsCq.main_arg0) = m ((c.tc : Thread Cert.RmsCq.nD Cert.RmsCq.τ).loc Cert.RmsCq.main_arg0)
      ∧ r.2.mem ((c.tc : Thread Cert.RmsCq.nD Cert.RmsCq.τ).loc Cert.RmsCq.main_arg1) = m ((c.tc : Thread Cert.RmsCq.nD Cert.RmsCq.τ).loc Cert.RmsCq.main_arg1))
      ∧ r.2.sem = fun _ => 0)

def quiescent_RmsCqIdeal [hRmsCqIdeal : Cert.RmsCqIdeal.Facts] : Prop :=
  ∀ (m : (ℓ : Loc Cert.RmsCqIdeal.nD Cert.RmsCqIdeal.τ Cert.RmsCqIdeal.sig) → Buf (Elt Ideal) ℓ) (g : Dev Cert.RmsCqIdeal.nD → PrngReg), Pre_RmsCqIdeal m →
    θ_run (Cert.RmsCqIdeal.defs (F := Ideal)) (onTc (τ := Cert.RmsCqIdeal.τ) (Cert.RmsCqIdeal.main (F := Ideal))) ⟨m, fun _ => 0, g⟩ (fun r => (∀ c : Dev Cert.RmsCqIdeal.nD,
      r.2.mem ((c.tc : Thread Cert.RmsCqIdeal.nD Cert.RmsCqIdeal.τ).loc Cert.RmsCqIdeal.main_arg0) = m ((c.tc : Thread Cert.RmsCqIdeal.nD Cert.RmsCqIdeal.τ).loc Cert.RmsCqIdeal.main_arg0)
      ∧ r.2.mem ((c.tc : Thread Cert.RmsCqIdeal.nD Cert.RmsCqIdeal.τ).loc Cert.RmsCqIdeal.main_arg1) = m ((c.tc : Thread Cert.RmsCqIdeal.nD Cert.RmsCqIdeal.τ).loc Cert.RmsCqIdeal.main_arg1))
      ∧ r.2.sem = fun _ => 0)

def quiescent_RmsCqRefIdeal [hRmsCqRefIdeal : Cert.RmsCqRefIdeal.Facts] : Prop :=
  ∀ (m : (ℓ : Loc Cert.RmsCqRefIdeal.nD Cert.RmsCqRefIdeal.τ Cert.RmsCqRefIdeal.sig) → Buf (Elt Ideal) ℓ) (g : Dev Cert.RmsCqRefIdeal.nD → PrngReg), Pre_RmsCqRefIdeal m →
    θ_run (Cert.RmsCqRefIdeal.defs (F := Ideal)) (onTc (τ := Cert.RmsCqRefIdeal.τ) (Cert.RmsCqRefIdeal.main (F := Ideal))) ⟨m, fun _ => 0, g⟩ (fun r => (∀ c : Dev Cert.RmsCqRefIdeal.nD,
      r.2.mem ((c.tc : Thread Cert.RmsCqRefIdeal.nD Cert.RmsCqRefIdeal.τ).loc Cert.RmsCqRefIdeal.main_arg0) = m ((c.tc : Thread Cert.RmsCqRefIdeal.nD Cert.RmsCqRefIdeal.τ).loc Cert.RmsCqRefIdeal.main_arg0)
      ∧ r.2.mem ((c.tc : Thread Cert.RmsCqRefIdeal.nD Cert.RmsCqRefIdeal.τ).loc Cert.RmsCqRefIdeal.main_arg1) = m ((c.tc : Thread Cert.RmsCqRefIdeal.nD Cert.RmsCqRefIdeal.τ).loc Cert.RmsCqRefIdeal.main_arg1))
      ∧ r.2.sem = fun _ => 0)

def quiescent_RmsCkv [hRmsCkv : Cert.RmsCkv.Facts] : Prop :=
  ∀ (m : (ℓ : Loc Cert.RmsCkv.nD Cert.RmsCkv.τ Cert.RmsCkv.sig) → Buf (Elt Bits) ℓ) (g : Dev Cert.RmsCkv.nD → PrngReg), Pre_RmsCkv m →
    θ_run (Cert.RmsCkv.defs (F := Bits)) (onTc (τ := Cert.RmsCkv.τ) (Cert.RmsCkv.main (F := Bits))) ⟨m, fun _ => 0, g⟩ (fun r => (∀ c : Dev Cert.RmsCkv.nD,
      r.2.mem ((c.tc : Thread Cert.RmsCkv.nD Cert.RmsCkv.τ).loc Cert.RmsCkv.main_arg0) = m ((c.tc : Thread Cert.RmsCkv.nD Cert.RmsCkv.τ).loc Cert.RmsCkv.main_arg0)
      ∧ r.2.mem ((c.tc : Thread Cert.RmsCkv.nD Cert.RmsCkv.τ).loc Cert.RmsCkv.main_arg1) = m ((c.tc : Thread Cert.RmsCkv.nD Cert.RmsCkv.τ).loc Cert.RmsCkv.main_arg1))
      ∧ r.2.sem = fun _ => 0)

def quiescent_RmsCkvIdeal [hRmsCkvIdeal : Cert.RmsCkvIdeal.Facts] : Prop :=
  ∀ (m : (ℓ : Loc Cert.RmsCkvIdeal.nD Cert.RmsCkvIdeal.τ Cert.RmsCkvIdeal.sig) → Buf (Elt Ideal) ℓ) (g : Dev Cert.RmsCkvIdeal.nD → PrngReg), Pre_RmsCkvIdeal m →
    θ_run (Cert.RmsCkvIdeal.defs (F := Ideal)) (onTc (τ := Cert.RmsCkvIdeal.τ) (Cert.RmsCkvIdeal.main (F := Ideal))) ⟨m, fun _ => 0, g⟩ (fun r => (∀ c : Dev Cert.RmsCkvIdeal.nD,
      r.2.mem ((c.tc : Thread Cert.RmsCkvIdeal.nD Cert.RmsCkvIdeal.τ).loc Cert.RmsCkvIdeal.main_arg0) = m ((c.tc : Thread Cert.RmsCkvIdeal.nD Cert.RmsCkvIdeal.τ).loc Cert.RmsCkvIdeal.main_arg0)
      ∧ r.2.mem ((c.tc : Thread Cert.RmsCkvIdeal.nD Cert.RmsCkvIdeal.τ).loc Cert.RmsCkvIdeal.main_arg1) = m ((c.tc : Thread Cert.RmsCkvIdeal.nD Cert.RmsCkvIdeal.τ).loc Cert.RmsCkvIdeal.main_arg1))
      ∧ r.2.sem = fun _ => 0)

def quiescent_RmsCkvRefIdeal [hRmsCkvRefIdeal : Cert.RmsCkvRefIdeal.Facts] : Prop :=
  ∀ (m : (ℓ : Loc Cert.RmsCkvRefIdeal.nD Cert.RmsCkvRefIdeal.τ Cert.RmsCkvRefIdeal.sig) → Buf (Elt Ideal) ℓ) (g : Dev Cert.RmsCkvRefIdeal.nD → PrngReg), Pre_RmsCkvRefIdeal m →
    θ_run (Cert.RmsCkvRefIdeal.defs (F := Ideal)) (onTc (τ := Cert.RmsCkvRefIdeal.τ) (Cert.RmsCkvRefIdeal.main (F := Ideal))) ⟨m, fun _ => 0, g⟩ (fun r => (∀ c : Dev Cert.RmsCkvRefIdeal.nD,
      r.2.mem ((c.tc : Thread Cert.RmsCkvRefIdeal.nD Cert.RmsCkvRefIdeal.τ).loc Cert.RmsCkvRefIdeal.main_arg0) = m ((c.tc : Thread Cert.RmsCkvRefIdeal.nD Cert.RmsCkvRefIdeal.τ).loc Cert.RmsCkvRefIdeal.main_arg0)
      ∧ r.2.mem ((c.tc : Thread Cert.RmsCkvRefIdeal.nD Cert.RmsCkvRefIdeal.τ).loc Cert.RmsCkvRefIdeal.main_arg1) = m ((c.tc : Thread Cert.RmsCkvRefIdeal.nD Cert.RmsCkvRefIdeal.τ).loc Cert.RmsCkvRefIdeal.main_arg1))
      ∧ r.2.sem = fun _ => 0)

def quiescent_Xkv [hXkv : Cert.Xkv.Facts] : Prop :=
  ∀ (m : (ℓ : Loc Cert.Xkv.nD Cert.Xkv.τ Cert.Xkv.sig) → Buf (Elt Bits) ℓ) (g : Dev Cert.Xkv.nD → PrngReg), Pre_Xkv m →
    θ_run (Cert.Xkv.defs (F := Bits)) (onTc (τ := Cert.Xkv.τ) (Cert.Xkv.main (F := Bits))) ⟨m, fun _ => 0, g⟩ (fun r => (∀ c : Dev Cert.Xkv.nD,
      r.2.mem ((c.tc : Thread Cert.Xkv.nD Cert.Xkv.τ).loc Cert.Xkv.main_arg0) = m ((c.tc : Thread Cert.Xkv.nD Cert.Xkv.τ).loc Cert.Xkv.main_arg0)
      ∧ r.2.mem ((c.tc : Thread Cert.Xkv.nD Cert.Xkv.τ).loc Cert.Xkv.main_arg1) = m ((c.tc : Thread Cert.Xkv.nD Cert.Xkv.τ).loc Cert.Xkv.main_arg1))
      ∧ r.2.sem = fun _ => 0)

def quiescent_XkvIdeal [hXkvIdeal : Cert.XkvIdeal.Facts] : Prop :=
  ∀ (m : (ℓ : Loc Cert.XkvIdeal.nD Cert.XkvIdeal.τ Cert.XkvIdeal.sig) → Buf (Elt Ideal) ℓ) (g : Dev Cert.XkvIdeal.nD → PrngReg), Pre_XkvIdeal m →
    θ_run (Cert.XkvIdeal.defs (F := Ideal)) (onTc (τ := Cert.XkvIdeal.τ) (Cert.XkvIdeal.main (F := Ideal))) ⟨m, fun _ => 0, g⟩ (fun r => (∀ c : Dev Cert.XkvIdeal.nD,
      r.2.mem ((c.tc : Thread Cert.XkvIdeal.nD Cert.XkvIdeal.τ).loc Cert.XkvIdeal.main_arg0) = m ((c.tc : Thread Cert.XkvIdeal.nD Cert.XkvIdeal.τ).loc Cert.XkvIdeal.main_arg0)
      ∧ r.2.mem ((c.tc : Thread Cert.XkvIdeal.nD Cert.XkvIdeal.τ).loc Cert.XkvIdeal.main_arg1) = m ((c.tc : Thread Cert.XkvIdeal.nD Cert.XkvIdeal.τ).loc Cert.XkvIdeal.main_arg1))
      ∧ r.2.sem = fun _ => 0)

def quiescent_XkvRefIdeal [hXkvRefIdeal : Cert.XkvRefIdeal.Facts] : Prop :=
  ∀ (m : (ℓ : Loc Cert.XkvRefIdeal.nD Cert.XkvRefIdeal.τ Cert.XkvRefIdeal.sig) → Buf (Elt Ideal) ℓ) (g : Dev Cert.XkvRefIdeal.nD → PrngReg), Pre_XkvRefIdeal m →
    θ_run (Cert.XkvRefIdeal.defs (F := Ideal)) (onTc (τ := Cert.XkvRefIdeal.τ) (Cert.XkvRefIdeal.main (F := Ideal))) ⟨m, fun _ => 0, g⟩ (fun r => (∀ c : Dev Cert.XkvRefIdeal.nD,
      r.2.mem ((c.tc : Thread Cert.XkvRefIdeal.nD Cert.XkvRefIdeal.τ).loc Cert.XkvRefIdeal.main_arg0) = m ((c.tc : Thread Cert.XkvRefIdeal.nD Cert.XkvRefIdeal.τ).loc Cert.XkvRefIdeal.main_arg0)
      ∧ r.2.mem ((c.tc : Thread Cert.XkvRefIdeal.nD Cert.XkvRefIdeal.τ).loc Cert.XkvRefIdeal.main_arg1) = m ((c.tc : Thread Cert.XkvRefIdeal.nD Cert.XkvRefIdeal.τ).loc Cert.XkvRefIdeal.main_arg1))
      ∧ r.2.sem = fun _ => 0)

def quiescent_Dmemn [hDmemn : Cert.Dmemn.Facts] : Prop :=
  ∀ (m : (ℓ : Loc Cert.Dmemn.nD Cert.Dmemn.τ Cert.Dmemn.sig) → Buf (Elt Bits) ℓ) (g : Dev Cert.Dmemn.nD → PrngReg), Pre_Dmemn m →
    θ_run (Cert.Dmemn.defs (F := Bits)) (onTc (τ := Cert.Dmemn.τ) (Cert.Dmemn.main (F := Bits))) ⟨m, fun _ => 0, g⟩ (fun r => (∀ c : Dev Cert.Dmemn.nD,
      r.2.mem ((c.tc : Thread Cert.Dmemn.nD Cert.Dmemn.τ).loc Cert.Dmemn.main_arg0) = m ((c.tc : Thread Cert.Dmemn.nD Cert.Dmemn.τ).loc Cert.Dmemn.main_arg0)
      ∧ r.2.mem ((c.tc : Thread Cert.Dmemn.nD Cert.Dmemn.τ).loc Cert.Dmemn.main_arg1) = m ((c.tc : Thread Cert.Dmemn.nD Cert.Dmemn.τ).loc Cert.Dmemn.main_arg1))
      ∧ r.2.sem = fun _ => 0)

def quiescent_DmemnIdeal [hDmemnIdeal : Cert.DmemnIdeal.Facts] : Prop :=
  ∀ (m : (ℓ : Loc Cert.DmemnIdeal.nD Cert.DmemnIdeal.τ Cert.DmemnIdeal.sig) → Buf (Elt Ideal) ℓ) (g : Dev Cert.DmemnIdeal.nD → PrngReg), Pre_DmemnIdeal m →
    θ_run (Cert.DmemnIdeal.defs (F := Ideal)) (onTc (τ := Cert.DmemnIdeal.τ) (Cert.DmemnIdeal.main (F := Ideal))) ⟨m, fun _ => 0, g⟩ (fun r => (∀ c : Dev Cert.DmemnIdeal.nD,
      r.2.mem ((c.tc : Thread Cert.DmemnIdeal.nD Cert.DmemnIdeal.τ).loc Cert.DmemnIdeal.main_arg0) = m ((c.tc : Thread Cert.DmemnIdeal.nD Cert.DmemnIdeal.τ).loc Cert.DmemnIdeal.main_arg0)
      ∧ r.2.mem ((c.tc : Thread Cert.DmemnIdeal.nD Cert.DmemnIdeal.τ).loc Cert.DmemnIdeal.main_arg1) = m ((c.tc : Thread Cert.DmemnIdeal.nD Cert.DmemnIdeal.τ).loc Cert.DmemnIdeal.main_arg1))
      ∧ r.2.sem = fun _ => 0)

def quiescent_DmemnRefIdeal [hDmemnRefIdeal : Cert.DmemnRefIdeal.Facts] : Prop :=
  ∀ (m : (ℓ : Loc Cert.DmemnRefIdeal.nD Cert.DmemnRefIdeal.τ Cert.DmemnRefIdeal.sig) → Buf (Elt Ideal) ℓ) (g : Dev Cert.DmemnRefIdeal.nD → PrngReg), Pre_DmemnRefIdeal m →
    θ_run (Cert.DmemnRefIdeal.defs (F := Ideal)) (onTc (τ := Cert.DmemnRefIdeal.τ) (Cert.DmemnRefIdeal.main (F := Ideal))) ⟨m, fun _ => 0, g⟩ (fun r => (∀ c : Dev Cert.DmemnRefIdeal.nD,
      r.2.mem ((c.tc : Thread Cert.DmemnRefIdeal.nD Cert.DmemnRefIdeal.τ).loc Cert.DmemnRefIdeal.main_arg0) = m ((c.tc : Thread Cert.DmemnRefIdeal.nD Cert.DmemnRefIdeal.τ).loc Cert.DmemnRefIdeal.main_arg0)
      ∧ r.2.mem ((c.tc : Thread Cert.DmemnRefIdeal.nD Cert.DmemnRefIdeal.τ).loc Cert.DmemnRefIdeal.main_arg1) = m ((c.tc : Thread Cert.DmemnRefIdeal.nD Cert.DmemnRefIdeal.τ).loc Cert.DmemnRefIdeal.main_arg1))
      ∧ r.2.sem = fun _ => 0)

def quiescent_Dwkv [hDwkv : Cert.Dwkv.Facts] : Prop :=
  ∀ (m : (ℓ : Loc Cert.Dwkv.nD Cert.Dwkv.τ Cert.Dwkv.sig) → Buf (Elt Bits) ℓ) (g : Dev Cert.Dwkv.nD → PrngReg), Pre_Dwkv m →
    θ_run (Cert.Dwkv.defs (F := Bits)) (onTc (τ := Cert.Dwkv.τ) (Cert.Dwkv.main (F := Bits))) ⟨m, fun _ => 0, g⟩ (fun r => (∀ c : Dev Cert.Dwkv.nD,
      r.2.mem ((c.tc : Thread Cert.Dwkv.nD Cert.Dwkv.τ).loc Cert.Dwkv.main_arg0) = m ((c.tc : Thread Cert.Dwkv.nD Cert.Dwkv.τ).loc Cert.Dwkv.main_arg0)
      ∧ r.2.mem ((c.tc : Thread Cert.Dwkv.nD Cert.Dwkv.τ).loc Cert.Dwkv.main_arg1) = m ((c.tc : Thread Cert.Dwkv.nD Cert.Dwkv.τ).loc Cert.Dwkv.main_arg1))
      ∧ r.2.sem = fun _ => 0)

def quiescent_DwkvIdeal [hDwkvIdeal : Cert.DwkvIdeal.Facts] : Prop :=
  ∀ (m : (ℓ : Loc Cert.DwkvIdeal.nD Cert.DwkvIdeal.τ Cert.DwkvIdeal.sig) → Buf (Elt Ideal) ℓ) (g : Dev Cert.DwkvIdeal.nD → PrngReg), Pre_DwkvIdeal m →
    θ_run (Cert.DwkvIdeal.defs (F := Ideal)) (onTc (τ := Cert.DwkvIdeal.τ) (Cert.DwkvIdeal.main (F := Ideal))) ⟨m, fun _ => 0, g⟩ (fun r => (∀ c : Dev Cert.DwkvIdeal.nD,
      r.2.mem ((c.tc : Thread Cert.DwkvIdeal.nD Cert.DwkvIdeal.τ).loc Cert.DwkvIdeal.main_arg0) = m ((c.tc : Thread Cert.DwkvIdeal.nD Cert.DwkvIdeal.τ).loc Cert.DwkvIdeal.main_arg0)
      ∧ r.2.mem ((c.tc : Thread Cert.DwkvIdeal.nD Cert.DwkvIdeal.τ).loc Cert.DwkvIdeal.main_arg1) = m ((c.tc : Thread Cert.DwkvIdeal.nD Cert.DwkvIdeal.τ).loc Cert.DwkvIdeal.main_arg1))
      ∧ r.2.sem = fun _ => 0)

def quiescent_DwkvRefIdeal [hDwkvRefIdeal : Cert.DwkvRefIdeal.Facts] : Prop :=
  ∀ (m : (ℓ : Loc Cert.DwkvRefIdeal.nD Cert.DwkvRefIdeal.τ Cert.DwkvRefIdeal.sig) → Buf (Elt Ideal) ℓ) (g : Dev Cert.DwkvRefIdeal.nD → PrngReg), Pre_DwkvRefIdeal m →
    θ_run (Cert.DwkvRefIdeal.defs (F := Ideal)) (onTc (τ := Cert.DwkvRefIdeal.τ) (Cert.DwkvRefIdeal.main (F := Ideal))) ⟨m, fun _ => 0, g⟩ (fun r => (∀ c : Dev Cert.DwkvRefIdeal.nD,
      r.2.mem ((c.tc : Thread Cert.DwkvRefIdeal.nD Cert.DwkvRefIdeal.τ).loc Cert.DwkvRefIdeal.main_arg0) = m ((c.tc : Thread Cert.DwkvRefIdeal.nD Cert.DwkvRefIdeal.τ).loc Cert.DwkvRefIdeal.main_arg0)
      ∧ r.2.mem ((c.tc : Thread Cert.DwkvRefIdeal.nD Cert.DwkvRefIdeal.τ).loc Cert.DwkvRefIdeal.main_arg1) = m ((c.tc : Thread Cert.DwkvRefIdeal.nD Cert.DwkvRefIdeal.τ).loc Cert.DwkvRefIdeal.main_arg1))
      ∧ r.2.sem = fun _ => 0)

def quiescent_InA [hInA : Cert.InA.Facts] : Prop :=
  ∀ (m : (ℓ : Loc Cert.InA.nD Cert.InA.τ Cert.InA.sig) → Buf (Elt Bits) ℓ) (g : Dev Cert.InA.nD → PrngReg), Pre_InA m →
    θ_run (Cert.InA.defs (F := Bits)) (onTc (τ := Cert.InA.τ) (Cert.InA.main (F := Bits))) ⟨m, fun _ => 0, g⟩ (fun r => (∀ c : Dev Cert.InA.nD,
      r.2.mem ((c.tc : Thread Cert.InA.nD Cert.InA.τ).loc Cert.InA.main_arg0) = m ((c.tc : Thread Cert.InA.nD Cert.InA.τ).loc Cert.InA.main_arg0)
      ∧ r.2.mem ((c.tc : Thread Cert.InA.nD Cert.InA.τ).loc Cert.InA.main_arg1) = m ((c.tc : Thread Cert.InA.nD Cert.InA.τ).loc Cert.InA.main_arg1))
      ∧ r.2.sem = fun _ => 0)

def quiescent_InAIdeal [hInAIdeal : Cert.InAIdeal.Facts] : Prop :=
  ∀ (m : (ℓ : Loc Cert.InAIdeal.nD Cert.InAIdeal.τ Cert.InAIdeal.sig) → Buf (Elt Ideal) ℓ) (g : Dev Cert.InAIdeal.nD → PrngReg), Pre_InAIdeal m →
    θ_run (Cert.InAIdeal.defs (F := Ideal)) (onTc (τ := Cert.InAIdeal.τ) (Cert.InAIdeal.main (F := Ideal))) ⟨m, fun _ => 0, g⟩ (fun r => (∀ c : Dev Cert.InAIdeal.nD,
      r.2.mem ((c.tc : Thread Cert.InAIdeal.nD Cert.InAIdeal.τ).loc Cert.InAIdeal.main_arg0) = m ((c.tc : Thread Cert.InAIdeal.nD Cert.InAIdeal.τ).loc Cert.InAIdeal.main_arg0)
      ∧ r.2.mem ((c.tc : Thread Cert.InAIdeal.nD Cert.InAIdeal.τ).loc Cert.InAIdeal.main_arg1) = m ((c.tc : Thread Cert.InAIdeal.nD Cert.InAIdeal.τ).loc Cert.InAIdeal.main_arg1))
      ∧ r.2.sem = fun _ => 0)

def quiescent_InARefIdeal [hInARefIdeal : Cert.InARefIdeal.Facts] : Prop :=
  ∀ (m : (ℓ : Loc Cert.InARefIdeal.nD Cert.InARefIdeal.τ Cert.InARefIdeal.sig) → Buf (Elt Ideal) ℓ) (g : Dev Cert.InARefIdeal.nD → PrngReg), Pre_InARefIdeal m →
    θ_run (Cert.InARefIdeal.defs (F := Ideal)) (onTc (τ := Cert.InARefIdeal.τ) (Cert.InARefIdeal.main (F := Ideal))) ⟨m, fun _ => 0, g⟩ (fun r => (∀ c : Dev Cert.InARefIdeal.nD,
      r.2.mem ((c.tc : Thread Cert.InARefIdeal.nD Cert.InARefIdeal.τ).loc Cert.InARefIdeal.main_arg0) = m ((c.tc : Thread Cert.InARefIdeal.nD Cert.InARefIdeal.τ).loc Cert.InARefIdeal.main_arg0)
      ∧ r.2.mem ((c.tc : Thread Cert.InARefIdeal.nD Cert.InARefIdeal.τ).loc Cert.InARefIdeal.main_arg1) = m ((c.tc : Thread Cert.InARefIdeal.nD Cert.InARefIdeal.τ).loc Cert.InARefIdeal.main_arg1))
      ∧ r.2.sem = fun _ => 0)

def quiescent_Ukv [hUkv : Cert.Ukv.Facts] : Prop :=
  ∀ (m : (ℓ : Loc Cert.Ukv.nD Cert.Ukv.τ Cert.Ukv.sig) → Buf (Elt Bits) ℓ) (g : Dev Cert.Ukv.nD → PrngReg), Pre_Ukv m →
    θ_run (Cert.Ukv.defs (F := Bits)) (onTc (τ := Cert.Ukv.τ) (Cert.Ukv.main (F := Bits))) ⟨m, fun _ => 0, g⟩ (fun r => (∀ c : Dev Cert.Ukv.nD,
      r.2.mem ((c.tc : Thread Cert.Ukv.nD Cert.Ukv.τ).loc Cert.Ukv.main_arg0) = m ((c.tc : Thread Cert.Ukv.nD Cert.Ukv.τ).loc Cert.Ukv.main_arg0)
      ∧ r.2.mem ((c.tc : Thread Cert.Ukv.nD Cert.Ukv.τ).loc Cert.Ukv.main_arg1) = m ((c.tc : Thread Cert.Ukv.nD Cert.Ukv.τ).loc Cert.Ukv.main_arg1))
      ∧ r.2.sem = fun _ => 0)

def quiescent_UkvIdeal [hUkvIdeal : Cert.UkvIdeal.Facts] : Prop :=
  ∀ (m : (ℓ : Loc Cert.UkvIdeal.nD Cert.UkvIdeal.τ Cert.UkvIdeal.sig) → Buf (Elt Ideal) ℓ) (g : Dev Cert.UkvIdeal.nD → PrngReg), Pre_UkvIdeal m →
    θ_run (Cert.UkvIdeal.defs (F := Ideal)) (onTc (τ := Cert.UkvIdeal.τ) (Cert.UkvIdeal.main (F := Ideal))) ⟨m, fun _ => 0, g⟩ (fun r => (∀ c : Dev Cert.UkvIdeal.nD,
      r.2.mem ((c.tc : Thread Cert.UkvIdeal.nD Cert.UkvIdeal.τ).loc Cert.UkvIdeal.main_arg0) = m ((c.tc : Thread Cert.UkvIdeal.nD Cert.UkvIdeal.τ).loc Cert.UkvIdeal.main_arg0)
      ∧ r.2.mem ((c.tc : Thread Cert.UkvIdeal.nD Cert.UkvIdeal.τ).loc Cert.UkvIdeal.main_arg1) = m ((c.tc : Thread Cert.UkvIdeal.nD Cert.UkvIdeal.τ).loc Cert.UkvIdeal.main_arg1))
      ∧ r.2.sem = fun _ => 0)

def quiescent_UkvRefIdeal [hUkvRefIdeal : Cert.UkvRefIdeal.Facts] : Prop :=
  ∀ (m : (ℓ : Loc Cert.UkvRefIdeal.nD Cert.UkvRefIdeal.τ Cert.UkvRefIdeal.sig) → Buf (Elt Ideal) ℓ) (g : Dev Cert.UkvRefIdeal.nD → PrngReg), Pre_UkvRefIdeal m →
    θ_run (Cert.UkvRefIdeal.defs (F := Ideal)) (onTc (τ := Cert.UkvRefIdeal.τ) (Cert.UkvRefIdeal.main (F := Ideal))) ⟨m, fun _ => 0, g⟩ (fun r => (∀ c : Dev Cert.UkvRefIdeal.nD,
      r.2.mem ((c.tc : Thread Cert.UkvRefIdeal.nD Cert.UkvRefIdeal.τ).loc Cert.UkvRefIdeal.main_arg0) = m ((c.tc : Thread Cert.UkvRefIdeal.nD Cert.UkvRefIdeal.τ).loc Cert.UkvRefIdeal.main_arg0)
      ∧ r.2.mem ((c.tc : Thread Cert.UkvRefIdeal.nD Cert.UkvRefIdeal.τ).loc Cert.UkvRefIdeal.main_arg1) = m ((c.tc : Thread Cert.UkvRefIdeal.nD Cert.UkvRefIdeal.τ).loc Cert.UkvRefIdeal.main_arg1))
      ∧ r.2.sem = fun _ => 0)

def quiescent_DhCq [hDhCq : Cert.DhCq.Facts] : Prop :=
  ∀ (m : (ℓ : Loc Cert.DhCq.nD Cert.DhCq.τ Cert.DhCq.sig) → Buf (Elt Bits) ℓ) (g : Dev Cert.DhCq.nD → PrngReg), Pre_DhCq m →
    θ_run (Cert.DhCq.defs (F := Bits)) (onTc (τ := Cert.DhCq.τ) (Cert.DhCq.main (F := Bits))) ⟨m, fun _ => 0, g⟩ (fun r => (∀ c : Dev Cert.DhCq.nD,
      r.2.mem ((c.tc : Thread Cert.DhCq.nD Cert.DhCq.τ).loc Cert.DhCq.main_arg0) = m ((c.tc : Thread Cert.DhCq.nD Cert.DhCq.τ).loc Cert.DhCq.main_arg0)
      ∧ r.2.mem ((c.tc : Thread Cert.DhCq.nD Cert.DhCq.τ).loc Cert.DhCq.main_arg1) = m ((c.tc : Thread Cert.DhCq.nD Cert.DhCq.τ).loc Cert.DhCq.main_arg1)
      ∧ r.2.mem ((c.tc : Thread Cert.DhCq.nD Cert.DhCq.τ).loc Cert.DhCq.main_arg2) = m ((c.tc : Thread Cert.DhCq.nD Cert.DhCq.τ).loc Cert.DhCq.main_arg2))
      ∧ r.2.sem = fun _ => 0)

def quiescent_DhCqIdeal [hDhCqIdeal : Cert.DhCqIdeal.Facts] : Prop :=
  ∀ (m : (ℓ : Loc Cert.DhCqIdeal.nD Cert.DhCqIdeal.τ Cert.DhCqIdeal.sig) → Buf (Elt Ideal) ℓ) (g : Dev Cert.DhCqIdeal.nD → PrngReg), Pre_DhCqIdeal m →
    θ_run (Cert.DhCqIdeal.defs (F := Ideal)) (onTc (τ := Cert.DhCqIdeal.τ) (Cert.DhCqIdeal.main (F := Ideal))) ⟨m, fun _ => 0, g⟩ (fun r => (∀ c : Dev Cert.DhCqIdeal.nD,
      r.2.mem ((c.tc : Thread Cert.DhCqIdeal.nD Cert.DhCqIdeal.τ).loc Cert.DhCqIdeal.main_arg0) = m ((c.tc : Thread Cert.DhCqIdeal.nD Cert.DhCqIdeal.τ).loc Cert.DhCqIdeal.main_arg0)
      ∧ r.2.mem ((c.tc : Thread Cert.DhCqIdeal.nD Cert.DhCqIdeal.τ).loc Cert.DhCqIdeal.main_arg1) = m ((c.tc : Thread Cert.DhCqIdeal.nD Cert.DhCqIdeal.τ).loc Cert.DhCqIdeal.main_arg1)
      ∧ r.2.mem ((c.tc : Thread Cert.DhCqIdeal.nD Cert.DhCqIdeal.τ).loc Cert.DhCqIdeal.main_arg2) = m ((c.tc : Thread Cert.DhCqIdeal.nD Cert.DhCqIdeal.τ).loc Cert.DhCqIdeal.main_arg2))
      ∧ r.2.sem = fun _ => 0)

def quiescent_DhCqRefIdeal [hDhCqRefIdeal : Cert.DhCqRefIdeal.Facts] : Prop :=
  ∀ (m : (ℓ : Loc Cert.DhCqRefIdeal.nD Cert.DhCqRefIdeal.τ Cert.DhCqRefIdeal.sig) → Buf (Elt Ideal) ℓ) (g : Dev Cert.DhCqRefIdeal.nD → PrngReg), Pre_DhCqRefIdeal m →
    θ_run (Cert.DhCqRefIdeal.defs (F := Ideal)) (onTc (τ := Cert.DhCqRefIdeal.τ) (Cert.DhCqRefIdeal.main (F := Ideal))) ⟨m, fun _ => 0, g⟩ (fun r => (∀ c : Dev Cert.DhCqRefIdeal.nD,
      r.2.mem ((c.tc : Thread Cert.DhCqRefIdeal.nD Cert.DhCqRefIdeal.τ).loc Cert.DhCqRefIdeal.main_arg0) = m ((c.tc : Thread Cert.DhCqRefIdeal.nD Cert.DhCqRefIdeal.τ).loc Cert.DhCqRefIdeal.main_arg0)
      ∧ r.2.mem ((c.tc : Thread Cert.DhCqRefIdeal.nD Cert.DhCqRefIdeal.τ).loc Cert.DhCqRefIdeal.main_arg1) = m ((c.tc : Thread Cert.DhCqRefIdeal.nD Cert.DhCqRefIdeal.τ).loc Cert.DhCqRefIdeal.main_arg1)
      ∧ r.2.mem ((c.tc : Thread Cert.DhCqRefIdeal.nD Cert.DhCqRefIdeal.τ).loc Cert.DhCqRefIdeal.main_arg2) = m ((c.tc : Thread Cert.DhCqRefIdeal.nD Cert.DhCqRefIdeal.τ).loc Cert.DhCqRefIdeal.main_arg2))
      ∧ r.2.sem = fun _ => 0)

def quiescent_DhCkv [hDhCkv : Cert.DhCkv.Facts] : Prop :=
  ∀ (m : (ℓ : Loc Cert.DhCkv.nD Cert.DhCkv.τ Cert.DhCkv.sig) → Buf (Elt Bits) ℓ) (g : Dev Cert.DhCkv.nD → PrngReg), Pre_DhCkv m →
    θ_run (Cert.DhCkv.defs (F := Bits)) (onTc (τ := Cert.DhCkv.τ) (Cert.DhCkv.main (F := Bits))) ⟨m, fun _ => 0, g⟩ (fun r => (∀ c : Dev Cert.DhCkv.nD,
      r.2.mem ((c.tc : Thread Cert.DhCkv.nD Cert.DhCkv.τ).loc Cert.DhCkv.main_arg0) = m ((c.tc : Thread Cert.DhCkv.nD Cert.DhCkv.τ).loc Cert.DhCkv.main_arg0)
      ∧ r.2.mem ((c.tc : Thread Cert.DhCkv.nD Cert.DhCkv.τ).loc Cert.DhCkv.main_arg1) = m ((c.tc : Thread Cert.DhCkv.nD Cert.DhCkv.τ).loc Cert.DhCkv.main_arg1)
      ∧ r.2.mem ((c.tc : Thread Cert.DhCkv.nD Cert.DhCkv.τ).loc Cert.DhCkv.main_arg2) = m ((c.tc : Thread Cert.DhCkv.nD Cert.DhCkv.τ).loc Cert.DhCkv.main_arg2))
      ∧ r.2.sem = fun _ => 0)

def quiescent_DhCkvIdeal [hDhCkvIdeal : Cert.DhCkvIdeal.Facts] : Prop :=
  ∀ (m : (ℓ : Loc Cert.DhCkvIdeal.nD Cert.DhCkvIdeal.τ Cert.DhCkvIdeal.sig) → Buf (Elt Ideal) ℓ) (g : Dev Cert.DhCkvIdeal.nD → PrngReg), Pre_DhCkvIdeal m →
    θ_run (Cert.DhCkvIdeal.defs (F := Ideal)) (onTc (τ := Cert.DhCkvIdeal.τ) (Cert.DhCkvIdeal.main (F := Ideal))) ⟨m, fun _ => 0, g⟩ (fun r => (∀ c : Dev Cert.DhCkvIdeal.nD,
      r.2.mem ((c.tc : Thread Cert.DhCkvIdeal.nD Cert.DhCkvIdeal.τ).loc Cert.DhCkvIdeal.main_arg0) = m ((c.tc : Thread Cert.DhCkvIdeal.nD Cert.DhCkvIdeal.τ).loc Cert.DhCkvIdeal.main_arg0)
      ∧ r.2.mem ((c.tc : Thread Cert.DhCkvIdeal.nD Cert.DhCkvIdeal.τ).loc Cert.DhCkvIdeal.main_arg1) = m ((c.tc : Thread Cert.DhCkvIdeal.nD Cert.DhCkvIdeal.τ).loc Cert.DhCkvIdeal.main_arg1)
      ∧ r.2.mem ((c.tc : Thread Cert.DhCkvIdeal.nD Cert.DhCkvIdeal.τ).loc Cert.DhCkvIdeal.main_arg2) = m ((c.tc : Thread Cert.DhCkvIdeal.nD Cert.DhCkvIdeal.τ).loc Cert.DhCkvIdeal.main_arg2))
      ∧ r.2.sem = fun _ => 0)

def quiescent_DhCkvRefIdeal [hDhCkvRefIdeal : Cert.DhCkvRefIdeal.Facts] : Prop :=
  ∀ (m : (ℓ : Loc Cert.DhCkvRefIdeal.nD Cert.DhCkvRefIdeal.τ Cert.DhCkvRefIdeal.sig) → Buf (Elt Ideal) ℓ) (g : Dev Cert.DhCkvRefIdeal.nD → PrngReg), Pre_DhCkvRefIdeal m →
    θ_run (Cert.DhCkvRefIdeal.defs (F := Ideal)) (onTc (τ := Cert.DhCkvRefIdeal.τ) (Cert.DhCkvRefIdeal.main (F := Ideal))) ⟨m, fun _ => 0, g⟩ (fun r => (∀ c : Dev Cert.DhCkvRefIdeal.nD,
      r.2.mem ((c.tc : Thread Cert.DhCkvRefIdeal.nD Cert.DhCkvRefIdeal.τ).loc Cert.DhCkvRefIdeal.main_arg0) = m ((c.tc : Thread Cert.DhCkvRefIdeal.nD Cert.DhCkvRefIdeal.τ).loc Cert.DhCkvRefIdeal.main_arg0)
      ∧ r.2.mem ((c.tc : Thread Cert.DhCkvRefIdeal.nD Cert.DhCkvRefIdeal.τ).loc Cert.DhCkvRefIdeal.main_arg1) = m ((c.tc : Thread Cert.DhCkvRefIdeal.nD Cert.DhCkvRefIdeal.τ).loc Cert.DhCkvRefIdeal.main_arg1)
      ∧ r.2.mem ((c.tc : Thread Cert.DhCkvRefIdeal.nD Cert.DhCkvRefIdeal.τ).loc Cert.DhCkvRefIdeal.main_arg2) = m ((c.tc : Thread Cert.DhCkvRefIdeal.nD Cert.DhCkvRefIdeal.τ).loc Cert.DhCkvRefIdeal.main_arg2))
      ∧ r.2.sem = fun _ => 0)

def quiescent_DwCq [hDwCq : Cert.DwCq.Facts] : Prop :=
  ∀ (m : (ℓ : Loc Cert.DwCq.nD Cert.DwCq.τ Cert.DwCq.sig) → Buf (Elt Bits) ℓ) (g : Dev Cert.DwCq.nD → PrngReg), Pre_DwCq m →
    θ_run (Cert.DwCq.defs (F := Bits)) (onTc (τ := Cert.DwCq.τ) (Cert.DwCq.main (F := Bits))) ⟨m, fun _ => 0, g⟩ (fun r => (∀ c : Dev Cert.DwCq.nD,
      r.2.mem ((c.tc : Thread Cert.DwCq.nD Cert.DwCq.τ).loc Cert.DwCq.main_arg0) = m ((c.tc : Thread Cert.DwCq.nD Cert.DwCq.τ).loc Cert.DwCq.main_arg0)
      ∧ r.2.mem ((c.tc : Thread Cert.DwCq.nD Cert.DwCq.τ).loc Cert.DwCq.main_arg1) = m ((c.tc : Thread Cert.DwCq.nD Cert.DwCq.τ).loc Cert.DwCq.main_arg1))
      ∧ r.2.sem = fun _ => 0)

def quiescent_DwCqIdeal [hDwCqIdeal : Cert.DwCqIdeal.Facts] : Prop :=
  ∀ (m : (ℓ : Loc Cert.DwCqIdeal.nD Cert.DwCqIdeal.τ Cert.DwCqIdeal.sig) → Buf (Elt Ideal) ℓ) (g : Dev Cert.DwCqIdeal.nD → PrngReg), Pre_DwCqIdeal m →
    θ_run (Cert.DwCqIdeal.defs (F := Ideal)) (onTc (τ := Cert.DwCqIdeal.τ) (Cert.DwCqIdeal.main (F := Ideal))) ⟨m, fun _ => 0, g⟩ (fun r => (∀ c : Dev Cert.DwCqIdeal.nD,
      r.2.mem ((c.tc : Thread Cert.DwCqIdeal.nD Cert.DwCqIdeal.τ).loc Cert.DwCqIdeal.main_arg0) = m ((c.tc : Thread Cert.DwCqIdeal.nD Cert.DwCqIdeal.τ).loc Cert.DwCqIdeal.main_arg0)
      ∧ r.2.mem ((c.tc : Thread Cert.DwCqIdeal.nD Cert.DwCqIdeal.τ).loc Cert.DwCqIdeal.main_arg1) = m ((c.tc : Thread Cert.DwCqIdeal.nD Cert.DwCqIdeal.τ).loc Cert.DwCqIdeal.main_arg1))
      ∧ r.2.sem = fun _ => 0)

def quiescent_DwCqRefIdeal [hDwCqRefIdeal : Cert.DwCqRefIdeal.Facts] : Prop :=
  ∀ (m : (ℓ : Loc Cert.DwCqRefIdeal.nD Cert.DwCqRefIdeal.τ Cert.DwCqRefIdeal.sig) → Buf (Elt Ideal) ℓ) (g : Dev Cert.DwCqRefIdeal.nD → PrngReg), Pre_DwCqRefIdeal m →
    θ_run (Cert.DwCqRefIdeal.defs (F := Ideal)) (onTc (τ := Cert.DwCqRefIdeal.τ) (Cert.DwCqRefIdeal.main (F := Ideal))) ⟨m, fun _ => 0, g⟩ (fun r => (∀ c : Dev Cert.DwCqRefIdeal.nD,
      r.2.mem ((c.tc : Thread Cert.DwCqRefIdeal.nD Cert.DwCqRefIdeal.τ).loc Cert.DwCqRefIdeal.main_arg0) = m ((c.tc : Thread Cert.DwCqRefIdeal.nD Cert.DwCqRefIdeal.τ).loc Cert.DwCqRefIdeal.main_arg0)
      ∧ r.2.mem ((c.tc : Thread Cert.DwCqRefIdeal.nD Cert.DwCqRefIdeal.τ).loc Cert.DwCqRefIdeal.main_arg1) = m ((c.tc : Thread Cert.DwCqRefIdeal.nD Cert.DwCqRefIdeal.τ).loc Cert.DwCqRefIdeal.main_arg1))
      ∧ r.2.sem = fun _ => 0)

def quiescent_DwCkv [hDwCkv : Cert.DwCkv.Facts] : Prop :=
  ∀ (m : (ℓ : Loc Cert.DwCkv.nD Cert.DwCkv.τ Cert.DwCkv.sig) → Buf (Elt Bits) ℓ) (g : Dev Cert.DwCkv.nD → PrngReg), Pre_DwCkv m →
    θ_run (Cert.DwCkv.defs (F := Bits)) (onTc (τ := Cert.DwCkv.τ) (Cert.DwCkv.main (F := Bits))) ⟨m, fun _ => 0, g⟩ (fun r => (∀ c : Dev Cert.DwCkv.nD,
      r.2.mem ((c.tc : Thread Cert.DwCkv.nD Cert.DwCkv.τ).loc Cert.DwCkv.main_arg0) = m ((c.tc : Thread Cert.DwCkv.nD Cert.DwCkv.τ).loc Cert.DwCkv.main_arg0)
      ∧ r.2.mem ((c.tc : Thread Cert.DwCkv.nD Cert.DwCkv.τ).loc Cert.DwCkv.main_arg1) = m ((c.tc : Thread Cert.DwCkv.nD Cert.DwCkv.τ).loc Cert.DwCkv.main_arg1))
      ∧ r.2.sem = fun _ => 0)

def quiescent_DwCkvIdeal [hDwCkvIdeal : Cert.DwCkvIdeal.Facts] : Prop :=
  ∀ (m : (ℓ : Loc Cert.DwCkvIdeal.nD Cert.DwCkvIdeal.τ Cert.DwCkvIdeal.sig) → Buf (Elt Ideal) ℓ) (g : Dev Cert.DwCkvIdeal.nD → PrngReg), Pre_DwCkvIdeal m →
    θ_run (Cert.DwCkvIdeal.defs (F := Ideal)) (onTc (τ := Cert.DwCkvIdeal.τ) (Cert.DwCkvIdeal.main (F := Ideal))) ⟨m, fun _ => 0, g⟩ (fun r => (∀ c : Dev Cert.DwCkvIdeal.nD,
      r.2.mem ((c.tc : Thread Cert.DwCkvIdeal.nD Cert.DwCkvIdeal.τ).loc Cert.DwCkvIdeal.main_arg0) = m ((c.tc : Thread Cert.DwCkvIdeal.nD Cert.DwCkvIdeal.τ).loc Cert.DwCkvIdeal.main_arg0)
      ∧ r.2.mem ((c.tc : Thread Cert.DwCkvIdeal.nD Cert.DwCkvIdeal.τ).loc Cert.DwCkvIdeal.main_arg1) = m ((c.tc : Thread Cert.DwCkvIdeal.nD Cert.DwCkvIdeal.τ).loc Cert.DwCkvIdeal.main_arg1))
      ∧ r.2.sem = fun _ => 0)

def quiescent_DwCkvRefIdeal [hDwCkvRefIdeal : Cert.DwCkvRefIdeal.Facts] : Prop :=
  ∀ (m : (ℓ : Loc Cert.DwCkvRefIdeal.nD Cert.DwCkvRefIdeal.τ Cert.DwCkvRefIdeal.sig) → Buf (Elt Ideal) ℓ) (g : Dev Cert.DwCkvRefIdeal.nD → PrngReg), Pre_DwCkvRefIdeal m →
    θ_run (Cert.DwCkvRefIdeal.defs (F := Ideal)) (onTc (τ := Cert.DwCkvRefIdeal.τ) (Cert.DwCkvRefIdeal.main (F := Ideal))) ⟨m, fun _ => 0, g⟩ (fun r => (∀ c : Dev Cert.DwCkvRefIdeal.nD,
      r.2.mem ((c.tc : Thread Cert.DwCkvRefIdeal.nD Cert.DwCkvRefIdeal.τ).loc Cert.DwCkvRefIdeal.main_arg0) = m ((c.tc : Thread Cert.DwCkvRefIdeal.nD Cert.DwCkvRefIdeal.τ).loc Cert.DwCkvRefIdeal.main_arg0)
      ∧ r.2.mem ((c.tc : Thread Cert.DwCkvRefIdeal.nD Cert.DwCkvRefIdeal.τ).loc Cert.DwCkvRefIdeal.main_arg1) = m ((c.tc : Thread Cert.DwCkvRefIdeal.nD Cert.DwCkvRefIdeal.τ).loc Cert.DwCkvRefIdeal.main_arg1))
      ∧ r.2.sem = fun _ => 0)

def quiescent_Dcqn [hDcqn : Cert.Dcqn.Facts] : Prop :=
  ∀ (m : (ℓ : Loc Cert.Dcqn.nD Cert.Dcqn.τ Cert.Dcqn.sig) → Buf (Elt Bits) ℓ) (g : Dev Cert.Dcqn.nD → PrngReg), Pre_Dcqn m →
    θ_run (Cert.Dcqn.defs (F := Bits)) (onTc (τ := Cert.Dcqn.τ) (Cert.Dcqn.main (F := Bits))) ⟨m, fun _ => 0, g⟩ (fun r => (∀ c : Dev Cert.Dcqn.nD,
      r.2.mem ((c.tc : Thread Cert.Dcqn.nD Cert.Dcqn.τ).loc Cert.Dcqn.main_arg0) = m ((c.tc : Thread Cert.Dcqn.nD Cert.Dcqn.τ).loc Cert.Dcqn.main_arg0)
      ∧ r.2.mem ((c.tc : Thread Cert.Dcqn.nD Cert.Dcqn.τ).loc Cert.Dcqn.main_arg1) = m ((c.tc : Thread Cert.Dcqn.nD Cert.Dcqn.τ).loc Cert.Dcqn.main_arg1))
      ∧ r.2.sem = fun _ => 0)

def quiescent_DcqnIdeal [hDcqnIdeal : Cert.DcqnIdeal.Facts] : Prop :=
  ∀ (m : (ℓ : Loc Cert.DcqnIdeal.nD Cert.DcqnIdeal.τ Cert.DcqnIdeal.sig) → Buf (Elt Ideal) ℓ) (g : Dev Cert.DcqnIdeal.nD → PrngReg), Pre_DcqnIdeal m →
    θ_run (Cert.DcqnIdeal.defs (F := Ideal)) (onTc (τ := Cert.DcqnIdeal.τ) (Cert.DcqnIdeal.main (F := Ideal))) ⟨m, fun _ => 0, g⟩ (fun r => (∀ c : Dev Cert.DcqnIdeal.nD,
      r.2.mem ((c.tc : Thread Cert.DcqnIdeal.nD Cert.DcqnIdeal.τ).loc Cert.DcqnIdeal.main_arg0) = m ((c.tc : Thread Cert.DcqnIdeal.nD Cert.DcqnIdeal.τ).loc Cert.DcqnIdeal.main_arg0)
      ∧ r.2.mem ((c.tc : Thread Cert.DcqnIdeal.nD Cert.DcqnIdeal.τ).loc Cert.DcqnIdeal.main_arg1) = m ((c.tc : Thread Cert.DcqnIdeal.nD Cert.DcqnIdeal.τ).loc Cert.DcqnIdeal.main_arg1))
      ∧ r.2.sem = fun _ => 0)

def quiescent_DcqnRefIdeal [hDcqnRefIdeal : Cert.DcqnRefIdeal.Facts] : Prop :=
  ∀ (m : (ℓ : Loc Cert.DcqnRefIdeal.nD Cert.DcqnRefIdeal.τ Cert.DcqnRefIdeal.sig) → Buf (Elt Ideal) ℓ) (g : Dev Cert.DcqnRefIdeal.nD → PrngReg), Pre_DcqnRefIdeal m →
    θ_run (Cert.DcqnRefIdeal.defs (F := Ideal)) (onTc (τ := Cert.DcqnRefIdeal.τ) (Cert.DcqnRefIdeal.main (F := Ideal))) ⟨m, fun _ => 0, g⟩ (fun r => (∀ c : Dev Cert.DcqnRefIdeal.nD,
      r.2.mem ((c.tc : Thread Cert.DcqnRefIdeal.nD Cert.DcqnRefIdeal.τ).loc Cert.DcqnRefIdeal.main_arg0) = m ((c.tc : Thread Cert.DcqnRefIdeal.nD Cert.DcqnRefIdeal.τ).loc Cert.DcqnRefIdeal.main_arg0)
      ∧ r.2.mem ((c.tc : Thread Cert.DcqnRefIdeal.nD Cert.DcqnRefIdeal.τ).loc Cert.DcqnRefIdeal.main_arg1) = m ((c.tc : Thread Cert.DcqnRefIdeal.nD Cert.DcqnRefIdeal.τ).loc Cert.DcqnRefIdeal.main_arg1))
      ∧ r.2.sem = fun _ => 0)

def quiescent_Dwq2 [hDwq2 : Cert.Dwq2.Facts] : Prop :=
  ∀ (m : (ℓ : Loc Cert.Dwq2.nD Cert.Dwq2.τ Cert.Dwq2.sig) → Buf (Elt Bits) ℓ) (g : Dev Cert.Dwq2.nD → PrngReg), Pre_Dwq2 m →
    θ_run (Cert.Dwq2.defs (F := Bits)) (onTc (τ := Cert.Dwq2.τ) (Cert.Dwq2.main (F := Bits))) ⟨m, fun _ => 0, g⟩ (fun r => (∀ c : Dev Cert.Dwq2.nD,
      r.2.mem ((c.tc : Thread Cert.Dwq2.nD Cert.Dwq2.τ).loc Cert.Dwq2.main_arg0) = m ((c.tc : Thread Cert.Dwq2.nD Cert.Dwq2.τ).loc Cert.Dwq2.main_arg0)
      ∧ r.2.mem ((c.tc : Thread Cert.Dwq2.nD Cert.Dwq2.τ).loc Cert.Dwq2.main_arg1) = m ((c.tc : Thread Cert.Dwq2.nD Cert.Dwq2.τ).loc Cert.Dwq2.main_arg1))
      ∧ r.2.sem = fun _ => 0)

def quiescent_Dwq2Ideal [hDwq2Ideal : Cert.Dwq2Ideal.Facts] : Prop :=
  ∀ (m : (ℓ : Loc Cert.Dwq2Ideal.nD Cert.Dwq2Ideal.τ Cert.Dwq2Ideal.sig) → Buf (Elt Ideal) ℓ) (g : Dev Cert.Dwq2Ideal.nD → PrngReg), Pre_Dwq2Ideal m →
    θ_run (Cert.Dwq2Ideal.defs (F := Ideal)) (onTc (τ := Cert.Dwq2Ideal.τ) (Cert.Dwq2Ideal.main (F := Ideal))) ⟨m, fun _ => 0, g⟩ (fun r => (∀ c : Dev Cert.Dwq2Ideal.nD,
      r.2.mem ((c.tc : Thread Cert.Dwq2Ideal.nD Cert.Dwq2Ideal.τ).loc Cert.Dwq2Ideal.main_arg0) = m ((c.tc : Thread Cert.Dwq2Ideal.nD Cert.Dwq2Ideal.τ).loc Cert.Dwq2Ideal.main_arg0)
      ∧ r.2.mem ((c.tc : Thread Cert.Dwq2Ideal.nD Cert.Dwq2Ideal.τ).loc Cert.Dwq2Ideal.main_arg1) = m ((c.tc : Thread Cert.Dwq2Ideal.nD Cert.Dwq2Ideal.τ).loc Cert.Dwq2Ideal.main_arg1))
      ∧ r.2.sem = fun _ => 0)

def quiescent_Dwq2RefIdeal [hDwq2RefIdeal : Cert.Dwq2RefIdeal.Facts] : Prop :=
  ∀ (m : (ℓ : Loc Cert.Dwq2RefIdeal.nD Cert.Dwq2RefIdeal.τ Cert.Dwq2RefIdeal.sig) → Buf (Elt Ideal) ℓ) (g : Dev Cert.Dwq2RefIdeal.nD → PrngReg), Pre_Dwq2RefIdeal m →
    θ_run (Cert.Dwq2RefIdeal.defs (F := Ideal)) (onTc (τ := Cert.Dwq2RefIdeal.τ) (Cert.Dwq2RefIdeal.main (F := Ideal))) ⟨m, fun _ => 0, g⟩ (fun r => (∀ c : Dev Cert.Dwq2RefIdeal.nD,
      r.2.mem ((c.tc : Thread Cert.Dwq2RefIdeal.nD Cert.Dwq2RefIdeal.τ).loc Cert.Dwq2RefIdeal.main_arg0) = m ((c.tc : Thread Cert.Dwq2RefIdeal.nD Cert.Dwq2RefIdeal.τ).loc Cert.Dwq2RefIdeal.main_arg0)
      ∧ r.2.mem ((c.tc : Thread Cert.Dwq2RefIdeal.nD Cert.Dwq2RefIdeal.τ).loc Cert.Dwq2RefIdeal.main_arg1) = m ((c.tc : Thread Cert.Dwq2RefIdeal.nD Cert.Dwq2RefIdeal.τ).loc Cert.Dwq2RefIdeal.main_arg1))
      ∧ r.2.sem = fun _ => 0)

def quiescent_DckvnK [hDckvnK : Cert.DckvnK.Facts] : Prop :=
  ∀ (m : (ℓ : Loc Cert.DckvnK.nD Cert.DckvnK.τ Cert.DckvnK.sig) → Buf (Elt Bits) ℓ) (g : Dev Cert.DckvnK.nD → PrngReg), Pre_DckvnK m →
    θ_run (Cert.DckvnK.defs (F := Bits)) (onTc (τ := Cert.DckvnK.τ) (Cert.DckvnK.main (F := Bits))) ⟨m, fun _ => 0, g⟩ (fun r => (∀ c : Dev Cert.DckvnK.nD,
      r.2.mem ((c.tc : Thread Cert.DckvnK.nD Cert.DckvnK.τ).loc Cert.DckvnK.main_arg0) = m ((c.tc : Thread Cert.DckvnK.nD Cert.DckvnK.τ).loc Cert.DckvnK.main_arg0)
      ∧ r.2.mem ((c.tc : Thread Cert.DckvnK.nD Cert.DckvnK.τ).loc Cert.DckvnK.main_arg1) = m ((c.tc : Thread Cert.DckvnK.nD Cert.DckvnK.τ).loc Cert.DckvnK.main_arg1))
      ∧ r.2.sem = fun _ => 0)

def quiescent_DckvnKIdeal [hDckvnKIdeal : Cert.DckvnKIdeal.Facts] : Prop :=
  ∀ (m : (ℓ : Loc Cert.DckvnKIdeal.nD Cert.DckvnKIdeal.τ Cert.DckvnKIdeal.sig) → Buf (Elt Ideal) ℓ) (g : Dev Cert.DckvnKIdeal.nD → PrngReg), Pre_DckvnKIdeal m →
    θ_run (Cert.DckvnKIdeal.defs (F := Ideal)) (onTc (τ := Cert.DckvnKIdeal.τ) (Cert.DckvnKIdeal.main (F := Ideal))) ⟨m, fun _ => 0, g⟩ (fun r => (∀ c : Dev Cert.DckvnKIdeal.nD,
      r.2.mem ((c.tc : Thread Cert.DckvnKIdeal.nD Cert.DckvnKIdeal.τ).loc Cert.DckvnKIdeal.main_arg0) = m ((c.tc : Thread Cert.DckvnKIdeal.nD Cert.DckvnKIdeal.τ).loc Cert.DckvnKIdeal.main_arg0)
      ∧ r.2.mem ((c.tc : Thread Cert.DckvnKIdeal.nD Cert.DckvnKIdeal.τ).loc Cert.DckvnKIdeal.main_arg1) = m ((c.tc : Thread Cert.DckvnKIdeal.nD Cert.DckvnKIdeal.τ).loc Cert.DckvnKIdeal.main_arg1))
      ∧ r.2.sem = fun _ => 0)

def quiescent_DckvnKRefIdeal [hDckvnKRefIdeal : Cert.DckvnKRefIdeal.Facts] : Prop :=
  ∀ (m : (ℓ : Loc Cert.DckvnKRefIdeal.nD Cert.DckvnKRefIdeal.τ Cert.DckvnKRefIdeal.sig) → Buf (Elt Ideal) ℓ) (g : Dev Cert.DckvnKRefIdeal.nD → PrngReg), Pre_DckvnKRefIdeal m →
    θ_run (Cert.DckvnKRefIdeal.defs (F := Ideal)) (onTc (τ := Cert.DckvnKRefIdeal.τ) (Cert.DckvnKRefIdeal.main (F := Ideal))) ⟨m, fun _ => 0, g⟩ (fun r => (∀ c : Dev Cert.DckvnKRefIdeal.nD,
      r.2.mem ((c.tc : Thread Cert.DckvnKRefIdeal.nD Cert.DckvnKRefIdeal.τ).loc Cert.DckvnKRefIdeal.main_arg0) = m ((c.tc : Thread Cert.DckvnKRefIdeal.nD Cert.DckvnKRefIdeal.τ).loc Cert.DckvnKRefIdeal.main_arg0)
      ∧ r.2.mem ((c.tc : Thread Cert.DckvnKRefIdeal.nD Cert.DckvnKRefIdeal.τ).loc Cert.DckvnKRefIdeal.main_arg1) = m ((c.tc : Thread Cert.DckvnKRefIdeal.nD Cert.DckvnKRefIdeal.τ).loc Cert.DckvnKRefIdeal.main_arg1))
      ∧ r.2.sem = fun _ => 0)

def quiescent_DckvnV [hDckvnV : Cert.DckvnV.Facts] : Prop :=
  ∀ (m : (ℓ : Loc Cert.DckvnV.nD Cert.DckvnV.τ Cert.DckvnV.sig) → Buf (Elt Bits) ℓ) (g : Dev Cert.DckvnV.nD → PrngReg), Pre_DckvnV m →
    θ_run (Cert.DckvnV.defs (F := Bits)) (onTc (τ := Cert.DckvnV.τ) (Cert.DckvnV.main (F := Bits))) ⟨m, fun _ => 0, g⟩ (fun r => (∀ c : Dev Cert.DckvnV.nD,
      r.2.mem ((c.tc : Thread Cert.DckvnV.nD Cert.DckvnV.τ).loc Cert.DckvnV.main_arg0) = m ((c.tc : Thread Cert.DckvnV.nD Cert.DckvnV.τ).loc Cert.DckvnV.main_arg0)
      ∧ r.2.mem ((c.tc : Thread Cert.DckvnV.nD Cert.DckvnV.τ).loc Cert.DckvnV.main_arg1) = m ((c.tc : Thread Cert.DckvnV.nD Cert.DckvnV.τ).loc Cert.DckvnV.main_arg1)
      ∧ r.2.mem ((c.tc : Thread Cert.DckvnV.nD Cert.DckvnV.τ).loc Cert.DckvnV.main_arg2) = m ((c.tc : Thread Cert.DckvnV.nD Cert.DckvnV.τ).loc Cert.DckvnV.main_arg2))
      ∧ r.2.sem = fun _ => 0)

def quiescent_DckvnVIdeal [hDckvnVIdeal : Cert.DckvnVIdeal.Facts] : Prop :=
  ∀ (m : (ℓ : Loc Cert.DckvnVIdeal.nD Cert.DckvnVIdeal.τ Cert.DckvnVIdeal.sig) → Buf (Elt Ideal) ℓ) (g : Dev Cert.DckvnVIdeal.nD → PrngReg), Pre_DckvnVIdeal m →
    θ_run (Cert.DckvnVIdeal.defs (F := Ideal)) (onTc (τ := Cert.DckvnVIdeal.τ) (Cert.DckvnVIdeal.main (F := Ideal))) ⟨m, fun _ => 0, g⟩ (fun r => (∀ c : Dev Cert.DckvnVIdeal.nD,
      r.2.mem ((c.tc : Thread Cert.DckvnVIdeal.nD Cert.DckvnVIdeal.τ).loc Cert.DckvnVIdeal.main_arg0) = m ((c.tc : Thread Cert.DckvnVIdeal.nD Cert.DckvnVIdeal.τ).loc Cert.DckvnVIdeal.main_arg0)
      ∧ r.2.mem ((c.tc : Thread Cert.DckvnVIdeal.nD Cert.DckvnVIdeal.τ).loc Cert.DckvnVIdeal.main_arg1) = m ((c.tc : Thread Cert.DckvnVIdeal.nD Cert.DckvnVIdeal.τ).loc Cert.DckvnVIdeal.main_arg1)
      ∧ r.2.mem ((c.tc : Thread Cert.DckvnVIdeal.nD Cert.DckvnVIdeal.τ).loc Cert.DckvnVIdeal.main_arg2) = m ((c.tc : Thread Cert.DckvnVIdeal.nD Cert.DckvnVIdeal.τ).loc Cert.DckvnVIdeal.main_arg2))
      ∧ r.2.sem = fun _ => 0)

def quiescent_DckvnVRefIdeal [hDckvnVRefIdeal : Cert.DckvnVRefIdeal.Facts] : Prop :=
  ∀ (m : (ℓ : Loc Cert.DckvnVRefIdeal.nD Cert.DckvnVRefIdeal.τ Cert.DckvnVRefIdeal.sig) → Buf (Elt Ideal) ℓ) (g : Dev Cert.DckvnVRefIdeal.nD → PrngReg), Pre_DckvnVRefIdeal m →
    θ_run (Cert.DckvnVRefIdeal.defs (F := Ideal)) (onTc (τ := Cert.DckvnVRefIdeal.τ) (Cert.DckvnVRefIdeal.main (F := Ideal))) ⟨m, fun _ => 0, g⟩ (fun r => (∀ c : Dev Cert.DckvnVRefIdeal.nD,
      r.2.mem ((c.tc : Thread Cert.DckvnVRefIdeal.nD Cert.DckvnVRefIdeal.τ).loc Cert.DckvnVRefIdeal.main_arg0) = m ((c.tc : Thread Cert.DckvnVRefIdeal.nD Cert.DckvnVRefIdeal.τ).loc Cert.DckvnVRefIdeal.main_arg0)
      ∧ r.2.mem ((c.tc : Thread Cert.DckvnVRefIdeal.nD Cert.DckvnVRefIdeal.τ).loc Cert.DckvnVRefIdeal.main_arg1) = m ((c.tc : Thread Cert.DckvnVRefIdeal.nD Cert.DckvnVRefIdeal.τ).loc Cert.DckvnVRefIdeal.main_arg1)
      ∧ r.2.mem ((c.tc : Thread Cert.DckvnVRefIdeal.nD Cert.DckvnVRefIdeal.τ).loc Cert.DckvnVRefIdeal.main_arg2) = m ((c.tc : Thread Cert.DckvnVRefIdeal.nD Cert.DckvnVRefIdeal.τ).loc Cert.DckvnVRefIdeal.main_arg2))
      ∧ r.2.sem = fun _ => 0)

def quiescent_DhKr [hDhKr : Cert.DhKr.Facts] : Prop :=
  ∀ (m : (ℓ : Loc Cert.DhKr.nD Cert.DhKr.τ Cert.DhKr.sig) → Buf (Elt Bits) ℓ) (g : Dev Cert.DhKr.nD → PrngReg), Pre_DhKr m →
    θ_run (Cert.DhKr.defs (F := Bits)) (onTc (τ := Cert.DhKr.τ) (Cert.DhKr.main (F := Bits))) ⟨m, fun _ => 0, g⟩ (fun r => (∀ c : Dev Cert.DhKr.nD,
      r.2.mem ((c.tc : Thread Cert.DhKr.nD Cert.DhKr.τ).loc Cert.DhKr.main_arg0) = m ((c.tc : Thread Cert.DhKr.nD Cert.DhKr.τ).loc Cert.DhKr.main_arg0)
      ∧ r.2.mem ((c.tc : Thread Cert.DhKr.nD Cert.DhKr.τ).loc Cert.DhKr.main_arg1) = m ((c.tc : Thread Cert.DhKr.nD Cert.DhKr.τ).loc Cert.DhKr.main_arg1))
      ∧ r.2.sem = fun _ => 0)

def quiescent_DhKrIdeal [hDhKrIdeal : Cert.DhKrIdeal.Facts] : Prop :=
  ∀ (m : (ℓ : Loc Cert.DhKrIdeal.nD Cert.DhKrIdeal.τ Cert.DhKrIdeal.sig) → Buf (Elt Ideal) ℓ) (g : Dev Cert.DhKrIdeal.nD → PrngReg), Pre_DhKrIdeal m →
    θ_run (Cert.DhKrIdeal.defs (F := Ideal)) (onTc (τ := Cert.DhKrIdeal.τ) (Cert.DhKrIdeal.main (F := Ideal))) ⟨m, fun _ => 0, g⟩ (fun r => (∀ c : Dev Cert.DhKrIdeal.nD,
      r.2.mem ((c.tc : Thread Cert.DhKrIdeal.nD Cert.DhKrIdeal.τ).loc Cert.DhKrIdeal.main_arg0) = m ((c.tc : Thread Cert.DhKrIdeal.nD Cert.DhKrIdeal.τ).loc Cert.DhKrIdeal.main_arg0)
      ∧ r.2.mem ((c.tc : Thread Cert.DhKrIdeal.nD Cert.DhKrIdeal.τ).loc Cert.DhKrIdeal.main_arg1) = m ((c.tc : Thread Cert.DhKrIdeal.nD Cert.DhKrIdeal.τ).loc Cert.DhKrIdeal.main_arg1))
      ∧ r.2.sem = fun _ => 0)

def quiescent_DhKrRefIdeal [hDhKrRefIdeal : Cert.DhKrRefIdeal.Facts] : Prop :=
  ∀ (m : (ℓ : Loc Cert.DhKrRefIdeal.nD Cert.DhKrRefIdeal.τ Cert.DhKrRefIdeal.sig) → Buf (Elt Ideal) ℓ) (g : Dev Cert.DhKrRefIdeal.nD → PrngReg), Pre_DhKrRefIdeal m →
    θ_run (Cert.DhKrRefIdeal.defs (F := Ideal)) (onTc (τ := Cert.DhKrRefIdeal.τ) (Cert.DhKrRefIdeal.main (F := Ideal))) ⟨m, fun _ => 0, g⟩ (fun r => (∀ c : Dev Cert.DhKrRefIdeal.nD,
      r.2.mem ((c.tc : Thread Cert.DhKrRefIdeal.nD Cert.DhKrRefIdeal.τ).loc Cert.DhKrRefIdeal.main_arg0) = m ((c.tc : Thread Cert.DhKrRefIdeal.nD Cert.DhKrRefIdeal.τ).loc Cert.DhKrRefIdeal.main_arg0)
      ∧ r.2.mem ((c.tc : Thread Cert.DhKrRefIdeal.nD Cert.DhKrRefIdeal.τ).loc Cert.DhKrRefIdeal.main_arg1) = m ((c.tc : Thread Cert.DhKrRefIdeal.nD Cert.DhKrRefIdeal.τ).loc Cert.DhKrRefIdeal.main_arg1))
      ∧ r.2.sem = fun _ => 0)

def quiescent_Dwkn [hDwkn : Cert.Dwkn.Facts] : Prop :=
  ∀ (m : (ℓ : Loc Cert.Dwkn.nD Cert.Dwkn.τ Cert.Dwkn.sig) → Buf (Elt Bits) ℓ) (g : Dev Cert.Dwkn.nD → PrngReg), Pre_Dwkn m →
    θ_run (Cert.Dwkn.defs (F := Bits)) (onTc (τ := Cert.Dwkn.τ) (Cert.Dwkn.main (F := Bits))) ⟨m, fun _ => 0, g⟩ (fun r => (∀ c : Dev Cert.Dwkn.nD,
      r.2.mem ((c.tc : Thread Cert.Dwkn.nD Cert.Dwkn.τ).loc Cert.Dwkn.main_arg0) = m ((c.tc : Thread Cert.Dwkn.nD Cert.Dwkn.τ).loc Cert.Dwkn.main_arg0)
      ∧ r.2.mem ((c.tc : Thread Cert.Dwkn.nD Cert.Dwkn.τ).loc Cert.Dwkn.main_arg1) = m ((c.tc : Thread Cert.Dwkn.nD Cert.Dwkn.τ).loc Cert.Dwkn.main_arg1))
      ∧ r.2.sem = fun _ => 0)

def quiescent_DwknIdeal [hDwknIdeal : Cert.DwknIdeal.Facts] : Prop :=
  ∀ (m : (ℓ : Loc Cert.DwknIdeal.nD Cert.DwknIdeal.τ Cert.DwknIdeal.sig) → Buf (Elt Ideal) ℓ) (g : Dev Cert.DwknIdeal.nD → PrngReg), Pre_DwknIdeal m →
    θ_run (Cert.DwknIdeal.defs (F := Ideal)) (onTc (τ := Cert.DwknIdeal.τ) (Cert.DwknIdeal.main (F := Ideal))) ⟨m, fun _ => 0, g⟩ (fun r => (∀ c : Dev Cert.DwknIdeal.nD,
      r.2.mem ((c.tc : Thread Cert.DwknIdeal.nD Cert.DwknIdeal.τ).loc Cert.DwknIdeal.main_arg0) = m ((c.tc : Thread Cert.DwknIdeal.nD Cert.DwknIdeal.τ).loc Cert.DwknIdeal.main_arg0)
      ∧ r.2.mem ((c.tc : Thread Cert.DwknIdeal.nD Cert.DwknIdeal.τ).loc Cert.DwknIdeal.main_arg1) = m ((c.tc : Thread Cert.DwknIdeal.nD Cert.DwknIdeal.τ).loc Cert.DwknIdeal.main_arg1))
      ∧ r.2.sem = fun _ => 0)

def quiescent_DwknRefIdeal [hDwknRefIdeal : Cert.DwknRefIdeal.Facts] : Prop :=
  ∀ (m : (ℓ : Loc Cert.DwknRefIdeal.nD Cert.DwknRefIdeal.τ Cert.DwknRefIdeal.sig) → Buf (Elt Ideal) ℓ) (g : Dev Cert.DwknRefIdeal.nD → PrngReg), Pre_DwknRefIdeal m →
    θ_run (Cert.DwknRefIdeal.defs (F := Ideal)) (onTc (τ := Cert.DwknRefIdeal.τ) (Cert.DwknRefIdeal.main (F := Ideal))) ⟨m, fun _ => 0, g⟩ (fun r => (∀ c : Dev Cert.DwknRefIdeal.nD,
      r.2.mem ((c.tc : Thread Cert.DwknRefIdeal.nD Cert.DwknRefIdeal.τ).loc Cert.DwknRefIdeal.main_arg0) = m ((c.tc : Thread Cert.DwknRefIdeal.nD Cert.DwknRefIdeal.τ).loc Cert.DwknRefIdeal.main_arg0)
      ∧ r.2.mem ((c.tc : Thread Cert.DwknRefIdeal.nD Cert.DwknRefIdeal.τ).loc Cert.DwknRefIdeal.main_arg1) = m ((c.tc : Thread Cert.DwknRefIdeal.nD Cert.DwknRefIdeal.τ).loc Cert.DwknRefIdeal.main_arg1))
      ∧ r.2.sem = fun _ => 0)

def quiescent_Dwv [hDwv : Cert.Dwv.Facts] : Prop :=
  ∀ (m : (ℓ : Loc Cert.Dwv.nD Cert.Dwv.τ Cert.Dwv.sig) → Buf (Elt Bits) ℓ) (g : Dev Cert.Dwv.nD → PrngReg), Pre_Dwv m →
    θ_run (Cert.Dwv.defs (F := Bits)) (onTc (τ := Cert.Dwv.τ) (Cert.Dwv.main (F := Bits))) ⟨m, fun _ => 0, g⟩ (fun r => (∀ c : Dev Cert.Dwv.nD,
      r.2.mem ((c.tc : Thread Cert.Dwv.nD Cert.Dwv.τ).loc Cert.Dwv.main_arg0) = m ((c.tc : Thread Cert.Dwv.nD Cert.Dwv.τ).loc Cert.Dwv.main_arg0)
      ∧ r.2.mem ((c.tc : Thread Cert.Dwv.nD Cert.Dwv.τ).loc Cert.Dwv.main_arg1) = m ((c.tc : Thread Cert.Dwv.nD Cert.Dwv.τ).loc Cert.Dwv.main_arg1))
      ∧ r.2.sem = fun _ => 0)

def quiescent_DwvIdeal [hDwvIdeal : Cert.DwvIdeal.Facts] : Prop :=
  ∀ (m : (ℓ : Loc Cert.DwvIdeal.nD Cert.DwvIdeal.τ Cert.DwvIdeal.sig) → Buf (Elt Ideal) ℓ) (g : Dev Cert.DwvIdeal.nD → PrngReg), Pre_DwvIdeal m →
    θ_run (Cert.DwvIdeal.defs (F := Ideal)) (onTc (τ := Cert.DwvIdeal.τ) (Cert.DwvIdeal.main (F := Ideal))) ⟨m, fun _ => 0, g⟩ (fun r => (∀ c : Dev Cert.DwvIdeal.nD,
      r.2.mem ((c.tc : Thread Cert.DwvIdeal.nD Cert.DwvIdeal.τ).loc Cert.DwvIdeal.main_arg0) = m ((c.tc : Thread Cert.DwvIdeal.nD Cert.DwvIdeal.τ).loc Cert.DwvIdeal.main_arg0)
      ∧ r.2.mem ((c.tc : Thread Cert.DwvIdeal.nD Cert.DwvIdeal.τ).loc Cert.DwvIdeal.main_arg1) = m ((c.tc : Thread Cert.DwvIdeal.nD Cert.DwvIdeal.τ).loc Cert.DwvIdeal.main_arg1))
      ∧ r.2.sem = fun _ => 0)

def quiescent_DwvRefIdeal [hDwvRefIdeal : Cert.DwvRefIdeal.Facts] : Prop :=
  ∀ (m : (ℓ : Loc Cert.DwvRefIdeal.nD Cert.DwvRefIdeal.τ Cert.DwvRefIdeal.sig) → Buf (Elt Ideal) ℓ) (g : Dev Cert.DwvRefIdeal.nD → PrngReg), Pre_DwvRefIdeal m →
    θ_run (Cert.DwvRefIdeal.defs (F := Ideal)) (onTc (τ := Cert.DwvRefIdeal.τ) (Cert.DwvRefIdeal.main (F := Ideal))) ⟨m, fun _ => 0, g⟩ (fun r => (∀ c : Dev Cert.DwvRefIdeal.nD,
      r.2.mem ((c.tc : Thread Cert.DwvRefIdeal.nD Cert.DwvRefIdeal.τ).loc Cert.DwvRefIdeal.main_arg0) = m ((c.tc : Thread Cert.DwvRefIdeal.nD Cert.DwvRefIdeal.τ).loc Cert.DwvRefIdeal.main_arg0)
      ∧ r.2.mem ((c.tc : Thread Cert.DwvRefIdeal.nD Cert.DwvRefIdeal.τ).loc Cert.DwvRefIdeal.main_arg1) = m ((c.tc : Thread Cert.DwvRefIdeal.nD Cert.DwvRefIdeal.τ).loc Cert.DwvRefIdeal.main_arg1))
      ∧ r.2.sem = fun _ => 0)

def quiescent_DwKr [hDwKr : Cert.DwKr.Facts] : Prop :=
  ∀ (m : (ℓ : Loc Cert.DwKr.nD Cert.DwKr.τ Cert.DwKr.sig) → Buf (Elt Bits) ℓ) (g : Dev Cert.DwKr.nD → PrngReg), Pre_DwKr m →
    θ_run (Cert.DwKr.defs (F := Bits)) (onTc (τ := Cert.DwKr.τ) (Cert.DwKr.main (F := Bits))) ⟨m, fun _ => 0, g⟩ (fun r => (∀ c : Dev Cert.DwKr.nD,
      r.2.mem ((c.tc : Thread Cert.DwKr.nD Cert.DwKr.τ).loc Cert.DwKr.main_arg0) = m ((c.tc : Thread Cert.DwKr.nD Cert.DwKr.τ).loc Cert.DwKr.main_arg0)
      ∧ r.2.mem ((c.tc : Thread Cert.DwKr.nD Cert.DwKr.τ).loc Cert.DwKr.main_arg1) = m ((c.tc : Thread Cert.DwKr.nD Cert.DwKr.τ).loc Cert.DwKr.main_arg1))
      ∧ r.2.sem = fun _ => 0)

def quiescent_DwKrIdeal [hDwKrIdeal : Cert.DwKrIdeal.Facts] : Prop :=
  ∀ (m : (ℓ : Loc Cert.DwKrIdeal.nD Cert.DwKrIdeal.τ Cert.DwKrIdeal.sig) → Buf (Elt Ideal) ℓ) (g : Dev Cert.DwKrIdeal.nD → PrngReg), Pre_DwKrIdeal m →
    θ_run (Cert.DwKrIdeal.defs (F := Ideal)) (onTc (τ := Cert.DwKrIdeal.τ) (Cert.DwKrIdeal.main (F := Ideal))) ⟨m, fun _ => 0, g⟩ (fun r => (∀ c : Dev Cert.DwKrIdeal.nD,
      r.2.mem ((c.tc : Thread Cert.DwKrIdeal.nD Cert.DwKrIdeal.τ).loc Cert.DwKrIdeal.main_arg0) = m ((c.tc : Thread Cert.DwKrIdeal.nD Cert.DwKrIdeal.τ).loc Cert.DwKrIdeal.main_arg0)
      ∧ r.2.mem ((c.tc : Thread Cert.DwKrIdeal.nD Cert.DwKrIdeal.τ).loc Cert.DwKrIdeal.main_arg1) = m ((c.tc : Thread Cert.DwKrIdeal.nD Cert.DwKrIdeal.τ).loc Cert.DwKrIdeal.main_arg1))
      ∧ r.2.sem = fun _ => 0)

def quiescent_DwKrRefIdeal [hDwKrRefIdeal : Cert.DwKrRefIdeal.Facts] : Prop :=
  ∀ (m : (ℓ : Loc Cert.DwKrRefIdeal.nD Cert.DwKrRefIdeal.τ Cert.DwKrRefIdeal.sig) → Buf (Elt Ideal) ℓ) (g : Dev Cert.DwKrRefIdeal.nD → PrngReg), Pre_DwKrRefIdeal m →
    θ_run (Cert.DwKrRefIdeal.defs (F := Ideal)) (onTc (τ := Cert.DwKrRefIdeal.τ) (Cert.DwKrRefIdeal.main (F := Ideal))) ⟨m, fun _ => 0, g⟩ (fun r => (∀ c : Dev Cert.DwKrRefIdeal.nD,
      r.2.mem ((c.tc : Thread Cert.DwKrRefIdeal.nD Cert.DwKrRefIdeal.τ).loc Cert.DwKrRefIdeal.main_arg0) = m ((c.tc : Thread Cert.DwKrRefIdeal.nD Cert.DwKrRefIdeal.τ).loc Cert.DwKrRefIdeal.main_arg0)
      ∧ r.2.mem ((c.tc : Thread Cert.DwKrRefIdeal.nD Cert.DwKrRefIdeal.τ).loc Cert.DwKrRefIdeal.main_arg1) = m ((c.tc : Thread Cert.DwKrRefIdeal.nD Cert.DwKrRefIdeal.τ).loc Cert.DwKrRefIdeal.main_arg1))
      ∧ r.2.sem = fun _ => 0)

def quiescent_Delta [hDelta : Cert.Delta.Facts] : Prop :=
  ∀ (m : (ℓ : Loc Cert.Delta.nD Cert.Delta.τ Cert.Delta.sig) → Buf (Elt Bits) ℓ) (g : Dev Cert.Delta.nD → PrngReg), Pre_Delta m →
    θ_run (Cert.Delta.defs (F := Bits)) (onTc (τ := Cert.Delta.τ) (Cert.Delta.main (F := Bits))) ⟨m, fun _ => 0, g⟩ (fun r => (∀ c : Dev Cert.Delta.nD,
      r.2.mem ((c.tc : Thread Cert.Delta.nD Cert.Delta.τ).loc Cert.Delta.main_arg0) = m ((c.tc : Thread Cert.Delta.nD Cert.Delta.τ).loc Cert.Delta.main_arg0)
      ∧ r.2.mem ((c.tc : Thread Cert.Delta.nD Cert.Delta.τ).loc Cert.Delta.main_arg1) = m ((c.tc : Thread Cert.Delta.nD Cert.Delta.τ).loc Cert.Delta.main_arg1))
      ∧ r.2.sem = fun _ => 0)

def quiescent_DeltaIdeal [hDeltaIdeal : Cert.DeltaIdeal.Facts] : Prop :=
  ∀ (m : (ℓ : Loc Cert.DeltaIdeal.nD Cert.DeltaIdeal.τ Cert.DeltaIdeal.sig) → Buf (Elt Ideal) ℓ) (g : Dev Cert.DeltaIdeal.nD → PrngReg), Pre_DeltaIdeal m →
    θ_run (Cert.DeltaIdeal.defs (F := Ideal)) (onTc (τ := Cert.DeltaIdeal.τ) (Cert.DeltaIdeal.main (F := Ideal))) ⟨m, fun _ => 0, g⟩ (fun r => (∀ c : Dev Cert.DeltaIdeal.nD,
      r.2.mem ((c.tc : Thread Cert.DeltaIdeal.nD Cert.DeltaIdeal.τ).loc Cert.DeltaIdeal.main_arg0) = m ((c.tc : Thread Cert.DeltaIdeal.nD Cert.DeltaIdeal.τ).loc Cert.DeltaIdeal.main_arg0)
      ∧ r.2.mem ((c.tc : Thread Cert.DeltaIdeal.nD Cert.DeltaIdeal.τ).loc Cert.DeltaIdeal.main_arg1) = m ((c.tc : Thread Cert.DeltaIdeal.nD Cert.DeltaIdeal.τ).loc Cert.DeltaIdeal.main_arg1))
      ∧ r.2.sem = fun _ => 0)

def quiescent_DeltaRefIdeal [hDeltaRefIdeal : Cert.DeltaRefIdeal.Facts] : Prop :=
  ∀ (m : (ℓ : Loc Cert.DeltaRefIdeal.nD Cert.DeltaRefIdeal.τ Cert.DeltaRefIdeal.sig) → Buf (Elt Ideal) ℓ) (g : Dev Cert.DeltaRefIdeal.nD → PrngReg), Pre_DeltaRefIdeal m →
    θ_run (Cert.DeltaRefIdeal.defs (F := Ideal)) (onTc (τ := Cert.DeltaRefIdeal.τ) (Cert.DeltaRefIdeal.main (F := Ideal))) ⟨m, fun _ => 0, g⟩ (fun r => (∀ c : Dev Cert.DeltaRefIdeal.nD,
      r.2.mem ((c.tc : Thread Cert.DeltaRefIdeal.nD Cert.DeltaRefIdeal.τ).loc Cert.DeltaRefIdeal.main_arg0) = m ((c.tc : Thread Cert.DeltaRefIdeal.nD Cert.DeltaRefIdeal.τ).loc Cert.DeltaRefIdeal.main_arg0)
      ∧ r.2.mem ((c.tc : Thread Cert.DeltaRefIdeal.nD Cert.DeltaRefIdeal.τ).loc Cert.DeltaRefIdeal.main_arg1) = m ((c.tc : Thread Cert.DeltaRefIdeal.nD Cert.DeltaRefIdeal.τ).loc Cert.DeltaRefIdeal.main_arg1))
      ∧ r.2.sem = fun _ => 0)

def preserves_Kernel_KernelIdeal : Prop :=
  IdealRules.named_const.Statement Cert.KernelIdeal.κ "ln2" .f32 0x3F317218#32 ((Real.log 2 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v41_0)) (v1 : (c : Dev Cert.KernelIdeal.nD) → Buf (Elt Ideal) ((c.tc : Thread Cert.KernelIdeal.nD Cert.KernelIdeal.τ).loc Cert.KernelIdeal.main_v41_1)) (v2 : (c : Dev Cert.KernelIdeal.nD) → Buf (Elt Ideal) ((c.tc : Thread Cert.KernelIdeal.nD Cert.KernelIdeal.τ).loc Cert.KernelIdeal.main_v41_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41_0) = v0 c
          ∧ r.2.mem ((c.tc : Thread Cert.KernelIdeal.nD Cert.KernelIdeal.τ).loc Cert.KernelIdeal.main_v41_1) = v1 c
          ∧ r.2.mem ((c.tc : Thread Cert.KernelIdeal.nD Cert.KernelIdeal.τ).loc Cert.KernelIdeal.main_v41_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_v66) = v1 c
          ∧ r.2.mem ((c.tc : Thread Cert.ReferenceIdeal.nD Cert.ReferenceIdeal.τ).loc Cert.ReferenceIdeal.main_v68) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Fwd_FwdIdeal : Prop :=
  IdealRules.named_const.Statement Cert.FwdIdeal.κ "log2e" .f32 0x3FB8AA3B#32 (((Real.log 2)⁻¹ : ℝ) : EReal)

def algebraic_FwdIdeal_FwdRefIdeal_pre_finite_fwd [hFwdIdeal : Cert.FwdIdeal.Facts] [hFwdRefIdeal : Cert.FwdRefIdeal.Facts] [hPre_finite_fwd : Cert.Pre_finite_fwd.Facts] : Prop :=
  ∀ (m : (ℓ : Loc Cert.FwdIdeal.nD Cert.FwdIdeal.τ Cert.FwdIdeal.sig) → Buf (Elt Ideal) ℓ) (g : Dev Cert.FwdIdeal.nD → PrngReg)
    (m' : (ℓ : Loc Cert.FwdRefIdeal.nD Cert.FwdRefIdeal.τ Cert.FwdRefIdeal.sig) → Buf (Elt Ideal) ℓ) (g' : Dev Cert.FwdRefIdeal.nD → PrngReg), Pre_FwdIdeal_finite_fwd m →
    (∀ c : Dev Cert.FwdIdeal.nD,
      m' ((c.tc : Thread Cert.FwdRefIdeal.nD Cert.FwdRefIdeal.τ).loc Cert.FwdRefIdeal.main_arg0) = m ((c.tc : Thread Cert.FwdIdeal.nD Cert.FwdIdeal.τ).loc Cert.FwdIdeal.main_arg0)
      ∧ m' ((c.tc : Thread Cert.FwdRefIdeal.nD Cert.FwdRefIdeal.τ).loc Cert.FwdRefIdeal.main_arg1) = m ((c.tc : Thread Cert.FwdIdeal.nD Cert.FwdIdeal.τ).loc Cert.FwdIdeal.main_arg1)
      ∧ m' ((c.tc : Thread Cert.FwdRefIdeal.nD Cert.FwdRefIdeal.τ).loc Cert.FwdRefIdeal.main_arg2) = m ((c.tc : Thread Cert.FwdIdeal.nD Cert.FwdIdeal.τ).loc Cert.FwdIdeal.main_arg2)) →
    ∃ (v0 : (c : Dev Cert.FwdIdeal.nD) → Buf (Elt Ideal) ((c.tc : Thread Cert.FwdIdeal.nD Cert.FwdIdeal.τ).loc Cert.FwdIdeal.main_v18_0)) (v1 : (c : Dev Cert.FwdIdeal.nD) → Buf (Elt Ideal) ((c.tc : Thread Cert.FwdIdeal.nD Cert.FwdIdeal.τ).loc Cert.FwdIdeal.main_v18_1)),
      θ_run (Cert.FwdIdeal.defs (F := Ideal)) (onTc (τ := Cert.FwdIdeal.τ) (Cert.FwdIdeal.main (F := Ideal))) ⟨m, fun _ => 0, g⟩ (fun r => ∀ c : Dev Cert.FwdIdeal.nD,
          r.2.mem ((c.tc : Thread Cert.FwdIdeal.nD Cert.FwdIdeal.τ).loc Cert.FwdIdeal.main_v18_0) = v0 c
          ∧ r.2.mem ((c.tc : Thread Cert.FwdIdeal.nD Cert.FwdIdeal.τ).loc Cert.FwdIdeal.main_v18_1) = v1 c
          ∧ r.2.mem ((c.tc : Thread Cert.FwdIdeal.nD Cert.FwdIdeal.τ).loc Cert.FwdIdeal.main_arg0) = m ((c.tc : Thread Cert.FwdIdeal.nD Cert.FwdIdeal.τ).loc Cert.FwdIdeal.main_arg0)
          ∧ r.2.mem ((c.tc : Thread Cert.FwdIdeal.nD Cert.FwdIdeal.τ).loc Cert.FwdIdeal.main_arg1) = m ((c.tc : Thread Cert.FwdIdeal.nD Cert.FwdIdeal.τ).loc Cert.FwdIdeal.main_arg1)
          ∧ r.2.mem ((c.tc : Thread Cert.FwdIdeal.nD Cert.FwdIdeal.τ).loc Cert.FwdIdeal.main_arg2) = m ((c.tc : Thread Cert.FwdIdeal.nD Cert.FwdIdeal.τ).loc Cert.FwdIdeal.main_arg2))
      ∧ θ_run (Cert.FwdRefIdeal.defs (F := Ideal)) (onTc (τ := Cert.FwdRefIdeal.τ) (Cert.FwdRefIdeal.main (F := Ideal))) ⟨m', fun _ => 0, g'⟩ (fun r => ∀ c : Dev Cert.FwdRefIdeal.nD,
          r.2.mem ((c.tc : Thread Cert.FwdRefIdeal.nD Cert.FwdRefIdeal.τ).loc Cert.FwdRefIdeal.main_v15) = v0 c
          ∧ r.2.mem ((c.tc : Thread Cert.FwdRefIdeal.nD Cert.FwdRefIdeal.τ).loc Cert.FwdRefIdeal.main_v21) = v1 c
          ∧ r.2.mem ((c.tc : Thread Cert.FwdRefIdeal.nD Cert.FwdRefIdeal.τ).loc Cert.FwdRefIdeal.main_arg0) = m' ((c.tc : Thread Cert.FwdRefIdeal.nD Cert.FwdRefIdeal.τ).loc Cert.FwdRefIdeal.main_arg0)
          ∧ r.2.mem ((c.tc : Thread Cert.FwdRefIdeal.nD Cert.FwdRefIdeal.τ).loc Cert.FwdRefIdeal.main_arg1) = m' ((c.tc : Thread Cert.FwdRefIdeal.nD Cert.FwdRefIdeal.τ).loc Cert.FwdRefIdeal.main_arg1)
          ∧ r.2.mem ((c.tc : Thread Cert.FwdRefIdeal.nD Cert.FwdRefIdeal.τ).loc Cert.FwdRefIdeal.main_arg2) = m' ((c.tc : Thread Cert.FwdRefIdeal.nD Cert.FwdRefIdeal.τ).loc Cert.FwdRefIdeal.main_arg2))

def preserves_Up_UpIdeal : Prop :=
  True

def algebraic_UpIdeal_UpRefIdeal [hUpIdeal : Cert.UpIdeal.Facts] [hUpRefIdeal : Cert.UpRefIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)
      ∧ m' ((c.tc : Thread Cert.UpRefIdeal.nD Cert.UpRefIdeal.τ).loc Cert.UpRefIdeal.main_arg2) = m ((c.tc : Thread Cert.UpIdeal.nD Cert.UpIdeal.τ).loc Cert.UpIdeal.main_arg2)) →
    ∃ (v0 : (c : Dev Cert.UpIdeal.nD) → Buf (Elt Ideal) ((c.tc : Thread Cert.UpIdeal.nD Cert.UpIdeal.τ).loc Cert.UpIdeal.main_v3_0)) (v1 : (c : Dev Cert.UpIdeal.nD) → Buf (Elt Ideal) ((c.tc : Thread Cert.UpIdeal.nD Cert.UpIdeal.τ).loc Cert.UpIdeal.main_v3_1)) (v2 : (c : Dev Cert.UpIdeal.nD) → Buf (Elt Ideal) ((c.tc : Thread Cert.UpIdeal.nD Cert.UpIdeal.τ).loc Cert.UpIdeal.main_v3_2)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v3_0) = v0 c
          ∧ r.2.mem ((c.tc : Thread Cert.UpIdeal.nD Cert.UpIdeal.τ).loc Cert.UpIdeal.main_v3_1) = v1 c
          ∧ r.2.mem ((c.tc : Thread Cert.UpIdeal.nD Cert.UpIdeal.τ).loc Cert.UpIdeal.main_v3_2) = v2 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
          ∧ r.2.mem ((c.tc : Thread Cert.UpIdeal.nD Cert.UpIdeal.τ).loc Cert.UpIdeal.main_arg2) = m ((c.tc : Thread Cert.UpIdeal.nD Cert.UpIdeal.τ).loc Cert.UpIdeal.main_arg2))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v2) = v0 c
          ∧ r.2.mem ((c.tc : Thread Cert.UpRefIdeal.nD Cert.UpRefIdeal.τ).loc Cert.UpRefIdeal.main_v3) = v1 c
          ∧ r.2.mem ((c.tc : Thread Cert.UpRefIdeal.nD Cert.UpRefIdeal.τ).loc Cert.UpRefIdeal.main_v6) = v2 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1)
          ∧ r.2.mem ((c.tc : Thread Cert.UpRefIdeal.nD Cert.UpRefIdeal.τ).loc Cert.UpRefIdeal.main_arg2) = m' ((c.tc : Thread Cert.UpRefIdeal.nD Cert.UpRefIdeal.τ).loc Cert.UpRefIdeal.main_arg2))

def preserves_Dh_DhIdeal : Prop :=
  True

def algebraic_DhIdeal_DhRefIdeal_pre_finite_dh [hDhIdeal : Cert.DhIdeal.Facts] [hDhRefIdeal : Cert.DhRefIdeal.Facts] [hPre_finite_dh : Cert.Pre_finite_dh.Facts] : Prop :=
  ∀ (m : (ℓ : Loc Cert.DhIdeal.nD Cert.DhIdeal.τ Cert.DhIdeal.sig) → Buf (Elt Ideal) ℓ) (g : Dev Cert.DhIdeal.nD → PrngReg)
    (m' : (ℓ : Loc Cert.DhRefIdeal.nD Cert.DhRefIdeal.τ Cert.DhRefIdeal.sig) → Buf (Elt Ideal) ℓ) (g' : Dev Cert.DhRefIdeal.nD → PrngReg), Pre_DhIdeal_finite_dh m →
    (∀ c : Dev Cert.DhIdeal.nD,
      m' ((c.tc : Thread Cert.DhRefIdeal.nD Cert.DhRefIdeal.τ).loc Cert.DhRefIdeal.main_arg0) = m ((c.tc : Thread Cert.DhIdeal.nD Cert.DhIdeal.τ).loc Cert.DhIdeal.main_arg0)
      ∧ m' ((c.tc : Thread Cert.DhRefIdeal.nD Cert.DhRefIdeal.τ).loc Cert.DhRefIdeal.main_arg1) = m ((c.tc : Thread Cert.DhIdeal.nD Cert.DhIdeal.τ).loc Cert.DhIdeal.main_arg1)
      ∧ m' ((c.tc : Thread Cert.DhRefIdeal.nD Cert.DhRefIdeal.τ).loc Cert.DhRefIdeal.main_arg2) = m ((c.tc : Thread Cert.DhIdeal.nD Cert.DhIdeal.τ).loc Cert.DhIdeal.main_arg2)
      ∧ m' ((c.tc : Thread Cert.DhRefIdeal.nD Cert.DhRefIdeal.τ).loc Cert.DhRefIdeal.main_arg3) = m ((c.tc : Thread Cert.DhIdeal.nD Cert.DhIdeal.τ).loc Cert.DhIdeal.main_arg3)
      ∧ m' ((c.tc : Thread Cert.DhRefIdeal.nD Cert.DhRefIdeal.τ).loc Cert.DhRefIdeal.main_arg4) = m ((c.tc : Thread Cert.DhIdeal.nD Cert.DhIdeal.τ).loc Cert.DhIdeal.main_arg4)) →
    ∃ (v0 : (c : Dev Cert.DhIdeal.nD) → Buf (Elt Ideal) ((c.tc : Thread Cert.DhIdeal.nD Cert.DhIdeal.τ).loc Cert.DhIdeal.main_v9)),
      θ_run (Cert.DhIdeal.defs (F := Ideal)) (onTc (τ := Cert.DhIdeal.τ) (Cert.DhIdeal.main (F := Ideal))) ⟨m, fun _ => 0, g⟩ (fun r => ∀ c : Dev Cert.DhIdeal.nD,
          r.2.mem ((c.tc : Thread Cert.DhIdeal.nD Cert.DhIdeal.τ).loc Cert.DhIdeal.main_v9) = v0 c
          ∧ r.2.mem ((c.tc : Thread Cert.DhIdeal.nD Cert.DhIdeal.τ).loc Cert.DhIdeal.main_arg0) = m ((c.tc : Thread Cert.DhIdeal.nD Cert.DhIdeal.τ).loc Cert.DhIdeal.main_arg0)
          ∧ r.2.mem ((c.tc : Thread Cert.DhIdeal.nD Cert.DhIdeal.τ).loc Cert.DhIdeal.main_arg1) = m ((c.tc : Thread Cert.DhIdeal.nD Cert.DhIdeal.τ).loc Cert.DhIdeal.main_arg1)
          ∧ r.2.mem ((c.tc : Thread Cert.DhIdeal.nD Cert.DhIdeal.τ).loc Cert.DhIdeal.main_arg2) = m ((c.tc : Thread Cert.DhIdeal.nD Cert.DhIdeal.τ).loc Cert.DhIdeal.main_arg2)
          ∧ r.2.mem ((c.tc : Thread Cert.DhIdeal.nD Cert.DhIdeal.τ).loc Cert.DhIdeal.main_arg3) = m ((c.tc : Thread Cert.DhIdeal.nD Cert.DhIdeal.τ).loc Cert.DhIdeal.main_arg3)
          ∧ r.2.mem ((c.tc : Thread Cert.DhIdeal.nD Cert.DhIdeal.τ).loc Cert.DhIdeal.main_arg4) = m ((c.tc : Thread Cert.DhIdeal.nD Cert.DhIdeal.τ).loc Cert.DhIdeal.main_arg4))
      ∧ θ_run (Cert.DhRefIdeal.defs (F := Ideal)) (onTc (τ := Cert.DhRefIdeal.τ) (Cert.DhRefIdeal.main (F := Ideal))) ⟨m', fun _ => 0, g'⟩ (fun r => ∀ c : Dev Cert.DhRefIdeal.nD,
          r.2.mem ((c.tc : Thread Cert.DhRefIdeal.nD Cert.DhRefIdeal.τ).loc Cert.DhRefIdeal.main_v11) = v0 c
          ∧ r.2.mem ((c.tc : Thread Cert.DhRefIdeal.nD Cert.DhRefIdeal.τ).loc Cert.DhRefIdeal.main_arg0) = m' ((c.tc : Thread Cert.DhRefIdeal.nD Cert.DhRefIdeal.τ).loc Cert.DhRefIdeal.main_arg0)
          ∧ r.2.mem ((c.tc : Thread Cert.DhRefIdeal.nD Cert.DhRefIdeal.τ).loc Cert.DhRefIdeal.main_arg1) = m' ((c.tc : Thread Cert.DhRefIdeal.nD Cert.DhRefIdeal.τ).loc Cert.DhRefIdeal.main_arg1)
          ∧ r.2.mem ((c.tc : Thread Cert.DhRefIdeal.nD Cert.DhRefIdeal.τ).loc Cert.DhRefIdeal.main_arg2) = m' ((c.tc : Thread Cert.DhRefIdeal.nD Cert.DhRefIdeal.τ).loc Cert.DhRefIdeal.main_arg2)
          ∧ r.2.mem ((c.tc : Thread Cert.DhRefIdeal.nD Cert.DhRefIdeal.τ).loc Cert.DhRefIdeal.main_arg3) = m' ((c.tc : Thread Cert.DhRefIdeal.nD Cert.DhRefIdeal.τ).loc Cert.DhRefIdeal.main_arg3)
          ∧ r.2.mem ((c.tc : Thread Cert.DhRefIdeal.nD Cert.DhRefIdeal.τ).loc Cert.DhRefIdeal.main_arg4) = m' ((c.tc : Thread Cert.DhRefIdeal.nD Cert.DhRefIdeal.τ).loc Cert.DhRefIdeal.main_arg4))

def preserves_Dw_DwIdeal : Prop :=
  True

def algebraic_DwIdeal_DwRefIdeal [hDwIdeal : Cert.DwIdeal.Facts] [hDwRefIdeal : Cert.DwRefIdeal.Facts] : Prop :=
  ∀ (m : (ℓ : Loc Cert.DwIdeal.nD Cert.DwIdeal.τ Cert.DwIdeal.sig) → Buf (Elt Ideal) ℓ) (g : Dev Cert.DwIdeal.nD → PrngReg)
    (m' : (ℓ : Loc Cert.DwRefIdeal.nD Cert.DwRefIdeal.τ Cert.DwRefIdeal.sig) → Buf (Elt Ideal) ℓ) (g' : Dev Cert.DwRefIdeal.nD → PrngReg), Pre_DwIdeal m →
    (∀ c : Dev Cert.DwIdeal.nD,
      m' ((c.tc : Thread Cert.DwRefIdeal.nD Cert.DwRefIdeal.τ).loc Cert.DwRefIdeal.main_arg0) = m ((c.tc : Thread Cert.DwIdeal.nD Cert.DwIdeal.τ).loc Cert.DwIdeal.main_arg0)
      ∧ m' ((c.tc : Thread Cert.DwRefIdeal.nD Cert.DwRefIdeal.τ).loc Cert.DwRefIdeal.main_arg1) = m ((c.tc : Thread Cert.DwIdeal.nD Cert.DwIdeal.τ).loc Cert.DwIdeal.main_arg1)) →
    ∃ (v0 : (c : Dev Cert.DwIdeal.nD) → Buf (Elt Ideal) ((c.tc : Thread Cert.DwIdeal.nD Cert.DwIdeal.τ).loc Cert.DwIdeal.main_v2)),
      θ_run (Cert.DwIdeal.defs (F := Ideal)) (onTc (τ := Cert.DwIdeal.τ) (Cert.DwIdeal.main (F := Ideal))) ⟨m, fun _ => 0, g⟩ (fun r => ∀ c : Dev Cert.DwIdeal.nD,
          r.2.mem ((c.tc : Thread Cert.DwIdeal.nD Cert.DwIdeal.τ).loc Cert.DwIdeal.main_v2) = v0 c
          ∧ r.2.mem ((c.tc : Thread Cert.DwIdeal.nD Cert.DwIdeal.τ).loc Cert.DwIdeal.main_arg0) = m ((c.tc : Thread Cert.DwIdeal.nD Cert.DwIdeal.τ).loc Cert.DwIdeal.main_arg0)
          ∧ r.2.mem ((c.tc : Thread Cert.DwIdeal.nD Cert.DwIdeal.τ).loc Cert.DwIdeal.main_arg1) = m ((c.tc : Thread Cert.DwIdeal.nD Cert.DwIdeal.τ).loc Cert.DwIdeal.main_arg1))
      ∧ θ_run (Cert.DwRefIdeal.defs (F := Ideal)) (onTc (τ := Cert.DwRefIdeal.τ) (Cert.DwRefIdeal.main (F := Ideal))) ⟨m', fun _ => 0, g'⟩ (fun r => ∀ c : Dev Cert.DwRefIdeal.nD,
          r.2.mem ((c.tc : Thread Cert.DwRefIdeal.nD Cert.DwRefIdeal.τ).loc Cert.DwRefIdeal.main_v3) = v0 c
          ∧ r.2.mem ((c.tc : Thread Cert.DwRefIdeal.nD Cert.DwRefIdeal.τ).loc Cert.DwRefIdeal.main_arg0) = m' ((c.tc : Thread Cert.DwRefIdeal.nD Cert.DwRefIdeal.τ).loc Cert.DwRefIdeal.main_arg0)
          ∧ r.2.mem ((c.tc : Thread Cert.DwRefIdeal.nD Cert.DwRefIdeal.τ).loc Cert.DwRefIdeal.main_arg1) = m' ((c.tc : Thread Cert.DwRefIdeal.nD Cert.DwRefIdeal.τ).loc Cert.DwRefIdeal.main_arg1))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)) →
    ∃ (v0 : (c : Dev Cert.DownIdeal.nD) → Buf (Elt Ideal) ((c.tc : Thread Cert.DownIdeal.nD Cert.DownIdeal.τ).loc Cert.DownIdeal.main_v2)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v2) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v1) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2))

def preserves_Dw2_Dw2Ideal : Prop :=
  True

def algebraic_Dw2Ideal_Dw2RefIdeal [hDw2Ideal : Cert.Dw2Ideal.Facts] [hDw2RefIdeal : Cert.Dw2RefIdeal.Facts] : Prop :=
  ∀ (m : (ℓ : Loc Cert.Dw2Ideal.nD Cert.Dw2Ideal.τ Cert.Dw2Ideal.sig) → Buf (Elt Ideal) ℓ) (g : Dev Cert.Dw2Ideal.nD → PrngReg)
    (m' : (ℓ : Loc Cert.Dw2RefIdeal.nD Cert.Dw2RefIdeal.τ Cert.Dw2RefIdeal.sig) → Buf (Elt Ideal) ℓ) (g' : Dev Cert.Dw2RefIdeal.nD → PrngReg), Pre_Dw2Ideal m →
    (∀ c : Dev Cert.Dw2Ideal.nD,
      m' ((c.tc : Thread Cert.Dw2RefIdeal.nD Cert.Dw2RefIdeal.τ).loc Cert.Dw2RefIdeal.main_arg0) = m ((c.tc : Thread Cert.Dw2Ideal.nD Cert.Dw2Ideal.τ).loc Cert.Dw2Ideal.main_arg0)
      ∧ m' ((c.tc : Thread Cert.Dw2RefIdeal.nD Cert.Dw2RefIdeal.τ).loc Cert.Dw2RefIdeal.main_arg1) = m ((c.tc : Thread Cert.Dw2Ideal.nD Cert.Dw2Ideal.τ).loc Cert.Dw2Ideal.main_arg1)) →
    ∃ (v0 : (c : Dev Cert.Dw2Ideal.nD) → Buf (Elt Ideal) ((c.tc : Thread Cert.Dw2Ideal.nD Cert.Dw2Ideal.τ).loc Cert.Dw2Ideal.main_v1)),
      θ_run (Cert.Dw2Ideal.defs (F := Ideal)) (onTc (τ := Cert.Dw2Ideal.τ) (Cert.Dw2Ideal.main (F := Ideal))) ⟨m, fun _ => 0, g⟩ (fun r => ∀ c : Dev Cert.Dw2Ideal.nD,
          r.2.mem ((c.tc : Thread Cert.Dw2Ideal.nD Cert.Dw2Ideal.τ).loc Cert.Dw2Ideal.main_v1) = v0 c
          ∧ r.2.mem ((c.tc : Thread Cert.Dw2Ideal.nD Cert.Dw2Ideal.τ).loc Cert.Dw2Ideal.main_arg0) = m ((c.tc : Thread Cert.Dw2Ideal.nD Cert.Dw2Ideal.τ).loc Cert.Dw2Ideal.main_arg0)
          ∧ r.2.mem ((c.tc : Thread Cert.Dw2Ideal.nD Cert.Dw2Ideal.τ).loc Cert.Dw2Ideal.main_arg1) = m ((c.tc : Thread Cert.Dw2Ideal.nD Cert.Dw2Ideal.τ).loc Cert.Dw2Ideal.main_arg1))
      ∧ θ_run (Cert.Dw2RefIdeal.defs (F := Ideal)) (onTc (τ := Cert.Dw2RefIdeal.τ) (Cert.Dw2RefIdeal.main (F := Ideal))) ⟨m', fun _ => 0, g'⟩ (fun r => ∀ c : Dev Cert.Dw2RefIdeal.nD,
          r.2.mem ((c.tc : Thread Cert.Dw2RefIdeal.nD Cert.Dw2RefIdeal.τ).loc Cert.Dw2RefIdeal.main_v3) = v0 c
          ∧ r.2.mem ((c.tc : Thread Cert.Dw2RefIdeal.nD Cert.Dw2RefIdeal.τ).loc Cert.Dw2RefIdeal.main_arg0) = m' ((c.tc : Thread Cert.Dw2RefIdeal.nD Cert.Dw2RefIdeal.τ).loc Cert.Dw2RefIdeal.main_arg0)
          ∧ r.2.mem ((c.tc : Thread Cert.Dw2RefIdeal.nD Cert.Dw2RefIdeal.τ).loc Cert.Dw2RefIdeal.main_arg1) = m' ((c.tc : Thread Cert.Dw2RefIdeal.nD Cert.Dw2RefIdeal.τ).loc Cert.Dw2RefIdeal.main_arg1))

def preserves_InB_InBIdeal : Prop :=
  True

def algebraic_InBIdeal_InBRefIdeal [hInBIdeal : Cert.InBIdeal.Facts] [hInBRefIdeal : Cert.InBRefIdeal.Facts] : Prop :=
  ∀ (m : (ℓ : Loc Cert.InBIdeal.nD Cert.InBIdeal.τ Cert.InBIdeal.sig) → Buf (Elt Ideal) ℓ) (g : Dev Cert.InBIdeal.nD → PrngReg)
    (m' : (ℓ : Loc Cert.InBRefIdeal.nD Cert.InBRefIdeal.τ Cert.InBRefIdeal.sig) → Buf (Elt Ideal) ℓ) (g' : Dev Cert.InBRefIdeal.nD → PrngReg), Pre_InBIdeal m →
    (∀ c : Dev Cert.InBIdeal.nD,
      m' ((c.tc : Thread Cert.InBRefIdeal.nD Cert.InBRefIdeal.τ).loc Cert.InBRefIdeal.main_arg0) = m ((c.tc : Thread Cert.InBIdeal.nD Cert.InBIdeal.τ).loc Cert.InBIdeal.main_arg0)
      ∧ m' ((c.tc : Thread Cert.InBRefIdeal.nD Cert.InBRefIdeal.τ).loc Cert.InBRefIdeal.main_arg1) = m ((c.tc : Thread Cert.InBIdeal.nD Cert.InBIdeal.τ).loc Cert.InBIdeal.main_arg1)) →
    ∃ (v0 : (c : Dev Cert.InBIdeal.nD) → Buf (Elt Ideal) ((c.tc : Thread Cert.InBIdeal.nD Cert.InBIdeal.τ).loc Cert.InBIdeal.main_v2)),
      θ_run (Cert.InBIdeal.defs (F := Ideal)) (onTc (τ := Cert.InBIdeal.τ) (Cert.InBIdeal.main (F := Ideal))) ⟨m, fun _ => 0, g⟩ (fun r => ∀ c : Dev Cert.InBIdeal.nD,
          r.2.mem ((c.tc : Thread Cert.InBIdeal.nD Cert.InBIdeal.τ).loc Cert.InBIdeal.main_v2) = v0 c
          ∧ r.2.mem ((c.tc : Thread Cert.InBIdeal.nD Cert.InBIdeal.τ).loc Cert.InBIdeal.main_arg0) = m ((c.tc : Thread Cert.InBIdeal.nD Cert.InBIdeal.τ).loc Cert.InBIdeal.main_arg0)
          ∧ r.2.mem ((c.tc : Thread Cert.InBIdeal.nD Cert.InBIdeal.τ).loc Cert.InBIdeal.main_arg1) = m ((c.tc : Thread Cert.InBIdeal.nD Cert.InBIdeal.τ).loc Cert.InBIdeal.main_arg1))
      ∧ θ_run (Cert.InBRefIdeal.defs (F := Ideal)) (onTc (τ := Cert.InBRefIdeal.τ) (Cert.InBRefIdeal.main (F := Ideal))) ⟨m', fun _ => 0, g'⟩ (fun r => ∀ c : Dev Cert.InBRefIdeal.nD,
          r.2.mem ((c.tc : Thread Cert.InBRefIdeal.nD Cert.InBRefIdeal.τ).loc Cert.InBRefIdeal.main_v0) = v0 c
          ∧ r.2.mem ((c.tc : Thread Cert.InBRefIdeal.nD Cert.InBRefIdeal.τ).loc Cert.InBRefIdeal.main_arg0) = m' ((c.tc : Thread Cert.InBRefIdeal.nD Cert.InBRefIdeal.τ).loc Cert.InBRefIdeal.main_arg0)
          ∧ r.2.mem ((c.tc : Thread Cert.InBRefIdeal.nD Cert.InBRefIdeal.τ).loc Cert.InBRefIdeal.main_arg1) = m' ((c.tc : Thread Cert.InBRefIdeal.nD Cert.InBRefIdeal.τ).loc Cert.InBRefIdeal.main_arg1))

def preserves_DhB_DhBIdeal : Prop :=
  True

def algebraic_DhBIdeal_DhBRefIdeal [hDhBIdeal : Cert.DhBIdeal.Facts] [hDhBRefIdeal : Cert.DhBRefIdeal.Facts] : Prop :=
  ∀ (m : (ℓ : Loc Cert.DhBIdeal.nD Cert.DhBIdeal.τ Cert.DhBIdeal.sig) → Buf (Elt Ideal) ℓ) (g : Dev Cert.DhBIdeal.nD → PrngReg)
    (m' : (ℓ : Loc Cert.DhBRefIdeal.nD Cert.DhBRefIdeal.τ Cert.DhBRefIdeal.sig) → Buf (Elt Ideal) ℓ) (g' : Dev Cert.DhBRefIdeal.nD → PrngReg), Pre_DhBIdeal m →
    (∀ c : Dev Cert.DhBIdeal.nD,
      m' ((c.tc : Thread Cert.DhBRefIdeal.nD Cert.DhBRefIdeal.τ).loc Cert.DhBRefIdeal.main_arg0) = m ((c.tc : Thread Cert.DhBIdeal.nD Cert.DhBIdeal.τ).loc Cert.DhBIdeal.main_arg0)
      ∧ m' ((c.tc : Thread Cert.DhBRefIdeal.nD Cert.DhBRefIdeal.τ).loc Cert.DhBRefIdeal.main_arg1) = m ((c.tc : Thread Cert.DhBIdeal.nD Cert.DhBIdeal.τ).loc Cert.DhBIdeal.main_arg1)
      ∧ m' ((c.tc : Thread Cert.DhBRefIdeal.nD Cert.DhBRefIdeal.τ).loc Cert.DhBRefIdeal.main_arg2) = m ((c.tc : Thread Cert.DhBIdeal.nD Cert.DhBIdeal.τ).loc Cert.DhBIdeal.main_arg2)) →
    ∃ (v0 : (c : Dev Cert.DhBIdeal.nD) → Buf (Elt Ideal) ((c.tc : Thread Cert.DhBIdeal.nD Cert.DhBIdeal.τ).loc Cert.DhBIdeal.main_v2)),
      θ_run (Cert.DhBIdeal.defs (F := Ideal)) (onTc (τ := Cert.DhBIdeal.τ) (Cert.DhBIdeal.main (F := Ideal))) ⟨m, fun _ => 0, g⟩ (fun r => ∀ c : Dev Cert.DhBIdeal.nD,
          r.2.mem ((c.tc : Thread Cert.DhBIdeal.nD Cert.DhBIdeal.τ).loc Cert.DhBIdeal.main_v2) = v0 c
          ∧ r.2.mem ((c.tc : Thread Cert.DhBIdeal.nD Cert.DhBIdeal.τ).loc Cert.DhBIdeal.main_arg0) = m ((c.tc : Thread Cert.DhBIdeal.nD Cert.DhBIdeal.τ).loc Cert.DhBIdeal.main_arg0)
          ∧ r.2.mem ((c.tc : Thread Cert.DhBIdeal.nD Cert.DhBIdeal.τ).loc Cert.DhBIdeal.main_arg1) = m ((c.tc : Thread Cert.DhBIdeal.nD Cert.DhBIdeal.τ).loc Cert.DhBIdeal.main_arg1)
          ∧ r.2.mem ((c.tc : Thread Cert.DhBIdeal.nD Cert.DhBIdeal.τ).loc Cert.DhBIdeal.main_arg2) = m ((c.tc : Thread Cert.DhBIdeal.nD Cert.DhBIdeal.τ).loc Cert.DhBIdeal.main_arg2))
      ∧ θ_run (Cert.DhBRefIdeal.defs (F := Ideal)) (onTc (τ := Cert.DhBRefIdeal.τ) (Cert.DhBRefIdeal.main (F := Ideal))) ⟨m', fun _ => 0, g'⟩ (fun r => ∀ c : Dev Cert.DhBRefIdeal.nD,
          r.2.mem ((c.tc : Thread Cert.DhBRefIdeal.nD Cert.DhBRefIdeal.τ).loc Cert.DhBRefIdeal.main_v3) = v0 c
          ∧ r.2.mem ((c.tc : Thread Cert.DhBRefIdeal.nD Cert.DhBRefIdeal.τ).loc Cert.DhBRefIdeal.main_arg0) = m' ((c.tc : Thread Cert.DhBRefIdeal.nD Cert.DhBRefIdeal.τ).loc Cert.DhBRefIdeal.main_arg0)
          ∧ r.2.mem ((c.tc : Thread Cert.DhBRefIdeal.nD Cert.DhBRefIdeal.τ).loc Cert.DhBRefIdeal.main_arg1) = m' ((c.tc : Thread Cert.DhBRefIdeal.nD Cert.DhBRefIdeal.τ).loc Cert.DhBRefIdeal.main_arg1)
          ∧ r.2.mem ((c.tc : Thread Cert.DhBRefIdeal.nD Cert.DhBRefIdeal.τ).loc Cert.DhBRefIdeal.main_arg2) = m' ((c.tc : Thread Cert.DhBRefIdeal.nD Cert.DhBRefIdeal.τ).loc Cert.DhBRefIdeal.main_arg2))

def preserves_DwB_DwBIdeal : Prop :=
  True

def algebraic_DwBIdeal_DwBRefIdeal [hDwBIdeal : Cert.DwBIdeal.Facts] [hDwBRefIdeal : Cert.DwBRefIdeal.Facts] : Prop :=
  ∀ (m : (ℓ : Loc Cert.DwBIdeal.nD Cert.DwBIdeal.τ Cert.DwBIdeal.sig) → Buf (Elt Ideal) ℓ) (g : Dev Cert.DwBIdeal.nD → PrngReg)
    (m' : (ℓ : Loc Cert.DwBRefIdeal.nD Cert.DwBRefIdeal.τ Cert.DwBRefIdeal.sig) → Buf (Elt Ideal) ℓ) (g' : Dev Cert.DwBRefIdeal.nD → PrngReg), Pre_DwBIdeal m →
    (∀ c : Dev Cert.DwBIdeal.nD,
      m' ((c.tc : Thread Cert.DwBRefIdeal.nD Cert.DwBRefIdeal.τ).loc Cert.DwBRefIdeal.main_arg0) = m ((c.tc : Thread Cert.DwBIdeal.nD Cert.DwBIdeal.τ).loc Cert.DwBIdeal.main_arg0)
      ∧ m' ((c.tc : Thread Cert.DwBRefIdeal.nD Cert.DwBRefIdeal.τ).loc Cert.DwBRefIdeal.main_arg1) = m ((c.tc : Thread Cert.DwBIdeal.nD Cert.DwBIdeal.τ).loc Cert.DwBIdeal.main_arg1)) →
    ∃ (v0 : (c : Dev Cert.DwBIdeal.nD) → Buf (Elt Ideal) ((c.tc : Thread Cert.DwBIdeal.nD Cert.DwBIdeal.τ).loc Cert.DwBIdeal.main_v2)),
      θ_run (Cert.DwBIdeal.defs (F := Ideal)) (onTc (τ := Cert.DwBIdeal.τ) (Cert.DwBIdeal.main (F := Ideal))) ⟨m, fun _ => 0, g⟩ (fun r => ∀ c : Dev Cert.DwBIdeal.nD,
          r.2.mem ((c.tc : Thread Cert.DwBIdeal.nD Cert.DwBIdeal.τ).loc Cert.DwBIdeal.main_v2) = v0 c
          ∧ r.2.mem ((c.tc : Thread Cert.DwBIdeal.nD Cert.DwBIdeal.τ).loc Cert.DwBIdeal.main_arg0) = m ((c.tc : Thread Cert.DwBIdeal.nD Cert.DwBIdeal.τ).loc Cert.DwBIdeal.main_arg0)
          ∧ r.2.mem ((c.tc : Thread Cert.DwBIdeal.nD Cert.DwBIdeal.τ).loc Cert.DwBIdeal.main_arg1) = m ((c.tc : Thread Cert.DwBIdeal.nD Cert.DwBIdeal.τ).loc Cert.DwBIdeal.main_arg1))
      ∧ θ_run (Cert.DwBRefIdeal.defs (F := Ideal)) (onTc (τ := Cert.DwBRefIdeal.τ) (Cert.DwBRefIdeal.main (F := Ideal))) ⟨m', fun _ => 0, g'⟩ (fun r => ∀ c : Dev Cert.DwBRefIdeal.nD,
          r.2.mem ((c.tc : Thread Cert.DwBRefIdeal.nD Cert.DwBRefIdeal.τ).loc Cert.DwBRefIdeal.main_v3) = v0 c
          ∧ r.2.mem ((c.tc : Thread Cert.DwBRefIdeal.nD Cert.DwBRefIdeal.τ).loc Cert.DwBRefIdeal.main_arg0) = m' ((c.tc : Thread Cert.DwBRefIdeal.nD Cert.DwBRefIdeal.τ).loc Cert.DwBRefIdeal.main_arg0)
          ∧ r.2.mem ((c.tc : Thread Cert.DwBRefIdeal.nD Cert.DwBRefIdeal.τ).loc Cert.DwBRefIdeal.main_arg1) = m' ((c.tc : Thread Cert.DwBRefIdeal.nD Cert.DwBRefIdeal.τ).loc Cert.DwBRefIdeal.main_arg1))

def preserves_InG_InGIdeal : Prop :=
  True

def algebraic_InGIdeal_InGRefIdeal [hInGIdeal : Cert.InGIdeal.Facts] [hInGRefIdeal : Cert.InGRefIdeal.Facts] : Prop :=
  ∀ (m : (ℓ : Loc Cert.InGIdeal.nD Cert.InGIdeal.τ Cert.InGIdeal.sig) → Buf (Elt Ideal) ℓ) (g : Dev Cert.InGIdeal.nD → PrngReg)
    (m' : (ℓ : Loc Cert.InGRefIdeal.nD Cert.InGRefIdeal.τ Cert.InGRefIdeal.sig) → Buf (Elt Ideal) ℓ) (g' : Dev Cert.InGRefIdeal.nD → PrngReg), Pre_InGIdeal m →
    (∀ c : Dev Cert.InGIdeal.nD,
      m' ((c.tc : Thread Cert.InGRefIdeal.nD Cert.InGRefIdeal.τ).loc Cert.InGRefIdeal.main_arg0) = m ((c.tc : Thread Cert.InGIdeal.nD Cert.InGIdeal.τ).loc Cert.InGIdeal.main_arg0)
      ∧ m' ((c.tc : Thread Cert.InGRefIdeal.nD Cert.InGRefIdeal.τ).loc Cert.InGRefIdeal.main_arg1) = m ((c.tc : Thread Cert.InGIdeal.nD Cert.InGIdeal.τ).loc Cert.InGIdeal.main_arg1)) →
    ∃ (v0 : (c : Dev Cert.InGIdeal.nD) → Buf (Elt Ideal) ((c.tc : Thread Cert.InGIdeal.nD Cert.InGIdeal.τ).loc Cert.InGIdeal.main_v2)),
      θ_run (Cert.InGIdeal.defs (F := Ideal)) (onTc (τ := Cert.InGIdeal.τ) (Cert.InGIdeal.main (F := Ideal))) ⟨m, fun _ => 0, g⟩ (fun r => ∀ c : Dev Cert.InGIdeal.nD,
          r.2.mem ((c.tc : Thread Cert.InGIdeal.nD Cert.InGIdeal.τ).loc Cert.InGIdeal.main_v2) = v0 c
          ∧ r.2.mem ((c.tc : Thread Cert.InGIdeal.nD Cert.InGIdeal.τ).loc Cert.InGIdeal.main_arg0) = m ((c.tc : Thread Cert.InGIdeal.nD Cert.InGIdeal.τ).loc Cert.InGIdeal.main_arg0)
          ∧ r.2.mem ((c.tc : Thread Cert.InGIdeal.nD Cert.InGIdeal.τ).loc Cert.InGIdeal.main_arg1) = m ((c.tc : Thread Cert.InGIdeal.nD Cert.InGIdeal.τ).loc Cert.InGIdeal.main_arg1))
      ∧ θ_run (Cert.InGRefIdeal.defs (F := Ideal)) (onTc (τ := Cert.InGRefIdeal.τ) (Cert.InGRefIdeal.main (F := Ideal))) ⟨m', fun _ => 0, g'⟩ (fun r => ∀ c : Dev Cert.InGRefIdeal.nD,
          r.2.mem ((c.tc : Thread Cert.InGRefIdeal.nD Cert.InGRefIdeal.τ).loc Cert.InGRefIdeal.main_v1) = v0 c
          ∧ r.2.mem ((c.tc : Thread Cert.InGRefIdeal.nD Cert.InGRefIdeal.τ).loc Cert.InGRefIdeal.main_arg0) = m' ((c.tc : Thread Cert.InGRefIdeal.nD Cert.InGRefIdeal.τ).loc Cert.InGRefIdeal.main_arg0)
          ∧ r.2.mem ((c.tc : Thread Cert.InGRefIdeal.nD Cert.InGRefIdeal.τ).loc Cert.InGRefIdeal.main_arg1) = m' ((c.tc : Thread Cert.InGRefIdeal.nD Cert.InGRefIdeal.τ).loc Cert.InGRefIdeal.main_arg1))

def preserves_DhG_DhGIdeal : Prop :=
  True

def algebraic_DhGIdeal_DhGRefIdeal [hDhGIdeal : Cert.DhGIdeal.Facts] [hDhGRefIdeal : Cert.DhGRefIdeal.Facts] : Prop :=
  ∀ (m : (ℓ : Loc Cert.DhGIdeal.nD Cert.DhGIdeal.τ Cert.DhGIdeal.sig) → Buf (Elt Ideal) ℓ) (g : Dev Cert.DhGIdeal.nD → PrngReg)
    (m' : (ℓ : Loc Cert.DhGRefIdeal.nD Cert.DhGRefIdeal.τ Cert.DhGRefIdeal.sig) → Buf (Elt Ideal) ℓ) (g' : Dev Cert.DhGRefIdeal.nD → PrngReg), Pre_DhGIdeal m →
    (∀ c : Dev Cert.DhGIdeal.nD,
      m' ((c.tc : Thread Cert.DhGRefIdeal.nD Cert.DhGRefIdeal.τ).loc Cert.DhGRefIdeal.main_arg0) = m ((c.tc : Thread Cert.DhGIdeal.nD Cert.DhGIdeal.τ).loc Cert.DhGIdeal.main_arg0)
      ∧ m' ((c.tc : Thread Cert.DhGRefIdeal.nD Cert.DhGRefIdeal.τ).loc Cert.DhGRefIdeal.main_arg1) = m ((c.tc : Thread Cert.DhGIdeal.nD Cert.DhGIdeal.τ).loc Cert.DhGIdeal.main_arg1)
      ∧ m' ((c.tc : Thread Cert.DhGRefIdeal.nD Cert.DhGRefIdeal.τ).loc Cert.DhGRefIdeal.main_arg2) = m ((c.tc : Thread Cert.DhGIdeal.nD Cert.DhGIdeal.τ).loc Cert.DhGIdeal.main_arg2)) →
    ∃ (v0 : (c : Dev Cert.DhGIdeal.nD) → Buf (Elt Ideal) ((c.tc : Thread Cert.DhGIdeal.nD Cert.DhGIdeal.τ).loc Cert.DhGIdeal.main_v2)),
      θ_run (Cert.DhGIdeal.defs (F := Ideal)) (onTc (τ := Cert.DhGIdeal.τ) (Cert.DhGIdeal.main (F := Ideal))) ⟨m, fun _ => 0, g⟩ (fun r => ∀ c : Dev Cert.DhGIdeal.nD,
          r.2.mem ((c.tc : Thread Cert.DhGIdeal.nD Cert.DhGIdeal.τ).loc Cert.DhGIdeal.main_v2) = v0 c
          ∧ r.2.mem ((c.tc : Thread Cert.DhGIdeal.nD Cert.DhGIdeal.τ).loc Cert.DhGIdeal.main_arg0) = m ((c.tc : Thread Cert.DhGIdeal.nD Cert.DhGIdeal.τ).loc Cert.DhGIdeal.main_arg0)
          ∧ r.2.mem ((c.tc : Thread Cert.DhGIdeal.nD Cert.DhGIdeal.τ).loc Cert.DhGIdeal.main_arg1) = m ((c.tc : Thread Cert.DhGIdeal.nD Cert.DhGIdeal.τ).loc Cert.DhGIdeal.main_arg1)
          ∧ r.2.mem ((c.tc : Thread Cert.DhGIdeal.nD Cert.DhGIdeal.τ).loc Cert.DhGIdeal.main_arg2) = m ((c.tc : Thread Cert.DhGIdeal.nD Cert.DhGIdeal.τ).loc Cert.DhGIdeal.main_arg2))
      ∧ θ_run (Cert.DhGRefIdeal.defs (F := Ideal)) (onTc (τ := Cert.DhGRefIdeal.τ) (Cert.DhGRefIdeal.main (F := Ideal))) ⟨m', fun _ => 0, g'⟩ (fun r => ∀ c : Dev Cert.DhGRefIdeal.nD,
          r.2.mem ((c.tc : Thread Cert.DhGRefIdeal.nD Cert.DhGRefIdeal.τ).loc Cert.DhGRefIdeal.main_v3) = v0 c
          ∧ r.2.mem ((c.tc : Thread Cert.DhGRefIdeal.nD Cert.DhGRefIdeal.τ).loc Cert.DhGRefIdeal.main_arg0) = m' ((c.tc : Thread Cert.DhGRefIdeal.nD Cert.DhGRefIdeal.τ).loc Cert.DhGRefIdeal.main_arg0)
          ∧ r.2.mem ((c.tc : Thread Cert.DhGRefIdeal.nD Cert.DhGRefIdeal.τ).loc Cert.DhGRefIdeal.main_arg1) = m' ((c.tc : Thread Cert.DhGRefIdeal.nD Cert.DhGRefIdeal.τ).loc Cert.DhGRefIdeal.main_arg1)
          ∧ r.2.mem ((c.tc : Thread Cert.DhGRefIdeal.nD Cert.DhGRefIdeal.τ).loc Cert.DhGRefIdeal.main_arg2) = m' ((c.tc : Thread Cert.DhGRefIdeal.nD Cert.DhGRefIdeal.τ).loc Cert.DhGRefIdeal.main_arg2))

def preserves_DwG_DwGIdeal : Prop :=
  True

def algebraic_DwGIdeal_DwGRefIdeal [hDwGIdeal : Cert.DwGIdeal.Facts] [hDwGRefIdeal : Cert.DwGRefIdeal.Facts] : Prop :=
  ∀ (m : (ℓ : Loc Cert.DwGIdeal.nD Cert.DwGIdeal.τ Cert.DwGIdeal.sig) → Buf (Elt Ideal) ℓ) (g : Dev Cert.DwGIdeal.nD → PrngReg)
    (m' : (ℓ : Loc Cert.DwGRefIdeal.nD Cert.DwGRefIdeal.τ Cert.DwGRefIdeal.sig) → Buf (Elt Ideal) ℓ) (g' : Dev Cert.DwGRefIdeal.nD → PrngReg), Pre_DwGIdeal m →
    (∀ c : Dev Cert.DwGIdeal.nD,
      m' ((c.tc : Thread Cert.DwGRefIdeal.nD Cert.DwGRefIdeal.τ).loc Cert.DwGRefIdeal.main_arg0) = m ((c.tc : Thread Cert.DwGIdeal.nD Cert.DwGIdeal.τ).loc Cert.DwGIdeal.main_arg0)
      ∧ m' ((c.tc : Thread Cert.DwGRefIdeal.nD Cert.DwGRefIdeal.τ).loc Cert.DwGRefIdeal.main_arg1) = m ((c.tc : Thread Cert.DwGIdeal.nD Cert.DwGIdeal.τ).loc Cert.DwGIdeal.main_arg1)) →
    ∃ (v0 : (c : Dev Cert.DwGIdeal.nD) → Buf (Elt Ideal) ((c.tc : Thread Cert.DwGIdeal.nD Cert.DwGIdeal.τ).loc Cert.DwGIdeal.main_v2)),
      θ_run (Cert.DwGIdeal.defs (F := Ideal)) (onTc (τ := Cert.DwGIdeal.τ) (Cert.DwGIdeal.main (F := Ideal))) ⟨m, fun _ => 0, g⟩ (fun r => ∀ c : Dev Cert.DwGIdeal.nD,
          r.2.mem ((c.tc : Thread Cert.DwGIdeal.nD Cert.DwGIdeal.τ).loc Cert.DwGIdeal.main_v2) = v0 c
          ∧ r.2.mem ((c.tc : Thread Cert.DwGIdeal.nD Cert.DwGIdeal.τ).loc Cert.DwGIdeal.main_arg0) = m ((c.tc : Thread Cert.DwGIdeal.nD Cert.DwGIdeal.τ).loc Cert.DwGIdeal.main_arg0)
          ∧ r.2.mem ((c.tc : Thread Cert.DwGIdeal.nD Cert.DwGIdeal.τ).loc Cert.DwGIdeal.main_arg1) = m ((c.tc : Thread Cert.DwGIdeal.nD Cert.DwGIdeal.τ).loc Cert.DwGIdeal.main_arg1))
      ∧ θ_run (Cert.DwGRefIdeal.defs (F := Ideal)) (onTc (τ := Cert.DwGRefIdeal.τ) (Cert.DwGRefIdeal.main (F := Ideal))) ⟨m', fun _ => 0, g'⟩ (fun r => ∀ c : Dev Cert.DwGRefIdeal.nD,
          r.2.mem ((c.tc : Thread Cert.DwGRefIdeal.nD Cert.DwGRefIdeal.τ).loc Cert.DwGRefIdeal.main_v3) = v0 c
          ∧ r.2.mem ((c.tc : Thread Cert.DwGRefIdeal.nD Cert.DwGRefIdeal.τ).loc Cert.DwGRefIdeal.main_arg0) = m' ((c.tc : Thread Cert.DwGRefIdeal.nD Cert.DwGRefIdeal.τ).loc Cert.DwGRefIdeal.main_arg0)
          ∧ r.2.mem ((c.tc : Thread Cert.DwGRefIdeal.nD Cert.DwGRefIdeal.τ).loc Cert.DwGRefIdeal.main_arg1) = m' ((c.tc : Thread Cert.DwGRefIdeal.nD Cert.DwGRefIdeal.τ).loc Cert.DwGRefIdeal.main_arg1))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)) →
    ∃ (v0 : (c : Dev Cert.OutIdeal.nD) → Buf (Elt Ideal) ((c.tc : Thread Cert.OutIdeal.nD Cert.OutIdeal.τ).loc Cert.OutIdeal.main_v2)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v2) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v1) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2))

def preserves_DwOut_DwOutIdeal : Prop :=
  True

def algebraic_DwOutIdeal_DwOutRefIdeal [hDwOutIdeal : Cert.DwOutIdeal.Facts] [hDwOutRefIdeal : Cert.DwOutRefIdeal.Facts] : Prop :=
  ∀ (m : (ℓ : Loc Cert.DwOutIdeal.nD Cert.DwOutIdeal.τ Cert.DwOutIdeal.sig) → Buf (Elt Ideal) ℓ) (g : Dev Cert.DwOutIdeal.nD → PrngReg)
    (m' : (ℓ : Loc Cert.DwOutRefIdeal.nD Cert.DwOutRefIdeal.τ Cert.DwOutRefIdeal.sig) → Buf (Elt Ideal) ℓ) (g' : Dev Cert.DwOutRefIdeal.nD → PrngReg), Pre_DwOutIdeal m →
    (∀ c : Dev Cert.DwOutIdeal.nD,
      m' ((c.tc : Thread Cert.DwOutRefIdeal.nD Cert.DwOutRefIdeal.τ).loc Cert.DwOutRefIdeal.main_arg0) = m ((c.tc : Thread Cert.DwOutIdeal.nD Cert.DwOutIdeal.τ).loc Cert.DwOutIdeal.main_arg0)
      ∧ m' ((c.tc : Thread Cert.DwOutRefIdeal.nD Cert.DwOutRefIdeal.τ).loc Cert.DwOutRefIdeal.main_arg1) = m ((c.tc : Thread Cert.DwOutIdeal.nD Cert.DwOutIdeal.τ).loc Cert.DwOutIdeal.main_arg1)) →
    ∃ (v0 : (c : Dev Cert.DwOutIdeal.nD) → Buf (Elt Ideal) ((c.tc : Thread Cert.DwOutIdeal.nD Cert.DwOutIdeal.τ).loc Cert.DwOutIdeal.main_v1)),
      θ_run (Cert.DwOutIdeal.defs (F := Ideal)) (onTc (τ := Cert.DwOutIdeal.τ) (Cert.DwOutIdeal.main (F := Ideal))) ⟨m, fun _ => 0, g⟩ (fun r => ∀ c : Dev Cert.DwOutIdeal.nD,
          r.2.mem ((c.tc : Thread Cert.DwOutIdeal.nD Cert.DwOutIdeal.τ).loc Cert.DwOutIdeal.main_v1) = v0 c
          ∧ r.2.mem ((c.tc : Thread Cert.DwOutIdeal.nD Cert.DwOutIdeal.τ).loc Cert.DwOutIdeal.main_arg0) = m ((c.tc : Thread Cert.DwOutIdeal.nD Cert.DwOutIdeal.τ).loc Cert.DwOutIdeal.main_arg0)
          ∧ r.2.mem ((c.tc : Thread Cert.DwOutIdeal.nD Cert.DwOutIdeal.τ).loc Cert.DwOutIdeal.main_arg1) = m ((c.tc : Thread Cert.DwOutIdeal.nD Cert.DwOutIdeal.τ).loc Cert.DwOutIdeal.main_arg1))
      ∧ θ_run (Cert.DwOutRefIdeal.defs (F := Ideal)) (onTc (τ := Cert.DwOutRefIdeal.τ) (Cert.DwOutRefIdeal.main (F := Ideal))) ⟨m', fun _ => 0, g'⟩ (fun r => ∀ c : Dev Cert.DwOutRefIdeal.nD,
          r.2.mem ((c.tc : Thread Cert.DwOutRefIdeal.nD Cert.DwOutRefIdeal.τ).loc Cert.DwOutRefIdeal.main_v3) = v0 c
          ∧ r.2.mem ((c.tc : Thread Cert.DwOutRefIdeal.nD Cert.DwOutRefIdeal.τ).loc Cert.DwOutRefIdeal.main_arg0) = m' ((c.tc : Thread Cert.DwOutRefIdeal.nD Cert.DwOutRefIdeal.τ).loc Cert.DwOutRefIdeal.main_arg0)
          ∧ r.2.mem ((c.tc : Thread Cert.DwOutRefIdeal.nD Cert.DwOutRefIdeal.τ).loc Cert.DwOutRefIdeal.main_arg1) = m' ((c.tc : Thread Cert.DwOutRefIdeal.nD Cert.DwOutRefIdeal.τ).loc Cert.DwOutRefIdeal.main_arg1))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)) →
    ∃ (v0 : (c : Dev Cert.MergeIdeal.nD) → Buf (Elt Ideal) ((c.tc : Thread Cert.MergeIdeal.nD Cert.MergeIdeal.τ).loc Cert.MergeIdeal.main_v6)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v6) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v31) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6))

def preserves_MergeBwd_MergeBwdIdeal : Prop :=
  True

def algebraic_MergeBwdIdeal_MergeBwdRefIdeal [hMergeBwdIdeal : Cert.MergeBwdIdeal.Facts] [hMergeBwdRefIdeal : Cert.MergeBwdRefIdeal.Facts] : Prop :=
  ∀ (m : (ℓ : Loc Cert.MergeBwdIdeal.nD Cert.MergeBwdIdeal.τ Cert.MergeBwdIdeal.sig) → Buf (Elt Ideal) ℓ) (g : Dev Cert.MergeBwdIdeal.nD → PrngReg)
    (m' : (ℓ : Loc Cert.MergeBwdRefIdeal.nD Cert.MergeBwdRefIdeal.τ Cert.MergeBwdRefIdeal.sig) → Buf (Elt Ideal) ℓ) (g' : Dev Cert.MergeBwdRefIdeal.nD → PrngReg), Pre_MergeBwdIdeal m →
    (∀ c : Dev Cert.MergeBwdIdeal.nD,
      m' ((c.tc : Thread Cert.MergeBwdRefIdeal.nD Cert.MergeBwdRefIdeal.τ).loc Cert.MergeBwdRefIdeal.main_arg0) = m ((c.tc : Thread Cert.MergeBwdIdeal.nD Cert.MergeBwdIdeal.τ).loc Cert.MergeBwdIdeal.main_arg0)
      ∧ m' ((c.tc : Thread Cert.MergeBwdRefIdeal.nD Cert.MergeBwdRefIdeal.τ).loc Cert.MergeBwdRefIdeal.main_arg1) = m ((c.tc : Thread Cert.MergeBwdIdeal.nD Cert.MergeBwdIdeal.τ).loc Cert.MergeBwdIdeal.main_arg1)
      ∧ m' ((c.tc : Thread Cert.MergeBwdRefIdeal.nD Cert.MergeBwdRefIdeal.τ).loc Cert.MergeBwdRefIdeal.main_arg2) = m ((c.tc : Thread Cert.MergeBwdIdeal.nD Cert.MergeBwdIdeal.τ).loc Cert.MergeBwdIdeal.main_arg2)
      ∧ m' ((c.tc : Thread Cert.MergeBwdRefIdeal.nD Cert.MergeBwdRefIdeal.τ).loc Cert.MergeBwdRefIdeal.main_arg3) = m ((c.tc : Thread Cert.MergeBwdIdeal.nD Cert.MergeBwdIdeal.τ).loc Cert.MergeBwdIdeal.main_arg3)
      ∧ m' ((c.tc : Thread Cert.MergeBwdRefIdeal.nD Cert.MergeBwdRefIdeal.τ).loc Cert.MergeBwdRefIdeal.main_arg4) = m ((c.tc : Thread Cert.MergeBwdIdeal.nD Cert.MergeBwdIdeal.τ).loc Cert.MergeBwdIdeal.main_arg4)
      ∧ m' ((c.tc : Thread Cert.MergeBwdRefIdeal.nD Cert.MergeBwdRefIdeal.τ).loc Cert.MergeBwdRefIdeal.main_arg5) = m ((c.tc : Thread Cert.MergeBwdIdeal.nD Cert.MergeBwdIdeal.τ).loc Cert.MergeBwdIdeal.main_arg5)
      ∧ m' ((c.tc : Thread Cert.MergeBwdRefIdeal.nD Cert.MergeBwdRefIdeal.τ).loc Cert.MergeBwdRefIdeal.main_arg6) = m ((c.tc : Thread Cert.MergeBwdIdeal.nD Cert.MergeBwdIdeal.τ).loc Cert.MergeBwdIdeal.main_arg6)
      ∧ m' ((c.tc : Thread Cert.MergeBwdRefIdeal.nD Cert.MergeBwdRefIdeal.τ).loc Cert.MergeBwdRefIdeal.main_arg7) = m ((c.tc : Thread Cert.MergeBwdIdeal.nD Cert.MergeBwdIdeal.τ).loc Cert.MergeBwdIdeal.main_arg7)) →
    ∃ (v0 : (c : Dev Cert.MergeBwdIdeal.nD) → Buf (Elt Ideal) ((c.tc : Thread Cert.MergeBwdIdeal.nD Cert.MergeBwdIdeal.τ).loc Cert.MergeBwdIdeal.main_v6_0)) (v1 : (c : Dev Cert.MergeBwdIdeal.nD) → Buf (Elt Ideal) ((c.tc : Thread Cert.MergeBwdIdeal.nD Cert.MergeBwdIdeal.τ).loc Cert.MergeBwdIdeal.main_v6_1)) (v2 : (c : Dev Cert.MergeBwdIdeal.nD) → Buf (Elt Ideal) ((c.tc : Thread Cert.MergeBwdIdeal.nD Cert.MergeBwdIdeal.τ).loc Cert.MergeBwdIdeal.main_v6_2)) (v3 : (c : Dev Cert.MergeBwdIdeal.nD) → Buf (Elt Ideal) ((c.tc : Thread Cert.MergeBwdIdeal.nD Cert.MergeBwdIdeal.τ).loc Cert.MergeBwdIdeal.main_v6_3)) (v4 : (c : Dev Cert.MergeBwdIdeal.nD) → Buf (Elt Ideal) ((c.tc : Thread Cert.MergeBwdIdeal.nD Cert.MergeBwdIdeal.τ).loc Cert.MergeBwdIdeal.main_v6_4)) (v5 : (c : Dev Cert.MergeBwdIdeal.nD) → Buf (Elt Ideal) ((c.tc : Thread Cert.MergeBwdIdeal.nD Cert.MergeBwdIdeal.τ).loc Cert.MergeBwdIdeal.main_v6_5)),
      θ_run (Cert.MergeBwdIdeal.defs (F := Ideal)) (onTc (τ := Cert.MergeBwdIdeal.τ) (Cert.MergeBwdIdeal.main (F := Ideal))) ⟨m, fun _ => 0, g⟩ (fun r => ∀ c : Dev Cert.MergeBwdIdeal.nD,
          r.2.mem ((c.tc : Thread Cert.MergeBwdIdeal.nD Cert.MergeBwdIdeal.τ).loc Cert.MergeBwdIdeal.main_v6_0) = v0 c
          ∧ r.2.mem ((c.tc : Thread Cert.MergeBwdIdeal.nD Cert.MergeBwdIdeal.τ).loc Cert.MergeBwdIdeal.main_v6_1) = v1 c
          ∧ r.2.mem ((c.tc : Thread Cert.MergeBwdIdeal.nD Cert.MergeBwdIdeal.τ).loc Cert.MergeBwdIdeal.main_v6_2) = v2 c
          ∧ r.2.mem ((c.tc : Thread Cert.MergeBwdIdeal.nD Cert.MergeBwdIdeal.τ).loc Cert.MergeBwdIdeal.main_v6_3) = v3 c
          ∧ r.2.mem ((c.tc : Thread Cert.MergeBwdIdeal.nD Cert.MergeBwdIdeal.τ).loc Cert.MergeBwdIdeal.main_v6_4) = v4 c
          ∧ r.2.mem ((c.tc : Thread Cert.MergeBwdIdeal.nD Cert.MergeBwdIdeal.τ).loc Cert.MergeBwdIdeal.main_v6_5) = v5 c
          ∧ r.2.mem ((c.tc : Thread Cert.MergeBwdIdeal.nD Cert.MergeBwdIdeal.τ).loc Cert.MergeBwdIdeal.main_arg0) = m ((c.tc : Thread Cert.MergeBwdIdeal.nD Cert.MergeBwdIdeal.τ).loc Cert.MergeBwdIdeal.main_arg0)
          ∧ r.2.mem ((c.tc : Thread Cert.MergeBwdIdeal.nD Cert.MergeBwdIdeal.τ).loc Cert.MergeBwdIdeal.main_arg1) = m ((c.tc : Thread Cert.MergeBwdIdeal.nD Cert.MergeBwdIdeal.τ).loc Cert.MergeBwdIdeal.main_arg1)
          ∧ r.2.mem ((c.tc : Thread Cert.MergeBwdIdeal.nD Cert.MergeBwdIdeal.τ).loc Cert.MergeBwdIdeal.main_arg2) = m ((c.tc : Thread Cert.MergeBwdIdeal.nD Cert.MergeBwdIdeal.τ).loc Cert.MergeBwdIdeal.main_arg2)
          ∧ r.2.mem ((c.tc : Thread Cert.MergeBwdIdeal.nD Cert.MergeBwdIdeal.τ).loc Cert.MergeBwdIdeal.main_arg3) = m ((c.tc : Thread Cert.MergeBwdIdeal.nD Cert.MergeBwdIdeal.τ).loc Cert.MergeBwdIdeal.main_arg3)
          ∧ r.2.mem ((c.tc : Thread Cert.MergeBwdIdeal.nD Cert.MergeBwdIdeal.τ).loc Cert.MergeBwdIdeal.main_arg4) = m ((c.tc : Thread Cert.MergeBwdIdeal.nD Cert.MergeBwdIdeal.τ).loc Cert.MergeBwdIdeal.main_arg4)
          ∧ r.2.mem ((c.tc : Thread Cert.MergeBwdIdeal.nD Cert.MergeBwdIdeal.τ).loc Cert.MergeBwdIdeal.main_arg5) = m ((c.tc : Thread Cert.MergeBwdIdeal.nD Cert.MergeBwdIdeal.τ).loc Cert.MergeBwdIdeal.main_arg5)
          ∧ r.2.mem ((c.tc : Thread Cert.MergeBwdIdeal.nD Cert.MergeBwdIdeal.τ).loc Cert.MergeBwdIdeal.main_arg6) = m ((c.tc : Thread Cert.MergeBwdIdeal.nD Cert.MergeBwdIdeal.τ).loc Cert.MergeBwdIdeal.main_arg6)
          ∧ r.2.mem ((c.tc : Thread Cert.MergeBwdIdeal.nD Cert.MergeBwdIdeal.τ).loc Cert.MergeBwdIdeal.main_arg7) = m ((c.tc : Thread Cert.MergeBwdIdeal.nD Cert.MergeBwdIdeal.τ).loc Cert.MergeBwdIdeal.main_arg7))
      ∧ θ_run (Cert.MergeBwdRefIdeal.defs (F := Ideal)) (onTc (τ := Cert.MergeBwdRefIdeal.τ) (Cert.MergeBwdRefIdeal.main (F := Ideal))) ⟨m', fun _ => 0, g'⟩ (fun r => ∀ c : Dev Cert.MergeBwdRefIdeal.nD,
          r.2.mem ((c.tc : Thread Cert.MergeBwdRefIdeal.nD Cert.MergeBwdRefIdeal.τ).loc Cert.MergeBwdRefIdeal.main_v51) = v0 c
          ∧ r.2.mem ((c.tc : Thread Cert.MergeBwdRefIdeal.nD Cert.MergeBwdRefIdeal.τ).loc Cert.MergeBwdRefIdeal.main_v52) = v1 c
          ∧ r.2.mem ((c.tc : Thread Cert.MergeBwdRefIdeal.nD Cert.MergeBwdRefIdeal.τ).loc Cert.MergeBwdRefIdeal.main_v53) = v2 c
          ∧ r.2.mem ((c.tc : Thread Cert.MergeBwdRefIdeal.nD Cert.MergeBwdRefIdeal.τ).loc Cert.MergeBwdRefIdeal.main_v54) = v3 c
          ∧ r.2.mem ((c.tc : Thread Cert.MergeBwdRefIdeal.nD Cert.MergeBwdRefIdeal.τ).loc Cert.MergeBwdRefIdeal.main_v55) = v4 c
          ∧ r.2.mem ((c.tc : Thread Cert.MergeBwdRefIdeal.nD Cert.MergeBwdRefIdeal.τ).loc Cert.MergeBwdRefIdeal.main_v56) = v5 c
          ∧ r.2.mem ((c.tc : Thread Cert.MergeBwdRefIdeal.nD Cert.MergeBwdRefIdeal.τ).loc Cert.MergeBwdRefIdeal.main_arg0) = m' ((c.tc : Thread Cert.MergeBwdRefIdeal.nD Cert.MergeBwdRefIdeal.τ).loc Cert.MergeBwdRefIdeal.main_arg0)
          ∧ r.2.mem ((c.tc : Thread Cert.MergeBwdRefIdeal.nD Cert.MergeBwdRefIdeal.τ).loc Cert.MergeBwdRefIdeal.main_arg1) = m' ((c.tc : Thread Cert.MergeBwdRefIdeal.nD Cert.MergeBwdRefIdeal.τ).loc Cert.MergeBwdRefIdeal.main_arg1)
          ∧ r.2.mem ((c.tc : Thread Cert.MergeBwdRefIdeal.nD Cert.MergeBwdRefIdeal.τ).loc Cert.MergeBwdRefIdeal.main_arg2) = m' ((c.tc : Thread Cert.MergeBwdRefIdeal.nD Cert.MergeBwdRefIdeal.τ).loc Cert.MergeBwdRefIdeal.main_arg2)
          ∧ r.2.mem ((c.tc : Thread Cert.MergeBwdRefIdeal.nD Cert.MergeBwdRefIdeal.τ).loc Cert.MergeBwdRefIdeal.main_arg3) = m' ((c.tc : Thread Cert.MergeBwdRefIdeal.nD Cert.MergeBwdRefIdeal.τ).loc Cert.MergeBwdRefIdeal.main_arg3)
          ∧ r.2.mem ((c.tc : Thread Cert.MergeBwdRefIdeal.nD Cert.MergeBwdRefIdeal.τ).loc Cert.MergeBwdRefIdeal.main_arg4) = m' ((c.tc : Thread Cert.MergeBwdRefIdeal.nD Cert.MergeBwdRefIdeal.τ).loc Cert.MergeBwdRefIdeal.main_arg4)
          ∧ r.2.mem ((c.tc : Thread Cert.MergeBwdRefIdeal.nD Cert.MergeBwdRefIdeal.τ).loc Cert.MergeBwdRefIdeal.main_arg5) = m' ((c.tc : Thread Cert.MergeBwdRefIdeal.nD Cert.MergeBwdRefIdeal.τ).loc Cert.MergeBwdRefIdeal.main_arg5)
          ∧ r.2.mem ((c.tc : Thread Cert.MergeBwdRefIdeal.nD Cert.MergeBwdRefIdeal.τ).loc Cert.MergeBwdRefIdeal.main_arg6) = m' ((c.tc : Thread Cert.MergeBwdRefIdeal.nD Cert.MergeBwdRefIdeal.τ).loc Cert.MergeBwdRefIdeal.main_arg6)
          ∧ r.2.mem ((c.tc : Thread Cert.MergeBwdRefIdeal.nD Cert.MergeBwdRefIdeal.τ).loc Cert.MergeBwdRefIdeal.main_arg7) = m' ((c.tc : Thread Cert.MergeBwdRefIdeal.nD Cert.MergeBwdRefIdeal.τ).loc Cert.MergeBwdRefIdeal.main_arg7))

def preserves_Cross_CrossIdeal : Prop :=
  True

def algebraic_CrossIdeal_CrossRefIdeal [hCrossIdeal : Cert.CrossIdeal.Facts] [hCrossRefIdeal : Cert.CrossRefIdeal.Facts] : Prop :=
  ∀ (m : (ℓ : Loc Cert.CrossIdeal.nD Cert.CrossIdeal.τ Cert.CrossIdeal.sig) → Buf (Elt Ideal) ℓ) (g : Dev Cert.CrossIdeal.nD → PrngReg)
    (m' : (ℓ : Loc Cert.CrossRefIdeal.nD Cert.CrossRefIdeal.τ Cert.CrossRefIdeal.sig) → Buf (Elt Ideal) ℓ) (g' : Dev Cert.CrossRefIdeal.nD → PrngReg), Pre_CrossIdeal m →
    (∀ c : Dev Cert.CrossIdeal.nD,
      m' ((c.tc : Thread Cert.CrossRefIdeal.nD Cert.CrossRefIdeal.τ).loc Cert.CrossRefIdeal.main_arg0) = m ((c.tc : Thread Cert.CrossIdeal.nD Cert.CrossIdeal.τ).loc Cert.CrossIdeal.main_arg0)
      ∧ m' ((c.tc : Thread Cert.CrossRefIdeal.nD Cert.CrossRefIdeal.τ).loc Cert.CrossRefIdeal.main_arg1) = m ((c.tc : Thread Cert.CrossIdeal.nD Cert.CrossIdeal.τ).loc Cert.CrossIdeal.main_arg1)) →
    ∃ (v0 : (c : Dev Cert.CrossIdeal.nD) → Buf (Elt Ideal) ((c.tc : Thread Cert.CrossIdeal.nD Cert.CrossIdeal.τ).loc Cert.CrossIdeal.main_v2)),
      θ_run (Cert.CrossIdeal.defs (F := Ideal)) (onTc (τ := Cert.CrossIdeal.τ) (Cert.CrossIdeal.main (F := Ideal))) ⟨m, fun _ => 0, g⟩ (fun r => ∀ c : Dev Cert.CrossIdeal.nD,
          r.2.mem ((c.tc : Thread Cert.CrossIdeal.nD Cert.CrossIdeal.τ).loc Cert.CrossIdeal.main_v2) = v0 c
          ∧ r.2.mem ((c.tc : Thread Cert.CrossIdeal.nD Cert.CrossIdeal.τ).loc Cert.CrossIdeal.main_arg0) = m ((c.tc : Thread Cert.CrossIdeal.nD Cert.CrossIdeal.τ).loc Cert.CrossIdeal.main_arg0)
          ∧ r.2.mem ((c.tc : Thread Cert.CrossIdeal.nD Cert.CrossIdeal.τ).loc Cert.CrossIdeal.main_arg1) = m ((c.tc : Thread Cert.CrossIdeal.nD Cert.CrossIdeal.τ).loc Cert.CrossIdeal.main_arg1))
      ∧ θ_run (Cert.CrossRefIdeal.defs (F := Ideal)) (onTc (τ := Cert.CrossRefIdeal.τ) (Cert.CrossRefIdeal.main (F := Ideal))) ⟨m', fun _ => 0, g'⟩ (fun r => ∀ c : Dev Cert.CrossRefIdeal.nD,
          r.2.mem ((c.tc : Thread Cert.CrossRefIdeal.nD Cert.CrossRefIdeal.τ).loc Cert.CrossRefIdeal.main_v21) = v0 c
          ∧ r.2.mem ((c.tc : Thread Cert.CrossRefIdeal.nD Cert.CrossRefIdeal.τ).loc Cert.CrossRefIdeal.main_arg0) = m' ((c.tc : Thread Cert.CrossRefIdeal.nD Cert.CrossRefIdeal.τ).loc Cert.CrossRefIdeal.main_arg0)
          ∧ r.2.mem ((c.tc : Thread Cert.CrossRefIdeal.nD Cert.CrossRefIdeal.τ).loc Cert.CrossRefIdeal.main_arg1) = m' ((c.tc : Thread Cert.CrossRefIdeal.nD Cert.CrossRefIdeal.τ).loc Cert.CrossRefIdeal.main_arg1))

def preserves_Xq_XqIdeal : Prop :=
  True

def algebraic_XqIdeal_XqRefIdeal [hXqIdeal : Cert.XqIdeal.Facts] [hXqRefIdeal : Cert.XqRefIdeal.Facts] : Prop :=
  ∀ (m : (ℓ : Loc Cert.XqIdeal.nD Cert.XqIdeal.τ Cert.XqIdeal.sig) → Buf (Elt Ideal) ℓ) (g : Dev Cert.XqIdeal.nD → PrngReg)
    (m' : (ℓ : Loc Cert.XqRefIdeal.nD Cert.XqRefIdeal.τ Cert.XqRefIdeal.sig) → Buf (Elt Ideal) ℓ) (g' : Dev Cert.XqRefIdeal.nD → PrngReg), Pre_XqIdeal m →
    (∀ c : Dev Cert.XqIdeal.nD,
      m' ((c.tc : Thread Cert.XqRefIdeal.nD Cert.XqRefIdeal.τ).loc Cert.XqRefIdeal.main_arg0) = m ((c.tc : Thread Cert.XqIdeal.nD Cert.XqIdeal.τ).loc Cert.XqIdeal.main_arg0)
      ∧ m' ((c.tc : Thread Cert.XqRefIdeal.nD Cert.XqRefIdeal.τ).loc Cert.XqRefIdeal.main_arg1) = m ((c.tc : Thread Cert.XqIdeal.nD Cert.XqIdeal.τ).loc Cert.XqIdeal.main_arg1)) →
    ∃ (v0 : (c : Dev Cert.XqIdeal.nD) → Buf (Elt Ideal) ((c.tc : Thread Cert.XqIdeal.nD Cert.XqIdeal.τ).loc Cert.XqIdeal.main_v2)),
      θ_run (Cert.XqIdeal.defs (F := Ideal)) (onTc (τ := Cert.XqIdeal.τ) (Cert.XqIdeal.main (F := Ideal))) ⟨m, fun _ => 0, g⟩ (fun r => ∀ c : Dev Cert.XqIdeal.nD,
          r.2.mem ((c.tc : Thread Cert.XqIdeal.nD Cert.XqIdeal.τ).loc Cert.XqIdeal.main_v2) = v0 c
          ∧ r.2.mem ((c.tc : Thread Cert.XqIdeal.nD Cert.XqIdeal.τ).loc Cert.XqIdeal.main_arg0) = m ((c.tc : Thread Cert.XqIdeal.nD Cert.XqIdeal.τ).loc Cert.XqIdeal.main_arg0)
          ∧ r.2.mem ((c.tc : Thread Cert.XqIdeal.nD Cert.XqIdeal.τ).loc Cert.XqIdeal.main_arg1) = m ((c.tc : Thread Cert.XqIdeal.nD Cert.XqIdeal.τ).loc Cert.XqIdeal.main_arg1))
      ∧ θ_run (Cert.XqRefIdeal.defs (F := Ideal)) (onTc (τ := Cert.XqRefIdeal.τ) (Cert.XqRefIdeal.main (F := Ideal))) ⟨m', fun _ => 0, g'⟩ (fun r => ∀ c : Dev Cert.XqRefIdeal.nD,
          r.2.mem ((c.tc : Thread Cert.XqRefIdeal.nD Cert.XqRefIdeal.τ).loc Cert.XqRefIdeal.main_v1) = v0 c
          ∧ r.2.mem ((c.tc : Thread Cert.XqRefIdeal.nD Cert.XqRefIdeal.τ).loc Cert.XqRefIdeal.main_arg0) = m' ((c.tc : Thread Cert.XqRefIdeal.nD Cert.XqRefIdeal.τ).loc Cert.XqRefIdeal.main_arg0)
          ∧ r.2.mem ((c.tc : Thread Cert.XqRefIdeal.nD Cert.XqRefIdeal.τ).loc Cert.XqRefIdeal.main_arg1) = m' ((c.tc : Thread Cert.XqRefIdeal.nD Cert.XqRefIdeal.τ).loc Cert.XqRefIdeal.main_arg1))

def preserves_Dox_DoxIdeal : Prop :=
  True

def algebraic_DoxIdeal_DoxRefIdeal [hDoxIdeal : Cert.DoxIdeal.Facts] [hDoxRefIdeal : Cert.DoxRefIdeal.Facts] : Prop :=
  ∀ (m : (ℓ : Loc Cert.DoxIdeal.nD Cert.DoxIdeal.τ Cert.DoxIdeal.sig) → Buf (Elt Ideal) ℓ) (g : Dev Cert.DoxIdeal.nD → PrngReg)
    (m' : (ℓ : Loc Cert.DoxRefIdeal.nD Cert.DoxRefIdeal.τ Cert.DoxRefIdeal.sig) → Buf (Elt Ideal) ℓ) (g' : Dev Cert.DoxRefIdeal.nD → PrngReg), Pre_DoxIdeal m →
    (∀ c : Dev Cert.DoxIdeal.nD,
      m' ((c.tc : Thread Cert.DoxRefIdeal.nD Cert.DoxRefIdeal.τ).loc Cert.DoxRefIdeal.main_arg0) = m ((c.tc : Thread Cert.DoxIdeal.nD Cert.DoxIdeal.τ).loc Cert.DoxIdeal.main_arg0)
      ∧ m' ((c.tc : Thread Cert.DoxRefIdeal.nD Cert.DoxRefIdeal.τ).loc Cert.DoxRefIdeal.main_arg1) = m ((c.tc : Thread Cert.DoxIdeal.nD Cert.DoxIdeal.τ).loc Cert.DoxIdeal.main_arg1)) →
    ∃ (v0 : (c : Dev Cert.DoxIdeal.nD) → Buf (Elt Ideal) ((c.tc : Thread Cert.DoxIdeal.nD Cert.DoxIdeal.τ).loc Cert.DoxIdeal.main_v1)),
      θ_run (Cert.DoxIdeal.defs (F := Ideal)) (onTc (τ := Cert.DoxIdeal.τ) (Cert.DoxIdeal.main (F := Ideal))) ⟨m, fun _ => 0, g⟩ (fun r => ∀ c : Dev Cert.DoxIdeal.nD,
          r.2.mem ((c.tc : Thread Cert.DoxIdeal.nD Cert.DoxIdeal.τ).loc Cert.DoxIdeal.main_v1) = v0 c
          ∧ r.2.mem ((c.tc : Thread Cert.DoxIdeal.nD Cert.DoxIdeal.τ).loc Cert.DoxIdeal.main_arg0) = m ((c.tc : Thread Cert.DoxIdeal.nD Cert.DoxIdeal.τ).loc Cert.DoxIdeal.main_arg0)
          ∧ r.2.mem ((c.tc : Thread Cert.DoxIdeal.nD Cert.DoxIdeal.τ).loc Cert.DoxIdeal.main_arg1) = m ((c.tc : Thread Cert.DoxIdeal.nD Cert.DoxIdeal.τ).loc Cert.DoxIdeal.main_arg1))
      ∧ θ_run (Cert.DoxRefIdeal.defs (F := Ideal)) (onTc (τ := Cert.DoxRefIdeal.τ) (Cert.DoxRefIdeal.main (F := Ideal))) ⟨m', fun _ => 0, g'⟩ (fun r => ∀ c : Dev Cert.DoxRefIdeal.nD,
          r.2.mem ((c.tc : Thread Cert.DoxRefIdeal.nD Cert.DoxRefIdeal.τ).loc Cert.DoxRefIdeal.main_v3) = v0 c
          ∧ r.2.mem ((c.tc : Thread Cert.DoxRefIdeal.nD Cert.DoxRefIdeal.τ).loc Cert.DoxRefIdeal.main_arg0) = m' ((c.tc : Thread Cert.DoxRefIdeal.nD Cert.DoxRefIdeal.τ).loc Cert.DoxRefIdeal.main_arg0)
          ∧ r.2.mem ((c.tc : Thread Cert.DoxRefIdeal.nD Cert.DoxRefIdeal.τ).loc Cert.DoxRefIdeal.main_arg1) = m' ((c.tc : Thread Cert.DoxRefIdeal.nD Cert.DoxRefIdeal.τ).loc Cert.DoxRefIdeal.main_arg1))

def preserves_Dmerged_DmergedIdeal : Prop :=
  True

def algebraic_DmergedIdeal_DmergedRefIdeal [hDmergedIdeal : Cert.DmergedIdeal.Facts] [hDmergedRefIdeal : Cert.DmergedRefIdeal.Facts] : Prop :=
  ∀ (m : (ℓ : Loc Cert.DmergedIdeal.nD Cert.DmergedIdeal.τ Cert.DmergedIdeal.sig) → Buf (Elt Ideal) ℓ) (g : Dev Cert.DmergedIdeal.nD → PrngReg)
    (m' : (ℓ : Loc Cert.DmergedRefIdeal.nD Cert.DmergedRefIdeal.τ Cert.DmergedRefIdeal.sig) → Buf (Elt Ideal) ℓ) (g' : Dev Cert.DmergedRefIdeal.nD → PrngReg), Pre_DmergedIdeal m →
    (∀ c : Dev Cert.DmergedIdeal.nD,
      m' ((c.tc : Thread Cert.DmergedRefIdeal.nD Cert.DmergedRefIdeal.τ).loc Cert.DmergedRefIdeal.main_arg0) = m ((c.tc : Thread Cert.DmergedIdeal.nD Cert.DmergedIdeal.τ).loc Cert.DmergedIdeal.main_arg0)
      ∧ m' ((c.tc : Thread Cert.DmergedRefIdeal.nD Cert.DmergedRefIdeal.τ).loc Cert.DmergedRefIdeal.main_arg1) = m ((c.tc : Thread Cert.DmergedIdeal.nD Cert.DmergedIdeal.τ).loc Cert.DmergedIdeal.main_arg1)) →
    ∃ (v0 : (c : Dev Cert.DmergedIdeal.nD) → Buf (Elt Ideal) ((c.tc : Thread Cert.DmergedIdeal.nD Cert.DmergedIdeal.τ).loc Cert.DmergedIdeal.main_v1)),
      θ_run (Cert.DmergedIdeal.defs (F := Ideal)) (onTc (τ := Cert.DmergedIdeal.τ) (Cert.DmergedIdeal.main (F := Ideal))) ⟨m, fun _ => 0, g⟩ (fun r => ∀ c : Dev Cert.DmergedIdeal.nD,
          r.2.mem ((c.tc : Thread Cert.DmergedIdeal.nD Cert.DmergedIdeal.τ).loc Cert.DmergedIdeal.main_v1) = v0 c
          ∧ r.2.mem ((c.tc : Thread Cert.DmergedIdeal.nD Cert.DmergedIdeal.τ).loc Cert.DmergedIdeal.main_arg0) = m ((c.tc : Thread Cert.DmergedIdeal.nD Cert.DmergedIdeal.τ).loc Cert.DmergedIdeal.main_arg0)
          ∧ r.2.mem ((c.tc : Thread Cert.DmergedIdeal.nD Cert.DmergedIdeal.τ).loc Cert.DmergedIdeal.main_arg1) = m ((c.tc : Thread Cert.DmergedIdeal.nD Cert.DmergedIdeal.τ).loc Cert.DmergedIdeal.main_arg1))
      ∧ θ_run (Cert.DmergedRefIdeal.defs (F := Ideal)) (onTc (τ := Cert.DmergedRefIdeal.τ) (Cert.DmergedRefIdeal.main (F := Ideal))) ⟨m', fun _ => 0, g'⟩ (fun r => ∀ c : Dev Cert.DmergedRefIdeal.nD,
          r.2.mem ((c.tc : Thread Cert.DmergedRefIdeal.nD Cert.DmergedRefIdeal.τ).loc Cert.DmergedRefIdeal.main_v2) = v0 c
          ∧ r.2.mem ((c.tc : Thread Cert.DmergedRefIdeal.nD Cert.DmergedRefIdeal.τ).loc Cert.DmergedRefIdeal.main_arg0) = m' ((c.tc : Thread Cert.DmergedRefIdeal.nD Cert.DmergedRefIdeal.τ).loc Cert.DmergedRefIdeal.main_arg0)
          ∧ r.2.mem ((c.tc : Thread Cert.DmergedRefIdeal.nD Cert.DmergedRefIdeal.τ).loc Cert.DmergedRefIdeal.main_arg1) = m' ((c.tc : Thread Cert.DmergedRefIdeal.nD Cert.DmergedRefIdeal.τ).loc Cert.DmergedRefIdeal.main_arg1))

def preserves_Dh1_Dh1Ideal : Prop :=
  True

def algebraic_Dh1Ideal_Dh1RefIdeal [hDh1Ideal : Cert.Dh1Ideal.Facts] [hDh1RefIdeal : Cert.Dh1RefIdeal.Facts] : Prop :=
  ∀ (m : (ℓ : Loc Cert.Dh1Ideal.nD Cert.Dh1Ideal.τ Cert.Dh1Ideal.sig) → Buf (Elt Ideal) ℓ) (g : Dev Cert.Dh1Ideal.nD → PrngReg)
    (m' : (ℓ : Loc Cert.Dh1RefIdeal.nD Cert.Dh1RefIdeal.τ Cert.Dh1RefIdeal.sig) → Buf (Elt Ideal) ℓ) (g' : Dev Cert.Dh1RefIdeal.nD → PrngReg), Pre_Dh1Ideal m →
    (∀ c : Dev Cert.Dh1Ideal.nD,
      m' ((c.tc : Thread Cert.Dh1RefIdeal.nD Cert.Dh1RefIdeal.τ).loc Cert.Dh1RefIdeal.main_arg0) = m ((c.tc : Thread Cert.Dh1Ideal.nD Cert.Dh1Ideal.τ).loc Cert.Dh1Ideal.main_arg0)
      ∧ m' ((c.tc : Thread Cert.Dh1RefIdeal.nD Cert.Dh1RefIdeal.τ).loc Cert.Dh1RefIdeal.main_arg1) = m ((c.tc : Thread Cert.Dh1Ideal.nD Cert.Dh1Ideal.τ).loc Cert.Dh1Ideal.main_arg1)) →
    ∃ (v0 : (c : Dev Cert.Dh1Ideal.nD) → Buf (Elt Ideal) ((c.tc : Thread Cert.Dh1Ideal.nD Cert.Dh1Ideal.τ).loc Cert.Dh1Ideal.main_v2)),
      θ_run (Cert.Dh1Ideal.defs (F := Ideal)) (onTc (τ := Cert.Dh1Ideal.τ) (Cert.Dh1Ideal.main (F := Ideal))) ⟨m, fun _ => 0, g⟩ (fun r => ∀ c : Dev Cert.Dh1Ideal.nD,
          r.2.mem ((c.tc : Thread Cert.Dh1Ideal.nD Cert.Dh1Ideal.τ).loc Cert.Dh1Ideal.main_v2) = v0 c
          ∧ r.2.mem ((c.tc : Thread Cert.Dh1Ideal.nD Cert.Dh1Ideal.τ).loc Cert.Dh1Ideal.main_arg0) = m ((c.tc : Thread Cert.Dh1Ideal.nD Cert.Dh1Ideal.τ).loc Cert.Dh1Ideal.main_arg0)
          ∧ r.2.mem ((c.tc : Thread Cert.Dh1Ideal.nD Cert.Dh1Ideal.τ).loc Cert.Dh1Ideal.main_arg1) = m ((c.tc : Thread Cert.Dh1Ideal.nD Cert.Dh1Ideal.τ).loc Cert.Dh1Ideal.main_arg1))
      ∧ θ_run (Cert.Dh1RefIdeal.defs (F := Ideal)) (onTc (τ := Cert.Dh1RefIdeal.τ) (Cert.Dh1RefIdeal.main (F := Ideal))) ⟨m', fun _ => 0, g'⟩ (fun r => ∀ c : Dev Cert.Dh1RefIdeal.nD,
          r.2.mem ((c.tc : Thread Cert.Dh1RefIdeal.nD Cert.Dh1RefIdeal.τ).loc Cert.Dh1RefIdeal.main_v2) = v0 c
          ∧ r.2.mem ((c.tc : Thread Cert.Dh1RefIdeal.nD Cert.Dh1RefIdeal.τ).loc Cert.Dh1RefIdeal.main_arg0) = m' ((c.tc : Thread Cert.Dh1RefIdeal.nD Cert.Dh1RefIdeal.τ).loc Cert.Dh1RefIdeal.main_arg0)
          ∧ r.2.mem ((c.tc : Thread Cert.Dh1RefIdeal.nD Cert.Dh1RefIdeal.τ).loc Cert.Dh1RefIdeal.main_arg1) = m' ((c.tc : Thread Cert.Dh1RefIdeal.nD Cert.Dh1RefIdeal.τ).loc Cert.Dh1RefIdeal.main_arg1))

def preserves_DyA_DyAIdeal : Prop :=
  True

def algebraic_DyAIdeal_DyARefIdeal [hDyAIdeal : Cert.DyAIdeal.Facts] [hDyARefIdeal : Cert.DyARefIdeal.Facts] : Prop :=
  ∀ (m : (ℓ : Loc Cert.DyAIdeal.nD Cert.DyAIdeal.τ Cert.DyAIdeal.sig) → Buf (Elt Ideal) ℓ) (g : Dev Cert.DyAIdeal.nD → PrngReg)
    (m' : (ℓ : Loc Cert.DyARefIdeal.nD Cert.DyARefIdeal.τ Cert.DyARefIdeal.sig) → Buf (Elt Ideal) ℓ) (g' : Dev Cert.DyARefIdeal.nD → PrngReg), Pre_DyAIdeal m →
    (∀ c : Dev Cert.DyAIdeal.nD,
      m' ((c.tc : Thread Cert.DyARefIdeal.nD Cert.DyARefIdeal.τ).loc Cert.DyARefIdeal.main_arg0) = m ((c.tc : Thread Cert.DyAIdeal.nD Cert.DyAIdeal.τ).loc Cert.DyAIdeal.main_arg0)
      ∧ m' ((c.tc : Thread Cert.DyARefIdeal.nD Cert.DyARefIdeal.τ).loc Cert.DyARefIdeal.main_arg1) = m ((c.tc : Thread Cert.DyAIdeal.nD Cert.DyAIdeal.τ).loc Cert.DyAIdeal.main_arg1)) →
    ∃ (v0 : (c : Dev Cert.DyAIdeal.nD) → Buf (Elt Ideal) ((c.tc : Thread Cert.DyAIdeal.nD Cert.DyAIdeal.τ).loc Cert.DyAIdeal.main_v2)),
      θ_run (Cert.DyAIdeal.defs (F := Ideal)) (onTc (τ := Cert.DyAIdeal.τ) (Cert.DyAIdeal.main (F := Ideal))) ⟨m, fun _ => 0, g⟩ (fun r => ∀ c : Dev Cert.DyAIdeal.nD,
          r.2.mem ((c.tc : Thread Cert.DyAIdeal.nD Cert.DyAIdeal.τ).loc Cert.DyAIdeal.main_v2) = v0 c
          ∧ r.2.mem ((c.tc : Thread Cert.DyAIdeal.nD Cert.DyAIdeal.τ).loc Cert.DyAIdeal.main_arg0) = m ((c.tc : Thread Cert.DyAIdeal.nD Cert.DyAIdeal.τ).loc Cert.DyAIdeal.main_arg0)
          ∧ r.2.mem ((c.tc : Thread Cert.DyAIdeal.nD Cert.DyAIdeal.τ).loc Cert.DyAIdeal.main_arg1) = m ((c.tc : Thread Cert.DyAIdeal.nD Cert.DyAIdeal.τ).loc Cert.DyAIdeal.main_arg1))
      ∧ θ_run (Cert.DyARefIdeal.defs (F := Ideal)) (onTc (τ := Cert.DyARefIdeal.τ) (Cert.DyARefIdeal.main (F := Ideal))) ⟨m', fun _ => 0, g'⟩ (fun r => ∀ c : Dev Cert.DyARefIdeal.nD,
          r.2.mem ((c.tc : Thread Cert.DyARefIdeal.nD Cert.DyARefIdeal.τ).loc Cert.DyARefIdeal.main_v3) = v0 c
          ∧ r.2.mem ((c.tc : Thread Cert.DyARefIdeal.nD Cert.DyARefIdeal.τ).loc Cert.DyARefIdeal.main_arg0) = m' ((c.tc : Thread Cert.DyARefIdeal.nD Cert.DyARefIdeal.τ).loc Cert.DyARefIdeal.main_arg0)
          ∧ r.2.mem ((c.tc : Thread Cert.DyARefIdeal.nD Cert.DyARefIdeal.τ).loc Cert.DyARefIdeal.main_arg1) = m' ((c.tc : Thread Cert.DyARefIdeal.nD Cert.DyARefIdeal.τ).loc Cert.DyARefIdeal.main_arg1))

def preserves_DyB_DyBIdeal : Prop :=
  True

def algebraic_DyBIdeal_DyBRefIdeal [hDyBIdeal : Cert.DyBIdeal.Facts] [hDyBRefIdeal : Cert.DyBRefIdeal.Facts] : Prop :=
  ∀ (m : (ℓ : Loc Cert.DyBIdeal.nD Cert.DyBIdeal.τ Cert.DyBIdeal.sig) → Buf (Elt Ideal) ℓ) (g : Dev Cert.DyBIdeal.nD → PrngReg)
    (m' : (ℓ : Loc Cert.DyBRefIdeal.nD Cert.DyBRefIdeal.τ Cert.DyBRefIdeal.sig) → Buf (Elt Ideal) ℓ) (g' : Dev Cert.DyBRefIdeal.nD → PrngReg), Pre_DyBIdeal m →
    (∀ c : Dev Cert.DyBIdeal.nD,
      m' ((c.tc : Thread Cert.DyBRefIdeal.nD Cert.DyBRefIdeal.τ).loc Cert.DyBRefIdeal.main_arg0) = m ((c.tc : Thread Cert.DyBIdeal.nD Cert.DyBIdeal.τ).loc Cert.DyBIdeal.main_arg0)
      ∧ m' ((c.tc : Thread Cert.DyBRefIdeal.nD Cert.DyBRefIdeal.τ).loc Cert.DyBRefIdeal.main_arg1) = m ((c.tc : Thread Cert.DyBIdeal.nD Cert.DyBIdeal.τ).loc Cert.DyBIdeal.main_arg1)) →
    ∃ (v0 : (c : Dev Cert.DyBIdeal.nD) → Buf (Elt Ideal) ((c.tc : Thread Cert.DyBIdeal.nD Cert.DyBIdeal.τ).loc Cert.DyBIdeal.main_v2)),
      θ_run (Cert.DyBIdeal.defs (F := Ideal)) (onTc (τ := Cert.DyBIdeal.τ) (Cert.DyBIdeal.main (F := Ideal))) ⟨m, fun _ => 0, g⟩ (fun r => ∀ c : Dev Cert.DyBIdeal.nD,
          r.2.mem ((c.tc : Thread Cert.DyBIdeal.nD Cert.DyBIdeal.τ).loc Cert.DyBIdeal.main_v2) = v0 c
          ∧ r.2.mem ((c.tc : Thread Cert.DyBIdeal.nD Cert.DyBIdeal.τ).loc Cert.DyBIdeal.main_arg0) = m ((c.tc : Thread Cert.DyBIdeal.nD Cert.DyBIdeal.τ).loc Cert.DyBIdeal.main_arg0)
          ∧ r.2.mem ((c.tc : Thread Cert.DyBIdeal.nD Cert.DyBIdeal.τ).loc Cert.DyBIdeal.main_arg1) = m ((c.tc : Thread Cert.DyBIdeal.nD Cert.DyBIdeal.τ).loc Cert.DyBIdeal.main_arg1))
      ∧ θ_run (Cert.DyBRefIdeal.defs (F := Ideal)) (onTc (τ := Cert.DyBRefIdeal.τ) (Cert.DyBRefIdeal.main (F := Ideal))) ⟨m', fun _ => 0, g'⟩ (fun r => ∀ c : Dev Cert.DyBRefIdeal.nD,
          r.2.mem ((c.tc : Thread Cert.DyBRefIdeal.nD Cert.DyBRefIdeal.τ).loc Cert.DyBRefIdeal.main_v2) = v0 c
          ∧ r.2.mem ((c.tc : Thread Cert.DyBRefIdeal.nD Cert.DyBRefIdeal.τ).loc Cert.DyBRefIdeal.main_arg0) = m' ((c.tc : Thread Cert.DyBRefIdeal.nD Cert.DyBRefIdeal.τ).loc Cert.DyBRefIdeal.main_arg0)
          ∧ r.2.mem ((c.tc : Thread Cert.DyBRefIdeal.nD Cert.DyBRefIdeal.τ).loc Cert.DyBRefIdeal.main_arg1) = m' ((c.tc : Thread Cert.DyBRefIdeal.nD Cert.DyBRefIdeal.τ).loc Cert.DyBRefIdeal.main_arg1))

def preserves_DwBrA_DwBrAIdeal : Prop :=
  True

def algebraic_DwBrAIdeal_DwBrARefIdeal [hDwBrAIdeal : Cert.DwBrAIdeal.Facts] [hDwBrARefIdeal : Cert.DwBrARefIdeal.Facts] : Prop :=
  ∀ (m : (ℓ : Loc Cert.DwBrAIdeal.nD Cert.DwBrAIdeal.τ Cert.DwBrAIdeal.sig) → Buf (Elt Ideal) ℓ) (g : Dev Cert.DwBrAIdeal.nD → PrngReg)
    (m' : (ℓ : Loc Cert.DwBrARefIdeal.nD Cert.DwBrARefIdeal.τ Cert.DwBrARefIdeal.sig) → Buf (Elt Ideal) ℓ) (g' : Dev Cert.DwBrARefIdeal.nD → PrngReg), Pre_DwBrAIdeal m →
    (∀ c : Dev Cert.DwBrAIdeal.nD,
      m' ((c.tc : Thread Cert.DwBrARefIdeal.nD Cert.DwBrARefIdeal.τ).loc Cert.DwBrARefIdeal.main_arg0) = m ((c.tc : Thread Cert.DwBrAIdeal.nD Cert.DwBrAIdeal.τ).loc Cert.DwBrAIdeal.main_arg0)
      ∧ m' ((c.tc : Thread Cert.DwBrARefIdeal.nD Cert.DwBrARefIdeal.τ).loc Cert.DwBrARefIdeal.main_arg1) = m ((c.tc : Thread Cert.DwBrAIdeal.nD Cert.DwBrAIdeal.τ).loc Cert.DwBrAIdeal.main_arg1)) →
    ∃ (v0 : (c : Dev Cert.DwBrAIdeal.nD) → Buf (Elt Ideal) ((c.tc : Thread Cert.DwBrAIdeal.nD Cert.DwBrAIdeal.τ).loc Cert.DwBrAIdeal.main_v1)),
      θ_run (Cert.DwBrAIdeal.defs (F := Ideal)) (onTc (τ := Cert.DwBrAIdeal.τ) (Cert.DwBrAIdeal.main (F := Ideal))) ⟨m, fun _ => 0, g⟩ (fun r => ∀ c : Dev Cert.DwBrAIdeal.nD,
          r.2.mem ((c.tc : Thread Cert.DwBrAIdeal.nD Cert.DwBrAIdeal.τ).loc Cert.DwBrAIdeal.main_v1) = v0 c
          ∧ r.2.mem ((c.tc : Thread Cert.DwBrAIdeal.nD Cert.DwBrAIdeal.τ).loc Cert.DwBrAIdeal.main_arg0) = m ((c.tc : Thread Cert.DwBrAIdeal.nD Cert.DwBrAIdeal.τ).loc Cert.DwBrAIdeal.main_arg0)
          ∧ r.2.mem ((c.tc : Thread Cert.DwBrAIdeal.nD Cert.DwBrAIdeal.τ).loc Cert.DwBrAIdeal.main_arg1) = m ((c.tc : Thread Cert.DwBrAIdeal.nD Cert.DwBrAIdeal.τ).loc Cert.DwBrAIdeal.main_arg1))
      ∧ θ_run (Cert.DwBrARefIdeal.defs (F := Ideal)) (onTc (τ := Cert.DwBrARefIdeal.τ) (Cert.DwBrARefIdeal.main (F := Ideal))) ⟨m', fun _ => 0, g'⟩ (fun r => ∀ c : Dev Cert.DwBrARefIdeal.nD,
          r.2.mem ((c.tc : Thread Cert.DwBrARefIdeal.nD Cert.DwBrARefIdeal.τ).loc Cert.DwBrARefIdeal.main_v3) = v0 c
          ∧ r.2.mem ((c.tc : Thread Cert.DwBrARefIdeal.nD Cert.DwBrARefIdeal.τ).loc Cert.DwBrARefIdeal.main_arg0) = m' ((c.tc : Thread Cert.DwBrARefIdeal.nD Cert.DwBrARefIdeal.τ).loc Cert.DwBrARefIdeal.main_arg0)
          ∧ r.2.mem ((c.tc : Thread Cert.DwBrARefIdeal.nD Cert.DwBrARefIdeal.τ).loc Cert.DwBrARefIdeal.main_arg1) = m' ((c.tc : Thread Cert.DwBrARefIdeal.nD Cert.DwBrARefIdeal.τ).loc Cert.DwBrARefIdeal.main_arg1))

def preserves_DwBrB_DwBrBIdeal : Prop :=
  True

def algebraic_DwBrBIdeal_DwBrBRefIdeal [hDwBrBIdeal : Cert.DwBrBIdeal.Facts] [hDwBrBRefIdeal : Cert.DwBrBRefIdeal.Facts] : Prop :=
  ∀ (m : (ℓ : Loc Cert.DwBrBIdeal.nD Cert.DwBrBIdeal.τ Cert.DwBrBIdeal.sig) → Buf (Elt Ideal) ℓ) (g : Dev Cert.DwBrBIdeal.nD → PrngReg)
    (m' : (ℓ : Loc Cert.DwBrBRefIdeal.nD Cert.DwBrBRefIdeal.τ Cert.DwBrBRefIdeal.sig) → Buf (Elt Ideal) ℓ) (g' : Dev Cert.DwBrBRefIdeal.nD → PrngReg), Pre_DwBrBIdeal m →
    (∀ c : Dev Cert.DwBrBIdeal.nD,
      m' ((c.tc : Thread Cert.DwBrBRefIdeal.nD Cert.DwBrBRefIdeal.τ).loc Cert.DwBrBRefIdeal.main_arg0) = m ((c.tc : Thread Cert.DwBrBIdeal.nD Cert.DwBrBIdeal.τ).loc Cert.DwBrBIdeal.main_arg0)
      ∧ m' ((c.tc : Thread Cert.DwBrBRefIdeal.nD Cert.DwBrBRefIdeal.τ).loc Cert.DwBrBRefIdeal.main_arg1) = m ((c.tc : Thread Cert.DwBrBIdeal.nD Cert.DwBrBIdeal.τ).loc Cert.DwBrBIdeal.main_arg1)) →
    ∃ (v0 : (c : Dev Cert.DwBrBIdeal.nD) → Buf (Elt Ideal) ((c.tc : Thread Cert.DwBrBIdeal.nD Cert.DwBrBIdeal.τ).loc Cert.DwBrBIdeal.main_v2)),
      θ_run (Cert.DwBrBIdeal.defs (F := Ideal)) (onTc (τ := Cert.DwBrBIdeal.τ) (Cert.DwBrBIdeal.main (F := Ideal))) ⟨m, fun _ => 0, g⟩ (fun r => ∀ c : Dev Cert.DwBrBIdeal.nD,
          r.2.mem ((c.tc : Thread Cert.DwBrBIdeal.nD Cert.DwBrBIdeal.τ).loc Cert.DwBrBIdeal.main_v2) = v0 c
          ∧ r.2.mem ((c.tc : Thread Cert.DwBrBIdeal.nD Cert.DwBrBIdeal.τ).loc Cert.DwBrBIdeal.main_arg0) = m ((c.tc : Thread Cert.DwBrBIdeal.nD Cert.DwBrBIdeal.τ).loc Cert.DwBrBIdeal.main_arg0)
          ∧ r.2.mem ((c.tc : Thread Cert.DwBrBIdeal.nD Cert.DwBrBIdeal.τ).loc Cert.DwBrBIdeal.main_arg1) = m ((c.tc : Thread Cert.DwBrBIdeal.nD Cert.DwBrBIdeal.τ).loc Cert.DwBrBIdeal.main_arg1))
      ∧ θ_run (Cert.DwBrBRefIdeal.defs (F := Ideal)) (onTc (τ := Cert.DwBrBRefIdeal.τ) (Cert.DwBrBRefIdeal.main (F := Ideal))) ⟨m', fun _ => 0, g'⟩ (fun r => ∀ c : Dev Cert.DwBrBRefIdeal.nD,
          r.2.mem ((c.tc : Thread Cert.DwBrBRefIdeal.nD Cert.DwBrBRefIdeal.τ).loc Cert.DwBrBRefIdeal.main_v3) = v0 c
          ∧ r.2.mem ((c.tc : Thread Cert.DwBrBRefIdeal.nD Cert.DwBrBRefIdeal.τ).loc Cert.DwBrBRefIdeal.main_arg0) = m' ((c.tc : Thread Cert.DwBrBRefIdeal.nD Cert.DwBrBRefIdeal.τ).loc Cert.DwBrBRefIdeal.main_arg0)
          ∧ r.2.mem ((c.tc : Thread Cert.DwBrBRefIdeal.nD Cert.DwBrBRefIdeal.τ).loc Cert.DwBrBRefIdeal.main_arg1) = m' ((c.tc : Thread Cert.DwBrBRefIdeal.nD Cert.DwBrBRefIdeal.τ).loc Cert.DwBrBRefIdeal.main_arg1))

def preserves_InC_InCIdeal : Prop :=
  True

def algebraic_InCIdeal_InCRefIdeal [hInCIdeal : Cert.InCIdeal.Facts] [hInCRefIdeal : Cert.InCRefIdeal.Facts] : Prop :=
  ∀ (m : (ℓ : Loc Cert.InCIdeal.nD Cert.InCIdeal.τ Cert.InCIdeal.sig) → Buf (Elt Ideal) ℓ) (g : Dev Cert.InCIdeal.nD → PrngReg)
    (m' : (ℓ : Loc Cert.InCRefIdeal.nD Cert.InCRefIdeal.τ Cert.InCRefIdeal.sig) → Buf (Elt Ideal) ℓ) (g' : Dev Cert.InCRefIdeal.nD → PrngReg), Pre_InCIdeal m →
    (∀ c : Dev Cert.InCIdeal.nD,
      m' ((c.tc : Thread Cert.InCRefIdeal.nD Cert.InCRefIdeal.τ).loc Cert.InCRefIdeal.main_arg0) = m ((c.tc : Thread Cert.InCIdeal.nD Cert.InCIdeal.τ).loc Cert.InCIdeal.main_arg0)
      ∧ m' ((c.tc : Thread Cert.InCRefIdeal.nD Cert.InCRefIdeal.τ).loc Cert.InCRefIdeal.main_arg1) = m ((c.tc : Thread Cert.InCIdeal.nD Cert.InCIdeal.τ).loc Cert.InCIdeal.main_arg1)) →
    ∃ (v0 : (c : Dev Cert.InCIdeal.nD) → Buf (Elt Ideal) ((c.tc : Thread Cert.InCIdeal.nD Cert.InCIdeal.τ).loc Cert.InCIdeal.main_v2)),
      θ_run (Cert.InCIdeal.defs (F := Ideal)) (onTc (τ := Cert.InCIdeal.τ) (Cert.InCIdeal.main (F := Ideal))) ⟨m, fun _ => 0, g⟩ (fun r => ∀ c : Dev Cert.InCIdeal.nD,
          r.2.mem ((c.tc : Thread Cert.InCIdeal.nD Cert.InCIdeal.τ).loc Cert.InCIdeal.main_v2) = v0 c
          ∧ r.2.mem ((c.tc : Thread Cert.InCIdeal.nD Cert.InCIdeal.τ).loc Cert.InCIdeal.main_arg0) = m ((c.tc : Thread Cert.InCIdeal.nD Cert.InCIdeal.τ).loc Cert.InCIdeal.main_arg0)
          ∧ r.2.mem ((c.tc : Thread Cert.InCIdeal.nD Cert.InCIdeal.τ).loc Cert.InCIdeal.main_arg1) = m ((c.tc : Thread Cert.InCIdeal.nD Cert.InCIdeal.τ).loc Cert.InCIdeal.main_arg1))
      ∧ θ_run (Cert.InCRefIdeal.defs (F := Ideal)) (onTc (τ := Cert.InCRefIdeal.τ) (Cert.InCRefIdeal.main (F := Ideal))) ⟨m', fun _ => 0, g'⟩ (fun r => ∀ c : Dev Cert.InCRefIdeal.nD,
          r.2.mem ((c.tc : Thread Cert.InCRefIdeal.nD Cert.InCRefIdeal.τ).loc Cert.InCRefIdeal.main_v1) = v0 c
          ∧ r.2.mem ((c.tc : Thread Cert.InCRefIdeal.nD Cert.InCRefIdeal.τ).loc Cert.InCRefIdeal.main_arg0) = m' ((c.tc : Thread Cert.InCRefIdeal.nD Cert.InCRefIdeal.τ).loc Cert.InCRefIdeal.main_arg0)
          ∧ r.2.mem ((c.tc : Thread Cert.InCRefIdeal.nD Cert.InCRefIdeal.τ).loc Cert.InCRefIdeal.main_arg1) = m' ((c.tc : Thread Cert.InCRefIdeal.nD Cert.InCRefIdeal.τ).loc Cert.InCRefIdeal.main_arg1))

def preserves_DhC_DhCIdeal : Prop :=
  True

def algebraic_DhCIdeal_DhCRefIdeal [hDhCIdeal : Cert.DhCIdeal.Facts] [hDhCRefIdeal : Cert.DhCRefIdeal.Facts] : Prop :=
  ∀ (m : (ℓ : Loc Cert.DhCIdeal.nD Cert.DhCIdeal.τ Cert.DhCIdeal.sig) → Buf (Elt Ideal) ℓ) (g : Dev Cert.DhCIdeal.nD → PrngReg)
    (m' : (ℓ : Loc Cert.DhCRefIdeal.nD Cert.DhCRefIdeal.τ Cert.DhCRefIdeal.sig) → Buf (Elt Ideal) ℓ) (g' : Dev Cert.DhCRefIdeal.nD → PrngReg), Pre_DhCIdeal m →
    (∀ c : Dev Cert.DhCIdeal.nD,
      m' ((c.tc : Thread Cert.DhCRefIdeal.nD Cert.DhCRefIdeal.τ).loc Cert.DhCRefIdeal.main_arg0) = m ((c.tc : Thread Cert.DhCIdeal.nD Cert.DhCIdeal.τ).loc Cert.DhCIdeal.main_arg0)
      ∧ m' ((c.tc : Thread Cert.DhCRefIdeal.nD Cert.DhCRefIdeal.τ).loc Cert.DhCRefIdeal.main_arg1) = m ((c.tc : Thread Cert.DhCIdeal.nD Cert.DhCIdeal.τ).loc Cert.DhCIdeal.main_arg1)
      ∧ m' ((c.tc : Thread Cert.DhCRefIdeal.nD Cert.DhCRefIdeal.τ).loc Cert.DhCRefIdeal.main_arg2) = m ((c.tc : Thread Cert.DhCIdeal.nD Cert.DhCIdeal.τ).loc Cert.DhCIdeal.main_arg2)) →
    ∃ (v0 : (c : Dev Cert.DhCIdeal.nD) → Buf (Elt Ideal) ((c.tc : Thread Cert.DhCIdeal.nD Cert.DhCIdeal.τ).loc Cert.DhCIdeal.main_v2)),
      θ_run (Cert.DhCIdeal.defs (F := Ideal)) (onTc (τ := Cert.DhCIdeal.τ) (Cert.DhCIdeal.main (F := Ideal))) ⟨m, fun _ => 0, g⟩ (fun r => ∀ c : Dev Cert.DhCIdeal.nD,
          r.2.mem ((c.tc : Thread Cert.DhCIdeal.nD Cert.DhCIdeal.τ).loc Cert.DhCIdeal.main_v2) = v0 c
          ∧ r.2.mem ((c.tc : Thread Cert.DhCIdeal.nD Cert.DhCIdeal.τ).loc Cert.DhCIdeal.main_arg0) = m ((c.tc : Thread Cert.DhCIdeal.nD Cert.DhCIdeal.τ).loc Cert.DhCIdeal.main_arg0)
          ∧ r.2.mem ((c.tc : Thread Cert.DhCIdeal.nD Cert.DhCIdeal.τ).loc Cert.DhCIdeal.main_arg1) = m ((c.tc : Thread Cert.DhCIdeal.nD Cert.DhCIdeal.τ).loc Cert.DhCIdeal.main_arg1)
          ∧ r.2.mem ((c.tc : Thread Cert.DhCIdeal.nD Cert.DhCIdeal.τ).loc Cert.DhCIdeal.main_arg2) = m ((c.tc : Thread Cert.DhCIdeal.nD Cert.DhCIdeal.τ).loc Cert.DhCIdeal.main_arg2))
      ∧ θ_run (Cert.DhCRefIdeal.defs (F := Ideal)) (onTc (τ := Cert.DhCRefIdeal.τ) (Cert.DhCRefIdeal.main (F := Ideal))) ⟨m', fun _ => 0, g'⟩ (fun r => ∀ c : Dev Cert.DhCRefIdeal.nD,
          r.2.mem ((c.tc : Thread Cert.DhCRefIdeal.nD Cert.DhCRefIdeal.τ).loc Cert.DhCRefIdeal.main_v3) = v0 c
          ∧ r.2.mem ((c.tc : Thread Cert.DhCRefIdeal.nD Cert.DhCRefIdeal.τ).loc Cert.DhCRefIdeal.main_arg0) = m' ((c.tc : Thread Cert.DhCRefIdeal.nD Cert.DhCRefIdeal.τ).loc Cert.DhCRefIdeal.main_arg0)
          ∧ r.2.mem ((c.tc : Thread Cert.DhCRefIdeal.nD Cert.DhCRefIdeal.τ).loc Cert.DhCRefIdeal.main_arg1) = m' ((c.tc : Thread Cert.DhCRefIdeal.nD Cert.DhCRefIdeal.τ).loc Cert.DhCRefIdeal.main_arg1)
          ∧ r.2.mem ((c.tc : Thread Cert.DhCRefIdeal.nD Cert.DhCRefIdeal.τ).loc Cert.DhCRefIdeal.main_arg2) = m' ((c.tc : Thread Cert.DhCRefIdeal.nD Cert.DhCRefIdeal.τ).loc Cert.DhCRefIdeal.main_arg2))

def preserves_DwC_DwCIdeal : Prop :=
  True

def algebraic_DwCIdeal_DwCRefIdeal [hDwCIdeal : Cert.DwCIdeal.Facts] [hDwCRefIdeal : Cert.DwCRefIdeal.Facts] : Prop :=
  ∀ (m : (ℓ : Loc Cert.DwCIdeal.nD Cert.DwCIdeal.τ Cert.DwCIdeal.sig) → Buf (Elt Ideal) ℓ) (g : Dev Cert.DwCIdeal.nD → PrngReg)
    (m' : (ℓ : Loc Cert.DwCRefIdeal.nD Cert.DwCRefIdeal.τ Cert.DwCRefIdeal.sig) → Buf (Elt Ideal) ℓ) (g' : Dev Cert.DwCRefIdeal.nD → PrngReg), Pre_DwCIdeal m →
    (∀ c : Dev Cert.DwCIdeal.nD,
      m' ((c.tc : Thread Cert.DwCRefIdeal.nD Cert.DwCRefIdeal.τ).loc Cert.DwCRefIdeal.main_arg0) = m ((c.tc : Thread Cert.DwCIdeal.nD Cert.DwCIdeal.τ).loc Cert.DwCIdeal.main_arg0)
      ∧ m' ((c.tc : Thread Cert.DwCRefIdeal.nD Cert.DwCRefIdeal.τ).loc Cert.DwCRefIdeal.main_arg1) = m ((c.tc : Thread Cert.DwCIdeal.nD Cert.DwCIdeal.τ).loc Cert.DwCIdeal.main_arg1)) →
    ∃ (v0 : (c : Dev Cert.DwCIdeal.nD) → Buf (Elt Ideal) ((c.tc : Thread Cert.DwCIdeal.nD Cert.DwCIdeal.τ).loc Cert.DwCIdeal.main_v2)),
      θ_run (Cert.DwCIdeal.defs (F := Ideal)) (onTc (τ := Cert.DwCIdeal.τ) (Cert.DwCIdeal.main (F := Ideal))) ⟨m, fun _ => 0, g⟩ (fun r => ∀ c : Dev Cert.DwCIdeal.nD,
          r.2.mem ((c.tc : Thread Cert.DwCIdeal.nD Cert.DwCIdeal.τ).loc Cert.DwCIdeal.main_v2) = v0 c
          ∧ r.2.mem ((c.tc : Thread Cert.DwCIdeal.nD Cert.DwCIdeal.τ).loc Cert.DwCIdeal.main_arg0) = m ((c.tc : Thread Cert.DwCIdeal.nD Cert.DwCIdeal.τ).loc Cert.DwCIdeal.main_arg0)
          ∧ r.2.mem ((c.tc : Thread Cert.DwCIdeal.nD Cert.DwCIdeal.τ).loc Cert.DwCIdeal.main_arg1) = m ((c.tc : Thread Cert.DwCIdeal.nD Cert.DwCIdeal.τ).loc Cert.DwCIdeal.main_arg1))
      ∧ θ_run (Cert.DwCRefIdeal.defs (F := Ideal)) (onTc (τ := Cert.DwCRefIdeal.τ) (Cert.DwCRefIdeal.main (F := Ideal))) ⟨m', fun _ => 0, g'⟩ (fun r => ∀ c : Dev Cert.DwCRefIdeal.nD,
          r.2.mem ((c.tc : Thread Cert.DwCRefIdeal.nD Cert.DwCRefIdeal.τ).loc Cert.DwCRefIdeal.main_v3) = v0 c
          ∧ r.2.mem ((c.tc : Thread Cert.DwCRefIdeal.nD Cert.DwCRefIdeal.τ).loc Cert.DwCRefIdeal.main_arg0) = m' ((c.tc : Thread Cert.DwCRefIdeal.nD Cert.DwCRefIdeal.τ).loc Cert.DwCRefIdeal.main_arg0)
          ∧ r.2.mem ((c.tc : Thread Cert.DwCRefIdeal.nD Cert.DwCRefIdeal.τ).loc Cert.DwCRefIdeal.main_arg1) = m' ((c.tc : Thread Cert.DwCRefIdeal.nD Cert.DwCRefIdeal.τ).loc Cert.DwCRefIdeal.main_arg1))

def preserves_Rms_RmsIdeal : Prop :=
  True

def algebraic_RmsIdeal_RmsRefIdeal [hRmsIdeal : Cert.RmsIdeal.Facts] [hRmsRefIdeal : Cert.RmsRefIdeal.Facts] : Prop :=
  ∀ (m : (ℓ : Loc Cert.RmsIdeal.nD Cert.RmsIdeal.τ Cert.RmsIdeal.sig) → Buf (Elt Ideal) ℓ) (g : Dev Cert.RmsIdeal.nD → PrngReg)
    (m' : (ℓ : Loc Cert.RmsRefIdeal.nD Cert.RmsRefIdeal.τ Cert.RmsRefIdeal.sig) → Buf (Elt Ideal) ℓ) (g' : Dev Cert.RmsRefIdeal.nD → PrngReg), Pre_RmsIdeal m →
    (∀ c : Dev Cert.RmsIdeal.nD,
      m' ((c.tc : Thread Cert.RmsRefIdeal.nD Cert.RmsRefIdeal.τ).loc Cert.RmsRefIdeal.main_arg0) = m ((c.tc : Thread Cert.RmsIdeal.nD Cert.RmsIdeal.τ).loc Cert.RmsIdeal.main_arg0)
      ∧ m' ((c.tc : Thread Cert.RmsRefIdeal.nD Cert.RmsRefIdeal.τ).loc Cert.RmsRefIdeal.main_arg1) = m ((c.tc : Thread Cert.RmsIdeal.nD Cert.RmsIdeal.τ).loc Cert.RmsIdeal.main_arg1)) →
    ∃ (v0 : (c : Dev Cert.RmsIdeal.nD) → Buf (Elt Ideal) ((c.tc : Thread Cert.RmsIdeal.nD Cert.RmsIdeal.τ).loc Cert.RmsIdeal.main_v1)),
      θ_run (Cert.RmsIdeal.defs (F := Ideal)) (onTc (τ := Cert.RmsIdeal.τ) (Cert.RmsIdeal.main (F := Ideal))) ⟨m, fun _ => 0, g⟩ (fun r => ∀ c : Dev Cert.RmsIdeal.nD,
          r.2.mem ((c.tc : Thread Cert.RmsIdeal.nD Cert.RmsIdeal.τ).loc Cert.RmsIdeal.main_v1) = v0 c
          ∧ r.2.mem ((c.tc : Thread Cert.RmsIdeal.nD Cert.RmsIdeal.τ).loc Cert.RmsIdeal.main_arg0) = m ((c.tc : Thread Cert.RmsIdeal.nD Cert.RmsIdeal.τ).loc Cert.RmsIdeal.main_arg0)
          ∧ r.2.mem ((c.tc : Thread Cert.RmsIdeal.nD Cert.RmsIdeal.τ).loc Cert.RmsIdeal.main_arg1) = m ((c.tc : Thread Cert.RmsIdeal.nD Cert.RmsIdeal.τ).loc Cert.RmsIdeal.main_arg1))
      ∧ θ_run (Cert.RmsRefIdeal.defs (F := Ideal)) (onTc (τ := Cert.RmsRefIdeal.τ) (Cert.RmsRefIdeal.main (F := Ideal))) ⟨m', fun _ => 0, g'⟩ (fun r => ∀ c : Dev Cert.RmsRefIdeal.nD,
          r.2.mem ((c.tc : Thread Cert.RmsRefIdeal.nD Cert.RmsRefIdeal.τ).loc Cert.RmsRefIdeal.main_v13) = v0 c
          ∧ r.2.mem ((c.tc : Thread Cert.RmsRefIdeal.nD Cert.RmsRefIdeal.τ).loc Cert.RmsRefIdeal.main_arg0) = m' ((c.tc : Thread Cert.RmsRefIdeal.nD Cert.RmsRefIdeal.τ).loc Cert.RmsRefIdeal.main_arg0)
          ∧ r.2.mem ((c.tc : Thread Cert.RmsRefIdeal.nD Cert.RmsRefIdeal.τ).loc Cert.RmsRefIdeal.main_arg1) = m' ((c.tc : Thread Cert.RmsRefIdeal.nD Cert.RmsRefIdeal.τ).loc Cert.RmsRefIdeal.main_arg1))

def preserves_RmsMem_RmsMemIdeal : Prop :=
  True

def algebraic_RmsMemIdeal_RmsMemRefIdeal [hRmsMemIdeal : Cert.RmsMemIdeal.Facts] [hRmsMemRefIdeal : Cert.RmsMemRefIdeal.Facts] : Prop :=
  ∀ (m : (ℓ : Loc Cert.RmsMemIdeal.nD Cert.RmsMemIdeal.τ Cert.RmsMemIdeal.sig) → Buf (Elt Ideal) ℓ) (g : Dev Cert.RmsMemIdeal.nD → PrngReg)
    (m' : (ℓ : Loc Cert.RmsMemRefIdeal.nD Cert.RmsMemRefIdeal.τ Cert.RmsMemRefIdeal.sig) → Buf (Elt Ideal) ℓ) (g' : Dev Cert.RmsMemRefIdeal.nD → PrngReg), Pre_RmsMemIdeal m →
    (∀ c : Dev Cert.RmsMemIdeal.nD,
      m' ((c.tc : Thread Cert.RmsMemRefIdeal.nD Cert.RmsMemRefIdeal.τ).loc Cert.RmsMemRefIdeal.main_arg0) = m ((c.tc : Thread Cert.RmsMemIdeal.nD Cert.RmsMemIdeal.τ).loc Cert.RmsMemIdeal.main_arg0)
      ∧ m' ((c.tc : Thread Cert.RmsMemRefIdeal.nD Cert.RmsMemRefIdeal.τ).loc Cert.RmsMemRefIdeal.main_arg1) = m ((c.tc : Thread Cert.RmsMemIdeal.nD Cert.RmsMemIdeal.τ).loc Cert.RmsMemIdeal.main_arg1)) →
    ∃ (v0 : (c : Dev Cert.RmsMemIdeal.nD) → Buf (Elt Ideal) ((c.tc : Thread Cert.RmsMemIdeal.nD Cert.RmsMemIdeal.τ).loc Cert.RmsMemIdeal.main_v1)),
      θ_run (Cert.RmsMemIdeal.defs (F := Ideal)) (onTc (τ := Cert.RmsMemIdeal.τ) (Cert.RmsMemIdeal.main (F := Ideal))) ⟨m, fun _ => 0, g⟩ (fun r => ∀ c : Dev Cert.RmsMemIdeal.nD,
          r.2.mem ((c.tc : Thread Cert.RmsMemIdeal.nD Cert.RmsMemIdeal.τ).loc Cert.RmsMemIdeal.main_v1) = v0 c
          ∧ r.2.mem ((c.tc : Thread Cert.RmsMemIdeal.nD Cert.RmsMemIdeal.τ).loc Cert.RmsMemIdeal.main_arg0) = m ((c.tc : Thread Cert.RmsMemIdeal.nD Cert.RmsMemIdeal.τ).loc Cert.RmsMemIdeal.main_arg0)
          ∧ r.2.mem ((c.tc : Thread Cert.RmsMemIdeal.nD Cert.RmsMemIdeal.τ).loc Cert.RmsMemIdeal.main_arg1) = m ((c.tc : Thread Cert.RmsMemIdeal.nD Cert.RmsMemIdeal.τ).loc Cert.RmsMemIdeal.main_arg1))
      ∧ θ_run (Cert.RmsMemRefIdeal.defs (F := Ideal)) (onTc (τ := Cert.RmsMemRefIdeal.τ) (Cert.RmsMemRefIdeal.main (F := Ideal))) ⟨m', fun _ => 0, g'⟩ (fun r => ∀ c : Dev Cert.RmsMemRefIdeal.nD,
          r.2.mem ((c.tc : Thread Cert.RmsMemRefIdeal.nD Cert.RmsMemRefIdeal.τ).loc Cert.RmsMemRefIdeal.main_v13) = v0 c
          ∧ r.2.mem ((c.tc : Thread Cert.RmsMemRefIdeal.nD Cert.RmsMemRefIdeal.τ).loc Cert.RmsMemRefIdeal.main_arg0) = m' ((c.tc : Thread Cert.RmsMemRefIdeal.nD Cert.RmsMemRefIdeal.τ).loc Cert.RmsMemRefIdeal.main_arg0)
          ∧ r.2.mem ((c.tc : Thread Cert.RmsMemRefIdeal.nD Cert.RmsMemRefIdeal.τ).loc Cert.RmsMemRefIdeal.main_arg1) = m' ((c.tc : Thread Cert.RmsMemRefIdeal.nD Cert.RmsMemRefIdeal.τ).loc Cert.RmsMemRefIdeal.main_arg1))

def preserves_RmsCq_RmsCqIdeal : Prop :=
  True

def algebraic_RmsCqIdeal_RmsCqRefIdeal [hRmsCqIdeal : Cert.RmsCqIdeal.Facts] [hRmsCqRefIdeal : Cert.RmsCqRefIdeal.Facts] : Prop :=
  ∀ (m : (ℓ : Loc Cert.RmsCqIdeal.nD Cert.RmsCqIdeal.τ Cert.RmsCqIdeal.sig) → Buf (Elt Ideal) ℓ) (g : Dev Cert.RmsCqIdeal.nD → PrngReg)
    (m' : (ℓ : Loc Cert.RmsCqRefIdeal.nD Cert.RmsCqRefIdeal.τ Cert.RmsCqRefIdeal.sig) → Buf (Elt Ideal) ℓ) (g' : Dev Cert.RmsCqRefIdeal.nD → PrngReg), Pre_RmsCqIdeal m →
    (∀ c : Dev Cert.RmsCqIdeal.nD,
      m' ((c.tc : Thread Cert.RmsCqRefIdeal.nD Cert.RmsCqRefIdeal.τ).loc Cert.RmsCqRefIdeal.main_arg0) = m ((c.tc : Thread Cert.RmsCqIdeal.nD Cert.RmsCqIdeal.τ).loc Cert.RmsCqIdeal.main_arg0)
      ∧ m' ((c.tc : Thread Cert.RmsCqRefIdeal.nD Cert.RmsCqRefIdeal.τ).loc Cert.RmsCqRefIdeal.main_arg1) = m ((c.tc : Thread Cert.RmsCqIdeal.nD Cert.RmsCqIdeal.τ).loc Cert.RmsCqIdeal.main_arg1)) →
    ∃ (v0 : (c : Dev Cert.RmsCqIdeal.nD) → Buf (Elt Ideal) ((c.tc : Thread Cert.RmsCqIdeal.nD Cert.RmsCqIdeal.τ).loc Cert.RmsCqIdeal.main_v1)),
      θ_run (Cert.RmsCqIdeal.defs (F := Ideal)) (onTc (τ := Cert.RmsCqIdeal.τ) (Cert.RmsCqIdeal.main (F := Ideal))) ⟨m, fun _ => 0, g⟩ (fun r => ∀ c : Dev Cert.RmsCqIdeal.nD,
          r.2.mem ((c.tc : Thread Cert.RmsCqIdeal.nD Cert.RmsCqIdeal.τ).loc Cert.RmsCqIdeal.main_v1) = v0 c
          ∧ r.2.mem ((c.tc : Thread Cert.RmsCqIdeal.nD Cert.RmsCqIdeal.τ).loc Cert.RmsCqIdeal.main_arg0) = m ((c.tc : Thread Cert.RmsCqIdeal.nD Cert.RmsCqIdeal.τ).loc Cert.RmsCqIdeal.main_arg0)
          ∧ r.2.mem ((c.tc : Thread Cert.RmsCqIdeal.nD Cert.RmsCqIdeal.τ).loc Cert.RmsCqIdeal.main_arg1) = m ((c.tc : Thread Cert.RmsCqIdeal.nD Cert.RmsCqIdeal.τ).loc Cert.RmsCqIdeal.main_arg1))
      ∧ θ_run (Cert.RmsCqRefIdeal.defs (F := Ideal)) (onTc (τ := Cert.RmsCqRefIdeal.τ) (Cert.RmsCqRefIdeal.main (F := Ideal))) ⟨m', fun _ => 0, g'⟩ (fun r => ∀ c : Dev Cert.RmsCqRefIdeal.nD,
          r.2.mem ((c.tc : Thread Cert.RmsCqRefIdeal.nD Cert.RmsCqRefIdeal.τ).loc Cert.RmsCqRefIdeal.main_v14) = v0 c
          ∧ r.2.mem ((c.tc : Thread Cert.RmsCqRefIdeal.nD Cert.RmsCqRefIdeal.τ).loc Cert.RmsCqRefIdeal.main_arg0) = m' ((c.tc : Thread Cert.RmsCqRefIdeal.nD Cert.RmsCqRefIdeal.τ).loc Cert.RmsCqRefIdeal.main_arg0)
          ∧ r.2.mem ((c.tc : Thread Cert.RmsCqRefIdeal.nD Cert.RmsCqRefIdeal.τ).loc Cert.RmsCqRefIdeal.main_arg1) = m' ((c.tc : Thread Cert.RmsCqRefIdeal.nD Cert.RmsCqRefIdeal.τ).loc Cert.RmsCqRefIdeal.main_arg1))

def preserves_RmsCkv_RmsCkvIdeal : Prop :=
  True

def algebraic_RmsCkvIdeal_RmsCkvRefIdeal [hRmsCkvIdeal : Cert.RmsCkvIdeal.Facts] [hRmsCkvRefIdeal : Cert.RmsCkvRefIdeal.Facts] : Prop :=
  ∀ (m : (ℓ : Loc Cert.RmsCkvIdeal.nD Cert.RmsCkvIdeal.τ Cert.RmsCkvIdeal.sig) → Buf (Elt Ideal) ℓ) (g : Dev Cert.RmsCkvIdeal.nD → PrngReg)
    (m' : (ℓ : Loc Cert.RmsCkvRefIdeal.nD Cert.RmsCkvRefIdeal.τ Cert.RmsCkvRefIdeal.sig) → Buf (Elt Ideal) ℓ) (g' : Dev Cert.RmsCkvRefIdeal.nD → PrngReg), Pre_RmsCkvIdeal m →
    (∀ c : Dev Cert.RmsCkvIdeal.nD,
      m' ((c.tc : Thread Cert.RmsCkvRefIdeal.nD Cert.RmsCkvRefIdeal.τ).loc Cert.RmsCkvRefIdeal.main_arg0) = m ((c.tc : Thread Cert.RmsCkvIdeal.nD Cert.RmsCkvIdeal.τ).loc Cert.RmsCkvIdeal.main_arg0)
      ∧ m' ((c.tc : Thread Cert.RmsCkvRefIdeal.nD Cert.RmsCkvRefIdeal.τ).loc Cert.RmsCkvRefIdeal.main_arg1) = m ((c.tc : Thread Cert.RmsCkvIdeal.nD Cert.RmsCkvIdeal.τ).loc Cert.RmsCkvIdeal.main_arg1)) →
    ∃ (v0 : (c : Dev Cert.RmsCkvIdeal.nD) → Buf (Elt Ideal) ((c.tc : Thread Cert.RmsCkvIdeal.nD Cert.RmsCkvIdeal.τ).loc Cert.RmsCkvIdeal.main_v1)),
      θ_run (Cert.RmsCkvIdeal.defs (F := Ideal)) (onTc (τ := Cert.RmsCkvIdeal.τ) (Cert.RmsCkvIdeal.main (F := Ideal))) ⟨m, fun _ => 0, g⟩ (fun r => ∀ c : Dev Cert.RmsCkvIdeal.nD,
          r.2.mem ((c.tc : Thread Cert.RmsCkvIdeal.nD Cert.RmsCkvIdeal.τ).loc Cert.RmsCkvIdeal.main_v1) = v0 c
          ∧ r.2.mem ((c.tc : Thread Cert.RmsCkvIdeal.nD Cert.RmsCkvIdeal.τ).loc Cert.RmsCkvIdeal.main_arg0) = m ((c.tc : Thread Cert.RmsCkvIdeal.nD Cert.RmsCkvIdeal.τ).loc Cert.RmsCkvIdeal.main_arg0)
          ∧ r.2.mem ((c.tc : Thread Cert.RmsCkvIdeal.nD Cert.RmsCkvIdeal.τ).loc Cert.RmsCkvIdeal.main_arg1) = m ((c.tc : Thread Cert.RmsCkvIdeal.nD Cert.RmsCkvIdeal.τ).loc Cert.RmsCkvIdeal.main_arg1))
      ∧ θ_run (Cert.RmsCkvRefIdeal.defs (F := Ideal)) (onTc (τ := Cert.RmsCkvRefIdeal.τ) (Cert.RmsCkvRefIdeal.main (F := Ideal))) ⟨m', fun _ => 0, g'⟩ (fun r => ∀ c : Dev Cert.RmsCkvRefIdeal.nD,
          r.2.mem ((c.tc : Thread Cert.RmsCkvRefIdeal.nD Cert.RmsCkvRefIdeal.τ).loc Cert.RmsCkvRefIdeal.main_v14) = v0 c
          ∧ r.2.mem ((c.tc : Thread Cert.RmsCkvRefIdeal.nD Cert.RmsCkvRefIdeal.τ).loc Cert.RmsCkvRefIdeal.main_arg0) = m' ((c.tc : Thread Cert.RmsCkvRefIdeal.nD Cert.RmsCkvRefIdeal.τ).loc Cert.RmsCkvRefIdeal.main_arg0)
          ∧ r.2.mem ((c.tc : Thread Cert.RmsCkvRefIdeal.nD Cert.RmsCkvRefIdeal.τ).loc Cert.RmsCkvRefIdeal.main_arg1) = m' ((c.tc : Thread Cert.RmsCkvRefIdeal.nD Cert.RmsCkvRefIdeal.τ).loc Cert.RmsCkvRefIdeal.main_arg1))

def preserves_Xkv_XkvIdeal : Prop :=
  True

def algebraic_XkvIdeal_XkvRefIdeal [hXkvIdeal : Cert.XkvIdeal.Facts] [hXkvRefIdeal : Cert.XkvRefIdeal.Facts] : Prop :=
  ∀ (m : (ℓ : Loc Cert.XkvIdeal.nD Cert.XkvIdeal.τ Cert.XkvIdeal.sig) → Buf (Elt Ideal) ℓ) (g : Dev Cert.XkvIdeal.nD → PrngReg)
    (m' : (ℓ : Loc Cert.XkvRefIdeal.nD Cert.XkvRefIdeal.τ Cert.XkvRefIdeal.sig) → Buf (Elt Ideal) ℓ) (g' : Dev Cert.XkvRefIdeal.nD → PrngReg), Pre_XkvIdeal m →
    (∀ c : Dev Cert.XkvIdeal.nD,
      m' ((c.tc : Thread Cert.XkvRefIdeal.nD Cert.XkvRefIdeal.τ).loc Cert.XkvRefIdeal.main_arg0) = m ((c.tc : Thread Cert.XkvIdeal.nD Cert.XkvIdeal.τ).loc Cert.XkvIdeal.main_arg0)
      ∧ m' ((c.tc : Thread Cert.XkvRefIdeal.nD Cert.XkvRefIdeal.τ).loc Cert.XkvRefIdeal.main_arg1) = m ((c.tc : Thread Cert.XkvIdeal.nD Cert.XkvIdeal.τ).loc Cert.XkvIdeal.main_arg1)) →
    ∃ (v0 : (c : Dev Cert.XkvIdeal.nD) → Buf (Elt Ideal) ((c.tc : Thread Cert.XkvIdeal.nD Cert.XkvIdeal.τ).loc Cert.XkvIdeal.main_v2)),
      θ_run (Cert.XkvIdeal.defs (F := Ideal)) (onTc (τ := Cert.XkvIdeal.τ) (Cert.XkvIdeal.main (F := Ideal))) ⟨m, fun _ => 0, g⟩ (fun r => ∀ c : Dev Cert.XkvIdeal.nD,
          r.2.mem ((c.tc : Thread Cert.XkvIdeal.nD Cert.XkvIdeal.τ).loc Cert.XkvIdeal.main_v2) = v0 c
          ∧ r.2.mem ((c.tc : Thread Cert.XkvIdeal.nD Cert.XkvIdeal.τ).loc Cert.XkvIdeal.main_arg0) = m ((c.tc : Thread Cert.XkvIdeal.nD Cert.XkvIdeal.τ).loc Cert.XkvIdeal.main_arg0)
          ∧ r.2.mem ((c.tc : Thread Cert.XkvIdeal.nD Cert.XkvIdeal.τ).loc Cert.XkvIdeal.main_arg1) = m ((c.tc : Thread Cert.XkvIdeal.nD Cert.XkvIdeal.τ).loc Cert.XkvIdeal.main_arg1))
      ∧ θ_run (Cert.XkvRefIdeal.defs (F := Ideal)) (onTc (τ := Cert.XkvRefIdeal.τ) (Cert.XkvRefIdeal.main (F := Ideal))) ⟨m', fun _ => 0, g'⟩ (fun r => ∀ c : Dev Cert.XkvRefIdeal.nD,
          r.2.mem ((c.tc : Thread Cert.XkvRefIdeal.nD Cert.XkvRefIdeal.τ).loc Cert.XkvRefIdeal.main_v1) = v0 c
          ∧ r.2.mem ((c.tc : Thread Cert.XkvRefIdeal.nD Cert.XkvRefIdeal.τ).loc Cert.XkvRefIdeal.main_arg0) = m' ((c.tc : Thread Cert.XkvRefIdeal.nD Cert.XkvRefIdeal.τ).loc Cert.XkvRefIdeal.main_arg0)
          ∧ r.2.mem ((c.tc : Thread Cert.XkvRefIdeal.nD Cert.XkvRefIdeal.τ).loc Cert.XkvRefIdeal.main_arg1) = m' ((c.tc : Thread Cert.XkvRefIdeal.nD Cert.XkvRefIdeal.τ).loc Cert.XkvRefIdeal.main_arg1))

def preserves_Dmemn_DmemnIdeal : Prop :=
  True

def algebraic_DmemnIdeal_DmemnRefIdeal [hDmemnIdeal : Cert.DmemnIdeal.Facts] [hDmemnRefIdeal : Cert.DmemnRefIdeal.Facts] : Prop :=
  ∀ (m : (ℓ : Loc Cert.DmemnIdeal.nD Cert.DmemnIdeal.τ Cert.DmemnIdeal.sig) → Buf (Elt Ideal) ℓ) (g : Dev Cert.DmemnIdeal.nD → PrngReg)
    (m' : (ℓ : Loc Cert.DmemnRefIdeal.nD Cert.DmemnRefIdeal.τ Cert.DmemnRefIdeal.sig) → Buf (Elt Ideal) ℓ) (g' : Dev Cert.DmemnRefIdeal.nD → PrngReg), Pre_DmemnIdeal m →
    (∀ c : Dev Cert.DmemnIdeal.nD,
      m' ((c.tc : Thread Cert.DmemnRefIdeal.nD Cert.DmemnRefIdeal.τ).loc Cert.DmemnRefIdeal.main_arg0) = m ((c.tc : Thread Cert.DmemnIdeal.nD Cert.DmemnIdeal.τ).loc Cert.DmemnIdeal.main_arg0)
      ∧ m' ((c.tc : Thread Cert.DmemnRefIdeal.nD Cert.DmemnRefIdeal.τ).loc Cert.DmemnRefIdeal.main_arg1) = m ((c.tc : Thread Cert.DmemnIdeal.nD Cert.DmemnIdeal.τ).loc Cert.DmemnIdeal.main_arg1)) →
    ∃ (v0 : (c : Dev Cert.DmemnIdeal.nD) → Buf (Elt Ideal) ((c.tc : Thread Cert.DmemnIdeal.nD Cert.DmemnIdeal.τ).loc Cert.DmemnIdeal.main_v1)),
      θ_run (Cert.DmemnIdeal.defs (F := Ideal)) (onTc (τ := Cert.DmemnIdeal.τ) (Cert.DmemnIdeal.main (F := Ideal))) ⟨m, fun _ => 0, g⟩ (fun r => ∀ c : Dev Cert.DmemnIdeal.nD,
          r.2.mem ((c.tc : Thread Cert.DmemnIdeal.nD Cert.DmemnIdeal.τ).loc Cert.DmemnIdeal.main_v1) = v0 c
          ∧ r.2.mem ((c.tc : Thread Cert.DmemnIdeal.nD Cert.DmemnIdeal.τ).loc Cert.DmemnIdeal.main_arg0) = m ((c.tc : Thread Cert.DmemnIdeal.nD Cert.DmemnIdeal.τ).loc Cert.DmemnIdeal.main_arg0)
          ∧ r.2.mem ((c.tc : Thread Cert.DmemnIdeal.nD Cert.DmemnIdeal.τ).loc Cert.DmemnIdeal.main_arg1) = m ((c.tc : Thread Cert.DmemnIdeal.nD Cert.DmemnIdeal.τ).loc Cert.DmemnIdeal.main_arg1))
      ∧ θ_run (Cert.DmemnRefIdeal.defs (F := Ideal)) (onTc (τ := Cert.DmemnRefIdeal.τ) (Cert.DmemnRefIdeal.main (F := Ideal))) ⟨m', fun _ => 0, g'⟩ (fun r => ∀ c : Dev Cert.DmemnRefIdeal.nD,
          r.2.mem ((c.tc : Thread Cert.DmemnRefIdeal.nD Cert.DmemnRefIdeal.τ).loc Cert.DmemnRefIdeal.main_v2) = v0 c
          ∧ r.2.mem ((c.tc : Thread Cert.DmemnRefIdeal.nD Cert.DmemnRefIdeal.τ).loc Cert.DmemnRefIdeal.main_arg0) = m' ((c.tc : Thread Cert.DmemnRefIdeal.nD Cert.DmemnRefIdeal.τ).loc Cert.DmemnRefIdeal.main_arg0)
          ∧ r.2.mem ((c.tc : Thread Cert.DmemnRefIdeal.nD Cert.DmemnRefIdeal.τ).loc Cert.DmemnRefIdeal.main_arg1) = m' ((c.tc : Thread Cert.DmemnRefIdeal.nD Cert.DmemnRefIdeal.τ).loc Cert.DmemnRefIdeal.main_arg1))

def preserves_Dwkv_DwkvIdeal : Prop :=
  True

def algebraic_DwkvIdeal_DwkvRefIdeal [hDwkvIdeal : Cert.DwkvIdeal.Facts] [hDwkvRefIdeal : Cert.DwkvRefIdeal.Facts] : Prop :=
  ∀ (m : (ℓ : Loc Cert.DwkvIdeal.nD Cert.DwkvIdeal.τ Cert.DwkvIdeal.sig) → Buf (Elt Ideal) ℓ) (g : Dev Cert.DwkvIdeal.nD → PrngReg)
    (m' : (ℓ : Loc Cert.DwkvRefIdeal.nD Cert.DwkvRefIdeal.τ Cert.DwkvRefIdeal.sig) → Buf (Elt Ideal) ℓ) (g' : Dev Cert.DwkvRefIdeal.nD → PrngReg), Pre_DwkvIdeal m →
    (∀ c : Dev Cert.DwkvIdeal.nD,
      m' ((c.tc : Thread Cert.DwkvRefIdeal.nD Cert.DwkvRefIdeal.τ).loc Cert.DwkvRefIdeal.main_arg0) = m ((c.tc : Thread Cert.DwkvIdeal.nD Cert.DwkvIdeal.τ).loc Cert.DwkvIdeal.main_arg0)
      ∧ m' ((c.tc : Thread Cert.DwkvRefIdeal.nD Cert.DwkvRefIdeal.τ).loc Cert.DwkvRefIdeal.main_arg1) = m ((c.tc : Thread Cert.DwkvIdeal.nD Cert.DwkvIdeal.τ).loc Cert.DwkvIdeal.main_arg1)) →
    ∃ (v0 : (c : Dev Cert.DwkvIdeal.nD) → Buf (Elt Ideal) ((c.tc : Thread Cert.DwkvIdeal.nD Cert.DwkvIdeal.τ).loc Cert.DwkvIdeal.main_v1)),
      θ_run (Cert.DwkvIdeal.defs (F := Ideal)) (onTc (τ := Cert.DwkvIdeal.τ) (Cert.DwkvIdeal.main (F := Ideal))) ⟨m, fun _ => 0, g⟩ (fun r => ∀ c : Dev Cert.DwkvIdeal.nD,
          r.2.mem ((c.tc : Thread Cert.DwkvIdeal.nD Cert.DwkvIdeal.τ).loc Cert.DwkvIdeal.main_v1) = v0 c
          ∧ r.2.mem ((c.tc : Thread Cert.DwkvIdeal.nD Cert.DwkvIdeal.τ).loc Cert.DwkvIdeal.main_arg0) = m ((c.tc : Thread Cert.DwkvIdeal.nD Cert.DwkvIdeal.τ).loc Cert.DwkvIdeal.main_arg0)
          ∧ r.2.mem ((c.tc : Thread Cert.DwkvIdeal.nD Cert.DwkvIdeal.τ).loc Cert.DwkvIdeal.main_arg1) = m ((c.tc : Thread Cert.DwkvIdeal.nD Cert.DwkvIdeal.τ).loc Cert.DwkvIdeal.main_arg1))
      ∧ θ_run (Cert.DwkvRefIdeal.defs (F := Ideal)) (onTc (τ := Cert.DwkvRefIdeal.τ) (Cert.DwkvRefIdeal.main (F := Ideal))) ⟨m', fun _ => 0, g'⟩ (fun r => ∀ c : Dev Cert.DwkvRefIdeal.nD,
          r.2.mem ((c.tc : Thread Cert.DwkvRefIdeal.nD Cert.DwkvRefIdeal.τ).loc Cert.DwkvRefIdeal.main_v3) = v0 c
          ∧ r.2.mem ((c.tc : Thread Cert.DwkvRefIdeal.nD Cert.DwkvRefIdeal.τ).loc Cert.DwkvRefIdeal.main_arg0) = m' ((c.tc : Thread Cert.DwkvRefIdeal.nD Cert.DwkvRefIdeal.τ).loc Cert.DwkvRefIdeal.main_arg0)
          ∧ r.2.mem ((c.tc : Thread Cert.DwkvRefIdeal.nD Cert.DwkvRefIdeal.τ).loc Cert.DwkvRefIdeal.main_arg1) = m' ((c.tc : Thread Cert.DwkvRefIdeal.nD Cert.DwkvRefIdeal.τ).loc Cert.DwkvRefIdeal.main_arg1))

def preserves_InA_InAIdeal : Prop :=
  True

def algebraic_InAIdeal_InARefIdeal [hInAIdeal : Cert.InAIdeal.Facts] [hInARefIdeal : Cert.InARefIdeal.Facts] : Prop :=
  ∀ (m : (ℓ : Loc Cert.InAIdeal.nD Cert.InAIdeal.τ Cert.InAIdeal.sig) → Buf (Elt Ideal) ℓ) (g : Dev Cert.InAIdeal.nD → PrngReg)
    (m' : (ℓ : Loc Cert.InARefIdeal.nD Cert.InARefIdeal.τ Cert.InARefIdeal.sig) → Buf (Elt Ideal) ℓ) (g' : Dev Cert.InARefIdeal.nD → PrngReg), Pre_InAIdeal m →
    (∀ c : Dev Cert.InAIdeal.nD,
      m' ((c.tc : Thread Cert.InARefIdeal.nD Cert.InARefIdeal.τ).loc Cert.InARefIdeal.main_arg0) = m ((c.tc : Thread Cert.InAIdeal.nD Cert.InAIdeal.τ).loc Cert.InAIdeal.main_arg0)
      ∧ m' ((c.tc : Thread Cert.InARefIdeal.nD Cert.InARefIdeal.τ).loc Cert.InARefIdeal.main_arg1) = m ((c.tc : Thread Cert.InAIdeal.nD Cert.InAIdeal.τ).loc Cert.InAIdeal.main_arg1)) →
    ∃ (v0 : (c : Dev Cert.InAIdeal.nD) → Buf (Elt Ideal) ((c.tc : Thread Cert.InAIdeal.nD Cert.InAIdeal.τ).loc Cert.InAIdeal.main_v2)),
      θ_run (Cert.InAIdeal.defs (F := Ideal)) (onTc (τ := Cert.InAIdeal.τ) (Cert.InAIdeal.main (F := Ideal))) ⟨m, fun _ => 0, g⟩ (fun r => ∀ c : Dev Cert.InAIdeal.nD,
          r.2.mem ((c.tc : Thread Cert.InAIdeal.nD Cert.InAIdeal.τ).loc Cert.InAIdeal.main_v2) = v0 c
          ∧ r.2.mem ((c.tc : Thread Cert.InAIdeal.nD Cert.InAIdeal.τ).loc Cert.InAIdeal.main_arg0) = m ((c.tc : Thread Cert.InAIdeal.nD Cert.InAIdeal.τ).loc Cert.InAIdeal.main_arg0)
          ∧ r.2.mem ((c.tc : Thread Cert.InAIdeal.nD Cert.InAIdeal.τ).loc Cert.InAIdeal.main_arg1) = m ((c.tc : Thread Cert.InAIdeal.nD Cert.InAIdeal.τ).loc Cert.InAIdeal.main_arg1))
      ∧ θ_run (Cert.InARefIdeal.defs (F := Ideal)) (onTc (τ := Cert.InARefIdeal.τ) (Cert.InARefIdeal.main (F := Ideal))) ⟨m', fun _ => 0, g'⟩ (fun r => ∀ c : Dev Cert.InARefIdeal.nD,
          r.2.mem ((c.tc : Thread Cert.InARefIdeal.nD Cert.InARefIdeal.τ).loc Cert.InARefIdeal.main_v0) = v0 c
          ∧ r.2.mem ((c.tc : Thread Cert.InARefIdeal.nD Cert.InARefIdeal.τ).loc Cert.InARefIdeal.main_arg0) = m' ((c.tc : Thread Cert.InARefIdeal.nD Cert.InARefIdeal.τ).loc Cert.InARefIdeal.main_arg0)
          ∧ r.2.mem ((c.tc : Thread Cert.InARefIdeal.nD Cert.InARefIdeal.τ).loc Cert.InARefIdeal.main_arg1) = m' ((c.tc : Thread Cert.InARefIdeal.nD Cert.InARefIdeal.τ).loc Cert.InARefIdeal.main_arg1))

def preserves_Ukv_UkvIdeal : Prop :=
  True

def algebraic_UkvIdeal_UkvRefIdeal [hUkvIdeal : Cert.UkvIdeal.Facts] [hUkvRefIdeal : Cert.UkvRefIdeal.Facts] : Prop :=
  ∀ (m : (ℓ : Loc Cert.UkvIdeal.nD Cert.UkvIdeal.τ Cert.UkvIdeal.sig) → Buf (Elt Ideal) ℓ) (g : Dev Cert.UkvIdeal.nD → PrngReg)
    (m' : (ℓ : Loc Cert.UkvRefIdeal.nD Cert.UkvRefIdeal.τ Cert.UkvRefIdeal.sig) → Buf (Elt Ideal) ℓ) (g' : Dev Cert.UkvRefIdeal.nD → PrngReg), Pre_UkvIdeal m →
    (∀ c : Dev Cert.UkvIdeal.nD,
      m' ((c.tc : Thread Cert.UkvRefIdeal.nD Cert.UkvRefIdeal.τ).loc Cert.UkvRefIdeal.main_arg0) = m ((c.tc : Thread Cert.UkvIdeal.nD Cert.UkvIdeal.τ).loc Cert.UkvIdeal.main_arg0)
      ∧ m' ((c.tc : Thread Cert.UkvRefIdeal.nD Cert.UkvRefIdeal.τ).loc Cert.UkvRefIdeal.main_arg1) = m ((c.tc : Thread Cert.UkvIdeal.nD Cert.UkvIdeal.τ).loc Cert.UkvIdeal.main_arg1)) →
    ∃ (v0 : (c : Dev Cert.UkvIdeal.nD) → Buf (Elt Ideal) ((c.tc : Thread Cert.UkvIdeal.nD Cert.UkvIdeal.τ).loc Cert.UkvIdeal.main_v2)),
      θ_run (Cert.UkvIdeal.defs (F := Ideal)) (onTc (τ := Cert.UkvIdeal.τ) (Cert.UkvIdeal.main (F := Ideal))) ⟨m, fun _ => 0, g⟩ (fun r => ∀ c : Dev Cert.UkvIdeal.nD,
          r.2.mem ((c.tc : Thread Cert.UkvIdeal.nD Cert.UkvIdeal.τ).loc Cert.UkvIdeal.main_v2) = v0 c
          ∧ r.2.mem ((c.tc : Thread Cert.UkvIdeal.nD Cert.UkvIdeal.τ).loc Cert.UkvIdeal.main_arg0) = m ((c.tc : Thread Cert.UkvIdeal.nD Cert.UkvIdeal.τ).loc Cert.UkvIdeal.main_arg0)
          ∧ r.2.mem ((c.tc : Thread Cert.UkvIdeal.nD Cert.UkvIdeal.τ).loc Cert.UkvIdeal.main_arg1) = m ((c.tc : Thread Cert.UkvIdeal.nD Cert.UkvIdeal.τ).loc Cert.UkvIdeal.main_arg1))
      ∧ θ_run (Cert.UkvRefIdeal.defs (F := Ideal)) (onTc (τ := Cert.UkvRefIdeal.τ) (Cert.UkvRefIdeal.main (F := Ideal))) ⟨m', fun _ => 0, g'⟩ (fun r => ∀ c : Dev Cert.UkvRefIdeal.nD,
          r.2.mem ((c.tc : Thread Cert.UkvRefIdeal.nD Cert.UkvRefIdeal.τ).loc Cert.UkvRefIdeal.main_v1) = v0 c
          ∧ r.2.mem ((c.tc : Thread Cert.UkvRefIdeal.nD Cert.UkvRefIdeal.τ).loc Cert.UkvRefIdeal.main_arg0) = m' ((c.tc : Thread Cert.UkvRefIdeal.nD Cert.UkvRefIdeal.τ).loc Cert.UkvRefIdeal.main_arg0)
          ∧ r.2.mem ((c.tc : Thread Cert.UkvRefIdeal.nD Cert.UkvRefIdeal.τ).loc Cert.UkvRefIdeal.main_arg1) = m' ((c.tc : Thread Cert.UkvRefIdeal.nD Cert.UkvRefIdeal.τ).loc Cert.UkvRefIdeal.main_arg1))

def preserves_DhCq_DhCqIdeal : Prop :=
  True

def algebraic_DhCqIdeal_DhCqRefIdeal [hDhCqIdeal : Cert.DhCqIdeal.Facts] [hDhCqRefIdeal : Cert.DhCqRefIdeal.Facts] : Prop :=
  ∀ (m : (ℓ : Loc Cert.DhCqIdeal.nD Cert.DhCqIdeal.τ Cert.DhCqIdeal.sig) → Buf (Elt Ideal) ℓ) (g : Dev Cert.DhCqIdeal.nD → PrngReg)
    (m' : (ℓ : Loc Cert.DhCqRefIdeal.nD Cert.DhCqRefIdeal.τ Cert.DhCqRefIdeal.sig) → Buf (Elt Ideal) ℓ) (g' : Dev Cert.DhCqRefIdeal.nD → PrngReg), Pre_DhCqIdeal m →
    (∀ c : Dev Cert.DhCqIdeal.nD,
      m' ((c.tc : Thread Cert.DhCqRefIdeal.nD Cert.DhCqRefIdeal.τ).loc Cert.DhCqRefIdeal.main_arg0) = m ((c.tc : Thread Cert.DhCqIdeal.nD Cert.DhCqIdeal.τ).loc Cert.DhCqIdeal.main_arg0)
      ∧ m' ((c.tc : Thread Cert.DhCqRefIdeal.nD Cert.DhCqRefIdeal.τ).loc Cert.DhCqRefIdeal.main_arg1) = m ((c.tc : Thread Cert.DhCqIdeal.nD Cert.DhCqIdeal.τ).loc Cert.DhCqIdeal.main_arg1)
      ∧ m' ((c.tc : Thread Cert.DhCqRefIdeal.nD Cert.DhCqRefIdeal.τ).loc Cert.DhCqRefIdeal.main_arg2) = m ((c.tc : Thread Cert.DhCqIdeal.nD Cert.DhCqIdeal.τ).loc Cert.DhCqIdeal.main_arg2)) →
    ∃ (v0 : (c : Dev Cert.DhCqIdeal.nD) → Buf (Elt Ideal) ((c.tc : Thread Cert.DhCqIdeal.nD Cert.DhCqIdeal.τ).loc Cert.DhCqIdeal.main_v2)),
      θ_run (Cert.DhCqIdeal.defs (F := Ideal)) (onTc (τ := Cert.DhCqIdeal.τ) (Cert.DhCqIdeal.main (F := Ideal))) ⟨m, fun _ => 0, g⟩ (fun r => ∀ c : Dev Cert.DhCqIdeal.nD,
          r.2.mem ((c.tc : Thread Cert.DhCqIdeal.nD Cert.DhCqIdeal.τ).loc Cert.DhCqIdeal.main_v2) = v0 c
          ∧ r.2.mem ((c.tc : Thread Cert.DhCqIdeal.nD Cert.DhCqIdeal.τ).loc Cert.DhCqIdeal.main_arg0) = m ((c.tc : Thread Cert.DhCqIdeal.nD Cert.DhCqIdeal.τ).loc Cert.DhCqIdeal.main_arg0)
          ∧ r.2.mem ((c.tc : Thread Cert.DhCqIdeal.nD Cert.DhCqIdeal.τ).loc Cert.DhCqIdeal.main_arg1) = m ((c.tc : Thread Cert.DhCqIdeal.nD Cert.DhCqIdeal.τ).loc Cert.DhCqIdeal.main_arg1)
          ∧ r.2.mem ((c.tc : Thread Cert.DhCqIdeal.nD Cert.DhCqIdeal.τ).loc Cert.DhCqIdeal.main_arg2) = m ((c.tc : Thread Cert.DhCqIdeal.nD Cert.DhCqIdeal.τ).loc Cert.DhCqIdeal.main_arg2))
      ∧ θ_run (Cert.DhCqRefIdeal.defs (F := Ideal)) (onTc (τ := Cert.DhCqRefIdeal.τ) (Cert.DhCqRefIdeal.main (F := Ideal))) ⟨m', fun _ => 0, g'⟩ (fun r => ∀ c : Dev Cert.DhCqRefIdeal.nD,
          r.2.mem ((c.tc : Thread Cert.DhCqRefIdeal.nD Cert.DhCqRefIdeal.τ).loc Cert.DhCqRefIdeal.main_v3) = v0 c
          ∧ r.2.mem ((c.tc : Thread Cert.DhCqRefIdeal.nD Cert.DhCqRefIdeal.τ).loc Cert.DhCqRefIdeal.main_arg0) = m' ((c.tc : Thread Cert.DhCqRefIdeal.nD Cert.DhCqRefIdeal.τ).loc Cert.DhCqRefIdeal.main_arg0)
          ∧ r.2.mem ((c.tc : Thread Cert.DhCqRefIdeal.nD Cert.DhCqRefIdeal.τ).loc Cert.DhCqRefIdeal.main_arg1) = m' ((c.tc : Thread Cert.DhCqRefIdeal.nD Cert.DhCqRefIdeal.τ).loc Cert.DhCqRefIdeal.main_arg1)
          ∧ r.2.mem ((c.tc : Thread Cert.DhCqRefIdeal.nD Cert.DhCqRefIdeal.τ).loc Cert.DhCqRefIdeal.main_arg2) = m' ((c.tc : Thread Cert.DhCqRefIdeal.nD Cert.DhCqRefIdeal.τ).loc Cert.DhCqRefIdeal.main_arg2))

def preserves_DhCkv_DhCkvIdeal : Prop :=
  True

def algebraic_DhCkvIdeal_DhCkvRefIdeal [hDhCkvIdeal : Cert.DhCkvIdeal.Facts] [hDhCkvRefIdeal : Cert.DhCkvRefIdeal.Facts] : Prop :=
  ∀ (m : (ℓ : Loc Cert.DhCkvIdeal.nD Cert.DhCkvIdeal.τ Cert.DhCkvIdeal.sig) → Buf (Elt Ideal) ℓ) (g : Dev Cert.DhCkvIdeal.nD → PrngReg)
    (m' : (ℓ : Loc Cert.DhCkvRefIdeal.nD Cert.DhCkvRefIdeal.τ Cert.DhCkvRefIdeal.sig) → Buf (Elt Ideal) ℓ) (g' : Dev Cert.DhCkvRefIdeal.nD → PrngReg), Pre_DhCkvIdeal m →
    (∀ c : Dev Cert.DhCkvIdeal.nD,
      m' ((c.tc : Thread Cert.DhCkvRefIdeal.nD Cert.DhCkvRefIdeal.τ).loc Cert.DhCkvRefIdeal.main_arg0) = m ((c.tc : Thread Cert.DhCkvIdeal.nD Cert.DhCkvIdeal.τ).loc Cert.DhCkvIdeal.main_arg0)
      ∧ m' ((c.tc : Thread Cert.DhCkvRefIdeal.nD Cert.DhCkvRefIdeal.τ).loc Cert.DhCkvRefIdeal.main_arg1) = m ((c.tc : Thread Cert.DhCkvIdeal.nD Cert.DhCkvIdeal.τ).loc Cert.DhCkvIdeal.main_arg1)
      ∧ m' ((c.tc : Thread Cert.DhCkvRefIdeal.nD Cert.DhCkvRefIdeal.τ).loc Cert.DhCkvRefIdeal.main_arg2) = m ((c.tc : Thread Cert.DhCkvIdeal.nD Cert.DhCkvIdeal.τ).loc Cert.DhCkvIdeal.main_arg2)) →
    ∃ (v0 : (c : Dev Cert.DhCkvIdeal.nD) → Buf (Elt Ideal) ((c.tc : Thread Cert.DhCkvIdeal.nD Cert.DhCkvIdeal.τ).loc Cert.DhCkvIdeal.main_v2)),
      θ_run (Cert.DhCkvIdeal.defs (F := Ideal)) (onTc (τ := Cert.DhCkvIdeal.τ) (Cert.DhCkvIdeal.main (F := Ideal))) ⟨m, fun _ => 0, g⟩ (fun r => ∀ c : Dev Cert.DhCkvIdeal.nD,
          r.2.mem ((c.tc : Thread Cert.DhCkvIdeal.nD Cert.DhCkvIdeal.τ).loc Cert.DhCkvIdeal.main_v2) = v0 c
          ∧ r.2.mem ((c.tc : Thread Cert.DhCkvIdeal.nD Cert.DhCkvIdeal.τ).loc Cert.DhCkvIdeal.main_arg0) = m ((c.tc : Thread Cert.DhCkvIdeal.nD Cert.DhCkvIdeal.τ).loc Cert.DhCkvIdeal.main_arg0)
          ∧ r.2.mem ((c.tc : Thread Cert.DhCkvIdeal.nD Cert.DhCkvIdeal.τ).loc Cert.DhCkvIdeal.main_arg1) = m ((c.tc : Thread Cert.DhCkvIdeal.nD Cert.DhCkvIdeal.τ).loc Cert.DhCkvIdeal.main_arg1)
          ∧ r.2.mem ((c.tc : Thread Cert.DhCkvIdeal.nD Cert.DhCkvIdeal.τ).loc Cert.DhCkvIdeal.main_arg2) = m ((c.tc : Thread Cert.DhCkvIdeal.nD Cert.DhCkvIdeal.τ).loc Cert.DhCkvIdeal.main_arg2))
      ∧ θ_run (Cert.DhCkvRefIdeal.defs (F := Ideal)) (onTc (τ := Cert.DhCkvRefIdeal.τ) (Cert.DhCkvRefIdeal.main (F := Ideal))) ⟨m', fun _ => 0, g'⟩ (fun r => ∀ c : Dev Cert.DhCkvRefIdeal.nD,
          r.2.mem ((c.tc : Thread Cert.DhCkvRefIdeal.nD Cert.DhCkvRefIdeal.τ).loc Cert.DhCkvRefIdeal.main_v3) = v0 c
          ∧ r.2.mem ((c.tc : Thread Cert.DhCkvRefIdeal.nD Cert.DhCkvRefIdeal.τ).loc Cert.DhCkvRefIdeal.main_arg0) = m' ((c.tc : Thread Cert.DhCkvRefIdeal.nD Cert.DhCkvRefIdeal.τ).loc Cert.DhCkvRefIdeal.main_arg0)
          ∧ r.2.mem ((c.tc : Thread Cert.DhCkvRefIdeal.nD Cert.DhCkvRefIdeal.τ).loc Cert.DhCkvRefIdeal.main_arg1) = m' ((c.tc : Thread Cert.DhCkvRefIdeal.nD Cert.DhCkvRefIdeal.τ).loc Cert.DhCkvRefIdeal.main_arg1)
          ∧ r.2.mem ((c.tc : Thread Cert.DhCkvRefIdeal.nD Cert.DhCkvRefIdeal.τ).loc Cert.DhCkvRefIdeal.main_arg2) = m' ((c.tc : Thread Cert.DhCkvRefIdeal.nD Cert.DhCkvRefIdeal.τ).loc Cert.DhCkvRefIdeal.main_arg2))

def preserves_DwCq_DwCqIdeal : Prop :=
  True

def algebraic_DwCqIdeal_DwCqRefIdeal [hDwCqIdeal : Cert.DwCqIdeal.Facts] [hDwCqRefIdeal : Cert.DwCqRefIdeal.Facts] : Prop :=
  ∀ (m : (ℓ : Loc Cert.DwCqIdeal.nD Cert.DwCqIdeal.τ Cert.DwCqIdeal.sig) → Buf (Elt Ideal) ℓ) (g : Dev Cert.DwCqIdeal.nD → PrngReg)
    (m' : (ℓ : Loc Cert.DwCqRefIdeal.nD Cert.DwCqRefIdeal.τ Cert.DwCqRefIdeal.sig) → Buf (Elt Ideal) ℓ) (g' : Dev Cert.DwCqRefIdeal.nD → PrngReg), Pre_DwCqIdeal m →
    (∀ c : Dev Cert.DwCqIdeal.nD,
      m' ((c.tc : Thread Cert.DwCqRefIdeal.nD Cert.DwCqRefIdeal.τ).loc Cert.DwCqRefIdeal.main_arg0) = m ((c.tc : Thread Cert.DwCqIdeal.nD Cert.DwCqIdeal.τ).loc Cert.DwCqIdeal.main_arg0)
      ∧ m' ((c.tc : Thread Cert.DwCqRefIdeal.nD Cert.DwCqRefIdeal.τ).loc Cert.DwCqRefIdeal.main_arg1) = m ((c.tc : Thread Cert.DwCqIdeal.nD Cert.DwCqIdeal.τ).loc Cert.DwCqIdeal.main_arg1)) →
    ∃ (v0 : (c : Dev Cert.DwCqIdeal.nD) → Buf (Elt Ideal) ((c.tc : Thread Cert.DwCqIdeal.nD Cert.DwCqIdeal.τ).loc Cert.DwCqIdeal.main_v2)),
      θ_run (Cert.DwCqIdeal.defs (F := Ideal)) (onTc (τ := Cert.DwCqIdeal.τ) (Cert.DwCqIdeal.main (F := Ideal))) ⟨m, fun _ => 0, g⟩ (fun r => ∀ c : Dev Cert.DwCqIdeal.nD,
          r.2.mem ((c.tc : Thread Cert.DwCqIdeal.nD Cert.DwCqIdeal.τ).loc Cert.DwCqIdeal.main_v2) = v0 c
          ∧ r.2.mem ((c.tc : Thread Cert.DwCqIdeal.nD Cert.DwCqIdeal.τ).loc Cert.DwCqIdeal.main_arg0) = m ((c.tc : Thread Cert.DwCqIdeal.nD Cert.DwCqIdeal.τ).loc Cert.DwCqIdeal.main_arg0)
          ∧ r.2.mem ((c.tc : Thread Cert.DwCqIdeal.nD Cert.DwCqIdeal.τ).loc Cert.DwCqIdeal.main_arg1) = m ((c.tc : Thread Cert.DwCqIdeal.nD Cert.DwCqIdeal.τ).loc Cert.DwCqIdeal.main_arg1))
      ∧ θ_run (Cert.DwCqRefIdeal.defs (F := Ideal)) (onTc (τ := Cert.DwCqRefIdeal.τ) (Cert.DwCqRefIdeal.main (F := Ideal))) ⟨m', fun _ => 0, g'⟩ (fun r => ∀ c : Dev Cert.DwCqRefIdeal.nD,
          r.2.mem ((c.tc : Thread Cert.DwCqRefIdeal.nD Cert.DwCqRefIdeal.τ).loc Cert.DwCqRefIdeal.main_v3) = v0 c
          ∧ r.2.mem ((c.tc : Thread Cert.DwCqRefIdeal.nD Cert.DwCqRefIdeal.τ).loc Cert.DwCqRefIdeal.main_arg0) = m' ((c.tc : Thread Cert.DwCqRefIdeal.nD Cert.DwCqRefIdeal.τ).loc Cert.DwCqRefIdeal.main_arg0)
          ∧ r.2.mem ((c.tc : Thread Cert.DwCqRefIdeal.nD Cert.DwCqRefIdeal.τ).loc Cert.DwCqRefIdeal.main_arg1) = m' ((c.tc : Thread Cert.DwCqRefIdeal.nD Cert.DwCqRefIdeal.τ).loc Cert.DwCqRefIdeal.main_arg1))

def preserves_DwCkv_DwCkvIdeal : Prop :=
  True

def algebraic_DwCkvIdeal_DwCkvRefIdeal [hDwCkvIdeal : Cert.DwCkvIdeal.Facts] [hDwCkvRefIdeal : Cert.DwCkvRefIdeal.Facts] : Prop :=
  ∀ (m : (ℓ : Loc Cert.DwCkvIdeal.nD Cert.DwCkvIdeal.τ Cert.DwCkvIdeal.sig) → Buf (Elt Ideal) ℓ) (g : Dev Cert.DwCkvIdeal.nD → PrngReg)
    (m' : (ℓ : Loc Cert.DwCkvRefIdeal.nD Cert.DwCkvRefIdeal.τ Cert.DwCkvRefIdeal.sig) → Buf (Elt Ideal) ℓ) (g' : Dev Cert.DwCkvRefIdeal.nD → PrngReg), Pre_DwCkvIdeal m →
    (∀ c : Dev Cert.DwCkvIdeal.nD,
      m' ((c.tc : Thread Cert.DwCkvRefIdeal.nD Cert.DwCkvRefIdeal.τ).loc Cert.DwCkvRefIdeal.main_arg0) = m ((c.tc : Thread Cert.DwCkvIdeal.nD Cert.DwCkvIdeal.τ).loc Cert.DwCkvIdeal.main_arg0)
      ∧ m' ((c.tc : Thread Cert.DwCkvRefIdeal.nD Cert.DwCkvRefIdeal.τ).loc Cert.DwCkvRefIdeal.main_arg1) = m ((c.tc : Thread Cert.DwCkvIdeal.nD Cert.DwCkvIdeal.τ).loc Cert.DwCkvIdeal.main_arg1)) →
    ∃ (v0 : (c : Dev Cert.DwCkvIdeal.nD) → Buf (Elt Ideal) ((c.tc : Thread Cert.DwCkvIdeal.nD Cert.DwCkvIdeal.τ).loc Cert.DwCkvIdeal.main_v2)),
      θ_run (Cert.DwCkvIdeal.defs (F := Ideal)) (onTc (τ := Cert.DwCkvIdeal.τ) (Cert.DwCkvIdeal.main (F := Ideal))) ⟨m, fun _ => 0, g⟩ (fun r => ∀ c : Dev Cert.DwCkvIdeal.nD,
          r.2.mem ((c.tc : Thread Cert.DwCkvIdeal.nD Cert.DwCkvIdeal.τ).loc Cert.DwCkvIdeal.main_v2) = v0 c
          ∧ r.2.mem ((c.tc : Thread Cert.DwCkvIdeal.nD Cert.DwCkvIdeal.τ).loc Cert.DwCkvIdeal.main_arg0) = m ((c.tc : Thread Cert.DwCkvIdeal.nD Cert.DwCkvIdeal.τ).loc Cert.DwCkvIdeal.main_arg0)
          ∧ r.2.mem ((c.tc : Thread Cert.DwCkvIdeal.nD Cert.DwCkvIdeal.τ).loc Cert.DwCkvIdeal.main_arg1) = m ((c.tc : Thread Cert.DwCkvIdeal.nD Cert.DwCkvIdeal.τ).loc Cert.DwCkvIdeal.main_arg1))
      ∧ θ_run (Cert.DwCkvRefIdeal.defs (F := Ideal)) (onTc (τ := Cert.DwCkvRefIdeal.τ) (Cert.DwCkvRefIdeal.main (F := Ideal))) ⟨m', fun _ => 0, g'⟩ (fun r => ∀ c : Dev Cert.DwCkvRefIdeal.nD,
          r.2.mem ((c.tc : Thread Cert.DwCkvRefIdeal.nD Cert.DwCkvRefIdeal.τ).loc Cert.DwCkvRefIdeal.main_v3) = v0 c
          ∧ r.2.mem ((c.tc : Thread Cert.DwCkvRefIdeal.nD Cert.DwCkvRefIdeal.τ).loc Cert.DwCkvRefIdeal.main_arg0) = m' ((c.tc : Thread Cert.DwCkvRefIdeal.nD Cert.DwCkvRefIdeal.τ).loc Cert.DwCkvRefIdeal.main_arg0)
          ∧ r.2.mem ((c.tc : Thread Cert.DwCkvRefIdeal.nD Cert.DwCkvRefIdeal.τ).loc Cert.DwCkvRefIdeal.main_arg1) = m' ((c.tc : Thread Cert.DwCkvRefIdeal.nD Cert.DwCkvRefIdeal.τ).loc Cert.DwCkvRefIdeal.main_arg1))

def preserves_Dcqn_DcqnIdeal : Prop :=
  True

def algebraic_DcqnIdeal_DcqnRefIdeal [hDcqnIdeal : Cert.DcqnIdeal.Facts] [hDcqnRefIdeal : Cert.DcqnRefIdeal.Facts] : Prop :=
  ∀ (m : (ℓ : Loc Cert.DcqnIdeal.nD Cert.DcqnIdeal.τ Cert.DcqnIdeal.sig) → Buf (Elt Ideal) ℓ) (g : Dev Cert.DcqnIdeal.nD → PrngReg)
    (m' : (ℓ : Loc Cert.DcqnRefIdeal.nD Cert.DcqnRefIdeal.τ Cert.DcqnRefIdeal.sig) → Buf (Elt Ideal) ℓ) (g' : Dev Cert.DcqnRefIdeal.nD → PrngReg), Pre_DcqnIdeal m →
    (∀ c : Dev Cert.DcqnIdeal.nD,
      m' ((c.tc : Thread Cert.DcqnRefIdeal.nD Cert.DcqnRefIdeal.τ).loc Cert.DcqnRefIdeal.main_arg0) = m ((c.tc : Thread Cert.DcqnIdeal.nD Cert.DcqnIdeal.τ).loc Cert.DcqnIdeal.main_arg0)
      ∧ m' ((c.tc : Thread Cert.DcqnRefIdeal.nD Cert.DcqnRefIdeal.τ).loc Cert.DcqnRefIdeal.main_arg1) = m ((c.tc : Thread Cert.DcqnIdeal.nD Cert.DcqnIdeal.τ).loc Cert.DcqnIdeal.main_arg1)) →
    ∃ (v0 : (c : Dev Cert.DcqnIdeal.nD) → Buf (Elt Ideal) ((c.tc : Thread Cert.DcqnIdeal.nD Cert.DcqnIdeal.τ).loc Cert.DcqnIdeal.main_v2)),
      θ_run (Cert.DcqnIdeal.defs (F := Ideal)) (onTc (τ := Cert.DcqnIdeal.τ) (Cert.DcqnIdeal.main (F := Ideal))) ⟨m, fun _ => 0, g⟩ (fun r => ∀ c : Dev Cert.DcqnIdeal.nD,
          r.2.mem ((c.tc : Thread Cert.DcqnIdeal.nD Cert.DcqnIdeal.τ).loc Cert.DcqnIdeal.main_v2) = v0 c
          ∧ r.2.mem ((c.tc : Thread Cert.DcqnIdeal.nD Cert.DcqnIdeal.τ).loc Cert.DcqnIdeal.main_arg0) = m ((c.tc : Thread Cert.DcqnIdeal.nD Cert.DcqnIdeal.τ).loc Cert.DcqnIdeal.main_arg0)
          ∧ r.2.mem ((c.tc : Thread Cert.DcqnIdeal.nD Cert.DcqnIdeal.τ).loc Cert.DcqnIdeal.main_arg1) = m ((c.tc : Thread Cert.DcqnIdeal.nD Cert.DcqnIdeal.τ).loc Cert.DcqnIdeal.main_arg1))
      ∧ θ_run (Cert.DcqnRefIdeal.defs (F := Ideal)) (onTc (τ := Cert.DcqnRefIdeal.τ) (Cert.DcqnRefIdeal.main (F := Ideal))) ⟨m', fun _ => 0, g'⟩ (fun r => ∀ c : Dev Cert.DcqnRefIdeal.nD,
          r.2.mem ((c.tc : Thread Cert.DcqnRefIdeal.nD Cert.DcqnRefIdeal.τ).loc Cert.DcqnRefIdeal.main_v2) = v0 c
          ∧ r.2.mem ((c.tc : Thread Cert.DcqnRefIdeal.nD Cert.DcqnRefIdeal.τ).loc Cert.DcqnRefIdeal.main_arg0) = m' ((c.tc : Thread Cert.DcqnRefIdeal.nD Cert.DcqnRefIdeal.τ).loc Cert.DcqnRefIdeal.main_arg0)
          ∧ r.2.mem ((c.tc : Thread Cert.DcqnRefIdeal.nD Cert.DcqnRefIdeal.τ).loc Cert.DcqnRefIdeal.main_arg1) = m' ((c.tc : Thread Cert.DcqnRefIdeal.nD Cert.DcqnRefIdeal.τ).loc Cert.DcqnRefIdeal.main_arg1))

def preserves_Dwq2_Dwq2Ideal : Prop :=
  True

def algebraic_Dwq2Ideal_Dwq2RefIdeal [hDwq2Ideal : Cert.Dwq2Ideal.Facts] [hDwq2RefIdeal : Cert.Dwq2RefIdeal.Facts] : Prop :=
  ∀ (m : (ℓ : Loc Cert.Dwq2Ideal.nD Cert.Dwq2Ideal.τ Cert.Dwq2Ideal.sig) → Buf (Elt Ideal) ℓ) (g : Dev Cert.Dwq2Ideal.nD → PrngReg)
    (m' : (ℓ : Loc Cert.Dwq2RefIdeal.nD Cert.Dwq2RefIdeal.τ Cert.Dwq2RefIdeal.sig) → Buf (Elt Ideal) ℓ) (g' : Dev Cert.Dwq2RefIdeal.nD → PrngReg), Pre_Dwq2Ideal m →
    (∀ c : Dev Cert.Dwq2Ideal.nD,
      m' ((c.tc : Thread Cert.Dwq2RefIdeal.nD Cert.Dwq2RefIdeal.τ).loc Cert.Dwq2RefIdeal.main_arg0) = m ((c.tc : Thread Cert.Dwq2Ideal.nD Cert.Dwq2Ideal.τ).loc Cert.Dwq2Ideal.main_arg0)
      ∧ m' ((c.tc : Thread Cert.Dwq2RefIdeal.nD Cert.Dwq2RefIdeal.τ).loc Cert.Dwq2RefIdeal.main_arg1) = m ((c.tc : Thread Cert.Dwq2Ideal.nD Cert.Dwq2Ideal.τ).loc Cert.Dwq2Ideal.main_arg1)) →
    ∃ (v0 : (c : Dev Cert.Dwq2Ideal.nD) → Buf (Elt Ideal) ((c.tc : Thread Cert.Dwq2Ideal.nD Cert.Dwq2Ideal.τ).loc Cert.Dwq2Ideal.main_v2)),
      θ_run (Cert.Dwq2Ideal.defs (F := Ideal)) (onTc (τ := Cert.Dwq2Ideal.τ) (Cert.Dwq2Ideal.main (F := Ideal))) ⟨m, fun _ => 0, g⟩ (fun r => ∀ c : Dev Cert.Dwq2Ideal.nD,
          r.2.mem ((c.tc : Thread Cert.Dwq2Ideal.nD Cert.Dwq2Ideal.τ).loc Cert.Dwq2Ideal.main_v2) = v0 c
          ∧ r.2.mem ((c.tc : Thread Cert.Dwq2Ideal.nD Cert.Dwq2Ideal.τ).loc Cert.Dwq2Ideal.main_arg0) = m ((c.tc : Thread Cert.Dwq2Ideal.nD Cert.Dwq2Ideal.τ).loc Cert.Dwq2Ideal.main_arg0)
          ∧ r.2.mem ((c.tc : Thread Cert.Dwq2Ideal.nD Cert.Dwq2Ideal.τ).loc Cert.Dwq2Ideal.main_arg1) = m ((c.tc : Thread Cert.Dwq2Ideal.nD Cert.Dwq2Ideal.τ).loc Cert.Dwq2Ideal.main_arg1))
      ∧ θ_run (Cert.Dwq2RefIdeal.defs (F := Ideal)) (onTc (τ := Cert.Dwq2RefIdeal.τ) (Cert.Dwq2RefIdeal.main (F := Ideal))) ⟨m', fun _ => 0, g'⟩ (fun r => ∀ c : Dev Cert.Dwq2RefIdeal.nD,
          r.2.mem ((c.tc : Thread Cert.Dwq2RefIdeal.nD Cert.Dwq2RefIdeal.τ).loc Cert.Dwq2RefIdeal.main_v3) = v0 c
          ∧ r.2.mem ((c.tc : Thread Cert.Dwq2RefIdeal.nD Cert.Dwq2RefIdeal.τ).loc Cert.Dwq2RefIdeal.main_arg0) = m' ((c.tc : Thread Cert.Dwq2RefIdeal.nD Cert.Dwq2RefIdeal.τ).loc Cert.Dwq2RefIdeal.main_arg0)
          ∧ r.2.mem ((c.tc : Thread Cert.Dwq2RefIdeal.nD Cert.Dwq2RefIdeal.τ).loc Cert.Dwq2RefIdeal.main_arg1) = m' ((c.tc : Thread Cert.Dwq2RefIdeal.nD Cert.Dwq2RefIdeal.τ).loc Cert.Dwq2RefIdeal.main_arg1))

def preserves_DckvnK_DckvnKIdeal : Prop :=
  True

def algebraic_DckvnKIdeal_DckvnKRefIdeal [hDckvnKIdeal : Cert.DckvnKIdeal.Facts] [hDckvnKRefIdeal : Cert.DckvnKRefIdeal.Facts] : Prop :=
  ∀ (m : (ℓ : Loc Cert.DckvnKIdeal.nD Cert.DckvnKIdeal.τ Cert.DckvnKIdeal.sig) → Buf (Elt Ideal) ℓ) (g : Dev Cert.DckvnKIdeal.nD → PrngReg)
    (m' : (ℓ : Loc Cert.DckvnKRefIdeal.nD Cert.DckvnKRefIdeal.τ Cert.DckvnKRefIdeal.sig) → Buf (Elt Ideal) ℓ) (g' : Dev Cert.DckvnKRefIdeal.nD → PrngReg), Pre_DckvnKIdeal m →
    (∀ c : Dev Cert.DckvnKIdeal.nD,
      m' ((c.tc : Thread Cert.DckvnKRefIdeal.nD Cert.DckvnKRefIdeal.τ).loc Cert.DckvnKRefIdeal.main_arg0) = m ((c.tc : Thread Cert.DckvnKIdeal.nD Cert.DckvnKIdeal.τ).loc Cert.DckvnKIdeal.main_arg0)
      ∧ m' ((c.tc : Thread Cert.DckvnKRefIdeal.nD Cert.DckvnKRefIdeal.τ).loc Cert.DckvnKRefIdeal.main_arg1) = m ((c.tc : Thread Cert.DckvnKIdeal.nD Cert.DckvnKIdeal.τ).loc Cert.DckvnKIdeal.main_arg1)) →
    ∃ (v0 : (c : Dev Cert.DckvnKIdeal.nD) → Buf (Elt Ideal) ((c.tc : Thread Cert.DckvnKIdeal.nD Cert.DckvnKIdeal.τ).loc Cert.DckvnKIdeal.main_v3)),
      θ_run (Cert.DckvnKIdeal.defs (F := Ideal)) (onTc (τ := Cert.DckvnKIdeal.τ) (Cert.DckvnKIdeal.main (F := Ideal))) ⟨m, fun _ => 0, g⟩ (fun r => ∀ c : Dev Cert.DckvnKIdeal.nD,
          r.2.mem ((c.tc : Thread Cert.DckvnKIdeal.nD Cert.DckvnKIdeal.τ).loc Cert.DckvnKIdeal.main_v3) = v0 c
          ∧ r.2.mem ((c.tc : Thread Cert.DckvnKIdeal.nD Cert.DckvnKIdeal.τ).loc Cert.DckvnKIdeal.main_arg0) = m ((c.tc : Thread Cert.DckvnKIdeal.nD Cert.DckvnKIdeal.τ).loc Cert.DckvnKIdeal.main_arg0)
          ∧ r.2.mem ((c.tc : Thread Cert.DckvnKIdeal.nD Cert.DckvnKIdeal.τ).loc Cert.DckvnKIdeal.main_arg1) = m ((c.tc : Thread Cert.DckvnKIdeal.nD Cert.DckvnKIdeal.τ).loc Cert.DckvnKIdeal.main_arg1))
      ∧ θ_run (Cert.DckvnKRefIdeal.defs (F := Ideal)) (onTc (τ := Cert.DckvnKRefIdeal.τ) (Cert.DckvnKRefIdeal.main (F := Ideal))) ⟨m', fun _ => 0, g'⟩ (fun r => ∀ c : Dev Cert.DckvnKRefIdeal.nD,
          r.2.mem ((c.tc : Thread Cert.DckvnKRefIdeal.nD Cert.DckvnKRefIdeal.τ).loc Cert.DckvnKRefIdeal.main_v3) = v0 c
          ∧ r.2.mem ((c.tc : Thread Cert.DckvnKRefIdeal.nD Cert.DckvnKRefIdeal.τ).loc Cert.DckvnKRefIdeal.main_arg0) = m' ((c.tc : Thread Cert.DckvnKRefIdeal.nD Cert.DckvnKRefIdeal.τ).loc Cert.DckvnKRefIdeal.main_arg0)
          ∧ r.2.mem ((c.tc : Thread Cert.DckvnKRefIdeal.nD Cert.DckvnKRefIdeal.τ).loc Cert.DckvnKRefIdeal.main_arg1) = m' ((c.tc : Thread Cert.DckvnKRefIdeal.nD Cert.DckvnKRefIdeal.τ).loc Cert.DckvnKRefIdeal.main_arg1))

def preserves_DckvnV_DckvnVIdeal : Prop :=
  True

def algebraic_DckvnVIdeal_DckvnVRefIdeal [hDckvnVIdeal : Cert.DckvnVIdeal.Facts] [hDckvnVRefIdeal : Cert.DckvnVRefIdeal.Facts] : Prop :=
  ∀ (m : (ℓ : Loc Cert.DckvnVIdeal.nD Cert.DckvnVIdeal.τ Cert.DckvnVIdeal.sig) → Buf (Elt Ideal) ℓ) (g : Dev Cert.DckvnVIdeal.nD → PrngReg)
    (m' : (ℓ : Loc Cert.DckvnVRefIdeal.nD Cert.DckvnVRefIdeal.τ Cert.DckvnVRefIdeal.sig) → Buf (Elt Ideal) ℓ) (g' : Dev Cert.DckvnVRefIdeal.nD → PrngReg), Pre_DckvnVIdeal m →
    (∀ c : Dev Cert.DckvnVIdeal.nD,
      m' ((c.tc : Thread Cert.DckvnVRefIdeal.nD Cert.DckvnVRefIdeal.τ).loc Cert.DckvnVRefIdeal.main_arg0) = m ((c.tc : Thread Cert.DckvnVIdeal.nD Cert.DckvnVIdeal.τ).loc Cert.DckvnVIdeal.main_arg0)
      ∧ m' ((c.tc : Thread Cert.DckvnVRefIdeal.nD Cert.DckvnVRefIdeal.τ).loc Cert.DckvnVRefIdeal.main_arg1) = m ((c.tc : Thread Cert.DckvnVIdeal.nD Cert.DckvnVIdeal.τ).loc Cert.DckvnVIdeal.main_arg1)
      ∧ m' ((c.tc : Thread Cert.DckvnVRefIdeal.nD Cert.DckvnVRefIdeal.τ).loc Cert.DckvnVRefIdeal.main_arg2) = m ((c.tc : Thread Cert.DckvnVIdeal.nD Cert.DckvnVIdeal.τ).loc Cert.DckvnVIdeal.main_arg2)) →
    ∃ (v0 : (c : Dev Cert.DckvnVIdeal.nD) → Buf (Elt Ideal) ((c.tc : Thread Cert.DckvnVIdeal.nD Cert.DckvnVIdeal.τ).loc Cert.DckvnVIdeal.main_v2)),
      θ_run (Cert.DckvnVIdeal.defs (F := Ideal)) (onTc (τ := Cert.DckvnVIdeal.τ) (Cert.DckvnVIdeal.main (F := Ideal))) ⟨m, fun _ => 0, g⟩ (fun r => ∀ c : Dev Cert.DckvnVIdeal.nD,
          r.2.mem ((c.tc : Thread Cert.DckvnVIdeal.nD Cert.DckvnVIdeal.τ).loc Cert.DckvnVIdeal.main_v2) = v0 c
          ∧ r.2.mem ((c.tc : Thread Cert.DckvnVIdeal.nD Cert.DckvnVIdeal.τ).loc Cert.DckvnVIdeal.main_arg0) = m ((c.tc : Thread Cert.DckvnVIdeal.nD Cert.DckvnVIdeal.τ).loc Cert.DckvnVIdeal.main_arg0)
          ∧ r.2.mem ((c.tc : Thread Cert.DckvnVIdeal.nD Cert.DckvnVIdeal.τ).loc Cert.DckvnVIdeal.main_arg1) = m ((c.tc : Thread Cert.DckvnVIdeal.nD Cert.DckvnVIdeal.τ).loc Cert.DckvnVIdeal.main_arg1)
          ∧ r.2.mem ((c.tc : Thread Cert.DckvnVIdeal.nD Cert.DckvnVIdeal.τ).loc Cert.DckvnVIdeal.main_arg2) = m ((c.tc : Thread Cert.DckvnVIdeal.nD Cert.DckvnVIdeal.τ).loc Cert.DckvnVIdeal.main_arg2))
      ∧ θ_run (Cert.DckvnVRefIdeal.defs (F := Ideal)) (onTc (τ := Cert.DckvnVRefIdeal.τ) (Cert.DckvnVRefIdeal.main (F := Ideal))) ⟨m', fun _ => 0, g'⟩ (fun r => ∀ c : Dev Cert.DckvnVRefIdeal.nD,
          r.2.mem ((c.tc : Thread Cert.DckvnVRefIdeal.nD Cert.DckvnVRefIdeal.τ).loc Cert.DckvnVRefIdeal.main_v4) = v0 c
          ∧ r.2.mem ((c.tc : Thread Cert.DckvnVRefIdeal.nD Cert.DckvnVRefIdeal.τ).loc Cert.DckvnVRefIdeal.main_arg0) = m' ((c.tc : Thread Cert.DckvnVRefIdeal.nD Cert.DckvnVRefIdeal.τ).loc Cert.DckvnVRefIdeal.main_arg0)
          ∧ r.2.mem ((c.tc : Thread Cert.DckvnVRefIdeal.nD Cert.DckvnVRefIdeal.τ).loc Cert.DckvnVRefIdeal.main_arg1) = m' ((c.tc : Thread Cert.DckvnVRefIdeal.nD Cert.DckvnVRefIdeal.τ).loc Cert.DckvnVRefIdeal.main_arg1)
          ∧ r.2.mem ((c.tc : Thread Cert.DckvnVRefIdeal.nD Cert.DckvnVRefIdeal.τ).loc Cert.DckvnVRefIdeal.main_arg2) = m' ((c.tc : Thread Cert.DckvnVRefIdeal.nD Cert.DckvnVRefIdeal.τ).loc Cert.DckvnVRefIdeal.main_arg2))

def preserves_DhKr_DhKrIdeal : Prop :=
  True

def algebraic_DhKrIdeal_DhKrRefIdeal [hDhKrIdeal : Cert.DhKrIdeal.Facts] [hDhKrRefIdeal : Cert.DhKrRefIdeal.Facts] : Prop :=
  ∀ (m : (ℓ : Loc Cert.DhKrIdeal.nD Cert.DhKrIdeal.τ Cert.DhKrIdeal.sig) → Buf (Elt Ideal) ℓ) (g : Dev Cert.DhKrIdeal.nD → PrngReg)
    (m' : (ℓ : Loc Cert.DhKrRefIdeal.nD Cert.DhKrRefIdeal.τ Cert.DhKrRefIdeal.sig) → Buf (Elt Ideal) ℓ) (g' : Dev Cert.DhKrRefIdeal.nD → PrngReg), Pre_DhKrIdeal m →
    (∀ c : Dev Cert.DhKrIdeal.nD,
      m' ((c.tc : Thread Cert.DhKrRefIdeal.nD Cert.DhKrRefIdeal.τ).loc Cert.DhKrRefIdeal.main_arg0) = m ((c.tc : Thread Cert.DhKrIdeal.nD Cert.DhKrIdeal.τ).loc Cert.DhKrIdeal.main_arg0)
      ∧ m' ((c.tc : Thread Cert.DhKrRefIdeal.nD Cert.DhKrRefIdeal.τ).loc Cert.DhKrRefIdeal.main_arg1) = m ((c.tc : Thread Cert.DhKrIdeal.nD Cert.DhKrIdeal.τ).loc Cert.DhKrIdeal.main_arg1)) →
    ∃ (v0 : (c : Dev Cert.DhKrIdeal.nD) → Buf (Elt Ideal) ((c.tc : Thread Cert.DhKrIdeal.nD Cert.DhKrIdeal.τ).loc Cert.DhKrIdeal.main_v3)),
      θ_run (Cert.DhKrIdeal.defs (F := Ideal)) (onTc (τ := Cert.DhKrIdeal.τ) (Cert.DhKrIdeal.main (F := Ideal))) ⟨m, fun _ => 0, g⟩ (fun r => ∀ c : Dev Cert.DhKrIdeal.nD,
          r.2.mem ((c.tc : Thread Cert.DhKrIdeal.nD Cert.DhKrIdeal.τ).loc Cert.DhKrIdeal.main_v3) = v0 c
          ∧ r.2.mem ((c.tc : Thread Cert.DhKrIdeal.nD Cert.DhKrIdeal.τ).loc Cert.DhKrIdeal.main_arg0) = m ((c.tc : Thread Cert.DhKrIdeal.nD Cert.DhKrIdeal.τ).loc Cert.DhKrIdeal.main_arg0)
          ∧ r.2.mem ((c.tc : Thread Cert.DhKrIdeal.nD Cert.DhKrIdeal.τ).loc Cert.DhKrIdeal.main_arg1) = m ((c.tc : Thread Cert.DhKrIdeal.nD Cert.DhKrIdeal.τ).loc Cert.DhKrIdeal.main_arg1))
      ∧ θ_run (Cert.DhKrRefIdeal.defs (F := Ideal)) (onTc (τ := Cert.DhKrRefIdeal.τ) (Cert.DhKrRefIdeal.main (F := Ideal))) ⟨m', fun _ => 0, g'⟩ (fun r => ∀ c : Dev Cert.DhKrRefIdeal.nD,
          r.2.mem ((c.tc : Thread Cert.DhKrRefIdeal.nD Cert.DhKrRefIdeal.τ).loc Cert.DhKrRefIdeal.main_v3) = v0 c
          ∧ r.2.mem ((c.tc : Thread Cert.DhKrRefIdeal.nD Cert.DhKrRefIdeal.τ).loc Cert.DhKrRefIdeal.main_arg0) = m' ((c.tc : Thread Cert.DhKrRefIdeal.nD Cert.DhKrRefIdeal.τ).loc Cert.DhKrRefIdeal.main_arg0)
          ∧ r.2.mem ((c.tc : Thread Cert.DhKrRefIdeal.nD Cert.DhKrRefIdeal.τ).loc Cert.DhKrRefIdeal.main_arg1) = m' ((c.tc : Thread Cert.DhKrRefIdeal.nD Cert.DhKrRefIdeal.τ).loc Cert.DhKrRefIdeal.main_arg1))

def preserves_Dwkn_DwknIdeal : Prop :=
  True

def algebraic_DwknIdeal_DwknRefIdeal [hDwknIdeal : Cert.DwknIdeal.Facts] [hDwknRefIdeal : Cert.DwknRefIdeal.Facts] : Prop :=
  ∀ (m : (ℓ : Loc Cert.DwknIdeal.nD Cert.DwknIdeal.τ Cert.DwknIdeal.sig) → Buf (Elt Ideal) ℓ) (g : Dev Cert.DwknIdeal.nD → PrngReg)
    (m' : (ℓ : Loc Cert.DwknRefIdeal.nD Cert.DwknRefIdeal.τ Cert.DwknRefIdeal.sig) → Buf (Elt Ideal) ℓ) (g' : Dev Cert.DwknRefIdeal.nD → PrngReg), Pre_DwknIdeal m →
    (∀ c : Dev Cert.DwknIdeal.nD,
      m' ((c.tc : Thread Cert.DwknRefIdeal.nD Cert.DwknRefIdeal.τ).loc Cert.DwknRefIdeal.main_arg0) = m ((c.tc : Thread Cert.DwknIdeal.nD Cert.DwknIdeal.τ).loc Cert.DwknIdeal.main_arg0)
      ∧ m' ((c.tc : Thread Cert.DwknRefIdeal.nD Cert.DwknRefIdeal.τ).loc Cert.DwknRefIdeal.main_arg1) = m ((c.tc : Thread Cert.DwknIdeal.nD Cert.DwknIdeal.τ).loc Cert.DwknIdeal.main_arg1)) →
    ∃ (v0 : (c : Dev Cert.DwknIdeal.nD) → Buf (Elt Ideal) ((c.tc : Thread Cert.DwknIdeal.nD Cert.DwknIdeal.τ).loc Cert.DwknIdeal.main_v2)),
      θ_run (Cert.DwknIdeal.defs (F := Ideal)) (onTc (τ := Cert.DwknIdeal.τ) (Cert.DwknIdeal.main (F := Ideal))) ⟨m, fun _ => 0, g⟩ (fun r => ∀ c : Dev Cert.DwknIdeal.nD,
          r.2.mem ((c.tc : Thread Cert.DwknIdeal.nD Cert.DwknIdeal.τ).loc Cert.DwknIdeal.main_v2) = v0 c
          ∧ r.2.mem ((c.tc : Thread Cert.DwknIdeal.nD Cert.DwknIdeal.τ).loc Cert.DwknIdeal.main_arg0) = m ((c.tc : Thread Cert.DwknIdeal.nD Cert.DwknIdeal.τ).loc Cert.DwknIdeal.main_arg0)
          ∧ r.2.mem ((c.tc : Thread Cert.DwknIdeal.nD Cert.DwknIdeal.τ).loc Cert.DwknIdeal.main_arg1) = m ((c.tc : Thread Cert.DwknIdeal.nD Cert.DwknIdeal.τ).loc Cert.DwknIdeal.main_arg1))
      ∧ θ_run (Cert.DwknRefIdeal.defs (F := Ideal)) (onTc (τ := Cert.DwknRefIdeal.τ) (Cert.DwknRefIdeal.main (F := Ideal))) ⟨m', fun _ => 0, g'⟩ (fun r => ∀ c : Dev Cert.DwknRefIdeal.nD,
          r.2.mem ((c.tc : Thread Cert.DwknRefIdeal.nD Cert.DwknRefIdeal.τ).loc Cert.DwknRefIdeal.main_v5) = v0 c
          ∧ r.2.mem ((c.tc : Thread Cert.DwknRefIdeal.nD Cert.DwknRefIdeal.τ).loc Cert.DwknRefIdeal.main_arg0) = m' ((c.tc : Thread Cert.DwknRefIdeal.nD Cert.DwknRefIdeal.τ).loc Cert.DwknRefIdeal.main_arg0)
          ∧ r.2.mem ((c.tc : Thread Cert.DwknRefIdeal.nD Cert.DwknRefIdeal.τ).loc Cert.DwknRefIdeal.main_arg1) = m' ((c.tc : Thread Cert.DwknRefIdeal.nD Cert.DwknRefIdeal.τ).loc Cert.DwknRefIdeal.main_arg1))

def preserves_Dwv_DwvIdeal : Prop :=
  True

def algebraic_DwvIdeal_DwvRefIdeal [hDwvIdeal : Cert.DwvIdeal.Facts] [hDwvRefIdeal : Cert.DwvRefIdeal.Facts] : Prop :=
  ∀ (m : (ℓ : Loc Cert.DwvIdeal.nD Cert.DwvIdeal.τ Cert.DwvIdeal.sig) → Buf (Elt Ideal) ℓ) (g : Dev Cert.DwvIdeal.nD → PrngReg)
    (m' : (ℓ : Loc Cert.DwvRefIdeal.nD Cert.DwvRefIdeal.τ Cert.DwvRefIdeal.sig) → Buf (Elt Ideal) ℓ) (g' : Dev Cert.DwvRefIdeal.nD → PrngReg), Pre_DwvIdeal m →
    (∀ c : Dev Cert.DwvIdeal.nD,
      m' ((c.tc : Thread Cert.DwvRefIdeal.nD Cert.DwvRefIdeal.τ).loc Cert.DwvRefIdeal.main_arg0) = m ((c.tc : Thread Cert.DwvIdeal.nD Cert.DwvIdeal.τ).loc Cert.DwvIdeal.main_arg0)
      ∧ m' ((c.tc : Thread Cert.DwvRefIdeal.nD Cert.DwvRefIdeal.τ).loc Cert.DwvRefIdeal.main_arg1) = m ((c.tc : Thread Cert.DwvIdeal.nD Cert.DwvIdeal.τ).loc Cert.DwvIdeal.main_arg1)) →
    ∃ (v0 : (c : Dev Cert.DwvIdeal.nD) → Buf (Elt Ideal) ((c.tc : Thread Cert.DwvIdeal.nD Cert.DwvIdeal.τ).loc Cert.DwvIdeal.main_v1)),
      θ_run (Cert.DwvIdeal.defs (F := Ideal)) (onTc (τ := Cert.DwvIdeal.τ) (Cert.DwvIdeal.main (F := Ideal))) ⟨m, fun _ => 0, g⟩ (fun r => ∀ c : Dev Cert.DwvIdeal.nD,
          r.2.mem ((c.tc : Thread Cert.DwvIdeal.nD Cert.DwvIdeal.τ).loc Cert.DwvIdeal.main_v1) = v0 c
          ∧ r.2.mem ((c.tc : Thread Cert.DwvIdeal.nD Cert.DwvIdeal.τ).loc Cert.DwvIdeal.main_arg0) = m ((c.tc : Thread Cert.DwvIdeal.nD Cert.DwvIdeal.τ).loc Cert.DwvIdeal.main_arg0)
          ∧ r.2.mem ((c.tc : Thread Cert.DwvIdeal.nD Cert.DwvIdeal.τ).loc Cert.DwvIdeal.main_arg1) = m ((c.tc : Thread Cert.DwvIdeal.nD Cert.DwvIdeal.τ).loc Cert.DwvIdeal.main_arg1))
      ∧ θ_run (Cert.DwvRefIdeal.defs (F := Ideal)) (onTc (τ := Cert.DwvRefIdeal.τ) (Cert.DwvRefIdeal.main (F := Ideal))) ⟨m', fun _ => 0, g'⟩ (fun r => ∀ c : Dev Cert.DwvRefIdeal.nD,
          r.2.mem ((c.tc : Thread Cert.DwvRefIdeal.nD Cert.DwvRefIdeal.τ).loc Cert.DwvRefIdeal.main_v5) = v0 c
          ∧ r.2.mem ((c.tc : Thread Cert.DwvRefIdeal.nD Cert.DwvRefIdeal.τ).loc Cert.DwvRefIdeal.main_arg0) = m' ((c.tc : Thread Cert.DwvRefIdeal.nD Cert.DwvRefIdeal.τ).loc Cert.DwvRefIdeal.main_arg0)
          ∧ r.2.mem ((c.tc : Thread Cert.DwvRefIdeal.nD Cert.DwvRefIdeal.τ).loc Cert.DwvRefIdeal.main_arg1) = m' ((c.tc : Thread Cert.DwvRefIdeal.nD Cert.DwvRefIdeal.τ).loc Cert.DwvRefIdeal.main_arg1))

def preserves_DwKr_DwKrIdeal : Prop :=
  True

def algebraic_DwKrIdeal_DwKrRefIdeal [hDwKrIdeal : Cert.DwKrIdeal.Facts] [hDwKrRefIdeal : Cert.DwKrRefIdeal.Facts] : Prop :=
  ∀ (m : (ℓ : Loc Cert.DwKrIdeal.nD Cert.DwKrIdeal.τ Cert.DwKrIdeal.sig) → Buf (Elt Ideal) ℓ) (g : Dev Cert.DwKrIdeal.nD → PrngReg)
    (m' : (ℓ : Loc Cert.DwKrRefIdeal.nD Cert.DwKrRefIdeal.τ Cert.DwKrRefIdeal.sig) → Buf (Elt Ideal) ℓ) (g' : Dev Cert.DwKrRefIdeal.nD → PrngReg), Pre_DwKrIdeal m →
    (∀ c : Dev Cert.DwKrIdeal.nD,
      m' ((c.tc : Thread Cert.DwKrRefIdeal.nD Cert.DwKrRefIdeal.τ).loc Cert.DwKrRefIdeal.main_arg0) = m ((c.tc : Thread Cert.DwKrIdeal.nD Cert.DwKrIdeal.τ).loc Cert.DwKrIdeal.main_arg0)
      ∧ m' ((c.tc : Thread Cert.DwKrRefIdeal.nD Cert.DwKrRefIdeal.τ).loc Cert.DwKrRefIdeal.main_arg1) = m ((c.tc : Thread Cert.DwKrIdeal.nD Cert.DwKrIdeal.τ).loc Cert.DwKrIdeal.main_arg1)) →
    ∃ (v0 : (c : Dev Cert.DwKrIdeal.nD) → Buf (Elt Ideal) ((c.tc : Thread Cert.DwKrIdeal.nD Cert.DwKrIdeal.τ).loc Cert.DwKrIdeal.main_v2)),
      θ_run (Cert.DwKrIdeal.defs (F := Ideal)) (onTc (τ := Cert.DwKrIdeal.τ) (Cert.DwKrIdeal.main (F := Ideal))) ⟨m, fun _ => 0, g⟩ (fun r => ∀ c : Dev Cert.DwKrIdeal.nD,
          r.2.mem ((c.tc : Thread Cert.DwKrIdeal.nD Cert.DwKrIdeal.τ).loc Cert.DwKrIdeal.main_v2) = v0 c
          ∧ r.2.mem ((c.tc : Thread Cert.DwKrIdeal.nD Cert.DwKrIdeal.τ).loc Cert.DwKrIdeal.main_arg0) = m ((c.tc : Thread Cert.DwKrIdeal.nD Cert.DwKrIdeal.τ).loc Cert.DwKrIdeal.main_arg0)
          ∧ r.2.mem ((c.tc : Thread Cert.DwKrIdeal.nD Cert.DwKrIdeal.τ).loc Cert.DwKrIdeal.main_arg1) = m ((c.tc : Thread Cert.DwKrIdeal.nD Cert.DwKrIdeal.τ).loc Cert.DwKrIdeal.main_arg1))
      ∧ θ_run (Cert.DwKrRefIdeal.defs (F := Ideal)) (onTc (τ := Cert.DwKrRefIdeal.τ) (Cert.DwKrRefIdeal.main (F := Ideal))) ⟨m', fun _ => 0, g'⟩ (fun r => ∀ c : Dev Cert.DwKrRefIdeal.nD,
          r.2.mem ((c.tc : Thread Cert.DwKrRefIdeal.nD Cert.DwKrRefIdeal.τ).loc Cert.DwKrRefIdeal.main_v5) = v0 c
          ∧ r.2.mem ((c.tc : Thread Cert.DwKrRefIdeal.nD Cert.DwKrRefIdeal.τ).loc Cert.DwKrRefIdeal.main_arg0) = m' ((c.tc : Thread Cert.DwKrRefIdeal.nD Cert.DwKrRefIdeal.τ).loc Cert.DwKrRefIdeal.main_arg0)
          ∧ r.2.mem ((c.tc : Thread Cert.DwKrRefIdeal.nD Cert.DwKrRefIdeal.τ).loc Cert.DwKrRefIdeal.main_arg1) = m' ((c.tc : Thread Cert.DwKrRefIdeal.nD Cert.DwKrRefIdeal.τ).loc Cert.DwKrRefIdeal.main_arg1))

def preserves_Delta_DeltaIdeal : Prop :=
  True

def algebraic_DeltaIdeal_DeltaRefIdeal [hDeltaIdeal : Cert.DeltaIdeal.Facts] [hDeltaRefIdeal : Cert.DeltaRefIdeal.Facts] : Prop :=
  ∀ (m : (ℓ : Loc Cert.DeltaIdeal.nD Cert.DeltaIdeal.τ Cert.DeltaIdeal.sig) → Buf (Elt Ideal) ℓ) (g : Dev Cert.DeltaIdeal.nD → PrngReg)
    (m' : (ℓ : Loc Cert.DeltaRefIdeal.nD Cert.DeltaRefIdeal.τ Cert.DeltaRefIdeal.sig) → Buf (Elt Ideal) ℓ) (g' : Dev Cert.DeltaRefIdeal.nD → PrngReg), Pre_DeltaIdeal m →
    (∀ c : Dev Cert.DeltaIdeal.nD,
      m' ((c.tc : Thread Cert.DeltaRefIdeal.nD Cert.DeltaRefIdeal.τ).loc Cert.DeltaRefIdeal.main_arg0) = m ((c.tc : Thread Cert.DeltaIdeal.nD Cert.DeltaIdeal.τ).loc Cert.DeltaIdeal.main_arg0)
      ∧ m' ((c.tc : Thread Cert.DeltaRefIdeal.nD Cert.DeltaRefIdeal.τ).loc Cert.DeltaRefIdeal.main_arg1) = m ((c.tc : Thread Cert.DeltaIdeal.nD Cert.DeltaIdeal.τ).loc Cert.DeltaIdeal.main_arg1)) →
    ∃ (v0 : (c : Dev Cert.DeltaIdeal.nD) → Buf (Elt Ideal) ((c.tc : Thread Cert.DeltaIdeal.nD Cert.DeltaIdeal.τ).loc Cert.DeltaIdeal.main_v1)),
      θ_run (Cert.DeltaIdeal.defs (F := Ideal)) (onTc (τ := Cert.DeltaIdeal.τ) (Cert.DeltaIdeal.main (F := Ideal))) ⟨m, fun _ => 0, g⟩ (fun r => ∀ c : Dev Cert.DeltaIdeal.nD,
          r.2.mem ((c.tc : Thread Cert.DeltaIdeal.nD Cert.DeltaIdeal.τ).loc Cert.DeltaIdeal.main_v1) = v0 c
          ∧ r.2.mem ((c.tc : Thread Cert.DeltaIdeal.nD Cert.DeltaIdeal.τ).loc Cert.DeltaIdeal.main_arg0) = m ((c.tc : Thread Cert.DeltaIdeal.nD Cert.DeltaIdeal.τ).loc Cert.DeltaIdeal.main_arg0)
          ∧ r.2.mem ((c.tc : Thread Cert.DeltaIdeal.nD Cert.DeltaIdeal.τ).loc Cert.DeltaIdeal.main_arg1) = m ((c.tc : Thread Cert.DeltaIdeal.nD Cert.DeltaIdeal.τ).loc Cert.DeltaIdeal.main_arg1))
      ∧ θ_run (Cert.DeltaRefIdeal.defs (F := Ideal)) (onTc (τ := Cert.DeltaRefIdeal.τ) (Cert.DeltaRefIdeal.main (F := Ideal))) ⟨m', fun _ => 0, g'⟩ (fun r => ∀ c : Dev Cert.DeltaRefIdeal.nD,
          r.2.mem ((c.tc : Thread Cert.DeltaRefIdeal.nD Cert.DeltaRefIdeal.τ).loc Cert.DeltaRefIdeal.main_v4) = v0 c
          ∧ r.2.mem ((c.tc : Thread Cert.DeltaRefIdeal.nD Cert.DeltaRefIdeal.τ).loc Cert.DeltaRefIdeal.main_arg0) = m' ((c.tc : Thread Cert.DeltaRefIdeal.nD Cert.DeltaRefIdeal.τ).loc Cert.DeltaRefIdeal.main_arg0)
          ∧ r.2.mem ((c.tc : Thread Cert.DeltaRefIdeal.nD Cert.DeltaRefIdeal.τ).loc Cert.DeltaRefIdeal.main_arg1) = m' ((c.tc : Thread Cert.DeltaRefIdeal.nD Cert.DeltaRefIdeal.τ).loc Cert.DeltaRefIdeal.main_arg1))

def Claim : Prop :=
  ∃ (hKernel : Cert.Kernel.Facts) (hKernelIdeal : Cert.KernelIdeal.Facts) (hReferenceIdeal : Cert.ReferenceIdeal.Facts) (hFwd : Cert.Fwd.Facts) (hFwdIdeal : Cert.FwdIdeal.Facts) (hFwdRefIdeal : Cert.FwdRefIdeal.Facts) (hUp : Cert.Up.Facts) (hUpIdeal : Cert.UpIdeal.Facts) (hUpRefIdeal : Cert.UpRefIdeal.Facts) (hDh : Cert.Dh.Facts) (hDhIdeal : Cert.DhIdeal.Facts) (hDhRefIdeal : Cert.DhRefIdeal.Facts) (hDw : Cert.Dw.Facts) (hDwIdeal : Cert.DwIdeal.Facts) (hDwRefIdeal : Cert.DwRefIdeal.Facts) (hDown : Cert.Down.Facts) (hDownIdeal : Cert.DownIdeal.Facts) (hDownRefIdeal : Cert.DownRefIdeal.Facts) (hDw2 : Cert.Dw2.Facts) (hDw2Ideal : Cert.Dw2Ideal.Facts) (hDw2RefIdeal : Cert.Dw2RefIdeal.Facts) (hInB : Cert.InB.Facts) (hInBIdeal : Cert.InBIdeal.Facts) (hInBRefIdeal : Cert.InBRefIdeal.Facts) (hDhB : Cert.DhB.Facts) (hDhBIdeal : Cert.DhBIdeal.Facts) (hDhBRefIdeal : Cert.DhBRefIdeal.Facts) (hDwB : Cert.DwB.Facts) (hDwBIdeal : Cert.DwBIdeal.Facts) (hDwBRefIdeal : Cert.DwBRefIdeal.Facts) (hInG : Cert.InG.Facts) (hInGIdeal : Cert.InGIdeal.Facts) (hInGRefIdeal : Cert.InGRefIdeal.Facts) (hDhG : Cert.DhG.Facts) (hDhGIdeal : Cert.DhGIdeal.Facts) (hDhGRefIdeal : Cert.DhGRefIdeal.Facts) (hDwG : Cert.DwG.Facts) (hDwGIdeal : Cert.DwGIdeal.Facts) (hDwGRefIdeal : Cert.DwGRefIdeal.Facts) (hOut : Cert.Out.Facts) (hOutIdeal : Cert.OutIdeal.Facts) (hOutRefIdeal : Cert.OutRefIdeal.Facts) (hDwOut : Cert.DwOut.Facts) (hDwOutIdeal : Cert.DwOutIdeal.Facts) (hDwOutRefIdeal : Cert.DwOutRefIdeal.Facts) (hMerge : Cert.Merge.Facts) (hMergeIdeal : Cert.MergeIdeal.Facts) (hMergeRefIdeal : Cert.MergeRefIdeal.Facts) (hMergeBwd : Cert.MergeBwd.Facts) (hMergeBwdIdeal : Cert.MergeBwdIdeal.Facts) (hMergeBwdRefIdeal : Cert.MergeBwdRefIdeal.Facts) (hCross : Cert.Cross.Facts) (hCrossIdeal : Cert.CrossIdeal.Facts) (hCrossRefIdeal : Cert.CrossRefIdeal.Facts) (hXq : Cert.Xq.Facts) (hXqIdeal : Cert.XqIdeal.Facts) (hXqRefIdeal : Cert.XqRefIdeal.Facts) (hDox : Cert.Dox.Facts) (hDoxIdeal : Cert.DoxIdeal.Facts) (hDoxRefIdeal : Cert.DoxRefIdeal.Facts) (hDmerged : Cert.Dmerged.Facts) (hDmergedIdeal : Cert.DmergedIdeal.Facts) (hDmergedRefIdeal : Cert.DmergedRefIdeal.Facts) (hDh1 : Cert.Dh1.Facts) (hDh1Ideal : Cert.Dh1Ideal.Facts) (hDh1RefIdeal : Cert.Dh1RefIdeal.Facts) (hDyA : Cert.DyA.Facts) (hDyAIdeal : Cert.DyAIdeal.Facts) (hDyARefIdeal : Cert.DyARefIdeal.Facts) (hDyB : Cert.DyB.Facts) (hDyBIdeal : Cert.DyBIdeal.Facts) (hDyBRefIdeal : Cert.DyBRefIdeal.Facts) (hDwBrA : Cert.DwBrA.Facts) (hDwBrAIdeal : Cert.DwBrAIdeal.Facts) (hDwBrARefIdeal : Cert.DwBrARefIdeal.Facts) (hDwBrB : Cert.DwBrB.Facts) (hDwBrBIdeal : Cert.DwBrBIdeal.Facts) (hDwBrBRefIdeal : Cert.DwBrBRefIdeal.Facts) (hInC : Cert.InC.Facts) (hInCIdeal : Cert.InCIdeal.Facts) (hInCRefIdeal : Cert.InCRefIdeal.Facts) (hDhC : Cert.DhC.Facts) (hDhCIdeal : Cert.DhCIdeal.Facts) (hDhCRefIdeal : Cert.DhCRefIdeal.Facts) (hDwC : Cert.DwC.Facts) (hDwCIdeal : Cert.DwCIdeal.Facts) (hDwCRefIdeal : Cert.DwCRefIdeal.Facts) (hRms : Cert.Rms.Facts) (hRmsIdeal : Cert.RmsIdeal.Facts) (hRmsRefIdeal : Cert.RmsRefIdeal.Facts) (hRmsMem : Cert.RmsMem.Facts) (hRmsMemIdeal : Cert.RmsMemIdeal.Facts) (hRmsMemRefIdeal : Cert.RmsMemRefIdeal.Facts) (hRmsCq : Cert.RmsCq.Facts) (hRmsCqIdeal : Cert.RmsCqIdeal.Facts) (hRmsCqRefIdeal : Cert.RmsCqRefIdeal.Facts) (hRmsCkv : Cert.RmsCkv.Facts) (hRmsCkvIdeal : Cert.RmsCkvIdeal.Facts) (hRmsCkvRefIdeal : Cert.RmsCkvRefIdeal.Facts) (hXkv : Cert.Xkv.Facts) (hXkvIdeal : Cert.XkvIdeal.Facts) (hXkvRefIdeal : Cert.XkvRefIdeal.Facts) (hDmemn : Cert.Dmemn.Facts) (hDmemnIdeal : Cert.DmemnIdeal.Facts) (hDmemnRefIdeal : Cert.DmemnRefIdeal.Facts) (hDwkv : Cert.Dwkv.Facts) (hDwkvIdeal : Cert.DwkvIdeal.Facts) (hDwkvRefIdeal : Cert.DwkvRefIdeal.Facts) (hInA : Cert.InA.Facts) (hInAIdeal : Cert.InAIdeal.Facts) (hInARefIdeal : Cert.InARefIdeal.Facts) (hUkv : Cert.Ukv.Facts) (hUkvIdeal : Cert.UkvIdeal.Facts) (hUkvRefIdeal : Cert.UkvRefIdeal.Facts) (hDhCq : Cert.DhCq.Facts) (hDhCqIdeal : Cert.DhCqIdeal.Facts) (hDhCqRefIdeal : Cert.DhCqRefIdeal.Facts) (hDhCkv : Cert.DhCkv.Facts) (hDhCkvIdeal : Cert.DhCkvIdeal.Facts) (hDhCkvRefIdeal : Cert.DhCkvRefIdeal.Facts) (hDwCq : Cert.DwCq.Facts) (hDwCqIdeal : Cert.DwCqIdeal.Facts) (hDwCqRefIdeal : Cert.DwCqRefIdeal.Facts) (hDwCkv : Cert.DwCkv.Facts) (hDwCkvIdeal : Cert.DwCkvIdeal.Facts) (hDwCkvRefIdeal : Cert.DwCkvRefIdeal.Facts) (hDcqn : Cert.Dcqn.Facts) (hDcqnIdeal : Cert.DcqnIdeal.Facts) (hDcqnRefIdeal : Cert.DcqnRefIdeal.Facts) (hDwq2 : Cert.Dwq2.Facts) (hDwq2Ideal : Cert.Dwq2Ideal.Facts) (hDwq2RefIdeal : Cert.Dwq2RefIdeal.Facts) (hDckvnK : Cert.DckvnK.Facts) (hDckvnKIdeal : Cert.DckvnKIdeal.Facts) (hDckvnKRefIdeal : Cert.DckvnKRefIdeal.Facts) (hDckvnV : Cert.DckvnV.Facts) (hDckvnVIdeal : Cert.DckvnVIdeal.Facts) (hDckvnVRefIdeal : Cert.DckvnVRefIdeal.Facts) (hDhKr : Cert.DhKr.Facts) (hDhKrIdeal : Cert.DhKrIdeal.Facts) (hDhKrRefIdeal : Cert.DhKrRefIdeal.Facts) (hDwkn : Cert.Dwkn.Facts) (hDwknIdeal : Cert.DwknIdeal.Facts) (hDwknRefIdeal : Cert.DwknRefIdeal.Facts) (hDwv : Cert.Dwv.Facts) (hDwvIdeal : Cert.DwvIdeal.Facts) (hDwvRefIdeal : Cert.DwvRefIdeal.Facts) (hDwKr : Cert.DwKr.Facts) (hDwKrIdeal : Cert.DwKrIdeal.Facts) (hDwKrRefIdeal : Cert.DwKrRefIdeal.Facts) (hDelta : Cert.Delta.Facts) (hDeltaIdeal : Cert.DeltaIdeal.Facts) (hDeltaRefIdeal : Cert.DeltaRefIdeal.Facts) (hPre_finite : Cert.Pre_finite.Facts) (hPre_finite_fwd : Cert.Pre_finite_fwd.Facts) (hPre_finite_dh : Cert.Pre_finite_dh.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Fwd (hFwd := hFwd)
    ∧ quiescent_FwdIdeal (hFwdIdeal := hFwdIdeal)
    ∧ quiescent_FwdIdeal_pre_finite_fwd (hFwdIdeal := hFwdIdeal) (hPre_finite_fwd := hPre_finite_fwd)
    ∧ quiescent_FwdRefIdeal (hFwdRefIdeal := hFwdRefIdeal)
    ∧ quiescent_FwdRefIdeal_pre_finite_fwd (hFwdRefIdeal := hFwdRefIdeal) (hPre_finite_fwd := hPre_finite_fwd)
    ∧ quiescent_Up (hUp := hUp)
    ∧ quiescent_UpIdeal (hUpIdeal := hUpIdeal)
    ∧ quiescent_UpRefIdeal (hUpRefIdeal := hUpRefIdeal)
    ∧ quiescent_Dh (hDh := hDh)
    ∧ quiescent_DhIdeal (hDhIdeal := hDhIdeal)
    ∧ quiescent_DhIdeal_pre_finite_dh (hDhIdeal := hDhIdeal) (hPre_finite_dh := hPre_finite_dh)
    ∧ quiescent_DhRefIdeal (hDhRefIdeal := hDhRefIdeal)
    ∧ quiescent_DhRefIdeal_pre_finite_dh (hDhRefIdeal := hDhRefIdeal) (hPre_finite_dh := hPre_finite_dh)
    ∧ quiescent_Dw (hDw := hDw)
    ∧ quiescent_DwIdeal (hDwIdeal := hDwIdeal)
    ∧ quiescent_DwRefIdeal (hDwRefIdeal := hDwRefIdeal)
    ∧ quiescent_Down (hDown := hDown)
    ∧ quiescent_DownIdeal (hDownIdeal := hDownIdeal)
    ∧ quiescent_DownRefIdeal (hDownRefIdeal := hDownRefIdeal)
    ∧ quiescent_Dw2 (hDw2 := hDw2)
    ∧ quiescent_Dw2Ideal (hDw2Ideal := hDw2Ideal)
    ∧ quiescent_Dw2RefIdeal (hDw2RefIdeal := hDw2RefIdeal)
    ∧ quiescent_InB (hInB := hInB)
    ∧ quiescent_InBIdeal (hInBIdeal := hInBIdeal)
    ∧ quiescent_InBRefIdeal (hInBRefIdeal := hInBRefIdeal)
    ∧ quiescent_DhB (hDhB := hDhB)
    ∧ quiescent_DhBIdeal (hDhBIdeal := hDhBIdeal)
    ∧ quiescent_DhBRefIdeal (hDhBRefIdeal := hDhBRefIdeal)
    ∧ quiescent_DwB (hDwB := hDwB)
    ∧ quiescent_DwBIdeal (hDwBIdeal := hDwBIdeal)
    ∧ quiescent_DwBRefIdeal (hDwBRefIdeal := hDwBRefIdeal)
    ∧ quiescent_InG (hInG := hInG)
    ∧ quiescent_InGIdeal (hInGIdeal := hInGIdeal)
    ∧ quiescent_InGRefIdeal (hInGRefIdeal := hInGRefIdeal)
    ∧ quiescent_DhG (hDhG := hDhG)
    ∧ quiescent_DhGIdeal (hDhGIdeal := hDhGIdeal)
    ∧ quiescent_DhGRefIdeal (hDhGRefIdeal := hDhGRefIdeal)
    ∧ quiescent_DwG (hDwG := hDwG)
    ∧ quiescent_DwGIdeal (hDwGIdeal := hDwGIdeal)
    ∧ quiescent_DwGRefIdeal (hDwGRefIdeal := hDwGRefIdeal)
    ∧ quiescent_Out (hOut := hOut)
    ∧ quiescent_OutIdeal (hOutIdeal := hOutIdeal)
    ∧ quiescent_OutRefIdeal (hOutRefIdeal := hOutRefIdeal)
    ∧ quiescent_DwOut (hDwOut := hDwOut)
    ∧ quiescent_DwOutIdeal (hDwOutIdeal := hDwOutIdeal)
    ∧ quiescent_DwOutRefIdeal (hDwOutRefIdeal := hDwOutRefIdeal)
    ∧ quiescent_Merge (hMerge := hMerge)
    ∧ quiescent_MergeIdeal (hMergeIdeal := hMergeIdeal)
    ∧ quiescent_MergeRefIdeal (hMergeRefIdeal := hMergeRefIdeal)
    ∧ quiescent_MergeBwd (hMergeBwd := hMergeBwd)
    ∧ quiescent_MergeBwdIdeal (hMergeBwdIdeal := hMergeBwdIdeal)
    ∧ quiescent_MergeBwdRefIdeal (hMergeBwdRefIdeal := hMergeBwdRefIdeal)
    ∧ quiescent_Cross (hCross := hCross)
    ∧ quiescent_CrossIdeal (hCrossIdeal := hCrossIdeal)
    ∧ quiescent_CrossRefIdeal (hCrossRefIdeal := hCrossRefIdeal)
    ∧ quiescent_Xq (hXq := hXq)
    ∧ quiescent_XqIdeal (hXqIdeal := hXqIdeal)
    ∧ quiescent_XqRefIdeal (hXqRefIdeal := hXqRefIdeal)
    ∧ quiescent_Dox (hDox := hDox)
    ∧ quiescent_DoxIdeal (hDoxIdeal := hDoxIdeal)
    ∧ quiescent_DoxRefIdeal (hDoxRefIdeal := hDoxRefIdeal)
    ∧ quiescent_Dmerged (hDmerged := hDmerged)
    ∧ quiescent_DmergedIdeal (hDmergedIdeal := hDmergedIdeal)
    ∧ quiescent_DmergedRefIdeal (hDmergedRefIdeal := hDmergedRefIdeal)
    ∧ quiescent_Dh1 (hDh1 := hDh1)
    ∧ quiescent_Dh1Ideal (hDh1Ideal := hDh1Ideal)
    ∧ quiescent_Dh1RefIdeal (hDh1RefIdeal := hDh1RefIdeal)
    ∧ quiescent_DyA (hDyA := hDyA)
    ∧ quiescent_DyAIdeal (hDyAIdeal := hDyAIdeal)
    ∧ quiescent_DyARefIdeal (hDyARefIdeal := hDyARefIdeal)
    ∧ quiescent_DyB (hDyB := hDyB)
    ∧ quiescent_DyBIdeal (hDyBIdeal := hDyBIdeal)
    ∧ quiescent_DyBRefIdeal (hDyBRefIdeal := hDyBRefIdeal)
    ∧ quiescent_DwBrA (hDwBrA := hDwBrA)
    ∧ quiescent_DwBrAIdeal (hDwBrAIdeal := hDwBrAIdeal)
    ∧ quiescent_DwBrARefIdeal (hDwBrARefIdeal := hDwBrARefIdeal)
    ∧ quiescent_DwBrB (hDwBrB := hDwBrB)
    ∧ quiescent_DwBrBIdeal (hDwBrBIdeal := hDwBrBIdeal)
    ∧ quiescent_DwBrBRefIdeal (hDwBrBRefIdeal := hDwBrBRefIdeal)
    ∧ quiescent_InC (hInC := hInC)
    ∧ quiescent_InCIdeal (hInCIdeal := hInCIdeal)
    ∧ quiescent_InCRefIdeal (hInCRefIdeal := hInCRefIdeal)
    ∧ quiescent_DhC (hDhC := hDhC)
    ∧ quiescent_DhCIdeal (hDhCIdeal := hDhCIdeal)
    ∧ quiescent_DhCRefIdeal (hDhCRefIdeal := hDhCRefIdeal)
    ∧ quiescent_DwC (hDwC := hDwC)
    ∧ quiescent_DwCIdeal (hDwCIdeal := hDwCIdeal)
    ∧ quiescent_DwCRefIdeal (hDwCRefIdeal := hDwCRefIdeal)
    ∧ quiescent_Rms (hRms := hRms)
    ∧ quiescent_RmsIdeal (hRmsIdeal := hRmsIdeal)
    ∧ quiescent_RmsRefIdeal (hRmsRefIdeal := hRmsRefIdeal)
    ∧ quiescent_RmsMem (hRmsMem := hRmsMem)
    ∧ quiescent_RmsMemIdeal (hRmsMemIdeal := hRmsMemIdeal)
    ∧ quiescent_RmsMemRefIdeal (hRmsMemRefIdeal := hRmsMemRefIdeal)
    ∧ quiescent_RmsCq (hRmsCq := hRmsCq)
    ∧ quiescent_RmsCqIdeal (hRmsCqIdeal := hRmsCqIdeal)
    ∧ quiescent_RmsCqRefIdeal (hRmsCqRefIdeal := hRmsCqRefIdeal)
    ∧ quiescent_RmsCkv (hRmsCkv := hRmsCkv)
    ∧ quiescent_RmsCkvIdeal (hRmsCkvIdeal := hRmsCkvIdeal)
    ∧ quiescent_RmsCkvRefIdeal (hRmsCkvRefIdeal := hRmsCkvRefIdeal)
    ∧ quiescent_Xkv (hXkv := hXkv)
    ∧ quiescent_XkvIdeal (hXkvIdeal := hXkvIdeal)
    ∧ quiescent_XkvRefIdeal (hXkvRefIdeal := hXkvRefIdeal)
    ∧ quiescent_Dmemn (hDmemn := hDmemn)
    ∧ quiescent_DmemnIdeal (hDmemnIdeal := hDmemnIdeal)
    ∧ quiescent_DmemnRefIdeal (hDmemnRefIdeal := hDmemnRefIdeal)
    ∧ quiescent_Dwkv (hDwkv := hDwkv)
    ∧ quiescent_DwkvIdeal (hDwkvIdeal := hDwkvIdeal)
    ∧ quiescent_DwkvRefIdeal (hDwkvRefIdeal := hDwkvRefIdeal)
    ∧ quiescent_InA (hInA := hInA)
    ∧ quiescent_InAIdeal (hInAIdeal := hInAIdeal)
    ∧ quiescent_InARefIdeal (hInARefIdeal := hInARefIdeal)
    ∧ quiescent_Ukv (hUkv := hUkv)
    ∧ quiescent_UkvIdeal (hUkvIdeal := hUkvIdeal)
    ∧ quiescent_UkvRefIdeal (hUkvRefIdeal := hUkvRefIdeal)
    ∧ quiescent_DhCq (hDhCq := hDhCq)
    ∧ quiescent_DhCqIdeal (hDhCqIdeal := hDhCqIdeal)
    ∧ quiescent_DhCqRefIdeal (hDhCqRefIdeal := hDhCqRefIdeal)
    ∧ quiescent_DhCkv (hDhCkv := hDhCkv)
    ∧ quiescent_DhCkvIdeal (hDhCkvIdeal := hDhCkvIdeal)
    ∧ quiescent_DhCkvRefIdeal (hDhCkvRefIdeal := hDhCkvRefIdeal)
    ∧ quiescent_DwCq (hDwCq := hDwCq)
    ∧ quiescent_DwCqIdeal (hDwCqIdeal := hDwCqIdeal)
    ∧ quiescent_DwCqRefIdeal (hDwCqRefIdeal := hDwCqRefIdeal)
    ∧ quiescent_DwCkv (hDwCkv := hDwCkv)
    ∧ quiescent_DwCkvIdeal (hDwCkvIdeal := hDwCkvIdeal)
    ∧ quiescent_DwCkvRefIdeal (hDwCkvRefIdeal := hDwCkvRefIdeal)
    ∧ quiescent_Dcqn (hDcqn := hDcqn)
    ∧ quiescent_DcqnIdeal (hDcqnIdeal := hDcqnIdeal)
    ∧ quiescent_DcqnRefIdeal (hDcqnRefIdeal := hDcqnRefIdeal)
    ∧ quiescent_Dwq2 (hDwq2 := hDwq2)
    ∧ quiescent_Dwq2Ideal (hDwq2Ideal := hDwq2Ideal)
    ∧ quiescent_Dwq2RefIdeal (hDwq2RefIdeal := hDwq2RefIdeal)
    ∧ quiescent_DckvnK (hDckvnK := hDckvnK)
    ∧ quiescent_DckvnKIdeal (hDckvnKIdeal := hDckvnKIdeal)
    ∧ quiescent_DckvnKRefIdeal (hDckvnKRefIdeal := hDckvnKRefIdeal)
    ∧ quiescent_DckvnV (hDckvnV := hDckvnV)
    ∧ quiescent_DckvnVIdeal (hDckvnVIdeal := hDckvnVIdeal)
    ∧ quiescent_DckvnVRefIdeal (hDckvnVRefIdeal := hDckvnVRefIdeal)
    ∧ quiescent_DhKr (hDhKr := hDhKr)
    ∧ quiescent_DhKrIdeal (hDhKrIdeal := hDhKrIdeal)
    ∧ quiescent_DhKrRefIdeal (hDhKrRefIdeal := hDhKrRefIdeal)
    ∧ quiescent_Dwkn (hDwkn := hDwkn)
    ∧ quiescent_DwknIdeal (hDwknIdeal := hDwknIdeal)
    ∧ quiescent_DwknRefIdeal (hDwknRefIdeal := hDwknRefIdeal)
    ∧ quiescent_Dwv (hDwv := hDwv)
    ∧ quiescent_DwvIdeal (hDwvIdeal := hDwvIdeal)
    ∧ quiescent_DwvRefIdeal (hDwvRefIdeal := hDwvRefIdeal)
    ∧ quiescent_DwKr (hDwKr := hDwKr)
    ∧ quiescent_DwKrIdeal (hDwKrIdeal := hDwKrIdeal)
    ∧ quiescent_DwKrRefIdeal (hDwKrRefIdeal := hDwKrRefIdeal)
    ∧ quiescent_Delta (hDelta := hDelta)
    ∧ quiescent_DeltaIdeal (hDeltaIdeal := hDeltaIdeal)
    ∧ quiescent_DeltaRefIdeal (hDeltaRefIdeal := hDeltaRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Fwd_FwdIdeal
    ∧ algebraic_FwdIdeal_FwdRefIdeal_pre_finite_fwd (hFwdIdeal := hFwdIdeal) (hFwdRefIdeal := hFwdRefIdeal) (hPre_finite_fwd := hPre_finite_fwd)
    ∧ preserves_Up_UpIdeal
    ∧ algebraic_UpIdeal_UpRefIdeal (hUpIdeal := hUpIdeal) (hUpRefIdeal := hUpRefIdeal)
    ∧ preserves_Dh_DhIdeal
    ∧ algebraic_DhIdeal_DhRefIdeal_pre_finite_dh (hDhIdeal := hDhIdeal) (hDhRefIdeal := hDhRefIdeal) (hPre_finite_dh := hPre_finite_dh)
    ∧ preserves_Dw_DwIdeal
    ∧ algebraic_DwIdeal_DwRefIdeal (hDwIdeal := hDwIdeal) (hDwRefIdeal := hDwRefIdeal)
    ∧ preserves_Down_DownIdeal
    ∧ algebraic_DownIdeal_DownRefIdeal (hDownIdeal := hDownIdeal) (hDownRefIdeal := hDownRefIdeal)
    ∧ preserves_Dw2_Dw2Ideal
    ∧ algebraic_Dw2Ideal_Dw2RefIdeal (hDw2Ideal := hDw2Ideal) (hDw2RefIdeal := hDw2RefIdeal)
    ∧ preserves_InB_InBIdeal
    ∧ algebraic_InBIdeal_InBRefIdeal (hInBIdeal := hInBIdeal) (hInBRefIdeal := hInBRefIdeal)
    ∧ preserves_DhB_DhBIdeal
    ∧ algebraic_DhBIdeal_DhBRefIdeal (hDhBIdeal := hDhBIdeal) (hDhBRefIdeal := hDhBRefIdeal)
    ∧ preserves_DwB_DwBIdeal
    ∧ algebraic_DwBIdeal_DwBRefIdeal (hDwBIdeal := hDwBIdeal) (hDwBRefIdeal := hDwBRefIdeal)
    ∧ preserves_InG_InGIdeal
    ∧ algebraic_InGIdeal_InGRefIdeal (hInGIdeal := hInGIdeal) (hInGRefIdeal := hInGRefIdeal)
    ∧ preserves_DhG_DhGIdeal
    ∧ algebraic_DhGIdeal_DhGRefIdeal (hDhGIdeal := hDhGIdeal) (hDhGRefIdeal := hDhGRefIdeal)
    ∧ preserves_DwG_DwGIdeal
    ∧ algebraic_DwGIdeal_DwGRefIdeal (hDwGIdeal := hDwGIdeal) (hDwGRefIdeal := hDwGRefIdeal)
    ∧ preserves_Out_OutIdeal
    ∧ algebraic_OutIdeal_OutRefIdeal (hOutIdeal := hOutIdeal) (hOutRefIdeal := hOutRefIdeal)
    ∧ preserves_DwOut_DwOutIdeal
    ∧ algebraic_DwOutIdeal_DwOutRefIdeal (hDwOutIdeal := hDwOutIdeal) (hDwOutRefIdeal := hDwOutRefIdeal)
    ∧ preserves_Merge_MergeIdeal
    ∧ algebraic_MergeIdeal_MergeRefIdeal (hMergeIdeal := hMergeIdeal) (hMergeRefIdeal := hMergeRefIdeal)
    ∧ preserves_MergeBwd_MergeBwdIdeal
    ∧ algebraic_MergeBwdIdeal_MergeBwdRefIdeal (hMergeBwdIdeal := hMergeBwdIdeal) (hMergeBwdRefIdeal := hMergeBwdRefIdeal)
    ∧ preserves_Cross_CrossIdeal
    ∧ algebraic_CrossIdeal_CrossRefIdeal (hCrossIdeal := hCrossIdeal) (hCrossRefIdeal := hCrossRefIdeal)
    ∧ preserves_Xq_XqIdeal
    ∧ algebraic_XqIdeal_XqRefIdeal (hXqIdeal := hXqIdeal) (hXqRefIdeal := hXqRefIdeal)
    ∧ preserves_Dox_DoxIdeal
    ∧ algebraic_DoxIdeal_DoxRefIdeal (hDoxIdeal := hDoxIdeal) (hDoxRefIdeal := hDoxRefIdeal)
    ∧ preserves_Dmerged_DmergedIdeal
    ∧ algebraic_DmergedIdeal_DmergedRefIdeal (hDmergedIdeal := hDmergedIdeal) (hDmergedRefIdeal := hDmergedRefIdeal)
    ∧ preserves_Dh1_Dh1Ideal
    ∧ algebraic_Dh1Ideal_Dh1RefIdeal (hDh1Ideal := hDh1Ideal) (hDh1RefIdeal := hDh1RefIdeal)
    ∧ preserves_DyA_DyAIdeal
    ∧ algebraic_DyAIdeal_DyARefIdeal (hDyAIdeal := hDyAIdeal) (hDyARefIdeal := hDyARefIdeal)
    ∧ preserves_DyB_DyBIdeal
    ∧ algebraic_DyBIdeal_DyBRefIdeal (hDyBIdeal := hDyBIdeal) (hDyBRefIdeal := hDyBRefIdeal)
    ∧ preserves_DwBrA_DwBrAIdeal
    ∧ algebraic_DwBrAIdeal_DwBrARefIdeal (hDwBrAIdeal := hDwBrAIdeal) (hDwBrARefIdeal := hDwBrARefIdeal)
    ∧ preserves_DwBrB_DwBrBIdeal
    ∧ algebraic_DwBrBIdeal_DwBrBRefIdeal (hDwBrBIdeal := hDwBrBIdeal) (hDwBrBRefIdeal := hDwBrBRefIdeal)
    ∧ preserves_InC_InCIdeal
    ∧ algebraic_InCIdeal_InCRefIdeal (hInCIdeal := hInCIdeal) (hInCRefIdeal := hInCRefIdeal)
    ∧ preserves_DhC_DhCIdeal
    ∧ algebraic_DhCIdeal_DhCRefIdeal (hDhCIdeal := hDhCIdeal) (hDhCRefIdeal := hDhCRefIdeal)
    ∧ preserves_DwC_DwCIdeal
    ∧ algebraic_DwCIdeal_DwCRefIdeal (hDwCIdeal := hDwCIdeal) (hDwCRefIdeal := hDwCRefIdeal)
    ∧ preserves_Rms_RmsIdeal
    ∧ algebraic_RmsIdeal_RmsRefIdeal (hRmsIdeal := hRmsIdeal) (hRmsRefIdeal := hRmsRefIdeal)
    ∧ preserves_RmsMem_RmsMemIdeal
    ∧ algebraic_RmsMemIdeal_RmsMemRefIdeal (hRmsMemIdeal := hRmsMemIdeal) (hRmsMemRefIdeal := hRmsMemRefIdeal)
    ∧ preserves_RmsCq_RmsCqIdeal
    ∧ algebraic_RmsCqIdeal_RmsCqRefIdeal (hRmsCqIdeal := hRmsCqIdeal) (hRmsCqRefIdeal := hRmsCqRefIdeal)
    ∧ preserves_RmsCkv_RmsCkvIdeal
    ∧ algebraic_RmsCkvIdeal_RmsCkvRefIdeal (hRmsCkvIdeal := hRmsCkvIdeal) (hRmsCkvRefIdeal := hRmsCkvRefIdeal)
    ∧ preserves_Xkv_XkvIdeal
    ∧ algebraic_XkvIdeal_XkvRefIdeal (hXkvIdeal := hXkvIdeal) (hXkvRefIdeal := hXkvRefIdeal)
    ∧ preserves_Dmemn_DmemnIdeal
    ∧ algebraic_DmemnIdeal_DmemnRefIdeal (hDmemnIdeal := hDmemnIdeal) (hDmemnRefIdeal := hDmemnRefIdeal)
    ∧ preserves_Dwkv_DwkvIdeal
    ∧ algebraic_DwkvIdeal_DwkvRefIdeal (hDwkvIdeal := hDwkvIdeal) (hDwkvRefIdeal := hDwkvRefIdeal)
    ∧ preserves_InA_InAIdeal
    ∧ algebraic_InAIdeal_InARefIdeal (hInAIdeal := hInAIdeal) (hInARefIdeal := hInARefIdeal)
    ∧ preserves_Ukv_UkvIdeal
    ∧ algebraic_UkvIdeal_UkvRefIdeal (hUkvIdeal := hUkvIdeal) (hUkvRefIdeal := hUkvRefIdeal)
    ∧ preserves_DhCq_DhCqIdeal
    ∧ algebraic_DhCqIdeal_DhCqRefIdeal (hDhCqIdeal := hDhCqIdeal) (hDhCqRefIdeal := hDhCqRefIdeal)
    ∧ preserves_DhCkv_DhCkvIdeal
    ∧ algebraic_DhCkvIdeal_DhCkvRefIdeal (hDhCkvIdeal := hDhCkvIdeal) (hDhCkvRefIdeal := hDhCkvRefIdeal)
    ∧ preserves_DwCq_DwCqIdeal
    ∧ algebraic_DwCqIdeal_DwCqRefIdeal (hDwCqIdeal := hDwCqIdeal) (hDwCqRefIdeal := hDwCqRefIdeal)
    ∧ preserves_DwCkv_DwCkvIdeal
    ∧ algebraic_DwCkvIdeal_DwCkvRefIdeal (hDwCkvIdeal := hDwCkvIdeal) (hDwCkvRefIdeal := hDwCkvRefIdeal)
    ∧ preserves_Dcqn_DcqnIdeal
    ∧ algebraic_DcqnIdeal_DcqnRefIdeal (hDcqnIdeal := hDcqnIdeal) (hDcqnRefIdeal := hDcqnRefIdeal)
    ∧ preserves_Dwq2_Dwq2Ideal
    ∧ algebraic_Dwq2Ideal_Dwq2RefIdeal (hDwq2Ideal := hDwq2Ideal) (hDwq2RefIdeal := hDwq2RefIdeal)
    ∧ preserves_DckvnK_DckvnKIdeal
    ∧ algebraic_DckvnKIdeal_DckvnKRefIdeal (hDckvnKIdeal := hDckvnKIdeal) (hDckvnKRefIdeal := hDckvnKRefIdeal)
    ∧ preserves_DckvnV_DckvnVIdeal
    ∧ algebraic_DckvnVIdeal_DckvnVRefIdeal (hDckvnVIdeal := hDckvnVIdeal) (hDckvnVRefIdeal := hDckvnVRefIdeal)
    ∧ preserves_DhKr_DhKrIdeal
    ∧ algebraic_DhKrIdeal_DhKrRefIdeal (hDhKrIdeal := hDhKrIdeal) (hDhKrRefIdeal := hDhKrRefIdeal)
    ∧ preserves_Dwkn_DwknIdeal
    ∧ algebraic_DwknIdeal_DwknRefIdeal (hDwknIdeal := hDwknIdeal) (hDwknRefIdeal := hDwknRefIdeal)
    ∧ preserves_Dwv_DwvIdeal
    ∧ algebraic_DwvIdeal_DwvRefIdeal (hDwvIdeal := hDwvIdeal) (hDwvRefIdeal := hDwvRefIdeal)
    ∧ preserves_DwKr_DwKrIdeal
    ∧ algebraic_DwKrIdeal_DwKrRefIdeal (hDwKrIdeal := hDwKrIdeal) (hDwKrRefIdeal := hDwKrRefIdeal)
    ∧ preserves_Delta_DeltaIdeal
    ∧ algebraic_DeltaIdeal_DeltaRefIdeal (hDeltaIdeal := hDeltaIdeal) (hDeltaRefIdeal := hDeltaRefIdeal)
-- ==== Pre_finite.lean ====
abbrev S16384x8x96 : Shape := ⟨3, ![16384, 8, 96]⟩
abbrev S16384x8x64 : Shape := ⟨3, ![16384, 8, 64]⟩
abbrev S_ : Shape := ⟨0, ![]⟩

class Facts : Prop where
  bcast_S_S16384x8x96 : S_.BroadcastsInDim S16384x8x96 (![] : Fin 0 → Fin S16384x8x96.rank)
  reducesTo_S16384x8x96_S_d0_1_2 : S16384x8x96.ReducesTo [0, 1, 2] S_
  h_S_ : 0 < S_.numel
  bcast_S_S16384x8x64 : S_.BroadcastsInDim S16384x8x64 (![] : Fin 0 → Fin S16384x8x64.rank)
  reducesTo_S16384x8x64_S_d0_1_2 : S16384x8x64.ReducesTo [0, 1, 2] S_

variable [Facts]

def fn_part1 {F : FTy → Type} [FloatOps F] (main_v13 : IVec S_ 1) (main_v16 : IVec S16384x8x64 1) : IVec S_ 1 :=
  let main_c_5 : IVec S_ 1 := constantI S_ 1 1#1
  let main_v17 : IVec S_ 1 := (fun x v => Host.reduce IntOp.andi x v reducesTo_S16384x8x64_S_d0_1_2 h_S_) main_v16 main_c_5
  let main_v18 : IVec S_ 1 := andi main_v13 main_v17
  main_v18

def fn {F : FTy → Type} [FloatOps F] (main_arg0 : FVec F S16384x8x96 .f32) (main_arg1 : FVec F S16384x8x96 .f32) (main_arg2 : FVec F S16384x8x64 .f32) (main_arg3 : FVec F S16384x8x64 .f32) : IVec S_ 1 :=
  let main_v0 : FVec F S16384x8x96 .f32 := Host.absf main_arg0
  let main_cst : FVec F S_ .f32 := constant S_ .f32 0x7F800000#32
  let main_v1 : FVec F S16384x8x96 .f32 := broadcastInDim S16384x8x96 ![] bcast_S_S16384x8x96 main_cst
  let main_v2 : IVec S16384x8x96 1 := cmpf .olt main_v0 main_v1
  let main_c : IVec S_ 1 := constantI S_ 1 1#1
  let main_v3 : IVec S_ 1 := (fun x v => Host.reduce IntOp.andi x v reducesTo_S16384x8x96_S_d0_1_2 h_S_) main_v2 main_c
  let main_v4 : FVec F S16384x8x96 .f32 := Host.absf main_arg1
  let main_cst_0 : FVec F S_ .f32 := constant S_ .f32 0x7F800000#32
  let main_v5 : FVec F S16384x8x96 .f32 := broadcastInDim S16384x8x96 ![] bcast_S_S16384x8x96 main_cst_0
  let main_v6 : IVec S16384x8x96 1 := cmpf .olt main_v4 main_v5
  let main_c_1 : IVec S_ 1 := constantI S_ 1 1#1
  let main_v7 : IVec S_ 1 := (fun x v => Host.reduce IntOp.andi x v reducesTo_S16384x8x96_S_d0_1_2 h_S_) main_v6 main_c_1
  let main_v8 : IVec S_ 1 := andi main_v3 main_v7
  let main_v9 : FVec F S16384x8x64 .f32 := Host.absf main_arg2
  let main_cst_2 : FVec F S_ .f32 := constant S_ .f32 0x7F800000#32
  let main_v10 : FVec F S16384x8x64 .f32 := broadcastInDim S16384x8x64 ![] bcast_S_S16384x8x64 main_cst_2
  let main_v11 : IVec S16384x8x64 1 := cmpf .olt main_v9 main_v10
  let main_c_3 : IVec S_ 1 := constantI S_ 1 1#1
  let main_v12 : IVec S_ 1 := (fun x v => Host.reduce IntOp.andi x v reducesTo_S16384x8x64_S_d0_1_2 h_S_) main_v11 main_c_3
  let main_v13 : IVec S_ 1 := andi main_v8 main_v12
  let main_v14 : FVec F S16384x8x64 .f32 := Host.absf main_arg3
  let main_cst_4 : FVec F S_ .f32 := constant S_ .f32 0x7F800000#32
  let main_v15 : FVec F S16384x8x64 .f32 := broadcastInDim S16384x8x64 ![] bcast_S_S16384x8x64 main_cst_4
  let main_v16 : IVec S16384x8x64 1 := cmpf .olt main_v14 main_v15
  fn_part1 (F := F) main_v13 main_v16
-- ==== Pre_finite_dh.lean ====
abbrev S16384x1024 : Shape := ⟨2, ![16384, 1024]⟩
abbrev S1024x2816 : Shape := ⟨2, ![1024, 2816]⟩
abbrev S2816x1024 : Shape := ⟨2, ![2816, 1024]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S1024x2816 : S_.BroadcastsInDim S1024x2816 (![] : Fin 0 → Fin S1024x2816.rank)
  reducesTo_S1024x2816_S_d0_1 : S1024x2816.ReducesTo [0, 1] S_
  bcast_S_S2816x1024 : S_.BroadcastsInDim S2816x1024 (![] : Fin 0 → Fin S2816x1024.rank)
  reducesTo_S2816x1024_S_d0_1 : S2816x1024.ReducesTo [0, 1] S_

variable [Facts]

def fn_part1 {F : FTy → Type} [FloatOps F] (main_v13 : IVec S_ 1) (main_v16 : IVec S16384x1024 1) : IVec S_ 1 :=
  let main_c_5 : IVec S_ 1 := constantI S_ 1 1#1
  let main_v17 : IVec S_ 1 := (fun x v => Host.reduce IntOp.andi x v reducesTo_S16384x1024_S_d0_1 h_S_) main_v16 main_c_5
  let main_v18 : IVec S_ 1 := andi main_v13 main_v17
  main_v18

def fn {F : FTy → Type} [FloatOps F] (main_arg0 : FVec F S16384x1024 .f32) (main_arg1 : FVec F S1024x2816 .f32) (main_arg2 : FVec F S1024x2816 .f32) (main_arg3 : FVec F S2816x1024 .f32) (main_arg4 : FVec F S16384x1024 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S1024x2816 .f32 := Host.absf main_arg2
  let main_cst_0 : FVec F S_ .f32 := constant S_ .f32 0x7F800000#32
  let main_v5 : FVec F S1024x2816 .f32 := broadcastInDim S1024x2816 ![] bcast_S_S1024x2816 main_cst_0
  let main_v6 : IVec S1024x2816 1 := cmpf .olt main_v4 main_v5
  let main_c_1 : IVec S_ 1 := constantI S_ 1 1#1
  let main_v7 : IVec S_ 1 := (fun x v => Host.reduce IntOp.andi x v reducesTo_S1024x2816_S_d0_1 h_S_) main_v6 main_c_1
  let main_v8 : IVec S_ 1 := andi main_v3 main_v7
  let main_v9 : FVec F S2816x1024 .f32 := Host.absf main_arg3
  let main_cst_2 : FVec F S_ .f32 := constant S_ .f32 0x7F800000#32
  let main_v10 : FVec F S2816x1024 .f32 := broadcastInDim S2816x1024 ![] bcast_S_S2816x1024 main_cst_2
  let main_v11 : IVec S2816x1024 1 := cmpf .olt main_v9 main_v10
  let main_c_3 : IVec S_ 1 := constantI S_ 1 1#1
  let main_v12 : IVec S_ 1 := (fun x v => Host.reduce IntOp.andi x v reducesTo_S2816x1024_S_d0_1 h_S_) main_v11 main_c_3
  let main_v13 : IVec S_ 1 := andi main_v8 main_v12
  let main_v14 : FVec F S16384x1024 .f32 := Host.absf main_arg4
  let main_cst_4 : FVec F S_ .f32 := constant S_ .f32 0x7F800000#32
  let main_v15 : FVec F S16384x1024 .f32 := broadcastInDim S16384x1024 ![] bcast_S_S16384x1024 main_cst_4
  let main_v16 : IVec S16384x1024 1 := cmpf .olt main_v14 main_v15
  fn_part1 (F := F) main_v13 main_v16
-- ==== Pre_finite_fwd.lean ====
abbrev S16384x8x96 : Shape := ⟨3, ![16384, 8, 96]⟩
abbrev S16384x8x64 : Shape := ⟨3, ![16384, 8, 64]⟩
abbrev S_ : Shape := ⟨0, ![]⟩

class Facts : Prop where
  bcast_S_S16384x8x96 : S_.BroadcastsInDim S16384x8x96 (![] : Fin 0 → Fin S16384x8x96.rank)
  reducesTo_S16384x8x96_S_d0_1_2 : S16384x8x96.ReducesTo [0, 1, 2] S_
  h_S_ : 0 < S_.numel
  bcast_S_S16384x8x64 : S_.BroadcastsInDim S16384x8x64 (![] : Fin 0 → Fin S16384x8x64.rank)
  reducesTo_S16384x8x64_S_d0_1_2 : S16384x8x64.ReducesTo [0, 1, 2] S_

variable [Facts]

def fn {F : FTy → Type} [FloatOps F] (main_arg0 : FVec F S16384x8x96 .f32) (main_arg1 : FVec F S16384x8x96 .f32) (main_arg2 : FVec F S16384x8x64 .f32) : IVec S_ 1 :=
  let main_v0 : FVec F S16384x8x96 .f32 := Host.absf main_arg0
  let main_cst : FVec F S_ .f32 := constant S_ .f32 0x7F800000#32
  let main_v1 : FVec F S16384x8x96 .f32 := broadcastInDim S16384x8x96 ![] bcast_S_S16384x8x96 main_cst
  let main_v2 : IVec S16384x8x96 1 := cmpf .olt main_v0 main_v1
  let main_c : IVec S_ 1 := constantI S_ 1 1#1
  let main_v3 : IVec S_ 1 := (fun x v => Host.reduce IntOp.andi x v reducesTo_S16384x8x96_S_d0_1_2 h_S_) main_v2 main_c
  let main_v4 : FVec F S16384x8x96 .f32 := Host.absf main_arg1
  let main_cst_0 : FVec F S_ .f32 := constant S_ .f32 0x7F800000#32
  let main_v5 : FVec F S16384x8x96 .f32 := broadcastInDim S16384x8x96 ![] bcast_S_S16384x8x96 main_cst_0
  let main_v6 : IVec S16384x8x96 1 := cmpf .olt main_v4 main_v5
  let main_c_1 : IVec S_ 1 := constantI S_ 1 1#1
  let main_v7 : IVec S_ 1 := (fun x v => Host.reduce IntOp.andi x v reducesTo_S16384x8x96_S_d0_1_2 h_S_) main_v6 main_c_1
  let main_v8 : IVec S_ 1 := andi main_v3 main_v7
  let main_v9 : FVec F S16384x8x64 .f32 := Host.absf main_arg2
  let main_cst_2 : FVec F S_ .f32 := constant S_ .f32 0x7F800000#32
  let main_v10 : FVec F S16384x8x64 .f32 := broadcastInDim S16384x8x64 ![] bcast_S_S16384x8x64 main_cst_2
  let main_v11 : IVec S16384x8x64 1 := cmpf .olt main_v9 main_v10
  let main_c_3 : IVec S_ 1 := constantI S_ 1 1#1
  let main_v12 : IVec S_ 1 := (fun x v => Host.reduce IntOp.andi x v reducesTo_S16384x8x64_S_d0_1_2 h_S_) main_v11 main_c_3
  let main_v13 : IVec S_ 1 := andi main_v8 main_v12
  main_v13
-- ==== Kernel.lean ====
abbrev S16384x8x96 : Shape := ⟨3, ![16384, 8, 96]⟩
abbrev S16384x8x64 : Shape := ⟨3, ![16384, 8, 64]⟩
abbrev S_ : Shape := ⟨0, ![]⟩
abbrev S8x16384x16384 : Shape := ⟨3, ![8, 16384, 16384]⟩
abbrev S8x16384 : Shape := ⟨2, ![8, 16384]⟩
abbrev S8x16384x1 : Shape := ⟨3, ![8, 16384, 1]⟩
abbrev S8x64x16384 : Shape := ⟨3, ![8, 64, 16384]⟩
abbrev S16384x8 : Shape := ⟨2, ![16384, 8]⟩
abbrev S16384x8x128 : Shape := ⟨3, ![16384, 8, 128]⟩
abbrev S16384x1024 : Shape := ⟨2, ![16384, 1024]⟩
abbrev S16384x512 : Shape := ⟨2, ![16384, 512]⟩
abbrev S1024x16384 : Shape := ⟨2, ![1024, 16384]⟩
abbrev S512x16384 : Shape := ⟨2, ![512, 16384]⟩
abbrev S16x16384x1024 : Shape := ⟨3, ![16, 16384, 1024]⟩
abbrev S1024x1024 : Shape := ⟨2, ![1024, 1024]⟩
abbrev S1024x512 : Shape := ⟨2, ![1024, 512]⟩
abbrev S512x1024 : Shape := ⟨2, ![512, 1024]⟩
abbrev S8x1024x1 : Shape := ⟨3, ![8, 1024, 1]⟩
abbrev S1x1024x1024 : Shape := ⟨3, ![1, 1024, 1024]⟩
abbrev S1024x128 : Shape := ⟨2, ![1024, 128]⟩
abbrev S1024x64 : Shape := ⟨2, ![1024, 64]⟩
abbrev S1x1024x1 : Shape := ⟨3, ![1, 1024, 1]⟩
abbrev S1024x1 : Shape := ⟨2, ![1024, 1]⟩
abbrev S1x1024x128 : Shape := ⟨3, ![1, 1024, 128]⟩
abbrev S128x1024 : Shape := ⟨2, ![128, 1024]⟩
abbrev S64x1024 : Shape := ⟨2, ![64, 1024]⟩

abbrev nBuf : Space → Nat
  | .hbm => 57
  | .vmem => 20
  | .smem => 0
  | _ => 0

abbrev bufTy : (tb : Table) → Fin (tcTables nBuf tb) → BufTy
  | .hbm, ⟨0, _⟩ => ⟨S16384x8x96, .f32⟩
  | .hbm, ⟨1, _⟩ => ⟨S16384x8x96, .f32⟩
  | .hbm, ⟨2, _⟩ => ⟨S16384x8x64, .f32⟩
  | .hbm, ⟨3, _⟩ => ⟨S16384x8x64, .f32⟩
  | .hbm, ⟨4, _⟩ => ⟨S_, .f32⟩
  | .hbm, ⟨5, _⟩ => ⟨S_, .f32⟩
  | .hbm, ⟨6, _⟩ => ⟨S16384x8x96, .f32⟩
  | .hbm, ⟨7, _⟩ => ⟨S16384x8x96, .f32⟩
  | .hbm, ⟨8, _⟩ => ⟨S_, .f32⟩
  | .hbm, ⟨9, _⟩ => ⟨S_, .f32⟩
  | .hbm, ⟨10, _⟩ => ⟨S8x16384x16384, .f32⟩
  | .hbm, ⟨11, _⟩ => ⟨S_, .f32⟩
  | .hbm, ⟨12, _⟩ => ⟨S8x16384, .f32⟩
  | .hbm, ⟨13, _⟩ => ⟨S8x16384x1, .f32⟩
  | .hbm, ⟨14, _⟩ => ⟨S8x16384x16384, .f32⟩
  | .hbm, ⟨15, _⟩ => ⟨S8x16384x16384, .f32⟩
  | .hbm, ⟨16, _⟩ => ⟨S8x16384x16384, .f32⟩
  | .hbm, ⟨17, _⟩ => ⟨S_, .f32⟩
  | .hbm, ⟨18, _⟩ => ⟨S8x16384, .f32⟩
  | .hbm, ⟨19, _⟩ => ⟨S8x16384x1, .f32⟩
  | .hbm, ⟨20, _⟩ => ⟨S8x16384x16384, .f32⟩
  | .hbm, ⟨21, _⟩ => ⟨S8x16384x16384, .f32⟩
  | .hbm, ⟨22, _⟩ => ⟨S8x64x16384, .f32⟩
  | .hbm, ⟨23, _⟩ => ⟨S16384x8x64, .f32⟩
  | .hbm, ⟨24, _⟩ => ⟨S8x16384x1, .f32⟩
  | .hbm, ⟨25, _⟩ => ⟨S8x16384x1, .f32⟩
  | .hbm, ⟨26, _⟩ => ⟨S8x16384x1, .f32⟩
  | .hbm, ⟨27, _⟩ => ⟨S8x16384x1, .f32⟩
  | .hbm, ⟨28, _⟩ => ⟨S16384x8x64, .f32⟩
  | .hbm, ⟨29, _⟩ => ⟨S_, .f32⟩
  | .hbm, ⟨30, _⟩ => ⟨S16384x8, .f32⟩
  | .hbm, ⟨31, _⟩ => ⟨S8x16384, .f32⟩
  | .hbm, ⟨32, _⟩ => ⟨S8x16384x1, .f32⟩
  | .hbm, ⟨33, _⟩ => ⟨S16384x8x96, .f32⟩
  | .hbm, ⟨34, _⟩ => ⟨S16384x8x96, .f32⟩
  | .hbm, ⟨35, _⟩ => ⟨S_, .i32⟩
  | .hbm, ⟨36, _⟩ => ⟨S_, .f32⟩
  | .hbm, ⟨37, _⟩ => ⟨S16384x8x128, .f32⟩
  | .hbm, ⟨38, _⟩ => ⟨S16384x1024, .f32⟩
  | .hbm, ⟨39, _⟩ => ⟨S16384x1024, .bf16⟩
  | .hbm, ⟨40, _⟩ => ⟨S_, .i32⟩
  | .hbm, ⟨41, _⟩ => ⟨S_, .f32⟩
  | .hbm, ⟨42, _⟩ => ⟨S16384x8x128, .f32⟩
  | .hbm, ⟨43, _⟩ => ⟨S16384x1024, .f32⟩
  | .hbm, ⟨44, _⟩ => ⟨S16384x1024, .bf16⟩
  | .hbm, ⟨45, _⟩ => ⟨S16384x8x64, .f32⟩
  | .hbm, ⟨46, _⟩ => ⟨S16384x512, .f32⟩
  | .hbm, ⟨47, _⟩ => ⟨S16384x512, .f32⟩
  | .hbm, ⟨48, _⟩ => ⟨S16384x1024, .f32⟩
  | .hbm, ⟨49, _⟩ => ⟨S16384x1024, .bf16⟩
  | .hbm, ⟨50, _⟩ => ⟨S16384x512, .f32⟩
  | .hbm, ⟨51, _⟩ => ⟨S16384x512, .bf16⟩
  | .hbm, ⟨52, _⟩ => ⟨S1024x16384, .bf16⟩
  | .hbm, ⟨53, _⟩ => ⟨S512x16384, .bf16⟩
  | .hbm, ⟨54, _⟩ => ⟨S16x16384x1024, .bf16⟩
  | .hbm, ⟨55, _⟩ => ⟨S1024x16384, .f32⟩
  | .hbm, ⟨56, _⟩ => ⟨S512x16384, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S512x1024, .bf16⟩
  | .local _ .vmem, ⟨11, _⟩ => ⟨S512x1024, .bf16⟩
  | .local _ .vmem, ⟨12, _⟩ => ⟨S8x1024x1, .f32⟩
  | .local _ .vmem, ⟨13, _⟩ => ⟨S8x1024x1, .f32⟩
  | .local _ .vmem, ⟨14, _⟩ => ⟨S8x1024x1, .f32⟩
  | .local _ .vmem, ⟨15, _⟩ => ⟨S8x1024x1, .f32⟩
  | .local _ .vmem, ⟨16, _⟩ => ⟨S1x1024x1024, .bf16⟩
  | .local _ .vmem, ⟨17, _⟩ => ⟨S1x1024x1024, .bf16⟩
  | .local _ .vmem, ⟨18, _⟩ => ⟨S1024x1024, .f32⟩
  | .local _ .vmem, ⟨19, _⟩ => ⟨S512x1024, .f32⟩
  | _, _ => ⟨S16384x8x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_3 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_c : Ref sig .tc := ⟨.hbm, 35, rfl⟩
abbrev main_call0_v0 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_c_4 : Ref sig .tc := ⟨.hbm, 40, rfl⟩
abbrev main_call1_v0 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41_0 : Ref sig .tc := ⟨.hbm, 54, rfl⟩
abbrev main_v41_1 : Ref sig .tc := ⟨.hbm, 55, rfl⟩
abbrev main_v41_2 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19

abbrev nD : Nat := 1
abbrev τ : Topo := Topo.v7x

variable {F : FTy → Type} [FloatOps F]

abbrev grid0 : Pipeline.Grid := ⟨2, ![16, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, c1_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S8x1024x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S8x1024x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x1024x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 1 → Memref sig .tc .vmem S1024x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true, false]

abbrev stage0_10 : Fin 1 → Memref sig .tc .vmem S512x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true, false]
-- ==== KernelIdeal.lean ====
variable {F : FTy → Type} [FloatOps F] [Named F]
def κ : String → Option EReal := fun
  | "ln2" => some ((Real.log 2 : ℝ) : EReal)
  | _ => none
-- ==== ReferenceIdeal.lean ====
abbrev S16384x8x96 : Shape := ⟨3, ![16384, 8, 96]⟩
abbrev S16384x8x64 : Shape := ⟨3, ![16384, 8, 64]⟩
abbrev S_ : Shape := ⟨0, ![]⟩
abbrev S16x16384x8x96 : Shape := ⟨4, ![16, 16384, 8, 96]⟩
abbrev S16x1024x8x96 : Shape := ⟨4, ![16, 1024, 8, 96]⟩
abbrev S8x16x1024x16384 : Shape := ⟨4, ![8, 16, 1024, 16384]⟩
abbrev S8x16384x16x1024 : Shape := ⟨4, ![8, 16384, 16, 1024]⟩
abbrev S8x16384x16384 : Shape := ⟨3, ![8, 16384, 16384]⟩
abbrev S8x16384 : Shape := ⟨2, ![8, 16384]⟩
abbrev S8x16384x1 : Shape := ⟨3, ![8, 16384, 1]⟩
abbrev S8x64x16384 : Shape := ⟨3, ![8, 64, 16384]⟩
abbrev S8x16x16384x96 : Shape := ⟨4, ![8, 16, 16384, 96]⟩
abbrev S8x16x1024x96 : Shape := ⟨4, ![8, 16, 1024, 96]⟩
abbrev S16x16384x8x128 : Shape := ⟨4, ![16, 16384, 8, 128]⟩
abbrev S16x16384x1024 : Shape := ⟨3, ![16, 16384, 1024]⟩
abbrev S16384x8x128 : Shape := ⟨3, ![16384, 8, 128]⟩
abbrev S16384x1024 : Shape := ⟨2, ![16384, 1024]⟩
abbrev S1024x16384 : Shape := ⟨2, ![1024, 16384]⟩
abbrev S16384x512 : Shape := ⟨2, ![16384, 512]⟩
abbrev S512x16384 : Shape := ⟨2, ![512, 16384]⟩

abbrev nBuf : Space → Nat
  | .hbm => 90
  | .vmem => 0
  | .smem => 0
  | _ => 0

abbrev bufTy : (tb : Table) → Fin (tcTables nBuf tb) → BufTy
  | .hbm, ⟨0, _⟩ => ⟨S16384x8x96, .f32⟩
  | .hbm, ⟨1, _⟩ => ⟨S16384x8x96, .f32⟩
  | .hbm, ⟨2, _⟩ => ⟨S16384x8x64, .f32⟩
  | .hbm, ⟨3, _⟩ => ⟨S16384x8x64, .f32⟩
  | .hbm, ⟨4, _⟩ => ⟨S_, .f32⟩
  | .hbm, ⟨5, _⟩ => ⟨S_, .f32⟩
  | .hbm, ⟨6, _⟩ => ⟨S16384x8x96, .f32⟩
  | .hbm, ⟨7, _⟩ => ⟨S16384x8x96, .f32⟩
  | .hbm, ⟨8, _⟩ => ⟨S16x16384x8x96, .f32⟩
  | .hbm, ⟨9, _⟩ => ⟨S16x1024x8x96, .f32⟩
  | .hbm, ⟨10, _⟩ => ⟨S8x16x1024x16384, .f32⟩
  | .hbm, ⟨11, _⟩ => ⟨S8x16384x16x1024, .f32⟩
  | .hbm, ⟨12, _⟩ => ⟨S8x16384x16384, .f32⟩
  | .hbm, ⟨13, _⟩ => ⟨S_, .f32⟩
  | .hbm, ⟨14, _⟩ => ⟨S8x16384, .f32⟩
  | .hbm, ⟨15, _⟩ => ⟨S8x16384x1, .f32⟩
  | .hbm, ⟨16, _⟩ => ⟨S8x16384x16384, .f32⟩
  | .hbm, ⟨17, _⟩ => ⟨S8x16384x16384, .i1⟩
  | .hbm, ⟨18, _⟩ => ⟨S8x16384x16384, .f32⟩
  | .hbm, ⟨19, _⟩ => ⟨S_, .f32⟩
  | .hbm, ⟨20, _⟩ => ⟨S8x16384, .f32⟩
  | .hbm, ⟨21, _⟩ => ⟨S_, .f32⟩
  | .hbm, ⟨22, _⟩ => ⟨S8x16384, .f32⟩
  | .hbm, ⟨23, _⟩ => ⟨S8x16384, .f32⟩
  | .hbm, ⟨24, _⟩ => ⟨S_, .f32⟩
  | .hbm, ⟨25, _⟩ => ⟨S8x16384, .f32⟩
  | .hbm, ⟨26, _⟩ => ⟨S8x16384, .i1⟩
  | .hbm, ⟨27, _⟩ => ⟨S_, .f32⟩
  | .hbm, ⟨28, _⟩ => ⟨S8x16384, .f32⟩
  | .hbm, ⟨29, _⟩ => ⟨S8x16384, .i1⟩
  | .hbm, ⟨30, _⟩ => ⟨S_, .f32⟩
  | .hbm, ⟨31, _⟩ => ⟨S8x16384, .f32⟩
  | .hbm, ⟨32, _⟩ => ⟨S_, .f32⟩
  | .hbm, ⟨33, _⟩ => ⟨S8x16384, .f32⟩
  | .hbm, ⟨34, _⟩ => ⟨S_, .f32⟩
  | .hbm, ⟨35, _⟩ => ⟨S8x16384, .f32⟩
  | .hbm, ⟨36, _⟩ => ⟨S8x16384, .f32⟩
  | .hbm, ⟨37, _⟩ => ⟨S8x16384, .f32⟩
  | .hbm, ⟨38, _⟩ => ⟨S8x16384x1, .f32⟩
  | .hbm, ⟨39, _⟩ => ⟨S8x16384x16384, .f32⟩
  | .hbm, ⟨40, _⟩ => ⟨S8x16384x16384, .f32⟩
  | .hbm, ⟨41, _⟩ => ⟨S8x16384x16384, .f32⟩
  | .hbm, ⟨42, _⟩ => ⟨S_, .f32⟩
  | .hbm, ⟨43, _⟩ => ⟨S8x16384, .f32⟩
  | .hbm, ⟨44, _⟩ => ⟨S8x16384x1, .f32⟩
  | .hbm, ⟨45, _⟩ => ⟨S8x16384x16384, .f32⟩
  | .hbm, ⟨46, _⟩ => ⟨S8x16384x16384, .f32⟩
  | .hbm, ⟨47, _⟩ => ⟨S8x16384x1, .f32⟩
  | .hbm, ⟨48, _⟩ => ⟨S_, .f32⟩
  | .hbm, ⟨49, _⟩ => ⟨S8x16384x1, .f32⟩
  | .hbm, ⟨50, _⟩ => ⟨S8x16384x1, .f32⟩
  | .hbm, ⟨51, _⟩ => ⟨S8x64x16384, .f32⟩
  | .hbm, ⟨52, _⟩ => ⟨S16384x8x64, .f32⟩
  | .hbm, ⟨53, _⟩ => ⟨S8x64x16384, .f32⟩
  | .hbm, ⟨54, _⟩ => ⟨S8x16384x16384, .f32⟩
  | .hbm, ⟨55, _⟩ => ⟨S8x64x16384, .f32⟩
  | .hbm, ⟨56, _⟩ => ⟨S16384x8x64, .f32⟩
  | .hbm, ⟨57, _⟩ => ⟨S8x16384x16384, .f32⟩
  | .hbm, ⟨58, _⟩ => ⟨S8x16384x16384, .f32⟩
  | .hbm, ⟨59, _⟩ => ⟨S8x16384x16384, .f32⟩
  | .hbm, ⟨60, _⟩ => ⟨S_, .f32⟩
  | .hbm, ⟨61, _⟩ => ⟨S8x16384, .f32⟩
  | .hbm, ⟨62, _⟩ => ⟨S8x16384x1, .f32⟩
  | .hbm, ⟨63, _⟩ => ⟨S8x16384x1, .f32⟩
  | .hbm, ⟨64, _⟩ => ⟨S8x16384x16384, .f32⟩
  | .hbm, ⟨65, _⟩ => ⟨S8x16384x16384, .f32⟩
  | .hbm, ⟨66, _⟩ => ⟨S_, .f32⟩
  | .hbm, ⟨67, _⟩ => ⟨S8x16384, .f32⟩
  | .hbm, ⟨68, _⟩ => ⟨S8x16384x16384, .f32⟩
  | .hbm, ⟨69, _⟩ => ⟨S8x16384x16384, .f32⟩
  | .hbm, ⟨70, _⟩ => ⟨S8x16384x16384, .f32⟩
  | .hbm, ⟨71, _⟩ => ⟨S8x16384x16x1024, .f32⟩
  | .hbm, ⟨72, _⟩ => ⟨S8x16x1024x16384, .f32⟩
  | .hbm, ⟨73, _⟩ => ⟨S8x16x16384x96, .f32⟩
  | .hbm, ⟨74, _⟩ => ⟨S16x16384x8x96, .f32⟩
  | .hbm, ⟨75, _⟩ => ⟨S8x16x1024x96, .f32⟩
  | .hbm, ⟨76, _⟩ => ⟨S16x1024x8x96, .f32⟩
  | .hbm, ⟨77, _⟩ => ⟨S16384x8x96, .f32⟩
  | .hbm, ⟨78, _⟩ => ⟨S_, .i32⟩
  | .hbm, ⟨79, _⟩ => ⟨S_, .f32⟩
  | .hbm, ⟨80, _⟩ => ⟨S16x16384x8x128, .f32⟩
  | .hbm, ⟨81, _⟩ => ⟨S16x16384x1024, .f32⟩
  | .hbm, ⟨82, _⟩ => ⟨S16x16384x1024, .bf16⟩
  | .hbm, ⟨83, _⟩ => ⟨S_, .i32⟩
  | .hbm, ⟨84, _⟩ => ⟨S_, .f32⟩
  | .hbm, ⟨85, _⟩ => ⟨S16384x8x128, .f32⟩
  | .hbm, ⟨86, _⟩ => ⟨S16384x1024, .f32⟩
  | .hbm, ⟨87, _⟩ => ⟨S1024x16384, .f32⟩
  | .hbm, ⟨88, _⟩ => ⟨S16384x512, .f32⟩
  | .hbm, ⟨89, _⟩ => ⟨S512x16384, .f32⟩
  | _, _ => ⟨S16384x8x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_cst_4 : Ref sig .tc := ⟨.hbm, 27, rfl⟩
abbrev main_v18 : Ref sig .tc := ⟨.hbm, 28, rfl⟩
abbrev main_v19 : Ref sig .tc := ⟨.hbm, 29, rfl⟩
abbrev main_cst_5 : Ref sig .tc := ⟨.hbm, 30, rfl⟩
abbrev main_v20 : Ref sig .tc := ⟨.hbm, 31, rfl⟩
abbrev main_cst_6 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_8 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_9 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_cst_10 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_cst_11 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_c : Ref sig .tc := ⟨.hbm, 78, rfl⟩
abbrev main_call0_v0 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_c_12 : Ref sig .tc := ⟨.hbm, 83, rfl⟩
abbrev main_call1_v0 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩

abbrev nD : Nat := 1
abbrev τ : Topo := Topo.v7x

variable {F : FTy → Type} [FloatOps F]
-- ==== Fwd.lean ====
abbrev S16384x8x96 : Shape := ⟨3, ![16384, 8, 96]⟩
abbrev S16384x8x64 : Shape := ⟨3, ![16384, 8, 64]⟩
abbrev S_ : Shape := ⟨0, ![]⟩
abbrev S16384x8x128 : Shape := ⟨3, ![16384, 8, 128]⟩
abbrev S16384x1024 : Shape := ⟨2, ![16384, 1024]⟩
abbrev S16384x8x1 : Shape := ⟨3, ![16384, 8, 1]⟩
abbrev S16384x8x63 : Shape := ⟨3, ![16384, 8, 63]⟩
abbrev S1024x16384 : Shape := ⟨2, ![1024, 16384]⟩
abbrev S16384x512 : Shape := ⟨2, ![16384, 512]⟩
abbrev S8x1x16384 : Shape := ⟨3, ![8, 1, 16384]⟩
abbrev S512x1024 : Shape := ⟨2, ![512, 1024]⟩
abbrev S4096x1024 : Shape := ⟨2, ![4096, 1024]⟩
abbrev S1024x4096 : Shape := ⟨2, ![1024, 4096]⟩
abbrev S512x512 : Shape := ⟨2, ![512, 512]⟩
abbrev S8x1x512 : Shape := ⟨3, ![8, 1, 512]⟩
abbrev S8x128x512 : Shape := ⟨3, ![8, 128, 512]⟩
abbrev S4096x128 : Shape := ⟨2, ![4096, 128]⟩
abbrev S512x128 : Shape := ⟨2, ![512, 128]⟩
abbrev S4096x512 : Shape := ⟨2, ![4096, 512]⟩
abbrev S1x1x512 : Shape := ⟨3, ![1, 1, 512]⟩
abbrev S1x512 : Shape := ⟨2, ![1, 512]⟩
abbrev S512 : Shape := ⟨1, ![512]⟩
abbrev S1x128x512 : Shape := ⟨3, ![1, 128, 512]⟩
abbrev S128x512 : Shape := ⟨2, ![128, 512]⟩
abbrev S128x4096 : Shape := ⟨2, ![128, 4096]⟩
abbrev S64x512 : Shape := ⟨2, ![64, 512]⟩
abbrev S512x64 : Shape := ⟨2, ![512, 64]⟩

abbrev nBuf : Space → Nat
  | .hbm => 31
  | .vmem => 12
  | .smem => 0
  | _ => 0

abbrev bufTy : (tb : Table) → Fin (tcTables nBuf tb) → BufTy
  | .hbm, ⟨0, _⟩ => ⟨S16384x8x96, .f32⟩
  | .hbm, ⟨1, _⟩ => ⟨S16384x8x96, .f32⟩
  | .hbm, ⟨2, _⟩ => ⟨S16384x8x64, .f32⟩
  | .hbm, ⟨3, _⟩ => ⟨S_, .f32⟩
  | .hbm, ⟨4, _⟩ => ⟨S_, .f32⟩
  | .hbm, ⟨5, _⟩ => ⟨S16384x8x96, .f32⟩
  | .hbm, ⟨6, _⟩ => ⟨S16384x8x96, .f32⟩
  | .hbm, ⟨7, _⟩ => ⟨S_, .f32⟩
  | .hbm, ⟨8, _⟩ => ⟨S_, .f32⟩
  | .hbm, ⟨9, _⟩ => ⟨S16384x8x96, .f32⟩
  | .hbm, ⟨10, _⟩ => ⟨S16384x8x96, .f32⟩
  | .hbm, ⟨11, _⟩ => ⟨S_, .i32⟩
  | .hbm, ⟨12, _⟩ => ⟨S_, .f32⟩
  | .hbm, ⟨13, _⟩ => ⟨S16384x8x128, .f32⟩
  | .hbm, ⟨14, _⟩ => ⟨S16384x1024, .f32⟩
  | .hbm, ⟨15, _⟩ => ⟨S16384x1024, .bf16⟩
  | .hbm, ⟨16, _⟩ => ⟨S_, .i32⟩
  | .hbm, ⟨17, _⟩ => ⟨S_, .f32⟩
  | .hbm, ⟨18, _⟩ => ⟨S16384x8x128, .f32⟩
  | .hbm, ⟨19, _⟩ => ⟨S16384x1024, .f32⟩
  | .hbm, ⟨20, _⟩ => ⟨S16384x1024, .bf16⟩
  | .hbm, ⟨21, _⟩ => ⟨S_, .f32⟩
  | .hbm, ⟨22, _⟩ => ⟨S16384x8x1, .f32⟩
  | .hbm, ⟨23, _⟩ => ⟨S_, .f32⟩
  | .hbm, ⟨24, _⟩ => ⟨S16384x8x63, .f32⟩
  | .hbm, ⟨25, _⟩ => ⟨S16384x8x128, .f32⟩
  | .hbm, ⟨26, _⟩ => ⟨S16384x1024, .f32⟩
  | .hbm, ⟨27, _⟩ => ⟨S1024x16384, .f32⟩
  | .hbm, ⟨28, _⟩ => ⟨S1024x16384, .bf16⟩
  | .hbm, ⟨29, _⟩ => ⟨S16384x512, .f32⟩
  | .hbm, ⟨30, _⟩ => ⟨S8x1x16384, .f32⟩
  | .local _ .vmem, ⟨0, _⟩ => ⟨S512x1024, .bf16⟩
  | .local _ .vmem, ⟨1, _⟩ => ⟨S512x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1024x4096, .bf16⟩
  | .local _ .vmem, ⟨5, _⟩ => ⟨S1024x4096, .bf16⟩
  | .local _ .vmem, ⟨6, _⟩ => ⟨S512x512, .f32⟩
  | .local _ .vmem, ⟨7, _⟩ => ⟨S512x512, .f32⟩
  | .local _ .vmem, ⟨8, _⟩ => ⟨S8x1x512, .f32⟩
  | .local _ .vmem, ⟨9, _⟩ => ⟨S8x1x512, .f32⟩
  | .local _ .vmem, ⟨10, _⟩ => ⟨S8x1x512, .f32⟩
  | .local _ .vmem, ⟨11, _⟩ => ⟨S8x128x512, .f32⟩
  | _, _ => ⟨S16384x8x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_call0_v0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_c_1 : Ref sig .tc := ⟨.hbm, 16, rfl⟩
abbrev main_call1_v0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_cst_3 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18_0 : Ref sig .tc := ⟨.hbm, 29, rfl⟩
abbrev main_v18_1 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![32, 4], ![false, false]⟩

def k0_cond2 (i : grid0.Coords) : BitVec 1 :=
  let arg1 : BitVec 32 := BitVec.ofNat 32 (i 1).val
  let c3_i32 : BitVec 32 := 3#32
  let v243 : BitVec 1 := Scalar.cmpi .eq arg1 c3_i32
  let v244 : BitVec 32 := Scalar.extui v243
  let c0_i32_153 : BitVec 32 := 0#32
  let v245 : BitVec 1 := Scalar.cmpi .ne v244 c0_i32_153
  v245

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S8x1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== FwdIdeal.lean ====
variable {F : FTy → Type} [FloatOps F] [Named F]
def κ : String → Option EReal := fun
  | "log2e" => some (((Real.log 2)⁻¹ : ℝ) : EReal)
  | _ => none
-- ==== FwdRefIdeal.lean ====
abbrev S16384x8x96 : Shape := ⟨3, ![16384, 8, 96]⟩
abbrev S16384x8x64 : Shape := ⟨3, ![16384, 8, 64]⟩
abbrev S_ : Shape := ⟨0, ![]⟩
abbrev S8x16384x16384 : Shape := ⟨3, ![8, 16384, 16384]⟩
abbrev S8x16384 : Shape := ⟨2, ![8, 16384]⟩
abbrev S8x16384x1 : Shape := ⟨3, ![8, 16384, 1]⟩
abbrev S8x64x16384 : Shape := ⟨3, ![8, 64, 16384]⟩
abbrev S16384x512 : Shape := ⟨2, ![16384, 512]⟩
abbrev S8x1x16384 : Shape := ⟨3, ![8, 1, 16384]⟩

abbrev nBuf : Space → Nat
  | .hbm => 29
  | .vmem => 0
  | .smem => 0
  | _ => 0

abbrev bufTy : (tb : Table) → Fin (tcTables nBuf tb) → BufTy
  | .hbm, ⟨0, _⟩ => ⟨S16384x8x96, .f32⟩
  | .hbm, ⟨1, _⟩ => ⟨S16384x8x96, .f32⟩
  | .hbm, ⟨2, _⟩ => ⟨S16384x8x64, .f32⟩
  | .hbm, ⟨3, _⟩ => ⟨S_, .f32⟩
  | .hbm, ⟨4, _⟩ => ⟨S_, .f32⟩
  | .hbm, ⟨5, _⟩ => ⟨S16384x8x96, .f32⟩
  | .hbm, ⟨6, _⟩ => ⟨S16384x8x96, .f32⟩
  | .hbm, ⟨7, _⟩ => ⟨S8x16384x16384, .f32⟩
  | .hbm, ⟨8, _⟩ => ⟨S_, .f32⟩
  | .hbm, ⟨9, _⟩ => ⟨S8x16384, .f32⟩
  | .hbm, ⟨10, _⟩ => ⟨S8x16384x1, .f32⟩
  | .hbm, ⟨11, _⟩ => ⟨S8x16384x16384, .f32⟩
  | .hbm, ⟨12, _⟩ => ⟨S8x16384x16384, .f32⟩
  | .hbm, ⟨13, _⟩ => ⟨S8x16384x16384, .f32⟩
  | .hbm, ⟨14, _⟩ => ⟨S_, .f32⟩
  | .hbm, ⟨15, _⟩ => ⟨S8x16384, .f32⟩
  | .hbm, ⟨16, _⟩ => ⟨S8x16384x1, .f32⟩
  | .hbm, ⟨17, _⟩ => ⟨S8x16384x16384, .f32⟩
  | .hbm, ⟨18, _⟩ => ⟨S8x16384x16384, .f32⟩
  | .hbm, ⟨19, _⟩ => ⟨S8x64x16384, .f32⟩
  | .hbm, ⟨20, _⟩ => ⟨S16384x8x64, .f32⟩
  | .hbm, ⟨21, _⟩ => ⟨S16384x512, .f32⟩
  | .hbm, ⟨22, _⟩ => ⟨S8x16384x1, .f32⟩
  | .hbm, ⟨23, _⟩ => ⟨S8x16384x1, .f32⟩
  | .hbm, ⟨24, _⟩ => ⟨S_, .f32⟩
  | .hbm, ⟨25, _⟩ => ⟨S_, .f32⟩
  | .hbm, ⟨26, _⟩ => ⟨S8x16384x1, .f32⟩
  | .hbm, ⟨27, _⟩ => ⟨S8x16384x1, .f32⟩
  | .hbm, ⟨28, _⟩ => ⟨S8x1x16384, .f32⟩
  | _, _ => ⟨S16384x8x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_2 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩

abbrev nD : Nat := 1
abbrev τ : Topo := Topo.v7x

variable {F : FTy → Type} [FloatOps F]
-- ==== Up.lean ====
abbrev S16384x1024 : Shape := ⟨2, ![16384, 1024]⟩
abbrev S1024x2816 : Shape := ⟨2, ![1024, 2816]⟩
abbrev S16384x2816 : Shape := ⟨2, ![16384, 2816]⟩
abbrev S512x1024 : Shape := ⟨2, ![512, 1024]⟩
abbrev S1024x1408 : Shape := ⟨2, ![1024, 1408]⟩
abbrev S512x1408 : Shape := ⟨2, ![512, 1408]⟩

abbrev nBuf : Space → Nat
  | .hbm => 9
  | .vmem => 12
  | .smem => 0
  | _ => 0

abbrev bufTy : (tb : Table) → Fin (tcTables nBuf tb) → BufTy
  | .hbm, ⟨0, _⟩ => ⟨S16384x1024, .f32⟩
  | .hbm, ⟨1, _⟩ => ⟨S1024x2816, .f32⟩
  | .hbm, ⟨2, _⟩ => ⟨S1024x2816, .f32⟩
  | .hbm, ⟨3, _⟩ => ⟨S16384x1024, .bf16⟩
  | .hbm, ⟨4, _⟩ => ⟨S1024x2816, .bf16⟩
  | .hbm, ⟨5, _⟩ => ⟨S1024x2816, .bf16⟩
  | .hbm, ⟨6, _⟩ => ⟨S16384x2816, .bf16⟩
  | .hbm, ⟨7, _⟩ => ⟨S16384x2816, .bf16⟩
  | .hbm, ⟨8, _⟩ => ⟨S16384x2816, .bf16⟩
  | .local _ .vmem, ⟨0, _⟩ => ⟨S512x1024, .bf16⟩
  | .local _ .vmem, ⟨1, _⟩ => ⟨S512x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | .local _ .vmem, ⟨6, _⟩ => ⟨S512x1408, .bf16⟩
  | .local _ .vmem, ⟨7, _⟩ => ⟨S512x1408, .bf16⟩
  | .local _ .vmem, ⟨8, _⟩ => ⟨S512x1408, .bf16⟩
  | .local _ .vmem, ⟨9, _⟩ => ⟨S512x1408, .bf16⟩
  | .local _ .vmem, ⟨10, _⟩ => ⟨S512x1408, .bf16⟩
  | .local _ .vmem, ⟨11, _⟩ => ⟨S512x1408, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v3_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![32, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== UpRefIdeal.lean ====
abbrev S16384x1024 : Shape := ⟨2, ![16384, 1024]⟩
abbrev S1024x2816 : Shape := ⟨2, ![1024, 2816]⟩
abbrev S16384x2816 : Shape := ⟨2, ![16384, 2816]⟩
abbrev S_ : Shape := ⟨0, ![]⟩

abbrev nBuf : Space → Nat
  | .hbm => 18
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x2816, .f32⟩
  | .hbm, ⟨2, _⟩ => ⟨S1024x2816, .f32⟩
  | .hbm, ⟨3, _⟩ => ⟨S16384x2816, .f32⟩
  | .hbm, ⟨4, _⟩ => ⟨S16384x2816, .f32⟩
  | .hbm, ⟨5, _⟩ => ⟨S16384x2816, .bf16⟩
  | .hbm, ⟨6, _⟩ => ⟨S16384x2816, .bf16⟩
  | .hbm, ⟨7, _⟩ => ⟨S16384x2816, .f32⟩
  | .hbm, ⟨8, _⟩ => ⟨S16384x2816, .f32⟩
  | .hbm, ⟨9, _⟩ => ⟨S_, .f32⟩
  | .hbm, ⟨10, _⟩ => ⟨S16384x2816, .f32⟩
  | .hbm, ⟨11, _⟩ => ⟨S16384x2816, .f32⟩
  | .hbm, ⟨12, _⟩ => ⟨S_, .f32⟩
  | .hbm, ⟨13, _⟩ => ⟨S16384x2816, .f32⟩
  | .hbm, ⟨14, _⟩ => ⟨S16384x2816, .f32⟩
  | .hbm, ⟨15, _⟩ => ⟨S16384x2816, .f32⟩
  | .hbm, ⟨16, _⟩ => ⟨S16384x2816, .f32⟩
  | .hbm, ⟨17, _⟩ => ⟨S16384x2816, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩

abbrev nD : Nat := 1
abbrev τ : Topo := Topo.v7x

variable {F : FTy → Type} [FloatOps F]
-- ==== Dh.lean ====
abbrev S16384x1024 : Shape := ⟨2, ![16384, 1024]⟩
abbrev S1024x2816 : Shape := ⟨2, ![1024, 2816]⟩
abbrev S2816x1024 : Shape := ⟨2, ![2816, 1024]⟩
abbrev S16384x2816 : Shape := ⟨2, ![16384, 2816]⟩
abbrev S512x1024 : Shape := ⟨2, ![512, 1024]⟩
abbrev S1408x1024 : Shape := ⟨2, ![1408, 1024]⟩
abbrev S512x1408 : Shape := ⟨2, ![512, 1408]⟩
abbrev S1024x1024 : Shape := ⟨2, ![1024, 1024]⟩

abbrev nBuf : Space → Nat
  | .hbm => 16
  | .vmem => 26
  | .smem => 0
  | _ => 0

abbrev bufTy : (tb : Table) → Fin (tcTables nBuf tb) → BufTy
  | .hbm, ⟨0, _⟩ => ⟨S16384x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S16384x1024, .f32⟩
  | .hbm, ⟨5, _⟩ => ⟨S16384x2816, .f32⟩
  | .hbm, ⟨6, _⟩ => ⟨S16384x2816, .bf16⟩
  | .hbm, ⟨7, _⟩ => ⟨S16384x2816, .f32⟩
  | .hbm, ⟨8, _⟩ => ⟨S16384x2816, .bf16⟩
  | .hbm, ⟨9, _⟩ => ⟨S2816x1024, .bf16⟩
  | .hbm, ⟨10, _⟩ => ⟨S16384x2816, .bf16⟩
  | .hbm, ⟨11, _⟩ => ⟨S16384x2816, .bf16⟩
  | .hbm, ⟨12, _⟩ => ⟨S1024x2816, .bf16⟩
  | .hbm, ⟨13, _⟩ => ⟨S1024x2816, .bf16⟩
  | .hbm, ⟨14, _⟩ => ⟨S16384x1024, .f32⟩
  | .hbm, ⟨15, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1408x1024, .bf16⟩
  | .local _ .vmem, ⟨3, _⟩ => ⟨S1408x1024, .bf16⟩
  | .local _ .vmem, ⟨4, _⟩ => ⟨S512x1408, .bf16⟩
  | .local _ .vmem, ⟨5, _⟩ => ⟨S512x1408, .bf16⟩
  | .local _ .vmem, ⟨6, _⟩ => ⟨S512x1408, .bf16⟩
  | .local _ .vmem, ⟨7, _⟩ => ⟨S512x1408, .bf16⟩
  | .local _ .vmem, ⟨8, _⟩ => ⟨S512x1408, .bf16⟩
  | .local _ .vmem, ⟨9, _⟩ => ⟨S512x1408, .bf16⟩
  | .local _ .vmem, ⟨10, _⟩ => ⟨S512x1408, .bf16⟩
  | .local _ .vmem, ⟨11, _⟩ => ⟨S512x1408, .bf16⟩
  | .local _ .vmem, ⟨12, _⟩ => ⟨S1024x2816, .bf16⟩
  | .local _ .vmem, ⟨13, _⟩ => ⟨S1024x2816, .bf16⟩
  | .local _ .vmem, ⟨14, _⟩ => ⟨S1024x2816, .bf16⟩
  | .local _ .vmem, ⟨15, _⟩ => ⟨S1024x1024, .f32⟩
  | .local _ .vmem, ⟨16, _⟩ => ⟨S1024x1024, .f32⟩
  | .local _ .vmem, ⟨17, _⟩ => ⟨S1024x1024, .f32⟩
  | .local _ .vmem, ⟨18, _⟩ => ⟨S1024x2816, .bf16⟩
  | .local _ .vmem, ⟨19, _⟩ => ⟨S1024x2816, .bf16⟩
  | .local _ .vmem, ⟨20, _⟩ => ⟨S1024x2816, .bf16⟩
  | .local _ .vmem, ⟨21, _⟩ => ⟨S1024x1024, .f32⟩
  | .local _ .vmem, ⟨22, _⟩ => ⟨S1024x1024, .f32⟩
  | .local _ .vmem, ⟨23, _⟩ => ⟨S1024x1024, .f32⟩
  | .local _ .vmem, ⟨24, _⟩ => ⟨S1024x1024, .f32⟩
  | .local _ .vmem, ⟨25, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg2_0 : Ref sig .tc := ⟨.vmem, 15, rfl⟩
abbrev cc1_stg2_1 : Ref sig .tc := ⟨.vmem, 16, rfl⟩
abbrev cc1_scratch0 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg2_0 : Ref sig .tc := ⟨.vmem, 21, rfl⟩
abbrev cc2_stg2_1 : Ref sig .tc := ⟨.vmem, 22, rfl⟩
abbrev cc2_stg3_0 : Ref sig .tc := ⟨.vmem, 23, rfl⟩
abbrev cc2_stg3_1 : Ref sig .tc := ⟨.vmem, 24, rfl⟩
abbrev cc2_scratch0 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc1_sem0_0 : DmaSem sig := 12
abbrev cc1_sem0_1 : DmaSem sig := 13
abbrev cc1_sem1_0 : DmaSem sig := 14
abbrev cc1_sem2_0 : DmaSem sig := 15
abbrev cc1_sem2_1 : DmaSem sig := 16
abbrev cc2_sem0_0 : DmaSem sig := 17
abbrev cc2_sem0_1 : DmaSem sig := 18
abbrev cc2_sem1_0 : DmaSem sig := 19
abbrev cc2_sem2_0 : DmaSem sig := 20
abbrev cc2_sem2_1 : DmaSem sig := 21
abbrev cc2_sem3_0 : DmaSem sig := 22
abbrev cc2_sem3_1 : DmaSem sig := 23

abbrev nD : Nat := 1
abbrev τ : Topo := Topo.v7x

variable {F : FTy → Type} [FloatOps F]

abbrev grid0 : Pipeline.Grid := ⟨2, ![32, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev grid1 : Pipeline.Grid := ⟨3, ![16, 1, 1], ![false, false, false]⟩

def k1_cond3 (i : grid1.Coords) : BitVec 1 :=
  let arg2 : BitVec 32 := BitVec.ofNat 32 (i 2).val
  let c0_i32_6 : BitVec 32 := 0#32
  let v11 : BitVec 1 := Scalar.cmpi .eq arg2 c0_i32_6
  let v12 : BitVec 32 := Scalar.extui v11
  let c0_i32_7 : BitVec 32 := 0#32
  let v13 : BitVec 1 := Scalar.cmpi .ne v12 c0_i32_7
  v13

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x2816 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 1 → Memref sig .tc .vmem S1024x2816 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, true, true]

abbrev stage1_2 : Fin 2 → Memref sig .tc .vmem S1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev grid2 : Pipeline.Grid := ⟨3, ![16, 1, 1], ![false, false, false]⟩

def k2_cond3 (i : grid2.Coords) : BitVec 1 :=
  let arg2 : BitVec 32 := BitVec.ofNat 32 (i 2).val
  let c0_i32_6 : BitVec 32 := 0#32
  let v11 : BitVec 1 := Scalar.cmpi .eq arg2 c0_i32_6
  let v12 : BitVec 32 := Scalar.extui v11
  let c0_i32_7 : BitVec 32 := 0#32
  let v13 : BitVec 1 := Scalar.cmpi .ne v12 c0_i32_7
  v13

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc2_transform_3 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S1024x2816 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 1 → Memref sig .tc .vmem S1024x2816 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, true, true]

abbrev stage2_2 : Fin 2 → Memref sig .tc .vmem S1024x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev stage2_3 : Fin 2 → Memref sig .tc .vmem S1024x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true, false]
-- ==== DhRefIdeal.lean ====
abbrev S16384x1024 : Shape := ⟨2, ![16384, 1024]⟩
abbrev S1024x2816 : Shape := ⟨2, ![1024, 2816]⟩
abbrev S2816x1024 : Shape := ⟨2, ![2816, 1024]⟩
abbrev S16384x2816 : Shape := ⟨2, ![16384, 2816]⟩
abbrev S_ : Shape := ⟨0, ![]⟩

abbrev nBuf : Space → Nat
  | .hbm => 32
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S16384x1024, .f32⟩
  | .hbm, ⟨5, _⟩ => ⟨S16384x2816, .f32⟩
  | .hbm, ⟨6, _⟩ => ⟨S16384x2816, .f32⟩
  | .hbm, ⟨7, _⟩ => ⟨S16384x2816, .f32⟩
  | .hbm, ⟨8, _⟩ => ⟨S_, .f32⟩
  | .hbm, ⟨9, _⟩ => ⟨S16384x2816, .f32⟩
  | .hbm, ⟨10, _⟩ => ⟨S16384x2816, .f32⟩
  | .hbm, ⟨11, _⟩ => ⟨S_, .f32⟩
  | .hbm, ⟨12, _⟩ => ⟨S16384x2816, .f32⟩
  | .hbm, ⟨13, _⟩ => ⟨S16384x2816, .f32⟩
  | .hbm, ⟨14, _⟩ => ⟨S_, .f32⟩
  | .hbm, ⟨15, _⟩ => ⟨S16384x2816, .f32⟩
  | .hbm, ⟨16, _⟩ => ⟨S16384x2816, .f32⟩
  | .hbm, ⟨17, _⟩ => ⟨S16384x2816, .f32⟩
  | .hbm, ⟨18, _⟩ => ⟨S16384x2816, .f32⟩
  | .hbm, ⟨19, _⟩ => ⟨S16384x2816, .f32⟩
  | .hbm, ⟨20, _⟩ => ⟨S16384x2816, .f32⟩
  | .hbm, ⟨21, _⟩ => ⟨S16384x1024, .f32⟩
  | .hbm, ⟨22, _⟩ => ⟨S16384x2816, .f32⟩
  | .hbm, ⟨23, _⟩ => ⟨S16384x2816, .f32⟩
  | .hbm, ⟨24, _⟩ => ⟨S16384x2816, .f32⟩
  | .hbm, ⟨25, _⟩ => ⟨S16384x1024, .f32⟩
  | .hbm, ⟨26, _⟩ => ⟨S16384x2816, .f32⟩
  | .hbm, ⟨27, _⟩ => ⟨S16384x2816, .f32⟩
  | .hbm, ⟨28, _⟩ => ⟨S16384x2816, .f32⟩
  | .hbm, ⟨29, _⟩ => ⟨S16384x2816, .f32⟩
  | .hbm, ⟨30, _⟩ => ⟨S16384x1024, .f32⟩
  | .hbm, ⟨31, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_v1_2 : Ref sig .tc := ⟨.hbm, 13, rfl⟩
abbrev main_call0_cst_1 : Ref sig .tc := ⟨.hbm, 14, rfl⟩
abbrev main_call0_v6 : Ref sig .tc := ⟨.hbm, 15, rfl⟩
abbrev main_call0_v7 : Ref sig .tc := ⟨.hbm, 16, rfl⟩
abbrev main_v1_1 : Ref sig .tc := ⟨.hbm, 17, rfl⟩
abbrev main_v1_0 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_call1_v0 : Ref sig .tc := ⟨.hbm, 26, rfl⟩
abbrev main_call1_v1 : Ref sig .tc := ⟨.hbm, 27, rfl⟩
abbrev main_call1_v2 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩

abbrev nD : Nat := 1
abbrev τ : Topo := Topo.v7x

variable {F : FTy → Type} [FloatOps F]
-- ==== Dw.lean ====
abbrev S16384x1024 : Shape := ⟨2, ![16384, 1024]⟩
abbrev S16384x2816 : Shape := ⟨2, ![16384, 2816]⟩
abbrev S1024x2816 : Shape := ⟨2, ![1024, 2816]⟩
abbrev S1024x512 : Shape := ⟨2, ![1024, 512]⟩
abbrev S1024x1408 : Shape := ⟨2, ![1024, 1408]⟩
abbrev S512x1408 : Shape := ⟨2, ![512, 1408]⟩

abbrev nBuf : Space → Nat
  | .hbm => 5
  | .vmem => 7
  | .smem => 0
  | _ => 0

abbrev bufTy : (tb : Table) → Fin (tcTables nBuf tb) → BufTy
  | .hbm, ⟨0, _⟩ => ⟨S16384x1024, .f32⟩
  | .hbm, ⟨1, _⟩ => ⟨S16384x2816, .f32⟩
  | .hbm, ⟨2, _⟩ => ⟨S16384x1024, .bf16⟩
  | .hbm, ⟨3, _⟩ => ⟨S16384x2816, .bf16⟩
  | .hbm, ⟨4, _⟩ => ⟨S1024x2816, .f32⟩
  | .local _ .vmem, ⟨0, _⟩ => ⟨S1024x512, .bf16⟩
  | .local _ .vmem, ⟨1, _⟩ => ⟨S1024x512, .bf16⟩
  | .local _ .vmem, ⟨2, _⟩ => ⟨S1024x1408, .bf16⟩
  | .local _ .vmem, ⟨3, _⟩ => ⟨S1024x1408, .bf16⟩
  | .local _ .vmem, ⟨4, _⟩ => ⟨S512x1408, .f32⟩
  | .local _ .vmem, ⟨5, _⟩ => ⟨S512x1408, .f32⟩
  | .local _ .vmem, ⟨6, _⟩ => ⟨S512x1408, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 16], ![false, false, false]⟩

def k0_cond3 (i : grid0.Coords) : BitVec 1 :=
  let arg2 : BitVec 32 := BitVec.ofNat 32 (i 2).val
  let c15_i32 : BitVec 32 := 15#32
  let v11 : BitVec 1 := Scalar.cmpi .eq arg2 c15_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwRefIdeal.lean ====
abbrev S16384x1024 : Shape := ⟨2, ![16384, 1024]⟩
abbrev S16384x2816 : Shape := ⟨2, ![16384, 2816]⟩
abbrev S_ : Shape := ⟨0, ![]⟩
abbrev S1024x2816 : Shape := ⟨2, ![1024, 2816]⟩
abbrev S2816x1024 : Shape := ⟨2, ![2816, 1024]⟩

abbrev nBuf : Space → Nat
  | .hbm => 7
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x2816, .f32⟩
  | .hbm, ⟨2, _⟩ => ⟨S_, .f32⟩
  | .hbm, ⟨3, _⟩ => ⟨S1024x2816, .f32⟩
  | .hbm, ⟨4, _⟩ => ⟨S16384x2816, .f32⟩
  | .hbm, ⟨5, _⟩ => ⟨S2816x1024, .f32⟩
  | .hbm, ⟨6, _⟩ => ⟨S1024x2816, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Down.lean ====
abbrev S16384x2816 : Shape := ⟨2, ![16384, 2816]⟩
abbrev S2816x1024 : Shape := ⟨2, ![2816, 1024]⟩
abbrev S16384x1024 : Shape := ⟨2, ![16384, 1024]⟩
abbrev S1024x2816 : Shape := ⟨2, ![1024, 2816]⟩
abbrev S1024x1024 : Shape := ⟨2, ![1024, 1024]⟩

abbrev nBuf : Space → Nat
  | .hbm => 6
  | .vmem => 8
  | .smem => 0
  | _ => 0

abbrev bufTy : (tb : Table) → Fin (tcTables nBuf tb) → BufTy
  | .hbm, ⟨0, _⟩ => ⟨S16384x2816, .f32⟩
  | .hbm, ⟨1, _⟩ => ⟨S2816x1024, .f32⟩
  | .hbm, ⟨2, _⟩ => ⟨S16384x1024, .f32⟩
  | .hbm, ⟨3, _⟩ => ⟨S16384x2816, .bf16⟩
  | .hbm, ⟨4, _⟩ => ⟨S2816x1024, .bf16⟩
  | .hbm, ⟨5, _⟩ => ⟨S16384x1024, .f32⟩
  | .local _ .vmem, ⟨0, _⟩ => ⟨S1024x2816, .bf16⟩
  | .local _ .vmem, ⟨1, _⟩ => ⟨S1024x2816, .bf16⟩
  | .local _ .vmem, ⟨2, _⟩ => ⟨S2816x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S16384x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![16, 1, 1], ![false, false, false]⟩

def k0_cond3 (i : grid0.Coords) : BitVec 1 :=
  let arg2 : BitVec 32 := BitVec.ofNat 32 (i 2).val
  let c0_i32_6 : BitVec 32 := 0#32
  let v11 : BitVec 1 := Scalar.cmpi .eq arg2 c0_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DownRefIdeal.lean ====
abbrev S16384x2816 : Shape := ⟨2, ![16384, 2816]⟩
abbrev S2816x1024 : Shape := ⟨2, ![2816, 1024]⟩
abbrev S16384x1024 : Shape := ⟨2, ![16384, 1024]⟩

abbrev nBuf : Space → Nat
  | .hbm => 5
  | .vmem => 0
  | .smem => 0
  | _ => 0

abbrev bufTy : (tb : Table) → Fin (tcTables nBuf tb) → BufTy
  | .hbm, ⟨0, _⟩ => ⟨S16384x2816, .f32⟩
  | .hbm, ⟨1, _⟩ => ⟨S2816x1024, .f32⟩
  | .hbm, ⟨2, _⟩ => ⟨S16384x1024, .f32⟩
  | .hbm, ⟨3, _⟩ => ⟨S16384x1024, .f32⟩
  | .hbm, ⟨4, _⟩ => ⟨S16384x1024, .f32⟩
  | _, _ => ⟨S16384x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Dw2.lean ====
abbrev S16384x2816 : Shape := ⟨2, ![16384, 2816]⟩
abbrev S16384x1024 : Shape := ⟨2, ![16384, 1024]⟩
abbrev S2816x1024 : Shape := ⟨2, ![2816, 1024]⟩
abbrev S1024x1408 : Shape := ⟨2, ![1024, 1408]⟩
abbrev S1024x1024 : Shape := ⟨2, ![1024, 1024]⟩
abbrev S1408x1024 : Shape := ⟨2, ![1408, 1024]⟩

abbrev nBuf : Space → Nat
  | .hbm => 4
  | .vmem => 7
  | .smem => 0
  | _ => 0

abbrev bufTy : (tb : Table) → Fin (tcTables nBuf tb) → BufTy
  | .hbm, ⟨0, _⟩ => ⟨S16384x2816, .f32⟩
  | .hbm, ⟨1, _⟩ => ⟨S16384x1024, .f32⟩
  | .hbm, ⟨2, _⟩ => ⟨S16384x2816, .bf16⟩
  | .hbm, ⟨3, _⟩ => ⟨S2816x1024, .f32⟩
  | .local _ .vmem, ⟨0, _⟩ => ⟨S1024x1408, .bf16⟩
  | .local _ .vmem, ⟨1, _⟩ => ⟨S1024x1408, .bf16⟩
  | .local _ .vmem, ⟨2, _⟩ => ⟨S1024x1024, .f32⟩
  | .local _ .vmem, ⟨3, _⟩ => ⟨S1024x1024, .f32⟩
  | .local _ .vmem, ⟨4, _⟩ => ⟨S1408x1024, .f32⟩
  | .local _ .vmem, ⟨5, _⟩ => ⟨S1408x1024, .f32⟩
  | .local _ .vmem, ⟨6, _⟩ => ⟨S1408x1024, .f32⟩
  | _, _ => ⟨S16384x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 16], ![false, false, false]⟩

def k0_cond3 (i : grid0.Coords) : BitVec 1 :=
  let arg2 : BitVec 32 := BitVec.ofNat 32 (i 2).val
  let c15_i32 : BitVec 32 := 15#32
  let v11 : BitVec 1 := Scalar.cmpi .eq arg2 c15_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Dw2RefIdeal.lean ====
abbrev S16384x2816 : Shape := ⟨2, ![16384, 2816]⟩
abbrev S16384x1024 : Shape := ⟨2, ![16384, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 7
  | .vmem => 0
  | .smem => 0
  | _ => 0

abbrev bufTy : (tb : Table) → Fin (tcTables nBuf tb) → BufTy
  | .hbm, ⟨0, _⟩ => ⟨S16384x2816, .f32⟩
  | .hbm, ⟨1, _⟩ => ⟨S16384x1024, .f32⟩
  | .hbm, ⟨2, _⟩ => ⟨S_, .f32⟩
  | .hbm, ⟨3, _⟩ => ⟨S2816x1024, .f32⟩
  | .hbm, ⟨4, _⟩ => ⟨S16384x1024, .f32⟩
  | .hbm, ⟨5, _⟩ => ⟨S1024x2816, .f32⟩
  | .hbm, ⟨6, _⟩ => ⟨S2816x1024, .f32⟩
  | _, _ => ⟨S16384x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== InB.lean ====
abbrev S16384x1024 : Shape := ⟨2, ![16384, 1024]⟩
abbrev S1024x4096 : Shape := ⟨2, ![1024, 4096]⟩
abbrev S16384x4096 : Shape := ⟨2, ![16384, 4096]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S16384x1024, .f32⟩
  | .hbm, ⟨1, _⟩ => ⟨S1024x4096, .f32⟩
  | .hbm, ⟨2, _⟩ => ⟨S16384x1024, .bf16⟩
  | .hbm, ⟨3, _⟩ => ⟨S1024x4096, .bf16⟩
  | .hbm, ⟨4, _⟩ => ⟨S16384x4096, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 4, 1], ![false, false, false]⟩

def k0_cond3 (i : grid0.Coords) : BitVec 1 :=
  let arg2 : BitVec 32 := BitVec.ofNat 32 (i 2).val
  let c0_i32_6 : BitVec 32 := 0#32
  let v11 : BitVec 1 := Scalar.cmpi .eq arg2 c0_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InBRefIdeal.lean ====
abbrev S16384x1024 : Shape := ⟨2, ![16384, 1024]⟩
abbrev S1024x4096 : Shape := ⟨2, ![1024, 4096]⟩
abbrev S16384x4096 : Shape := ⟨2, ![16384, 4096]⟩

abbrev nBuf : Space → Nat
  | .hbm => 3
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x4096, .f32⟩
  | .hbm, ⟨2, _⟩ => ⟨S16384x4096, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== DhB.lean ====
abbrev S16384x4096 : Shape := ⟨2, ![16384, 4096]⟩
abbrev S1024x4096 : Shape := ⟨2, ![1024, 4096]⟩
abbrev S16384x1024 : Shape := ⟨2, ![16384, 1024]⟩
abbrev S1024x1024 : Shape := ⟨2, ![1024, 1024]⟩

abbrev nBuf : Space → Nat
  | .hbm => 6
  | .vmem => 9
  | .smem => 0
  | _ => 0

abbrev bufTy : (tb : Table) → Fin (tcTables nBuf tb) → BufTy
  | .hbm, ⟨0, _⟩ => ⟨S16384x4096, .f32⟩
  | .hbm, ⟨1, _⟩ => ⟨S1024x4096, .f32⟩
  | .hbm, ⟨2, _⟩ => ⟨S16384x1024, .f32⟩
  | .hbm, ⟨3, _⟩ => ⟨S16384x4096, .bf16⟩
  | .hbm, ⟨4, _⟩ => ⟨S1024x4096, .bf16⟩
  | .hbm, ⟨5, _⟩ => ⟨S16384x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![16, 1, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DhBRefIdeal.lean ====
abbrev S16384x4096 : Shape := ⟨2, ![16384, 4096]⟩
abbrev S1024x4096 : Shape := ⟨2, ![1024, 4096]⟩
abbrev S16384x1024 : Shape := ⟨2, ![16384, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S1024x4096, .f32⟩
  | .hbm, ⟨2, _⟩ => ⟨S16384x1024, .f32⟩
  | .hbm, ⟨3, _⟩ => ⟨S_, .f32⟩
  | .hbm, ⟨4, _⟩ => ⟨S16384x1024, .f32⟩
  | .hbm, ⟨5, _⟩ => ⟨S16384x4096, .f32⟩
  | .hbm, ⟨6, _⟩ => ⟨S16384x1024, .f32⟩
  | .hbm, ⟨7, _⟩ => ⟨S16384x1024, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== DwB.lean ====
abbrev S16384x1024 : Shape := ⟨2, ![16384, 1024]⟩
abbrev S16384x4096 : Shape := ⟨2, ![16384, 4096]⟩
abbrev S1024x4096 : Shape := ⟨2, ![1024, 4096]⟩
abbrev S1024x512 : Shape := ⟨2, ![1024, 512]⟩
abbrev S1024x1024 : Shape := ⟨2, ![1024, 1024]⟩
abbrev S512x1024 : Shape := ⟨2, ![512, 1024]⟩

abbrev nBuf : Space → Nat
  | .hbm => 5
  | .vmem => 7
  | .smem => 0
  | _ => 0

abbrev bufTy : (tb : Table) → Fin (tcTables nBuf tb) → BufTy
  | .hbm, ⟨0, _⟩ => ⟨S16384x1024, .f32⟩
  | .hbm, ⟨1, _⟩ => ⟨S16384x4096, .f32⟩
  | .hbm, ⟨2, _⟩ => ⟨S16384x1024, .bf16⟩
  | .hbm, ⟨3, _⟩ => ⟨S16384x4096, .bf16⟩
  | .hbm, ⟨4, _⟩ => ⟨S1024x4096, .f32⟩
  | .local _ .vmem, ⟨0, _⟩ => ⟨S1024x512, .bf16⟩
  | .local _ .vmem, ⟨1, _⟩ => ⟨S1024x512, .bf16⟩
  | .local _ .vmem, ⟨2, _⟩ => ⟨S1024x1024, .bf16⟩
  | .local _ .vmem, ⟨3, _⟩ => ⟨S1024x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 16], ![false, false, false]⟩

def k0_cond3 (i : grid0.Coords) : BitVec 1 :=
  let arg2 : BitVec 32 := BitVec.ofNat 32 (i 2).val
  let c15_i32 : BitVec 32 := 15#32
  let v11 : BitVec 1 := Scalar.cmpi .eq arg2 c15_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwBRefIdeal.lean ====
abbrev S16384x1024 : Shape := ⟨2, ![16384, 1024]⟩
abbrev S16384x4096 : Shape := ⟨2, ![16384, 4096]⟩
abbrev S_ : Shape := ⟨0, ![]⟩
abbrev S1024x4096 : Shape := ⟨2, ![1024, 4096]⟩
abbrev S4096x1024 : Shape := ⟨2, ![4096, 1024]⟩

abbrev nBuf : Space → Nat
  | .hbm => 7
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x4096, .f32⟩
  | .hbm, ⟨2, _⟩ => ⟨S_, .f32⟩
  | .hbm, ⟨3, _⟩ => ⟨S1024x4096, .f32⟩
  | .hbm, ⟨4, _⟩ => ⟨S16384x4096, .f32⟩
  | .hbm, ⟨5, _⟩ => ⟨S4096x1024, .f32⟩
  | .hbm, ⟨6, _⟩ => ⟨S1024x4096, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== InG.lean ====
abbrev S16384x1024 : Shape := ⟨2, ![16384, 1024]⟩
abbrev S1024x3072 : Shape := ⟨2, ![1024, 3072]⟩
abbrev S16384x3072 : Shape := ⟨2, ![16384, 3072]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S16384x1024, .f32⟩
  | .hbm, ⟨1, _⟩ => ⟨S1024x3072, .f32⟩
  | .hbm, ⟨2, _⟩ => ⟨S16384x1024, .bf16⟩
  | .hbm, ⟨3, _⟩ => ⟨S1024x3072, .bf16⟩
  | .hbm, ⟨4, _⟩ => ⟨S16384x3072, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 3, 1], ![false, false, false]⟩

def k0_cond3 (i : grid0.Coords) : BitVec 1 :=
  let arg2 : BitVec 32 := BitVec.ofNat 32 (i 2).val
  let c0_i32_6 : BitVec 32 := 0#32
  let v11 : BitVec 1 := Scalar.cmpi .eq arg2 c0_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InGRefIdeal.lean ====
abbrev S16384x1024 : Shape := ⟨2, ![16384, 1024]⟩
abbrev S1024x3072 : Shape := ⟨2, ![1024, 3072]⟩
abbrev S16384x3072 : Shape := ⟨2, ![16384, 3072]⟩

abbrev nBuf : Space → Nat
  | .hbm => 4
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x3072, .f32⟩
  | .hbm, ⟨2, _⟩ => ⟨S16384x3072, .f32⟩
  | .hbm, ⟨3, _⟩ => ⟨S16384x3072, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== DhG.lean ====
abbrev S16384x1024 : Shape := ⟨2, ![16384, 1024]⟩
abbrev S1024x1024 : Shape := ⟨2, ![1024, 1024]⟩

abbrev nBuf : Space → Nat
  | .hbm => 6
  | .vmem => 8
  | .smem => 0
  | _ => 0

abbrev bufTy : (tb : Table) → Fin (tcTables nBuf tb) → BufTy
  | .hbm, ⟨0, _⟩ => ⟨S16384x1024, .f32⟩
  | .hbm, ⟨1, _⟩ => ⟨S1024x1024, .f32⟩
  | .hbm, ⟨2, _⟩ => ⟨S16384x1024, .f32⟩
  | .hbm, ⟨3, _⟩ => ⟨S16384x1024, .bf16⟩
  | .hbm, ⟨4, _⟩ => ⟨S1024x1024, .bf16⟩
  | .hbm, ⟨5, _⟩ => ⟨S16384x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![16, 1, 1], ![false, false, false]⟩

def k0_cond3 (i : grid0.Coords) : BitVec 1 :=
  let arg2 : BitVec 32 := BitVec.ofNat 32 (i 2).val
  let c0_i32_6 : BitVec 32 := 0#32
  let v11 : BitVec 1 := Scalar.cmpi .eq arg2 c0_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DhGRefIdeal.lean ====
abbrev S16384x1024 : Shape := ⟨2, ![16384, 1024]⟩
abbrev S1024x1024 : Shape := ⟨2, ![1024, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x1024, .f32⟩
  | .hbm, ⟨2, _⟩ => ⟨S16384x1024, .f32⟩
  | .hbm, ⟨3, _⟩ => ⟨S_, .f32⟩
  | .hbm, ⟨4, _⟩ => ⟨S16384x1024, .f32⟩
  | .hbm, ⟨5, _⟩ => ⟨S16384x1024, .f32⟩
  | .hbm, ⟨6, _⟩ => ⟨S16384x1024, .f32⟩
  | .hbm, ⟨7, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== DwG.lean ====
abbrev S16384x1024 : Shape := ⟨2, ![16384, 1024]⟩
abbrev S1024x1024 : Shape := ⟨2, ![1024, 1024]⟩
abbrev S1024x512 : Shape := ⟨2, ![1024, 512]⟩
abbrev S512x1024 : Shape := ⟨2, ![512, 1024]⟩

abbrev nBuf : Space → Nat
  | .hbm => 5
  | .vmem => 7
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .bf16⟩
  | .hbm, ⟨3, _⟩ => ⟨S16384x1024, .bf16⟩
  | .hbm, ⟨4, _⟩ => ⟨S1024x1024, .f32⟩
  | .local _ .vmem, ⟨0, _⟩ => ⟨S1024x512, .bf16⟩
  | .local _ .vmem, ⟨1, _⟩ => ⟨S1024x512, .bf16⟩
  | .local _ .vmem, ⟨2, _⟩ => ⟨S1024x1024, .bf16⟩
  | .local _ .vmem, ⟨3, _⟩ => ⟨S1024x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 16], ![false, false, false]⟩

def k0_cond3 (i : grid0.Coords) : BitVec 1 :=
  let arg2 : BitVec 32 := BitVec.ofNat 32 (i 2).val
  let c15_i32 : BitVec 32 := 15#32
  let v11 : BitVec 1 := Scalar.cmpi .eq arg2 c15_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwGRefIdeal.lean ====
abbrev S16384x1024 : Shape := ⟨2, ![16384, 1024]⟩
abbrev S_ : Shape := ⟨0, ![]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S_, .f32⟩
  | .hbm, ⟨3, _⟩ => ⟨S1024x1024, .f32⟩
  | .hbm, ⟨4, _⟩ => ⟨S16384x1024, .f32⟩
  | .hbm, ⟨5, _⟩ => ⟨S1024x1024, .f32⟩
  | .hbm, ⟨6, _⟩ => ⟨S1024x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Out.lean ====
abbrev S16384x1024 : Shape := ⟨2, ![16384, 1024]⟩
abbrev S1024x1024 : Shape := ⟨2, ![1024, 1024]⟩

abbrev nBuf : Space → Nat
  | .hbm => 6
  | .vmem => 8
  | .smem => 0
  | _ => 0

abbrev bufTy : (tb : Table) → Fin (tcTables nBuf tb) → BufTy
  | .hbm, ⟨0, _⟩ => ⟨S16384x1024, .f32⟩
  | .hbm, ⟨1, _⟩ => ⟨S1024x1024, .f32⟩
  | .hbm, ⟨2, _⟩ => ⟨S16384x1024, .f32⟩
  | .hbm, ⟨3, _⟩ => ⟨S16384x1024, .bf16⟩
  | .hbm, ⟨4, _⟩ => ⟨S1024x1024, .bf16⟩
  | .hbm, ⟨5, _⟩ => ⟨S16384x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![16, 1, 1], ![false, false, false]⟩

def k0_cond3 (i : grid0.Coords) : BitVec 1 :=
  let arg2 : BitVec 32 := BitVec.ofNat 32 (i 2).val
  let c0_i32_6 : BitVec 32 := 0#32
  let v11 : BitVec 1 := Scalar.cmpi .eq arg2 c0_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== OutRefIdeal.lean ====
abbrev S16384x1024 : Shape := ⟨2, ![16384, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x1024, .f32⟩
  | .hbm, ⟨2, _⟩ => ⟨S16384x1024, .f32⟩
  | .hbm, ⟨3, _⟩ => ⟨S16384x1024, .f32⟩
  | .hbm, ⟨4, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== DwOut.lean ====
abbrev S16384x1024 : Shape := ⟨2, ![16384, 1024]⟩
abbrev S1024x1024 : Shape := ⟨2, ![1024, 1024]⟩
abbrev S1024x512 : Shape := ⟨2, ![1024, 512]⟩
abbrev S512x1024 : Shape := ⟨2, ![512, 1024]⟩

abbrev nBuf : Space → Nat
  | .hbm => 4
  | .vmem => 7
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .bf16⟩
  | .hbm, ⟨3, _⟩ => ⟨S1024x1024, .f32⟩
  | .local _ .vmem, ⟨0, _⟩ => ⟨S1024x512, .bf16⟩
  | .local _ .vmem, ⟨1, _⟩ => ⟨S1024x512, .bf16⟩
  | .local _ .vmem, ⟨2, _⟩ => ⟨S1024x1024, .f32⟩
  | .local _ .vmem, ⟨3, _⟩ => ⟨S1024x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 16], ![false, false, false]⟩

def k0_cond3 (i : grid0.Coords) : BitVec 1 :=
  let arg2 : BitVec 32 := BitVec.ofNat 32 (i 2).val
  let c15_i32 : BitVec 32 := 15#32
  let v11 : BitVec 1 := Scalar.cmpi .eq arg2 c15_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwOutRefIdeal.lean ====
abbrev S16384x1024 : Shape := ⟨2, ![16384, 1024]⟩
abbrev S_ : Shape := ⟨0, ![]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S_, .f32⟩
  | .hbm, ⟨3, _⟩ => ⟨S1024x1024, .f32⟩
  | .hbm, ⟨4, _⟩ => ⟨S16384x1024, .f32⟩
  | .hbm, ⟨5, _⟩ => ⟨S1024x1024, .f32⟩
  | .hbm, ⟨6, _⟩ => ⟨S1024x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Merge.lean ====
abbrev S16384x512 : Shape := ⟨2, ![16384, 512]⟩
abbrev S512x1024 : Shape := ⟨2, ![512, 1024]⟩
abbrev S16384x3072 : Shape := ⟨2, ![16384, 3072]⟩
abbrev S16384x1024 : Shape := ⟨2, ![16384, 1024]⟩
abbrev S512x512 : Shape := ⟨2, ![512, 512]⟩

abbrev nBuf : Space → Nat
  | .hbm => 14
  | .vmem => 20
  | .smem => 0
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S16384x512, .f32⟩
  | .hbm, ⟨3, _⟩ => ⟨S512x1024, .f32⟩
  | .hbm, ⟨4, _⟩ => ⟨S512x1024, .f32⟩
  | .hbm, ⟨5, _⟩ => ⟨S512x1024, .f32⟩
  | .hbm, ⟨6, _⟩ => ⟨S16384x3072, .f32⟩
  | .hbm, ⟨7, _⟩ => ⟨S16384x512, .bf16⟩
  | .hbm, ⟨8, _⟩ => ⟨S16384x512, .bf16⟩
  | .hbm, ⟨9, _⟩ => ⟨S512x1024, .bf16⟩
  | .hbm, ⟨10, _⟩ => ⟨S512x1024, .bf16⟩
  | .hbm, ⟨11, _⟩ => ⟨S512x1024, .bf16⟩
  | .hbm, ⟨12, _⟩ => ⟨S16384x3072, .bf16⟩
  | .hbm, ⟨13, _⟩ => ⟨S16384x1024, .bf16⟩
  | .local _ .vmem, ⟨0, _⟩ => ⟨S512x512, .f32⟩
  | .local _ .vmem, ⟨1, _⟩ => ⟨S512x512, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S512x512, .bf16⟩
  | .local _ .vmem, ⟨11, _⟩ => ⟨S512x512, .bf16⟩
  | .local _ .vmem, ⟨12, _⟩ => ⟨S512x512, .bf16⟩
  | .local _ .vmem, ⟨13, _⟩ => ⟨S512x512, .bf16⟩
  | .local _ .vmem, ⟨14, _⟩ => ⟨S512x512, .bf16⟩
  | .local _ .vmem, ⟨15, _⟩ => ⟨S512x512, .bf16⟩
  | .local _ .vmem, ⟨16, _⟩ => ⟨S512x512, .bf16⟩
  | .local _ .vmem, ⟨17, _⟩ => ⟨S512x512, .bf16⟩
  | .local _ .vmem, ⟨18, _⟩ => ⟨S512x512, .bf16⟩
  | .local _ .vmem, ⟨19, _⟩ => ⟨S512x512, .bf16⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![32, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_7 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  ![arg0.toNat, v0.toNat]

def cc0_transform_8 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  ![arg0.toNat, v0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== MergeRefIdeal.lean ====
abbrev S16384x512 : Shape := ⟨2, ![16384, 512]⟩
abbrev S512x1024 : Shape := ⟨2, ![512, 1024]⟩
abbrev S16384x3072 : Shape := ⟨2, ![16384, 3072]⟩
abbrev S16384x1024 : Shape := ⟨2, ![16384, 1024]⟩
abbrev S_ : Shape := ⟨0, ![]⟩

abbrev nBuf : Space → Nat
  | .hbm => 46
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S16384x512, .f32⟩
  | .hbm, ⟨3, _⟩ => ⟨S512x1024, .f32⟩
  | .hbm, ⟨4, _⟩ => ⟨S512x1024, .f32⟩
  | .hbm, ⟨5, _⟩ => ⟨S512x1024, .f32⟩
  | .hbm, ⟨6, _⟩ => ⟨S16384x3072, .f32⟩
  | .hbm, ⟨7, _⟩ => ⟨S16384x1024, .f32⟩
  | .hbm, ⟨8, _⟩ => ⟨S16384x1024, .f32⟩
  | .hbm, ⟨9, _⟩ => ⟨S16384x1024, .f32⟩
  | .hbm, ⟨10, _⟩ => ⟨S16384x1024, .f32⟩
  | .hbm, ⟨11, _⟩ => ⟨S16384x1024, .f32⟩
  | .hbm, ⟨12, _⟩ => ⟨S16384x1024, .f32⟩
  | .hbm, ⟨13, _⟩ => ⟨S16384x1024, .f32⟩
  | .hbm, ⟨14, _⟩ => ⟨S16384x1024, .f32⟩
  | .hbm, ⟨15, _⟩ => ⟨S_, .f32⟩
  | .hbm, ⟨16, _⟩ => ⟨S16384x1024, .f32⟩
  | .hbm, ⟨17, _⟩ => ⟨S16384x1024, .f32⟩
  | .hbm, ⟨18, _⟩ => ⟨S_, .f32⟩
  | .hbm, ⟨19, _⟩ => ⟨S16384x1024, .f32⟩
  | .hbm, ⟨20, _⟩ => ⟨S16384x1024, .f32⟩
  | .hbm, ⟨21, _⟩ => ⟨S16384x1024, .f32⟩
  | .hbm, ⟨22, _⟩ => ⟨S_, .f32⟩
  | .hbm, ⟨23, _⟩ => ⟨S16384x1024, .f32⟩
  | .hbm, ⟨24, _⟩ => ⟨S16384x1024, .f32⟩
  | .hbm, ⟨25, _⟩ => ⟨S16384x1024, .f32⟩
  | .hbm, ⟨26, _⟩ => ⟨S16384x1024, .f32⟩
  | .hbm, ⟨27, _⟩ => ⟨S_, .f32⟩
  | .hbm, ⟨28, _⟩ => ⟨S16384x1024, .f32⟩
  | .hbm, ⟨29, _⟩ => ⟨S16384x1024, .f32⟩
  | .hbm, ⟨30, _⟩ => ⟨S_, .f32⟩
  | .hbm, ⟨31, _⟩ => ⟨S16384x1024, .f32⟩
  | .hbm, ⟨32, _⟩ => ⟨S16384x1024, .f32⟩
  | .hbm, ⟨33, _⟩ => ⟨S16384x1024, .f32⟩
  | .hbm, ⟨34, _⟩ => ⟨S16384x1024, .f32⟩
  | .hbm, ⟨35, _⟩ => ⟨S16384x1024, .f32⟩
  | .hbm, ⟨36, _⟩ => ⟨S16384x1024, .f32⟩
  | .hbm, ⟨37, _⟩ => ⟨S_, .f32⟩
  | .hbm, ⟨38, _⟩ => ⟨S16384x1024, .f32⟩
  | .hbm, ⟨39, _⟩ => ⟨S16384x1024, .f32⟩
  | .hbm, ⟨40, _⟩ => ⟨S_, .f32⟩
  | .hbm, ⟨41, _⟩ => ⟨S16384x1024, .f32⟩
  | .hbm, ⟨42, _⟩ => ⟨S16384x1024, .f32⟩
  | .hbm, ⟨43, _⟩ => ⟨S16384x1024, .f32⟩
  | .hbm, ⟨44, _⟩ => ⟨S16384x1024, .f32⟩
  | .hbm, ⟨45, _⟩ => ⟨S16384x1024, .bf16⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_v18 : Ref sig .tc := ⟨.hbm, 29, rfl⟩
abbrev main_cst_3 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_4 : Ref sig .tc := ⟨.hbm, 37, rfl⟩
abbrev main_v25 : Ref sig .tc := ⟨.hbm, 38, rfl⟩
abbrev main_v26 : Ref sig .tc := ⟨.hbm, 39, rfl⟩
abbrev main_cst_5 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩

abbrev nD : Nat := 1
abbrev τ : Topo := Topo.v7x

variable {F : FTy → Type} [FloatOps F]
-- ==== MergeBwd.lean ====
abbrev S16384x512 : Shape := ⟨2, ![16384, 512]⟩
abbrev S512x1024 : Shape := ⟨2, ![512, 1024]⟩
abbrev S16384x3072 : Shape := ⟨2, ![16384, 3072]⟩
abbrev S16384x1024 : Shape := ⟨2, ![16384, 1024]⟩
abbrev S512x512 : Shape := ⟨2, ![512, 512]⟩

abbrev nBuf : Space → Nat
  | .hbm => 20
  | .vmem => 32
  | .smem => 0
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S16384x512, .f32⟩
  | .hbm, ⟨3, _⟩ => ⟨S512x1024, .f32⟩
  | .hbm, ⟨4, _⟩ => ⟨S512x1024, .f32⟩
  | .hbm, ⟨5, _⟩ => ⟨S512x1024, .f32⟩
  | .hbm, ⟨6, _⟩ => ⟨S16384x3072, .f32⟩
  | .hbm, ⟨7, _⟩ => ⟨S16384x1024, .f32⟩
  | .hbm, ⟨8, _⟩ => ⟨S16384x512, .bf16⟩
  | .hbm, ⟨9, _⟩ => ⟨S16384x512, .bf16⟩
  | .hbm, ⟨10, _⟩ => ⟨S512x1024, .bf16⟩
  | .hbm, ⟨11, _⟩ => ⟨S512x1024, .bf16⟩
  | .hbm, ⟨12, _⟩ => ⟨S512x1024, .bf16⟩
  | .hbm, ⟨13, _⟩ => ⟨S16384x3072, .bf16⟩
  | .hbm, ⟨14, _⟩ => ⟨S16384x1024, .bf16⟩
  | .hbm, ⟨15, _⟩ => ⟨S16384x1024, .bf16⟩
  | .hbm, ⟨16, _⟩ => ⟨S16384x1024, .bf16⟩
  | .hbm, ⟨17, _⟩ => ⟨S16384x1024, .bf16⟩
  | .hbm, ⟨18, _⟩ => ⟨S16384x1024, .bf16⟩
  | .hbm, ⟨19, _⟩ => ⟨S16384x1024, .bf16⟩
  | .local _ .vmem, ⟨0, _⟩ => ⟨S512x512, .f32⟩
  | .local _ .vmem, ⟨1, _⟩ => ⟨S512x512, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S512x512, .bf16⟩
  | .local _ .vmem, ⟨11, _⟩ => ⟨S512x512, .bf16⟩
  | .local _ .vmem, ⟨12, _⟩ => ⟨S512x512, .bf16⟩
  | .local _ .vmem, ⟨13, _⟩ => ⟨S512x512, .bf16⟩
  | .local _ .vmem, ⟨14, _⟩ => ⟨S512x512, .bf16⟩
  | .local _ .vmem, ⟨15, _⟩ => ⟨S512x512, .bf16⟩
  | .local _ .vmem, ⟨16, _⟩ => ⟨S512x512, .bf16⟩
  | .local _ .vmem, ⟨17, _⟩ => ⟨S512x512, .bf16⟩
  | .local _ .vmem, ⟨18, _⟩ => ⟨S512x512, .f32⟩
  | .local _ .vmem, ⟨19, _⟩ => ⟨S512x512, .f32⟩
  | .local _ .vmem, ⟨20, _⟩ => ⟨S512x512, .bf16⟩
  | .local _ .vmem, ⟨21, _⟩ => ⟨S512x512, .bf16⟩
  | .local _ .vmem, ⟨22, _⟩ => ⟨S512x512, .bf16⟩
  | .local _ .vmem, ⟨23, _⟩ => ⟨S512x512, .bf16⟩
  | .local _ .vmem, ⟨24, _⟩ => ⟨S512x512, .bf16⟩
  | .local _ .vmem, ⟨25, _⟩ => ⟨S512x512, .bf16⟩
  | .local _ .vmem, ⟨26, _⟩ => ⟨S512x512, .bf16⟩
  | .local _ .vmem, ⟨27, _⟩ => ⟨S512x512, .bf16⟩
  | .local _ .vmem, ⟨28, _⟩ => ⟨S512x512, .bf16⟩
  | .local _ .vmem, ⟨29, _⟩ => ⟨S512x512, .bf16⟩
  | .local _ .vmem, ⟨30, _⟩ => ⟨S512x512, .bf16⟩
  | .local _ .vmem, ⟨31, _⟩ => ⟨S512x512, .bf16⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6_0 : Ref sig .tc := ⟨.hbm, 14, rfl⟩
abbrev main_v6_1 : Ref sig .tc := ⟨.hbm, 15, rfl⟩
abbrev main_v6_2 : Ref sig .tc := ⟨.hbm, 16, rfl⟩
abbrev main_v6_3 : Ref sig .tc := ⟨.hbm, 17, rfl⟩
abbrev main_v6_4 : Ref sig .tc := ⟨.hbm, 18, rfl⟩
abbrev main_v6_5 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31

abbrev nD : Nat := 1
abbrev τ : Topo := Topo.v7x

variable {F : FTy → Type} [FloatOps F]

abbrev grid0 : Pipeline.Grid := ⟨2, ![32, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_7 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  ![arg0.toNat, v0.toNat]

def cc0_transform_8 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  ![arg0.toNat, v0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S512x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S512x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S512x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]
-- ==== MergeBwdRefIdeal.lean ====
abbrev S16384x512 : Shape := ⟨2, ![16384, 512]⟩
abbrev S512x1024 : Shape := ⟨2, ![512, 1024]⟩
abbrev S16384x3072 : Shape := ⟨2, ![16384, 3072]⟩
abbrev S16384x1024 : Shape := ⟨2, ![16384, 1024]⟩
abbrev S_ : Shape := ⟨0, ![]⟩

abbrev nBuf : Space → Nat
  | .hbm => 75
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S16384x512, .f32⟩
  | .hbm, ⟨3, _⟩ => ⟨S512x1024, .f32⟩
  | .hbm, ⟨4, _⟩ => ⟨S512x1024, .f32⟩
  | .hbm, ⟨5, _⟩ => ⟨S512x1024, .f32⟩
  | .hbm, ⟨6, _⟩ => ⟨S16384x3072, .f32⟩
  | .hbm, ⟨7, _⟩ => ⟨S16384x1024, .f32⟩
  | .hbm, ⟨8, _⟩ => ⟨S16384x1024, .f32⟩
  | .hbm, ⟨9, _⟩ => ⟨S16384x1024, .f32⟩
  | .hbm, ⟨10, _⟩ => ⟨S16384x1024, .f32⟩
  | .hbm, ⟨11, _⟩ => ⟨S16384x1024, .f32⟩
  | .hbm, ⟨12, _⟩ => ⟨S16384x1024, .f32⟩
  | .hbm, ⟨13, _⟩ => ⟨S16384x1024, .f32⟩
  | .hbm, ⟨14, _⟩ => ⟨S16384x1024, .f32⟩
  | .hbm, ⟨15, _⟩ => ⟨S16384x1024, .f32⟩
  | .hbm, ⟨16, _⟩ => ⟨S_, .f32⟩
  | .hbm, ⟨17, _⟩ => ⟨S16384x1024, .f32⟩
  | .hbm, ⟨18, _⟩ => ⟨S16384x1024, .f32⟩
  | .hbm, ⟨19, _⟩ => ⟨S_, .f32⟩
  | .hbm, ⟨20, _⟩ => ⟨S16384x1024, .f32⟩
  | .hbm, ⟨21, _⟩ => ⟨S16384x1024, .f32⟩
  | .hbm, ⟨22, _⟩ => ⟨S_, .f32⟩
  | .hbm, ⟨23, _⟩ => ⟨S16384x1024, .f32⟩
  | .hbm, ⟨24, _⟩ => ⟨S16384x1024, .f32⟩
  | .hbm, ⟨25, _⟩ => ⟨S16384x1024, .f32⟩
  | .hbm, ⟨26, _⟩ => ⟨S16384x1024, .f32⟩
  | .hbm, ⟨27, _⟩ => ⟨S_, .f32⟩
  | .hbm, ⟨28, _⟩ => ⟨S16384x1024, .f32⟩
  | .hbm, ⟨29, _⟩ => ⟨S16384x1024, .f32⟩
  | .hbm, ⟨30, _⟩ => ⟨S16384x1024, .f32⟩
  | .hbm, ⟨31, _⟩ => ⟨S16384x1024, .f32⟩
  | .hbm, ⟨32, _⟩ => ⟨S_, .f32⟩
  | .hbm, ⟨33, _⟩ => ⟨S16384x1024, .f32⟩
  | .hbm, ⟨34, _⟩ => ⟨S16384x1024, .f32⟩
  | .hbm, ⟨35, _⟩ => ⟨S_, .f32⟩
  | .hbm, ⟨36, _⟩ => ⟨S16384x1024, .f32⟩
  | .hbm, ⟨37, _⟩ => ⟨S16384x1024, .f32⟩
  | .hbm, ⟨38, _⟩ => ⟨S_, .f32⟩
  | .hbm, ⟨39, _⟩ => ⟨S16384x1024, .f32⟩
  | .hbm, ⟨40, _⟩ => ⟨S16384x1024, .f32⟩
  | .hbm, ⟨41, _⟩ => ⟨S16384x1024, .f32⟩
  | .hbm, ⟨42, _⟩ => ⟨S16384x1024, .f32⟩
  | .hbm, ⟨43, _⟩ => ⟨S16384x1024, .f32⟩
  | .hbm, ⟨44, _⟩ => ⟨S16384x1024, .f32⟩
  | .hbm, ⟨45, _⟩ => ⟨S16384x1024, .f32⟩
  | .hbm, ⟨46, _⟩ => ⟨S_, .f32⟩
  | .hbm, ⟨47, _⟩ => ⟨S16384x1024, .f32⟩
  | .hbm, ⟨48, _⟩ => ⟨S16384x1024, .f32⟩
  | .hbm, ⟨49, _⟩ => ⟨S_, .f32⟩
  | .hbm, ⟨50, _⟩ => ⟨S16384x1024, .f32⟩
  | .hbm, ⟨51, _⟩ => ⟨S16384x1024, .f32⟩
  | .hbm, ⟨52, _⟩ => ⟨S_, .f32⟩
  | .hbm, ⟨53, _⟩ => ⟨S16384x1024, .f32⟩
  | .hbm, ⟨54, _⟩ => ⟨S16384x1024, .f32⟩
  | .hbm, ⟨55, _⟩ => ⟨S16384x1024, .f32⟩
  | .hbm, ⟨56, _⟩ => ⟨S16384x1024, .f32⟩
  | .hbm, ⟨57, _⟩ => ⟨S16384x1024, .f32⟩
  | .hbm, ⟨58, _⟩ => ⟨S16384x1024, .f32⟩
  | .hbm, ⟨59, _⟩ => ⟨S16384x1024, .f32⟩
  | .hbm, ⟨60, _⟩ => ⟨S16384x1024, .f32⟩
  | .hbm, ⟨61, _⟩ => ⟨S16384x1024, .f32⟩
  | .hbm, ⟨62, _⟩ => ⟨S16384x1024, .f32⟩
  | .hbm, ⟨63, _⟩ => ⟨S16384x1024, .f32⟩
  | .hbm, ⟨64, _⟩ => ⟨S16384x1024, .f32⟩
  | .hbm, ⟨65, _⟩ => ⟨S16384x1024, .f32⟩
  | .hbm, ⟨66, _⟩ => ⟨S16384x1024, .f32⟩
  | .hbm, ⟨67, _⟩ => ⟨S16384x1024, .f32⟩
  | .hbm, ⟨68, _⟩ => ⟨S16384x1024, .f32⟩
  | .hbm, ⟨69, _⟩ => ⟨S16384x1024, .bf16⟩
  | .hbm, ⟨70, _⟩ => ⟨S16384x1024, .bf16⟩
  | .hbm, ⟨71, _⟩ => ⟨S16384x1024, .bf16⟩
  | .hbm, ⟨72, _⟩ => ⟨S16384x1024, .bf16⟩
  | .hbm, ⟨73, _⟩ => ⟨S16384x1024, .bf16⟩
  | .hbm, ⟨74, _⟩ => ⟨S16384x1024, .bf16⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_cst_0 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_2 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_3 : Ref sig .tc := ⟨.hbm, 32, rfl⟩
abbrev main_v20 : Ref sig .tc := ⟨.hbm, 33, rfl⟩
abbrev main_v21 : Ref sig .tc := ⟨.hbm, 34, rfl⟩
abbrev main_cst_4 : Ref sig .tc := ⟨.hbm, 35, rfl⟩
abbrev main_v22 : Ref sig .tc := ⟨.hbm, 36, rfl⟩
abbrev main_v23 : Ref sig .tc := ⟨.hbm, 37, rfl⟩
abbrev main_cst_5 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_6 : Ref sig .tc := ⟨.hbm, 46, rfl⟩
abbrev main_v31 : Ref sig .tc := ⟨.hbm, 47, rfl⟩
abbrev main_v32 : Ref sig .tc := ⟨.hbm, 48, rfl⟩
abbrev main_cst_7 : Ref sig .tc := ⟨.hbm, 49, rfl⟩
abbrev main_v33 : Ref sig .tc := ⟨.hbm, 50, rfl⟩
abbrev main_v34 : Ref sig .tc := ⟨.hbm, 51, rfl⟩
abbrev main_cst_8 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩

abbrev nD : Nat := 1
abbrev τ : Topo := Topo.v7x

variable {F : FTy → Type} [FloatOps F]
-- ==== Cross.lean ====
abbrev S16384x1024 : Shape := ⟨2, ![16384, 1024]⟩
abbrev S256x2048 : Shape := ⟨2, ![256, 2048]⟩
abbrev S512x1024 : Shape := ⟨2, ![512, 1024]⟩
abbrev S256x1024 : Shape := ⟨2, ![256, 1024]⟩
abbrev S512x256 : Shape := ⟨2, ![512, 256]⟩
abbrev S256x256 : Shape := ⟨2, ![256, 256]⟩
abbrev S512 : Shape := ⟨1, ![512]⟩
abbrev S512x1 : Shape := ⟨2, ![512, 1]⟩

abbrev nBuf : Space → Nat
  | .hbm => 5
  | .vmem => 6
  | .smem => 0
  | _ => 0

abbrev bufTy : (tb : Table) → Fin (tcTables nBuf tb) → BufTy
  | .hbm, ⟨0, _⟩ => ⟨S16384x1024, .f32⟩
  | .hbm, ⟨1, _⟩ => ⟨S256x2048, .f32⟩
  | .hbm, ⟨2, _⟩ => ⟨S16384x1024, .bf16⟩
  | .hbm, ⟨3, _⟩ => ⟨S256x2048, .bf16⟩
  | .hbm, ⟨4, _⟩ => ⟨S16384x1024, .bf16⟩
  | .local _ .vmem, ⟨0, _⟩ => ⟨S512x1024, .bf16⟩
  | .local _ .vmem, ⟨1, _⟩ => ⟨S512x1024, .bf16⟩
  | .local _ .vmem, ⟨2, _⟩ => ⟨S256x1024, .bf16⟩
  | .local _ .vmem, ⟨3, _⟩ => ⟨S256x1024, .bf16⟩
  | .local _ .vmem, ⟨4, _⟩ => ⟨S512x1024, .bf16⟩
  | .local _ .vmem, ⟨5, _⟩ => ⟨S512x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== CrossRefIdeal.lean ====
abbrev S16384x1024 : Shape := ⟨2, ![16384, 1024]⟩
abbrev S256x2048 : Shape := ⟨2, ![256, 2048]⟩
abbrev S256x2x4x256 : Shape := ⟨4, ![256, 2, 4, 256]⟩
abbrev S16384x4x256 : Shape := ⟨3, ![16384, 4, 256]⟩
abbrev S256x1x4x256 : Shape := ⟨4, ![256, 1, 4, 256]⟩
abbrev S256x4x256 : Shape := ⟨3, ![256, 4, 256]⟩
abbrev S4x16384x256 : Shape := ⟨3, ![4, 16384, 256]⟩
abbrev S_ : Shape := ⟨0, ![]⟩
abbrev S4x16384 : Shape := ⟨2, ![4, 16384]⟩
abbrev S4x16384x1 : Shape := ⟨3, ![4, 16384, 1]⟩
abbrev S4x256x16384 : Shape := ⟨3, ![4, 256, 16384]⟩

abbrev nBuf : Space → Nat
  | .hbm => 27
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S256x2048, .f32⟩
  | .hbm, ⟨2, _⟩ => ⟨S256x2x4x256, .f32⟩
  | .hbm, ⟨3, _⟩ => ⟨S16384x4x256, .f32⟩
  | .hbm, ⟨4, _⟩ => ⟨S256x1x4x256, .f32⟩
  | .hbm, ⟨5, _⟩ => ⟨S256x4x256, .f32⟩
  | .hbm, ⟨6, _⟩ => ⟨S4x16384x256, .f32⟩
  | .hbm, ⟨7, _⟩ => ⟨S_, .f32⟩
  | .hbm, ⟨8, _⟩ => ⟨S4x16384x256, .f32⟩
  | .hbm, ⟨9, _⟩ => ⟨S4x16384x256, .f32⟩
  | .hbm, ⟨10, _⟩ => ⟨S_, .f32⟩
  | .hbm, ⟨11, _⟩ => ⟨S4x16384, .f32⟩
  | .hbm, ⟨12, _⟩ => ⟨S4x16384x1, .f32⟩
  | .hbm, ⟨13, _⟩ => ⟨S4x16384x256, .f32⟩
  | .hbm, ⟨14, _⟩ => ⟨S4x16384x256, .f32⟩
  | .hbm, ⟨15, _⟩ => ⟨S4x16384x256, .f32⟩
  | .hbm, ⟨16, _⟩ => ⟨S_, .f32⟩
  | .hbm, ⟨17, _⟩ => ⟨S4x16384, .f32⟩
  | .hbm, ⟨18, _⟩ => ⟨S4x16384x1, .f32⟩
  | .hbm, ⟨19, _⟩ => ⟨S4x16384x256, .f32⟩
  | .hbm, ⟨20, _⟩ => ⟨S4x16384x256, .f32⟩
  | .hbm, ⟨21, _⟩ => ⟨S256x1x4x256, .f32⟩
  | .hbm, ⟨22, _⟩ => ⟨S256x4x256, .f32⟩
  | .hbm, ⟨23, _⟩ => ⟨S4x256x16384, .f32⟩
  | .hbm, ⟨24, _⟩ => ⟨S16384x4x256, .f32⟩
  | .hbm, ⟨25, _⟩ => ⟨S16384x1024, .f32⟩
  | .hbm, ⟨26, _⟩ => ⟨S16384x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩

abbrev nD : Nat := 1
abbrev τ : Topo := Topo.v7x

variable {F : FTy → Type} [FloatOps F]
-- ==== Xq.lean ====
abbrev S16384x1024 : Shape := ⟨2, ![16384, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S16384x1024, .f32⟩
  | .hbm, ⟨1, _⟩ => ⟨S1024x1024, .f32⟩
  | .hbm, ⟨2, _⟩ => ⟨S16384x1024, .bf16⟩
  | .hbm, ⟨3, _⟩ => ⟨S1024x1024, .bf16⟩
  | .hbm, ⟨4, _⟩ => ⟨S16384x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def k0_cond3 (i : grid0.Coords) : BitVec 1 :=
  let arg2 : BitVec 32 := BitVec.ofNat 32 (i 2).val
  let c0_i32_6 : BitVec 32 := 0#32
  let v11 : BitVec 1 := Scalar.cmpi .eq arg2 c0_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== XqRefIdeal.lean ====
abbrev S16384x1024 : Shape := ⟨2, ![16384, 1024]⟩
abbrev S1024x1024 : Shape := ⟨2, ![1024, 1024]⟩

abbrev nBuf : Space → Nat
  | .hbm => 4
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x1024, .f32⟩
  | .hbm, ⟨2, _⟩ => ⟨S16384x1024, .f32⟩
  | .hbm, ⟨3, _⟩ => ⟨S16384x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Dox.lean ====
abbrev S16384x1024 : Shape := ⟨2, ![16384, 1024]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S16384x1024, .f32⟩
  | .hbm, ⟨1, _⟩ => ⟨S1024x1024, .f32⟩
  | .hbm, ⟨2, _⟩ => ⟨S1024x1024, .bf16⟩
  | .hbm, ⟨3, _⟩ => ⟨S16384x1024, .bf16⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def k0_cond3 (i : grid0.Coords) : BitVec 1 :=
  let arg2 : BitVec 32 := BitVec.ofNat 32 (i 2).val
  let c0_i32_6 : BitVec 32 := 0#32
  let v11 : BitVec 1 := Scalar.cmpi .eq arg2 c0_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DoxRefIdeal.lean ====
abbrev S16384x1024 : Shape := ⟨2, ![16384, 1024]⟩
abbrev S1024x1024 : Shape := ⟨2, ![1024, 1024]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x1024, .f32⟩
  | .hbm, ⟨2, _⟩ => ⟨S_, .f32⟩
  | .hbm, ⟨3, _⟩ => ⟨S16384x1024, .f32⟩
  | .hbm, ⟨4, _⟩ => ⟨S16384x1024, .f32⟩
  | .hbm, ⟨5, _⟩ => ⟨S16384x1024, .f32⟩
  | .hbm, ⟨6, _⟩ => ⟨S16384x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Dmerged.lean ====
abbrev S16384x1024 : Shape := ⟨2, ![16384, 1024]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S16384x1024, .f32⟩
  | .hbm, ⟨1, _⟩ => ⟨S1024x1024, .f32⟩
  | .hbm, ⟨2, _⟩ => ⟨S1024x1024, .bf16⟩
  | .hbm, ⟨3, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def k0_cond3 (i : grid0.Coords) : BitVec 1 :=
  let arg2 : BitVec 32 := BitVec.ofNat 32 (i 2).val
  let c0_i32_6 : BitVec 32 := 0#32
  let v11 : BitVec 1 := Scalar.cmpi .eq arg2 c0_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DmergedRefIdeal.lean ====
abbrev S16384x1024 : Shape := ⟨2, ![16384, 1024]⟩
abbrev S1024x1024 : Shape := ⟨2, ![1024, 1024]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x1024, .f32⟩
  | .hbm, ⟨2, _⟩ => ⟨S_, .f32⟩
  | .hbm, ⟨3, _⟩ => ⟨S16384x1024, .f32⟩
  | .hbm, ⟨4, _⟩ => ⟨S16384x1024, .f32⟩
  | .hbm, ⟨5, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Dh1.lean ====
abbrev S16384x1024 : Shape := ⟨2, ![16384, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S16384x1024, .f32⟩
  | .hbm, ⟨1, _⟩ => ⟨S1024x1024, .f32⟩
  | .hbm, ⟨2, _⟩ => ⟨S16384x1024, .bf16⟩
  | .hbm, ⟨3, _⟩ => ⟨S1024x1024, .bf16⟩
  | .hbm, ⟨4, _⟩ => ⟨S16384x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def k0_cond3 (i : grid0.Coords) : BitVec 1 :=
  let arg2 : BitVec 32 := BitVec.ofNat 32 (i 2).val
  let c0_i32_6 : BitVec 32 := 0#32
  let v11 : BitVec 1 := Scalar.cmpi .eq arg2 c0_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Dh1RefIdeal.lean ====
abbrev S16384x1024 : Shape := ⟨2, ![16384, 1024]⟩
abbrev S1024x1024 : Shape := ⟨2, ![1024, 1024]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x1024, .f32⟩
  | .hbm, ⟨2, _⟩ => ⟨S_, .f32⟩
  | .hbm, ⟨3, _⟩ => ⟨S16384x1024, .f32⟩
  | .hbm, ⟨4, _⟩ => ⟨S16384x1024, .f32⟩
  | .hbm, ⟨5, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== DyA.lean ====
abbrev S16384x1024 : Shape := ⟨2, ![16384, 1024]⟩
abbrev S512x1024 : Shape := ⟨2, ![512, 1024]⟩
abbrev S16384x512 : Shape := ⟨2, ![16384, 512]⟩
abbrev S1024x1024 : Shape := ⟨2, ![1024, 1024]⟩
abbrev S1024x512 : Shape := ⟨2, ![1024, 512]⟩

abbrev nBuf : Space → Nat
  | .hbm => 5
  | .vmem => 6
  | .smem => 0
  | _ => 0

abbrev bufTy : (tb : Table) → Fin (tcTables nBuf tb) → BufTy
  | .hbm, ⟨0, _⟩ => ⟨S16384x1024, .f32⟩
  | .hbm, ⟨1, _⟩ => ⟨S512x1024, .f32⟩
  | .hbm, ⟨2, _⟩ => ⟨S16384x1024, .bf16⟩
  | .hbm, ⟨3, _⟩ => ⟨S512x1024, .bf16⟩
  | .hbm, ⟨4, _⟩ => ⟨S16384x512, .bf16⟩
  | .local _ .vmem, ⟨0, _⟩ => ⟨S1024x1024, .bf16⟩
  | .local _ .vmem, ⟨1, _⟩ => ⟨S1024x1024, .bf16⟩
  | .local _ .vmem, ⟨2, _⟩ => ⟨S512x1024, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def k0_cond3 (i : grid0.Coords) : BitVec 1 :=
  let arg2 : BitVec 32 := BitVec.ofNat 32 (i 2).val
  let c0_i32_6 : BitVec 32 := 0#32
  let v11 : BitVec 1 := Scalar.cmpi .eq arg2 c0_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DyARefIdeal.lean ====
abbrev S16384x1024 : Shape := ⟨2, ![16384, 1024]⟩
abbrev S512x1024 : Shape := ⟨2, ![512, 1024]⟩
abbrev S_ : Shape := ⟨0, ![]⟩
abbrev S16384x512 : Shape := ⟨2, ![16384, 512]⟩

abbrev nBuf : Space → Nat
  | .hbm => 7
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S512x1024, .f32⟩
  | .hbm, ⟨2, _⟩ => ⟨S_, .f32⟩
  | .hbm, ⟨3, _⟩ => ⟨S16384x512, .f32⟩
  | .hbm, ⟨4, _⟩ => ⟨S16384x1024, .f32⟩
  | .hbm, ⟨5, _⟩ => ⟨S16384x512, .f32⟩
  | .hbm, ⟨6, _⟩ => ⟨S16384x512, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== DyB.lean ====
abbrev S16384x1024 : Shape := ⟨2, ![16384, 1024]⟩
abbrev S512x1024 : Shape := ⟨2, ![512, 1024]⟩
abbrev S16384x512 : Shape := ⟨2, ![16384, 512]⟩
abbrev S1024x1024 : Shape := ⟨2, ![1024, 1024]⟩
abbrev S1024x512 : Shape := ⟨2, ![1024, 512]⟩

abbrev nBuf : Space → Nat
  | .hbm => 5
  | .vmem => 6
  | .smem => 0
  | _ => 0

abbrev bufTy : (tb : Table) → Fin (tcTables nBuf tb) → BufTy
  | .hbm, ⟨0, _⟩ => ⟨S16384x1024, .f32⟩
  | .hbm, ⟨1, _⟩ => ⟨S512x1024, .f32⟩
  | .hbm, ⟨2, _⟩ => ⟨S16384x1024, .bf16⟩
  | .hbm, ⟨3, _⟩ => ⟨S512x1024, .bf16⟩
  | .hbm, ⟨4, _⟩ => ⟨S16384x512, .f32⟩
  | .local _ .vmem, ⟨0, _⟩ => ⟨S1024x1024, .bf16⟩
  | .local _ .vmem, ⟨1, _⟩ => ⟨S1024x1024, .bf16⟩
  | .local _ .vmem, ⟨2, _⟩ => ⟨S512x1024, .bf16⟩
  | .local _ .vmem, ⟨3, _⟩ => ⟨S1024x512, .f32⟩
  | .local _ .vmem, ⟨4, _⟩ => ⟨S1024x512, .f32⟩
  | .local _ .vmem, ⟨5, _⟩ => ⟨S1024x512, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def k0_cond3 (i : grid0.Coords) : BitVec 1 :=
  let arg2 : BitVec 32 := BitVec.ofNat 32 (i 2).val
  let c0_i32_6 : BitVec 32 := 0#32
  let v11 : BitVec 1 := Scalar.cmpi .eq arg2 c0_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DyBRefIdeal.lean ====
abbrev S16384x1024 : Shape := ⟨2, ![16384, 1024]⟩
abbrev S512x1024 : Shape := ⟨2, ![512, 1024]⟩
abbrev S_ : Shape := ⟨0, ![]⟩
abbrev S16384x512 : Shape := ⟨2, ![16384, 512]⟩

abbrev nBuf : Space → Nat
  | .hbm => 6
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S512x1024, .f32⟩
  | .hbm, ⟨2, _⟩ => ⟨S_, .f32⟩
  | .hbm, ⟨3, _⟩ => ⟨S16384x512, .f32⟩
  | .hbm, ⟨4, _⟩ => ⟨S16384x1024, .f32⟩
  | .hbm, ⟨5, _⟩ => ⟨S16384x512, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== DwBrA.lean ====
abbrev S16384x512 : Shape := ⟨2, ![16384, 512]⟩
abbrev S16384x1024 : Shape := ⟨2, ![16384, 1024]⟩
abbrev S512x1024 : Shape := ⟨2, ![512, 1024]⟩
abbrev S1024x512 : Shape := ⟨2, ![1024, 512]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S16384x512, .f32⟩
  | .hbm, ⟨1, _⟩ => ⟨S16384x1024, .f32⟩
  | .hbm, ⟨2, _⟩ => ⟨S16384x1024, .bf16⟩
  | .hbm, ⟨3, _⟩ => ⟨S512x1024, .f32⟩
  | .local _ .vmem, ⟨0, _⟩ => ⟨S1024x512, .f32⟩
  | .local _ .vmem, ⟨1, _⟩ => ⟨S1024x512, .f32⟩
  | .local _ .vmem, ⟨2, _⟩ => ⟨S1024x1024, .bf16⟩
  | .local _ .vmem, ⟨3, _⟩ => ⟨S1024x1024, .bf16⟩
  | .local _ .vmem, ⟨4, _⟩ => ⟨S512x1024, .f32⟩
  | .local _ .vmem, ⟨5, _⟩ => ⟨S512x1024, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 16], ![false, false, false]⟩

def k0_cond3 (i : grid0.Coords) : BitVec 1 :=
  let arg2 : BitVec 32 := BitVec.ofNat 32 (i 2).val
  let c15_i32 : BitVec 32 := 15#32
  let v11 : BitVec 1 := Scalar.cmpi .eq arg2 c15_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== DwBrARefIdeal.lean ====
abbrev S16384x512 : Shape := ⟨2, ![16384, 512]⟩
abbrev S16384x1024 : Shape := ⟨2, ![16384, 1024]⟩
abbrev S_ : Shape := ⟨0, ![]⟩
abbrev S512x1024 : Shape := ⟨2, ![512, 1024]⟩
abbrev S1024x512 : Shape := ⟨2, ![1024, 512]⟩

abbrev nBuf : Space → Nat
  | .hbm => 7
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S16384x1024, .f32⟩
  | .hbm, ⟨2, _⟩ => ⟨S_, .f32⟩
  | .hbm, ⟨3, _⟩ => ⟨S512x1024, .f32⟩
  | .hbm, ⟨4, _⟩ => ⟨S16384x1024, .f32⟩
  | .hbm, ⟨5, _⟩ => ⟨S1024x512, .f32⟩
  | .hbm, ⟨6, _⟩ => ⟨S512x1024, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== DwBrB.lean ====
abbrev S16384x512 : Shape := ⟨2, ![16384, 512]⟩
abbrev S16384x1024 : Shape := ⟨2, ![16384, 1024]⟩
abbrev S512x1024 : Shape := ⟨2, ![512, 1024]⟩
abbrev S1024x512 : Shape := ⟨2, ![1024, 512]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S16384x512, .f32⟩
  | .hbm, ⟨1, _⟩ => ⟨S16384x1024, .f32⟩
  | .hbm, ⟨2, _⟩ => ⟨S16384x512, .bf16⟩
  | .hbm, ⟨3, _⟩ => ⟨S16384x1024, .bf16⟩
  | .hbm, ⟨4, _⟩ => ⟨S512x1024, .f32⟩
  | .local _ .vmem, ⟨0, _⟩ => ⟨S1024x512, .bf16⟩
  | .local _ .vmem, ⟨1, _⟩ => ⟨S1024x512, .bf16⟩
  | .local _ .vmem, ⟨2, _⟩ => ⟨S1024x1024, .bf16⟩
  | .local _ .vmem, ⟨3, _⟩ => ⟨S1024x1024, .bf16⟩
  | .local _ .vmem, ⟨4, _⟩ => ⟨S512x1024, .f32⟩
  | .local _ .vmem, ⟨5, _⟩ => ⟨S512x1024, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 16], ![false, false, false]⟩

def k0_cond3 (i : grid0.Coords) : BitVec 1 :=
  let arg2 : BitVec 32 := BitVec.ofNat 32 (i 2).val
  let c15_i32 : BitVec 32 := 15#32
  let v11 : BitVec 1 := Scalar.cmpi .eq arg2 c15_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== DwBrBRefIdeal.lean ====
abbrev S16384x512 : Shape := ⟨2, ![16384, 512]⟩
abbrev S16384x1024 : Shape := ⟨2, ![16384, 1024]⟩
abbrev S_ : Shape := ⟨0, ![]⟩
abbrev S512x1024 : Shape := ⟨2, ![512, 1024]⟩
abbrev S1024x512 : Shape := ⟨2, ![1024, 512]⟩

abbrev nBuf : Space → Nat
  | .hbm => 7
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S16384x1024, .f32⟩
  | .hbm, ⟨2, _⟩ => ⟨S_, .f32⟩
  | .hbm, ⟨3, _⟩ => ⟨S512x1024, .f32⟩
  | .hbm, ⟨4, _⟩ => ⟨S16384x1024, .f32⟩
  | .hbm, ⟨5, _⟩ => ⟨S1024x512, .f32⟩
  | .hbm, ⟨6, _⟩ => ⟨S512x1024, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== InC.lean ====
abbrev S16384x1024 : Shape := ⟨2, ![16384, 1024]⟩
abbrev S1024x768 : Shape := ⟨2, ![1024, 768]⟩
abbrev S16384x768 : Shape := ⟨2, ![16384, 768]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S16384x1024, .f32⟩
  | .hbm, ⟨1, _⟩ => ⟨S1024x768, .f32⟩
  | .hbm, ⟨2, _⟩ => ⟨S16384x1024, .bf16⟩
  | .hbm, ⟨3, _⟩ => ⟨S1024x768, .bf16⟩
  | .hbm, ⟨4, _⟩ => ⟨S16384x768, .bf16⟩
  | .local _ .vmem, ⟨0, _⟩ => ⟨S1024x1024, .bf16⟩
  | .local _ .vmem, ⟨1, _⟩ => ⟨S1024x1024, .bf16⟩
  | .local _ .vmem, ⟨2, _⟩ => ⟨S1024x768, .bf16⟩
  | .local _ .vmem, ⟨3, _⟩ => ⟨S1024x768, .bf16⟩
  | .local _ .vmem, ⟨4, _⟩ => ⟨S1024x768, .bf16⟩
  | .local _ .vmem, ⟨5, _⟩ => ⟨S1024x768, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def k0_cond3 (i : grid0.Coords) : BitVec 1 :=
  let arg2 : BitVec 32 := BitVec.ofNat 32 (i 2).val
  let c0_i32_6 : BitVec 32 := 0#32
  let v11 : BitVec 1 := Scalar.cmpi .eq arg2 c0_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InCRefIdeal.lean ====
abbrev S16384x1024 : Shape := ⟨2, ![16384, 1024]⟩
abbrev S1024x768 : Shape := ⟨2, ![1024, 768]⟩
abbrev S16384x768 : Shape := ⟨2, ![16384, 768]⟩

abbrev nBuf : Space → Nat
  | .hbm => 4
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x768, .f32⟩
  | .hbm, ⟨2, _⟩ => ⟨S16384x768, .f32⟩
  | .hbm, ⟨3, _⟩ => ⟨S16384x768, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== DhC.lean ====
abbrev S16384x768 : Shape := ⟨2, ![16384, 768]⟩
abbrev S1024x768 : Shape := ⟨2, ![1024, 768]⟩
abbrev S16384x1024 : Shape := ⟨2, ![16384, 1024]⟩
abbrev S1024x1024 : Shape := ⟨2, ![1024, 1024]⟩

abbrev nBuf : Space → Nat
  | .hbm => 6
  | .vmem => 8
  | .smem => 0
  | _ => 0

abbrev bufTy : (tb : Table) → Fin (tcTables nBuf tb) → BufTy
  | .hbm, ⟨0, _⟩ => ⟨S16384x768, .f32⟩
  | .hbm, ⟨1, _⟩ => ⟨S1024x768, .f32⟩
  | .hbm, ⟨2, _⟩ => ⟨S16384x1024, .f32⟩
  | .hbm, ⟨3, _⟩ => ⟨S16384x768, .bf16⟩
  | .hbm, ⟨4, _⟩ => ⟨S1024x768, .bf16⟩
  | .hbm, ⟨5, _⟩ => ⟨S16384x1024, .f32⟩
  | .local _ .vmem, ⟨0, _⟩ => ⟨S1024x768, .bf16⟩
  | .local _ .vmem, ⟨1, _⟩ => ⟨S1024x768, .bf16⟩
  | .local _ .vmem, ⟨2, _⟩ => ⟨S1024x768, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S16384x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![16, 1, 1], ![false, false, false]⟩

def k0_cond3 (i : grid0.Coords) : BitVec 1 :=
  let arg2 : BitVec 32 := BitVec.ofNat 32 (i 2).val
  let c0_i32_6 : BitVec 32 := 0#32
  let v11 : BitVec 1 := Scalar.cmpi .eq arg2 c0_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DhCRefIdeal.lean ====
abbrev S16384x768 : Shape := ⟨2, ![16384, 768]⟩
abbrev S1024x768 : Shape := ⟨2, ![1024, 768]⟩
abbrev S16384x1024 : Shape := ⟨2, ![16384, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S16384x768, .f32⟩
  | .hbm, ⟨1, _⟩ => ⟨S1024x768, .f32⟩
  | .hbm, ⟨2, _⟩ => ⟨S16384x1024, .f32⟩
  | .hbm, ⟨3, _⟩ => ⟨S_, .f32⟩
  | .hbm, ⟨4, _⟩ => ⟨S16384x1024, .f32⟩
  | .hbm, ⟨5, _⟩ => ⟨S16384x768, .f32⟩
  | .hbm, ⟨6, _⟩ => ⟨S16384x1024, .f32⟩
  | .hbm, ⟨7, _⟩ => ⟨S16384x1024, .f32⟩
  | _, _ => ⟨S16384x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== DwC.lean ====
abbrev S16384x1024 : Shape := ⟨2, ![16384, 1024]⟩
abbrev S16384x768 : Shape := ⟨2, ![16384, 768]⟩
abbrev S1024x768 : Shape := ⟨2, ![1024, 768]⟩
abbrev S1024x512 : Shape := ⟨2, ![1024, 512]⟩
abbrev S512x768 : Shape := ⟨2, ![512, 768]⟩

abbrev nBuf : Space → Nat
  | .hbm => 5
  | .vmem => 7
  | .smem => 0
  | _ => 0

abbrev bufTy : (tb : Table) → Fin (tcTables nBuf tb) → BufTy
  | .hbm, ⟨0, _⟩ => ⟨S16384x1024, .f32⟩
  | .hbm, ⟨1, _⟩ => ⟨S16384x768, .f32⟩
  | .hbm, ⟨2, _⟩ => ⟨S16384x1024, .bf16⟩
  | .hbm, ⟨3, _⟩ => ⟨S16384x768, .bf16⟩
  | .hbm, ⟨4, _⟩ => ⟨S1024x768, .f32⟩
  | .local _ .vmem, ⟨0, _⟩ => ⟨S1024x512, .bf16⟩
  | .local _ .vmem, ⟨1, _⟩ => ⟨S1024x512, .bf16⟩
  | .local _ .vmem, ⟨2, _⟩ => ⟨S1024x768, .bf16⟩
  | .local _ .vmem, ⟨3, _⟩ => ⟨S1024x768, .bf16⟩
  | .local _ .vmem, ⟨4, _⟩ => ⟨S512x768, .f32⟩
  | .local _ .vmem, ⟨5, _⟩ => ⟨S512x768, .f32⟩
  | .local _ .vmem, ⟨6, _⟩ => ⟨S512x768, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 16], ![false, false, false]⟩

def k0_cond3 (i : grid0.Coords) : BitVec 1 :=
  let arg2 : BitVec 32 := BitVec.ofNat 32 (i 2).val
  let c15_i32 : BitVec 32 := 15#32
  let v11 : BitVec 1 := Scalar.cmpi .eq arg2 c15_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwCRefIdeal.lean ====
abbrev S16384x1024 : Shape := ⟨2, ![16384, 1024]⟩
abbrev S16384x768 : Shape := ⟨2, ![16384, 768]⟩
abbrev S_ : Shape := ⟨0, ![]⟩
abbrev S1024x768 : Shape := ⟨2, ![1024, 768]⟩
abbrev S768x1024 : Shape := ⟨2, ![768, 1024]⟩

abbrev nBuf : Space → Nat
  | .hbm => 7
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x768, .f32⟩
  | .hbm, ⟨2, _⟩ => ⟨S_, .f32⟩
  | .hbm, ⟨3, _⟩ => ⟨S1024x768, .f32⟩
  | .hbm, ⟨4, _⟩ => ⟨S16384x768, .f32⟩
  | .hbm, ⟨5, _⟩ => ⟨S768x1024, .f32⟩
  | .hbm, ⟨6, _⟩ => ⟨S1024x768, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Rms.lean ====
abbrev S16384x1024 : Shape := ⟨2, ![16384, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1x1024, .f32⟩
  | .hbm, ⟨3, _⟩ => ⟨S16384x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== RmsIdeal.lean ====
abbrev S16384x1024 : Shape := ⟨2, ![16384, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1x1024, .f32⟩
  | .hbm, ⟨3, _⟩ => ⟨S16384x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== RmsRefIdeal.lean ====
abbrev S16384x1024 : Shape := ⟨2, ![16384, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩

abbrev nBuf : Space → Nat
  | .hbm => 19
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S16384x1024, .f32⟩
  | .hbm, ⟨3, _⟩ => ⟨S_, .f32⟩
  | .hbm, ⟨4, _⟩ => ⟨S16384, .f32⟩
  | .hbm, ⟨5, _⟩ => ⟨S16384x1, .f32⟩
  | .hbm, ⟨6, _⟩ => ⟨S_, .f32⟩
  | .hbm, ⟨7, _⟩ => ⟨S16384x1, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S16384x1, .f32⟩
  | .hbm, ⟨13, _⟩ => ⟨S16384x1024, .f32⟩
  | .hbm, ⟨14, _⟩ => ⟨S16384x1024, .f32⟩
  | .hbm, ⟨15, _⟩ => ⟨S1x1024, .f32⟩
  | .hbm, ⟨16, _⟩ => ⟨S16384x1024, .f32⟩
  | .hbm, ⟨17, _⟩ => ⟨S16384x1024, .f32⟩
  | .hbm, ⟨18, _⟩ => ⟨S16384x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== RmsMem.lean ====
abbrev S256x1024 : Shape := ⟨2, ![256, 1024]⟩
abbrev S1024 : Shape := ⟨1, ![1024]⟩
abbrev S1x1024 : Shape := ⟨2, ![1, 1024]⟩
abbrev S256 : Shape := ⟨1, ![256]⟩
abbrev S256x1 : Shape := ⟨2, ![256, 1]⟩

abbrev nBuf : Space → Nat
  | .hbm => 4
  | .vmem => 3
  | .smem => 0
  | _ => 0

abbrev bufTy : (tb : Table) → Fin (tcTables nBuf tb) → BufTy
  | .hbm, ⟨0, _⟩ => ⟨S256x1024, .f32⟩
  | .hbm, ⟨1, _⟩ => ⟨S1024, .f32⟩
  | .hbm, ⟨2, _⟩ => ⟨S1x1024, .f32⟩
  | .hbm, ⟨3, _⟩ => ⟨S256x1024, .bf16⟩
  | .local _ .vmem, ⟨0, _⟩ => ⟨S256x1024, .f32⟩
  | .local _ .vmem, ⟨1, _⟩ => ⟨S1x1024, .f32⟩
  | .local _ .vmem, ⟨2, _⟩ => ⟨S256x1024, .bf16⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== RmsMemRefIdeal.lean ====
abbrev S256x1024 : Shape := ⟨2, ![256, 1024]⟩
abbrev S1024 : Shape := ⟨1, ![1024]⟩
abbrev S_ : Shape := ⟨0, ![]⟩
abbrev S256 : Shape := ⟨1, ![256]⟩
abbrev S256x1 : Shape := ⟨2, ![256, 1]⟩
abbrev S1x1024 : Shape := ⟨2, ![1, 1024]⟩

abbrev nBuf : Space → Nat
  | .hbm => 19
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1024, .f32⟩
  | .hbm, ⟨2, _⟩ => ⟨S256x1024, .f32⟩
  | .hbm, ⟨3, _⟩ => ⟨S_, .f32⟩
  | .hbm, ⟨4, _⟩ => ⟨S256, .f32⟩
  | .hbm, ⟨5, _⟩ => ⟨S256x1, .f32⟩
  | .hbm, ⟨6, _⟩ => ⟨S_, .f32⟩
  | .hbm, ⟨7, _⟩ => ⟨S256x1, .f32⟩
  | .hbm, ⟨8, _⟩ => ⟨S256x1, .f32⟩
  | .hbm, ⟨9, _⟩ => ⟨S_, .f32⟩
  | .hbm, ⟨10, _⟩ => ⟨S256x1, .f32⟩
  | .hbm, ⟨11, _⟩ => ⟨S256x1, .f32⟩
  | .hbm, ⟨12, _⟩ => ⟨S256x1, .f32⟩
  | .hbm, ⟨13, _⟩ => ⟨S256x1024, .f32⟩
  | .hbm, ⟨14, _⟩ => ⟨S256x1024, .f32⟩
  | .hbm, ⟨15, _⟩ => ⟨S1x1024, .f32⟩
  | .hbm, ⟨16, _⟩ => ⟨S256x1024, .f32⟩
  | .hbm, ⟨17, _⟩ => ⟨S256x1024, .f32⟩
  | .hbm, ⟨18, _⟩ => ⟨S256x1024, .bf16⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== RmsCq.lean ====
abbrev S16384x768 : Shape := ⟨2, ![16384, 768]⟩
abbrev S384 : Shape := ⟨1, ![384]⟩
abbrev S1x384 : Shape := ⟨2, ![1, 384]⟩
abbrev S16384x384 : Shape := ⟨2, ![16384, 384]⟩
abbrev S512x384 : Shape := ⟨2, ![512, 384]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S16384x768, .f32⟩
  | .hbm, ⟨1, _⟩ => ⟨S384, .f32⟩
  | .hbm, ⟨2, _⟩ => ⟨S1x384, .f32⟩
  | .hbm, ⟨3, _⟩ => ⟨S16384x384, .bf16⟩
  | .local _ .vmem, ⟨0, _⟩ => ⟨S512x384, .f32⟩
  | .local _ .vmem, ⟨1, _⟩ => ⟨S512x384, .f32⟩
  | .local _ .vmem, ⟨2, _⟩ => ⟨S1x384, .f32⟩
  | .local _ .vmem, ⟨3, _⟩ => ⟨S512x384, .bf16⟩
  | .local _ .vmem, ⟨4, _⟩ => ⟨S512x384, .bf16⟩
  | _, _ => ⟨S16384x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x384 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== RmsCqRefIdeal.lean ====
abbrev S16384x768 : Shape := ⟨2, ![16384, 768]⟩
abbrev S384 : Shape := ⟨1, ![384]⟩
abbrev S16384x384 : Shape := ⟨2, ![16384, 384]⟩
abbrev S_ : Shape := ⟨0, ![]⟩
abbrev S16384 : Shape := ⟨1, ![16384]⟩
abbrev S16384x1 : Shape := ⟨2, ![16384, 1]⟩
abbrev S1x384 : Shape := ⟨2, ![1, 384]⟩

abbrev nBuf : Space → Nat
  | .hbm => 20
  | .vmem => 0
  | .smem => 0
  | _ => 0

abbrev bufTy : (tb : Table) → Fin (tcTables nBuf tb) → BufTy
  | .hbm, ⟨0, _⟩ => ⟨S16384x768, .f32⟩
  | .hbm, ⟨1, _⟩ => ⟨S384, .f32⟩
  | .hbm, ⟨2, _⟩ => ⟨S16384x384, .f32⟩
  | .hbm, ⟨3, _⟩ => ⟨S16384x384, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x384, .f32⟩
  | .hbm, ⟨15, _⟩ => ⟨S16384x384, .f32⟩
  | .hbm, ⟨16, _⟩ => ⟨S1x384, .f32⟩
  | .hbm, ⟨17, _⟩ => ⟨S16384x384, .f32⟩
  | .hbm, ⟨18, _⟩ => ⟨S16384x384, .f32⟩
  | .hbm, ⟨19, _⟩ => ⟨S16384x384, .bf16⟩
  | _, _ => ⟨S16384x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== RmsCkv.lean ====
abbrev S16384x768 : Shape := ⟨2, ![16384, 768]⟩
abbrev S256 : Shape := ⟨1, ![256]⟩
abbrev S1x256 : Shape := ⟨2, ![1, 256]⟩
abbrev S16384x256 : Shape := ⟨2, ![16384, 256]⟩
abbrev S512x256 : Shape := ⟨2, ![512, 256]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S16384x768, .f32⟩
  | .hbm, ⟨1, _⟩ => ⟨S256, .f32⟩
  | .hbm, ⟨2, _⟩ => ⟨S1x256, .f32⟩
  | .hbm, ⟨3, _⟩ => ⟨S16384x256, .bf16⟩
  | .local _ .vmem, ⟨0, _⟩ => ⟨S512x256, .f32⟩
  | .local _ .vmem, ⟨1, _⟩ => ⟨S512x256, .f32⟩
  | .local _ .vmem, ⟨2, _⟩ => ⟨S1x256, .f32⟩
  | .local _ .vmem, ⟨3, _⟩ => ⟨S512x256, .bf16⟩
  | .local _ .vmem, ⟨4, _⟩ => ⟨S512x256, .bf16⟩
  | _, _ => ⟨S16384x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== RmsCkvRefIdeal.lean ====
abbrev S16384x768 : Shape := ⟨2, ![16384, 768]⟩
abbrev S256 : Shape := ⟨1, ![256]⟩
abbrev S16384x256 : Shape := ⟨2, ![16384, 256]⟩
abbrev S_ : Shape := ⟨0, ![]⟩
abbrev S16384 : Shape := ⟨1, ![16384]⟩
abbrev S16384x1 : Shape := ⟨2, ![16384, 1]⟩
abbrev S1x256 : Shape := ⟨2, ![1, 256]⟩

abbrev nBuf : Space → Nat
  | .hbm => 20
  | .vmem => 0
  | .smem => 0
  | _ => 0

abbrev bufTy : (tb : Table) → Fin (tcTables nBuf tb) → BufTy
  | .hbm, ⟨0, _⟩ => ⟨S16384x768, .f32⟩
  | .hbm, ⟨1, _⟩ => ⟨S256, .f32⟩
  | .hbm, ⟨2, _⟩ => ⟨S16384x256, .f32⟩
  | .hbm, ⟨3, _⟩ => ⟨S16384x256, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x256, .f32⟩
  | .hbm, ⟨15, _⟩ => ⟨S16384x256, .f32⟩
  | .hbm, ⟨16, _⟩ => ⟨S1x256, .f32⟩
  | .hbm, ⟨17, _⟩ => ⟨S16384x256, .f32⟩
  | .hbm, ⟨18, _⟩ => ⟨S16384x256, .f32⟩
  | .hbm, ⟨19, _⟩ => ⟨S16384x256, .bf16⟩
  | _, _ => ⟨S16384x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== Xkv.lean ====
abbrev S256x1024 : Shape := ⟨2, ![256, 1024]⟩
abbrev S1024x2048 : Shape := ⟨2, ![1024, 2048]⟩
abbrev S256x2048 : Shape := ⟨2, ![256, 2048]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S256x1024, .f32⟩
  | .hbm, ⟨1, _⟩ => ⟨S1024x2048, .f32⟩
  | .hbm, ⟨2, _⟩ => ⟨S256x1024, .bf16⟩
  | .hbm, ⟨3, _⟩ => ⟨S1024x2048, .bf16⟩
  | .hbm, ⟨4, _⟩ => ⟨S256x2048, .bf16⟩
  | .local _ .vmem, ⟨0, _⟩ => ⟨S256x1024, .bf16⟩
  | .local _ .vmem, ⟨1, _⟩ => ⟨S1024x1024, .bf16⟩
  | .local _ .vmem, ⟨2, _⟩ => ⟨S1024x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 2, 1], ![false, false, false]⟩

def k0_cond3 (i : grid0.Coords) : BitVec 1 :=
  let arg2 : BitVec 32 := BitVec.ofNat 32 (i 2).val
  let c0_i32_6 : BitVec 32 := 0#32
  let v11 : BitVec 1 := Scalar.cmpi .eq arg2 c0_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== XkvRefIdeal.lean ====
abbrev S256x1024 : Shape := ⟨2, ![256, 1024]⟩
abbrev S1024x2048 : Shape := ⟨2, ![1024, 2048]⟩
abbrev S256x2048 : Shape := ⟨2, ![256, 2048]⟩

abbrev nBuf : Space → Nat
  | .hbm => 4
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1024x2048, .f32⟩
  | .hbm, ⟨2, _⟩ => ⟨S256x2048, .f32⟩
  | .hbm, ⟨3, _⟩ => ⟨S256x2048, .bf16⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Dmemn.lean ====
abbrev S256x2048 : Shape := ⟨2, ![256, 2048]⟩
abbrev S1024x2048 : Shape := ⟨2, ![1024, 2048]⟩
abbrev S256x1024 : Shape := ⟨2, ![256, 1024]⟩

abbrev nBuf : Space → Nat
  | .hbm => 4
  | .vmem => 4
  | .smem => 0
  | _ => 0

abbrev bufTy : (tb : Table) → Fin (tcTables nBuf tb) → BufTy
  | .hbm, ⟨0, _⟩ => ⟨S256x2048, .f32⟩
  | .hbm, ⟨1, _⟩ => ⟨S1024x2048, .f32⟩
  | .hbm, ⟨2, _⟩ => ⟨S1024x2048, .bf16⟩
  | .hbm, ⟨3, _⟩ => ⟨S256x1024, .f32⟩
  | .local _ .vmem, ⟨0, _⟩ => ⟨S256x2048, .f32⟩
  | .local _ .vmem, ⟨1, _⟩ => ⟨S1024x2048, .bf16⟩
  | .local _ .vmem, ⟨2, _⟩ => ⟨S256x1024, .f32⟩
  | .local _ .vmem, ⟨3, _⟩ => ⟨S256x1024, .f32⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def k0_cond3 (i : grid0.Coords) : BitVec 1 :=
  let arg2 : BitVec 32 := BitVec.ofNat 32 (i 2).val
  let c0_i32_6 : BitVec 32 := 0#32
  let v11 : BitVec 1 := Scalar.cmpi .eq arg2 c0_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S256x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== DmemnRefIdeal.lean ====
abbrev S256x2048 : Shape := ⟨2, ![256, 2048]⟩
abbrev S1024x2048 : Shape := ⟨2, ![1024, 2048]⟩
abbrev S_ : Shape := ⟨0, ![]⟩
abbrev S256x1024 : Shape := ⟨2, ![256, 1024]⟩

abbrev nBuf : Space → Nat
  | .hbm => 6
  | .vmem => 0
  | .smem => 0
  | _ => 0

abbrev bufTy : (tb : Table) → Fin (tcTables nBuf tb) → BufTy
  | .hbm, ⟨0, _⟩ => ⟨S256x2048, .f32⟩
  | .hbm, ⟨1, _⟩ => ⟨S1024x2048, .f32⟩
  | .hbm, ⟨2, _⟩ => ⟨S_, .f32⟩
  | .hbm, ⟨3, _⟩ => ⟨S256x1024, .f32⟩
  | .hbm, ⟨4, _⟩ => ⟨S256x2048, .f32⟩
  | .hbm, ⟨5, _⟩ => ⟨S256x1024, .f32⟩
  | _, _ => ⟨S256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Dwkv.lean ====
abbrev S256x1024 : Shape := ⟨2, ![256, 1024]⟩
abbrev S256x2048 : Shape := ⟨2, ![256, 2048]⟩
abbrev S1024x2048 : Shape := ⟨2, ![1024, 2048]⟩
abbrev S256x512 : Shape := ⟨2, ![256, 512]⟩
abbrev S512x1024 : Shape := ⟨2, ![512, 1024]⟩

abbrev nBuf : Space → Nat
  | .hbm => 4
  | .vmem => 7
  | .smem => 0
  | _ => 0

abbrev bufTy : (tb : Table) → Fin (tcTables nBuf tb) → BufTy
  | .hbm, ⟨0, _⟩ => ⟨S256x1024, .f32⟩
  | .hbm, ⟨1, _⟩ => ⟨S256x2048, .f32⟩
  | .hbm, ⟨2, _⟩ => ⟨S256x1024, .bf16⟩
  | .hbm, ⟨3, _⟩ => ⟨S1024x2048, .f32⟩
  | .local _ .vmem, ⟨0, _⟩ => ⟨S256x512, .bf16⟩
  | .local _ .vmem, ⟨1, _⟩ => ⟨S256x512, .bf16⟩
  | .local _ .vmem, ⟨2, _⟩ => ⟨S256x1024, .f32⟩
  | .local _ .vmem, ⟨3, _⟩ => ⟨S256x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def k0_cond3 (i : grid0.Coords) : BitVec 1 :=
  let arg2 : BitVec 32 := BitVec.ofNat 32 (i 2).val
  let c0_i32_6 : BitVec 32 := 0#32
  let v11 : BitVec 1 := Scalar.cmpi .eq arg2 c0_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwkvRefIdeal.lean ====
abbrev S256x1024 : Shape := ⟨2, ![256, 1024]⟩
abbrev S256x2048 : Shape := ⟨2, ![256, 2048]⟩
abbrev S_ : Shape := ⟨0, ![]⟩
abbrev S1024x2048 : Shape := ⟨2, ![1024, 2048]⟩
abbrev S2048x1024 : Shape := ⟨2, ![2048, 1024]⟩

abbrev nBuf : Space → Nat
  | .hbm => 7
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S256x2048, .f32⟩
  | .hbm, ⟨2, _⟩ => ⟨S_, .f32⟩
  | .hbm, ⟨3, _⟩ => ⟨S1024x2048, .f32⟩
  | .hbm, ⟨4, _⟩ => ⟨S256x2048, .f32⟩
  | .hbm, ⟨5, _⟩ => ⟨S2048x1024, .f32⟩
  | .hbm, ⟨6, _⟩ => ⟨S1024x2048, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== InA.lean ====
abbrev S16384x1024 : Shape := ⟨2, ![16384, 1024]⟩
abbrev S1024x768 : Shape := ⟨2, ![1024, 768]⟩
abbrev S16384x768 : Shape := ⟨2, ![16384, 768]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S16384x1024, .f32⟩
  | .hbm, ⟨1, _⟩ => ⟨S1024x768, .f32⟩
  | .hbm, ⟨2, _⟩ => ⟨S16384x1024, .bf16⟩
  | .hbm, ⟨3, _⟩ => ⟨S1024x768, .bf16⟩
  | .hbm, ⟨4, _⟩ => ⟨S16384x768, .f32⟩
  | .local _ .vmem, ⟨0, _⟩ => ⟨S1024x1024, .bf16⟩
  | .local _ .vmem, ⟨1, _⟩ => ⟨S1024x1024, .bf16⟩
  | .local _ .vmem, ⟨2, _⟩ => ⟨S1024x768, .bf16⟩
  | .local _ .vmem, ⟨3, _⟩ => ⟨S1024x768, .f32⟩
  | .local _ .vmem, ⟨4, _⟩ => ⟨S1024x768, .f32⟩
  | .local _ .vmem, ⟨5, _⟩ => ⟨S1024x768, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def k0_cond3 (i : grid0.Coords) : BitVec 1 :=
  let arg2 : BitVec 32 := BitVec.ofNat 32 (i 2).val
  let c0_i32_6 : BitVec 32 := 0#32
  let v11 : BitVec 1 := Scalar.cmpi .eq arg2 c0_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InARefIdeal.lean ====
abbrev S16384x1024 : Shape := ⟨2, ![16384, 1024]⟩
abbrev S1024x768 : Shape := ⟨2, ![1024, 768]⟩
abbrev S16384x768 : Shape := ⟨2, ![16384, 768]⟩

abbrev nBuf : Space → Nat
  | .hbm => 3
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x768, .f32⟩
  | .hbm, ⟨2, _⟩ => ⟨S16384x768, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Ukv.lean ====
abbrev S16384x256 : Shape := ⟨2, ![16384, 256]⟩
abbrev S256x1024 : Shape := ⟨2, ![256, 1024]⟩
abbrev S16384x1024 : Shape := ⟨2, ![16384, 1024]⟩
abbrev S1024x256 : Shape := ⟨2, ![1024, 256]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S16384x256, .f32⟩
  | .hbm, ⟨1, _⟩ => ⟨S256x1024, .f32⟩
  | .hbm, ⟨2, _⟩ => ⟨S16384x256, .bf16⟩
  | .hbm, ⟨3, _⟩ => ⟨S256x1024, .bf16⟩
  | .hbm, ⟨4, _⟩ => ⟨S16384x1024, .bf16⟩
  | .local _ .vmem, ⟨0, _⟩ => ⟨S1024x256, .bf16⟩
  | .local _ .vmem, ⟨1, _⟩ => ⟨S1024x256, .bf16⟩
  | .local _ .vmem, ⟨2, _⟩ => ⟨S256x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .f32⟩
  | _, _ => ⟨S16384x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def k0_cond3 (i : grid0.Coords) : BitVec 1 :=
  let arg2 : BitVec 32 := BitVec.ofNat 32 (i 2).val
  let c0_i32_6 : BitVec 32 := 0#32
  let v11 : BitVec 1 := Scalar.cmpi .eq arg2 c0_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UkvRefIdeal.lean ====
abbrev S16384x256 : Shape := ⟨2, ![16384, 256]⟩
abbrev S256x1024 : Shape := ⟨2, ![256, 1024]⟩
abbrev S16384x1024 : Shape := ⟨2, ![16384, 1024]⟩

abbrev nBuf : Space → Nat
  | .hbm => 4
  | .vmem => 0
  | .smem => 0
  | _ => 0

abbrev bufTy : (tb : Table) → Fin (tcTables nBuf tb) → BufTy
  | .hbm, ⟨0, _⟩ => ⟨S16384x256, .f32⟩
  | .hbm, ⟨1, _⟩ => ⟨S256x1024, .f32⟩
  | .hbm, ⟨2, _⟩ => ⟨S16384x1024, .f32⟩
  | .hbm, ⟨3, _⟩ => ⟨S16384x1024, .bf16⟩
  | _, _ => ⟨S16384x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== DhCq.lean ====
abbrev S16384x384 : Shape := ⟨2, ![16384, 384]⟩
abbrev S1024x384 : Shape := ⟨2, ![1024, 384]⟩
abbrev S16384x1024 : Shape := ⟨2, ![16384, 1024]⟩
abbrev S1024x1024 : Shape := ⟨2, ![1024, 1024]⟩

abbrev nBuf : Space → Nat
  | .hbm => 6
  | .vmem => 8
  | .smem => 0
  | _ => 0

abbrev bufTy : (tb : Table) → Fin (tcTables nBuf tb) → BufTy
  | .hbm, ⟨0, _⟩ => ⟨S16384x384, .f32⟩
  | .hbm, ⟨1, _⟩ => ⟨S1024x384, .f32⟩
  | .hbm, ⟨2, _⟩ => ⟨S16384x1024, .f32⟩
  | .hbm, ⟨3, _⟩ => ⟨S16384x384, .bf16⟩
  | .hbm, ⟨4, _⟩ => ⟨S1024x384, .bf16⟩
  | .hbm, ⟨5, _⟩ => ⟨S16384x1024, .f32⟩
  | .local _ .vmem, ⟨0, _⟩ => ⟨S1024x384, .bf16⟩
  | .local _ .vmem, ⟨1, _⟩ => ⟨S1024x384, .bf16⟩
  | .local _ .vmem, ⟨2, _⟩ => ⟨S1024x384, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S16384x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![16, 1, 1], ![false, false, false]⟩

def k0_cond3 (i : grid0.Coords) : BitVec 1 :=
  let arg2 : BitVec 32 := BitVec.ofNat 32 (i 2).val
  let c0_i32_6 : BitVec 32 := 0#32
  let v11 : BitVec 1 := Scalar.cmpi .eq arg2 c0_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x384 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DhCqRefIdeal.lean ====
abbrev S16384x384 : Shape := ⟨2, ![16384, 384]⟩
abbrev S1024x384 : Shape := ⟨2, ![1024, 384]⟩
abbrev S16384x1024 : Shape := ⟨2, ![16384, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S16384x384, .f32⟩
  | .hbm, ⟨1, _⟩ => ⟨S1024x384, .f32⟩
  | .hbm, ⟨2, _⟩ => ⟨S16384x1024, .f32⟩
  | .hbm, ⟨3, _⟩ => ⟨S_, .f32⟩
  | .hbm, ⟨4, _⟩ => ⟨S16384x1024, .f32⟩
  | .hbm, ⟨5, _⟩ => ⟨S16384x384, .f32⟩
  | .hbm, ⟨6, _⟩ => ⟨S16384x1024, .f32⟩
  | .hbm, ⟨7, _⟩ => ⟨S16384x1024, .f32⟩
  | _, _ => ⟨S16384x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== DhCkv.lean ====
abbrev S16384x256 : Shape := ⟨2, ![16384, 256]⟩
abbrev S1024x256 : Shape := ⟨2, ![1024, 256]⟩
abbrev S16384x1024 : Shape := ⟨2, ![16384, 1024]⟩
abbrev S1024x1024 : Shape := ⟨2, ![1024, 1024]⟩

abbrev nBuf : Space → Nat
  | .hbm => 6
  | .vmem => 8
  | .smem => 0
  | _ => 0

abbrev bufTy : (tb : Table) → Fin (tcTables nBuf tb) → BufTy
  | .hbm, ⟨0, _⟩ => ⟨S16384x256, .f32⟩
  | .hbm, ⟨1, _⟩ => ⟨S1024x256, .f32⟩
  | .hbm, ⟨2, _⟩ => ⟨S16384x1024, .f32⟩
  | .hbm, ⟨3, _⟩ => ⟨S16384x256, .bf16⟩
  | .hbm, ⟨4, _⟩ => ⟨S1024x256, .bf16⟩
  | .hbm, ⟨5, _⟩ => ⟨S16384x1024, .f32⟩
  | .local _ .vmem, ⟨0, _⟩ => ⟨S1024x256, .bf16⟩
  | .local _ .vmem, ⟨1, _⟩ => ⟨S1024x256, .bf16⟩
  | .local _ .vmem, ⟨2, _⟩ => ⟨S1024x256, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S16384x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![16, 1, 1], ![false, false, false]⟩

def k0_cond3 (i : grid0.Coords) : BitVec 1 :=
  let arg2 : BitVec 32 := BitVec.ofNat 32 (i 2).val
  let c0_i32_6 : BitVec 32 := 0#32
  let v11 : BitVec 1 := Scalar.cmpi .eq arg2 c0_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DhCkvRefIdeal.lean ====
abbrev S16384x256 : Shape := ⟨2, ![16384, 256]⟩
abbrev S1024x256 : Shape := ⟨2, ![1024, 256]⟩
abbrev S16384x1024 : Shape := ⟨2, ![16384, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S16384x256, .f32⟩
  | .hbm, ⟨1, _⟩ => ⟨S1024x256, .f32⟩
  | .hbm, ⟨2, _⟩ => ⟨S16384x1024, .f32⟩
  | .hbm, ⟨3, _⟩ => ⟨S_, .f32⟩
  | .hbm, ⟨4, _⟩ => ⟨S16384x1024, .f32⟩
  | .hbm, ⟨5, _⟩ => ⟨S16384x256, .f32⟩
  | .hbm, ⟨6, _⟩ => ⟨S16384x1024, .f32⟩
  | .hbm, ⟨7, _⟩ => ⟨S16384x1024, .f32⟩
  | _, _ => ⟨S16384x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== DwCq.lean ====
abbrev S16384x1024 : Shape := ⟨2, ![16384, 1024]⟩
abbrev S16384x384 : Shape := ⟨2, ![16384, 384]⟩
abbrev S1024x384 : Shape := ⟨2, ![1024, 384]⟩
abbrev S1024x512 : Shape := ⟨2, ![1024, 512]⟩
abbrev S512x384 : Shape := ⟨2, ![512, 384]⟩

abbrev nBuf : Space → Nat
  | .hbm => 5
  | .vmem => 7
  | .smem => 0
  | _ => 0

abbrev bufTy : (tb : Table) → Fin (tcTables nBuf tb) → BufTy
  | .hbm, ⟨0, _⟩ => ⟨S16384x1024, .f32⟩
  | .hbm, ⟨1, _⟩ => ⟨S16384x384, .f32⟩
  | .hbm, ⟨2, _⟩ => ⟨S16384x1024, .bf16⟩
  | .hbm, ⟨3, _⟩ => ⟨S16384x384, .bf16⟩
  | .hbm, ⟨4, _⟩ => ⟨S1024x384, .f32⟩
  | .local _ .vmem, ⟨0, _⟩ => ⟨S1024x512, .bf16⟩
  | .local _ .vmem, ⟨1, _⟩ => ⟨S1024x512, .bf16⟩
  | .local _ .vmem, ⟨2, _⟩ => ⟨S1024x384, .bf16⟩
  | .local _ .vmem, ⟨3, _⟩ => ⟨S1024x384, .bf16⟩
  | .local _ .vmem, ⟨4, _⟩ => ⟨S512x384, .f32⟩
  | .local _ .vmem, ⟨5, _⟩ => ⟨S512x384, .f32⟩
  | .local _ .vmem, ⟨6, _⟩ => ⟨S512x384, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 16], ![false, false, false]⟩

def k0_cond3 (i : grid0.Coords) : BitVec 1 :=
  let arg2 : BitVec 32 := BitVec.ofNat 32 (i 2).val
  let c15_i32 : BitVec 32 := 15#32
  let v11 : BitVec 1 := Scalar.cmpi .eq arg2 c15_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwCqRefIdeal.lean ====
abbrev S16384x1024 : Shape := ⟨2, ![16384, 1024]⟩
abbrev S16384x384 : Shape := ⟨2, ![16384, 384]⟩
abbrev S_ : Shape := ⟨0, ![]⟩
abbrev S1024x384 : Shape := ⟨2, ![1024, 384]⟩
abbrev S384x1024 : Shape := ⟨2, ![384, 1024]⟩

abbrev nBuf : Space → Nat
  | .hbm => 7
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x384, .f32⟩
  | .hbm, ⟨2, _⟩ => ⟨S_, .f32⟩
  | .hbm, ⟨3, _⟩ => ⟨S1024x384, .f32⟩
  | .hbm, ⟨4, _⟩ => ⟨S16384x384, .f32⟩
  | .hbm, ⟨5, _⟩ => ⟨S384x1024, .f32⟩
  | .hbm, ⟨6, _⟩ => ⟨S1024x384, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== DwCkv.lean ====
abbrev S16384x1024 : Shape := ⟨2, ![16384, 1024]⟩
abbrev S16384x256 : Shape := ⟨2, ![16384, 256]⟩
abbrev S1024x256 : Shape := ⟨2, ![1024, 256]⟩
abbrev S1024x512 : Shape := ⟨2, ![1024, 512]⟩
abbrev S512x256 : Shape := ⟨2, ![512, 256]⟩

abbrev nBuf : Space → Nat
  | .hbm => 5
  | .vmem => 7
  | .smem => 0
  | _ => 0

abbrev bufTy : (tb : Table) → Fin (tcTables nBuf tb) → BufTy
  | .hbm, ⟨0, _⟩ => ⟨S16384x1024, .f32⟩
  | .hbm, ⟨1, _⟩ => ⟨S16384x256, .f32⟩
  | .hbm, ⟨2, _⟩ => ⟨S16384x1024, .bf16⟩
  | .hbm, ⟨3, _⟩ => ⟨S16384x256, .bf16⟩
  | .hbm, ⟨4, _⟩ => ⟨S1024x256, .f32⟩
  | .local _ .vmem, ⟨0, _⟩ => ⟨S1024x512, .bf16⟩
  | .local _ .vmem, ⟨1, _⟩ => ⟨S1024x512, .bf16⟩
  | .local _ .vmem, ⟨2, _⟩ => ⟨S1024x256, .bf16⟩
  | .local _ .vmem, ⟨3, _⟩ => ⟨S1024x256, .bf16⟩
  | .local _ .vmem, ⟨4, _⟩ => ⟨S512x256, .f32⟩
  | .local _ .vmem, ⟨5, _⟩ => ⟨S512x256, .f32⟩
  | .local _ .vmem, ⟨6, _⟩ => ⟨S512x256, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 16], ![false, false, false]⟩

def k0_cond3 (i : grid0.Coords) : BitVec 1 :=
  let arg2 : BitVec 32 := BitVec.ofNat 32 (i 2).val
  let c15_i32 : BitVec 32 := 15#32
  let v11 : BitVec 1 := Scalar.cmpi .eq arg2 c15_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwCkvRefIdeal.lean ====
abbrev S16384x1024 : Shape := ⟨2, ![16384, 1024]⟩
abbrev S16384x256 : Shape := ⟨2, ![16384, 256]⟩
abbrev S_ : Shape := ⟨0, ![]⟩
abbrev S1024x256 : Shape := ⟨2, ![1024, 256]⟩
abbrev S256x1024 : Shape := ⟨2, ![256, 1024]⟩

abbrev nBuf : Space → Nat
  | .hbm => 7
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x256, .f32⟩
  | .hbm, ⟨2, _⟩ => ⟨S_, .f32⟩
  | .hbm, ⟨3, _⟩ => ⟨S1024x256, .f32⟩
  | .hbm, ⟨4, _⟩ => ⟨S16384x256, .f32⟩
  | .hbm, ⟨5, _⟩ => ⟨S256x1024, .f32⟩
  | .hbm, ⟨6, _⟩ => ⟨S1024x256, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Dcqn.lean ====
abbrev S16384x2048 : Shape := ⟨2, ![16384, 2048]⟩
abbrev S384x2048 : Shape := ⟨2, ![384, 2048]⟩
abbrev S16384x384 : Shape := ⟨2, ![16384, 384]⟩
abbrev S1024x2048 : Shape := ⟨2, ![1024, 2048]⟩
abbrev S1024x384 : Shape := ⟨2, ![1024, 384]⟩

abbrev nBuf : Space → Nat
  | .hbm => 5
  | .vmem => 6
  | .smem => 0
  | _ => 0

abbrev bufTy : (tb : Table) → Fin (tcTables nBuf tb) → BufTy
  | .hbm, ⟨0, _⟩ => ⟨S16384x2048, .f32⟩
  | .hbm, ⟨1, _⟩ => ⟨S384x2048, .f32⟩
  | .hbm, ⟨2, _⟩ => ⟨S16384x2048, .bf16⟩
  | .hbm, ⟨3, _⟩ => ⟨S384x2048, .bf16⟩
  | .hbm, ⟨4, _⟩ => ⟨S16384x384, .f32⟩
  | .local _ .vmem, ⟨0, _⟩ => ⟨S1024x2048, .bf16⟩
  | .local _ .vmem, ⟨1, _⟩ => ⟨S1024x2048, .bf16⟩
  | .local _ .vmem, ⟨2, _⟩ => ⟨S384x2048, .bf16⟩
  | .local _ .vmem, ⟨3, _⟩ => ⟨S1024x384, .f32⟩
  | .local _ .vmem, ⟨4, _⟩ => ⟨S1024x384, .f32⟩
  | .local _ .vmem, ⟨5, _⟩ => ⟨S1024x384, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def k0_cond3 (i : grid0.Coords) : BitVec 1 :=
  let arg2 : BitVec 32 := BitVec.ofNat 32 (i 2).val
  let c0_i32_6 : BitVec 32 := 0#32
  let v11 : BitVec 1 := Scalar.cmpi .eq arg2 c0_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S384x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DcqnRefIdeal.lean ====
abbrev S16384x2048 : Shape := ⟨2, ![16384, 2048]⟩
abbrev S384x2048 : Shape := ⟨2, ![384, 2048]⟩
abbrev S_ : Shape := ⟨0, ![]⟩
abbrev S16384x384 : Shape := ⟨2, ![16384, 384]⟩

abbrev nBuf : Space → Nat
  | .hbm => 6
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S384x2048, .f32⟩
  | .hbm, ⟨2, _⟩ => ⟨S_, .f32⟩
  | .hbm, ⟨3, _⟩ => ⟨S16384x384, .f32⟩
  | .hbm, ⟨4, _⟩ => ⟨S16384x2048, .f32⟩
  | .hbm, ⟨5, _⟩ => ⟨S16384x384, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Dwq2.lean ====
abbrev S16384x384 : Shape := ⟨2, ![16384, 384]⟩
abbrev S16384x2048 : Shape := ⟨2, ![16384, 2048]⟩
abbrev S384x2048 : Shape := ⟨2, ![384, 2048]⟩
abbrev S1024x384 : Shape := ⟨2, ![1024, 384]⟩
abbrev S1024x1024 : Shape := ⟨2, ![1024, 1024]⟩
abbrev S384x1024 : Shape := ⟨2, ![384, 1024]⟩

abbrev nBuf : Space → Nat
  | .hbm => 5
  | .vmem => 7
  | .smem => 0
  | _ => 0

abbrev bufTy : (tb : Table) → Fin (tcTables nBuf tb) → BufTy
  | .hbm, ⟨0, _⟩ => ⟨S16384x384, .f32⟩
  | .hbm, ⟨1, _⟩ => ⟨S16384x2048, .f32⟩
  | .hbm, ⟨2, _⟩ => ⟨S16384x384, .bf16⟩
  | .hbm, ⟨3, _⟩ => ⟨S16384x2048, .bf16⟩
  | .hbm, ⟨4, _⟩ => ⟨S384x2048, .f32⟩
  | .local _ .vmem, ⟨0, _⟩ => ⟨S1024x384, .bf16⟩
  | .local _ .vmem, ⟨1, _⟩ => ⟨S1024x384, .bf16⟩
  | .local _ .vmem, ⟨2, _⟩ => ⟨S1024x1024, .bf16⟩
  | .local _ .vmem, ⟨3, _⟩ => ⟨S1024x1024, .bf16⟩
  | .local _ .vmem, ⟨4, _⟩ => ⟨S384x1024, .f32⟩
  | .local _ .vmem, ⟨5, _⟩ => ⟨S384x1024, .f32⟩
  | .local _ .vmem, ⟨6, _⟩ => ⟨S384x1024, .f32⟩
  | _, _ => ⟨S16384x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 16], ![false, false, false]⟩

def k0_cond3 (i : grid0.Coords) : BitVec 1 :=
  let arg2 : BitVec 32 := BitVec.ofNat 32 (i 2).val
  let c15_i32 : BitVec 32 := 15#32
  let v11 : BitVec 1 := Scalar.cmpi .eq arg2 c15_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S384x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Dwq2RefIdeal.lean ====
abbrev S16384x384 : Shape := ⟨2, ![16384, 384]⟩
abbrev S16384x2048 : Shape := ⟨2, ![16384, 2048]⟩
abbrev S_ : Shape := ⟨0, ![]⟩
abbrev S384x2048 : Shape := ⟨2, ![384, 2048]⟩
abbrev S2048x384 : Shape := ⟨2, ![2048, 384]⟩

abbrev nBuf : Space → Nat
  | .hbm => 7
  | .vmem => 0
  | .smem => 0
  | _ => 0

abbrev bufTy : (tb : Table) → Fin (tcTables nBuf tb) → BufTy
  | .hbm, ⟨0, _⟩ => ⟨S16384x384, .f32⟩
  | .hbm, ⟨1, _⟩ => ⟨S16384x2048, .f32⟩
  | .hbm, ⟨2, _⟩ => ⟨S_, .f32⟩
  | .hbm, ⟨3, _⟩ => ⟨S384x2048, .f32⟩
  | .hbm, ⟨4, _⟩ => ⟨S16384x2048, .f32⟩
  | .hbm, ⟨5, _⟩ => ⟨S2048x384, .f32⟩
  | .hbm, ⟨6, _⟩ => ⟨S384x2048, .f32⟩
  | _, _ => ⟨S16384x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== DckvnK.lean ====
abbrev S512x16384 : Shape := ⟨2, ![512, 16384]⟩
abbrev S256x512 : Shape := ⟨2, ![256, 512]⟩
abbrev S512x256 : Shape := ⟨2, ![512, 256]⟩
abbrev S16384x256 : Shape := ⟨2, ![16384, 256]⟩
abbrev S512x512 : Shape := ⟨2, ![512, 512]⟩

abbrev nBuf : Space → Nat
  | .hbm => 6
  | .vmem => 6
  | .smem => 0
  | _ => 0

abbrev bufTy : (tb : Table) → Fin (tcTables nBuf tb) → BufTy
  | .hbm, ⟨0, _⟩ => ⟨S512x16384, .f32⟩
  | .hbm, ⟨1, _⟩ => ⟨S256x512, .f32⟩
  | .hbm, ⟨2, _⟩ => ⟨S512x16384, .bf16⟩
  | .hbm, ⟨3, _⟩ => ⟨S256x512, .bf16⟩
  | .hbm, ⟨4, _⟩ => ⟨S512x256, .bf16⟩
  | .hbm, ⟨5, _⟩ => ⟨S16384x256, .f32⟩
  | .local _ .vmem, ⟨0, _⟩ => ⟨S512x512, .bf16⟩
  | .local _ .vmem, ⟨1, _⟩ => ⟨S512x512, .bf16⟩
  | .local _ .vmem, ⟨2, _⟩ => ⟨S512x256, .bf16⟩
  | .local _ .vmem, ⟨3, _⟩ => ⟨S512x256, .f32⟩
  | .local _ .vmem, ⟨4, _⟩ => ⟨S512x256, .f32⟩
  | .local _ .vmem, ⟨5, _⟩ => ⟨S512x256, .f32⟩
  | _, _ => ⟨S512x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![32, 1, 1], ![false, false, false]⟩

def k0_cond3 (i : grid0.Coords) : BitVec 1 :=
  let arg2 : BitVec 32 := BitVec.ofNat 32 (i 2).val
  let c0_i32_6 : BitVec 32 := 0#32
  let v11 : BitVec 1 := Scalar.cmpi .eq arg2 c0_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DckvnKRefIdeal.lean ====
abbrev S512x16384 : Shape := ⟨2, ![512, 16384]⟩
abbrev S256x512 : Shape := ⟨2, ![256, 512]⟩
abbrev S16384x512 : Shape := ⟨2, ![16384, 512]⟩
abbrev S_ : Shape := ⟨0, ![]⟩
abbrev S16384x256 : Shape := ⟨2, ![16384, 256]⟩

abbrev nBuf : Space → Nat
  | .hbm => 7
  | .vmem => 0
  | .smem => 0
  | _ => 0

abbrev bufTy : (tb : Table) → Fin (tcTables nBuf tb) → BufTy
  | .hbm, ⟨0, _⟩ => ⟨S512x16384, .f32⟩
  | .hbm, ⟨1, _⟩ => ⟨S256x512, .f32⟩
  | .hbm, ⟨2, _⟩ => ⟨S16384x512, .f32⟩
  | .hbm, ⟨3, _⟩ => ⟨S_, .f32⟩
  | .hbm, ⟨4, _⟩ => ⟨S16384x256, .f32⟩
  | .hbm, ⟨5, _⟩ => ⟨S16384x512, .f32⟩
  | .hbm, ⟨6, _⟩ => ⟨S16384x256, .f32⟩
  | _, _ => ⟨S512x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== DckvnV.lean ====
abbrev S512x16384 : Shape := ⟨2, ![512, 16384]⟩
abbrev S256x512 : Shape := ⟨2, ![256, 512]⟩
abbrev S16384x256 : Shape := ⟨2, ![16384, 256]⟩
abbrev S512x256 : Shape := ⟨2, ![512, 256]⟩
abbrev S512x512 : Shape := ⟨2, ![512, 512]⟩

abbrev nBuf : Space → Nat
  | .hbm => 6
  | .vmem => 8
  | .smem => 0
  | _ => 0

abbrev bufTy : (tb : Table) → Fin (tcTables nBuf tb) → BufTy
  | .hbm, ⟨0, _⟩ => ⟨S512x16384, .f32⟩
  | .hbm, ⟨1, _⟩ => ⟨S256x512, .f32⟩
  | .hbm, ⟨2, _⟩ => ⟨S16384x256, .f32⟩
  | .hbm, ⟨3, _⟩ => ⟨S256x512, .bf16⟩
  | .hbm, ⟨4, _⟩ => ⟨S512x256, .bf16⟩
  | .hbm, ⟨5, _⟩ => ⟨S16384x256, .f32⟩
  | .local _ .vmem, ⟨0, _⟩ => ⟨S512x512, .f32⟩
  | .local _ .vmem, ⟨1, _⟩ => ⟨S512x512, .f32⟩
  | .local _ .vmem, ⟨2, _⟩ => ⟨S512x256, .bf16⟩
  | .local _ .vmem, ⟨3, _⟩ => ⟨S512x256, .f32⟩
  | .local _ .vmem, ⟨4, _⟩ => ⟨S512x256, .f32⟩
  | .local _ .vmem, ⟨5, _⟩ => ⟨S512x256, .f32⟩
  | .local _ .vmem, ⟨6, _⟩ => ⟨S512x256, .f32⟩
  | .local _ .vmem, ⟨7, _⟩ => ⟨S512x256, .f32⟩
  | _, _ => ⟨S512x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![32, 1, 1], ![false, false, false]⟩

def k0_cond3 (i : grid0.Coords) : BitVec 1 :=
  let arg2 : BitVec 32 := BitVec.ofNat 32 (i 2).val
  let c0_i32_6 : BitVec 32 := 0#32
  let v11 : BitVec 1 := Scalar.cmpi .eq arg2 c0_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DckvnVRefIdeal.lean ====
abbrev S512x16384 : Shape := ⟨2, ![512, 16384]⟩
abbrev S256x512 : Shape := ⟨2, ![256, 512]⟩
abbrev S16384x256 : Shape := ⟨2, ![16384, 256]⟩
abbrev S16384x512 : Shape := ⟨2, ![16384, 512]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S512x16384, .f32⟩
  | .hbm, ⟨1, _⟩ => ⟨S256x512, .f32⟩
  | .hbm, ⟨2, _⟩ => ⟨S16384x256, .f32⟩
  | .hbm, ⟨3, _⟩ => ⟨S16384x512, .f32⟩
  | .hbm, ⟨4, _⟩ => ⟨S_, .f32⟩
  | .hbm, ⟨5, _⟩ => ⟨S16384x256, .f32⟩
  | .hbm, ⟨6, _⟩ => ⟨S16384x512, .f32⟩
  | .hbm, ⟨7, _⟩ => ⟨S16384x256, .f32⟩
  | .hbm, ⟨8, _⟩ => ⟨S16384x256, .f32⟩
  | _, _ => ⟨S512x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== DhKr.lean ====
abbrev S128x16384 : Shape := ⟨2, ![128, 16384]⟩
abbrev S1024x128 : Shape := ⟨2, ![1024, 128]⟩
abbrev S128x1024 : Shape := ⟨2, ![128, 1024]⟩
abbrev S16384x1024 : Shape := ⟨2, ![16384, 1024]⟩
abbrev S128x512 : Shape := ⟨2, ![128, 512]⟩
abbrev S512x1024 : Shape := ⟨2, ![512, 1024]⟩

abbrev nBuf : Space → Nat
  | .hbm => 6
  | .vmem => 6
  | .smem => 0
  | _ => 0

abbrev bufTy : (tb : Table) → Fin (tcTables nBuf tb) → BufTy
  | .hbm, ⟨0, _⟩ => ⟨S128x16384, .f32⟩
  | .hbm, ⟨1, _⟩ => ⟨S1024x128, .f32⟩
  | .hbm, ⟨2, _⟩ => ⟨S128x16384, .bf16⟩
  | .hbm, ⟨3, _⟩ => ⟨S1024x128, .bf16⟩
  | .hbm, ⟨4, _⟩ => ⟨S128x1024, .bf16⟩
  | .hbm, ⟨5, _⟩ => ⟨S16384x1024, .f32⟩
  | .local _ .vmem, ⟨0, _⟩ => ⟨S128x512, .bf16⟩
  | .local _ .vmem, ⟨1, _⟩ => ⟨S128x512, .bf16⟩
  | .local _ .vmem, ⟨2, _⟩ => ⟨S128x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | _, _ => ⟨S128x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![32, 1, 1], ![false, false, false]⟩

def k0_cond3 (i : grid0.Coords) : BitVec 1 :=
  let arg2 : BitVec 32 := BitVec.ofNat 32 (i 2).val
  let c0_i32_6 : BitVec 32 := 0#32
  let v11 : BitVec 1 := Scalar.cmpi .eq arg2 c0_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S128x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S128x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DhKrRefIdeal.lean ====
abbrev S128x16384 : Shape := ⟨2, ![128, 16384]⟩
abbrev S1024x128 : Shape := ⟨2, ![1024, 128]⟩
abbrev S16384x128 : Shape := ⟨2, ![16384, 128]⟩
abbrev S_ : Shape := ⟨0, ![]⟩
abbrev S16384x1024 : Shape := ⟨2, ![16384, 1024]⟩

abbrev nBuf : Space → Nat
  | .hbm => 7
  | .vmem => 0
  | .smem => 0
  | _ => 0

abbrev bufTy : (tb : Table) → Fin (tcTables nBuf tb) → BufTy
  | .hbm, ⟨0, _⟩ => ⟨S128x16384, .f32⟩
  | .hbm, ⟨1, _⟩ => ⟨S1024x128, .f32⟩
  | .hbm, ⟨2, _⟩ => ⟨S16384x128, .f32⟩
  | .hbm, ⟨3, _⟩ => ⟨S_, .f32⟩
  | .hbm, ⟨4, _⟩ => ⟨S16384x1024, .f32⟩
  | .hbm, ⟨5, _⟩ => ⟨S16384x128, .f32⟩
  | .hbm, ⟨6, _⟩ => ⟨S16384x1024, .f32⟩
  | _, _ => ⟨S128x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Dwkn.lean ====
abbrev S512x16384 : Shape := ⟨2, ![512, 16384]⟩
abbrev S16384x256 : Shape := ⟨2, ![16384, 256]⟩
abbrev S512x256 : Shape := ⟨2, ![512, 256]⟩
abbrev S512x1024 : Shape := ⟨2, ![512, 1024]⟩
abbrev S1024x256 : Shape := ⟨2, ![1024, 256]⟩

abbrev nBuf : Space → Nat
  | .hbm => 5
  | .vmem => 6
  | .smem => 0
  | _ => 0

abbrev bufTy : (tb : Table) → Fin (tcTables nBuf tb) → BufTy
  | .hbm, ⟨0, _⟩ => ⟨S512x16384, .f32⟩
  | .hbm, ⟨1, _⟩ => ⟨S16384x256, .f32⟩
  | .hbm, ⟨2, _⟩ => ⟨S512x16384, .bf16⟩
  | .hbm, ⟨3, _⟩ => ⟨S16384x256, .bf16⟩
  | .hbm, ⟨4, _⟩ => ⟨S512x256, .f32⟩
  | .local _ .vmem, ⟨0, _⟩ => ⟨S512x1024, .bf16⟩
  | .local _ .vmem, ⟨1, _⟩ => ⟨S512x1024, .bf16⟩
  | .local _ .vmem, ⟨2, _⟩ => ⟨S1024x256, .bf16⟩
  | .local _ .vmem, ⟨3, _⟩ => ⟨S1024x256, .bf16⟩
  | .local _ .vmem, ⟨4, _⟩ => ⟨S512x256, .f32⟩
  | .local _ .vmem, ⟨5, _⟩ => ⟨S512x256, .f32⟩
  | _, _ => ⟨S512x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 16], ![false, false, false]⟩

def k0_cond3 (i : grid0.Coords) : BitVec 1 :=
  let arg2 : BitVec 32 := BitVec.ofNat 32 (i 2).val
  let c15_i32 : BitVec 32 := 15#32
  let v11 : BitVec 1 := Scalar.cmpi .eq arg2 c15_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S512x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== DwknRefIdeal.lean ====
abbrev S512x16384 : Shape := ⟨2, ![512, 16384]⟩
abbrev S16384x256 : Shape := ⟨2, ![16384, 256]⟩
abbrev S16384x512 : Shape := ⟨2, ![16384, 512]⟩
abbrev S_ : Shape := ⟨0, ![]⟩
abbrev S256x512 : Shape := ⟨2, ![256, 512]⟩
abbrev S512x256 : Shape := ⟨2, ![512, 256]⟩

abbrev nBuf : Space → Nat
  | .hbm => 9
  | .vmem => 0
  | .smem => 0
  | _ => 0

abbrev bufTy : (tb : Table) → Fin (tcTables nBuf tb) → BufTy
  | .hbm, ⟨0, _⟩ => ⟨S512x16384, .f32⟩
  | .hbm, ⟨1, _⟩ => ⟨S16384x256, .f32⟩
  | .hbm, ⟨2, _⟩ => ⟨S16384x512, .f32⟩
  | .hbm, ⟨3, _⟩ => ⟨S_, .f32⟩
  | .hbm, ⟨4, _⟩ => ⟨S256x512, .f32⟩
  | .hbm, ⟨5, _⟩ => ⟨S16384x512, .f32⟩
  | .hbm, ⟨6, _⟩ => ⟨S512x256, .f32⟩
  | .hbm, ⟨7, _⟩ => ⟨S256x512, .f32⟩
  | .hbm, ⟨8, _⟩ => ⟨S512x256, .f32⟩
  | _, _ => ⟨S512x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Dwv.lean ====
abbrev S512x16384 : Shape := ⟨2, ![512, 16384]⟩
abbrev S16384x256 : Shape := ⟨2, ![16384, 256]⟩
abbrev S512x256 : Shape := ⟨2, ![512, 256]⟩
abbrev S512x1024 : Shape := ⟨2, ![512, 1024]⟩
abbrev S1024x256 : Shape := ⟨2, ![1024, 256]⟩

abbrev nBuf : Space → Nat
  | .hbm => 4
  | .vmem => 6
  | .smem => 0
  | _ => 0

abbrev bufTy : (tb : Table) → Fin (tcTables nBuf tb) → BufTy
  | .hbm, ⟨0, _⟩ => ⟨S512x16384, .f32⟩
  | .hbm, ⟨1, _⟩ => ⟨S16384x256, .f32⟩
  | .hbm, ⟨2, _⟩ => ⟨S16384x256, .bf16⟩
  | .hbm, ⟨3, _⟩ => ⟨S512x256, .f32⟩
  | .local _ .vmem, ⟨0, _⟩ => ⟨S512x1024, .f32⟩
  | .local _ .vmem, ⟨1, _⟩ => ⟨S512x1024, .f32⟩
  | .local _ .vmem, ⟨2, _⟩ => ⟨S1024x256, .bf16⟩
  | .local _ .vmem, ⟨3, _⟩ => ⟨S1024x256, .bf16⟩
  | .local _ .vmem, ⟨4, _⟩ => ⟨S512x256, .f32⟩
  | .local _ .vmem, ⟨5, _⟩ => ⟨S512x256, .f32⟩
  | _, _ => ⟨S512x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 16], ![false, false, false]⟩

def k0_cond3 (i : grid0.Coords) : BitVec 1 :=
  let arg2 : BitVec 32 := BitVec.ofNat 32 (i 2).val
  let c15_i32 : BitVec 32 := 15#32
  let v11 : BitVec 1 := Scalar.cmpi .eq arg2 c15_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S512x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== DwvRefIdeal.lean ====
abbrev S512x16384 : Shape := ⟨2, ![512, 16384]⟩
abbrev S16384x256 : Shape := ⟨2, ![16384, 256]⟩
abbrev S16384x512 : Shape := ⟨2, ![16384, 512]⟩
abbrev S_ : Shape := ⟨0, ![]⟩
abbrev S256x512 : Shape := ⟨2, ![256, 512]⟩
abbrev S512x256 : Shape := ⟨2, ![512, 256]⟩

abbrev nBuf : Space → Nat
  | .hbm => 9
  | .vmem => 0
  | .smem => 0
  | _ => 0

abbrev bufTy : (tb : Table) → Fin (tcTables nBuf tb) → BufTy
  | .hbm, ⟨0, _⟩ => ⟨S512x16384, .f32⟩
  | .hbm, ⟨1, _⟩ => ⟨S16384x256, .f32⟩
  | .hbm, ⟨2, _⟩ => ⟨S16384x512, .f32⟩
  | .hbm, ⟨3, _⟩ => ⟨S_, .f32⟩
  | .hbm, ⟨4, _⟩ => ⟨S256x512, .f32⟩
  | .hbm, ⟨5, _⟩ => ⟨S16384x512, .f32⟩
  | .hbm, ⟨6, _⟩ => ⟨S512x256, .f32⟩
  | .hbm, ⟨7, _⟩ => ⟨S256x512, .f32⟩
  | .hbm, ⟨8, _⟩ => ⟨S512x256, .f32⟩
  | _, _ => ⟨S512x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== DwKr.lean ====
abbrev S128x16384 : Shape := ⟨2, ![128, 16384]⟩
abbrev S16384x1024 : Shape := ⟨2, ![16384, 1024]⟩
abbrev S128x1024 : Shape := ⟨2, ![128, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S128x16384, .f32⟩
  | .hbm, ⟨1, _⟩ => ⟨S16384x1024, .f32⟩
  | .hbm, ⟨2, _⟩ => ⟨S128x16384, .bf16⟩
  | .hbm, ⟨3, _⟩ => ⟨S16384x1024, .bf16⟩
  | .hbm, ⟨4, _⟩ => ⟨S128x1024, .f32⟩
  | .local _ .vmem, ⟨0, _⟩ => ⟨S128x1024, .bf16⟩
  | .local _ .vmem, ⟨1, _⟩ => ⟨S128x1024, .bf16⟩
  | .local _ .vmem, ⟨2, _⟩ => ⟨S1024x1024, .bf16⟩
  | .local _ .vmem, ⟨3, _⟩ => ⟨S1024x1024, .bf16⟩
  | .local _ .vmem, ⟨4, _⟩ => ⟨S128x1024, .f32⟩
  | .local _ .vmem, ⟨5, _⟩ => ⟨S128x1024, .f32⟩
  | _, _ => ⟨S128x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 16], ![false, false, false]⟩

def k0_cond3 (i : grid0.Coords) : BitVec 1 :=
  let arg2 : BitVec 32 := BitVec.ofNat 32 (i 2).val
  let c15_i32 : BitVec 32 := 15#32
  let v11 : BitVec 1 := Scalar.cmpi .eq arg2 c15_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== DwKrRefIdeal.lean ====
abbrev S128x16384 : Shape := ⟨2, ![128, 16384]⟩
abbrev S16384x1024 : Shape := ⟨2, ![16384, 1024]⟩
abbrev S16384x128 : Shape := ⟨2, ![16384, 128]⟩
abbrev S_ : Shape := ⟨0, ![]⟩
abbrev S1024x128 : Shape := ⟨2, ![1024, 128]⟩
abbrev S128x1024 : Shape := ⟨2, ![128, 1024]⟩

abbrev nBuf : Space → Nat
  | .hbm => 9
  | .vmem => 0
  | .smem => 0
  | _ => 0

abbrev bufTy : (tb : Table) → Fin (tcTables nBuf tb) → BufTy
  | .hbm, ⟨0, _⟩ => ⟨S128x16384, .f32⟩
  | .hbm, ⟨1, _⟩ => ⟨S16384x1024, .f32⟩
  | .hbm, ⟨2, _⟩ => ⟨S16384x128, .f32⟩
  | .hbm, ⟨3, _⟩ => ⟨S_, .f32⟩
  | .hbm, ⟨4, _⟩ => ⟨S1024x128, .f32⟩
  | .hbm, ⟨5, _⟩ => ⟨S16384x128, .f32⟩
  | .hbm, ⟨6, _⟩ => ⟨S128x1024, .f32⟩
  | .hbm, ⟨7, _⟩ => ⟨S1024x128, .f32⟩
  | .hbm, ⟨8, _⟩ => ⟨S128x1024, .f32⟩
  | _, _ => ⟨S128x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Delta.lean ====
abbrev S16384x512 : Shape := ⟨2, ![16384, 512]⟩
abbrev S8x16384x1 : Shape := ⟨3, ![8, 16384, 1]⟩
abbrev S512x512 : Shape := ⟨2, ![512, 512]⟩
abbrev S8x512x1 : Shape := ⟨3, ![8, 512, 1]⟩
abbrev S512x64 : Shape := ⟨2, ![512, 64]⟩
abbrev S512 : Shape := ⟨1, ![512]⟩
abbrev S512x1 : Shape := ⟨2, ![512, 1]⟩
abbrev S1x512x1 : Shape := ⟨3, ![1, 512, 1]⟩

abbrev nBuf : Space → Nat
  | .hbm => 4
  | .vmem => 6
  | .smem => 0
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S16384x512, .bf16⟩
  | .hbm, ⟨3, _⟩ => ⟨S8x16384x1, .f32⟩
  | .local _ .vmem, ⟨0, _⟩ => ⟨S512x512, .f32⟩
  | .local _ .vmem, ⟨1, _⟩ => ⟨S512x512, .f32⟩
  | .local _ .vmem, ⟨2, _⟩ => ⟨S512x512, .bf16⟩
  | .local _ .vmem, ⟨3, _⟩ => ⟨S512x512, .bf16⟩
  | .local _ .vmem, ⟨4, _⟩ => ⟨S8x512x1, .f32⟩
  | .local _ .vmem, ⟨5, _⟩ => ⟨S8x512x1, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== DeltaRefIdeal.lean ====
abbrev S16384x512 : Shape := ⟨2, ![16384, 512]⟩
abbrev S16384x8x64 : Shape := ⟨3, ![16384, 8, 64]⟩
abbrev S_ : Shape := ⟨0, ![]⟩
abbrev S16384x8 : Shape := ⟨2, ![16384, 8]⟩
abbrev S8x16384 : Shape := ⟨2, ![8, 16384]⟩
abbrev S8x16384x1 : Shape := ⟨3, ![8, 16384, 1]⟩

abbrev nBuf : Space → Nat
  | .hbm => 8
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S16384x512, .f32⟩
  | .hbm, ⟨3, _⟩ => ⟨S16384x8x64, .f32⟩
  | .hbm, ⟨4, _⟩ => ⟨S_, .f32⟩
  | .hbm, ⟨5, _⟩ => ⟨S16384x8, .f32⟩
  | .hbm, ⟨6, _⟩ => ⟨S8x16384, .f32⟩
  | .hbm, ⟨7, _⟩ => ⟨S8x16384x1, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Proof.BwdOps.lean ====
module
public import proofs.«01_k».proof.Proof.Gen.KernelIdeal.Value
public import Idealize.ShloMosaic.Lib.Tactic
public import Idealize.ShloMosaic.Lib.Pointwise
public import Idealize.ShloMosaic.Lib.ValueIdx
@[expose] public section
noncomputable section
open Idealize.ShloMosaic Idealize.ShloMosaic.TcCoe Idealize.SL.Sem
namespace Cert.KernelIdeal.Body
open Cert.KernelIdeal Cert.KernelIdeal.Gen Cert.KernelIdeal.Facts

/-! What one head of the body computes on its blocks: every head does the same with its own columns. -/

/-- The probabilities of one head: two to the scores less the row statistic. -/
def opP (q k : FVec Ideal S1024x128 .bf16) (l : FVec Ideal S1x1024x1 .f32) : FVec Ideal S1024x1024 .bf16 :=
  exp2 (truncf .bf16 (subf (matmul dot_S1024x128_S1024x128_S1024x1024_1_1_0_0_n_n none (shapeCast S1024x128 q shapeCasts_S1024x128_S1024x128)
    (shapeCast S1024x128 k shapeCasts_S1024x128_S1024x128) (constant S1024x1024 .f32 0x00000000#32))
    (broadcastTo S1024x1024 (shapeCast S1024x1 l shapeCasts_S1x1024x1_S1024x1) broadcasts_S1024x1_S1024x1024)) bitsLt_bf16_f32)

/-- The gradient of one head's scores. -/
def opD (q k : FVec Ideal S1024x128 .bf16) (l : FVec Ideal S1x1024x1 .f32) (o v : FVec Ideal S1024x64 .bf16) (d : FVec Ideal S1x1024x1 .f32) :
    FVec Ideal S1024x1024 .bf16 :=
  mulf (opP q k l) (truncf .bf16 (subf (matmul dot_S1024x64_S1024x64_S1024x1024_1_1_0_0_n_n none (shapeCast S1024x64 o shapeCasts_S1024x64_S1024x64)
    (shapeCast S1024x64 v shapeCasts_S1024x64_S1024x64) (constant S1024x1024 .f32 0x00000000#32))
    (broadcastTo S1024x1024 (shapeCast S1024x1 d shapeCasts_S1x1024x1_S1024x1) broadcasts_S1024x1_S1024x1024)) bitsLt_bf16_f32)

/-- One head's part of the queries' gradient. -/
def opQ (ds : FVec Ideal S1024x1024 .bf16) (k : FVec Ideal S1024x128 .bf16) : FVec Ideal S1x1024x128 .bf16 :=
  shapeCast S1x1024x128 (truncf .bf16 (matmul dot_S1024x1024_S1024x128_S1024x128_1_0_0_1_n_n none ds
    (shapeCast S1024x128 k shapeCasts_S1024x128_S1024x128) (constant S1024x128 .f32 0x00000000#32)) bitsLt_bf16_f32) shapeCasts_S1024x128_S1x1024x128

/-- One head's keys' gradient, added to what is there. -/
def opK (ds : FVec Ideal S1024x1024 .bf16) (a : FVec Ideal S128x1024 .f32) (q : FVec Ideal S128x1024 .bf16) : FVec Ideal S128x1024 .f32 :=
  addf (shapeCast S128x1024 a shapeCasts_S128x1024_S128x1024) (matmul dot_S128x1024_S1024x1024_S128x1024_1_0_0_1_n_n none
    (shapeCast S128x1024 q shapeCasts_S128x1024_S128x1024) ds (constant S128x1024 .f32 0x00000000#32))

/-- One head's values' gradient, added to what is there. -/
def opV (p : FVec Ideal S1024x1024 .bf16) (a : FVec Ideal S64x1024 .f32) (o : FVec Ideal S64x1024 .bf16) : FVec Ideal S64x1024 .f32 :=
  addf (shapeCast S64x1024 a shapeCasts_S64x1024_S64x1024) (matmul dot_S64x1024_S1024x1024_S64x1024_1_0_0_1_n_n none
    (shapeCast S64x1024 o shapeCasts_S64x1024_S64x1024) p (constant S64x1024 .f32 0x00000000#32))

theorem opP_apply (q k : FVec Ideal S1024x128 .bf16) (l : FVec Ideal S1x1024x1 .f32) (a b : Fin 1024) :
    opP q k l (ix2 a b) = Ideal.exp2 ((∑ d : Fin 128, q (ix2 a d) * k (ix2 b d)) - l (ix3 0 a 0)) := by
  pointwise [opP]; rfl

theorem opD_apply (q k : FVec Ideal S1024x128 .bf16) (l : FVec Ideal S1x1024x1 .f32) (o v : FVec Ideal S1024x64 .bf16)
    (d : FVec Ideal S1x1024x1 .f32) (a b : Fin 1024) :
    opD q k l o v d (ix2 a b) = opP q k l (ix2 a b) * ((∑ e : Fin 64, o (ix2 a e) * v (ix2 b e)) - d (ix3 0 a 0)) := by
  pointwise [opD]

theorem opQ_apply (ds : FVec Ideal S1024x1024 .bf16) (k : FVec Ideal S1024x128 .bf16) (a : Fin 1024) (c : Fin 128) :
    opQ ds k (ix3 0 a c) = ∑ b : Fin 1024, ds (ix2 a b) * k (ix2 b c) := by
  pointwise [opQ]

theorem opK_apply (ds : FVec Ideal S1024x1024 .bf16) (x : FVec Ideal S128x1024 .f32) (q : FVec Ideal S128x1024 .bf16) (r : Fin 128) (b : Fin 1024) :
    opK ds x q (ix2 r b) = x (ix2 r b) + ∑ a : Fin 1024, q (ix2 r a) * ds (ix2 a b) := by
  pointwise [opK]

theorem opV_apply (p : FVec Ideal S1024x1024 .bf16) (x : FVec Ideal S64x1024 .f32) (o : FVec Ideal S64x1024 .bf16) (r : Fin 64) (b : Fin 1024) :
    opV p x o (ix2 r b) = x (ix2 r b) + ∑ a : Fin 1024, o (ix2 r a) * p (ix2 a b) := by
  pointwise [opV]

/-! ## The same on whole blocks -/

/-- Column `d` of head `h` among columns of width 128. -/
def c128 (h : Fin 8) (d : Fin 128) : Fin 1024 := ⟨128 * h.val + d.val, by omega⟩

/-- Column `d` of head `h` among columns of width 64. -/
def c64 (h : Fin 8) (d : Fin 64) : Fin 512 := ⟨64 * h.val + d.val, by omega⟩

/-- The head a column of width 128 belongs to. -/
def h128 (c : Fin 1024) : Fin 8 := ⟨c.val / 128, by omega⟩

/-- The head a column of width 64 belongs to. -/
def h64 (c : Fin 512) : Fin 8 := ⟨c.val / 64, by omega⟩

theorem h128_c128 (h : Fin 8) (d : Fin 128) : h128 (c128 h d) = h := Fin.ext (by simp [h128, c128]; omega)
theorem h64_c64 (h : Fin 8) (d : Fin 64) : h64 (c64 h d) = h := Fin.ext (by simp [h64, c64]; omega)

section Blocks
variable (x0 x1 x2 : S1024x1024.Idx → EReal) (x3 x4 : S1024x512.Idx → EReal) (x5 : S512x1024.Idx → EReal) (x6 x7 : S8x1024x1.Idx → EReal)

/-- The probability of query `a` at key `b`, head `h`. -/
def gP (h : Fin 8) (a b : Fin 1024) : EReal :=
  Ideal.exp2 ((∑ d : Fin 128, x0 (ix2 a (c128 h d)) * x2 (ix2 b (c128 h d))) - x6 (ix3 h a 0))

/-- The gradient of the score of query `a` at key `b`, head `h`. -/
def gD (h : Fin 8) (a b : Fin 1024) : EReal :=
  gP x0 x2 x6 h a b * ((∑ e : Fin 64, x4 (ix2 a (c64 h e)) * x3 (ix2 b (c64 h e))) - x7 (ix3 h a 0))

/-- The queries' gradient block. -/
def gQ (y : S1x1024x1024.Idx) : EReal :=
  ∑ b : Fin 1024, gD x0 x2 x3 x4 x6 x7 (h128 (y 2)) (y 1) b * x2 (ix2 b (y 2))

/-- What a point adds to the keys' gradient block. -/
def gK (y : S1024x1024.Idx) : EReal :=
  ∑ a : Fin 1024, x1 (ix2 (y 0) a) * gD x0 x2 x3 x4 x6 x7 (h128 (y 0)) a (y 1)

/-- What a point adds to the values' gradient block. -/
def gV (y : S512x1024.Idx) : EReal :=
  ∑ a : Fin 1024, x5 (ix2 (y 0) a) * gP x0 x2 x6 (h64 (y 0)) a (y 1)

end Blocks

theorem ld_c128 (X : S1024x1024.Idx → EReal) (h : Fin 8) {o : ℕ} (ho : o = 128 * h.val)
    (i : ∀ a, (![0, o] : Fin 2 → ℕ) a + (![1024, 128] : Fin 2 → ℕ) a ≤ S1024x1024.size a) (a : Fin 1024) (d : Fin 128) :
    View.ld (Val := Elt Ideal) (e' := .bf16) X (Rect.unit (s := S1024x1024) ![0, o] ![1024, 128] i) (ix2 a d) = X (ix2 a (c128 h d)) := by
  subst ho
  refine congrArg X (funext fun k => Fin.ext ?_)
  match k with
  | ⟨0, _⟩ => show 0 + 1 * a.val = a.val; omega
  | ⟨1, _⟩ => show 128 * h.val + 1 * d.val = 128 * h.val + d.val; omega

theorem ld_c64 (X : S1024x512.Idx → EReal) (h : Fin 8) {o : ℕ} (ho : o = 64 * h.val)
    (i : ∀ a, (![0, o] : Fin 2 → ℕ) a + (![1024, 64] : Fin 2 → ℕ) a ≤ S1024x512.size a) (a : Fin 1024) (d : Fin 64) :
    View.ld (Val := Elt Ideal) (e' := .bf16) X (Rect.unit (s := S1024x512) ![0, o] ![1024, 64] i) (ix2 a d) = X (ix2 a (c64 h d)) := by
  subst ho
  refine congrArg X (funext fun k => Fin.ext ?_)
  match k with
  | ⟨0, _⟩ => show 0 + 1 * a.val = a.val; omega
  | ⟨1, _⟩ => show 64 * h.val + 1 * d.val = 64 * h.val + d.val; omega

theorem ld_st (X : S8x1024x1.Idx → EReal) (h : Fin 8) {o : ℕ} (ho : o = h.val)
    (i : ∀ a, (![o, 0, 0] : Fin 3 → ℕ) a + (![1, 1024, 1] : Fin 3 → ℕ) a ≤ S8x1024x1.size a) (a : Fin 1024) :
    View.ld (Val := Elt Ideal) (e' := .f32) X (Rect.unit (s := S8x1024x1) ![o, 0, 0] ![1, 1024, 1] i) (ix3 0 a 0) = X (ix3 h a 0) := by
  subst ho
  refine congrArg X (funext fun k => Fin.ext ?_)
  match k with
  | ⟨0, _⟩ => show h.val + 1 * 0 = h.val; omega
  | ⟨1, _⟩ => show 0 + 1 * a.val = a.val; omega
  | ⟨2, _⟩ => show 0 + 1 * 0 = 0; omega

theorem emb_r128 (h : Fin 8) {o : ℕ} (ho : o = 128 * h.val)
    (i : ∀ a, (![o, 0] : Fin 2 → ℕ) a + (![128, 1024] : Fin 2 → ℕ) a ≤ S1024x1024.size a) (r : Fin 128) (b : Fin 1024) :
    (Rect.unit (s := S1024x1024) ![o, 0] ![128, 1024] i).emb (ix2 r b) = ix2 (c128 h r) b := by
  subst ho
  refine funext fun k => Fin.ext ?_
  match k with
  | ⟨0, _⟩ => show 128 * h.val + 1 * r.val = 128 * h.val + r.val; omega
  | ⟨1, _⟩ => show 0 + 1 * b.val = b.val; omega

theorem emb_r64 (h : Fin 8) {o : ℕ} (ho : o = 64 * h.val)
    (i : ∀ a, (![o, 0] : Fin 2 → ℕ) a + (![64, 1024] : Fin 2 → ℕ) a ≤ S512x1024.size a) (r : Fin 64) (b : Fin 1024) :
    (Rect.unit (s := S512x1024) ![o, 0] ![64, 1024] i).emb (ix2 r b) = ix2 (c64 h r) b := by
  subst ho
  refine funext fun k => Fin.ext ?_
  match k with
  | ⟨0, _⟩ => show 64 * h.val + 1 * r.val = 64 * h.val + r.val; omega
  | ⟨1, _⟩ => show 0 + 1 * b.val = b.val; omega

theorem emb_q128 (h : Fin 8) {o : ℕ} (ho : o = 128 * h.val)
    (i : ∀ a, (![0, 0, o] : Fin 3 → ℕ) a + (![1, 1024, 128] : Fin 3 → ℕ) a ≤ S1x1024x1024.size a) (a : Fin 1024) (d : Fin 128) :
    (Rect.unit (s := S1x1024x1024) ![0, 0, o] ![1, 1024, 128] i).emb (ix3 0 a d) = ix3 0 a (c128 h d) := by
  subst ho
  refine funext fun k => Fin.ext ?_
  match k with
  | ⟨0, _⟩ => rfl
  | ⟨1, _⟩ => show 0 + 1 * a.val = a.val; omega
  | ⟨2, _⟩ => show 128 * h.val + 1 * d.val = 128 * h.val + d.val; omega

section Pieces
variable (x0 x1 x2 : S1024x1024.Idx → EReal) (x3 x4 : S1024x512.Idx → EReal) (x5 : S512x1024.Idx → EReal) (x6 x7 : S8x1024x1.Idx → EReal)
  (h : Fin 8) {o o' l : ℕ} (ho : o = 128 * h.val) (ho' : o' = 64 * h.val) (hl : l = h.val)
  (iq : ∀ a, (![0, o] : Fin 2 → ℕ) a + (![1024, 128] : Fin 2 → ℕ) a ≤ S1024x1024.size a)
  (iv : ∀ a, (![0, o'] : Fin 2 → ℕ) a + (![1024, 64] : Fin 2 → ℕ) a ≤ S1024x512.size a)
  (is : ∀ a, (![l, 0, 0] : Fin 3 → ℕ) a + (![1, 1024, 1] : Fin 3 → ℕ) a ≤ S8x1024x1.size a)
  (ik : ∀ a, (![o, 0] : Fin 2 → ℕ) a + (![128, 1024] : Fin 2 → ℕ) a ≤ S1024x1024.size a)
  (id : ∀ a, (![o', 0] : Fin 2 → ℕ) a + (![64, 1024] : Fin 2 → ℕ) a ≤ S512x1024.size a)
  (ir : ∀ a, (![0, 0, o] : Fin 3 → ℕ) a + (![1, 1024, 128] : Fin 3 → ℕ) a ≤ S1x1024x1024.size a)

/-- The head's columns of a block of queries or keys. -/
abbrev ldq (X : S1024x1024.Idx → EReal) : FVec Ideal S1024x128 .bf16 :=
  View.ld (Val := Elt Ideal) (e' := .bf16) X (Rect.unit (s := S1024x1024) ![0, o] ![1024, 128] iq)
/-- The head's columns of a block of values. -/
abbrev ldv (X : S1024x512.Idx → EReal) : FVec Ideal S1024x64 .bf16 :=
  View.ld (Val := Elt Ideal) (e' := .bf16) X (Rect.unit (s := S1024x512) ![0, o'] ![1024, 64] iv)
/-- The head's row statistic. -/
abbrev lds (X : S8x1024x1.Idx → EReal) : FVec Ideal S1x1024x1 .f32 :=
  View.ld (Val := Elt Ideal) (e' := .f32) X (Rect.unit (s := S8x1024x1) ![l, 0, 0] ![1, 1024, 1] is)

include ho hl in
theorem opP_gP (a b : Fin 1024) : opP (ldq iq x0) (ldq iq x2) (lds is x6) (ix2 a b) = gP x0 x2 x6 h a b := by
  rw [opP_apply, gP, show lds is x6 (ix3 0 a 0) = _ from ld_st x6 h hl is a]
  exact congrArg (fun z => Ideal.exp2 (z - _)) (Finset.sum_congr rfl fun d _ => congrArg₂ (· * ·) (ld_c128 x0 h ho iq a d) (ld_c128 x2 h ho iq b d))

include ho ho' hl in
theorem opD_gD (a b : Fin 1024) :
    opD (ldq iq x0) (ldq iq x2) (lds is x6) (ldv iv x4) (ldv iv x3) (lds is x7) (ix2 a b) = gD x0 x2 x3 x4 x6 x7 h a b := by
  rw [opD_apply, gD, opP_gP x0 x2 x6 h ho hl, show lds is x7 (ix3 0 a 0) = _ from ld_st x7 h hl is a]
  exact congrArg (fun z => gP x0 x2 x6 h a b * (z - _)) (Finset.sum_congr rfl fun d _ => congrArg₂ (· * ·) (ld_c64 x4 h ho' iv a d) (ld_c64 x3 h ho' iv b d))

include ho ho' hl in
theorem pieceQ (y : (Rect.unit (s := S1x1024x1024) ![0, 0, o] ![1, 1024, 128] ir).shape.Idx) :
    opQ (opD (ldq iq x0) (ldq iq x2) (lds is x6) (ldv iv x4) (ldv iv x3) (lds is x7)) (ldq iq x2) y
      = gQ x0 x2 x3 x4 x6 x7 ((Rect.unit (s := S1x1024x1024) ![0, 0, o] ![1, 1024, 128] ir).emb y) := by
  obtain ⟨a, d, rfl⟩ : ∃ (a : Fin 1024) (d : Fin 128), y = ix3 0 a d :=
    ⟨y 1, y 2, (eq_ix3 (n0 := 1) (n1 := 1024) (n2 := 128) y).trans (congrArg (fun z : Fin 1 => ix3 z _ _) (Subsingleton.elim _ _))⟩
  rw [emb_q128 h ho, opQ_apply, gQ]
  refine Finset.sum_congr rfl fun b _ => ?_
  rw [opD_gD x0 x2 x3 x4 x6 x7 h ho ho' hl, ldq, ld_c128 _ h ho]
  show _ = gD x0 x2 x3 x4 x6 x7 (h128 (c128 h d)) a b * _
  rw [h128_c128]; rfl

include ho ho' hl in
theorem pieceK (acc : S1024x1024.Idx → EReal) (w : FVec Ideal S128x1024 .f32)
    (hw : ∀ y, w y = acc ((Rect.unit (s := S1024x1024) ![o, 0] ![128, 1024] ik).emb y))
    (y : (Rect.unit (s := S1024x1024) ![o, 0] ![128, 1024] ik).shape.Idx) :
    opK (opD (ldq iq x0) (ldq iq x2) (lds is x6) (ldv iv x4) (ldv iv x3) (lds is x7)) w
        (View.ld (Val := Elt Ideal) (e' := .bf16) x1 (Rect.unit (s := S1024x1024) ![o, 0] ![128, 1024] ik)) y
      = (fun y => acc y + gK x0 x1 x2 x3 x4 x6 x7 y) ((Rect.unit (s := S1024x1024) ![o, 0] ![128, 1024] ik).emb y) := by
  obtain ⟨r, b, rfl⟩ : ∃ (r : Fin 128) (b : Fin 1024), y = ix2 r b := ⟨y 0, y 1, eq_ix2 (n0 := 128) (n1 := 1024) y⟩
  rw [opK_apply, hw]
  show _ = acc _ + gK x0 x1 x2 x3 x4 x6 x7 _
  rw [emb_r128 h ho, gK]
  congr 1
  refine Finset.sum_congr rfl fun a _ => ?_
  rw [opD_gD x0 x2 x3 x4 x6 x7 h ho ho' hl]
  show x1 ((Rect.unit (s := S1024x1024) ![o, 0] ![128, 1024] ik).emb (ix2 r a)) * _ = x1 (ix2 (c128 h r) a) * gD x0 x2 x3 x4 x6 x7 (h128 (c128 h r)) a b
  rw [h128_c128, emb_r128 h ho]

include ho ho' hl in
theorem pieceV (acc : S512x1024.Idx → EReal) (w : FVec Ideal S64x1024 .f32)
    (hw : ∀ y, w y = acc ((Rect.unit (s := S512x1024) ![o', 0] ![64, 1024] id).emb y))
    (y : (Rect.unit (s := S512x1024) ![o', 0] ![64, 1024] id).shape.Idx) :
    opV (opP (ldq iq x0) (ldq iq x2) (lds is x6)) w
        (View.ld (Val := Elt Ideal) (e' := .bf16) x5 (Rect.unit (s := S512x1024) ![o', 0] ![64, 1024] id)) y
      = (fun y => acc y + gV x0 x2 x5 x6 y) ((Rect.unit (s := S512x1024) ![o', 0] ![64, 1024] id).emb y) := by
  obtain ⟨r, b, rfl⟩ : ∃ (r : Fin 64) (b : Fin 1024), y = ix2 r b := ⟨y 0, y 1, eq_ix2 (n0 := 64) (n1 := 1024) y⟩
  rw [opV_apply, hw]
  show _ = acc _ + gV x0 x2 x5 x6 _
  rw [emb_r64 h ho', gV]
  congr 1
  refine Finset.sum_congr rfl fun a _ => ?_
  rw [opP_gP x0 x2 x6 h ho hl]
  show x5 ((Rect.unit (s := S512x1024) ![o', 0] ![64, 1024] id).emb (ix2 r a)) * _ = x5 (ix2 (c64 h r) a) * gP x0 x2 x6 (h64 (c64 h r)) a b
  rw [h64_c64, emb_r64 h ho']

end Pieces

end Cert.KernelIdeal.Body
end
-- ==== Proof.Pads.lean ====
module
public import Idealize.ShloMosaic.Lib.Pipeline.Value
public import Idealize.ShloMosaic.PureOps.Ideal.Laws
@[expose] public section
noncomputable section
open Idealize.ShloMosaic
namespace Cert.Pads

/-! Padding an array after its end, read at an index. -/

variable {α : Type} {s t u : Shape} (lo hi interior : Fin s.rank → Nat) (x : s.Idx → α) (v : u.Idx → α)
  (h : s.Pads lo hi interior t) (hu : 0 < u.numel) (j : t.Idx)

/-- Inside the old array a padded array is what it was. -/
theorem pad_inside (i : s.Idx) (h0 : ∀ a, lo a = 0) (h1 : ∀ a, interior a = 0) (hij : ∀ a, (i a).val = (j (a.cast h.1)).val) :
    pad t lo hi interior x v h hu j = x i := by
  unfold pad
  have hin : ∀ a : Fin s.rank, lo a ≤ (j (a.cast h.1)).val ∧ ((j (a.cast h.1)).val - lo a) % (interior a + 1) = 0
      ∧ ((j (a.cast h.1)).val - lo a) / (interior a + 1) < s.size a := by
    intro a
    rw [h0 a, h1 a, ← hij a]
    exact ⟨Nat.zero_le _, by simp [Nat.mod_one], by simpa using (i a).isLt⟩
  rw [dif_pos hin]
  refine congrArg x (funext fun a => Fin.ext ?_)
  show ((j (a.cast h.1)).val - lo a) / (interior a + 1) = (i a).val
  rw [h0 a, h1 a, hij a]; simp

/-- Past its end it is the padding. -/
theorem pad_outside (a : Fin s.rank) (h0 : lo a = 0) (h1 : interior a = 0) (ha : s.size a ≤ (j (a.cast h.1)).val) :
    pad t lo hi interior x v h hu j = v (Shape.Idx.first hu) := by
  unfold pad
  rw [dif_neg]
  intro hin
  have := (hin a).2.2
  rw [h0, h1] at this
  simp at this
  omega

/-- The whole number zero as a float is zero. -/
theorem zero_pad {w : Shape} (i : w.Idx) : (sitofp (F := Ideal) .f32 (constantI w 32 0#32)) i = (0 : EReal) := by
  show ((((0#32 : BitVec 32).toInt : ℝ)) : EReal) = 0
  simp

end Cert.Pads
end
-- ==== Proof.BwdHost.lean ====
module
public import proofs.«01_k».proof.Proof.Gen.KernelIdeal.Value
public import Idealize.ShloMosaic.Lib.StableHlo.Run
public import Idealize.ShloMosaic.Lib.Tactic
public import Idealize.ShloMosaic.Lib.Pointwise
public import proofs.«01_k».proof.Proof.BwdOps
public import proofs.«01_k».proof.Proof.Pads
@[expose] public section
noncomputable section
open Idealize.ShloMosaic Idealize.ShloMosaic.TcCoe Idealize.SL.Sem Idealize.ShloMosaic.StableHlo
namespace Cert.KernelIdeal.Host0
open Cert.KernelIdeal Cert.KernelIdeal.Gen Cert.KernelIdeal.Facts

/-! The arrays that the host hands to the kernel, read at an index. -/

/-- The queries, divided by the root of 96. -/
def qn (q : FVec Ideal S16384x8x96 .f32) : FVec Ideal S16384x8x96 .f32 :=
  Host.divf q (broadcastInDim S16384x8x96 ![] bcast_S_S16384x8x96 (Host.sqrt (constant S_ .f32 0x42C00000#32)))

/-- The scores. -/
def sc (q k : FVec Ideal S16384x8x96 .f32) : FVec Ideal S8x16384x16384 .f32 :=
  Host.dotGeneral dot_S16384x8x96_S16384x8x96_S8x16384x16384_2_2_0_0_1_1 none (qn q) k

/-- Each row's largest score. -/
def mx (q k : FVec Ideal S16384x8x96 .f32) : FVec Ideal S8x16384 .f32 :=
  Host.reduce FloatOps.maximumf (sc q k) (constant S_ .f32 0xFF800000#32) reducesTo_S8x16384x16384_S8x16384_d2 h_S_

/-- The exponentials of the scores less the row's largest. -/
def ex (q k : FVec Ideal S16384x8x96 .f32) : FVec Ideal S8x16384x16384 .f32 :=
  Host.exp (subf (sc q k) (broadcastInDim S8x16384x16384 ![0, 1, 2] bcast_S8x16384x1_S8x16384x16384_0_1_2
    (broadcastInDim S8x16384x1 ![0, 1] bcast_S8x16384_S8x16384x1_0_1 (mx q k))))

/-- Each row's sum of exponentials. -/
def su (q k : FVec Ideal S16384x8x96 .f32) : FVec Ideal S8x16384 .f32 :=
  Host.reduceAdd (ex q k) (constant S_ .f32 0x00000000#32) reducesTo_S8x16384x16384_S8x16384_d2 h_S_

theorem qn_apply (q : FVec Ideal S16384x8x96 .f32) (a : Fin 16384) (h : Fin 8) (d : Fin 96) :
    qn q (ix3 a h d) = Ideal.div (q (ix3 a h d)) (Ideal.sqrt (Ideal.ofBits .f32 0x42C00000#32)) := by
  pointwise [qn]

theorem sc_apply (q k : FVec Ideal S16384x8x96 .f32) (h : Fin 8) (a b : Fin 16384) :
    sc q k (ix3 h a b) = ∑ d : Fin 96, qn q (ix3 a h d) * k (ix3 b h d) := by
  pointwise [sc]

theorem ex_apply (q k : FVec Ideal S16384x8x96 .f32) (h : Fin 8) (a b : Fin 16384) :
    ex q k (ix3 h a b) = Ideal.exp (sc q k (ix3 h a b) - mx q k (ix2 h a)) := by
  pointwise [ex]

theorem su_apply (q k : FVec Ideal S16384x8x96 .f32) (h : Fin 8) (a : Fin 16384) :
    su q k (ix2 h a) = ∑ b : Fin 16384, ex q k (ix3 h a b) := by
  pointwise [su]

/-- The row statistic that the kernel takes, of a row's largest score and its sum of exponentials: the logarithm in base two. -/
def lsOf (m l : FVec Ideal S8x16384 .f32) : FVec Ideal S8x16384x1 .f32 :=
  Host.divf (addf (broadcastInDim S8x16384x1 ![0, 1] bcast_S8x16384_S8x16384x1_0_1 m)
      (Host.log (broadcastInDim S8x16384x1 ![0, 1] bcast_S8x16384_S8x16384x1_0_1 l)))
    (broadcastInDim S8x16384x1 ![] bcast_S_S8x16384x1 (Host.log (constant S_ .f32 0x40000000#32)))

/-- The probabilities, of the exponentials and their sums. -/
def prOf (e : FVec Ideal S8x16384x16384 .f32) (l : FVec Ideal S8x16384 .f32) : FVec Ideal S8x16384x16384 .f32 :=
  Host.divf e (broadcastInDim S8x16384x16384 ![0, 1, 2] bcast_S8x16384x1_S8x16384x16384_0_1_2
    (broadcastInDim S8x16384x1 ![0, 1] bcast_S8x16384_S8x16384x1_0_1 l))

/-- The attention's output, of the probabilities and the values. -/
def ouOf (p : FVec Ideal S8x16384x16384 .f32) (v : FVec Ideal S16384x8x64 .f32) : FVec Ideal S16384x8x64 .f32 :=
  transpose S16384x8x64 [2, 0, 1] (Host.dotGeneral dot_S16384x8x64_S8x16384x16384_S8x64x16384_0_2_2_1_1_0 none v p)
    transposes_S8x64x16384_S16384x8x64_2_0_1

/-- Each row's product of the output and its cotangent. -/
def deOf (o ct : FVec Ideal S16384x8x64 .f32) : FVec Ideal S8x16384x1 .f32 :=
  shapeCast S8x16384x1 (transpose S8x16384 [1, 0] (Host.reduceAdd (mulf o ct) (constant S_ .f32 0x00000000#32)
    reducesTo_S16384x8x64_S16384x8_d2 h_S_) transposes_S16384x8_S8x16384_1_0) shapeCasts_S8x16384_S8x16384x1

theorem lsOf_apply (m l : FVec Ideal S8x16384 .f32) (h : Fin 8) (a : Fin 16384) :
    lsOf m l (ix3 h a 0) = Ideal.div (m (ix2 h a) + Ideal.log (l (ix2 h a))) (Ideal.log (Ideal.ofBits .f32 0x40000000#32)) := by
  pointwise [lsOf]

theorem prOf_apply (e : FVec Ideal S8x16384x16384 .f32) (l : FVec Ideal S8x16384 .f32) (h : Fin 8) (a b : Fin 16384) :
    prOf e l (ix3 h a b) = Ideal.div (e (ix3 h a b)) (l (ix2 h a)) := by
  pointwise [prOf]

theorem ouOf_apply (p : FVec Ideal S8x16384x16384 .f32) (v : FVec Ideal S16384x8x64 .f32) (a : Fin 16384) (h : Fin 8) (e : Fin 64) :
    ouOf p v (ix3 a h e) = ∑ b : Fin 16384, v (ix3 b h e) * p (ix3 h a b) := by
  pointwise [ouOf]

theorem deOf_apply (o ct : FVec Ideal S16384x8x64 .f32) (h : Fin 8) (a : Fin 16384) :
    deOf o ct (ix3 h a 0) = ∑ e : Fin 64, o (ix3 a h e) * ct (ix3 a h e) := by
  pointwise [deOf]

/-- An array of 96 columns a head, with 32 columns of zeros after each head's. -/
def padded (x : FVec Ideal S16384x8x96 .f32) : FVec Ideal S16384x8x128 .f32 :=
  pad S16384x8x128 ![0, 0, 0] ![0, 0, 32] ![0, 0, 0] x (sitofp .f32 (constantI S_ 32 0#32)) pads_S16384x8x96_S16384x8x128_000_000_0320 h_S_

/-- The padded array, its heads side by side. -/
def wide (x : FVec Ideal S16384x8x96 .f32) : FVec Ideal S16384x1024 .bf16 :=
  truncf .bf16 (shapeCast S16384x1024 (padded x) shapeCasts_S16384x8x128_S16384x1024) bitsLt_bf16_f32

/-- An array of 64 columns a head, its heads side by side. -/
def flat (x : FVec Ideal S16384x8x64 .f32) : FVec Ideal S16384x512 .f32 :=
  shapeCast S16384x512 x shapeCasts_S16384x8x64_S16384x512

theorem padded_apply (x : FVec Ideal S16384x8x96 .f32) (a : Fin 16384) (h : Fin 8) (d : Fin 128) :
    padded x (ix3 a h d) = if hd : (d : Nat) < 96 then x (ix3 a h ⟨d, hd⟩) else 0 := by
  by_cases hd : (d : Nat) < 96
  · rw [dif_pos hd]
    exact Pads.pad_inside _ _ _ _ _ _ _ _ (ix3 a h ⟨d, hd⟩) (by decide) (by decide) (fun b => match b with
      | ⟨0, _⟩ => rfl | ⟨1, _⟩ => rfl | ⟨2, _⟩ => rfl)
  · rw [dif_neg hd]
    exact (Pads.pad_outside _ _ _ _ _ _ _ _ (2 : Fin 3) rfl rfl (Nat.le_of_not_lt hd)).trans (Pads.zero_pad _)

open Body in
theorem wide_apply (x : FVec Ideal S16384x8x96 .f32) (a : Fin 16384) (h : Fin 8) (d : Fin 128) :
    wide x (ix2 a (c128 h d)) = if hd : (d : Nat) < 96 then x (ix3 a h ⟨d, hd⟩) else 0 := by
  refine Eq.trans ?_ (padded_apply x a h d)
  show shapeCast S16384x1024 (padded x) shapeCasts_S16384x8x128_S16384x1024 (ix2 a (c128 h d)) = _
  refine shapeCast_apply _ shapeCasts_S16384x8x128_S16384x1024 _ _ ?_
  rw [Shape.rowMajor_val_three, Shape.rowMajor_val_two]
  show (a.val * 8 + h.val) * 128 + d.val = a.val * 1024 + (128 * h.val + d.val)
  omega

open Body in
theorem flat_apply (x : FVec Ideal S16384x8x64 .f32) (a : Fin 16384) (h : Fin 8) (e : Fin 64) :
    flat x (ix2 a (c64 h e)) = x (ix3 a h e) := by
  refine shapeCast_apply _ shapeCasts_S16384x8x64_S16384x512 _ _ ?_
  rw [Shape.rowMajor_val_three, Shape.rowMajor_val_two]
  show (a.val * 8 + h.val) * 64 + e.val = a.val * 512 + (64 * h.val + e.val)
  omega

/-- The keys' first 64 columns and the values, side by side. -/
def kvOf (k : FVec Ideal S16384x8x96 .f32) (v : FVec Ideal S16384x8x64 .f32) : FVec Ideal S16384x1024 .bf16 :=
  truncf .bf16 (concatenate S16384x1024 1 [⟨S16384x512, flat (extractStridedSlice S16384x8x64 ![0, 0, 0] k slices_S16384x8x96_S16384x8x64_0_0_0)⟩,
    ⟨S16384x512, flat v⟩] concatenates_S16384x512_S16384x512_S16384x1024_d1) bitsLt_bf16_f32

open Body in
theorem kvOf_apply (k : FVec Ideal S16384x8x96 .f32) (v : FVec Ideal S16384x8x64 .f32) (a : Fin 16384) (e : Fin 512) :
    kvOf k v (ix2 a ⟨512 + e.val, by omega⟩) = flat v (ix2 a e) := by
  show concatenate S16384x1024 1 [⟨S16384x512, flat (extractStridedSlice S16384x8x64 ![0, 0, 0] k slices_S16384x8x96_S16384x8x64_0_0_0)⟩,
    ⟨S16384x512, flat v⟩] concatenates_S16384x512_S16384x512_S16384x1024_d1 (ix2 a ⟨512 + e.val, by omega⟩) = flat v (ix2 a e)
  refine concatenate_pair_apply_right 1 _ _ concatenates_S16384x512_S16384x512_S16384x1024_d1 _ rfl rfl (ix2 a e) (fun b => match b with
    | ⟨0, _⟩ => fun _ => rfl | ⟨1, _⟩ => fun hb => absurd rfl hb) ?_
  show e.val + 512 = 512 + e.val
  omega

variable (m : (ℓ : Loc nD τ sig) → Buf (Elt Ideal) ℓ) (c : Dev nD)

/-- The program's arguments on a device. -/
abbrev aq : FVec Ideal S16384x8x96 .f32 := m ((c.tc : Thread nD τ).loc main_arg0)
abbrev ak : FVec Ideal S16384x8x96 .f32 := m ((c.tc : Thread nD τ).loc main_arg1)
abbrev av : FVec Ideal S16384x8x64 .f32 := m ((c.tc : Thread nD τ).loc main_arg2)
abbrev ac : FVec Ideal S16384x8x64 .f32 := m ((c.tc : Thread nD τ).loc main_arg3)

/-- The host's operations, in one list. -/
theorem V_ops (b : Ref sig .tc) : V m c b = after (hostOps0 ++ (hostOps0_1 ++ (hostOps0_2 ++ (hostOps0_3 ++ hostOps0_4)))) (fun b => m (c, b)) b := by
  simp only [V, List.flatten_cons, List.flatten_nil, List.append_nil]

theorem V_v28 : V m c main_v28 = wide (Host.divf (qn (aq m c)) (broadcastInDim S16384x8x96 ![] bcast_S_S16384x8x96
    (Host.log (constant S_ .f32 0x40000000#32)))) := by
  rw [V_ops]; simp only [List.cons_append, List.nil_append]
  after_results; rfl
theorem V_v31 : V m c main_v31 = wide (ak m c) := by
  rw [V_ops]; simp only [List.cons_append, List.nil_append]
  after_results; rfl
theorem V_v36 : V m c main_v36 = kvOf (ak m c) (av m c) := by
  rw [V_ops]; simp only [List.cons_append, List.nil_append]
  after_results; rfl
theorem V_v38 : V m c main_v38 = truncf .bf16 (flat (ac m c)) bitsLt_bf16_f32 := by
  rw [V_ops]; simp only [List.cons_append, List.nil_append]
  after_results; rfl

theorem V_v39 : V m c main_v39 = transpose S1024x16384 [1, 0] (V m c main_v28) transposes_S16384x1024_S1024x16384_1_0 := by
  rw [V_v28, V_ops]; simp only [List.cons_append, List.nil_append]
  after_results; rfl
theorem V_v40 : V m c main_v40 = transpose S512x16384 [1, 0] (V m c main_v38) transposes_S16384x512_S512x16384_1_0 := by
  rw [V_v38, V_ops]; simp only [List.cons_append, List.nil_append]
  after_results; rfl
theorem V_v19 : V m c main_v19 = lsOf (mx (aq m c) (ak m c)) (su (aq m c) (ak m c)) := by
  rw [V_ops]; simp only [List.cons_append, List.nil_append]
  after_results; rfl
theorem V_v23 : V m c main_v23 = deOf (ouOf (prOf (ex (aq m c) (ak m c)) (su (aq m c) (ak m c))) (av m c)) (ac m c) := by
  rw [V_ops]; simp only [List.cons_append, List.nil_append]
  after_results; rfl

end Cert.KernelIdeal.Host0
end
-- ==== Proof.RefOps.lean ====
module
public import proofs.«01_k».proof.Proof.Gen.ReferenceIdeal.Run
public import Idealize.ShloMosaic.Lib.Tactic
public import Idealize.ShloMosaic.Lib.Pointwise
public import proofs.«01_k».proof.Proof.BwdOps
public import proofs.«01_k».proof.Proof.Pads
@[expose] public section
noncomputable section
open Idealize.ShloMosaic Idealize.ShloMosaic.TcCoe Idealize.SL.Sem Idealize.ShloMosaic.StableHlo
namespace Cert.ReferenceIdeal.Val
open Cert.ReferenceIdeal Cert.ReferenceIdeal.Gen Cert.ReferenceIdeal.Facts Cert.KernelIdeal.Body

/-! The reference's operations, each read at an index. -/

/-- Row `b` of block `j` of a sequence. -/
def at16 (j : Fin 16) (b : Fin 1024) : Fin 16384 := ⟨1024 * j.val + b.val, by omega⟩

/-- The queries, divided by the root of 96. -/
def qn (q : FVec Ideal S16384x8x96 .f32) : FVec Ideal S16384x8x96 .f32 :=
  Host.divf q (broadcastInDim S16384x8x96 ![] bcast_S_S16384x8x96 (Host.sqrt (constant S_ .f32 0x42C00000#32)))

/-- One copy of the queries per block of keys. -/
def qs (q : FVec Ideal S16384x8x96 .f32) : FVec Ideal S16x16384x8x96 .f32 :=
  broadcastInDim S16x16384x8x96 ![1, 2, 3] bcast_S16384x8x96_S16x16384x8x96_1_2_3 q

/-- The keys in blocks. -/
def kb (k : FVec Ideal S16384x8x96 .f32) : FVec Ideal S16x1024x8x96 .f32 :=
  shapeCast S16x1024x8x96 k shapeCasts_S16384x8x96_S16x1024x8x96

theorem qs_apply (q : FVec Ideal S16384x8x96 .f32) (j : Fin 16) (a : Fin 16384) (h : Fin 8) (d : Fin 96) :
    qs q (ix4 j a h d) = q (ix3 a h d) := by
  pointwise [qs]

theorem kb_apply (k : FVec Ideal S16384x8x96 .f32) (j : Fin 16) (b : Fin 1024) (h : Fin 8) (d : Fin 96) :
    kb k (ix4 j b h d) = k (ix3 (at16 j b) h d) := by
  refine shapeCast_apply _ shapeCasts_S16384x8x96_S16x1024x8x96 _ _ ?_
  rw [Shape.rowMajor_val_three, Shape.rowMajor_val_four]
  show ((1024 * j.val + b.val) * 8 + h.val) * 96 + d.val = ((j.val * 1024 + b.val) * 8 + h.val) * 96 + d.val
  omega

/-- The scores, block by block. -/
def sb (k : FVec Ideal S16x1024x8x96 .f32) (q : FVec Ideal S16x16384x8x96 .f32) : FVec Ideal S8x16384x16x1024 .f32 :=
  transpose S8x16384x16x1024 [0, 3, 1, 2] (Host.dotGeneral dot_S16x1024x8x96_S16x16384x8x96_S8x16x1024x16384_3_3_1_1_20_20 none k q)
    transposes_S8x16x1024x16384_S8x16384x16x1024_0_3_1_2

theorem sb_apply (k : FVec Ideal S16x1024x8x96 .f32) (q : FVec Ideal S16x16384x8x96 .f32) (h : Fin 8) (a : Fin 16384) (j : Fin 16)
    (b : Fin 1024) : sb k q (ix4 h a j b) = ∑ d : Fin 96, k (ix4 j b h d) * q (ix4 j a h d) := by
  pointwise [sb]

/-- The scores. -/
def sc (x : FVec Ideal S8x16384x16x1024 .f32) : FVec Ideal S8x16384x16384 .f32 := shapeCast S8x16384x16384 x shapeCasts_S8x16384x16x1024_S8x16384x16384

theorem sc_apply (x : FVec Ideal S8x16384x16x1024 .f32) (h : Fin 8) (a : Fin 16384) (j : Fin 16) (b : Fin 1024) :
    sc x (ix3 h a (at16 j b)) = x (ix4 h a j b) := by
  refine shapeCast_apply _ shapeCasts_S8x16384x16x1024_S8x16384x16384 _ _ ?_
  rw [Shape.rowMajor_val_three, Shape.rowMajor_val_four]
  show ((h.val * 16384 + a.val) * 16 + j.val) * 1024 + b.val = (h.val * 16384 + a.val) * 16384 + (1024 * j.val + b.val)
  omega

/-- Each row's largest score. -/
def mx (s : FVec Ideal S8x16384x16384 .f32) : FVec Ideal S8x16384 .f32 :=
  Host.reduce FloatOps.maximumf s (constant S_ .f32 0xFF800000#32) reducesTo_S8x16384x16384_S8x16384_d2 h_S_

/-- The largest score, and at least minus infinity. -/
def mx' (x : FVec Ideal S8x16384 .f32) : FVec Ideal S8x16384 .f32 :=
  maximumf (broadcastInDim S8x16384 ![] bcast_S_S8x16384 (constant S_ .f32 0xFF800000#32)) x

theorem mx'_apply (x : FVec Ideal S8x16384 .f32) (h : Fin 8) (a : Fin 16384) :
    mx' x (ix2 h a) = max (Ideal.ofBits .f32 0xFF800000#32) (x (ix2 h a)) := by
  pointwise [mx']

/-- A row statistic as a column. -/
def col (x : FVec Ideal S8x16384 .f32) : FVec Ideal S8x16384x1 .f32 :=
  broadcastInDim S8x16384x1 ![0, 1] bcast_S8x16384_S8x16384x1_0_1 x

/-- A column, once for every key. -/
def rep (x : FVec Ideal S8x16384x1 .f32) : FVec Ideal S8x16384x16384 .f32 :=
  broadcastInDim S8x16384x16384 ![0, 1, 2] bcast_S8x16384x1_S8x16384x16384_0_1_2 x

theorem col_apply (x : FVec Ideal S8x16384 .f32) (h : Fin 8) (a : Fin 16384) : col x (ix3 h a 0) = x (ix2 h a) := by
  pointwise [col]
theorem rep_apply (x : FVec Ideal S8x16384x1 .f32) (h : Fin 8) (a b : Fin 16384) : rep x (ix3 h a b) = x (ix3 h a 0) := by
  pointwise [rep]

/-- The exponentials. -/
def ex (s : FVec Ideal S8x16384x16384 .f32) (m : FVec Ideal S8x16384 .f32) : FVec Ideal S8x16384x16384 .f32 :=
  Host.exp (subf s (rep (col m)))
theorem ex_apply (s : FVec Ideal S8x16384x16384 .f32) (m : FVec Ideal S8x16384 .f32) (h : Fin 8) (a b : Fin 16384) :
    ex s m (ix3 h a b) = Ideal.exp (s (ix3 h a b) - m (ix2 h a)) := by
  pointwise [ex, rep, col]

/-- A row's sum over the keys. -/
def su (e : FVec Ideal S8x16384x16384 .f32) : FVec Ideal S8x16384 .f32 :=
  Host.reduceAdd e (constant S_ .f32 0x00000000#32) reducesTo_S8x16384x16384_S8x16384_d2 h_S_
theorem su_apply (e : FVec Ideal S8x16384x16384 .f32) (h : Fin 8) (a : Fin 16384) : su e (ix2 h a) = ∑ b : Fin 16384, e (ix3 h a b) := by
  pointwise [su]

/-- The products of the cotangent's rows and the values' rows. -/
def dp (ct v : FVec Ideal S16384x8x64 .f32) : FVec Ideal S8x16384x16384 .f32 :=
  Host.dotGeneral dot_S8x64x16384_S16384x8x64_S8x16384x16384_1_2_2_0_0_1 none
    (transpose S8x64x16384 [1, 2, 0] ct transposes_S16384x8x64_S8x64x16384_1_2_0) v
theorem dp_apply (ct v : FVec Ideal S16384x8x64 .f32) (h : Fin 8) (a b : Fin 16384) :
    dp ct v (ix3 h a b) = ∑ e : Fin 64, ct (ix3 a h e) * v (ix3 b h e) := by
  pointwise [dp]

/-- The probabilities. -/
def pr (e : FVec Ideal S8x16384x16384 .f32) (l : FVec Ideal S8x16384 .f32) : FVec Ideal S8x16384x16384 .f32 :=
  Host.divf e (rep (col l))
theorem pr_apply (e : FVec Ideal S8x16384x16384 .f32) (l : FVec Ideal S8x16384 .f32) (h : Fin 8) (a b : Fin 16384) :
    pr e l (ix3 h a b) = Ideal.div (e (ix3 h a b)) (l (ix2 h a)) := by
  pointwise [pr, rep, col]

/-- One over the square of a row's sum. -/
def sq (l : FVec Ideal S8x16384 .f32) : FVec Ideal S8x16384x1 .f32 :=
  Host.divf (broadcastInDim S8x16384x1 ![] bcast_S_S8x16384x1 (constant S_ .f32 0x3F800000#32)) (mulf (col l) (col l))
theorem sq_apply (l : FVec Ideal S8x16384 .f32) (h : Fin 8) (a : Fin 16384) :
    sq l (ix3 h a 0) = Ideal.div (Ideal.ofBits .f32 0x3F800000#32) (l (ix2 h a) * l (ix2 h a)) := by
  pointwise [sq, col]

/-- The part of the scores' gradient that comes through a row's sum. -/
def th (d e : FVec Ideal S8x16384x16384 .f32) (s : FVec Ideal S8x16384x1 .f32) : FVec Ideal S8x16384 .f32 :=
  Host.reduceAdd (Host.negf (shapeCast S8x16384x1 (Host.reduceAdd (mulf (mulf d (rep s)) e) (constant S_ .f32 0x00000000#32)
    reducesTo_S8x16384x16384_S8x16384_d2 h_S_) shapeCasts_S8x16384_S8x16384x1)) (constant S_ .f32 0x00000000#32) reducesTo_S8x16384x1_S8x16384_d2 h_S_
theorem th_apply (d e : FVec Ideal S8x16384x16384 .f32) (s : FVec Ideal S8x16384x1 .f32) (h : Fin 8) (a : Fin 16384) :
    th d e s (ix2 h a) = -∑ b : Fin 16384, d (ix3 h a b) * s (ix3 h a 0) * e (ix3 h a b) := by
  pointwise [th, rep]
  exact Fin.sum_univ_one _

/-- The scores' gradient. -/
def ds (d e : FVec Ideal S8x16384x16384 .f32) (l t : FVec Ideal S8x16384 .f32) : FVec Ideal S8x16384x16384 .f32 :=
  mulf (addf (Host.divf d (rep (col l))) (broadcastInDim S8x16384x16384 ![0, 1] bcast_S8x16384_S8x16384x16384_0_1 t)) e
theorem ds_apply (d e : FVec Ideal S8x16384x16384 .f32) (l t : FVec Ideal S8x16384 .f32) (h : Fin 8) (a b : Fin 16384) :
    ds d e l t (ix3 h a b) = (Ideal.div (d (ix3 h a b)) (l (ix2 h a)) + t (ix2 h a)) * e (ix3 h a b) := by
  pointwise [ds, rep, col]

/-- The scores' gradient, block by block. -/
def dsb (x : FVec Ideal S8x16384x16384 .f32) : FVec Ideal S8x16x1024x16384 .f32 :=
  transpose S8x16x1024x16384 [0, 2, 3, 1] (shapeCast S8x16384x16x1024 x shapeCasts_S8x16384x16384_S8x16384x16x1024)
    transposes_S8x16384x16x1024_S8x16x1024x16384_0_2_3_1
theorem dsb_apply (x : FVec Ideal S8x16384x16384 .f32) (h : Fin 8) (j : Fin 16) (b : Fin 1024) (a : Fin 16384) :
    dsb x (ix4 h j b a) = x (ix3 h a (at16 j b)) := by
  refine (transpose_apply [0, 2, 3, 1] _ transposes_S8x16384x16x1024_S8x16x1024x16384_0_2_3_1 _ (ix4 h a j b) (fun c => match c with
    | ⟨0, _⟩ => rfl | ⟨1, _⟩ => rfl | ⟨2, _⟩ => rfl | ⟨3, _⟩ => rfl)).trans ?_
  refine shapeCast_apply _ shapeCasts_S8x16384x16384_S8x16384x16x1024 _ _ ?_
  rw [Shape.rowMajor_val_three, Shape.rowMajor_val_four]
  show (h.val * 16384 + a.val) * 16384 + (1024 * j.val + b.val) = ((h.val * 16384 + a.val) * 16 + j.val) * 1024 + b.val
  omega

/-- The gradients of the copies of the queries. -/
def dq (x : FVec Ideal S8x16x1024x16384 .f32) (k : FVec Ideal S16x1024x8x96 .f32) : FVec Ideal S16x16384x8x96 .f32 :=
  transpose S16x16384x8x96 [1, 2, 0, 3] (Host.dotGeneral dot_S8x16x1024x16384_S16x1024x8x96_S8x16x16384x96_2_1_3_3_01_20 none x k)
    transposes_S8x16x16384x96_S16x16384x8x96_1_2_0_3
theorem dq_apply (x : FVec Ideal S8x16x1024x16384 .f32) (k : FVec Ideal S16x1024x8x96 .f32) (j : Fin 16) (a : Fin 16384) (h : Fin 8)
    (d : Fin 96) : dq x k (ix4 j a h d) = ∑ b : Fin 1024, x (ix4 h j b a) * k (ix4 j b h d) := by
  pointwise [dq]

/-- The gradient of the keys, block by block. -/
def dk (x : FVec Ideal S8x16x1024x16384 .f32) (q : FVec Ideal S16x16384x8x96 .f32) : FVec Ideal S16x1024x8x96 .f32 :=
  transpose S16x1024x8x96 [1, 2, 0, 3] (Host.dotGeneral dot_S8x16x1024x16384_S16x16384x8x96_S8x16x1024x96_3_1_2_3_01_20 none x q)
    transposes_S8x16x1024x96_S16x1024x8x96_1_2_0_3
theorem dk_apply (x : FVec Ideal S8x16x1024x16384 .f32) (q : FVec Ideal S16x16384x8x96 .f32) (j : Fin 16) (b : Fin 1024) (h : Fin 8)
    (d : Fin 96) : dk x q (ix4 j b h d) = ∑ a : Fin 16384, x (ix4 h j b a) * q (ix4 j a h d) := by
  pointwise [dk]

/-- The first result: the queries' gradients, padded. -/
def out0 (x : FVec Ideal S16x16384x8x96 .f32) : FVec Ideal S16x16384x1024 .bf16 :=
  truncf .bf16 (shapeCast S16x16384x1024 (pad S16x16384x8x128 ![0, 0, 0, 0] ![0, 0, 0, 32] ![0, 0, 0, 0] x (sitofp .f32 (constantI S_ 32 0#32))
    pads_S16x16384x8x96_S16x16384x8x128_000_000_000_0320 h_S_) shapeCasts_S16x16384x8x128_S16x16384x1024) bitsLt_bf16_f32
theorem out0_apply (x : FVec Ideal S16x16384x8x96 .f32) (j : Fin 16) (a : Fin 16384) (h : Fin 8) (d : Fin 128) :
    out0 x (ix3 j a (c128 h d)) = if hd : (d : Nat) < 96 then x (ix4 j a h ⟨d, hd⟩) else 0 := by
  show shapeCast S16x16384x1024 (pad S16x16384x8x128 ![0, 0, 0, 0] ![0, 0, 0, 32] ![0, 0, 0, 0] x (sitofp .f32 (constantI S_ 32 0#32))
    pads_S16x16384x8x96_S16x16384x8x128_000_000_000_0320 h_S_) shapeCasts_S16x16384x8x128_S16x16384x1024 _ = _
  refine (shapeCast_apply _ shapeCasts_S16x16384x8x128_S16x16384x1024 _ (ix4 j a h d) ?_).trans ?_
  · rw [Shape.rowMajor_val_three, Shape.rowMajor_val_four]
    show ((j.val * 16384 + a.val) * 8 + h.val) * 128 + d.val = (j.val * 16384 + a.val) * 1024 + (128 * h.val + d.val)
    omega
  by_cases hd : (d : Nat) < 96
  · rw [dif_pos hd]
    exact Pads.pad_inside _ _ _ _ _ _ _ _ (ix4 j a h ⟨d, hd⟩) (by decide) (by decide) (fun b => match b with
      | ⟨0, _⟩ => rfl | ⟨1, _⟩ => rfl | ⟨2, _⟩ => rfl | ⟨3, _⟩ => rfl)
  · rw [dif_neg hd]
    exact (Pads.pad_outside _ _ _ _ _ _ _ _ (3 : Fin 4) rfl rfl (Nat.le_of_not_lt hd)).trans (Pads.zero_pad _)

/-- An array of 96 columns a head, with 32 columns of zeros after each head's. -/
def padded (x : FVec Ideal S16384x8x96 .f32) : FVec Ideal S16384x8x128 .f32 :=
  pad S16384x8x128 ![0, 0, 0] ![0, 0, 32] ![0, 0, 0] x (sitofp .f32 (constantI S_ 32 0#32)) pads_S16384x8x96_S16384x8x128_000_000_0320 h_S_

theorem padded_apply (x : FVec Ideal S16384x8x96 .f32) (a : Fin 16384) (h : Fin 8) (d : Fin 128) :
    padded x (ix3 a h d) = if hd : (d : Nat) < 96 then x (ix3 a h ⟨d, hd⟩) else 0 := by
  by_cases hd : (d : Nat) < 96
  · rw [dif_pos hd]
    exact Pads.pad_inside _ _ _ _ _ _ _ _ (ix3 a h ⟨d, hd⟩) (by decide) (by decide) (fun b => match b with
      | ⟨0, _⟩ => rfl | ⟨1, _⟩ => rfl | ⟨2, _⟩ => rfl)
  · rw [dif_neg hd]
    exact (Pads.pad_outside _ _ _ _ _ _ _ _ (2 : Fin 3) rfl rfl (Nat.le_of_not_lt hd)).trans (Pads.zero_pad _)

/-- The second result: the keys' gradient, padded and transposed. -/
def out1 (x : FVec Ideal S16x1024x8x96 .f32) : FVec Ideal S1024x16384 .f32 :=
  transpose S1024x16384 [1, 0] (shapeCast S16384x1024 (padded
    (shapeCast S16384x8x96 x shapeCasts_S16x1024x8x96_S16384x8x96)) shapeCasts_S16384x8x128_S16384x1024) transposes_S16384x1024_S1024x16384_1_0
theorem out1_apply (x : FVec Ideal S16x1024x8x96 .f32) (j : Fin 16) (b : Fin 1024) (h : Fin 8) (d : Fin 128) :
    out1 x (ix2 (c128 h d) (at16 j b)) = if hd : (d : Nat) < 96 then x (ix4 j b h ⟨d, hd⟩) else 0 := by
  refine (transpose_apply [1, 0] _ transposes_S16384x1024_S1024x16384_1_0 _ (ix2 (at16 j b) (c128 h d)) (fun c => match c with
    | ⟨0, _⟩ => rfl | ⟨1, _⟩ => rfl)).trans ?_
  refine (shapeCast_apply _ shapeCasts_S16384x8x128_S16384x1024 _ (ix3 (at16 j b) h d) ?_).trans ?_
  · rw [Shape.rowMajor_val_three, Shape.rowMajor_val_two]
    show ((1024 * j.val + b.val) * 8 + h.val) * 128 + d.val = (1024 * j.val + b.val) * 1024 + (128 * h.val + d.val)
    omega
  rw [padded_apply]
  by_cases hd : (d : Nat) < 96
  · rw [dif_pos hd, dif_pos hd]
    refine shapeCast_apply _ shapeCasts_S16x1024x8x96_S16384x8x96 _ _ ?_
    rw [Shape.rowMajor_val_three, Shape.rowMajor_val_four]
    show ((j.val * 1024 + b.val) * 8 + h.val) * 96 + d.val = ((1024 * j.val + b.val) * 8 + h.val) * 96 + d.val
    omega
  · rw [dif_neg hd, dif_neg hd]

/-- The third result: the values' gradient, transposed. -/
def out2 (ct : FVec Ideal S16384x8x64 .f32) (p : FVec Ideal S8x16384x16384 .f32) : FVec Ideal S512x16384 .f32 :=
  transpose S512x16384 [1, 0] (shapeCast S16384x512 (transpose S16384x8x64 [2, 0, 1]
    (Host.dotGeneral dot_S8x64x16384_S8x16384x16384_S8x64x16384_2_1_1_2_0_0 none (transpose S8x64x16384 [1, 2, 0] ct transposes_S16384x8x64_S8x64x16384_1_2_0) p)
    transposes_S8x64x16384_S16384x8x64_2_0_1) shapeCasts_S16384x8x64_S16384x512) transposes_S16384x512_S512x16384_1_0
theorem out2_apply (ct : FVec Ideal S16384x8x64 .f32) (p : FVec Ideal S8x16384x16384 .f32) (h : Fin 8) (e : Fin 64) (b : Fin 16384) :
    out2 ct p (ix2 (c64 h e) b) = ∑ a : Fin 16384, ct (ix3 a h e) * p (ix3 h a b) := by
  refine (transpose_apply [1, 0] _ transposes_S16384x512_S512x16384_1_0 _ (ix2 b (c64 h e)) (fun c => match c with
    | ⟨0, _⟩ => rfl | ⟨1, _⟩ => rfl)).trans ?_
  refine (shapeCast_apply _ shapeCasts_S16384x8x64_S16384x512 _ (ix3 b h e) ?_).trans ?_
  · rw [Shape.rowMajor_val_three, Shape.rowMajor_val_two]
    show (b.val * 8 + h.val) * 64 + e.val = b.val * 512 + (64 * h.val + e.val)
    omega
  pointwise []

/-! The reference's results, composed of these operations. -/

variable (q k : FVec Ideal S16384x8x96 .f32) (v ct : FVec Ideal S16384x8x64 .f32)

def S : FVec Ideal S8x16384x16384 .f32 := sc (sb (kb k) (qs (qn q)))
def E : FVec Ideal S8x16384x16384 .f32 := ex (S q k) (mx' (mx (S q k)))
def L : FVec Ideal S8x16384 .f32 := su (E q k)
def D : FVec Ideal S8x16384x16384 .f32 := ds (dp ct v) (E q k) (L q k) (th (dp ct v) (E q k) (sq (L q k)))

/-- The reference's run, with its results composed of the operations above. -/
theorem run' (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v63) = out0 (dq (dsb (D (m ((c.tc : Thread nD τ).loc main_arg0)) (m ((c.tc : Thread nD τ).loc main_arg1))
          (m ((c.tc : Thread nD τ).loc main_arg2)) (m ((c.tc : Thread nD τ).loc main_arg3)))) (kb (m ((c.tc : Thread nD τ).loc main_arg1))))
      ∧ r.2.mem ((c.tc : Thread nD τ).loc main_v66) = out1 (dk (dsb (D (m ((c.tc : Thread nD τ).loc main_arg0)) (m ((c.tc : Thread nD τ).loc main_arg1))
          (m ((c.tc : Thread nD τ).loc main_arg2)) (m ((c.tc : Thread nD τ).loc main_arg3)))) (qs (qn (m ((c.tc : Thread nD τ).loc main_arg0)))))
      ∧ r.2.mem ((c.tc : Thread nD τ).loc main_v68) = out2 (m ((c.tc : Thread nD τ).loc main_arg3))
          (pr (E (m ((c.tc : Thread nD τ).loc main_arg0)) (m ((c.tc : Thread nD τ).loc main_arg1)))
            (L (m ((c.tc : Thread nD τ).loc main_arg0)) (m ((c.tc : Thread nD τ).loc main_arg1))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans (by unfold Value.res_main_v63; rfl), (h c).2.1.trans (by unfold Value.res_main_v66; rfl),
    (h c).2.2.1.trans rfl, (h c).2.2.2⟩) (Value.run (F := Ideal) m ρ)

end Cert.ReferenceIdeal.Val
end
-- ==== Proof.Attn.lean ====
module
public import Idealize.ShloMosaic.PureOps.Ideal
public import Idealize.ShloMosaic.PureOps.Ideal.Laws
public import Mathlib.Analysis.SpecialFunctions.Pow.Real
@[expose] public section
noncomputable section
open Idealize.ShloMosaic
namespace Cert.Attn

/-! The attention's backward pass in real numbers. -/

/-! ## Extended reals that are real -/

theorem esum {ι : Type*} [Fintype ι] (f : ι → ℝ) : ∑ i, (f i : EReal) = ((∑ i, f i : ℝ) : EReal) := by
  classical
  have h : ∀ s : Finset ι, ∑ i ∈ s, (f i : EReal) = ((∑ i ∈ s, f i : ℝ) : EReal) := by
    intro s
    induction s using Finset.induction_on with
    | empty => simp
    | insert a s ha ih => rw [Finset.sum_insert ha, Finset.sum_insert ha, ih, EReal.coe_add]
  exact h _

theorem ediv (x : ℝ) {y : ℝ} (h : y ≠ 0) : Ideal.div (x : EReal) (y : EReal) = ((x / y : ℝ) : EReal) := by
  rw [Ideal.div_coe h, ← EReal.coe_mul, mul_one_div]

theorem lit96 : Ideal.ofBits .f32 0x42C00000#32 = ((96 : ℝ) : EReal) := by
  simp [Ideal.ofBits, Ideal.ieee, -EReal.coe_mul]; norm_num
theorem lit2 : Ideal.ofBits .f32 0x40000000#32 = ((2 : ℝ) : EReal) := by
  simp [Ideal.ofBits, Ideal.ieee, -EReal.coe_mul]; norm_num
theorem lit1 : Ideal.ofBits .f32 0x3F800000#32 = ((1 : ℝ) : EReal) := by
  simp [Ideal.ofBits, Ideal.ieee, -EReal.coe_mul]; norm_num
theorem litBot : Ideal.ofBits .f32 0xFF800000#32 = ⊥ := by
  simp [Ideal.ofBits, Ideal.ieee]
theorem litTop : Ideal.ofBits .f32 0x7F800000#32 = ⊤ := by
  simp [Ideal.ofBits, Ideal.ieee]

theorem sqrt96 : Ideal.sqrt (Ideal.ofBits .f32 0x42C00000#32) = ((Real.sqrt 96 : ℝ) : EReal) := by
  rw [lit96, Ideal.sqrt_coe, if_neg (by norm_num)]
theorem log2 : Ideal.log (Ideal.ofBits .f32 0x40000000#32) = ((Real.log 2 : ℝ) : EReal) := by
  rw [lit2, Ideal.log_coe, if_neg (by norm_num)]

theorem r96 : Real.sqrt 96 ≠ 0 := Real.sqrt_ne_zero'.mpr (by norm_num)
theorem l2 : Real.log 2 ≠ 0 := (Real.log_pos (by norm_num)).ne'

/-- The largest of finitely many reals, started from minus infinity, is real. -/
theorem foldmax {ι : Type*} [Fintype ι] [Nonempty ι] (f : ι → ℝ) :
    Finset.fold max (⊥ : EReal) (fun i => (f i : EReal)) Finset.univ
      = ((Finset.fold max (⊥ : EReal) (fun i => (f i : EReal)) Finset.univ).toReal : EReal) := by
  obtain ⟨i, -, h⟩ := Finset.exists_mem_eq_sup (Finset.univ : Finset ι) Finset.univ_nonempty (fun i => (f i : EReal))
  have e : Finset.fold max (⊥ : EReal) (fun i => (f i : EReal)) Finset.univ = (f i : EReal) := h
  rw [e, EReal.toReal_coe]

/-! ## The pass -/

section
variable (q k : Fin 16384 → Fin 8 → Fin 96 → ℝ) (v c : Fin 16384 → Fin 8 → Fin 64 → ℝ)

/-- The score of query `a` at key `b`. -/
def S (h : Fin 8) (a b : Fin 16384) : ℝ := ∑ d, q a h d / Real.sqrt 96 * k b h d
/-- The largest score of query `a`. -/
def M (h : Fin 8) (a : Fin 16384) : ℝ := (Finset.fold max (⊥ : EReal) (fun b => (S q k h a b : EReal)) Finset.univ).toReal
/-- The exponential of a score less the largest. -/
def e (h : Fin 8) (a b : Fin 16384) : ℝ := Real.exp (S q k h a b - M q k h a)
/-- Their sum over the keys. -/
def l (h : Fin 8) (a : Fin 16384) : ℝ := ∑ b, e q k h a b
/-- The probability. -/
def p (h : Fin 8) (a b : Fin 16384) : ℝ := e q k h a b / l q k h a
/-- The probability's gradient. -/
def dp (h : Fin 8) (a b : Fin 16384) : ℝ := ∑ x, c a h x * v b h x
/-- The output times its cotangent. -/
def dl (h : Fin 8) (a : Fin 16384) : ℝ := ∑ x, (∑ b, v b h x * p q k h a b) * c a h x
/-- The score's gradient. -/
def ds (h : Fin 8) (a b : Fin 16384) : ℝ := p q k h a b * (dp v c h a b - dl q k v c h a)

theorem e_pos (h : Fin 8) (a b : Fin 16384) : 0 < e q k h a b := Real.exp_pos _
theorem l_pos (h : Fin 8) (a : Fin 16384) : 0 < l q k h a :=
  Finset.sum_pos (fun b _ => e_pos q k h a b) ⟨0, Finset.mem_univ _⟩

theorem dl_eq (h : Fin 8) (a : Fin 16384) : dl q k v c h a = ∑ b, p q k h a b * dp v c h a b := by
  unfold dl dp
  simp only [Finset.sum_mul, Finset.mul_sum]
  rw [Finset.sum_comm]
  exact Finset.sum_congr rfl fun b _ => Finset.sum_congr rfl fun x _ => by ring

/-- The softmax's derivative as the reference writes it. -/
theorem ds_ref (h : Fin 8) (a b : Fin 16384) :
    (dp v c h a b / l q k h a + -∑ b', dp v c h a b' * (1 / (l q k h a * l q k h a)) * e q k h a b') * e q k h a b = ds q k v c h a b := by
  have hl := (l_pos q k h a).ne'
  have hs : ∑ b', dp v c h a b' * (1 / (l q k h a * l q k h a)) * e q k h a b' = dl q k v c h a / l q k h a := by
    rw [dl_eq, Finset.sum_div]
    refine Finset.sum_congr rfl fun b' _ => ?_
    unfold p
    field_simp
  rw [hs]
  unfold ds p
  field_simp
  ring

/-- A sum over 128 columns, the last 32 of them zeros. -/
theorem sum128 (f g : Fin 96 → ℝ) :
    ∑ d : Fin 128, (if hd : (d : Nat) < 96 then f ⟨d, hd⟩ else 0) * (if hd : (d : Nat) < 96 then g ⟨d, hd⟩ else 0) = ∑ d, f d * g d := by
  refine (Fin.sum_univ_add (fun d : Fin (96 + 32) =>
    (if hd : (d : Nat) < 96 then f ⟨d, hd⟩ else 0) * (if hd : (d : Nat) < 96 then g ⟨d, hd⟩ else 0))).trans ?_
  have h2 : ∑ i : Fin 32, (if hd : ((Fin.natAdd 96 i : Fin (96 + 32)) : Nat) < 96 then f ⟨_, hd⟩ else 0)
      * (if hd : ((Fin.natAdd 96 i : Fin (96 + 32)) : Nat) < 96 then g ⟨_, hd⟩ else 0) = 0 := by
    refine Finset.sum_eq_zero fun i _ => ?_
    rw [dif_neg (by simp), zero_mul]
  rw [h2, add_zero]
  refine Finset.sum_congr rfl fun i _ => ?_
  rw [dif_pos (show ((Fin.castAdd 32 i : Fin (96 + 32)) : Nat) < 96 from i.isLt), dif_pos (show ((Fin.castAdd 32 i : Fin (96 + 32)) : Nat) < 96 from i.isLt)]
  rfl

/-- The probability as the kernel computes it: a power of two of a score less the row's statistic. -/
theorem p_ker (h : Fin 8) (a b : Fin 16384) :
    Real.rpow 2 ((∑ d, q a h d / Real.sqrt 96 / Real.log 2 * k b h d) - (M q k h a + Real.log (l q k h a)) / Real.log 2) = p q k h a b := by
  have hs : ∑ d, q a h d / Real.sqrt 96 / Real.log 2 * k b h d = S q k h a b / Real.log 2 := by
    unfold S
    rw [Finset.sum_div]
    exact Finset.sum_congr rfl fun d _ => by ring
  rw [hs]
  show (2 : ℝ) ^ (_ : ℝ) = _
  rw [Real.rpow_def_of_pos (by norm_num)]
  have : Real.log 2 * (S q k h a b / Real.log 2 - (M q k h a + Real.log (l q k h a)) / Real.log 2)
      = (S q k h a b - M q k h a) - Real.log (l q k h a) := by
    have := l2
    field_simp
    ring
  rw [this, Real.exp_sub, Real.exp_log (l_pos q k h a)]
  rfl

/-- The keys' gradient: the kernel's scale by the logarithm of two undoes the queries' division by it. -/
theorem dk_ker (h : Fin 8) (b : Fin 16384) (d : Fin 96) :
    (∑ a, q a h d / Real.sqrt 96 / Real.log 2 * ds q k v c h a b) * Real.log 2 = ∑ a, ds q k v c h a b * (q a h d / Real.sqrt 96) := by
  rw [Finset.sum_mul]
  refine Finset.sum_congr rfl fun a _ => ?_
  have := l2
  field_simp
end

end Cert.Attn
end
-- ==== Proof.AttnHost.lean ====
module
public import proofs.«01_k».proof.Proof.BwdHost
public import proofs.«01_k».proof.Proof.RefOps
public import proofs.«01_k».proof.Proof.Attn
@[expose] public section
noncomputable section
open Idealize.ShloMosaic

/-! The host's arrays and the reference's, at finite arguments. -/

namespace Cert.KernelIdeal.Host0
open Cert.KernelIdeal Cert.KernelIdeal.Gen Cert.KernelIdeal.Facts Cert.Attn

theorem reduce_apply (s : FVec Ideal S8x16384x16384 .f32) (h : Fin 8) (a : Fin 16384) :
    Host.reduce FloatOps.maximumf s (constant S_ .f32 0xFF800000#32) reducesTo_S8x16384x16384_S8x16384_d2 h_S_ (ix2 h a)
      = Finset.fold max (Ideal.ofBits .f32 0xFF800000#32) (fun b => s (ix3 h a b)) Finset.univ := by
  pointwise []

section
variable {q k : FVec Ideal S16384x8x96 .f32} {v ct : FVec Ideal S16384x8x64 .f32}
  {qr kr : Fin 16384 → Fin 8 → Fin 96 → ℝ} {vr cr : Fin 16384 → Fin 8 → Fin 64 → ℝ}
  (hq : ∀ a h d, q (ix3 a h d) = (qr a h d : EReal)) (hk : ∀ a h d, k (ix3 a h d) = (kr a h d : EReal))
  (hv : ∀ a h d, v (ix3 a h d) = (vr a h d : EReal)) (hc : ∀ a h d, ct (ix3 a h d) = (cr a h d : EReal))

include hq in
theorem qn_r (a : Fin 16384) (h : Fin 8) (d : Fin 96) : qn q (ix3 a h d) = ((qr a h d / Real.sqrt 96 : ℝ) : EReal) := by
  rw [qn_apply, hq, sqrt96, ediv _ r96]

include hq hk
theorem sc_r (h : Fin 8) (a b : Fin 16384) : sc q k (ix3 h a b) = (S qr kr h a b : EReal) := by
  rw [sc_apply]
  simp only [qn_r hq, hk, ← EReal.coe_mul]
  exact esum _

theorem mx_r (h : Fin 8) (a : Fin 16384) : mx q k (ix2 h a) = (M qr kr h a : EReal) := by
  refine (reduce_apply (sc q k) h a).trans ?_
  simp only [sc_r hq hk, litBot]
  exact foldmax _

theorem ex_r (h : Fin 8) (a b : Fin 16384) : ex q k (ix3 h a b) = (e qr kr h a b : EReal) := by
  rw [ex_apply, sc_r hq hk, mx_r hq hk, ← EReal.coe_sub, Ideal.exp_coe]; rfl

theorem su_r (h : Fin 8) (a : Fin 16384) : su q k (ix2 h a) = (l qr kr h a : EReal) := by
  rw [su_apply]
  simp only [ex_r hq hk]
  exact esum _

theorem ls_r (h : Fin 8) (a : Fin 16384) :
    lsOf (mx q k) (su q k) (ix3 h a 0) = (((M qr kr h a + Real.log (l qr kr h a)) / Real.log 2 : ℝ) : EReal) := by
  rw [lsOf_apply, mx_r hq hk, su_r hq hk, Attn.log2, Ideal.log_coe, if_neg (not_le.mpr (l_pos qr kr h a)), ← EReal.coe_add, ediv _ l2]

theorem pr_r (h : Fin 8) (a b : Fin 16384) : prOf (ex q k) (su q k) (ix3 h a b) = (p qr kr h a b : EReal) := by
  rw [prOf_apply, ex_r hq hk, su_r hq hk, ediv _ (l_pos qr kr h a).ne']; rfl

include hv in
theorem ou_r (a : Fin 16384) (h : Fin 8) (x : Fin 64) :
    ouOf (prOf (ex q k) (su q k)) v (ix3 a h x) = ((∑ b, vr b h x * p qr kr h a b : ℝ) : EReal) := by
  rw [ouOf_apply]
  simp only [pr_r hq hk, hv, ← EReal.coe_mul]
  exact esum _

include hv hc in
theorem de_r (h : Fin 8) (a : Fin 16384) :
    deOf (ouOf (prOf (ex q k) (su q k)) v) ct (ix3 h a 0) = (dl qr kr vr cr h a : EReal) := by
  rw [deOf_apply]
  simp only [ou_r hq hk hv, hc, ← EReal.coe_mul]
  exact esum _
end
end Cert.KernelIdeal.Host0

namespace Cert.ReferenceIdeal.Val
open Cert.ReferenceIdeal Cert.ReferenceIdeal.Gen Cert.ReferenceIdeal.Facts Cert.KernelIdeal.Body

theorem qn_apply (q : FVec Ideal S16384x8x96 .f32) (a : Fin 16384) (h : Fin 8) (d : Fin 96) :
    qn q (ix3 a h d) = Ideal.div (q (ix3 a h d)) (Ideal.sqrt (Ideal.ofBits .f32 0x42C00000#32)) := by
  pointwise [qn]

theorem mx_apply (s : FVec Ideal S8x16384x16384 .f32) (h : Fin 8) (a : Fin 16384) :
    mx s (ix2 h a) = Finset.fold max (Ideal.ofBits .f32 0xFF800000#32) (fun b => s (ix3 h a b)) Finset.univ := by
  pointwise [mx]

theorem exists_at16 (b : Fin 16384) : ∃ j b', b = at16 j b' :=
  ⟨⟨b.val / 1024, by omega⟩, ⟨b.val % 1024, by omega⟩, Fin.ext (by show b.val = 1024 * (b.val / 1024) + b.val % 1024; omega)⟩

section
variable {q k : FVec Ideal S16384x8x96 .f32} {v ct : FVec Ideal S16384x8x64 .f32}
  {qr kr : Fin 16384 → Fin 8 → Fin 96 → ℝ} {vr cr : Fin 16384 → Fin 8 → Fin 64 → ℝ}
  (hq : ∀ a h d, q (ix3 a h d) = (qr a h d : EReal)) (hk : ∀ a h d, k (ix3 a h d) = (kr a h d : EReal))
  (hv : ∀ a h d, v (ix3 a h d) = (vr a h d : EReal)) (hc : ∀ a h d, ct (ix3 a h d) = (cr a h d : EReal))

include hq in
theorem qn_r (a : Fin 16384) (h : Fin 8) (d : Fin 96) : qn q (ix3 a h d) = ((qr a h d / Real.sqrt 96 : ℝ) : EReal) := by
  rw [qn_apply, hq, Attn.sqrt96, Attn.ediv _ Attn.r96]

include hq hk
theorem S_r (h : Fin 8) (a b : Fin 16384) : S q k (ix3 h a b) = (Attn.S qr kr h a b : EReal) := by
  obtain ⟨j, b, rfl⟩ := exists_at16 b
  rw [S, sc_apply, sb_apply]
  simp only [kb_apply, qs_apply, qn_r hq, hk, ← EReal.coe_mul]
  refine (Attn.esum _).trans (congrArg _ ?_)
  exact Finset.sum_congr rfl fun d _ => mul_comm _ _

theorem mx_r (h : Fin 8) (a : Fin 16384) : mx' (mx (S q k)) (ix2 h a) = (Attn.M qr kr h a : EReal) := by
  rw [mx'_apply, mx_apply]
  simp only [S_r hq hk, Attn.litBot]
  rw [Attn.foldmax]
  exact max_eq_right bot_le

theorem E_r (h : Fin 8) (a b : Fin 16384) : E q k (ix3 h a b) = (Attn.e qr kr h a b : EReal) := by
  rw [E, ex_apply, S_r hq hk, mx_r hq hk, ← EReal.coe_sub, Ideal.exp_coe]; rfl

theorem L_r (h : Fin 8) (a : Fin 16384) : L q k (ix2 h a) = (Attn.l qr kr h a : EReal) := by
  rw [L, su_apply]
  simp only [E_r hq hk]
  exact Attn.esum _

theorem pr_r (h : Fin 8) (a b : Fin 16384) : pr (E q k) (L q k) (ix3 h a b) = (Attn.p qr kr h a b : EReal) := by
  rw [pr_apply, E_r hq hk, L_r hq hk, Attn.ediv _ (Attn.l_pos qr kr h a).ne']; rfl

omit hq hk in
include hv hc in
theorem dp_r (h : Fin 8) (a b : Fin 16384) : dp ct v (ix3 h a b) = (Attn.dp vr cr h a b : EReal) := by
  rw [dp_apply]
  simp only [hv, hc, ← EReal.coe_mul]
  exact Attn.esum _

include hv hc in
theorem D_r (h : Fin 8) (a b : Fin 16384) : D q k v ct (ix3 h a b) = (Attn.ds qr kr vr cr h a b : EReal) := by
  have hl := (Attn.l_pos qr kr h a).ne'
  rw [D, ds_apply, th_apply]
  simp only [sq_apply, dp_r hv hc, E_r hq hk, L_r hq hk, Attn.lit1, ← EReal.coe_mul]
  rw [Attn.ediv _ hl, Attn.ediv _ (mul_ne_zero hl hl)]
  simp only [← EReal.coe_mul]
  rw [Attn.esum, ← EReal.coe_neg, ← EReal.coe_add, ← EReal.coe_mul, Attn.ds_ref]

include hv hc in
/-- The first result. -/
theorem out0_r (j : Fin 16) (a : Fin 16384) (h : Fin 8) (d : Fin 128) :
    out0 (dq (dsb (D q k v ct)) (kb k)) (ix3 j a (c128 h d)) = ((if hd : (d : Nat) < 96 then
      ∑ b : Fin 1024, Attn.ds qr kr vr cr h a (at16 j b) * kr (at16 j b) h ⟨d, hd⟩ else 0 : ℝ) : EReal) := by
  rw [out0_apply]
  split
  · rw [dq_apply]
    simp only [dsb_apply, kb_apply, D_r hq hk hv hc, hk, ← EReal.coe_mul]
    exact Attn.esum _
  · rfl

include hv hc in
/-- The second result. -/
theorem out1_r (h : Fin 8) (d : Fin 128) (b : Fin 16384) :
    out1 (dk (dsb (D q k v ct)) (qs (qn q))) (ix2 (c128 h d) b) = ((if hd : (d : Nat) < 96 then
      ∑ a, Attn.ds qr kr vr cr h a b * (qr a h ⟨d, hd⟩ / Real.sqrt 96) else 0 : ℝ) : EReal) := by
  obtain ⟨j, b, rfl⟩ := exists_at16 b
  rw [out1_apply]
  split
  · rw [dk_apply]
    simp only [dsb_apply, qs_apply, D_r hq hk hv hc, qn_r hq, ← EReal.coe_mul]
    exact Attn.esum _
  · rfl

include hc in
/-- The third result. -/
theorem out2_r (h : Fin 8) (x : Fin 64) (b : Fin 16384) :
    out2 ct (pr (E q k) (L q k)) (ix2 (c64 h x) b) = ((∑ a, cr a h x * Attn.p qr kr h a b : ℝ) : EReal) := by
  rw [out2_apply]
  simp only [pr_r hq hk, hc, ← EReal.coe_mul]
  exact Attn.esum _
end
end Cert.ReferenceIdeal.Val
end
-- ==== Proof.BwdBody.lean ====
module
public import proofs.«01_k».proof.Proof.BwdOps
public import Idealize.ShloMosaic.Lib.Pipeline.ReadBack
@[expose] public section
noncomputable section
open Idealize.ShloMosaic Idealize.ShloMosaic.TcCoe Idealize.SL.Sem
namespace Cert.KernelIdeal.Body
open Cert.KernelIdeal Cert.KernelIdeal.Gen

/-! What one run of the body leaves in each result's buffer, case by case. -/

theorem inb_k (h : Fin 8) (a : Fin 2) : (![128 * h.val, 0] : Fin 2 → ℕ) a + (![128, 1024] : Fin 2 → ℕ) a ≤ S1024x1024.size a :=
  match a with
  | ⟨0, _⟩ => (by omega : 128 * h.val + 128 ≤ 1024)
  | ⟨1, _⟩ => (by omega : 0 + 1024 ≤ 1024)

theorem cov_k {L : List (View.Piece (Elt Ideal) S1024x1024 .f32)} (hL : ∀ h : Fin 8, ∃ p ∈ L, p.1 = Rect.unit (s := S1024x1024) ![128 * h.val, 0] ![128, 1024] (inb_k h))
    (y : S1024x1024.Idx) : ∃ p ∈ L, y ∈ p.1.set := by
  obtain ⟨p, hp, e⟩ := hL (h128 (y 0))
  refine ⟨p, hp, ?_⟩
  rw [e, Rect.mem_set_unit]
  intro a
  have h0 : (y 0).val < 1024 := (y 0).isLt
  have h1 : (y 1).val < 1024 := (y 1).isLt
  match a with
  | ⟨0, _⟩ => show 128 * ((y 0).val / 128) ≤ (y 0).val ∧ (y 0).val < 128 * ((y 0).val / 128) + 128; omega
  | ⟨1, _⟩ => show 0 ≤ (y 1).val ∧ (y 1).val < 0 + 1024; omega

theorem inb_v (h : Fin 8) (a : Fin 2) : (![64 * h.val, 0] : Fin 2 → ℕ) a + (![64, 1024] : Fin 2 → ℕ) a ≤ S512x1024.size a :=
  match a with
  | ⟨0, _⟩ => (by omega : 64 * h.val + 64 ≤ 512)
  | ⟨1, _⟩ => (by omega : 0 + 1024 ≤ 1024)

theorem cov_v {L : List (View.Piece (Elt Ideal) S512x1024 .f32)} (hL : ∀ h : Fin 8, ∃ p ∈ L, p.1 = Rect.unit (s := S512x1024) ![64 * h.val, 0] ![64, 1024] (inb_v h))
    (y : S512x1024.Idx) : ∃ p ∈ L, y ∈ p.1.set := by
  obtain ⟨p, hp, e⟩ := hL (h64 (y 0))
  refine ⟨p, hp, ?_⟩
  rw [e, Rect.mem_set_unit]
  intro a
  have h0 : (y 0).val < 512 := (y 0).isLt
  have h1 : (y 1).val < 1024 := (y 1).isLt
  match a with
  | ⟨0, _⟩ => show 64 * ((y 0).val / 64) ≤ (y 0).val ∧ (y 0).val < 64 * ((y 0).val / 64) + 64; omega
  | ⟨1, _⟩ => show 0 ≤ (y 1).val ∧ (y 1).val < 0 + 1024; omega

theorem inb_q (h : Fin 8) (a : Fin 3) : (![0, 0, 128 * h.val] : Fin 3 → ℕ) a + (![1, 1024, 128] : Fin 3 → ℕ) a ≤ S1x1024x1024.size a :=
  match a with
  | ⟨0, _⟩ => (by omega : 0 + 1 ≤ 1)
  | ⟨1, _⟩ => (by omega : 0 + 1024 ≤ 1024)
  | ⟨2, _⟩ => (by omega : 128 * h.val + 128 ≤ 1024)

theorem pay1_apply (v : FVec Ideal S1024x1024 .f32) (y : S1024x1024.Idx) :
    k0_pay1 v y = v y * (Named.named (F := Ideal) (φ := .f32) κ "ln2" 0x3F317218#32) := by
  pointwise [k0_pay1]

theorem hz2 : (![0, 0] : Fin 2 → ℕ) = fun _ => 0 := by
  funext a; match a with | ⟨0, _⟩ => rfl | ⟨1, _⟩ => rfl

theorem out_A_8 (c : Dev nD) (i : grid0.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x512 .bf16) (harg5 : arg5.IsWhole) (arg6 : Memref sig .tc .vmem S1024x512 .bf16) (harg6 : arg6.IsWhole) (arg7 : Memref sig .tc .vmem S512x1024 .bf16) (harg7 : arg7.IsWhole) (arg8 : Memref sig .tc .vmem S8x1024x1 .f32) (harg8 : arg8.IsWhole) (arg9 : Memref sig .tc .vmem S8x1024x1 .f32) (harg9 : arg9.IsWhole) (arg10 : Memref sig .tc .vmem S1x1024x1024 .bf16) (harg10 : arg10.IsWhole) (arg11 : Memref sig .tc .vmem S1024x1024 .f32) (harg11 : arg11.IsWhole) (arg12 : Memref sig .tc .vmem S512x1024 .f32) (harg12 : arg12.IsWhole) (hc0 : cond0_0 i) (hc1 : ¬cond0_1 i)
    (x0 : Vec Ideal S1024x1024 .bf16) (x1 : Vec Ideal S1024x1024 .bf16) (x2 : Vec Ideal S1024x1024 .bf16) (x3 : Vec Ideal S1024x512 .bf16) (x4 : Vec Ideal S1024x512 .bf16) (x5 : Vec Ideal S512x1024 .bf16) (x6 : Vec Ideal S8x1024x1 .f32) (x7 : Vec Ideal S8x1024x1 .f32) :
    out0_A_8 c i arg2 harg2 arg3 harg3 arg4 harg4 arg5 harg5 arg6 harg6 arg7 harg7 arg8 harg8 arg9 harg9 arg10 harg10 arg11 harg11 arg12 harg12 hc0 hc1 x0 x1 x2 x3 x4 x5 x6 x7 = gQ x0 x2 x3 x4 x6 x7 := by
  unfold out0_A_8
  rw [View.read_writes_eq_canon _ _ _ (cover0_A_8 c i arg2 harg2 arg3 harg3 arg4 harg4 arg5 harg5 arg6 harg6 arg7 harg7 arg8 harg8 arg9 harg9 arg10 harg10 arg11 harg11 arg12 harg12 hc0 hc1 x0 x1 x2 x3 x4 x5 x6 x7)]
  funext y
  refine View.canon_apply_of_pieces (gQ x0 x2 x3 x4 x6 x7) _ ?_ y (cover0_A_8 c i arg2 harg2 arg3 harg3 arg4 harg4 arg5 harg5 arg6 harg6 arg7 harg7 arg8 harg8 arg9 harg9 arg10 harg10 arg11 harg11 arg12 harg12 hc0 hc1 x0 x1 x2 x3 x4 x5 x6 x7 y)
  refine View.PiecesOf.mem (Val := Elt Ideal) (s := S1x1024x1024) (e := .bf16) (G := gQ x0 x2 x3 x4 x6 x7) ?_
  unfold kernelRun0_A
  dsimp only
  sl_unfold_words
  simp only [View.readAt_eq_ld, harg2.read_unread, harg3.read_unread, harg4.read_unread, harg5.read_unread, harg6.read_unread, harg7.read_unread, harg8.read_unread, harg9.read_unread, harg11.read_unread, harg12.read_unread]
  exact ⟨pieceQ x0 x2 x3 x4 x6 x7 7 rfl rfl rfl _ _ _ (inb_q 7),
    pieceQ x0 x2 x3 x4 x6 x7 6 rfl rfl rfl _ _ _ (inb_q 6),
    pieceQ x0 x2 x3 x4 x6 x7 5 rfl rfl rfl _ _ _ (inb_q 5),
    pieceQ x0 x2 x3 x4 x6 x7 4 rfl rfl rfl _ _ _ (inb_q 4),
    pieceQ x0 x2 x3 x4 x6 x7 3 rfl rfl rfl _ _ _ (inb_q 3),
    pieceQ x0 x2 x3 x4 x6 x7 2 rfl rfl rfl _ _ _ (inb_q 2),
    pieceQ x0 x2 x3 x4 x6 x7 1 rfl rfl rfl _ _ _ (inb_q 1),
    pieceQ x0 x2 x3 x4 x6 x7 0 rfl rfl rfl _ _ _ (inb_q 0), trivial⟩

theorem out_B_8 (c : Dev nD) (i : grid0.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x512 .bf16) (harg5 : arg5.IsWhole) (arg6 : Memref sig .tc .vmem S1024x512 .bf16) (harg6 : arg6.IsWhole) (arg7 : Memref sig .tc .vmem S512x1024 .bf16) (harg7 : arg7.IsWhole) (arg8 : Memref sig .tc .vmem S8x1024x1 .f32) (harg8 : arg8.IsWhole) (arg9 : Memref sig .tc .vmem S8x1024x1 .f32) (harg9 : arg9.IsWhole) (arg10 : Memref sig .tc .vmem S1x1024x1024 .bf16) (harg10 : arg10.IsWhole) (arg11 : Memref sig .tc .vmem S1024x1024 .f32) (harg11 : arg11.IsWhole) (arg12 : Memref sig .tc .vmem S512x1024 .f32) (harg12 : arg12.IsWhole) (hc0 : ¬cond0_0 i) (hc1 : ¬cond0_1 i)
    (x0 : Vec Ideal S1024x1024 .bf16) (x1 : Vec Ideal S1024x1024 .bf16) (x2 : Vec Ideal S1024x1024 .bf16) (x3 : Vec Ideal S1024x512 .bf16) (x4 : Vec Ideal S1024x512 .bf16) (x5 : Vec Ideal S512x1024 .bf16) (x6 : Vec Ideal S8x1024x1 .f32) (x7 : Vec Ideal S8x1024x1 .f32) (xo9 : Vec Ideal S1024x1024 .f32) (xo10 : Vec Ideal S512x1024 .f32) :
    out0_B_8 c i arg2 harg2 arg3 harg3 arg4 harg4 arg5 harg5 arg6 harg6 arg7 harg7 arg8 harg8 arg9 harg9 arg10 harg10 arg11 harg11 arg12 harg12 hc0 hc1 x0 x1 x2 x3 x4 x5 x6 x7 xo9 xo10 = gQ x0 x2 x3 x4 x6 x7 := by
  unfold out0_B_8
  rw [View.read_writes_eq_canon _ _ _ (cover0_B_8 c i arg2 harg2 arg3 harg3 arg4 harg4 arg5 harg5 arg6 harg6 arg7 harg7 arg8 harg8 arg9 harg9 arg10 harg10 arg11 harg11 arg12 harg12 hc0 hc1 x0 x1 x2 x3 x4 x5 x6 x7 xo9 xo10)]
  funext y
  refine View.canon_apply_of_pieces (gQ x0 x2 x3 x4 x6 x7) _ ?_ y (cover0_B_8 c i arg2 harg2 arg3 harg3 arg4 harg4 arg5 harg5 arg6 harg6 arg7 harg7 arg8 harg8 arg9 harg9 arg10 harg10 arg11 harg11 arg12 harg12 hc0 hc1 x0 x1 x2 x3 x4 x5 x6 x7 xo9 xo10 y)
  refine View.PiecesOf.mem (Val := Elt Ideal) (s := S1x1024x1024) (e := .bf16) (G := gQ x0 x2 x3 x4 x6 x7) ?_
  unfold kernelRun0_B
  dsimp only
  sl_unfold_words
  simp only [View.readAt_eq_ld, harg2.read_unread, harg3.read_unread, harg4.read_unread, harg5.read_unread, harg6.read_unread, harg7.read_unread, harg8.read_unread, harg9.read_unread, harg11.read_unread, harg12.read_unread]
  exact ⟨pieceQ x0 x2 x3 x4 x6 x7 7 rfl rfl rfl _ _ _ (inb_q 7),
    pieceQ x0 x2 x3 x4 x6 x7 6 rfl rfl rfl _ _ _ (inb_q 6),
    pieceQ x0 x2 x3 x4 x6 x7 5 rfl rfl rfl _ _ _ (inb_q 5),
    pieceQ x0 x2 x3 x4 x6 x7 4 rfl rfl rfl _ _ _ (inb_q 4),
    pieceQ x0 x2 x3 x4 x6 x7 3 rfl rfl rfl _ _ _ (inb_q 3),
    pieceQ x0 x2 x3 x4 x6 x7 2 rfl rfl rfl _ _ _ (inb_q 2),
    pieceQ x0 x2 x3 x4 x6 x7 1 rfl rfl rfl _ _ _ (inb_q 1),
    pieceQ x0 x2 x3 x4 x6 x7 0 rfl rfl rfl _ _ _ (inb_q 0), trivial⟩

theorem out_C_8 (c : Dev nD) (i : grid0.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x512 .bf16) (harg5 : arg5.IsWhole) (arg6 : Memref sig .tc .vmem S1024x512 .bf16) (harg6 : arg6.IsWhole) (arg7 : Memref sig .tc .vmem S512x1024 .bf16) (harg7 : arg7.IsWhole) (arg8 : Memref sig .tc .vmem S8x1024x1 .f32) (harg8 : arg8.IsWhole) (arg9 : Memref sig .tc .vmem S8x1024x1 .f32) (harg9 : arg9.IsWhole) (arg10 : Memref sig .tc .vmem S1x1024x1024 .bf16) (harg10 : arg10.IsWhole) (arg11 : Memref sig .tc .vmem S1024x1024 .f32) (harg11 : arg11.IsWhole) (arg12 : Memref sig .tc .vmem S512x1024 .f32) (harg12 : arg12.IsWhole) (hc0 : ¬cond0_0 i) (hc1 : cond0_1 i)
    (x0 : Vec Ideal S1024x1024 .bf16) (x1 : Vec Ideal S1024x1024 .bf16) (x2 : Vec Ideal S1024x1024 .bf16) (x3 : Vec Ideal S1024x512 .bf16) (x4 : Vec Ideal S1024x512 .bf16) (x5 : Vec Ideal S512x1024 .bf16) (x6 : Vec Ideal S8x1024x1 .f32) (x7 : Vec Ideal S8x1024x1 .f32) (xo9 : Vec Ideal S1024x1024 .f32) (xo10 : Vec Ideal S512x1024 .f32) :
    out0_C_8 c i arg2 harg2 arg3 harg3 arg4 harg4 arg5 harg5 arg6 harg6 arg7 harg7 arg8 harg8 arg9 harg9 arg10 harg10 arg11 harg11 arg12 harg12 hc0 hc1 x0 x1 x2 x3 x4 x5 x6 x7 xo9 xo10 = gQ x0 x2 x3 x4 x6 x7 := by
  unfold out0_C_8
  rw [View.read_writes_eq_canon _ _ _ (cover0_C_8 c i arg2 harg2 arg3 harg3 arg4 harg4 arg5 harg5 arg6 harg6 arg7 harg7 arg8 harg8 arg9 harg9 arg10 harg10 arg11 harg11 arg12 harg12 hc0 hc1 x0 x1 x2 x3 x4 x5 x6 x7 xo9 xo10)]
  funext y
  refine View.canon_apply_of_pieces (gQ x0 x2 x3 x4 x6 x7) _ ?_ y (cover0_C_8 c i arg2 harg2 arg3 harg3 arg4 harg4 arg5 harg5 arg6 harg6 arg7 harg7 arg8 harg8 arg9 harg9 arg10 harg10 arg11 harg11 arg12 harg12 hc0 hc1 x0 x1 x2 x3 x4 x5 x6 x7 xo9 xo10 y)
  refine View.PiecesOf.mem (Val := Elt Ideal) (s := S1x1024x1024) (e := .bf16) (G := gQ x0 x2 x3 x4 x6 x7) ?_
  unfold kernelRun0_C
  dsimp only
  sl_unfold_words
  simp only [View.readAt_eq_ld, harg2.read_unread, harg3.read_unread, harg4.read_unread, harg5.read_unread, harg6.read_unread, harg7.read_unread, harg8.read_unread, harg9.read_unread, harg11.read_unread, harg12.read_unread]
  exact ⟨pieceQ x0 x2 x3 x4 x6 x7 7 rfl rfl rfl _ _ _ (inb_q 7),
    pieceQ x0 x2 x3 x4 x6 x7 6 rfl rfl rfl _ _ _ (inb_q 6),
    pieceQ x0 x2 x3 x4 x6 x7 5 rfl rfl rfl _ _ _ (inb_q 5),
    pieceQ x0 x2 x3 x4 x6 x7 4 rfl rfl rfl _ _ _ (inb_q 4),
    pieceQ x0 x2 x3 x4 x6 x7 3 rfl rfl rfl _ _ _ (inb_q 3),
    pieceQ x0 x2 x3 x4 x6 x7 2 rfl rfl rfl _ _ _ (inb_q 2),
    pieceQ x0 x2 x3 x4 x6 x7 1 rfl rfl rfl _ _ _ (inb_q 1),
    pieceQ x0 x2 x3 x4 x6 x7 0 rfl rfl rfl _ _ _ (inb_q 0), trivial⟩

theorem out_B_9 (c : Dev nD) (i : grid0.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x512 .bf16) (harg5 : arg5.IsWhole) (arg6 : Memref sig .tc .vmem S1024x512 .bf16) (harg6 : arg6.IsWhole) (arg7 : Memref sig .tc .vmem S512x1024 .bf16) (harg7 : arg7.IsWhole) (arg8 : Memref sig .tc .vmem S8x1024x1 .f32) (harg8 : arg8.IsWhole) (arg9 : Memref sig .tc .vmem S8x1024x1 .f32) (harg9 : arg9.IsWhole) (arg10 : Memref sig .tc .vmem S1x1024x1024 .bf16) (harg10 : arg10.IsWhole) (arg11 : Memref sig .tc .vmem S1024x1024 .f32) (harg11 : arg11.IsWhole) (arg12 : Memref sig .tc .vmem S512x1024 .f32) (harg12 : arg12.IsWhole) (hc0 : ¬cond0_0 i) (hc1 : ¬cond0_1 i)
    (x0 : Vec Ideal S1024x1024 .bf16) (x1 : Vec Ideal S1024x1024 .bf16) (x2 : Vec Ideal S1024x1024 .bf16) (x3 : Vec Ideal S1024x512 .bf16) (x4 : Vec Ideal S1024x512 .bf16) (x5 : Vec Ideal S512x1024 .bf16) (x6 : Vec Ideal S8x1024x1 .f32) (x7 : Vec Ideal S8x1024x1 .f32) (xo9 : Vec Ideal S1024x1024 .f32) (xo10 : Vec Ideal S512x1024 .f32) :
    out0_B_9 c i arg2 harg2 arg3 harg3 arg4 harg4 arg5 harg5 arg6 harg6 arg7 harg7 arg8 harg8 arg9 harg9 arg10 harg10 arg11 harg11 arg12 harg12 hc0 hc1 x0 x1 x2 x3 x4 x5 x6 x7 xo9 xo10 = fun y => xo9 y + gK x0 x1 x2 x3 x4 x6 x7 y := by
  unfold out0_B_9
  rw [View.read_writes_eq_canon _ _ _ (cover0_B_9 c i arg2 harg2 arg3 harg3 arg4 harg4 arg5 harg5 arg6 harg6 arg7 harg7 arg8 harg8 arg9 harg9 arg10 harg10 arg11 harg11 arg12 harg12 hc0 hc1 x0 x1 x2 x3 x4 x5 x6 x7 xo9 xo10)]
  funext y
  refine View.canon_apply_of_pieces (fun y => xo9 y + gK x0 x1 x2 x3 x4 x6 x7 y) _ ?_ y (cover0_B_9 c i arg2 harg2 arg3 harg3 arg4 harg4 arg5 harg5 arg6 harg6 arg7 harg7 arg8 harg8 arg9 harg9 arg10 harg10 arg11 harg11 arg12 harg12 hc0 hc1 x0 x1 x2 x3 x4 x5 x6 x7 xo9 xo10 y)
  refine View.PiecesOf.mem (Val := Elt Ideal) (s := S1024x1024) (e := .f32) (G := fun y => xo9 y + gK x0 x1 x2 x3 x4 x6 x7 y) ?_
  unfold kernelRun0_B
  dsimp only
  sl_unfold_words
  simp only [View.readAt_eq_ld, harg2.read_unread, harg3.read_unread, harg4.read_unread, harg5.read_unread, harg6.read_unread, harg7.read_unread, harg8.read_unread, harg9.read_unread, harg11.read_unread, harg12.read_unread]
  exact ⟨pieceK x0 x1 x2 x3 x4 x6 x7 7 rfl rfl rfl _ _ _ _ xo9 _ (fun _ => rfl),
    pieceK x0 x1 x2 x3 x4 x6 x7 6 rfl rfl rfl _ _ _ _ xo9 _ (fun _ => rfl),
    pieceK x0 x1 x2 x3 x4 x6 x7 5 rfl rfl rfl _ _ _ _ xo9 _ (fun _ => rfl),
    pieceK x0 x1 x2 x3 x4 x6 x7 4 rfl rfl rfl _ _ _ _ xo9 _ (fun _ => rfl),
    pieceK x0 x1 x2 x3 x4 x6 x7 3 rfl rfl rfl _ _ _ _ xo9 _ (fun _ => rfl),
    pieceK x0 x1 x2 x3 x4 x6 x7 2 rfl rfl rfl _ _ _ _ xo9 _ (fun _ => rfl),
    pieceK x0 x1 x2 x3 x4 x6 x7 1 rfl rfl rfl _ _ _ _ xo9 _ (fun _ => rfl),
    pieceK x0 x1 x2 x3 x4 x6 x7 0 rfl rfl rfl _ _ _ _ xo9 _ (fun _ => rfl), trivial⟩

theorem out_B_10 (c : Dev nD) (i : grid0.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x512 .bf16) (harg5 : arg5.IsWhole) (arg6 : Memref sig .tc .vmem S1024x512 .bf16) (harg6 : arg6.IsWhole) (arg7 : Memref sig .tc .vmem S512x1024 .bf16) (harg7 : arg7.IsWhole) (arg8 : Memref sig .tc .vmem S8x1024x1 .f32) (harg8 : arg8.IsWhole) (arg9 : Memref sig .tc .vmem S8x1024x1 .f32) (harg9 : arg9.IsWhole) (arg10 : Memref sig .tc .vmem S1x1024x1024 .bf16) (harg10 : arg10.IsWhole) (arg11 : Memref sig .tc .vmem S1024x1024 .f32) (harg11 : arg11.IsWhole) (arg12 : Memref sig .tc .vmem S512x1024 .f32) (harg12 : arg12.IsWhole) (hc0 : ¬cond0_0 i) (hc1 : ¬cond0_1 i)
    (x0 : Vec Ideal S1024x1024 .bf16) (x1 : Vec Ideal S1024x1024 .bf16) (x2 : Vec Ideal S1024x1024 .bf16) (x3 : Vec Ideal S1024x512 .bf16) (x4 : Vec Ideal S1024x512 .bf16) (x5 : Vec Ideal S512x1024 .bf16) (x6 : Vec Ideal S8x1024x1 .f32) (x7 : Vec Ideal S8x1024x1 .f32) (xo9 : Vec Ideal S1024x1024 .f32) (xo10 : Vec Ideal S512x1024 .f32) :
    out0_B_10 c i arg2 harg2 arg3 harg3 arg4 harg4 arg5 harg5 arg6 harg6 arg7 harg7 arg8 harg8 arg9 harg9 arg10 harg10 arg11 harg11 arg12 harg12 hc0 hc1 x0 x1 x2 x3 x4 x5 x6 x7 xo9 xo10 = fun y => xo10 y + gV x0 x2 x5 x6 y := by
  unfold out0_B_10
  rw [View.read_writes_eq_canon _ _ _ (cover0_B_10 c i arg2 harg2 arg3 harg3 arg4 harg4 arg5 harg5 arg6 harg6 arg7 harg7 arg8 harg8 arg9 harg9 arg10 harg10 arg11 harg11 arg12 harg12 hc0 hc1 x0 x1 x2 x3 x4 x5 x6 x7 xo9 xo10)]
  funext y
  refine View.canon_apply_of_pieces (fun y => xo10 y + gV x0 x2 x5 x6 y) _ ?_ y (cover0_B_10 c i arg2 harg2 arg3 harg3 arg4 harg4 arg5 harg5 arg6 harg6 arg7 harg7 arg8 harg8 arg9 harg9 arg10 harg10 arg11 harg11 arg12 harg12 hc0 hc1 x0 x1 x2 x3 x4 x5 x6 x7 xo9 xo10 y)
  refine View.PiecesOf.mem (Val := Elt Ideal) (s := S512x1024) (e := .f32) (G := fun y => xo10 y + gV x0 x2 x5 x6 y) ?_
  unfold kernelRun0_B
  dsimp only
  sl_unfold_words
  simp only [View.readAt_eq_ld, harg2.read_unread, harg3.read_unread, harg4.read_unread, harg5.read_unread, harg6.read_unread, harg7.read_unread, harg8.read_unread, harg9.read_unread, harg11.read_unread, harg12.read_unread]
  exact ⟨pieceV x0 x2 x5 x6 7 rfl rfl rfl _ _ _ xo10 _ (fun _ => rfl),
    pieceV x0 x2 x5 x6 6 rfl rfl rfl _ _ _ xo10 _ (fun _ => rfl),
    pieceV x0 x2 x5 x6 5 rfl rfl rfl _ _ _ xo10 _ (fun _ => rfl),
    pieceV x0 x2 x5 x6 4 rfl rfl rfl _ _ _ xo10 _ (fun _ => rfl),
    pieceV x0 x2 x5 x6 3 rfl rfl rfl _ _ _ xo10 _ (fun _ => rfl),
    pieceV x0 x2 x5 x6 2 rfl rfl rfl _ _ _ xo10 _ (fun _ => rfl),
    pieceV x0 x2 x5 x6 1 rfl rfl rfl _ _ _ xo10 _ (fun _ => rfl),
    pieceV x0 x2 x5 x6 0 rfl rfl rfl _ _ _ xo10 _ (fun _ => rfl), trivial⟩

theorem out_C_10 (c : Dev nD) (i : grid0.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x512 .bf16) (harg5 : arg5.IsWhole) (arg6 : Memref sig .tc .vmem S1024x512 .bf16) (harg6 : arg6.IsWhole) (arg7 : Memref sig .tc .vmem S512x1024 .bf16) (harg7 : arg7.IsWhole) (arg8 : Memref sig .tc .vmem S8x1024x1 .f32) (harg8 : arg8.IsWhole) (arg9 : Memref sig .tc .vmem S8x1024x1 .f32) (harg9 : arg9.IsWhole) (arg10 : Memref sig .tc .vmem S1x1024x1024 .bf16) (harg10 : arg10.IsWhole) (arg11 : Memref sig .tc .vmem S1024x1024 .f32) (harg11 : arg11.IsWhole) (arg12 : Memref sig .tc .vmem S512x1024 .f32) (harg12 : arg12.IsWhole) (hc0 : ¬cond0_0 i) (hc1 : cond0_1 i)
    (x0 : Vec Ideal S1024x1024 .bf16) (x1 : Vec Ideal S1024x1024 .bf16) (x2 : Vec Ideal S1024x1024 .bf16) (x3 : Vec Ideal S1024x512 .bf16) (x4 : Vec Ideal S1024x512 .bf16) (x5 : Vec Ideal S512x1024 .bf16) (x6 : Vec Ideal S8x1024x1 .f32) (x7 : Vec Ideal S8x1024x1 .f32) (xo9 : Vec Ideal S1024x1024 .f32) (xo10 : Vec Ideal S512x1024 .f32) :
    out0_C_10 c i arg2 harg2 arg3 harg3 arg4 harg4 arg5 harg5 arg6 harg6 arg7 harg7 arg8 harg8 arg9 harg9 arg10 harg10 arg11 harg11 arg12 harg12 hc0 hc1 x0 x1 x2 x3 x4 x5 x6 x7 xo9 xo10 = fun y => xo10 y + gV x0 x2 x5 x6 y := by
  unfold out0_C_10
  rw [View.read_writes_eq_canon _ _ _ (cover0_C_10 c i arg2 harg2 arg3 harg3 arg4 harg4 arg5 harg5 arg6 harg6 arg7 harg7 arg8 harg8 arg9 harg9 arg10 harg10 arg11 harg11 arg12 harg12 hc0 hc1 x0 x1 x2 x3 x4 x5 x6 x7 xo9 xo10)]
  funext y
  refine View.canon_apply_of_pieces (fun y => xo10 y + gV x0 x2 x5 x6 y) _ ?_ y (cover0_C_10 c i arg2 harg2 arg3 harg3 arg4 harg4 arg5 harg5 arg6 harg6 arg7 harg7 arg8 harg8 arg9 harg9 arg10 harg10 arg11 harg11 arg12 harg12 hc0 hc1 x0 x1 x2 x3 x4 x5 x6 x7 xo9 xo10 y)
  refine View.PiecesOf.mem (Val := Elt Ideal) (s := S512x1024) (e := .f32) (G := fun y => xo10 y + gV x0 x2 x5 x6 y) ?_
  unfold kernelRun0_C
  dsimp only
  sl_unfold_words
  simp only [View.readAt_eq_ld, harg2.read_unread, harg3.read_unread, harg4.read_unread, harg5.read_unread, harg6.read_unread, harg7.read_unread, harg8.read_unread, harg9.read_unread, harg11.read_unread, harg12.read_unread]
  exact ⟨pieceV x0 x2 x5 x6 7 rfl rfl rfl _ _ _ xo10 _ (fun _ => rfl),
    pieceV x0 x2 x5 x6 6 rfl rfl rfl _ _ _ xo10 _ (fun _ => rfl),
    pieceV x0 x2 x5 x6 5 rfl rfl rfl _ _ _ xo10 _ (fun _ => rfl),
    pieceV x0 x2 x5 x6 4 rfl rfl rfl _ _ _ xo10 _ (fun _ => rfl),
    pieceV x0 x2 x5 x6 3 rfl rfl rfl _ _ _ xo10 _ (fun _ => rfl),
    pieceV x0 x2 x5 x6 2 rfl rfl rfl _ _ _ xo10 _ (fun _ => rfl),
    pieceV x0 x2 x5 x6 1 rfl rfl rfl _ _ _ xo10 _ (fun _ => rfl),
    pieceV x0 x2 x5 x6 0 rfl rfl rfl _ _ _ xo10 _ (fun _ => rfl), trivial⟩

theorem out_A_9 (c : Dev nD) (i : grid0.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x512 .bf16) (harg5 : arg5.IsWhole) (arg6 : Memref sig .tc .vmem S1024x512 .bf16) (harg6 : arg6.IsWhole) (arg7 : Memref sig .tc .vmem S512x1024 .bf16) (harg7 : arg7.IsWhole) (arg8 : Memref sig .tc .vmem S8x1024x1 .f32) (harg8 : arg8.IsWhole) (arg9 : Memref sig .tc .vmem S8x1024x1 .f32) (harg9 : arg9.IsWhole) (arg10 : Memref sig .tc .vmem S1x1024x1024 .bf16) (harg10 : arg10.IsWhole) (arg11 : Memref sig .tc .vmem S1024x1024 .f32) (harg11 : arg11.IsWhole) (arg12 : Memref sig .tc .vmem S512x1024 .f32) (harg12 : arg12.IsWhole) (hc0 : cond0_0 i) (hc1 : ¬cond0_1 i)
    (x0 : Vec Ideal S1024x1024 .bf16) (x1 : Vec Ideal S1024x1024 .bf16) (x2 : Vec Ideal S1024x1024 .bf16) (x3 : Vec Ideal S1024x512 .bf16) (x4 : Vec Ideal S1024x512 .bf16) (x5 : Vec Ideal S512x1024 .bf16) (x6 : Vec Ideal S8x1024x1 .f32) (x7 : Vec Ideal S8x1024x1 .f32) :
    out0_A_9 c i arg2 harg2 arg3 harg3 arg4 harg4 arg5 harg5 arg6 harg6 arg7 harg7 arg8 harg8 arg9 harg9 arg10 harg10 arg11 harg11 arg12 harg12 hc0 hc1 x0 x1 x2 x3 x4 x5 x6 x7 = fun y => Ideal.ofBits .f32 0x00000000#32 + gK x0 x1 x2 x3 x4 x6 x7 y := by
  unfold out0_A_9
  rw [View.read_writes_eq_canon _ _ _ (cover0_A_9 c i arg2 harg2 arg3 harg3 arg4 harg4 arg5 harg5 arg6 harg6 arg7 harg7 arg8 harg8 arg9 harg9 arg10 harg10 arg11 harg11 arg12 harg12 hc0 hc1 x0 x1 x2 x3 x4 x5 x6 x7)]
  unfold kernelRun0_A
  dsimp only
  sl_unfold_words
  simp only [View.readAt_eq_ld, harg2.read_unread, harg3.read_unread, harg4.read_unread, harg5.read_unread, harg6.read_unread, harg7.read_unread, harg8.read_unread, harg9.read_unread, harg11.read_unread, harg12.read_unread]
  simp (disch := decide) only [↓ View.readCov_skip, ↓ View.readCov_fill]
  funext y
  refine View.canon_append_of_piecesOf (Val := Elt Ideal) (s := S1024x1024) (e := .f32) (fun y => Ideal.ofBits .f32 0x00000000#32 + gK x0 x1 x2 x3 x4 x6 x7 y) [_] [_, _, _, _, _, _, _, _] ?_ y (cov_k ?_ y)
  · exact ⟨pieceK x0 x1 x2 x3 x4 x6 x7 7 rfl rfl rfl _ _ _ _ (fun _ => Ideal.ofBits .f32 0x00000000#32) _ (fun _ => rfl),
    pieceK x0 x1 x2 x3 x4 x6 x7 6 rfl rfl rfl _ _ _ _ (fun _ => Ideal.ofBits .f32 0x00000000#32) _ (fun _ => rfl),
    pieceK x0 x1 x2 x3 x4 x6 x7 5 rfl rfl rfl _ _ _ _ (fun _ => Ideal.ofBits .f32 0x00000000#32) _ (fun _ => rfl),
    pieceK x0 x1 x2 x3 x4 x6 x7 4 rfl rfl rfl _ _ _ _ (fun _ => Ideal.ofBits .f32 0x00000000#32) _ (fun _ => rfl),
    pieceK x0 x1 x2 x3 x4 x6 x7 3 rfl rfl rfl _ _ _ _ (fun _ => Ideal.ofBits .f32 0x00000000#32) _ (fun _ => rfl),
    pieceK x0 x1 x2 x3 x4 x6 x7 2 rfl rfl rfl _ _ _ _ (fun _ => Ideal.ofBits .f32 0x00000000#32) _ (fun _ => rfl),
    pieceK x0 x1 x2 x3 x4 x6 x7 1 rfl rfl rfl _ _ _ _ (fun _ => Ideal.ofBits .f32 0x00000000#32) _ (fun _ => rfl),
    pieceK x0 x1 x2 x3 x4 x6 x7 0 rfl rfl rfl _ _ _ _ (fun _ => Ideal.ofBits .f32 0x00000000#32) _ (fun _ => rfl), trivial⟩
  · exact (fun h => match h with | ⟨0, _⟩ => ⟨_, .tail _ (.tail _ (.tail _ (.tail _ (.tail _ (.tail _ (.tail _ (.head _))))))), rfl⟩ | ⟨1, _⟩ => ⟨_, .tail _ (.tail _ (.tail _ (.tail _ (.tail _ (.tail _ (.head _)))))), rfl⟩ | ⟨2, _⟩ => ⟨_, .tail _ (.tail _ (.tail _ (.tail _ (.tail _ (.head _))))), rfl⟩ | ⟨3, _⟩ => ⟨_, .tail _ (.tail _ (.tail _ (.tail _ (.head _)))), rfl⟩ | ⟨4, _⟩ => ⟨_, .tail _ (.tail _ (.tail _ (.head _))), rfl⟩ | ⟨5, _⟩ => ⟨_, .tail _ (.tail _ (.head _)), rfl⟩ | ⟨6, _⟩ => ⟨_, .tail _ (.head _), rfl⟩ | ⟨7, _⟩ => ⟨_, .head _, rfl⟩)

theorem out_A_10 (c : Dev nD) (i : grid0.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x512 .bf16) (harg5 : arg5.IsWhole) (arg6 : Memref sig .tc .vmem S1024x512 .bf16) (harg6 : arg6.IsWhole) (arg7 : Memref sig .tc .vmem S512x1024 .bf16) (harg7 : arg7.IsWhole) (arg8 : Memref sig .tc .vmem S8x1024x1 .f32) (harg8 : arg8.IsWhole) (arg9 : Memref sig .tc .vmem S8x1024x1 .f32) (harg9 : arg9.IsWhole) (arg10 : Memref sig .tc .vmem S1x1024x1024 .bf16) (harg10 : arg10.IsWhole) (arg11 : Memref sig .tc .vmem S1024x1024 .f32) (harg11 : arg11.IsWhole) (arg12 : Memref sig .tc .vmem S512x1024 .f32) (harg12 : arg12.IsWhole) (hc0 : cond0_0 i) (hc1 : ¬cond0_1 i)
    (x0 : Vec Ideal S1024x1024 .bf16) (x1 : Vec Ideal S1024x1024 .bf16) (x2 : Vec Ideal S1024x1024 .bf16) (x3 : Vec Ideal S1024x512 .bf16) (x4 : Vec Ideal S1024x512 .bf16) (x5 : Vec Ideal S512x1024 .bf16) (x6 : Vec Ideal S8x1024x1 .f32) (x7 : Vec Ideal S8x1024x1 .f32) :
    out0_A_10 c i arg2 harg2 arg3 harg3 arg4 harg4 arg5 harg5 arg6 harg6 arg7 harg7 arg8 harg8 arg9 harg9 arg10 harg10 arg11 harg11 arg12 harg12 hc0 hc1 x0 x1 x2 x3 x4 x5 x6 x7 = fun y => Ideal.ofBits .f32 0x00000000#32 + gV x0 x2 x5 x6 y := by
  unfold out0_A_10
  rw [View.read_writes_eq_canon _ _ _ (cover0_A_10 c i arg2 harg2 arg3 harg3 arg4 harg4 arg5 harg5 arg6 harg6 arg7 harg7 arg8 harg8 arg9 harg9 arg10 harg10 arg11 harg11 arg12 harg12 hc0 hc1 x0 x1 x2 x3 x4 x5 x6 x7)]
  unfold kernelRun0_A
  dsimp only
  sl_unfold_words
  simp only [View.readAt_eq_ld, harg2.read_unread, harg3.read_unread, harg4.read_unread, harg5.read_unread, harg6.read_unread, harg7.read_unread, harg8.read_unread, harg9.read_unread, harg11.read_unread, harg12.read_unread]
  simp (disch := decide) only [↓ View.readCov_skip, ↓ View.readCov_fill]
  funext y
  refine View.canon_append_of_piecesOf (Val := Elt Ideal) (s := S512x1024) (e := .f32) (fun y => Ideal.ofBits .f32 0x00000000#32 + gV x0 x2 x5 x6 y) [_] [_, _, _, _, _, _, _, _] ?_ y (cov_v ?_ y)
  · exact ⟨pieceV x0 x2 x5 x6 7 rfl rfl rfl _ _ _ (fun _ => Ideal.ofBits .f32 0x00000000#32) _ (fun _ => rfl),
    pieceV x0 x2 x5 x6 6 rfl rfl rfl _ _ _ (fun _ => Ideal.ofBits .f32 0x00000000#32) _ (fun _ => rfl),
    pieceV x0 x2 x5 x6 5 rfl rfl rfl _ _ _ (fun _ => Ideal.ofBits .f32 0x00000000#32) _ (fun _ => rfl),
    pieceV x0 x2 x5 x6 4 rfl rfl rfl _ _ _ (fun _ => Ideal.ofBits .f32 0x00000000#32) _ (fun _ => rfl),
    pieceV x0 x2 x5 x6 3 rfl rfl rfl _ _ _ (fun _ => Ideal.ofBits .f32 0x00000000#32) _ (fun _ => rfl),
    pieceV x0 x2 x5 x6 2 rfl rfl rfl _ _ _ (fun _ => Ideal.ofBits .f32 0x00000000#32) _ (fun _ => rfl),
    pieceV x0 x2 x5 x6 1 rfl rfl rfl _ _ _ (fun _ => Ideal.ofBits .f32 0x00000000#32) _ (fun _ => rfl),
    pieceV x0 x2 x5 x6 0 rfl rfl rfl _ _ _ (fun _ => Ideal.ofBits .f32 0x00000000#32) _ (fun _ => rfl), trivial⟩
  · exact (fun h => match h with | ⟨0, _⟩ => ⟨_, .tail _ (.tail _ (.tail _ (.tail _ (.tail _ (.tail _ (.tail _ (.head _))))))), rfl⟩ | ⟨1, _⟩ => ⟨_, .tail _ (.tail _ (.tail _ (.tail _ (.tail _ (.tail _ (.head _)))))), rfl⟩ | ⟨2, _⟩ => ⟨_, .tail _ (.tail _ (.tail _ (.tail _ (.tail _ (.head _))))), rfl⟩ | ⟨3, _⟩ => ⟨_, .tail _ (.tail _ (.tail _ (.tail _ (.head _)))), rfl⟩ | ⟨4, _⟩ => ⟨_, .tail _ (.tail _ (.tail _ (.head _))), rfl⟩ | ⟨5, _⟩ => ⟨_, .tail _ (.tail _ (.head _)), rfl⟩ | ⟨6, _⟩ => ⟨_, .tail _ (.head _), rfl⟩ | ⟨7, _⟩ => ⟨_, .head _, rfl⟩)

theorem out_C_9 (c : Dev nD) (i : grid0.Coords) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x512 .bf16) (harg5 : arg5.IsWhole) (arg6 : Memref sig .tc .vmem S1024x512 .bf16) (harg6 : arg6.IsWhole) (arg7 : Memref sig .tc .vmem S512x1024 .bf16) (harg7 : arg7.IsWhole) (arg8 : Memref sig .tc .vmem S8x1024x1 .f32) (harg8 : arg8.IsWhole) (arg9 : Memref sig .tc .vmem S8x1024x1 .f32) (harg9 : arg9.IsWhole) (arg10 : Memref sig .tc .vmem S1x1024x1024 .bf16) (harg10 : arg10.IsWhole) (arg11 : Memref sig .tc .vmem S1024x1024 .f32) (harg11 : arg11.IsWhole) (arg12 : Memref sig .tc .vmem S512x1024 .f32) (harg12 : arg12.IsWhole) (hc0 : ¬cond0_0 i) (hc1 : cond0_1 i)
    (x0 : Vec Ideal S1024x1024 .bf16) (x1 : Vec Ideal S1024x1024 .bf16) (x2 : Vec Ideal S1024x1024 .bf16) (x3 : Vec Ideal S1024x512 .bf16) (x4 : Vec Ideal S1024x512 .bf16) (x5 : Vec Ideal S512x1024 .bf16) (x6 : Vec Ideal S8x1024x1 .f32) (x7 : Vec Ideal S8x1024x1 .f32) (xo9 : Vec Ideal S1024x1024 .f32) (xo10 : Vec Ideal S512x1024 .f32) :
    out0_C_9 c i arg2 harg2 arg3 harg3 arg4 harg4 arg5 harg5 arg6 harg6 arg7 harg7 arg8 harg8 arg9 harg9 arg10 harg10 arg11 harg11 arg12 harg12 hc0 hc1 x0 x1 x2 x3 x4 x5 x6 x7 xo9 xo10 = fun y => (xo9 y + gK x0 x1 x2 x3 x4 x6 x7 y) * (Named.named (F := Ideal) (φ := .f32) κ "ln2" 0x3F317218#32) := by
  unfold out0_C_9
  rw [View.read_writes_eq_canon _ _ _ (cover0_C_9 c i arg2 harg2 arg3 harg3 arg4 harg4 arg5 harg5 arg6 harg6 arg7 harg7 arg8 harg8 arg9 harg9 arg10 harg10 arg11 harg11 arg12 harg12 hc0 hc1 x0 x1 x2 x3 x4 x5 x6 x7 xo9 xo10)]
  unfold kernelRun0_C
  dsimp only
  sl_unfold_words
  simp only [View.readAt_eq_ld, harg2.read_unread, harg3.read_unread, harg4.read_unread, harg5.read_unread, harg6.read_unread, harg7.read_unread, harg8.read_unread, harg9.read_unread, harg11.read_unread, harg12.read_unread]
  rw [View.canon_cons_unit_zero hz2]
  rw [View.readCov_eq_canon']
  funext y
  rw [pay1_apply]
  refine congrArg₂ (· * ·) ((View.canon_apply_of_pieces (Val := Elt Ideal) (S := S1024x1024) (e := .f32) (fun y => xo9 y + gK x0 x1 x2 x3 x4 x6 x7 y) _ ?_ _ (cov_k ?_ _)).trans ?_) rfl
  · exact View.PiecesOf.mem (Val := Elt Ideal) (s := S1024x1024) (e := .f32) (G := fun y => xo9 y + gK x0 x1 x2 x3 x4 x6 x7 y) ⟨pieceK x0 x1 x2 x3 x4 x6 x7 7 rfl rfl rfl _ _ _ _ xo9 _ (fun _ => rfl),
    pieceK x0 x1 x2 x3 x4 x6 x7 6 rfl rfl rfl _ _ _ _ xo9 _ (fun _ => rfl),
    pieceK x0 x1 x2 x3 x4 x6 x7 5 rfl rfl rfl _ _ _ _ xo9 _ (fun _ => rfl),
    pieceK x0 x1 x2 x3 x4 x6 x7 4 rfl rfl rfl _ _ _ _ xo9 _ (fun _ => rfl),
    pieceK x0 x1 x2 x3 x4 x6 x7 3 rfl rfl rfl _ _ _ _ xo9 _ (fun _ => rfl),
    pieceK x0 x1 x2 x3 x4 x6 x7 2 rfl rfl rfl _ _ _ _ xo9 _ (fun _ => rfl),
    pieceK x0 x1 x2 x3 x4 x6 x7 1 rfl rfl rfl _ _ _ _ xo9 _ (fun _ => rfl),
    pieceK x0 x1 x2 x3 x4 x6 x7 0 rfl rfl rfl _ _ _ _ xo9 _ (fun _ => rfl), trivial⟩
  · exact (fun h => match h with | ⟨0, _⟩ => ⟨_, .tail _ (.tail _ (.tail _ (.tail _ (.tail _ (.tail _ (.tail _ (.head _))))))), rfl⟩ | ⟨1, _⟩ => ⟨_, .tail _ (.tail _ (.tail _ (.tail _ (.tail _ (.tail _ (.head _)))))), rfl⟩ | ⟨2, _⟩ => ⟨_, .tail _ (.tail _ (.tail _ (.tail _ (.tail _ (.head _))))), rfl⟩ | ⟨3, _⟩ => ⟨_, .tail _ (.tail _ (.tail _ (.tail _ (.head _)))), rfl⟩ | ⟨4, _⟩ => ⟨_, .tail _ (.tail _ (.tail _ (.head _))), rfl⟩ | ⟨5, _⟩ => ⟨_, .tail _ (.tail _ (.head _)), rfl⟩ | ⟨6, _⟩ => ⟨_, .tail _ (.head _), rfl⟩ | ⟨7, _⟩ => ⟨_, .head _, rfl⟩)
  · exact congrArg (fun z => xo9 z + gK x0 x1 x2 x3 x4 x6 x7 z) (congrFun (View.ld_unit_zero (Val := fun _ => S1024x1024.Idx) (e := .f32) (S := S1024x1024) hz2 _ (fun z => z)) y)

end Cert.KernelIdeal.Body
end
-- ==== Proof.BwdAcc.lean ====
module
public import proofs.«01_k».proof.Proof.BwdBody
public import Idealize.ShloMosaic.Lib.Pointwise.Sums
@[expose] public section
noncomputable section
open Idealize.ShloMosaic Idealize.ShloMosaic.TcCoe Idealize.SL.Sem Idealize.ShloMosaic.Pipeline
namespace Cert.KernelIdeal.Acc
open Cert.KernelIdeal Cert.KernelIdeal.Gen Cert.KernelIdeal.Facts Cert.KernelIdeal.Body

/-! What the three result arrays hold after the run, in terms of the kernel's eight operands. -/

section Whole
variable (X0 : S16384x1024.Idx → EReal) (X1 : S1024x16384.Idx → EReal) (X2 X3 : S16384x1024.Idx → EReal) (X4 : S16384x512.Idx → EReal)
  (X5 : S512x16384.Idx → EReal) (X6 X7 : S8x16384x1.Idx → EReal)

/-- Column `d` of head `h` in the second half of the columns. -/
def c64r (h : Fin 8) (e : Fin 64) : Fin 1024 := ⟨512 + (c64 h e).val, by have := (c64 h e).isLt; omega⟩

/-- The probability of query `a` at key `b`, head `h`. -/
def wP (h : Fin 8) (a b : Fin 16384) : EReal :=
  Ideal.exp2 ((∑ d : Fin 128, X0 (ix2 a (c128 h d)) * X2 (ix2 b (c128 h d))) - X6 (ix3 h a 0))

/-- The gradient of the score of query `a` at key `b`, head `h`. -/
def wD (h : Fin 8) (a b : Fin 16384) : EReal :=
  wP X0 X2 X6 h a b * ((∑ e : Fin 64, X4 (ix2 a (c64 h e)) * X3 (ix2 b (c64r h e))) - X7 (ix3 h a 0))

/-- Row `b` of block `j` of 1024 rows (the block's number counted round the 16 blocks). -/
def row (j : ℕ) (b : Fin 1024) : Fin 16384 := ⟨(1024 * j + b.val) % 16384, Nat.mod_lt _ (by omega)⟩

theorem row_val {j : ℕ} (hj : j < 16) (b : Fin 1024) : (row j b).val = 1024 * j + b.val := Nat.mod_eq_of_lt (by omega)

/-- The queries' gradient, key block by key block. -/
def rQ (y : S16x16384x1024.Idx) : EReal :=
  ∑ b : Fin 1024, wD X0 X2 X3 X4 X6 X7 (h128 (y 2)) (y 1) (row (y 0).val b) * X2 (ix2 (row (y 0).val b) (y 2))

/-- The keys' gradient before its scale. -/
def rK (y : S1024x16384.Idx) : EReal :=
  ∑ a : Fin 16384, X1 (ix2 (y 0) a) * wD X0 X2 X3 X4 X6 X7 (h128 (y 0)) a (y 1)

/-- The values' gradient. -/
def rV (y : S512x16384.Idx) : EReal :=
  ∑ a : Fin 16384, X5 (ix2 (y 0) a) * wP X0 X2 X6 (h64 (y 0)) a (y 1)

/-- The sum over all rows is the sum over the 16 blocks of the sums over their rows. -/
theorem sum_rows (f : Fin 16384 → EReal) : ∑ i ∈ Finset.range 16, ∑ a : Fin 1024, f (row i a) = ∑ a, f a := by
  rw [Fin.sum_univ_tiles 16 1024 (by norm_num) f, Finset.sum_range]
  refine Finset.sum_congr rfl fun i _ => Finset.sum_congr rfl fun a _ => congrArg f (Fin.ext ?_)
  rw [row_val i.isLt]; show 1024 * i.val + a.val = i.val * 1024 + a.val; omega
end Whole

variable (m : (ℓ : Loc nD τ sig) → Buf (Elt Ideal) ℓ) (c : Dev nD)

abbrev Y0 : S16384x1024.Idx → EReal := V m c main_v28
abbrev Y1 : S1024x16384.Idx → EReal := V m c main_v39
abbrev Y2 : S16384x1024.Idx → EReal := V m c main_v31
abbrev Y3 : S16384x1024.Idx → EReal := V m c main_v36
abbrev Y4 : S16384x512.Idx → EReal := V m c main_v38
abbrev Y5 : S512x16384.Idx → EReal := V m c main_v40
abbrev Y6 : S8x16384x1.Idx → EReal := V m c main_v19
abbrev Y7 : S8x16384x1.Idx → EReal := V m c main_v23

/-! ## The blocks a point stages -/

theorem idx0 : ∀ t : Fin cfg0.N, win0_0.index t 0 = t.val % 16 ∧ win0_0.index t 1 = 0 := by decide +kernel
theorem idx1 : ∀ t : Fin cfg0.N, win0_1.index t 0 = 0 ∧ win0_1.index t 1 = t.val % 16 := by decide +kernel
theorem idx2 : ∀ t : Fin cfg0.N, win0_2.index t 0 = t.val / 16 ∧ win0_2.index t 1 = 0 := by decide +kernel
theorem idx3 : ∀ t : Fin cfg0.N, win0_3.index t 0 = t.val / 16 ∧ win0_3.index t 1 = 1 := by decide +kernel
theorem idx4 : ∀ t : Fin cfg0.N, win0_4.index t 0 = t.val % 16 ∧ win0_4.index t 1 = 0 := by decide +kernel
theorem idx5 : ∀ t : Fin cfg0.N, win0_5.index t 0 = 0 ∧ win0_5.index t 1 = t.val % 16 := by decide +kernel
theorem idx6 : ∀ t : Fin cfg0.N, win0_6.index t 0 = 0 ∧ win0_6.index t 1 = t.val % 16 ∧ win0_6.index t 2 = 0 := by decide +kernel
theorem idx7 : ∀ t : Fin cfg0.N, win0_7.index t 0 = 0 ∧ win0_7.index t 1 = t.val % 16 ∧ win0_7.index t 2 = 0 := by decide +kernel
theorem idx8 : ∀ t : Fin cfg0.N, win0_8.index t 0 = t.val / 16 ∧ win0_8.index t 1 = t.val % 16 ∧ win0_8.index t 2 = 0 := by decide +kernel
theorem idx9 : ∀ t : Fin cfg0.N, win0_9.index t 0 = 0 ∧ win0_9.index t 1 = t.val / 16 := by decide +kernel
theorem idx10 : ∀ t : Fin cfg0.N, win0_10.index t 0 = 0 ∧ win0_10.index t 1 = t.val / 16 := by decide +kernel

theorem lt_N (t : Fin cfg0.N) : t.val < 256 := lt_of_lt_of_eq t.isLt N_0

theorem blk0 (t : Fin cfg0.N) (x : Fin 1024) (y : Fin 1024) :
    (iblk m c 0 t : Vec Ideal S1024x1024 .bf16) (ix2 x y) = Y0 m c (ix2 (row (t.val % 16) x) y) := by
  unfold iblk
  rw [View.read_apply]
  show V m c main_v28 _ = V m c main_v28 _
  congr 1; funext z; apply Fin.ext
  match z with
  | ⟨0, _⟩ => show win0_0.index t 0 * 1024 + 1 * x.val = (row (t.val % 16) x).val; rw [(idx0 t).1, row_val (by have := lt_N t; omega)]; omega
  | ⟨1, _⟩ => show win0_0.index t 1 * 1024 + 1 * y.val = y.val; rw [(idx0 t).2]; omega

theorem blk1 (t : Fin cfg0.N) (x : Fin 1024) (y : Fin 1024) :
    (iblk m c 1 t : Vec Ideal S1024x1024 .bf16) (ix2 x y) = Y1 m c (ix2 x (row (t.val % 16) y)) := by
  unfold iblk
  rw [View.read_apply]
  show V m c main_v39 _ = V m c main_v39 _
  congr 1; funext z; apply Fin.ext
  match z with
  | ⟨0, _⟩ => show win0_1.index t 0 * 1024 + 1 * x.val = x.val; rw [(idx1 t).1]; omega
  | ⟨1, _⟩ => show win0_1.index t 1 * 1024 + 1 * y.val = (row (t.val % 16) y).val; rw [(idx1 t).2, row_val (by have := lt_N t; omega)]; omega

theorem blk2 (t : Fin cfg0.N) (x : Fin 1024) (y : Fin 1024) :
    (iblk m c 2 t : Vec Ideal S1024x1024 .bf16) (ix2 x y) = Y2 m c (ix2 (row (t.val / 16) x) y) := by
  unfold iblk
  rw [View.read_apply]
  show V m c main_v31 _ = V m c main_v31 _
  congr 1; funext z; apply Fin.ext
  match z with
  | ⟨0, _⟩ => show win0_2.index t 0 * 1024 + 1 * x.val = (row (t.val / 16) x).val; rw [(idx2 t).1, row_val (by have := lt_N t; omega)]; omega
  | ⟨1, _⟩ => show win0_2.index t 1 * 1024 + 1 * y.val = y.val; rw [(idx2 t).2]; omega

theorem blk4 (t : Fin cfg0.N) (x : Fin 1024) (y : Fin 512) :
    (iblk m c 4 t : Vec Ideal S1024x512 .bf16) (ix2 x y) = Y4 m c (ix2 (row (t.val % 16) x) y) := by
  unfold iblk
  rw [View.read_apply]
  show V m c main_v38 _ = V m c main_v38 _
  congr 1; funext z; apply Fin.ext
  match z with
  | ⟨0, _⟩ => show win0_4.index t 0 * 1024 + 1 * x.val = (row (t.val % 16) x).val; rw [(idx4 t).1, row_val (by have := lt_N t; omega)]; omega
  | ⟨1, _⟩ => show win0_4.index t 1 * 512 + 1 * y.val = y.val; rw [(idx4 t).2]; omega

theorem blk5 (t : Fin cfg0.N) (x : Fin 512) (y : Fin 1024) :
    (iblk m c 5 t : Vec Ideal S512x1024 .bf16) (ix2 x y) = Y5 m c (ix2 x (row (t.val % 16) y)) := by
  unfold iblk
  rw [View.read_apply]
  show V m c main_v40 _ = V m c main_v40 _
  congr 1; funext z; apply Fin.ext
  match z with
  | ⟨0, _⟩ => show win0_5.index t 0 * 512 + 1 * x.val = x.val; rw [(idx5 t).1]; omega
  | ⟨1, _⟩ => show win0_5.index t 1 * 1024 + 1 * y.val = (row (t.val % 16) y).val; rw [(idx5 t).2, row_val (by have := lt_N t; omega)]; omega

theorem blk3 (t : Fin cfg0.N) (x : Fin 1024) (h : Fin 8) (e : Fin 64) :
    (iblk m c 3 t : Vec Ideal S1024x512 .bf16) (ix2 x (c64 h e)) = Y3 m c (ix2 (row (t.val / 16) x) (c64r h e)) := by
  unfold iblk
  rw [View.read_apply]
  show V m c main_v36 _ = V m c main_v36 _
  congr 1; funext z; apply Fin.ext
  match z with
  | ⟨0, _⟩ => show win0_3.index t 0 * 1024 + 1 * x.val = (row (t.val / 16) x).val; rw [(idx3 t).1, row_val (by have := lt_N t; omega)]; omega
  | ⟨1, _⟩ => show win0_3.index t 1 * 512 + 1 * (c64 h e).val = 512 + (c64 h e).val; rw [(idx3 t).2]; omega

theorem blk6 (t : Fin cfg0.N) (h : Fin 8) (x : Fin 1024) :
    (iblk m c 6 t : Vec Ideal S8x1024x1 .f32) (ix3 h x 0) = Y6 m c (ix3 h (row (t.val % 16) x) 0) := by
  unfold iblk
  rw [View.read_apply]
  show V m c main_v19 _ = V m c main_v19 _
  congr 1; funext z; apply Fin.ext
  match z with
  | ⟨0, _⟩ => show win0_6.index t 0 * 8 + 1 * h.val = h.val; rw [(idx6 t).1]; omega
  | ⟨1, _⟩ => show win0_6.index t 1 * 1024 + 1 * x.val = (row (t.val % 16) x).val; rw [(idx6 t).2.1, row_val (by omega)]; omega
  | ⟨2, _⟩ => show win0_6.index t 2 * 1 + 1 * 0 = 0; rw [(idx6 t).2.2]

theorem blk7 (t : Fin cfg0.N) (h : Fin 8) (x : Fin 1024) :
    (iblk m c 7 t : Vec Ideal S8x1024x1 .f32) (ix3 h x 0) = Y7 m c (ix3 h (row (t.val % 16) x) 0) := by
  unfold iblk
  rw [View.read_apply]
  show V m c main_v23 _ = V m c main_v23 _
  congr 1; funext z; apply Fin.ext
  match z with
  | ⟨0, _⟩ => show win0_7.index t 0 * 8 + 1 * h.val = h.val; rw [(idx7 t).1]; omega
  | ⟨1, _⟩ => show win0_7.index t 1 * 1024 + 1 * x.val = (row (t.val % 16) x).val; rw [(idx7 t).2.1, row_val (by omega)]; omega
  | ⟨2, _⟩ => show win0_7.index t 2 * 1 + 1 * 0 = 0; rw [(idx7 t).2.2]

/-- A block's probabilities are the whole arrays'. -/
theorem gP_eq (t : Fin cfg0.N) (h : Fin 8) (a b : Fin 1024) :
    gP (iblk m c 0 t) (iblk m c 2 t) (iblk m c 6 t) h a b
      = wP (Y0 m c) (Y2 m c) (Y6 m c) h (row (t.val % 16) a) (row (t.val / 16) b) := by
  unfold gP wP
  refine congrArg Ideal.exp2 (congrArg₂ (· - ·) (Finset.sum_congr rfl fun d _ => ?_) (blk6 m c t h a))
  exact congrArg₂ (· * ·) (blk0 m c t a _) (blk2 m c t b _)

/-- A block's score gradients are the whole arrays'. -/
theorem gD_eq (t : Fin cfg0.N) (h : Fin 8) (a b : Fin 1024) :
    gD (iblk m c 0 t) (iblk m c 2 t) (iblk m c 3 t) (iblk m c 4 t) (iblk m c 6 t) (iblk m c 7 t) h a b
      = wD (Y0 m c) (Y2 m c) (Y3 m c) (Y4 m c) (Y6 m c) (Y7 m c) h (row (t.val % 16) a) (row (t.val / 16) b) := by
  unfold gD wD
  refine congrArg₂ (· * ·) (gP_eq m c t h a b) (congrArg₂ (· - ·) (Finset.sum_congr rfl fun e _ => ?_) (blk7 m c t h a))
  exact congrArg₂ (· * ·) (blk4 m c t a _) (blk3 m c t b h e)

/-! ## The accumulators -/

/-- What query block `i` adds to the keys' gradient. -/
def tK (i : ℕ) (r : Fin 1024) (b : Fin 16384) : EReal :=
  ∑ a : Fin 1024, Y1 m c (ix2 r (row i a)) * wD (Y0 m c) (Y2 m c) (Y3 m c) (Y4 m c) (Y6 m c) (Y7 m c) (h128 r) (row i a) b

/-- What query block `i` adds to the values' gradient. -/
def tV (i : ℕ) (r : Fin 512) (b : Fin 16384) : EReal :=
  ∑ a : Fin 1024, Y5 m c (ix2 r (row i a)) * wP (Y0 m c) (Y2 m c) (Y6 m c) (h64 r) (row i a) b

theorem gK_eq (t : Fin cfg0.N) (r b : Fin 1024) :
    gK (iblk m c 0 t) (iblk m c 1 t) (iblk m c 2 t) (iblk m c 3 t) (iblk m c 4 t) (iblk m c 6 t) (iblk m c 7 t) (ix2 r b)
      = tK m c (t.val % 16) r (row (t.val / 16) b) := by
  unfold gK tK
  exact Finset.sum_congr rfl fun a _ => congrArg₂ (· * ·) (blk1 m c t r a) (gD_eq m c t (h128 r) a b)

theorem gV_eq (t : Fin cfg0.N) (r : Fin 512) (b : Fin 1024) :
    gV (iblk m c 0 t) (iblk m c 2 t) (iblk m c 5 t) (iblk m c 6 t) (ix2 r b) = tV m c (t.val % 16) r (row (t.val / 16) b) := by
  unfold gV tV
  exact Finset.sum_congr rfl fun a _ => congrArg₂ (· * ·) (blk5 m c t r a) (gP_eq m c t (h64 r) a b)

/-- The factor the last query block puts on the keys' gradient. -/
abbrev ln2 : EReal := Named.named (F := Ideal) (φ := .f32) κ "ln2" 0x3F317218#32

/-- After each point the queries' block is its gradient. -/
theorem at8 (t : Fin cfg0.N) : (outsAt0 m c t.val t.isLt).1
    = gQ (iblk m c 0 t) (iblk m c 2 t) (iblk m c 3 t) (iblk m c 4 t) (iblk m c 6 t) (iblk m c 7 t) := by
  by_cases h0 : t.val % 16 = 0
  · have h1 : ¬ t.val % 16 = 15 := by omega
    rw [outsAt0_A m c t h0 h1]; dsimp only; rw [out_A_8]
  · by_cases h1 : t.val % 16 = 15
    · rw [outsAt0_C m c t h0 h1]; dsimp only; rw [out_C_8]
    · rw [outsAt0_B m c t h0 h1]; dsimp only; rw [out_B_8]

/-- After each point the values' accumulator holds the sum over the query blocks so far. -/
theorem at10 (n : ℕ) (hn : n < cfg0.N) (r : Fin 512) (b : Fin 1024) : (outsAt0 m c n hn).2.2 (ix2 r b)
    = ∑ i ∈ Finset.range (n % 16 + 1), tV m c i r (row (n / 16) b) := by
  induction n using Nat.strong_induction_on with
  | _ n ih =>
    by_cases h0 : n % 16 = 0
    · have h1 : ¬ n % 16 = 15 := by omega
      rw [outsAt0_A m c ⟨n, hn⟩ h0 h1]
      dsimp only
      rw [out_A_10]
      dsimp only
      rw [gV_eq, h0, Ideal.ofBits_zero_f32, zero_add]
      simp
    · have hp : n - 1 < n := by omega
      have e : (∑ i ∈ Finset.range (n % 16 + 1), tV m c i r (row (n / 16) b))
          = (∑ i ∈ Finset.range ((n - 1) % 16 + 1), tV m c i r (row ((n - 1) / 16) b)) + tV m c (n % 16) r (row (n / 16) b) := by
        rw [Finset.sum_range_succ, show (n - 1) % 16 + 1 = n % 16 by omega, show (n - 1) / 16 = n / 16 by omega]
      rw [e, ← ih (n - 1) hp (by omega)]
      by_cases h1 : n % 16 = 15
      · rw [outsAt0_C m c ⟨n, hn⟩ h0 h1]
        dsimp only
        rw [out_C_10]
        dsimp only
        rw [gV_eq]
      · rw [outsAt0_B m c ⟨n, hn⟩ h0 h1]
        dsimp only
        rw [out_B_10]
        dsimp only
        rw [gV_eq]

/-- After each point the keys' accumulator holds the sum over the query blocks so far, scaled after the last. -/
theorem at9 (n : ℕ) (hn : n < cfg0.N) (r b : Fin 1024) : (outsAt0 m c n hn).2.1 (ix2 r b)
    = if n % 16 = 15 then (∑ i ∈ Finset.range (n % 16 + 1), tK m c i r (row (n / 16) b)) * ln2
      else ∑ i ∈ Finset.range (n % 16 + 1), tK m c i r (row (n / 16) b) := by
  induction n using Nat.strong_induction_on with
  | _ n ih =>
    by_cases h0 : n % 16 = 0
    · have h1 : ¬ n % 16 = 15 := by omega
      rw [outsAt0_A m c ⟨n, hn⟩ h0 h1, if_neg h1]
      dsimp only
      rw [out_A_9]
      dsimp only
      rw [gK_eq, h0, Ideal.ofBits_zero_f32, zero_add]
      simp
    · have hp : n - 1 < n := by omega
      have e : (∑ i ∈ Finset.range (n % 16 + 1), tK m c i r (row (n / 16) b))
          = (outsAt0 m c (n - 1) (by omega)).2.1 (ix2 r b) + tK m c (n % 16) r (row (n / 16) b) := by
        rw [ih (n - 1) hp (by omega), if_neg (by omega), Finset.sum_range_succ, show (n - 1) % 16 + 1 = n % 16 by omega,
          show (n - 1) / 16 = n / 16 by omega]
      rw [e]
      by_cases h1 : n % 16 = 15
      · rw [outsAt0_C m c ⟨n, hn⟩ h0 h1, if_pos h1]
        dsimp only
        rw [out_C_9]
        dsimp only
        rw [gK_eq]
      · rw [outsAt0_B m c ⟨n, hn⟩ h0 h1, if_neg h1]
        dsimp only
        rw [out_B_9]
        dsimp only
        rw [gK_eq]

/-! ## The result arrays -/

theorem gQ_eq (t : Fin cfg0.N) (z : S1x1024x1024.Idx) (y : S16x16384x1024.Idx) (h0 : (y 0).val = t.val / 16)
    (h1 : y 1 = row (t.val % 16) (z 1)) (h2 : y 2 = z 2) :
    gQ (iblk m c 0 t) (iblk m c 2 t) (iblk m c 3 t) (iblk m c 4 t) (iblk m c 6 t) (iblk m c 7 t) z
      = rQ (Y0 m c) (Y2 m c) (Y3 m c) (Y4 m c) (Y6 m c) (Y7 m c) y := by
  unfold gQ rQ
  rw [h0, h1, h2]
  exact Finset.sum_congr rfl fun b _ => congrArg₂ (· * ·) (gD_eq m c t _ _ b) (blk2 m c t b _)

/-- The first result array. -/
theorem final8 : (dats m 0 c).arrAt 8 cfg0.N = (rQ (Y0 m c) (Y2 m c) (Y3 m c) (Y4 m c) (Y6 m c) (Y7 m c) : S16x16384x1024.Idx → EReal) := by
  refine (dats m 0 c).arrAt_eq_of_cover 8 (rQ (Y0 m c) (Y2 m c) (Y3 m c) (Y4 m c) (Y6 m c) (Y7 m c) : S16x16384x1024.Idx → EReal)
    (fun t hf => ?_) fun (y : S16x16384x1024.Idx) => ?_
  · rw [Value.flushed8, at8]
    funext z
    rw [View.read_apply]
    refine gQ_eq m c t z _ ?_ (Fin.ext ?_) (Fin.ext ?_)
    · show win0_8.index t 0 * 1 + 1 * (z 0).val = _
      have hz : (z 0).val < 1 := (z 0).isLt
      rw [(idx8 t).1]; omega
    · show win0_8.index t 1 * 1024 + 1 * (z 1).val = (row (t.val % 16) (z 1)).val
      refine Eq.trans ?_ (row_val (j := t.val % 16) (by omega) (z 1)).symm
      rw [(idx8 t).2.1]; omega
    · show win0_8.index t 2 * 1024 + 1 * (z 2).val = (z 2).val
      rw [(idx8 t).2.2]; omega
  · have h0 : (y 0 : Nat) < 16 := (y 0).isLt
    have h1 : (y 1 : Nat) < 16384 := (y 1).isLt
    have h2 : (y 2 : Nat) < 1024 := (y 2).isLt
    have hN : 16 * (y 0 : Nat) + (y 1 : Nat) / 1024 < cfg0.N := by rw [show cfg0.N = 256 from N_0]; omega
    refine ⟨⟨16 * (y 0 : Nat) + (y 1 : Nat) / 1024, hN⟩, flush0_8 _, ?_⟩
    show y ∈ ((View.whole main_v41_0).slice (win0_8.rect ⟨16 * (y 0 : Nat) + (y 1 : Nat) / 1024, hN⟩)).set
    rw [View.set_slice_whole, Rect.mem_set_unit]
    intro a
    have e := idx8 ⟨16 * (y 0 : Nat) + (y 1 : Nat) / 1024, hN⟩
    dsimp only at e
    match a with
    | ⟨0, _⟩ => show win0_8.index _ 0 * 1 ≤ (y 0 : Nat) ∧ (y 0 : Nat) < win0_8.index _ 0 * 1 + 1; rw [e.1]; omega
    | ⟨1, _⟩ => show win0_8.index _ 1 * 1024 ≤ (y 1 : Nat) ∧ (y 1 : Nat) < win0_8.index _ 1 * 1024 + 1024; rw [e.2.1]; omega
    | ⟨2, _⟩ => show win0_8.index _ 2 * 1024 ≤ (y 2 : Nat) ∧ (y 2 : Nat) < win0_8.index _ 2 * 1024 + 1024; rw [e.2.2]; omega

/-- The second result array: the keys' gradient, scaled. -/
def rK' (y : S1024x16384.Idx) : EReal := rK (Y0 m c) (Y1 m c) (Y2 m c) (Y3 m c) (Y4 m c) (Y6 m c) (Y7 m c) y * ln2

theorem last9 (t : Fin cfg0.N) (h : t.val % 16 = 15) (z : S1024x1024.Idx) (y : S1024x16384.Idx) (h0 : y 0 = z 0)
    (h1 : y 1 = row (t.val / 16) (z 1)) : (outsAt0 m c t.val t.isLt).2.1 z = rK' m c y := by
  refine (congrArg (outsAt0 m c t.val t.isLt).2.1 (eq_ix2 z)).trans ((at9 m c t.val t.isLt (z 0) (z 1)).trans ?_)
  rw [if_pos h, h]
  unfold rK' rK
  rw [h0, h1]
  exact congrArg (· * ln2) (sum_rows fun a => Y1 m c (ix2 (z 0) a) *
    wD (Y0 m c) (Y2 m c) (Y3 m c) (Y4 m c) (Y6 m c) (Y7 m c) (h128 (z 0)) a (row (t.val / 16) (z 1)))

theorem last10 (t : Fin cfg0.N) (h : t.val % 16 = 15) (z : S512x1024.Idx) (y : S512x16384.Idx) (h0 : y 0 = z 0)
    (h1 : y 1 = row (t.val / 16) (z 1)) :
    (outsAt0 m c t.val t.isLt).2.2 z = rV (Y0 m c) (Y2 m c) (Y5 m c) (Y6 m c) y := by
  refine (congrArg (outsAt0 m c t.val t.isLt).2.2 (eq_ix2 z)).trans ((at10 m c t.val t.isLt (z 0) (z 1)).trans ?_)
  rw [h]
  unfold rV
  rw [h0, h1]
  exact sum_rows fun a => Y5 m c (ix2 (z 0) a) * wP (Y0 m c) (Y2 m c) (Y6 m c) (h64 (z 0)) a (row (t.val / 16) (z 1))

theorem final9 : (dats m 0 c).arrAt 9 cfg0.N = (rK' m c : S1024x16384.Idx → EReal) := by
  refine (dats m 0 c).arrAt_eq_of_cover 9 (rK' m c : S1024x16384.Idx → EReal) (fun t hf => ?_) fun (y : S1024x16384.Idx) => ?_
  · rw [Value.flushed9]
    funext z
    rw [View.read_apply]
    refine last9 m c t ((flush0_9 t).mp hf) z _ (Fin.ext ?_) (Fin.ext ?_)
    · show win0_9.index t 0 * 1024 + 1 * (z 0).val = (z 0).val
      rw [(idx9 t).1]; omega
    · show win0_9.index t 1 * 1024 + 1 * (z 1).val = (row (t.val / 16) (z 1)).val
      refine Eq.trans ?_ (row_val (j := t.val / 16) (by have := lt_N t; omega) (z 1)).symm
      rw [(idx9 t).2]; omega
  · have h0 : (y 0 : Nat) < 1024 := (y 0).isLt
    have h1 : (y 1 : Nat) < 16384 := (y 1).isLt
    have hN : 16 * ((y 1 : Nat) / 1024) + 15 < cfg0.N := by rw [show cfg0.N = 256 from N_0]; omega
    refine ⟨⟨16 * ((y 1 : Nat) / 1024) + 15, hN⟩, (flush0_9 _).mpr (by dsimp only; omega), ?_⟩
    show y ∈ ((View.whole main_v41_1).slice (win0_9.rect ⟨16 * ((y 1 : Nat) / 1024) + 15, hN⟩)).set
    rw [View.set_slice_whole, Rect.mem_set_unit]
    intro a
    have e := idx9 ⟨16 * ((y 1 : Nat) / 1024) + 15, hN⟩
    dsimp only at e
    match a with
    | ⟨0, _⟩ => show win0_9.index _ 0 * 1024 ≤ (y 0 : Nat) ∧ (y 0 : Nat) < win0_9.index _ 0 * 1024 + 1024; rw [e.1]; omega
    | ⟨1, _⟩ => show win0_9.index _ 1 * 1024 ≤ (y 1 : Nat) ∧ (y 1 : Nat) < win0_9.index _ 1 * 1024 + 1024; rw [e.2]; omega

set_option maxRecDepth 20000 in
/-- The third result array: the values' gradient. -/
theorem final10 : (dats m 0 c).arrAt 10 cfg0.N = (rV (Y0 m c) (Y2 m c) (Y5 m c) (Y6 m c) : S512x16384.Idx → EReal) := by
  refine (dats m 0 c).arrAt_eq_of_cover 10 (rV (Y0 m c) (Y2 m c) (Y5 m c) (Y6 m c) : S512x16384.Idx → EReal)
    (fun t hf => ?_) fun (y : S512x16384.Idx) => ?_
  · rw [Value.flushed10]
    funext z
    rw [View.read_apply]
    refine last10 m c t ((flush0_10 t).mp hf) z _ (Fin.ext ?_) (Fin.ext ?_)
    · show win0_10.index t 0 * 512 + 1 * (z 0).val = (z 0).val
      rw [(idx10 t).1]; omega
    · show win0_10.index t 1 * 1024 + 1 * (z 1).val = (row (t.val / 16) (z 1)).val
      refine Eq.trans ?_ (row_val (j := t.val / 16) (by have := lt_N t; omega) (z 1)).symm
      rw [(idx10 t).2]; omega
  · have h0 : (y 0 : Nat) < 512 := (y 0).isLt
    have h1 : (y 1 : Nat) < 16384 := (y 1).isLt
    have hN : 16 * ((y 1 : Nat) / 1024) + 15 < cfg0.N := by rw [show cfg0.N = 256 from N_0]; omega
    refine ⟨⟨16 * ((y 1 : Nat) / 1024) + 15, hN⟩, (flush0_10 _).mpr (by dsimp only; omega), ?_⟩
    show y ∈ ((View.whole main_v41_2).slice (win0_10.rect ⟨16 * ((y 1 : Nat) / 1024) + 15, hN⟩)).set
    rw [View.set_slice_whole, Rect.mem_set_unit]
    intro a
    have e := idx10 ⟨16 * ((y 1 : Nat) / 1024) + 15, hN⟩
    dsimp only at e
    match a with
    | ⟨0, _⟩ => show win0_10.index _ 0 * 512 ≤ (y 0 : Nat) ∧ (y 0 : Nat) < win0_10.index _ 0 * 512 + 512; rw [e.1]; omega
    | ⟨1, _⟩ => show win0_10.index _ 1 * 1024 ≤ (y 1 : Nat) ∧ (y 1 : Nat) < win0_10.index _ 1 * 1024 + 1024; rw [e.2]; omega

end Cert.KernelIdeal.Acc
end
-- ==== Proof.AttnKer.lean ====
module
public import proofs.«01_k».proof.Proof.AttnHost
public import proofs.«01_k».proof.Proof.BwdAcc
@[expose] public section
noncomputable section
open Idealize.ShloMosaic Idealize.ShloMosaic.TcCoe Idealize.SL.Sem Idealize.ShloMosaic.Pipeline Idealize.ShloMosaic.StableHlo
namespace Cert.KernelIdeal.Acc
open Cert.KernelIdeal Cert.KernelIdeal.Gen Cert.KernelIdeal.Facts Cert.KernelIdeal.Body Cert.KernelIdeal.Host0

/-! The kernel's three result arrays at finite arguments, equal to the reference's. -/

theorem ln2_eq : ln2 = ((Real.log 2 : ℝ) : EReal) := IdealRules.named_const.ideal_named_scalar _ _ _ _ rfl

theorem exists_c128 (r : Fin 1024) : ∃ h d, r = c128 h d :=
  ⟨⟨r.val / 128, by omega⟩, ⟨r.val % 128, by omega⟩, Fin.ext (by show r.val = 128 * (r.val / 128) + r.val % 128; omega)⟩
theorem exists_c64 (r : Fin 512) : ∃ h d, r = c64 h d :=
  ⟨⟨r.val / 64, by omega⟩, ⟨r.val % 64, by omega⟩, Fin.ext (by show r.val = 64 * (r.val / 64) + r.val % 64; omega)⟩

theorem dite_coe {n : Prop} [Decidable n] (f : n → ℝ) (x : n → EReal) (h : ∀ y, x y = (f y : EReal)) :
    (if y : n then x y else 0) = ((if y : n then f y else 0 : ℝ) : EReal) := by
  split
  · exact h _
  · rfl

section
variable (m : (ℓ : Loc nD τ sig) → Buf (Elt Ideal) ℓ) (c : Dev nD)
  {qr kr : Fin 16384 → Fin 8 → Fin 96 → ℝ} {vr cr : Fin 16384 → Fin 8 → Fin 64 → ℝ}
  (hq : ∀ a h d, aq m c (ix3 a h d) = (qr a h d : EReal)) (hk : ∀ a h d, ak m c (ix3 a h d) = (kr a h d : EReal))
  (hv : ∀ a h d, av m c (ix3 a h d) = (vr a h d : EReal)) (hc : ∀ a h d, ac m c (ix3 a h d) = (cr a h d : EReal))

theorem qd_apply (q : FVec Ideal S16384x8x96 .f32) (a : Fin 16384) (h : Fin 8) (d : Fin 96) :
    (Host.divf q (broadcastInDim S16384x8x96 ![] bcast_S_S16384x8x96 (Host.log (constant S_ .f32 0x40000000#32))) : FVec Ideal S16384x8x96 .f32)
      (ix3 a h d) = Ideal.div (q (ix3 a h d)) (Ideal.log (Ideal.ofBits .f32 0x40000000#32)) := by
  pointwise []

include hq in
theorem Y0_r (a : Fin 16384) (h : Fin 8) (d : Fin 128) : Y0 m c (ix2 a (c128 h d))
    = ((if hd : (d : Nat) < 96 then qr a h ⟨d, hd⟩ / Real.sqrt 96 / Real.log 2 else 0 : ℝ) : EReal) := by
  refine ((congrFun (V_v28 m c) _).trans (wide_apply _ a h d)).trans (dite_coe _ _ fun hd => ?_)
  rw [qd_apply, qn_r hq, Attn.log2, Attn.ediv _ Attn.l2]

include hq in
theorem Y1_r (a : Fin 16384) (h : Fin 8) (d : Fin 128) : Y1 m c (ix2 (c128 h d) a)
    = ((if hd : (d : Nat) < 96 then qr a h ⟨d, hd⟩ / Real.sqrt 96 / Real.log 2 else 0 : ℝ) : EReal) := by
  refine ((congrFun (V_v39 m c) _).trans ?_).trans (Y0_r m c hq a h d)
  exact transpose_apply [1, 0] _ transposes_S16384x1024_S1024x16384_1_0 _ (ix2 a (c128 h d)) (fun b => match b with | ⟨0, _⟩ => rfl | ⟨1, _⟩ => rfl)

include hk in
theorem Y2_r (b : Fin 16384) (h : Fin 8) (d : Fin 128) : Y2 m c (ix2 b (c128 h d))
    = ((if hd : (d : Nat) < 96 then kr b h ⟨d, hd⟩ else 0 : ℝ) : EReal) :=
  ((congrFun (V_v31 m c) _).trans (wide_apply _ b h d)).trans (dite_coe _ _ fun hd => hk _ _ _)

include hv in
theorem Y3_r (b : Fin 16384) (h : Fin 8) (x : Fin 64) : Y3 m c (ix2 b (c64r h x)) = (vr b h x : EReal) :=
  ((congrFun (V_v36 m c) _).trans (kvOf_apply _ _ b (c64 h x))).trans ((flat_apply _ b h x).trans (hv _ _ _))

include hc in
theorem Y4_r (a : Fin 16384) (h : Fin 8) (x : Fin 64) : Y4 m c (ix2 a (c64 h x)) = (cr a h x : EReal) :=
  (congrFun (V_v38 m c) _).trans ((flat_apply _ a h x).trans (hc _ _ _))

include hc in
theorem Y5_r (a : Fin 16384) (h : Fin 8) (x : Fin 64) : Y5 m c (ix2 (c64 h x) a) = (cr a h x : EReal) := by
  refine ((congrFun (V_v40 m c) _).trans ?_).trans (Y4_r m c hc a h x)
  exact transpose_apply [1, 0] _ transposes_S16384x512_S512x16384_1_0 _ (ix2 a (c64 h x)) (fun b => match b with | ⟨0, _⟩ => rfl | ⟨1, _⟩ => rfl)

include hq hk in
theorem Y6_r (h : Fin 8) (a : Fin 16384) : Y6 m c (ix3 h a 0)
    = (((Attn.M qr kr h a + Real.log (Attn.l qr kr h a)) / Real.log 2 : ℝ) : EReal) :=
  (congrFun (V_v19 m c) _).trans (ls_r hq hk h a)

include hq hk hv hc in
theorem Y7_r (h : Fin 8) (a : Fin 16384) : Y7 m c (ix3 h a 0) = (Attn.dl qr kr vr cr h a : EReal) :=
  (congrFun (V_v23 m c) _).trans (de_r hq hk hv hc h a)

include hq hk in
theorem wP_r (h : Fin 8) (a b : Fin 16384) : wP (Y0 m c) (Y2 m c) (Y6 m c) h a b = (Attn.p qr kr h a b : EReal) := by
  rw [wP]
  simp only [Y0_r m c hq, Y2_r m c hk, Y6_r m c hq hk, ← EReal.coe_mul]
  rw [Attn.esum, Attn.sum128 (fun d => qr a h d / Real.sqrt 96 / Real.log 2) (fun d => kr b h d), ← EReal.coe_sub, Ideal.exp2_coe, Attn.p_ker]

include hq hk hv hc in
theorem wD_r (h : Fin 8) (a b : Fin 16384) :
    wD (Y0 m c) (Y2 m c) (Y3 m c) (Y4 m c) (Y6 m c) (Y7 m c) h a b = (Attn.ds qr kr vr cr h a b : EReal) := by
  rw [wD, wP_r m c hq hk]
  simp only [Y3_r m c hv, Y4_r m c hc, Y7_r m c hq hk hv hc, ← EReal.coe_mul]
  rw [Attn.esum, ← EReal.coe_sub, ← EReal.coe_mul]
  rfl

include hq hk hv hc in
theorem rQ_r (j : Fin 16) (a : Fin 16384) (h : Fin 8) (d : Fin 128) :
    rQ (Y0 m c) (Y2 m c) (Y3 m c) (Y4 m c) (Y6 m c) (Y7 m c) (ix3 j a (c128 h d)) = ((if hd : (d : Nat) < 96 then
      ∑ b : Fin 1024, Attn.ds qr kr vr cr h a (row j.val b) * kr (row j.val b) h ⟨d, hd⟩ else 0 : ℝ) : EReal) := by
  show ∑ b : Fin 1024, wD (Y0 m c) (Y2 m c) (Y3 m c) (Y4 m c) (Y6 m c) (Y7 m c) (h128 (c128 h d)) a (row j.val b)
    * Y2 m c (ix2 (row j.val b) (c128 h d)) = _
  rw [h128_c128]
  simp only [wD_r m c hq hk hv hc, Y2_r m c hk, ← EReal.coe_mul]
  rw [Attn.esum]
  split
  · rfl
  · simp

include hq hk hv hc in
theorem rK_r (h : Fin 8) (d : Fin 128) (b : Fin 16384) :
    rK' m c (ix2 (c128 h d) b) = ((if hd : (d : Nat) < 96 then
      ∑ a, Attn.ds qr kr vr cr h a b * (qr a h ⟨d, hd⟩ / Real.sqrt 96) else 0 : ℝ) : EReal) := by
  show (∑ a : Fin 16384, Y1 m c (ix2 (c128 h d) a) * wD (Y0 m c) (Y2 m c) (Y3 m c) (Y4 m c) (Y6 m c) (Y7 m c) (h128 (c128 h d)) a b) * ln2 = _
  rw [h128_c128, ln2_eq]
  simp only [wD_r m c hq hk hv hc, Y1_r m c hq, ← EReal.coe_mul]
  rw [Attn.esum, ← EReal.coe_mul]
  split
  · rw [Attn.dk_ker]
  · simp

include hq hk hc in
theorem rV_r (h : Fin 8) (x : Fin 64) (b : Fin 16384) :
    rV (Y0 m c) (Y2 m c) (Y5 m c) (Y6 m c) (ix2 (c64 h x) b) = ((∑ a, cr a h x * Attn.p qr kr h a b : ℝ) : EReal) := by
  show ∑ a : Fin 16384, Y5 m c (ix2 (c64 h x) a) * wP (Y0 m c) (Y2 m c) (Y6 m c) (h64 (c64 h x)) a b = _
  rw [h64_c64]
  simp only [wP_r m c hq hk, Y5_r m c hc, ← EReal.coe_mul]
  exact Attn.esum _

/-! Against the reference's results, at equal arguments. -/

open Cert.ReferenceIdeal.Val in
include hq hk hv hc in
theorem eq0 : (rQ (Y0 m c) (Y2 m c) (Y3 m c) (Y4 m c) (Y6 m c) (Y7 m c) : S16x16384x1024.Idx → EReal)
    = out0 (dq (dsb (D (aq m c) (ak m c) (av m c) (ac m c))) (kb (ak m c))) := by
  funext y
  obtain ⟨h, d, e⟩ := exists_c128 (y 2)
  rw [show y = ix3 (y 0) (y 1) (c128 h d) from (eq_ix3 y).trans (congrArg (ix3 (y 0) (y 1)) e)]
  refine (rQ_r m c hq hk hv hc (y 0) (y 1) h d).trans ((out0_r hq hk hv hc (y 0) (y 1) h d).trans ?_).symm
  have er : ∀ b : Fin 1024, at16 (y 0) b = row (y 0).val b := fun b => Fin.ext (row_val (y 0).isLt b).symm
  simp only [er]

open Cert.ReferenceIdeal.Val in
include hq hk hv hc in
theorem eq1 : (rK' m c : S1024x16384.Idx → EReal) = out1 (dk (dsb (D (aq m c) (ak m c) (av m c) (ac m c))) (qs (Cert.ReferenceIdeal.Val.qn (aq m c)))) := by
  funext y
  obtain ⟨h, d, e⟩ := exists_c128 (y 0)
  rw [show y = ix2 (c128 h d) (y 1) from (eq_ix2 y).trans (congrArg (fun r => ix2 r (y 1)) e)]
  exact (rK_r m c hq hk hv hc h d (y 1)).trans (out1_r hq hk hv hc h d (y 1)).symm

open Cert.ReferenceIdeal.Val in
include hq hk hc in
theorem eq2 : (rV (Y0 m c) (Y2 m c) (Y5 m c) (Y6 m c) : S512x16384.Idx → EReal)
    = out2 (ac m c) (pr (E (aq m c) (ak m c)) (L (aq m c) (ak m c))) := by
  funext y
  obtain ⟨h, d, e⟩ := exists_c64 (y 0)
  rw [show y = ix2 (c64 h d) (y 1) from (eq_ix2 y).trans (congrArg (fun r => ix2 r (y 1)) e)]
  exact (rV_r m c hq hk hc h d (y 1)).trans (out2_r hq hk hc h d (y 1)).symm
end

end Cert.KernelIdeal.Acc
end
-- ==== Proof.MlaClaim.lean ====
module
public import proofs.«01_k».proof.Defs
public import proofs.«01_k».proof.Proof.AttnKer
public import proofs.«01_k».proof.Proof.Gen.Kernel.Frame
public import proofs.«01_k».proof.Proof.Gen.KernelIdeal.Frame
public import proofs.«01_k».proof.Proof.Gen.Pre_finite
public import Idealize.ShloMosaic.Lib.ReduceAll
@[expose] public section
noncomputable section
open Idealize.ShloMosaic Idealize.ShloMosaic.TcCoe Idealize.SL.Sem

/-! The precondition read back: every element of the four arguments is a real number. -/

namespace Cert.Pre_finite
open Cert.Pre_finite.Facts

instance : Subsingleton S_.Idx := ⟨fun _ _ => funext fun a => a.elim0⟩

/-- The predicate on one array. -/
theorem real_of_all {s : Shape} (x : FVec Ideal s .f32) {axes : List (Fin s.rank)} (hb : S_.BroadcastsInDim s (![] : Fin 0 → Fin s.rank))
    (hr : s.ReducesTo axes S_) (h0 : 0 < S_.numel) (i0 : S_.Idx)
    (e : Host.reduce IntOp.andi (cmpf .olt (Host.absf x) (broadcastInDim s ![] hb (constant S_ .f32 0x7F800000#32)))
      (constantI S_ 1 1#1) hr h0 i0 = 1#1) (i : s.Idx) : ∃ r : ℝ, x i = (r : EReal) := by
  have h := Host.reduce_andi_all _ _ hr h0 i0 e i
  have h' : Ideal.cmp .olt (max (x i) (-(x i))) (broadcastInDim s ![] hb (constant (F := Ideal) S_ .f32 0x7F800000#32) i) = 1#1 := h
  rw [broadcastInDim_apply _ hb _ i (fun a => a.elim0) (fun a => a.elim0)] at h'
  have h2 : Ideal.cmp .olt (max (x i) (-(x i))) ⊤ = 1#1 := by rw [← Attn.litTop]; exact h'
  have hlt : max (x i) (-(x i)) < ⊤ := by
    by_contra hn
    rw [Ideal.cmp] at h2
    simp only [hn, decide_false] at h2
    exact absurd h2 (by decide)
  have ht : x i ≠ ⊤ := fun hx => by rw [hx] at hlt; simp at hlt
  have hbt : x i ≠ ⊥ := fun hx => by rw [hx] at hlt; simp at hlt
  exact ⟨(x i).toReal, (EReal.coe_toReal ht hbt).symm⟩

theorem real_of_fn [Facts] (q k : FVec Ideal S16384x8x96 .f32) (v ct : FVec Ideal S16384x8x64 .f32)
    (h : fn (F := Ideal) q k v ct = fun _ => 1#1) :
    (∀ i, ∃ r : ℝ, q i = (r : EReal)) ∧ (∀ i, ∃ r : ℝ, k i = (r : EReal)) ∧ (∀ i, ∃ r : ℝ, v i = (r : EReal))
      ∧ (∀ i, ∃ r : ℝ, ct i = (r : EReal)) := by
  have i0 : S_.Idx := fun a => a.elim0
  have h1 := congrFun h i0
  obtain ⟨h2, hc⟩ := IntOp.andi_eq_one.1 h1
  obtain ⟨h3, hv⟩ := IntOp.andi_eq_one.1 h2
  obtain ⟨hq, hk⟩ := IntOp.andi_eq_one.1 h3
  exact ⟨real_of_all q _ _ _ i0 hq, real_of_all k _ _ _ i0 hk, real_of_all v _ _ _ i0 hv, real_of_all ct _ _ _ i0 hc⟩

end Cert.Pre_finite

namespace Cert.MlaClaims
open Cert.KernelIdeal Cert.KernelIdeal.Gen Cert.KernelIdeal.Host0 Cert.KernelIdeal.Acc

theorem frame_p : Cert.quiescent_Kernel := fun m ρ _ => Cert.Kernel.Gen.frame m ρ
theorem frame_pi : Cert.quiescent_KernelIdeal := fun m ρ _ => Cert.KernelIdeal.Gen.frame m ρ
theorem frame_pi_pre : Cert.quiescent_KernelIdeal_pre_finite := fun m ρ _ => Cert.KernelIdeal.Gen.frame m ρ
theorem frame_ri : Cert.quiescent_ReferenceIdeal := fun m ρ _ =>
  (θ_run Cert.ReferenceIdeal.defs _ _).mono (fun r h => ⟨fun c => (h c).2.2.2, sem_eq_zero_of_no_sems (by decide) r.2⟩)
    (Cert.ReferenceIdeal.Value.run (F := Ideal) m ρ)
theorem frame_ri_pre : Cert.quiescent_ReferenceIdeal_pre_finite := fun m ρ _ => frame_ri m ρ trivial

theorem preserves : Cert.preserves_Kernel_KernelIdeal :=
  IdealRules.named_const.statement Cert.KernelIdeal.κ "ln2" .f32 0x3F317218#32 ((Real.log 2 : ℝ) : EReal) rfl

/-- The kernel's three result arrays are the reference's. -/
theorem algebraic : Cert.algebraic_KernelIdeal_ReferenceIdeal_pre_finite := by
  intro m ρ m' ρ' hpre hagree
  refine ⟨_, _, _, Cert.KernelIdeal.Value.run_blocks (F := Ideal) m ρ, ?_⟩
  refine (θ_run Cert.ReferenceIdeal.defs _ _).mono (fun _ h c => ?_) (Cert.ReferenceIdeal.Val.run' m' ρ')
  obtain ⟨r0, r1, r2, rest⟩ := h c
  obtain ⟨a0, a1, a2, a3⟩ := hagree c
  obtain ⟨fq, fk, fv, fc⟩ := Cert.Pre_finite.real_of_fn _ _ _ _ (hpre c)
  have hq : ∀ a h d, aq m c (ix3 a h d) = (((aq m c (ix3 a h d)).toReal : ℝ) : EReal) := fun a h d => by
    obtain ⟨r, e⟩ := fq (ix3 a h d); exact e.trans (congrArg _ ((congrArg EReal.toReal e).trans (EReal.toReal_coe r)).symm)
  have hk : ∀ a h d, ak m c (ix3 a h d) = (((ak m c (ix3 a h d)).toReal : ℝ) : EReal) := fun a h d => by
    obtain ⟨r, e⟩ := fk (ix3 a h d); exact e.trans (congrArg _ ((congrArg EReal.toReal e).trans (EReal.toReal_coe r)).symm)
  have hv : ∀ a h d, av m c (ix3 a h d) = (((av m c (ix3 a h d)).toReal : ℝ) : EReal) := fun a h d => by
    obtain ⟨r, e⟩ := fv (ix3 a h d); exact e.trans (congrArg _ ((congrArg EReal.toReal e).trans (EReal.toReal_coe r)).symm)
  have hc : ∀ a h d, ac m c (ix3 a h d) = (((ac m c (ix3 a h d)).toReal : ℝ) : EReal) := fun a h d => by
    obtain ⟨r, e⟩ := fc (ix3 a h d); exact e.trans (congrArg _ ((congrArg EReal.toReal e).trans (EReal.toReal_coe r)).symm)
  rw [a0, a1, a2, a3] at r0
  rw [a0, a1, a2, a3] at r1
  rw [a0, a1, a3] at r2
  exact ⟨r0.trans ((final8 m c).trans (eq0 m c hq hk hv hc)).symm, r1.trans ((final9 m c).trans (eq1 m c hq hk hv hc)).symm,
    r2.trans ((final10 m c).trans (eq2 m c hq hk hc)).symm, rest⟩

end Cert.MlaClaims
end
-- ==== Proof.FwdOps.lean ====
module
public import proofs.«01_k».proof.Proof.BwdOps
public import proofs.«01_k».proof.Proof.Gen.FwdIdeal.Value
@[expose] public section
noncomputable section
open Idealize.ShloMosaic Idealize.ShloMosaic.TcCoe Idealize.SL.Sem
namespace Cert.FwdIdeal.Body
open Cert.FwdIdeal Cert.FwdIdeal.Gen Cert.FwdIdeal.Facts
open Cert.KernelIdeal.Body (c128 c64 h64 h64_c64)

/-! What one head of the forward body computes on its blocks: every head does the same with its own columns. -/

/-- One head's scores, keys by queries. -/
def opS (k : FVec Ideal S4096x128 .bf16) (q : FVec Ideal S512x128 .bf16) : FVec Ideal S4096x512 .f32 :=
  matmul dot_S4096x128_S512x128_S4096x512_1_1_0_0_n_n none (shapeCast S4096x128 k shapeCasts_S4096x128_S4096x128)
    (shapeCast S512x128 q shapeCasts_S512x128_S512x128) (constant S4096x512 .f32 0x00000000#32)

/-- The larger of the reference point so far and the block's largest score. -/
def opN (s : FVec Ideal S4096x512 .f32) (m : FVec Ideal S1x1x512 .f32) : FVec Ideal S1x512 .f32 :=
  maximumf (shapeCast S1x512 m shapeCasts_S1x1x512_S1x512)
    (shapeCast S1x512 (multiReduction .maximumf [0] S512 s 0xFF800000#32 reduces_S4096x512_S512 (.inl rfl) rfl) shapeCasts_S512_S1x512)

/-- The same, as stored. -/
def opM (s : FVec Ideal S4096x512 .f32) (m : FVec Ideal S1x1x512 .f32) : FVec Ideal S1x1x512 .f32 :=
  shapeCast S1x1x512 (opN s m) shapeCasts_S1x512_S1x1x512

/-- The weighted sums: those so far brought to the new reference point, and the block's added. -/
def opA (s : FVec Ideal S4096x512 .f32) (m : FVec Ideal S1x1x512 .f32) (A : FVec Ideal S1x128x512 .f32) (v : FVec Ideal S128x4096 .bf16) :
    FVec Ideal S1x128x512 .f32 :=
  shapeCast S1x128x512 (addf (mulf (broadcastTo S128x512 (exp2 (subf (shapeCast S1x512 m shapeCasts_S1x1x512_S1x512) (opN s m))) broadcasts_S1x512_S128x512)
      (shapeCast S128x512 A shapeCasts_S1x128x512_S128x512))
    (matmul dot_S128x4096_S4096x512_S128x512_1_0_0_1_n_n none (shapeCast S128x4096 v shapeCasts_S128x4096_S128x4096)
      (truncf .bf16 (exp2 (subf s (broadcastTo S4096x512 (opN s m) broadcasts_S1x512_S4096x512))) bitsLt_bf16_f32)
      (constant S128x512 .f32 0x00000000#32))) shapeCasts_S128x512_S1x128x512

/-- The head's output: the weighted sums over the sum of the weights. -/
def opO (A : FVec Ideal S1x128x512 .f32) : FVec Ideal S512x64 .f32 :=
  transpose S512x64 [1, 0] (divf (extractStridedSlice S64x512 ![0, 0] (shapeCast S128x512 A shapeCasts_S1x128x512_S128x512) slices_S128x512_o0_0_S64x512)
    (broadcastTo S64x512 (extractStridedSlice S1x512 ![64, 0] (shapeCast S128x512 A shapeCasts_S1x128x512_S128x512) slices_S128x512_o64_0_S1x512)
      broadcasts_S1x512_S64x512)) transposes_S64x512_p1_0_S512x64

/-- The factor one over the logarithm of two. -/
abbrev log2e : EReal := Named.named (F := Ideal) (φ := .f32) κ "log2e" 0x3FB8AA3B#32

/-- The head's row statistic: the reference point and the binary logarithm of the sum of the weights. -/
def opL (A : FVec Ideal S1x128x512 .f32) (m : FVec Ideal S1x1x512 .f32) : FVec Ideal S1x1x512 .f32 :=
  shapeCast S1x1x512 (addf (shapeCast S1x512 m shapeCasts_S1x1x512_S1x512)
    (mulf (log (extractStridedSlice S1x512 ![64, 0] (shapeCast S128x512 A shapeCasts_S1x128x512_S128x512) slices_S128x512_o64_0_S1x512))
      (broadcast S1x512 log2e))) shapeCasts_S1x512_S1x1x512

theorem opS_apply (k : FVec Ideal S4096x128 .bf16) (q : FVec Ideal S512x128 .bf16) (a : Fin 4096) (b : Fin 512) :
    opS k q (ix2 a b) = ∑ d : Fin 128, k (ix2 a d) * q (ix2 b d) := by
  pointwise [opS]

theorem opN_apply (s : FVec Ideal S4096x512 .f32) (m : FVec Ideal S1x1x512 .f32) (b : Fin 512) :
    opN s m (ix2 0 b) = max (m (ix3 0 0 b)) (Finset.fold max (Ideal.ofBits .f32 0xFF800000#32) (fun a => s (ix2 a b)) Finset.univ) := by
  pointwise [opN]

theorem opM_apply (s : FVec Ideal S4096x512 .f32) (m : FVec Ideal S1x1x512 .f32) (b : Fin 512) :
    opM s m (ix3 0 0 b) = opN s m (ix2 0 b) := by
  pointwise [opM]

theorem opA_apply (s : FVec Ideal S4096x512 .f32) (m : FVec Ideal S1x1x512 .f32) (A : FVec Ideal S1x128x512 .f32) (v : FVec Ideal S128x4096 .bf16)
    (r : Fin 128) (b : Fin 512) :
    opA s m A v (ix3 0 r b) = Ideal.exp2 (m (ix3 0 0 b) - opN s m (ix2 0 b)) * A (ix3 0 r b)
      + ∑ a : Fin 4096, v (ix2 r a) * Ideal.exp2 (s (ix2 a b) - opN s m (ix2 0 b)) := by
  pointwise [opA]; rfl

theorem opO_apply (A : FVec Ideal S1x128x512 .f32) (b : Fin 512) (r : Fin 64) :
    opO A (ix2 b r) = Ideal.div (A (ix3 0 (Fin.castLE (by norm_num) r) b)) (A (ix3 0 64 b)) := by
  pointwise [opO]; rfl

theorem opL_apply (A : FVec Ideal S1x128x512 .f32) (m : FVec Ideal S1x1x512 .f32) (b : Fin 512) :
    opL A m (ix3 0 0 b) = m (ix3 0 0 b) + Ideal.log (A (ix3 0 64 b)) * log2e := by
  pointwise [opL]

end Cert.FwdIdeal.Body
end
-- ==== Proof.FwdPieces.lean ====
module
public import proofs.«01_k».proof.Proof.FwdOps
@[expose] public section
noncomputable section
open Idealize.ShloMosaic Idealize.ShloMosaic.TcCoe Idealize.SL.Sem
namespace Cert.FwdIdeal.Body
open Cert.FwdIdeal Cert.FwdIdeal.Gen Cert.FwdIdeal.Facts
open Cert.KernelIdeal.Body (c128 c64 h64 h64_c64)

/-! The forward body's operations on whole blocks, and one head's pieces of them. -/

/-- The place of a column within its head, columns of width 64. -/
def r64 (c : Fin 512) : Fin 128 := ⟨c.val % 64, by omega⟩

section Blocks
variable (x0 : S512x1024.Idx → EReal) (x1 : S4096x1024.Idx → EReal) (x2 : S1024x4096.Idx → EReal) (m : S8x1x512.Idx → EReal) (A : S8x128x512.Idx → EReal)

/-- The score of key `a` for query `b`, head `h`. -/
def gS (h : Fin 8) (a : Fin 4096) (b : Fin 512) : EReal := ∑ d : Fin 128, x1 (ix2 a (c128 h d)) * x0 (ix2 b (c128 h d))

/-- The new reference point of head `h`, query `b`. -/
def gN (h : Fin 8) (b : Fin 512) : EReal :=
  max (m (ix3 h 0 b)) (Finset.fold max (Ideal.ofBits .f32 0xFF800000#32) (fun a => gS x0 x1 h a b) Finset.univ)

/-- The new reference points. -/
def gM (y : S8x1x512.Idx) : EReal := gN x0 x1 m (y 0) (y 2)

/-- The new weighted sums. -/
def gA (y : S8x128x512.Idx) : EReal :=
  Ideal.exp2 (m (ix3 (y 0) 0 (y 2)) - gN x0 x1 m (y 0) (y 2)) * A y
    + ∑ a : Fin 4096, x2 (ix2 (c128 (y 0) (y 1)) a) * Ideal.exp2 (gS x0 x1 (y 0) a (y 2) - gN x0 x1 m (y 0) (y 2))

/-- The output block. -/
def gO (y : S512x512.Idx) : EReal := Ideal.div (A (ix3 (h64 (y 1)) (r64 (y 1)) (y 0))) (A (ix3 (h64 (y 1)) 64 (y 0)))

/-- The row statistics' block. -/
def gL (y : S8x1x512.Idx) : EReal := m y + Ideal.log (A (ix3 (y 0) 64 (y 2))) * log2e

end Blocks

theorem emb_k (h : Fin 8) {o : ℕ} (ho : o = 128 * h.val)
    (i : ∀ a, (![0, o] : Fin 2 → ℕ) a + (![4096, 128] : Fin 2 → ℕ) a ≤ S4096x1024.size a) (a : Fin 4096) (d : Fin 128) :
    (Rect.unit (s := S4096x1024) ![0, o] ![4096, 128] i).emb (ix2 a d) = ix2 a (c128 h d) := by
  subst ho
  refine funext fun k => Fin.ext ?_
  match k with
  | ⟨0, _⟩ => show 0 + 1 * a.val = a.val; omega
  | ⟨1, _⟩ => show 128 * h.val + 1 * d.val = 128 * h.val + d.val; omega

theorem emb_q (h : Fin 8) {o : ℕ} (ho : o = 128 * h.val)
    (i : ∀ a, (![0, o] : Fin 2 → ℕ) a + (![512, 128] : Fin 2 → ℕ) a ≤ S512x1024.size a) (a : Fin 512) (d : Fin 128) :
    (Rect.unit (s := S512x1024) ![0, o] ![512, 128] i).emb (ix2 a d) = ix2 a (c128 h d) := by
  subst ho
  refine funext fun k => Fin.ext ?_
  match k with
  | ⟨0, _⟩ => show 0 + 1 * a.val = a.val; omega
  | ⟨1, _⟩ => show 128 * h.val + 1 * d.val = 128 * h.val + d.val; omega

theorem emb_v (h : Fin 8) {o : ℕ} (ho : o = 128 * h.val)
    (i : ∀ a, (![o, 0] : Fin 2 → ℕ) a + (![128, 4096] : Fin 2 → ℕ) a ≤ S1024x4096.size a) (r : Fin 128) (b : Fin 4096) :
    (Rect.unit (s := S1024x4096) ![o, 0] ![128, 4096] i).emb (ix2 r b) = ix2 (c128 h r) b := by
  subst ho
  refine funext fun k => Fin.ext ?_
  match k with
  | ⟨0, _⟩ => show 128 * h.val + 1 * r.val = 128 * h.val + r.val; omega
  | ⟨1, _⟩ => show 0 + 1 * b.val = b.val; omega

theorem emb_m (h : Fin 8) {l : ℕ} (hl : l = h.val)
    (i : ∀ a, (![l, 0, 0] : Fin 3 → ℕ) a + (![1, 1, 512] : Fin 3 → ℕ) a ≤ S8x1x512.size a) (b : Fin 512) :
    (Rect.unit (s := S8x1x512) ![l, 0, 0] ![1, 1, 512] i).emb (ix3 0 0 b) = ix3 h 0 b := by
  subst hl
  refine funext fun k => Fin.ext ?_
  match k with
  | ⟨0, _⟩ => show h.val + 1 * 0 = h.val; omega
  | ⟨1, _⟩ => show 0 + 1 * 0 = 0; omega
  | ⟨2, _⟩ => show 0 + 1 * b.val = b.val; omega

theorem emb_A (h : Fin 8) {l : ℕ} (hl : l = h.val)
    (i : ∀ a, (![l, 0, 0] : Fin 3 → ℕ) a + (![1, 128, 512] : Fin 3 → ℕ) a ≤ S8x128x512.size a) (r : Fin 128) (b : Fin 512) :
    (Rect.unit (s := S8x128x512) ![l, 0, 0] ![1, 128, 512] i).emb (ix3 0 r b) = ix3 h r b := by
  subst hl
  refine funext fun k => Fin.ext ?_
  match k with
  | ⟨0, _⟩ => show h.val + 1 * 0 = h.val; omega
  | ⟨1, _⟩ => show 0 + 1 * r.val = r.val; omega
  | ⟨2, _⟩ => show 0 + 1 * b.val = b.val; omega

theorem emb_o (h : Fin 8) {o : ℕ} (ho : o = 64 * h.val)
    (i : ∀ a, (![0, o] : Fin 2 → ℕ) a + (![512, 64] : Fin 2 → ℕ) a ≤ S512x512.size a) (b : Fin 512) (r : Fin 64) :
    (Rect.unit (s := S512x512) ![0, o] ![512, 64] i).emb (ix2 b r) = ix2 b (c64 h r) := by
  subst ho
  refine funext fun k => Fin.ext ?_
  match k with
  | ⟨0, _⟩ => show 0 + 1 * b.val = b.val; omega
  | ⟨1, _⟩ => show 64 * h.val + 1 * r.val = 64 * h.val + r.val; omega

section Pieces
variable (x0 : S512x1024.Idx → EReal) (x1 : S4096x1024.Idx → EReal) (x2 : S1024x4096.Idx → EReal) (m : S8x1x512.Idx → EReal) (A : S8x128x512.Idx → EReal)
  (h : Fin 8) {o o' l : ℕ} (ho : o = 128 * h.val) (ho' : o' = 64 * h.val) (hl : l = h.val)
  (iq : ∀ a, (![0, o] : Fin 2 → ℕ) a + (![512, 128] : Fin 2 → ℕ) a ≤ S512x1024.size a)
  (ik : ∀ a, (![0, o] : Fin 2 → ℕ) a + (![4096, 128] : Fin 2 → ℕ) a ≤ S4096x1024.size a)
  (iv : ∀ a, (![o, 0] : Fin 2 → ℕ) a + (![128, 4096] : Fin 2 → ℕ) a ≤ S1024x4096.size a)
  (im : ∀ a, (![l, 0, 0] : Fin 3 → ℕ) a + (![1, 1, 512] : Fin 3 → ℕ) a ≤ S8x1x512.size a)
  (iA : ∀ a, (![l, 0, 0] : Fin 3 → ℕ) a + (![1, 128, 512] : Fin 3 → ℕ) a ≤ S8x128x512.size a)
  (io : ∀ a, (![0, o'] : Fin 2 → ℕ) a + (![512, 64] : Fin 2 → ℕ) a ≤ S512x512.size a)

/-- The head's columns of a block of queries. -/
abbrev ldq : FVec Ideal S512x128 .bf16 := View.ld (Val := Elt Ideal) (e' := .bf16) x0 (Rect.unit (s := S512x1024) ![0, o] ![512, 128] iq)
/-- The head's columns of a block of keys. -/
abbrev ldk : FVec Ideal S4096x128 .bf16 := View.ld (Val := Elt Ideal) (e' := .bf16) x1 (Rect.unit (s := S4096x1024) ![0, o] ![4096, 128] ik)
/-- The head's rows of a block of values. -/
abbrev ldv : FVec Ideal S128x4096 .bf16 := View.ld (Val := Elt Ideal) (e' := .bf16) x2 (Rect.unit (s := S1024x4096) ![o, 0] ![128, 4096] iv)

include ho in
theorem opS_gS (a : Fin 4096) (b : Fin 512) : opS (ldk x1 ik) (ldq x0 iq) (ix2 a b) = gS x0 x1 h a b := by
  rw [opS_apply, gS]
  refine Finset.sum_congr rfl fun d _ => ?_
  show x1 ((Rect.unit (s := S4096x1024) ![0, o] ![4096, 128] ik).emb (ix2 a d)) * x0 ((Rect.unit (s := S512x1024) ![0, o] ![512, 128] iq).emb (ix2 b d)) = _
  rw [emb_k h ho, emb_q h ho]

variable (w : FVec Ideal S1x1x512 .f32) (hw : ∀ b, w (ix3 0 0 b) = m (ix3 h 0 b))
  (W : FVec Ideal S1x128x512 .f32) (hW : ∀ r b, W (ix3 0 r b) = A (ix3 h r b))

include ho hw in
theorem opN_gN (b : Fin 512) : opN (opS (ldk x1 ik) (ldq x0 iq)) w (ix2 0 b) = gN x0 x1 m h b := by
  rw [opN_apply, gN, hw]
  simp only [opS_gS x0 x1 h ho]

include ho hw in
theorem opM_gM (b : Fin 512) : opM (opS (ldk x1 ik) (ldq x0 iq)) w (ix3 0 0 b) = gM x0 x1 m (ix3 h 0 b) := by
  rw [opM_apply, opN_gN x0 x1 m h ho iq ik w hw]; rfl

include ho hw hW in
theorem opA_gA (r : Fin 128) (b : Fin 512) :
    opA (opS (ldk x1 ik) (ldq x0 iq)) w W (ldv x2 iv) (ix3 0 r b) = gA x0 x1 x2 m A (ix3 h r b) := by
  rw [opA_apply, opN_gN x0 x1 m h ho iq ik w hw, hw, hW]
  refine congrArg (_ + ·) (Finset.sum_congr rfl fun a _ => ?_)
  rw [opS_gS x0 x1 h ho]
  refine congrArg (· * _) ?_
  show x2 ((Rect.unit (s := S1024x4096) ![o, 0] ![128, 4096] iv).emb (ix2 r a)) = _
  rw [emb_v h ho]; rfl

include ho hl hw in
theorem pieceM (y : (Rect.unit (s := S8x1x512) ![l, 0, 0] ![1, 1, 512] im).shape.Idx) :
    opM (opS (ldk x1 ik) (ldq x0 iq)) w y = gM x0 x1 m ((Rect.unit (s := S8x1x512) ![l, 0, 0] ![1, 1, 512] im).emb y) := by
  obtain ⟨b, rfl⟩ : ∃ b : Fin 512, y = ix3 0 0 b :=
    ⟨y 2, (eq_ix3 (n0 := 1) (n1 := 1) (n2 := 512) y).trans (congrArg₂ (fun z z' : Fin 1 => ix3 z z' _) (Subsingleton.elim _ _) (Subsingleton.elim _ _))⟩
  rw [emb_m h hl]
  exact opM_gM x0 x1 m h ho iq ik w hw b

include ho hl hw hW in
theorem pieceA (y : (Rect.unit (s := S8x128x512) ![l, 0, 0] ![1, 128, 512] iA).shape.Idx) :
    opA (opS (ldk x1 ik) (ldq x0 iq)) w W (ldv x2 iv) y = gA x0 x1 x2 m A ((Rect.unit (s := S8x128x512) ![l, 0, 0] ![1, 128, 512] iA).emb y) := by
  obtain ⟨r, b, rfl⟩ : ∃ (r : Fin 128) (b : Fin 512), y = ix3 0 r b :=
    ⟨y 1, y 2, (eq_ix3 (n0 := 1) (n1 := 128) (n2 := 512) y).trans (congrArg (fun z : Fin 1 => ix3 z _ _) (Subsingleton.elim _ _))⟩
  rw [emb_A h hl]
  exact opA_gA x0 x1 x2 m A h ho iq ik iv w hw W hW r b

include ho' hW in
theorem pieceO (y : (Rect.unit (s := S512x512) ![0, o'] ![512, 64] io).shape.Idx) :
    opO W y = gO A ((Rect.unit (s := S512x512) ![0, o'] ![512, 64] io).emb y) := by
  obtain ⟨b, r, rfl⟩ : ∃ (b : Fin 512) (r : Fin 64), y = ix2 b r := ⟨y 0, y 1, eq_ix2 (n0 := 512) (n1 := 64) y⟩
  rw [emb_o h ho', opO_apply, hW, hW]
  show _ = Ideal.div (A (ix3 (h64 (c64 h r)) (r64 (c64 h r)) b)) (A (ix3 (h64 (c64 h r)) 64 b))
  rw [h64_c64, show r64 (c64 h r) = Fin.castLE (by norm_num) r from Fin.ext (by show (64 * h.val + r.val) % 64 = r.val; omega)]

include hl hw hW in
theorem pieceL (y : (Rect.unit (s := S8x1x512) ![l, 0, 0] ![1, 1, 512] im).shape.Idx) :
    opL W w y = gL m A ((Rect.unit (s := S8x1x512) ![l, 0, 0] ![1, 1, 512] im).emb y) := by
  obtain ⟨b, rfl⟩ : ∃ b : Fin 512, y = ix3 0 0 b :=
    ⟨y 2, (eq_ix3 (n0 := 1) (n1 := 1) (n2 := 512) y).trans (congrArg₂ (fun z z' : Fin 1 => ix3 z z' _) (Subsingleton.elim _ _) (Subsingleton.elim _ _))⟩
  rw [emb_m h hl, opL_apply, hw, hW]; rfl
end Pieces

end Cert.FwdIdeal.Body
end
-- ==== Proof.FwdBody.lean ====
module
public import proofs.«01_k».proof.Proof.FwdPieces
public import Idealize.ShloMosaic.Lib.Pipeline.ReadBack
@[expose] public section
noncomputable section
open Idealize.ShloMosaic Idealize.ShloMosaic.TcCoe Idealize.SL.Sem
namespace Cert.FwdIdeal.Body
open Cert.FwdIdeal Cert.FwdIdeal.Gen

/-! What one run of the forward body leaves in each buffer, case by case. -/

theorem inb_m (h : Fin 8) (a : Fin 3) : (![h.val, 0, 0] : Fin 3 → ℕ) a + (![1, 1, 512] : Fin 3 → ℕ) a ≤ S8x1x512.size a :=
  match a with
  | ⟨0, _⟩ => (by omega : h.val + 1 ≤ 8)
  | ⟨1, _⟩ => (by omega : 0 + 1 ≤ 1)
  | ⟨2, _⟩ => (by omega : 0 + 512 ≤ 512)

theorem inb_A (h : Fin 8) (a : Fin 3) : (![h.val, 0, 0] : Fin 3 → ℕ) a + (![1, 128, 512] : Fin 3 → ℕ) a ≤ S8x128x512.size a :=
  match a with
  | ⟨0, _⟩ => (by omega : h.val + 1 ≤ 8)
  | ⟨1, _⟩ => (by omega : 0 + 128 ≤ 128)
  | ⟨2, _⟩ => (by omega : 0 + 512 ≤ 512)

theorem inb_o (h : Fin 8) (a : Fin 2) : (![0, 64 * h.val] : Fin 2 → ℕ) a + (![512, 64] : Fin 2 → ℕ) a ≤ S512x512.size a :=
  match a with
  | ⟨0, _⟩ => (by omega : 0 + 512 ≤ 512)
  | ⟨1, _⟩ => (by omega : 64 * h.val + 64 ≤ 512)

theorem cov_m {L : List (View.Piece (Elt Ideal) S8x1x512 .f32)} (hL : ∀ h : Fin 8, ∃ p ∈ L, p.1 = Rect.unit (s := S8x1x512) ![h.val, 0, 0] ![1, 1, 512] (inb_m h))
    (y : S8x1x512.Idx) : ∃ p ∈ L, y ∈ p.1.set := by
  obtain ⟨p, hp, e⟩ := hL (y 0)
  refine ⟨p, hp, ?_⟩
  rw [e, Rect.mem_set_unit]
  intro a
  have h1 : (y 1).val < 1 := (y 1).isLt
  have h2 : (y 2).val < 512 := (y 2).isLt
  match a with
  | ⟨0, _⟩ => show (y 0).val ≤ (y 0).val ∧ (y 0).val < (y 0).val + 1; omega
  | ⟨1, _⟩ => show 0 ≤ (y 1).val ∧ (y 1).val < 0 + 1; omega
  | ⟨2, _⟩ => show 0 ≤ (y 2).val ∧ (y 2).val < 0 + 512; omega

theorem cov_A {L : List (View.Piece (Elt Ideal) S8x128x512 .f32)} (hL : ∀ h : Fin 8, ∃ p ∈ L, p.1 = Rect.unit (s := S8x128x512) ![h.val, 0, 0] ![1, 128, 512] (inb_A h))
    (y : S8x128x512.Idx) : ∃ p ∈ L, y ∈ p.1.set := by
  obtain ⟨p, hp, e⟩ := hL (y 0)
  refine ⟨p, hp, ?_⟩
  rw [e, Rect.mem_set_unit]
  intro a
  have h1 : (y 1).val < 128 := (y 1).isLt
  have h2 : (y 2).val < 512 := (y 2).isLt
  match a with
  | ⟨0, _⟩ => show (y 0).val ≤ (y 0).val ∧ (y 0).val < (y 0).val + 1; omega
  | ⟨1, _⟩ => show 0 ≤ (y 1).val ∧ (y 1).val < 0 + 128; omega
  | ⟨2, _⟩ => show 0 ≤ (y 2).val ∧ (y 2).val < 0 + 512; omega

/-- A head's reference points. -/
theorem ld_m (X : S8x1x512.Idx → EReal) (h : Fin 8) {l : ℕ} (hl : l = h.val) (i : ∀ a, (![l, 0, 0] : Fin 3 → ℕ) a + (![1, 1, 512] : Fin 3 → ℕ) a ≤ S8x1x512.size a) (b : Fin 512) :
    View.ld (Val := Elt Ideal) (e' := .f32) X (Rect.unit (s := S8x1x512) ![l, 0, 0] ![1, 1, 512] i) (ix3 0 0 b) = X (ix3 h 0 b) :=
  congrArg X (emb_m h hl i b)

/-- A head's weighted sums. -/
theorem ld_A (X : S8x128x512.Idx → EReal) (h : Fin 8) {l : ℕ} (hl : l = h.val) (i : ∀ a, (![l, 0, 0] : Fin 3 → ℕ) a + (![1, 128, 512] : Fin 3 → ℕ) a ≤ S8x128x512.size a) (r : Fin 128) (b : Fin 512) :
    View.ld (Val := Elt Ideal) (e' := .f32) X (Rect.unit (s := S8x128x512) ![l, 0, 0] ![1, 128, 512] i) (ix3 0 r b) = X (ix3 h r b) :=
  congrArg X (emb_A h hl i r b)

/-- A head read back from the reference points just stored. -/
theorem back_m {sig' : RefSig} {k' : Kind} {sp : Space} (v : View sig' k' sp S8x1x512 .f32) {L : List (View.Piece (Elt Ideal) S8x1x512 .f32)} {G : S8x1x512.Idx → EReal}
    (hp : View.PiecesOf (Val := Elt Ideal) (s := S8x1x512) (e := .f32) G L) (hL : ∀ h : Fin 8, ∃ p ∈ L, p.1 = Rect.unit (s := S8x1x512) ![h.val, 0, 0] ![1, 1, 512] (inb_m h))
    (h : Fin 8) {l : ℕ} (hl : l = h.val) (i : ∀ a, (![l, 0, 0] : Fin 3 → ℕ) a + (![1, 1, 512] : Fin 3 → ℕ) a ≤ S8x1x512.size a) (b : Fin 512) :
    v.readCov L (Rect.unit (s := S8x1x512) ![l, 0, 0] ![1, 1, 512] i).toLoadRect (ix3 0 0 b) = G (ix3 h 0 b) := by
  rw [View.readCov_eq_canon']
  exact (View.canon_apply_of_pieces (Val := Elt Ideal) (S := S8x1x512) (e := .f32) G _ hp.mem _ (cov_m hL _)).trans (congrArg G (emb_m h hl i b))

/-- A head read back from the weighted sums just stored. -/
theorem back_A {sig' : RefSig} {k' : Kind} {sp : Space} (v : View sig' k' sp S8x128x512 .f32) {L : List (View.Piece (Elt Ideal) S8x128x512 .f32)} {G : S8x128x512.Idx → EReal}
    (hp : View.PiecesOf (Val := Elt Ideal) (s := S8x128x512) (e := .f32) G L) (hL : ∀ h : Fin 8, ∃ p ∈ L, p.1 = Rect.unit (s := S8x128x512) ![h.val, 0, 0] ![1, 128, 512] (inb_A h))
    (h : Fin 8) {l : ℕ} (hl : l = h.val) (i : ∀ a, (![l, 0, 0] : Fin 3 → ℕ) a + (![1, 128, 512] : Fin 3 → ℕ) a ≤ S8x128x512.size a) (r : Fin 128) (b : Fin 512) :
    v.readCov L (Rect.unit (s := S8x128x512) ![l, 0, 0] ![1, 128, 512] i).toLoadRect (ix3 0 r b) = G (ix3 h r b) := by
  rw [View.readCov_eq_canon']
  exact (View.canon_apply_of_pieces (Val := Elt Ideal) (S := S8x128x512) (e := .f32) G _ hp.mem _ (cov_A hL _)).trans (congrArg G (emb_A h hl i r b))

section
variable (c : Dev nD) (i : grid0.Coords) (arg2 : Memref sig .tc .vmem S512x1024 .bf16) (harg2 : arg2.IsWhole) (arg3 : Memref sig .tc .vmem S4096x1024 .bf16) (harg3 : arg3.IsWhole) (arg4 : Memref sig .tc .vmem S1024x4096 .bf16) (harg4 : arg4.IsWhole)
  (arg5 : Memref sig .tc .vmem S512x512 .f32) (harg5 : arg5.IsWhole) (arg6 : Memref sig .tc .vmem S8x1x512 .f32) (harg6 : arg6.IsWhole) (arg7 : Memref sig .tc .vmem S8x1x512 .f32) (harg7 : arg7.IsWhole)
  (arg8 : Memref sig .tc .vmem S8x128x512 .f32) (harg8 : arg8.IsWhole)
  (x0 : Vec Ideal S512x1024 .bf16) (x1 : Vec Ideal S4096x1024 .bf16) (x2 : Vec Ideal S1024x4096 .bf16) (xs0 : Vec Ideal S8x1x512 .f32) (xs1 : Vec Ideal S8x128x512 .f32)

theorem sout_B_0 (hc0 : ¬cond0_0 i) (hc1 : ¬cond0_1 i) :
    sout0_B_0 c i arg2 harg2 arg3 harg3 arg4 harg4 arg5 harg5 arg6 harg6 arg7 harg7 arg8 harg8 hc0 hc1 x0 x1 x2 xs0 xs1 = gM x0 x1 xs0 := by
  unfold sout0_B_0
  rw [View.read_writes_eq_canon _ _ _ (scover0_B_0 c i arg2 harg2 arg3 harg3 arg4 harg4 arg5 harg5 arg6 harg6 arg7 harg7 arg8 harg8 hc0 hc1 x0 x1 x2 xs0 xs1)]
  funext y
  refine View.canon_apply_of_pieces (gM x0 x1 xs0) _ ?_ y (scover0_B_0 c i arg2 harg2 arg3 harg3 arg4 harg4 arg5 harg5 arg6 harg6 arg7 harg7 arg8 harg8 hc0 hc1 x0 x1 x2 xs0 xs1 y)
  refine View.PiecesOf.mem (Val := Elt Ideal) (s := S8x1x512) (e := .f32) (G := gM x0 x1 xs0) ?_
  unfold kernelRun0_B
  dsimp only
  sl_unfold_words
  simp only [View.readAt_eq_ld, harg2.read_unread, harg3.read_unread, harg4.read_unread, harg7.read_unread, harg8.read_unread]
  simp only [k0_pay1, k0_pay2, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84]
  exact ⟨pieceM x0 x1 xs0 7 rfl rfl _ _ (inb_m 7) _ (ld_m xs0 7 rfl _),
    pieceM x0 x1 xs0 6 rfl rfl _ _ (inb_m 6) _ (ld_m xs0 6 rfl _),
    pieceM x0 x1 xs0 5 rfl rfl _ _ (inb_m 5) _ (ld_m xs0 5 rfl _),
    pieceM x0 x1 xs0 4 rfl rfl _ _ (inb_m 4) _ (ld_m xs0 4 rfl _),
    pieceM x0 x1 xs0 3 rfl rfl _ _ (inb_m 3) _ (ld_m xs0 3 rfl _),
    pieceM x0 x1 xs0 2 rfl rfl _ _ (inb_m 2) _ (ld_m xs0 2 rfl _),
    pieceM x0 x1 xs0 1 rfl rfl _ _ (inb_m 1) _ (ld_m xs0 1 rfl _),
    pieceM x0 x1 xs0 0 rfl rfl _ _ (inb_m 0) _ (ld_m xs0 0 rfl _), trivial⟩

theorem sout_B_1 (hc0 : ¬cond0_0 i) (hc1 : ¬cond0_1 i) :
    sout0_B_1 c i arg2 harg2 arg3 harg3 arg4 harg4 arg5 harg5 arg6 harg6 arg7 harg7 arg8 harg8 hc0 hc1 x0 x1 x2 xs0 xs1 = gA x0 x1 x2 xs0 xs1 := by
  unfold sout0_B_1
  rw [View.read_writes_eq_canon _ _ _ (scover0_B_1 c i arg2 harg2 arg3 harg3 arg4 harg4 arg5 harg5 arg6 harg6 arg7 harg7 arg8 harg8 hc0 hc1 x0 x1 x2 xs0 xs1)]
  funext y
  refine View.canon_apply_of_pieces (gA x0 x1 x2 xs0 xs1) _ ?_ y (scover0_B_1 c i arg2 harg2 arg3 harg3 arg4 harg4 arg5 harg5 arg6 harg6 arg7 harg7 arg8 harg8 hc0 hc1 x0 x1 x2 xs0 xs1 y)
  refine View.PiecesOf.mem (Val := Elt Ideal) (s := S8x128x512) (e := .f32) (G := gA x0 x1 x2 xs0 xs1) ?_
  unfold kernelRun0_B
  dsimp only
  sl_unfold_words
  simp only [View.readAt_eq_ld, harg2.read_unread, harg3.read_unread, harg4.read_unread, harg7.read_unread, harg8.read_unread]
  simp only [k0_pay1, k0_pay2, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84]
  exact ⟨pieceA x0 x1 x2 xs0 xs1 7 rfl rfl _ _ _ (inb_A 7) _ (ld_m xs0 7 rfl _) _ (ld_A xs1 7 rfl _),
    pieceA x0 x1 x2 xs0 xs1 6 rfl rfl _ _ _ (inb_A 6) _ (ld_m xs0 6 rfl _) _ (ld_A xs1 6 rfl _),
    pieceA x0 x1 x2 xs0 xs1 5 rfl rfl _ _ _ (inb_A 5) _ (ld_m xs0 5 rfl _) _ (ld_A xs1 5 rfl _),
    pieceA x0 x1 x2 xs0 xs1 4 rfl rfl _ _ _ (inb_A 4) _ (ld_m xs0 4 rfl _) _ (ld_A xs1 4 rfl _),
    pieceA x0 x1 x2 xs0 xs1 3 rfl rfl _ _ _ (inb_A 3) _ (ld_m xs0 3 rfl _) _ (ld_A xs1 3 rfl _),
    pieceA x0 x1 x2 xs0 xs1 2 rfl rfl _ _ _ (inb_A 2) _ (ld_m xs0 2 rfl _) _ (ld_A xs1 2 rfl _),
    pieceA x0 x1 x2 xs0 xs1 1 rfl rfl _ _ _ (inb_A 1) _ (ld_m xs0 1 rfl _) _ (ld_A xs1 1 rfl _),
    pieceA x0 x1 x2 xs0 xs1 0 rfl rfl _ _ _ (inb_A 0) _ (ld_m xs0 0 rfl _) _ (ld_A xs1 0 rfl _), trivial⟩

theorem sout_C_0 (hc0 : ¬cond0_0 i) (hc1 : cond0_1 i) :
    sout0_C_0 c i arg2 harg2 arg3 harg3 arg4 harg4 arg5 harg5 arg6 harg6 arg7 harg7 arg8 harg8 hc0 hc1 x0 x1 x2 xs0 xs1 = gM x0 x1 xs0 := by
  unfold sout0_C_0
  rw [View.read_writes_eq_canon _ _ _ (scover0_C_0 c i arg2 harg2 arg3 harg3 arg4 harg4 arg5 harg5 arg6 harg6 arg7 harg7 arg8 harg8 hc0 hc1 x0 x1 x2 xs0 xs1)]
  funext y
  refine View.canon_apply_of_pieces (gM x0 x1 xs0) _ ?_ y (scover0_C_0 c i arg2 harg2 arg3 harg3 arg4 harg4 arg5 harg5 arg6 harg6 arg7 harg7 arg8 harg8 hc0 hc1 x0 x1 x2 xs0 xs1 y)
  refine View.PiecesOf.mem (Val := Elt Ideal) (s := S8x1x512) (e := .f32) (G := gM x0 x1 xs0) ?_
  unfold kernelRun0_C
  dsimp only
  sl_unfold_words
  simp only [View.readAt_eq_ld, harg2.read_unread, harg3.read_unread, harg4.read_unread, harg7.read_unread, harg8.read_unread]
  simp only [k0_pay1, k0_pay2, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84]
  exact ⟨pieceM x0 x1 xs0 7 rfl rfl _ _ (inb_m 7) _ (ld_m xs0 7 rfl _),
    pieceM x0 x1 xs0 6 rfl rfl _ _ (inb_m 6) _ (ld_m xs0 6 rfl _),
    pieceM x0 x1 xs0 5 rfl rfl _ _ (inb_m 5) _ (ld_m xs0 5 rfl _),
    pieceM x0 x1 xs0 4 rfl rfl _ _ (inb_m 4) _ (ld_m xs0 4 rfl _),
    pieceM x0 x1 xs0 3 rfl rfl _ _ (inb_m 3) _ (ld_m xs0 3 rfl _),
    pieceM x0 x1 xs0 2 rfl rfl _ _ (inb_m 2) _ (ld_m xs0 2 rfl _),
    pieceM x0 x1 xs0 1 rfl rfl _ _ (inb_m 1) _ (ld_m xs0 1 rfl _),
    pieceM x0 x1 xs0 0 rfl rfl _ _ (inb_m 0) _ (ld_m xs0 0 rfl _), trivial⟩

theorem sout_C_1 (hc0 : ¬cond0_0 i) (hc1 : cond0_1 i) :
    sout0_C_1 c i arg2 harg2 arg3 harg3 arg4 harg4 arg5 harg5 arg6 harg6 arg7 harg7 arg8 harg8 hc0 hc1 x0 x1 x2 xs0 xs1 = gA x0 x1 x2 xs0 xs1 := by
  unfold sout0_C_1
  rw [View.read_writes_eq_canon _ _ _ (scover0_C_1 c i arg2 harg2 arg3 harg3 arg4 harg4 arg5 harg5 arg6 harg6 arg7 harg7 arg8 harg8 hc0 hc1 x0 x1 x2 xs0 xs1)]
  funext y
  refine View.canon_apply_of_pieces (gA x0 x1 x2 xs0 xs1) _ ?_ y (scover0_C_1 c i arg2 harg2 arg3 harg3 arg4 harg4 arg5 harg5 arg6 harg6 arg7 harg7 arg8 harg8 hc0 hc1 x0 x1 x2 xs0 xs1 y)
  refine View.PiecesOf.mem (Val := Elt Ideal) (s := S8x128x512) (e := .f32) (G := gA x0 x1 x2 xs0 xs1) ?_
  unfold kernelRun0_C
  dsimp only
  sl_unfold_words
  simp only [View.readAt_eq_ld, harg2.read_unread, harg3.read_unread, harg4.read_unread, harg7.read_unread, harg8.read_unread]
  simp only [k0_pay1, k0_pay2, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84]
  exact ⟨pieceA x0 x1 x2 xs0 xs1 7 rfl rfl _ _ _ (inb_A 7) _ (ld_m xs0 7 rfl _) _ (ld_A xs1 7 rfl _),
    pieceA x0 x1 x2 xs0 xs1 6 rfl rfl _ _ _ (inb_A 6) _ (ld_m xs0 6 rfl _) _ (ld_A xs1 6 rfl _),
    pieceA x0 x1 x2 xs0 xs1 5 rfl rfl _ _ _ (inb_A 5) _ (ld_m xs0 5 rfl _) _ (ld_A xs1 5 rfl _),
    pieceA x0 x1 x2 xs0 xs1 4 rfl rfl _ _ _ (inb_A 4) _ (ld_m xs0 4 rfl _) _ (ld_A xs1 4 rfl _),
    pieceA x0 x1 x2 xs0 xs1 3 rfl rfl _ _ _ (inb_A 3) _ (ld_m xs0 3 rfl _) _ (ld_A xs1 3 rfl _),
    pieceA x0 x1 x2 xs0 xs1 2 rfl rfl _ _ _ (inb_A 2) _ (ld_m xs0 2 rfl _) _ (ld_A xs1 2 rfl _),
    pieceA x0 x1 x2 xs0 xs1 1 rfl rfl _ _ _ (inb_A 1) _ (ld_m xs0 1 rfl _) _ (ld_A xs1 1 rfl _),
    pieceA x0 x1 x2 xs0 xs1 0 rfl rfl _ _ _ (inb_A 0) _ (ld_m xs0 0 rfl _) _ (ld_A xs1 0 rfl _), trivial⟩

theorem sout_A_0 (hc0 : cond0_0 i) (hc1 : ¬cond0_1 i) :
    sout0_A_0 c i arg2 harg2 arg3 harg3 arg4 harg4 arg5 harg5 arg6 harg6 arg7 harg7 arg8 harg8 hc0 hc1 x0 x1 x2 = gM x0 x1 (fun _ => Ideal.ofBits .f32 0xFF800000#32) := by
  unfold sout0_A_0
  rw [View.read_writes_eq_canon _ _ _ (scover0_A_0 c i arg2 harg2 arg3 harg3 arg4 harg4 arg5 harg5 arg6 harg6 arg7 harg7 arg8 harg8 hc0 hc1 x0 x1 x2)]
  unfold kernelRun0_A
  dsimp only
  sl_unfold_words
  simp only [View.readAt_eq_ld, harg2.read_unread, harg3.read_unread, harg4.read_unread, harg7.read_unread, harg8.read_unread]
  simp (disch := decide) only [↓ View.readCov_skip, ↓ View.readCov_fill]
  simp only [k0_pay1, k0_pay2, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84]
  funext y
  refine View.canon_append_of_piecesOf (Val := Elt Ideal) (s := S8x1x512) (e := .f32) (gM x0 x1 (fun _ => Ideal.ofBits .f32 0xFF800000#32)) [_] [_, _, _, _, _, _, _, _] ?_ y (cov_m ?_ y)
  · exact ⟨pieceM x0 x1 (fun _ => Ideal.ofBits .f32 0xFF800000#32) 7 rfl rfl _ _ (inb_m 7) _ (ld_m (fun _ => Ideal.ofBits .f32 0xFF800000#32) 7 rfl _),
    pieceM x0 x1 (fun _ => Ideal.ofBits .f32 0xFF800000#32) 6 rfl rfl _ _ (inb_m 6) _ (ld_m (fun _ => Ideal.ofBits .f32 0xFF800000#32) 6 rfl _),
    pieceM x0 x1 (fun _ => Ideal.ofBits .f32 0xFF800000#32) 5 rfl rfl _ _ (inb_m 5) _ (ld_m (fun _ => Ideal.ofBits .f32 0xFF800000#32) 5 rfl _),
    pieceM x0 x1 (fun _ => Ideal.ofBits .f32 0xFF800000#32) 4 rfl rfl _ _ (inb_m 4) _ (ld_m (fun _ => Ideal.ofBits .f32 0xFF800000#32) 4 rfl _),
    pieceM x0 x1 (fun _ => Ideal.ofBits .f32 0xFF800000#32) 3 rfl rfl _ _ (inb_m 3) _ (ld_m (fun _ => Ideal.ofBits .f32 0xFF800000#32) 3 rfl _),
    pieceM x0 x1 (fun _ => Ideal.ofBits .f32 0xFF800000#32) 2 rfl rfl _ _ (inb_m 2) _ (ld_m (fun _ => Ideal.ofBits .f32 0xFF800000#32) 2 rfl _),
    pieceM x0 x1 (fun _ => Ideal.ofBits .f32 0xFF800000#32) 1 rfl rfl _ _ (inb_m 1) _ (ld_m (fun _ => Ideal.ofBits .f32 0xFF800000#32) 1 rfl _),
    pieceM x0 x1 (fun _ => Ideal.ofBits .f32 0xFF800000#32) 0 rfl rfl _ _ (inb_m 0) _ (ld_m (fun _ => Ideal.ofBits .f32 0xFF800000#32) 0 rfl _), trivial⟩
  · exact (fun h => match h with | ⟨0, _⟩ => ⟨_, .tail _ (.tail _ (.tail _ (.tail _ (.tail _ (.tail _ (.tail _ (.head _))))))), rfl⟩ | ⟨1, _⟩ => ⟨_, .tail _ (.tail _ (.tail _ (.tail _ (.tail _ (.tail _ (.head _)))))), rfl⟩ | ⟨2, _⟩ => ⟨_, .tail _ (.tail _ (.tail _ (.tail _ (.tail _ (.head _))))), rfl⟩ | ⟨3, _⟩ => ⟨_, .tail _ (.tail _ (.tail _ (.tail _ (.head _)))), rfl⟩ | ⟨4, _⟩ => ⟨_, .tail _ (.tail _ (.tail _ (.head _))), rfl⟩ | ⟨5, _⟩ => ⟨_, .tail _ (.tail _ (.head _)), rfl⟩ | ⟨6, _⟩ => ⟨_, .tail _ (.head _), rfl⟩ | ⟨7, _⟩ => ⟨_, .head _, rfl⟩)

theorem sout_A_1 (hc0 : cond0_0 i) (hc1 : ¬cond0_1 i) :
    sout0_A_1 c i arg2 harg2 arg3 harg3 arg4 harg4 arg5 harg5 arg6 harg6 arg7 harg7 arg8 harg8 hc0 hc1 x0 x1 x2 = gA x0 x1 x2 (fun _ => Ideal.ofBits .f32 0xFF800000#32) (fun _ => Ideal.ofBits .f32 0x00000000#32) := by
  unfold sout0_A_1
  rw [View.read_writes_eq_canon _ _ _ (scover0_A_1 c i arg2 harg2 arg3 harg3 arg4 harg4 arg5 harg5 arg6 harg6 arg7 harg7 arg8 harg8 hc0 hc1 x0 x1 x2)]
  unfold kernelRun0_A
  dsimp only
  sl_unfold_words
  simp only [View.readAt_eq_ld, harg2.read_unread, harg3.read_unread, harg4.read_unread, harg7.read_unread, harg8.read_unread]
  simp (disch := decide) only [↓ View.readCov_skip, ↓ View.readCov_fill]
  simp only [k0_pay1, k0_pay2, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84]
  funext y
  refine View.canon_append_of_piecesOf (Val := Elt Ideal) (s := S8x128x512) (e := .f32) (gA x0 x1 x2 (fun _ => Ideal.ofBits .f32 0xFF800000#32) (fun _ => Ideal.ofBits .f32 0x00000000#32)) [_] [_, _, _, _, _, _, _, _] ?_ y (cov_A ?_ y)
  · exact ⟨pieceA x0 x1 x2 (fun _ => Ideal.ofBits .f32 0xFF800000#32) (fun _ => Ideal.ofBits .f32 0x00000000#32) 7 rfl rfl _ _ _ (inb_A 7) _ (ld_m (fun _ => Ideal.ofBits .f32 0xFF800000#32) 7 rfl _) _ (ld_A (fun _ => Ideal.ofBits .f32 0x00000000#32) 7 rfl _),
    pieceA x0 x1 x2 (fun _ => Ideal.ofBits .f32 0xFF800000#32) (fun _ => Ideal.ofBits .f32 0x00000000#32) 6 rfl rfl _ _ _ (inb_A 6) _ (ld_m (fun _ => Ideal.ofBits .f32 0xFF800000#32) 6 rfl _) _ (ld_A (fun _ => Ideal.ofBits .f32 0x00000000#32) 6 rfl _),
    pieceA x0 x1 x2 (fun _ => Ideal.ofBits .f32 0xFF800000#32) (fun _ => Ideal.ofBits .f32 0x00000000#32) 5 rfl rfl _ _ _ (inb_A 5) _ (ld_m (fun _ => Ideal.ofBits .f32 0xFF800000#32) 5 rfl _) _ (ld_A (fun _ => Ideal.ofBits .f32 0x00000000#32) 5 rfl _),
    pieceA x0 x1 x2 (fun _ => Ideal.ofBits .f32 0xFF800000#32) (fun _ => Ideal.ofBits .f32 0x00000000#32) 4 rfl rfl _ _ _ (inb_A 4) _ (ld_m (fun _ => Ideal.ofBits .f32 0xFF800000#32) 4 rfl _) _ (ld_A (fun _ => Ideal.ofBits .f32 0x00000000#32) 4 rfl _),
    pieceA x0 x1 x2 (fun _ => Ideal.ofBits .f32 0xFF800000#32) (fun _ => Ideal.ofBits .f32 0x00000000#32) 3 rfl rfl _ _ _ (inb_A 3) _ (ld_m (fun _ => Ideal.ofBits .f32 0xFF800000#32) 3 rfl _) _ (ld_A (fun _ => Ideal.ofBits .f32 0x00000000#32) 3 rfl _),
    pieceA x0 x1 x2 (fun _ => Ideal.ofBits .f32 0xFF800000#32) (fun _ => Ideal.ofBits .f32 0x00000000#32) 2 rfl rfl _ _ _ (inb_A 2) _ (ld_m (fun _ => Ideal.ofBits .f32 0xFF800000#32) 2 rfl _) _ (ld_A (fun _ => Ideal.ofBits .f32 0x00000000#32) 2 rfl _),
    pieceA x0 x1 x2 (fun _ => Ideal.ofBits .f32 0xFF800000#32) (fun _ => Ideal.ofBits .f32 0x00000000#32) 1 rfl rfl _ _ _ (inb_A 1) _ (ld_m (fun _ => Ideal.ofBits .f32 0xFF800000#32) 1 rfl _) _ (ld_A (fun _ => Ideal.ofBits .f32 0x00000000#32) 1 rfl _),
    pieceA x0 x1 x2 (fun _ => Ideal.ofBits .f32 0xFF800000#32) (fun _ => Ideal.ofBits .f32 0x00000000#32) 0 rfl rfl _ _ _ (inb_A 0) _ (ld_m (fun _ => Ideal.ofBits .f32 0xFF800000#32) 0 rfl _) _ (ld_A (fun _ => Ideal.ofBits .f32 0x00000000#32) 0 rfl _), trivial⟩
  · exact (fun h => match h with | ⟨0, _⟩ => ⟨_, .tail _ (.tail _ (.tail _ (.tail _ (.tail _ (.tail _ (.tail _ (.head _))))))), rfl⟩ | ⟨1, _⟩ => ⟨_, .tail _ (.tail _ (.tail _ (.tail _ (.tail _ (.tail _ (.head _)))))), rfl⟩ | ⟨2, _⟩ => ⟨_, .tail _ (.tail _ (.tail _ (.tail _ (.tail _ (.head _))))), rfl⟩ | ⟨3, _⟩ => ⟨_, .tail _ (.tail _ (.tail _ (.tail _ (.head _)))), rfl⟩ | ⟨4, _⟩ => ⟨_, .tail _ (.tail _ (.tail _ (.head _))), rfl⟩ | ⟨5, _⟩ => ⟨_, .tail _ (.tail _ (.head _)), rfl⟩ | ⟨6, _⟩ => ⟨_, .tail _ (.head _), rfl⟩ | ⟨7, _⟩ => ⟨_, .head _, rfl⟩)

theorem out_C_3 (hc0 : ¬cond0_0 i) (hc1 : cond0_1 i) :
    out0_C_3 c i arg2 harg2 arg3 harg3 arg4 harg4 arg5 harg5 arg6 harg6 arg7 harg7 arg8 harg8 hc0 hc1 x0 x1 x2 xs0 xs1 = gO (gA x0 x1 x2 xs0 xs1) := by
  unfold out0_C_3
  rw [View.read_writes_eq_canon _ _ _ (cover0_C_3 c i arg2 harg2 arg3 harg3 arg4 harg4 arg5 harg5 arg6 harg6 arg7 harg7 arg8 harg8 hc0 hc1 x0 x1 x2 xs0 xs1)]
  funext y
  refine View.canon_apply_of_pieces (gO (gA x0 x1 x2 xs0 xs1)) _ ?_ y (cover0_C_3 c i arg2 harg2 arg3 harg3 arg4 harg4 arg5 harg5 arg6 harg6 arg7 harg7 arg8 harg8 hc0 hc1 x0 x1 x2 xs0 xs1 y)
  refine View.PiecesOf.mem (Val := Elt Ideal) (s := S512x512) (e := .f32) (G := gO (gA x0 x1 x2 xs0 xs1)) ?_
  unfold kernelRun0_C
  dsimp only
  sl_unfold_words
  simp only [View.readAt_eq_ld, harg2.read_unread, harg3.read_unread, harg4.read_unread, harg7.read_unread, harg8.read_unread]
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84]
  refine ⟨pieceO (gA x0 x1 x2 xs0 xs1) 7 rfl (inb_o 7) _ (back_A arg8.view (G := gA x0 x1 x2 xs0 xs1) ?pA ?lA 7 rfl _),
    pieceO (gA x0 x1 x2 xs0 xs1) 6 rfl (inb_o 6) _ (back_A arg8.view (G := gA x0 x1 x2 xs0 xs1) ?pA ?lA 6 rfl _),
    pieceO (gA x0 x1 x2 xs0 xs1) 5 rfl (inb_o 5) _ (back_A arg8.view (G := gA x0 x1 x2 xs0 xs1) ?pA ?lA 5 rfl _),
    pieceO (gA x0 x1 x2 xs0 xs1) 4 rfl (inb_o 4) _ (back_A arg8.view (G := gA x0 x1 x2 xs0 xs1) ?pA ?lA 4 rfl _),
    pieceO (gA x0 x1 x2 xs0 xs1) 3 rfl (inb_o 3) _ (back_A arg8.view (G := gA x0 x1 x2 xs0 xs1) ?pA ?lA 3 rfl _),
    pieceO (gA x0 x1 x2 xs0 xs1) 2 rfl (inb_o 2) _ (back_A arg8.view (G := gA x0 x1 x2 xs0 xs1) ?pA ?lA 2 rfl _),
    pieceO (gA x0 x1 x2 xs0 xs1) 1 rfl (inb_o 1) _ (back_A arg8.view (G := gA x0 x1 x2 xs0 xs1) ?pA ?lA 1 rfl _),
    pieceO (gA x0 x1 x2 xs0 xs1) 0 rfl (inb_o 0) _ (back_A arg8.view (G := gA x0 x1 x2 xs0 xs1) ?pA ?lA 0 rfl _), trivial⟩
  case pA => exact ⟨pieceA x0 x1 x2 xs0 xs1 7 rfl rfl _ _ _ (inb_A 7) _ (ld_m xs0 7 rfl _) _ (ld_A xs1 7 rfl _),
    pieceA x0 x1 x2 xs0 xs1 6 rfl rfl _ _ _ (inb_A 6) _ (ld_m xs0 6 rfl _) _ (ld_A xs1 6 rfl _),
    pieceA x0 x1 x2 xs0 xs1 5 rfl rfl _ _ _ (inb_A 5) _ (ld_m xs0 5 rfl _) _ (ld_A xs1 5 rfl _),
    pieceA x0 x1 x2 xs0 xs1 4 rfl rfl _ _ _ (inb_A 4) _ (ld_m xs0 4 rfl _) _ (ld_A xs1 4 rfl _),
    pieceA x0 x1 x2 xs0 xs1 3 rfl rfl _ _ _ (inb_A 3) _ (ld_m xs0 3 rfl _) _ (ld_A xs1 3 rfl _),
    pieceA x0 x1 x2 xs0 xs1 2 rfl rfl _ _ _ (inb_A 2) _ (ld_m xs0 2 rfl _) _ (ld_A xs1 2 rfl _),
    pieceA x0 x1 x2 xs0 xs1 1 rfl rfl _ _ _ (inb_A 1) _ (ld_m xs0 1 rfl _) _ (ld_A xs1 1 rfl _),
    pieceA x0 x1 x2 xs0 xs1 0 rfl rfl _ _ _ (inb_A 0) _ (ld_m xs0 0 rfl _) _ (ld_A xs1 0 rfl _), trivial⟩
  case lA => exact (fun h => match h with | ⟨0, _⟩ => ⟨_, .tail _ (.tail _ (.tail _ (.tail _ (.tail _ (.tail _ (.tail _ (.head _))))))), rfl⟩ | ⟨1, _⟩ => ⟨_, .tail _ (.tail _ (.tail _ (.tail _ (.tail _ (.tail _ (.head _)))))), rfl⟩ | ⟨2, _⟩ => ⟨_, .tail _ (.tail _ (.tail _ (.tail _ (.tail _ (.head _))))), rfl⟩ | ⟨3, _⟩ => ⟨_, .tail _ (.tail _ (.tail _ (.tail _ (.head _)))), rfl⟩ | ⟨4, _⟩ => ⟨_, .tail _ (.tail _ (.tail _ (.head _))), rfl⟩ | ⟨5, _⟩ => ⟨_, .tail _ (.tail _ (.head _)), rfl⟩ | ⟨6, _⟩ => ⟨_, .tail _ (.head _), rfl⟩ | ⟨7, _⟩ => ⟨_, .head _, rfl⟩)

theorem out_C_4 (hc0 : ¬cond0_0 i) (hc1 : cond0_1 i) :
    out0_C_4 c i arg2 harg2 arg3 harg3 arg4 harg4 arg5 harg5 arg6 harg6 arg7 harg7 arg8 harg8 hc0 hc1 x0 x1 x2 xs0 xs1 = gL (gM x0 x1 xs0) (gA x0 x1 x2 xs0 xs1) := by
  unfold out0_C_4
  rw [View.read_writes_eq_canon _ _ _ (cover0_C_4 c i arg2 harg2 arg3 harg3 arg4 harg4 arg5 harg5 arg6 harg6 arg7 harg7 arg8 harg8 hc0 hc1 x0 x1 x2 xs0 xs1)]
  funext y
  refine View.canon_apply_of_pieces (gL (gM x0 x1 xs0) (gA x0 x1 x2 xs0 xs1)) _ ?_ y (cover0_C_4 c i arg2 harg2 arg3 harg3 arg4 harg4 arg5 harg5 arg6 harg6 arg7 harg7 arg8 harg8 hc0 hc1 x0 x1 x2 xs0 xs1 y)
  refine View.PiecesOf.mem (Val := Elt Ideal) (s := S8x1x512) (e := .f32) (G := gL (gM x0 x1 xs0) (gA x0 x1 x2 xs0 xs1)) ?_
  unfold kernelRun0_C
  dsimp only
  sl_unfold_words
  simp only [View.readAt_eq_ld, harg2.read_unread, harg3.read_unread, harg4.read_unread, harg7.read_unread, harg8.read_unread]
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84]
  refine ⟨pieceL (gM x0 x1 xs0) (gA x0 x1 x2 xs0 xs1) 7 rfl (inb_m 7) _ (back_m arg7.view (G := gM x0 x1 xs0) ?pM ?lM 7 rfl _) _ (back_A arg8.view (G := gA x0 x1 x2 xs0 xs1) ?pA ?lA 7 rfl _),
    pieceL (gM x0 x1 xs0) (gA x0 x1 x2 xs0 xs1) 6 rfl (inb_m 6) _ (back_m arg7.view (G := gM x0 x1 xs0) ?pM ?lM 6 rfl _) _ (back_A arg8.view (G := gA x0 x1 x2 xs0 xs1) ?pA ?lA 6 rfl _),
    pieceL (gM x0 x1 xs0) (gA x0 x1 x2 xs0 xs1) 5 rfl (inb_m 5) _ (back_m arg7.view (G := gM x0 x1 xs0) ?pM ?lM 5 rfl _) _ (back_A arg8.view (G := gA x0 x1 x2 xs0 xs1) ?pA ?lA 5 rfl _),
    pieceL (gM x0 x1 xs0) (gA x0 x1 x2 xs0 xs1) 4 rfl (inb_m 4) _ (back_m arg7.view (G := gM x0 x1 xs0) ?pM ?lM 4 rfl _) _ (back_A arg8.view (G := gA x0 x1 x2 xs0 xs1) ?pA ?lA 4 rfl _),
    pieceL (gM x0 x1 xs0) (gA x0 x1 x2 xs0 xs1) 3 rfl (inb_m 3) _ (back_m arg7.view (G := gM x0 x1 xs0) ?pM ?lM 3 rfl _) _ (back_A arg8.view (G := gA x0 x1 x2 xs0 xs1) ?pA ?lA 3 rfl _),
    pieceL (gM x0 x1 xs0) (gA x0 x1 x2 xs0 xs1) 2 rfl (inb_m 2) _ (back_m arg7.view (G := gM x0 x1 xs0) ?pM ?lM 2 rfl _) _ (back_A arg8.view (G := gA x0 x1 x2 xs0 xs1) ?pA ?lA 2 rfl _),
    pieceL (gM x0 x1 xs0) (gA x0 x1 x2 xs0 xs1) 1 rfl (inb_m 1) _ (back_m arg7.view (G := gM x0 x1 xs0) ?pM ?lM 1 rfl _) _ (back_A arg8.view (G := gA x0 x1 x2 xs0 xs1) ?pA ?lA 1 rfl _),
    pieceL (gM x0 x1 xs0) (gA x0 x1 x2 xs0 xs1) 0 rfl (inb_m 0) _ (back_m arg7.view (G := gM x0 x1 xs0) ?pM ?lM 0 rfl _) _ (back_A arg8.view (G := gA x0 x1 x2 xs0 xs1) ?pA ?lA 0 rfl _), trivial⟩
  case pA => exact ⟨pieceA x0 x1 x2 xs0 xs1 7 rfl rfl _ _ _ (inb_A 7) _ (ld_m xs0 7 rfl _) _ (ld_A xs1 7 rfl _),
    pieceA x0 x1 x2 xs0 xs1 6 rfl rfl _ _ _ (inb_A 6) _ (ld_m xs0 6 rfl _) _ (ld_A xs1 6 rfl _),
    pieceA x0 x1 x2 xs0 xs1 5 rfl rfl _ _ _ (inb_A 5) _ (ld_m xs0 5 rfl _) _ (ld_A xs1 5 rfl _),
    pieceA x0 x1 x2 xs0 xs1 4 rfl rfl _ _ _ (inb_A 4) _ (ld_m xs0 4 rfl _) _ (ld_A xs1 4 rfl _),
    pieceA x0 x1 x2 xs0 xs1 3 rfl rfl _ _ _ (inb_A 3) _ (ld_m xs0 3 rfl _) _ (ld_A xs1 3 rfl _),
    pieceA x0 x1 x2 xs0 xs1 2 rfl rfl _ _ _ (inb_A 2) _ (ld_m xs0 2 rfl _) _ (ld_A xs1 2 rfl _),
    pieceA x0 x1 x2 xs0 xs1 1 rfl rfl _ _ _ (inb_A 1) _ (ld_m xs0 1 rfl _) _ (ld_A xs1 1 rfl _),
    pieceA x0 x1 x2 xs0 xs1 0 rfl rfl _ _ _ (inb_A 0) _ (ld_m xs0 0 rfl _) _ (ld_A xs1 0 rfl _), trivial⟩
  case lA => exact (fun h => match h with | ⟨0, _⟩ => ⟨_, .tail _ (.tail _ (.tail _ (.tail _ (.tail _ (.tail _ (.tail _ (.head _))))))), rfl⟩ | ⟨1, _⟩ => ⟨_, .tail _ (.tail _ (.tail _ (.tail _ (.tail _ (.tail _ (.head _)))))), rfl⟩ | ⟨2, _⟩ => ⟨_, .tail _ (.tail _ (.tail _ (.tail _ (.tail _ (.head _))))), rfl⟩ | ⟨3, _⟩ => ⟨_, .tail _ (.tail _ (.tail _ (.tail _ (.head _)))), rfl⟩ | ⟨4, _⟩ => ⟨_, .tail _ (.tail _ (.tail _ (.head _))), rfl⟩ | ⟨5, _⟩ => ⟨_, .tail _ (.tail _ (.head _)), rfl⟩ | ⟨6, _⟩ => ⟨_, .tail _ (.head _), rfl⟩ | ⟨7, _⟩ => ⟨_, .head _, rfl⟩)
  case pM => exact ⟨pieceM x0 x1 xs0 7 rfl rfl _ _ (inb_m 7) _ (ld_m xs0 7 rfl _),
    pieceM x0 x1 xs0 6 rfl rfl _ _ (inb_m 6) _ (ld_m xs0 6 rfl _),
    pieceM x0 x1 xs0 5 rfl rfl _ _ (inb_m 5) _ (ld_m xs0 5 rfl _),
    pieceM x0 x1 xs0 4 rfl rfl _ _ (inb_m 4) _ (ld_m xs0 4 rfl _),
    pieceM x0 x1 xs0 3 rfl rfl _ _ (inb_m 3) _ (ld_m xs0 3 rfl _),
    pieceM x0 x1 xs0 2 rfl rfl _ _ (inb_m 2) _ (ld_m xs0 2 rfl _),
    pieceM x0 x1 xs0 1 rfl rfl _ _ (inb_m 1) _ (ld_m xs0 1 rfl _),
    pieceM x0 x1 xs0 0 rfl rfl _ _ (inb_m 0) _ (ld_m xs0 0 rfl _), trivial⟩
  case lM => exact (fun h => match h with | ⟨0, _⟩ => ⟨_, .tail _ (.tail _ (.tail _ (.tail _ (.tail _ (.tail _ (.tail _ (.head _))))))), rfl⟩ | ⟨1, _⟩ => ⟨_, .tail _ (.tail _ (.tail _ (.tail _ (.tail _ (.tail _ (.head _)))))), rfl⟩ | ⟨2, _⟩ => ⟨_, .tail _ (.tail _ (.tail _ (.tail _ (.tail _ (.head _))))), rfl⟩ | ⟨3, _⟩ => ⟨_, .tail _ (.tail _ (.tail _ (.tail _ (.head _)))), rfl⟩ | ⟨4, _⟩ => ⟨_, .tail _ (.tail _ (.tail _ (.head _))), rfl⟩ | ⟨5, _⟩ => ⟨_, .tail _ (.tail _ (.head _)), rfl⟩ | ⟨6, _⟩ => ⟨_, .tail _ (.head _), rfl⟩ | ⟨7, _⟩ => ⟨_, .head _, rfl⟩)
end
end Cert.FwdIdeal.Body
end
-- ==== Proof.FwdAttn.lean ====
module
public import proofs.«01_k».proof.Proof.Attn
public import proofs.«01_k».proof.Proof.FwdPieces
public import Idealize.ShloMosaic.Lib.Pointwise.Sums
@[expose] public section
noncomputable section
open Idealize.ShloMosaic

/-! The forward pass in real numbers: weighted sums of powers of two about any reference point. -/

namespace Cert.Attn

section
variable (q k : Fin 16384 → Fin 8 → Fin 96 → ℝ) (v : Fin 16384 → Fin 8 → Fin 64 → ℝ)

theorem s_ker (h : Fin 8) (a b : Fin 16384) : ∑ d, k b h d * (q a h d / Real.sqrt 96 / Real.log 2) = S q k h a b / Real.log 2 := by
  unfold S
  rw [Finset.sum_div]
  exact Finset.sum_congr rfl fun d _ => by ring

/-- A power of two about a reference point is the exponential about the largest score, times a factor of the row. -/
theorem w_ker (h : Fin 8) (a b : Fin 16384) (μ : ℝ) :
    (2 : ℝ) ^ (S q k h a b / Real.log 2 - μ) = e q k h a b * Real.exp (M q k h a - μ * Real.log 2) := by
  rw [Real.rpow_def_of_pos (by norm_num), e, ← Real.exp_add]
  congr 1
  have := l2
  field_simp
  ring

theorem w_sum (h : Fin 8) (a : Fin 16384) (μ : ℝ) :
    ∑ b, (2 : ℝ) ^ (S q k h a b / Real.log 2 - μ) = l q k h a * Real.exp (M q k h a - μ * Real.log 2) := by
  simp only [w_ker]
  rw [← Finset.sum_mul]; rfl

theorem w_sum_pos (h : Fin 8) (a : Fin 16384) (μ : ℝ) : 0 < ∑ b, (2 : ℝ) ^ (S q k h a b / Real.log 2 - μ) := by
  rw [w_sum]; exact mul_pos (l_pos q k h a) (Real.exp_pos _)

/-- The output does not depend on the reference point. -/
theorem o_ker (h : Fin 8) (a : Fin 16384) (x : Fin 64) (μ : ℝ) :
    (∑ b, v b h x * (2 : ℝ) ^ (S q k h a b / Real.log 2 - μ)) / ∑ b, (2 : ℝ) ^ (S q k h a b / Real.log 2 - μ)
      = ∑ b, v b h x * p q k h a b := by
  rw [w_sum, Finset.sum_div]
  refine Finset.sum_congr rfl fun b _ => ?_
  rw [w_ker, p]
  have hl := (l_pos q k h a).ne'
  have he := (Real.exp_pos (M q k h a - μ * Real.log 2)).ne'
  field_simp

/-- Neither does the row statistic. -/
theorem l_ker (h : Fin 8) (a : Fin 16384) (μ : ℝ) :
    μ + Real.log (∑ b, (2 : ℝ) ^ (S q k h a b / Real.log 2 - μ)) * (Real.log 2)⁻¹ = (M q k h a + Real.log (l q k h a)) / Real.log 2 := by
  rw [w_sum, Real.log_mul (l_pos q k h a).ne' (Real.exp_pos _).ne', Real.log_exp]
  have := l2
  field_simp
  ring
end

end Cert.Attn

namespace Cert.FwdIdeal.Body
open Cert.FwdIdeal Cert.Attn
open Cert.KernelIdeal.Body (c128)

section
variable (x0 : S512x1024.Idx → EReal) (x1 : S4096x1024.Idx → EReal) (x2 : S1024x4096.Idx → EReal) (m : S8x1x512.Idx → EReal) (A : S8x128x512.Idx → EReal)
  (h : Fin 8) (b : Fin 512) {s : Fin 4096 → ℝ} {x : Fin 128 → Fin 4096 → ℝ}
  (hs : ∀ a, gS x0 x1 h a b = (s a : EReal)) (hx : ∀ r a, x2 (ix2 (c128 h r) a) = (x r a : EReal))

include hs in
/-- A block's largest score is real. -/
theorem top_r : Finset.fold max (Ideal.ofBits .f32 0xFF800000#32) (fun a => gS x0 x1 h a b) Finset.univ
    = ((Finset.fold max (⊥ : EReal) (fun a => (s a : EReal)) Finset.univ).toReal : EReal) := by
  simp only [hs, litBot]
  exact foldmax s

include hs hx in
theorem sum_r (ν : ℝ) (r : Fin 128) : ∑ a : Fin 4096, x2 (ix2 (c128 h r) a) * Ideal.exp2 (gS x0 x1 h a b - (ν : EReal))
    = ((∑ a, x r a * (2 : ℝ) ^ (s a - ν) : ℝ) : EReal) := by
  simp only [hs, hx, ← EReal.coe_sub, Ideal.exp2_coe, ← EReal.coe_mul]
  exact esum _

include hs hx in
/-- The first block of keys. -/
theorem step_first (hm : m (ix3 h 0 b) = Ideal.ofBits .f32 0xFF800000#32) (hA : ∀ r, A (ix3 h r b) = Ideal.ofBits .f32 0x00000000#32) :
    ∃ ν : ℝ, gM x0 x1 m (ix3 h 0 b) = (ν : EReal) ∧ ∀ r, gA x0 x1 x2 m A (ix3 h r b) = ((∑ a, x r a * (2 : ℝ) ^ (s a - ν) : ℝ) : EReal) := by
  have hN : gN x0 x1 m h b = (((Finset.fold max (⊥ : EReal) (fun a => (s a : EReal)) Finset.univ).toReal : ℝ) : EReal) := by
    rw [gN, hm, top_r x0 x1 h b hs, litBot]; exact max_eq_right bot_le
  refine ⟨_, hN, fun r => ?_⟩
  show Ideal.exp2 (m (ix3 h 0 b) - gN x0 x1 m h b) * A (ix3 h r b) + ∑ a : Fin 4096, x2 (ix2 (c128 h r) a) * Ideal.exp2 (gS x0 x1 h a b - gN x0 x1 m h b) = _
  rw [hN, hA, Ideal.ofBits_zero_f32, mul_zero, zero_add, sum_r x0 x1 x2 h b hs hx]

include hs hx in
/-- A later block of keys. -/
theorem step_next {μ : ℝ} {y : Fin 128 → ℝ} (hm : m (ix3 h 0 b) = (μ : EReal)) (hA : ∀ r, A (ix3 h r b) = (y r : EReal)) :
    ∃ ν : ℝ, gM x0 x1 m (ix3 h 0 b) = (ν : EReal)
      ∧ ∀ r, gA x0 x1 x2 m A (ix3 h r b) = (((2 : ℝ) ^ (μ - ν) * y r + ∑ a, x r a * (2 : ℝ) ^ (s a - ν) : ℝ) : EReal) := by
  have hN : gN x0 x1 m h b = ((max μ (Finset.fold max (⊥ : EReal) (fun a => (s a : EReal)) Finset.univ).toReal : ℝ) : EReal) := by
    rw [gN, hm, top_r x0 x1 h b hs]; exact (EReal.coe_strictMono.monotone.map_max).symm
  refine ⟨_, hN, fun r => ?_⟩
  show Ideal.exp2 (m (ix3 h 0 b) - gN x0 x1 m h b) * A (ix3 h r b) + ∑ a : Fin 4096, x2 (ix2 (c128 h r) a) * Ideal.exp2 (gS x0 x1 h a b - gN x0 x1 m h b) = _
  rw [hN, hA, hm, sum_r x0 x1 x2 h b hs hx, ← EReal.coe_sub, Ideal.exp2_coe, ← EReal.coe_mul, ← EReal.coe_add]
  rfl
end
end Cert.FwdIdeal.Body
end
-- ==== Proof.FwdAcc.lean ====
module
public import proofs.«01_k».proof.Proof.FwdBody
public import proofs.«01_k».proof.Proof.FwdAttn
public import proofs.«01_k».proof.Proof.Gen.FwdIdeal.Value
@[expose] public section
noncomputable section
open Idealize.ShloMosaic Idealize.ShloMosaic.TcCoe Idealize.SL.Sem Idealize.ShloMosaic.Pipeline
namespace Cert.FwdIdeal.Acc
open Cert.FwdIdeal Cert.FwdIdeal.Gen Cert.FwdIdeal.Facts Cert.FwdIdeal.Body Cert.Attn
open Cert.KernelIdeal.Body (c128 c64 h64)

/-! What the forward pass's two result arrays hold after the run, for real operands. -/

/-- Key `a` of block `j` of 4096 keys (the block's number counted round the 4 blocks). -/
def keyRow (j : ℕ) (a : Fin 4096) : Fin 16384 := ⟨(4096 * j + a.val) % 16384, Nat.mod_lt _ (by omega)⟩

theorem keyRow_val {j : ℕ} (hj : j < 4) (a : Fin 4096) : (keyRow j a).val = 4096 * j + a.val := Nat.mod_eq_of_lt (by omega)

/-- Query `b` of block `i` of 512 queries (the block's number counted round the 32 blocks). -/
def qRow (i : ℕ) (b : Fin 512) : Fin 16384 := ⟨(512 * i + b.val) % 16384, Nat.mod_lt _ (by omega)⟩

theorem qRow_val {i : ℕ} (hi : i < 32) (b : Fin 512) : (qRow i b).val = 512 * i + b.val := Nat.mod_eq_of_lt (by omega)

/-- The sum over all keys is the sum over the 4 blocks of the sums over their keys. -/
theorem sum_keys (f : Fin 16384 → ℝ) : ∑ j ∈ Finset.range 4, ∑ a : Fin 4096, f (keyRow j a) = ∑ a, f a := by
  rw [Fin.sum_univ_tiles 4 4096 (by norm_num) f, Finset.sum_range]
  refine Finset.sum_congr rfl fun i _ => Finset.sum_congr rfl fun a _ => congrArg f (Fin.ext ?_)
  rw [keyRow_val i.isLt]; show 4096 * i.val + a.val = i.val * 4096 + a.val; omega

section Real
variable (Q K : Fin 16384 → Fin 1024 → ℝ) (X : Fin 1024 → Fin 16384 → ℝ)

/-- The score of key `a` and query `b`, head `h`. -/
def sR (h : Fin 8) (b a : Fin 16384) : ℝ := ∑ d : Fin 128, K a (c128 h d) * Q b (c128 h d)

/-- A weighted sum of one block of keys about the reference point `μ`. -/
def tR (h : Fin 8) (b : Fin 16384) (μ : ℝ) (r : Fin 128) (j : ℕ) : ℝ :=
  ∑ a : Fin 4096, X (c128 h r) (keyRow j a) * (2 : ℝ) ^ (sR Q K h b (keyRow j a) - μ)

/-- The weighted sum of all keys about the reference point `μ`. -/
def wR (h : Fin 8) (b : Fin 16384) (μ : ℝ) (r : Fin 128) : ℝ :=
  ∑ a, X (c128 h r) a * (2 : ℝ) ^ (sR Q K h b a - μ)

/-- Moving the reference point multiplies a block's sum by a power of two. -/
theorem tR_move (h : Fin 8) (b : Fin 16384) (μ ν : ℝ) (r : Fin 128) (j : ℕ) : (2 : ℝ) ^ (μ - ν) * tR Q K X h b μ r j = tR Q K X h b ν r j := by
  unfold tR
  rw [Finset.mul_sum]
  refine Finset.sum_congr rfl fun a _ => ?_
  rw [mul_left_comm, ← Real.rpow_add (by norm_num)]
  congr 2; ring
end Real

variable (m : (ℓ : Loc nD τ sig) → Buf (Elt Ideal) ℓ) (c : Dev nD)

abbrev Y0 : S16384x1024.Idx → EReal := V m c main_v8
abbrev Y1 : S16384x1024.Idx → EReal := V m c main_v11
abbrev Y2 : S1024x16384.Idx → EReal := V m c main_v17

/-! ## The blocks a point stages -/

theorem idx0 : ∀ t : Fin cfg0.N, win0_0.index t 0 = t.val / 4 ∧ win0_0.index t 1 = 0 := by decide +kernel
theorem idx1 : ∀ t : Fin cfg0.N, win0_1.index t 0 = t.val % 4 ∧ win0_1.index t 1 = 0 := by decide +kernel
theorem idx2 : ∀ t : Fin cfg0.N, win0_2.index t 0 = 0 ∧ win0_2.index t 1 = t.val % 4 := by decide +kernel
theorem idx3 : ∀ t : Fin cfg0.N, win0_3.index t 0 = t.val / 4 ∧ win0_3.index t 1 = 0 := by decide +kernel
theorem idx4 : ∀ t : Fin cfg0.N, win0_4.index t 0 = 0 ∧ win0_4.index t 1 = 0 ∧ win0_4.index t 2 = t.val / 4 := by decide +kernel

theorem lt_N (t : Fin cfg0.N) : t.val < 128 := lt_of_lt_of_eq t.isLt N_0

theorem blk0 (t : Fin cfg0.N) (x : Fin 512) (y : Fin 1024) :
    (iblk m c 0 t : Vec Ideal S512x1024 .bf16) (ix2 x y) = Y0 m c (ix2 (qRow (t.val / 4) x) y) := by
  unfold iblk
  rw [View.read_apply]
  show V m c main_v8 _ = V m c main_v8 _
  congr 1; funext z; apply Fin.ext
  match z with
  | ⟨0, _⟩ => show win0_0.index t 0 * 512 + 1 * x.val = (qRow (t.val / 4) x).val; rw [(idx0 t).1, qRow_val (by have := lt_N t; omega)]; omega
  | ⟨1, _⟩ => show win0_0.index t 1 * 1024 + 1 * y.val = y.val; rw [(idx0 t).2]; omega

theorem blk1 (t : Fin cfg0.N) (x : Fin 4096) (y : Fin 1024) :
    (iblk m c 1 t : Vec Ideal S4096x1024 .bf16) (ix2 x y) = Y1 m c (ix2 (keyRow (t.val % 4) x) y) := by
  unfold iblk
  rw [View.read_apply]
  show V m c main_v11 _ = V m c main_v11 _
  congr 1; funext z; apply Fin.ext
  match z with
  | ⟨0, _⟩ => show win0_1.index t 0 * 4096 + 1 * x.val = (keyRow (t.val % 4) x).val; rw [(idx1 t).1, keyRow_val (by omega)]; omega
  | ⟨1, _⟩ => show win0_1.index t 1 * 1024 + 1 * y.val = y.val; rw [(idx1 t).2]; omega

theorem blk2 (t : Fin cfg0.N) (x : Fin 1024) (y : Fin 4096) :
    (iblk m c 2 t : Vec Ideal S1024x4096 .bf16) (ix2 x y) = Y2 m c (ix2 x (keyRow (t.val % 4) y)) := by
  unfold iblk
  rw [View.read_apply]
  show V m c main_v17 _ = V m c main_v17 _
  congr 1; funext z; apply Fin.ext
  match z with
  | ⟨0, _⟩ => show win0_2.index t 0 * 1024 + 1 * x.val = x.val; rw [(idx2 t).1]; omega
  | ⟨1, _⟩ => show win0_2.index t 1 * 4096 + 1 * y.val = (keyRow (t.val % 4) y).val; rw [(idx2 t).2, keyRow_val (by omega)]; omega

variable {Q K : Fin 16384 → Fin 1024 → ℝ} {X : Fin 1024 → Fin 16384 → ℝ}
  (hQ : ∀ a r, Y0 m c (ix2 a r) = (Q a r : EReal)) (hK : ∀ a r, Y1 m c (ix2 a r) = (K a r : EReal)) (hX : ∀ r a, Y2 m c (ix2 r a) = (X r a : EReal))

include hQ hK in
/-- A block's scores are the whole arrays'. -/
theorem gS_eq (t : Fin cfg0.N) (h : Fin 8) (a : Fin 4096) (b : Fin 512) :
    gS (iblk m c 0 t) (iblk m c 1 t) h a b = (sR Q K h (qRow (t.val / 4) b) (keyRow (t.val % 4) a) : EReal) := by
  unfold gS sR
  refine Eq.trans (Finset.sum_congr rfl fun d _ => ?_) (esum fun d : Fin 128 => K (keyRow (t.val % 4) a) (c128 h d) * Q (qRow (t.val / 4) b) (c128 h d))
  rw [EReal.coe_mul]
  exact congrArg₂ (· * ·) ((blk1 m c t a _).trans (hK _ _)) ((blk0 m c t b _).trans (hQ _ _))

include hX in
theorem gX_eq (t : Fin cfg0.N) (h : Fin 8) (r : Fin 128) (a : Fin 4096) :
    (iblk m c 2 t : Vec Ideal S1024x4096 .bf16) (ix2 (c128 h r) a) = (X (c128 h r) (keyRow (t.val % 4) a) : EReal) :=
  (blk2 m c t _ a).trans (hX _ _)

/-! ## The accumulators -/

include hQ hK hX in
/-- After each point the accumulator holds the weighted sums of the keys so far about the kept reference point. -/
theorem at_acc (n : ℕ) (hn : n < cfg0.N) (h : Fin 8) (b : Fin 512) : ∃ μ : ℝ, (outsAt0 m c n hn).2.2.1 (ix3 h 0 b) = (μ : EReal)
    ∧ ∀ r, (outsAt0 m c n hn).2.2.2 (ix3 h r b) = ((∑ j ∈ Finset.range (n % 4 + 1), tR Q K X h (qRow (n / 4) b) μ r j : ℝ) : EReal) := by
  induction n using Nat.strong_induction_on with
  | _ n ih =>
    have hs := fun a => gS_eq m c hQ hK ⟨n, hn⟩ h a b
    have hx := fun r a => gX_eq m c hX ⟨n, hn⟩ h r a
    by_cases h0 : n % 4 = 0
    · have h1 : ¬ n % 4 = 3 := by omega
      rw [outsAt0_A m c ⟨n, hn⟩ h0 h1]
      dsimp only
      rw [sout_A_0, sout_A_1]
      obtain ⟨ν, e1, e2⟩ := step_first (iblk m c 0 ⟨n, hn⟩) (iblk m c 1 ⟨n, hn⟩) (iblk m c 2 ⟨n, hn⟩) (fun _ => Ideal.ofBits .f32 0xFF800000#32)
        (fun _ => Ideal.ofBits .f32 0x00000000#32) h b hs hx rfl fun _ => rfl
      refine ⟨ν, e1, fun r => (e2 r).trans ?_⟩
      rw [h0, Finset.sum_range_one]
      simp only [tR, h0]
    · have hp : n - 1 < n := by omega
      obtain ⟨μ, i1, i2⟩ := ih (n - 1) hp (by omega)
      obtain ⟨ν, e1, e2⟩ := step_next (iblk m c 0 ⟨n, hn⟩) (iblk m c 1 ⟨n, hn⟩) (iblk m c 2 ⟨n, hn⟩) (outsAt0 m c (n - 1) (by omega)).2.2.1
        (outsAt0 m c (n - 1) (by omega)).2.2.2 h b hs hx i1 i2
      have e3 : ∀ r : Fin 128, ((2 : ℝ) ^ (μ - ν) * (∑ j ∈ Finset.range ((n - 1) % 4 + 1), tR Q K X h (qRow ((n - 1) / 4) b) μ r j)
          + ∑ a, X (c128 h r) (keyRow (n % 4) a) * (2 : ℝ) ^ (sR Q K h (qRow (n / 4) b) (keyRow (n % 4) a) - ν))
          = ∑ j ∈ Finset.range (n % 4 + 1), tR Q K X h (qRow (n / 4) b) ν r j := by
        intro r
        rw [show (n - 1) % 4 + 1 = n % 4 by omega, show (n - 1) / 4 = n / 4 by omega, Finset.sum_range_succ, Finset.mul_sum]
        simp only [tR_move]
        rfl
      by_cases h1 : n % 4 = 3
      · rw [outsAt0_C m c ⟨n, hn⟩ h0 h1]
        dsimp only
        rw [sout_C_0, sout_C_1]
        exact ⟨ν, e1, fun r => (e2 r).trans (congrArg _ (e3 r))⟩
      · rw [outsAt0_B m c ⟨n, hn⟩ h0 h1]
        dsimp only
        rw [sout_B_0, sout_B_1]
        exact ⟨ν, e1, fun r => (e2 r).trans (congrArg _ (e3 r))⟩

include hQ hK hX in
/-- After a query block's last point the accumulator holds the weighted sums of all keys. -/
theorem at_last (t : Fin cfg0.N) (h3 : t.val % 4 = 3) (h : Fin 8) (b : Fin 512) : ∃ μ : ℝ, (outsAt0 m c t.val t.isLt).2.2.1 (ix3 h 0 b) = (μ : EReal)
    ∧ ∀ r, (outsAt0 m c t.val t.isLt).2.2.2 (ix3 h r b) = (wR Q K X h (qRow (t.val / 4) b) μ r : EReal) := by
  obtain ⟨μ, e1, e2⟩ := at_acc m c hQ hK hX t.val t.isLt h b
  refine ⟨μ, e1, fun r => (e2 r).trans ?_⟩
  rw [h3]
  exact congrArg _ (sum_keys fun a => X (c128 h r) a * (2 : ℝ) ^ (sR Q K h (qRow (t.val / 4) b) a - μ))

/-- The last point's results are the accumulator's. -/
theorem at_out (t : Fin cfg0.N) (h3 : t.val % 4 = 3) : (outsAt0 m c t.val t.isLt).1 = gO (outsAt0 m c t.val t.isLt).2.2.2
    ∧ (outsAt0 m c t.val t.isLt).2.1 = gL (outsAt0 m c t.val t.isLt).2.2.1 (outsAt0 m c t.val t.isLt).2.2.2 := by
  rw [outsAt0_C m c t (by omega) h3]
  dsimp only
  rw [out_C_3, out_C_4, sout_C_0, sout_C_1]
  exact ⟨rfl, rfl⟩

/-! ## The result arrays -/

/-- The output divides a value row's sum by the ones row's, about some reference point. -/
def IsO (G : S16384x512.Idx → EReal) (Q K : Fin 16384 → Fin 1024 → ℝ) (X : Fin 1024 → Fin 16384 → ℝ) : Prop :=
  ∀ (y : S16384x512.Idx) (μ : ℝ), Ideal.div (wR Q K X (h64 (y 1)) (y 0) μ (r64 (y 1)) : EReal) (wR Q K X (h64 (y 1)) (y 0) μ 64 : EReal) = G y

/-- The row statistic is the reference point plus the logarithm of the ones row's sum. -/
def IsL (G : S8x1x16384.Idx → EReal) (Q K : Fin 16384 → Fin 1024 → ℝ) (X : Fin 1024 → Fin 16384 → ℝ) : Prop :=
  ∀ (y : S8x1x16384.Idx) (μ : ℝ), (μ : EReal) + Ideal.log (wR Q K X (y 0) (y 2) μ 64 : EReal) * log2e = G y

include hQ hK hX in
theorem last3 {G : S16384x512.Idx → EReal} (hG : IsO G Q K X) (t : Fin cfg0.N) (h3 : t.val % 4 = 3) (z : S512x512.Idx) (y : S16384x512.Idx)
    (h0 : y 0 = qRow (t.val / 4) (z 0)) (h1 : y 1 = z 1) : (outsAt0 m c t.val t.isLt).1 z = G y := by
  obtain ⟨μ, -, e⟩ := at_last m c hQ hK hX t h3 (h64 (z 1)) (z 0)
  rw [(at_out m c t h3).1, ← hG y μ, h0, h1]
  exact congrArg₂ Ideal.div (e _) (e _)

include hQ hK hX in
theorem last4 {G : S8x1x16384.Idx → EReal} (hG : IsL G Q K X) (t : Fin cfg0.N) (h3 : t.val % 4 = 3) (z : S8x1x512.Idx) (y : S8x1x16384.Idx)
    (h0 : y 0 = z 0) (h2 : y 2 = qRow (t.val / 4) (z 2)) : (outsAt0 m c t.val t.isLt).2.1 z = G y := by
  obtain ⟨μ, e1, e2⟩ := at_last m c hQ hK hX t h3 (z 0) (z 2)
  rw [(at_out m c t h3).2, ← hG y μ, h0, h2]
  have hz : z = ix3 (z 0) 0 (z 2) := (eq_ix3 z).trans (congrArg (fun w => ix3 (z 0) w (z 2)) (Subsingleton.elim (α := Fin 1) _ _))
  exact congrArg₂ (fun u w : EReal => u + Ideal.log w * log2e) ((congrArg _ hz).trans e1) (e2 _)

include hQ hK hX in
/-- The first result array. -/
theorem final3 {G : S16384x512.Idx → EReal} (hG : IsO G Q K X) : (dats m 0 c).arrAt 3 cfg0.N = G := by
  refine (dats m 0 c).arrAt_eq_of_cover 3 G (fun t hf => ?_) fun (y : S16384x512.Idx) => ?_
  · rw [Value.flushed3]
    funext z
    rw [View.read_apply]
    refine last3 m c hQ hK hX hG t ((flush0_3 t).mp hf) z _ (Fin.ext ?_) (Fin.ext ?_)
    · show win0_3.index t 0 * 512 + 1 * (z 0).val = (qRow (t.val / 4) (z 0)).val
      refine Eq.trans ?_ (qRow_val (i := t.val / 4) (by have := lt_N t; omega) (z 0)).symm
      rw [(idx3 t).1]; omega
    · show win0_3.index t 1 * 512 + 1 * (z 1).val = (z 1).val
      rw [(idx3 t).2]; omega
  · have h0 : (y 0 : Nat) < 16384 := (y 0).isLt
    have h1 : (y 1 : Nat) < 512 := (y 1).isLt
    have hN : 4 * ((y 0 : Nat) / 512) + 3 < cfg0.N := by rw [show cfg0.N = 128 from N_0]; omega
    refine ⟨⟨4 * ((y 0 : Nat) / 512) + 3, hN⟩, (flush0_3 _).mpr (by dsimp only; omega), ?_⟩
    show y ∈ ((View.whole main_v18_0).slice (win0_3.rect ⟨4 * ((y 0 : Nat) / 512) + 3, hN⟩)).set
    rw [View.set_slice_whole, Rect.mem_set_unit]
    intro a
    have e := idx3 ⟨4 * ((y 0 : Nat) / 512) + 3, hN⟩
    dsimp only at e
    match a with
    | ⟨0, _⟩ => show win0_3.index _ 0 * 512 ≤ (y 0 : Nat) ∧ (y 0 : Nat) < win0_3.index _ 0 * 512 + 512; rw [e.1]; omega
    | ⟨1, _⟩ => show win0_3.index _ 1 * 512 ≤ (y 1 : Nat) ∧ (y 1 : Nat) < win0_3.index _ 1 * 512 + 512; rw [e.2]; omega

include hQ hK hX in
/-- The second result array. -/
theorem final4 {G : S8x1x16384.Idx → EReal} (hG : IsL G Q K X) : (dats m 0 c).arrAt 4 cfg0.N = G := by
  refine (dats m 0 c).arrAt_eq_of_cover 4 G (fun t hf => ?_) fun (y : S8x1x16384.Idx) => ?_
  · rw [Value.flushed4]
    funext z
    rw [View.read_apply]
    refine last4 m c hQ hK hX hG t ((flush0_4 t).mp hf) z _ (Fin.ext ?_) (Fin.ext ?_)
    · show win0_4.index t 0 * 8 + 1 * (z 0).val = (z 0).val
      rw [(idx4 t).1]; omega
    · show win0_4.index t 2 * 512 + 1 * (z 2).val = (qRow (t.val / 4) (z 2)).val
      refine Eq.trans ?_ (qRow_val (i := t.val / 4) (by have := lt_N t; omega) (z 2)).symm
      rw [(idx4 t).2.2]; omega
  · have h0 : (y 0 : Nat) < 8 := (y 0).isLt
    have h1 : (y 1 : Nat) < 1 := (y 1).isLt
    have h2 : (y 2 : Nat) < 16384 := (y 2).isLt
    have hN : 4 * ((y 2 : Nat) / 512) + 3 < cfg0.N := by rw [show cfg0.N = 128 from N_0]; omega
    refine ⟨⟨4 * ((y 2 : Nat) / 512) + 3, hN⟩, (flush0_4 _).mpr (by dsimp only; omega), ?_⟩
    show y ∈ ((View.whole main_v18_1).slice (win0_4.rect ⟨4 * ((y 2 : Nat) / 512) + 3, hN⟩)).set
    rw [View.set_slice_whole, Rect.mem_set_unit]
    intro a
    have e := idx4 ⟨4 * ((y 2 : Nat) / 512) + 3, hN⟩
    dsimp only at e
    match a with
    | ⟨0, _⟩ => show win0_4.index _ 0 * 8 ≤ (y 0 : Nat) ∧ (y 0 : Nat) < win0_4.index _ 0 * 8 + 8; rw [e.1]; omega
    | ⟨1, _⟩ => show win0_4.index _ 1 * 1 ≤ (y 1 : Nat) ∧ (y 1 : Nat) < win0_4.index _ 1 * 1 + 1; rw [e.2.1]; omega
    | ⟨2, _⟩ => show win0_4.index _ 2 * 512 ≤ (y 2 : Nat) ∧ (y 2 : Nat) < win0_4.index _ 2 * 512 + 512; rw [e.2.2]; omega

end Cert.FwdIdeal.Acc
end
-- ==== Proof.FwdHost.lean ====
module
public import proofs.«01_k».proof.Proof.FwdAcc
public import proofs.«01_k».proof.Proof.AttnKer
public import proofs.«01_k».proof.Proof.Gen.FwdRefIdeal.Run
@[expose] public section
noncomputable section
open Idealize.ShloMosaic Idealize.ShloMosaic.TcCoe Idealize.SL.Sem Idealize.ShloMosaic.StableHlo

/-! The forward pass's operands and results at finite arguments. -/

namespace Cert.FwdIdeal.Host0
open Cert.FwdIdeal Cert.FwdIdeal.Gen Cert.FwdIdeal.Facts
open Cert.KernelIdeal.Host0 (qn wide wide_apply flat flat_apply lsOf mx su ouOf prOf ex qn_r ls_r ou_r)

/-- The values, a column of ones and 63 columns of zeros, head by head. -/
abbrev cols (v : FVec Ideal S16384x8x64 .f32) : List ((s : Shape) × (s.Idx → EReal)) :=
  [⟨S16384x8x64, v⟩, ⟨S16384x8x1, broadcastInDim S16384x8x1 ![] bcast_S_S16384x8x1 (constant (F := Ideal) S_ .f32 0x3F800000#32)⟩,
    ⟨S16384x8x63, broadcastInDim S16384x8x63 ![] bcast_S_S16384x8x63 (constant (F := Ideal) S_ .f32 0x00000000#32)⟩]

/-- Those side by side. -/
def catOf (v : FVec Ideal S16384x8x64 .f32) : FVec Ideal S16384x8x128 .f32 :=
  concatenate S16384x8x128 2 (cols v) concatenates_S16384x8x64_S16384x8x1_S16384x8x63_S16384x8x128_d2

/-- The same, one row per head and column. -/
def vxOf (v : FVec Ideal S16384x8x64 .f32) : FVec Ideal S1024x16384 .bf16 :=
  truncf .bf16 (transpose S1024x16384 [1, 0] (shapeCast S16384x1024 (catOf v) shapeCasts_S16384x8x128_S16384x1024)
    transposes_S16384x1024_S1024x16384_1_0) bitsLt_bf16_f32

theorem cat_apply (v : FVec Ideal S16384x8x64 .f32) (a : Fin 16384) (h : Fin 8) (r : Fin 128) :
    catOf v (ix3 a h r) = if hr : (r : Nat) < 64 then v (ix3 a h ⟨r, hr⟩) else if (r : Nat) = 64 then 1 else 0 := by
  unfold catOf
  by_cases hr : (r : Nat) < 64
  · rw [dif_pos hr]
    exact concatenate_apply_piece 2 (cols v) concatenates_S16384x8x64_S16384x8x1_S16384x8x63_S16384x8x128_d2 (ix3 a h r) 0
      (by show 0 < 3; decide) S16384x8x64 v rfl rfl 0 rfl (ix3 a h ⟨r, hr⟩) (fun b => match b with
      | ⟨0, _⟩ => fun _ => rfl | ⟨1, _⟩ => fun _ => rfl | ⟨2, _⟩ => fun hb => absurd rfl hb) (Nat.zero_add _)
  · rw [dif_neg hr]
    by_cases h6 : (r : Nat) = 64
    · rw [if_pos h6]
      refine (concatenate_apply_piece 2 (cols v) concatenates_S16384x8x64_S16384x8x1_S16384x8x63_S16384x8x128_d2 (ix3 a h r) 1
      (by show 1 < 3; decide) S16384x8x1 _ rfl rfl 64 rfl (ix3 a h 0) (fun b => match b with
        | ⟨0, _⟩ => fun _ => rfl | ⟨1, _⟩ => fun _ => rfl | ⟨2, _⟩ => fun hb => absurd rfl hb) h6.symm).trans ?_
      exact Attn.lit1
    · rw [if_neg h6]
      refine (concatenate_apply_piece 2 (cols v) concatenates_S16384x8x64_S16384x8x1_S16384x8x63_S16384x8x128_d2 (ix3 a h r) 2
      (by show 2 < 3; decide) S16384x8x63 _ rfl rfl 65 rfl (ix3 a h ⟨r - 65, by omega⟩) (fun b => match b with
        | ⟨0, _⟩ => fun _ => rfl | ⟨1, _⟩ => fun _ => rfl | ⟨2, _⟩ => fun hb => absurd rfl hb)
        (by show 65 + (r.val - 65) = r.val; omega)).trans ?_
      exact Ideal.ofBits_zero_f32

open Cert.KernelIdeal.Body (c128 c64) in
theorem vx_apply (v : FVec Ideal S16384x8x64 .f32) (a : Fin 16384) (h : Fin 8) (r : Fin 128) :
    vxOf v (ix2 (c128 h r) a) = catOf v (ix3 a h r) := by
  show transpose S1024x16384 [1, 0] (shapeCast S16384x1024 (catOf v) shapeCasts_S16384x8x128_S16384x1024)
    transposes_S16384x1024_S1024x16384_1_0 (ix2 (c128 h r) a) = _
  refine (transpose_apply [1, 0] _ transposes_S16384x1024_S1024x16384_1_0 _ (ix2 a (c128 h r)) (fun b => match b with | ⟨0, _⟩ => rfl | ⟨1, _⟩ => rfl)).trans ?_
  refine shapeCast_apply _ shapeCasts_S16384x8x128_S16384x1024 _ _ ?_
  rw [Shape.rowMajor_val_three, Shape.rowMajor_val_two]
  show (a.val * 8 + h.val) * 128 + r.val = a.val * 1024 + (128 * h.val + r.val)
  omega

/-- The row statistics in one row per head. -/
def lrow (x : FVec Ideal Cert.FwdRefIdeal.S8x16384x1 .f32) : FVec Ideal S8x1x16384 .f32 :=
  shapeCast S8x1x16384 x Cert.FwdRefIdeal.Gen.facts.shapeCasts_S8x16384x1_S8x1x16384

theorem lrow_apply (x : FVec Ideal Cert.FwdRefIdeal.S8x16384x1 .f32) (h : Fin 8) (a : Fin 16384) : lrow x (ix3 h 0 a) = x (ix3 h a 0) := by
  refine shapeCast_apply _ Cert.FwdRefIdeal.Gen.facts.shapeCasts_S8x16384x1_S8x1x16384 _ _ ?_
  rw [Shape.rowMajor_val_three, Shape.rowMajor_val_three]
  show (h.val * 16384 + a.val) * 1 + 0 = (h.val * 1 + 0) * 16384 + a.val
  omega

variable (m : (ℓ : Loc nD τ sig) → Buf (Elt Ideal) ℓ) (c : Dev nD)

/-- The program's arguments on a device. -/
abbrev aq : FVec Ideal S16384x8x96 .f32 := m ((c.tc : Thread nD τ).loc main_arg0)
abbrev ak : FVec Ideal S16384x8x96 .f32 := m ((c.tc : Thread nD τ).loc main_arg1)
abbrev av : FVec Ideal S16384x8x64 .f32 := m ((c.tc : Thread nD τ).loc main_arg2)

/-- The host's operations, in one list. -/
theorem V_ops (b : Ref sig .tc) : V m c b = after (hostOps0 ++ (hostOps0_1 ++ (hostOps0_2 ++ (hostOps0_3 ++ hostOps0_4)))) (fun b => m (c, b)) b := by
  simp only [V, List.flatten_cons, List.flatten_nil, List.append_nil]

theorem V_v8 : V m c main_v8 = wide (Host.divf (qn (aq m c)) (broadcastInDim S16384x8x96 ![] bcast_S_S16384x8x96
    (Host.log (constant S_ .f32 0x40000000#32)))) := by
  rw [V_ops]; simp only [List.cons_append, List.nil_append]
  after_results; rfl
theorem V_v11 : V m c main_v11 = wide (ak m c) := by
  rw [V_ops]; simp only [List.cons_append, List.nil_append]
  after_results; rfl
theorem V_v17 : V m c main_v17 = vxOf (av m c) := by
  rw [V_ops]; simp only [List.cons_append, List.nil_append]
  after_results; rfl

end Cert.FwdIdeal.Host0

namespace Cert.FwdIdeal.Acc
open Cert.FwdIdeal Cert.FwdIdeal.Gen Cert.FwdIdeal.Facts Cert.FwdIdeal.Body Cert.FwdIdeal.Host0
open Cert.KernelIdeal.Host0 (qn wide wide_apply flat flat_apply lsOf mx su ouOf prOf ex qn_r ls_r ou_r)
open Cert.KernelIdeal.Body (c128 c64 h64 h64_c64)
open Cert.KernelIdeal.Acc (exists_c128 exists_c64 dite_coe qd_apply)

theorem log2e_eq : log2e = (((Real.log 2)⁻¹ : ℝ) : EReal) := IdealRules.named_const.ideal_named_scalar _ _ _ _ rfl

section
variable (m : (ℓ : Loc nD τ sig) → Buf (Elt Ideal) ℓ) (c : Dev nD)
  {qr kr : Fin 16384 → Fin 8 → Fin 96 → ℝ} {vr : Fin 16384 → Fin 8 → Fin 64 → ℝ}
  (hq : ∀ a h d, aq m c (ix3 a h d) = (qr a h d : EReal)) (hk : ∀ a h d, ak m c (ix3 a h d) = (kr a h d : EReal))
  (hv : ∀ a h d, av m c (ix3 a h d) = (vr a h d : EReal))

include hq in
theorem Y0_r (a : Fin 16384) (h : Fin 8) (d : Fin 128) : Y0 m c (ix2 a (c128 h d))
    = ((if hd : (d : Nat) < 96 then qr a h ⟨d, hd⟩ / Real.sqrt 96 / Real.log 2 else 0 : ℝ) : EReal) := by
  refine ((congrFun (V_v8 m c) _).trans (wide_apply _ a h d)).trans (dite_coe _ _ fun hd => ?_)
  rw [qd_apply, qn_r hq, Attn.log2, Attn.ediv _ Attn.l2]

include hk in
theorem Y1_r (b : Fin 16384) (h : Fin 8) (d : Fin 128) : Y1 m c (ix2 b (c128 h d))
    = ((if hd : (d : Nat) < 96 then kr b h ⟨d, hd⟩ else 0 : ℝ) : EReal) :=
  ((congrFun (V_v11 m c) _).trans (wide_apply _ b h d)).trans (dite_coe _ _ fun hd => hk _ _ _)

include hv in
theorem Y2_r (b : Fin 16384) (h : Fin 8) (r : Fin 128) : Y2 m c (ix2 (c128 h r) b)
    = ((if hr : (r : Nat) < 64 then vr b h ⟨r, hr⟩ else if (r : Nat) = 64 then 1 else 0 : ℝ) : EReal) := by
  refine ((congrFun (V_v17 m c) _).trans (vx_apply _ b h r)).trans ((cat_apply _ b h r).trans ?_)
  split
  · exact hv _ _ _
  · split <;> rfl

/-- The operands' real values. -/
def oQ (a : Fin 16384) (r : Fin 1024) : ℝ := (Y0 m c (ix2 a r)).toReal
def oK (a : Fin 16384) (r : Fin 1024) : ℝ := (Y1 m c (ix2 a r)).toReal
def oX (r : Fin 1024) (a : Fin 16384) : ℝ := (Y2 m c (ix2 r a)).toReal

include hq in
theorem hQ (a : Fin 16384) (r : Fin 1024) : Y0 m c (ix2 a r) = (oQ m c a r : EReal) := by
  obtain ⟨h, d, rfl⟩ := exists_c128 r
  rw [oQ, Y0_r m c hq, EReal.toReal_coe]
include hk in
theorem hK (a : Fin 16384) (r : Fin 1024) : Y1 m c (ix2 a r) = (oK m c a r : EReal) := by
  obtain ⟨h, d, rfl⟩ := exists_c128 r
  rw [oK, Y1_r m c hk, EReal.toReal_coe]
include hv in
theorem hX (r : Fin 1024) (a : Fin 16384) : Y2 m c (ix2 r a) = (oX m c r a : EReal) := by
  obtain ⟨h, d, rfl⟩ := exists_c128 r
  rw [oX, Y2_r m c hv, EReal.toReal_coe]

include hq hk in
/-- A score in base two is the score over the logarithm of two. -/
theorem s_r (h : Fin 8) (a b : Fin 16384) : sR (oQ m c) (oK m c) h a b = Attn.S qr kr h a b / Real.log 2 := by
  rw [← Attn.s_ker, ← Attn.sum128 (fun d => kr b h d) (fun d => qr a h d / Real.sqrt 96 / Real.log 2), sR]
  refine Finset.sum_congr rfl fun d _ => congrArg₂ (· * ·) ?_ ?_
  · rw [oK, Y1_r m c hk, EReal.toReal_coe]
  · rw [oQ, Y0_r m c hq, EReal.toReal_coe]

include hq hk hv in
theorem w_ones (h : Fin 8) (a : Fin 16384) (μ : ℝ) :
    wR (oQ m c) (oK m c) (oX m c) h a μ 64 = ∑ b, (2 : ℝ) ^ (Attn.S qr kr h a b / Real.log 2 - μ) := by
  rw [wR]
  refine Finset.sum_congr rfl fun b _ => ?_
  rw [oX, Y2_r m c hv, EReal.toReal_coe, s_r m c hq hk, dif_neg (by decide), if_pos (by decide), one_mul]

include hq hk hv in
theorem w_vals (h : Fin 8) (a : Fin 16384) (μ : ℝ) (x : Fin 64) :
    wR (oQ m c) (oK m c) (oX m c) h a μ (r64 (c64 h x)) = ∑ b, vr b h x * (2 : ℝ) ^ (Attn.S qr kr h a b / Real.log 2 - μ) := by
  have hx : ((r64 (c64 h x) : Fin 128) : Nat) = x.val := by show (64 * h.val + x.val) % 64 = x.val; omega
  rw [wR]
  refine Finset.sum_congr rfl fun b _ => ?_
  rw [oX, Y2_r m c hv, EReal.toReal_coe, s_r m c hq hk, dif_pos (lt_of_eq_of_lt hx x.isLt)]
  exact congrArg (fun z => vr b h z * _) (Fin.ext hx)

include hq hk hv in
theorem isO : IsO (flat (ouOf (prOf (ex (aq m c) (ak m c)) (su (aq m c) (ak m c))) (av m c))) (oQ m c) (oK m c) (oX m c) := by
  intro y μ
  obtain ⟨h, x, e⟩ := exists_c64 (y 1)
  obtain ⟨a, rfl⟩ : ∃ a : Fin 16384, y = ix2 a (c64 h x) := ⟨y 0, (eq_ix2 y).trans (congrArg (ix2 (y 0)) e)⟩
  show Ideal.div (wR (oQ m c) (oK m c) (oX m c) (h64 (c64 h x)) a μ (r64 (c64 h x)) : EReal)
    (wR (oQ m c) (oK m c) (oX m c) (h64 (c64 h x)) a μ 64 : EReal) = _
  rw [h64_c64, w_vals m c hq hk hv, w_ones m c hq hk hv, Attn.ediv _ (Attn.w_sum_pos qr kr h a μ).ne', Attn.o_ker]
  exact ((flat_apply _ a h x).trans (ou_r hq hk hv a h x)).symm

include hq hk hv in
theorem isL : IsL (lrow (lsOf (mx (aq m c) (ak m c)) (su (aq m c) (ak m c)))) (oQ m c) (oK m c) (oX m c) := by
  intro y μ
  obtain ⟨h, a, rfl⟩ : ∃ (h : Fin 8) (a : Fin 16384), y = ix3 h 0 a :=
    ⟨y 0, y 2, (eq_ix3 y).trans (congrArg (fun w => ix3 (y 0) w (y 2)) (Subsingleton.elim (α := Fin 1) _ _))⟩
  show (μ : EReal) + Ideal.log (wR (oQ m c) (oK m c) (oX m c) h a μ 64 : EReal) * log2e = _
  rw [w_ones m c hq hk hv, Ideal.log_coe, if_neg (not_le.mpr (Attn.w_sum_pos qr kr h a μ)), log2e_eq, ← EReal.coe_mul,
    ← EReal.coe_add, Attn.l_ker]
  exact ((lrow_apply _ h a).trans (ls_r hq hk h a)).symm
end
end Cert.FwdIdeal.Acc

namespace Cert.FwdRefIdeal.Val
open Cert.FwdRefIdeal Cert.FwdRefIdeal.Gen
open Cert.KernelIdeal.Host0 (flat lsOf mx su ouOf prOf ex)

/-- The reference's run, its results by name. -/
theorem run' (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v15) = flat (ouOf (prOf (ex (m ((c.tc : Thread nD τ).loc main_arg0)) (m ((c.tc : Thread nD τ).loc main_arg1)))
        (su (m ((c.tc : Thread nD τ).loc main_arg0)) (m ((c.tc : Thread nD τ).loc main_arg1)))) (m ((c.tc : Thread nD τ).loc main_arg2)))
      ∧ r.2.mem ((c.tc : Thread nD τ).loc main_v21) = Cert.FwdIdeal.Host0.lrow (lsOf (mx (m ((c.tc : Thread nD τ).loc main_arg0)) (m ((c.tc : Thread nD τ).loc main_arg1)))
        (su (m ((c.tc : Thread nD τ).loc main_arg0)) (m ((c.tc : Thread nD τ).loc main_arg1))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  Cert.FwdRefIdeal.Value.run m ρ

end Cert.FwdRefIdeal.Val
end
-- ==== Proof.FwdClaim.lean ====
module
public import proofs.«01_k».proof.Defs
public import proofs.«01_k».proof.Proof.FwdHost
public import proofs.«01_k».proof.Proof.MlaClaim
public import proofs.«01_k».proof.Proof.Gen.Fwd.Frame
public import proofs.«01_k».proof.Proof.Gen.FwdIdeal.Frame
public import proofs.«01_k».proof.Proof.Gen.Pre_finite_fwd
@[expose] public section
noncomputable section
open Idealize.ShloMosaic Idealize.ShloMosaic.TcCoe Idealize.SL.Sem

/-! The forward pass's claims. -/

namespace Cert.Pre_finite_fwd
open Cert.Pre_finite_fwd.Facts

/-- The precondition read back: every element of the three arguments is a real number. -/
theorem real_of_fn [Facts] (q k : FVec Ideal S16384x8x96 .f32) (v : FVec Ideal S16384x8x64 .f32) (h : fn (F := Ideal) q k v = fun _ => 1#1) :
    (∀ i, ∃ r : ℝ, q i = (r : EReal)) ∧ (∀ i, ∃ r : ℝ, k i = (r : EReal)) ∧ (∀ i, ∃ r : ℝ, v i = (r : EReal)) := by
  have i0 : S_.Idx := fun a => a.elim0
  obtain ⟨h2, hv⟩ := IntOp.andi_eq_one.1 (congrFun h i0)
  obtain ⟨hq, hk⟩ := IntOp.andi_eq_one.1 h2
  exact ⟨Cert.Pre_finite.real_of_all q _ _ _ i0 hq, Cert.Pre_finite.real_of_all k _ _ _ i0 hk, Cert.Pre_finite.real_of_all v _ _ _ i0 hv⟩

end Cert.Pre_finite_fwd

namespace Cert.FwdClaims
open Cert.FwdIdeal Cert.FwdIdeal.Gen Cert.FwdIdeal.Host0 Cert.FwdIdeal.Acc

theorem frame_p : Cert.quiescent_Fwd := fun m ρ _ => Cert.Fwd.Gen.frame m ρ
theorem frame_pi : Cert.quiescent_FwdIdeal := fun m ρ _ => Cert.FwdIdeal.Gen.frame m ρ
theorem frame_pi_pre : Cert.quiescent_FwdIdeal_pre_finite_fwd := fun m ρ _ => Cert.FwdIdeal.Gen.frame m ρ
theorem frame_ri : Cert.quiescent_FwdRefIdeal := fun m ρ _ =>
  (θ_run Cert.FwdRefIdeal.defs _ _).mono (fun r h => ⟨fun c => (h c).2.2, sem_eq_zero_of_no_sems (by decide) r.2⟩)
    (Cert.FwdRefIdeal.Value.run (F := Ideal) m ρ)
theorem frame_ri_pre : Cert.quiescent_FwdRefIdeal_pre_finite_fwd := fun m ρ _ => frame_ri m ρ trivial

theorem preserves : Cert.preserves_Fwd_FwdIdeal :=
  IdealRules.named_const.statement Cert.FwdIdeal.κ "log2e" .f32 0x3FB8AA3B#32 (((Real.log 2)⁻¹ : ℝ) : EReal) rfl

theorem real_at {s : Shape} {x : s.Idx → EReal} (f : ∀ i, ∃ r : ℝ, x i = (r : EReal)) (i : s.Idx) : x i = ((x i).toReal : EReal) := by
  obtain ⟨r, e⟩ := f i
  rw [e, EReal.toReal_coe]

/-- The kernel's two result arrays are the reference's. -/
theorem algebraic : Cert.algebraic_FwdIdeal_FwdRefIdeal_pre_finite_fwd := by
  intro m ρ m' ρ' hpre hagree
  refine ⟨_, _, Cert.FwdIdeal.Value.run_blocks (F := Ideal) m ρ, ?_⟩
  refine (θ_run Cert.FwdRefIdeal.defs _ _).mono (fun _ h c => ?_) (Cert.FwdRefIdeal.Val.run' m' ρ')
  obtain ⟨r0, r1, rest⟩ := h c
  obtain ⟨a0, a1, a2⟩ := hagree c
  obtain ⟨fq, fk, fv⟩ := Cert.Pre_finite_fwd.real_of_fn _ _ _ (hpre c)
  have hq : ∀ a h d, aq m c (ix3 a h d) = (((aq m c (ix3 a h d)).toReal : ℝ) : EReal) := fun a h d => real_at fq (ix3 a h d)
  have hk : ∀ a h d, ak m c (ix3 a h d) = (((ak m c (ix3 a h d)).toReal : ℝ) : EReal) := fun a h d => real_at fk (ix3 a h d)
  have hv : ∀ a h d, av m c (ix3 a h d) = (((av m c (ix3 a h d)).toReal : ℝ) : EReal) := fun a h d => real_at fv (ix3 a h d)
  rw [a0, a1, a2] at r0
  rw [a0, a1] at r1
  exact ⟨r0.trans (final3 m c (hQ m c hq) (hK m c hk) (hX m c hv) (isO m c hq hk hv)).symm,
    r1.trans (final4 m c (hQ m c hq) (hK m c hk) (hX m c hv) (isL m c hq hk hv)).symm, rest⟩

end Cert.FwdClaims
end
-- ==== Proof.FfnUp.lean ====
module
public import proofs.«01_k».proof.Proof.Gen.UpIdeal.Value
public import proofs.«01_k».proof.Proof.Gen.UpRefIdeal.Run
public import Idealize.ShloMosaic.Lib.Pipeline.ValueKit
@[expose] public section
set_option maxRecDepth 16384
noncomputable section
open Idealize.ShloMosaic Idealize.ShloMosaic.TcCoe Idealize.SL.Sem
open Idealize.ShloMosaic.Pipeline (Dat)

/-! The feed-forward block's first two products and their gated combination. -/

namespace Cert.UpIdeal.Val
open Cert.UpIdeal Cert.UpIdeal.Gen

/-- The reference's product of the activations with one weight matrix. -/
abbrev prod (X : FVec Ideal S16384x1024 .f32) (W : FVec Ideal S1024x2816 .f32) : FVec Ideal S16384x2816 .f32 :=
  Host.dotGeneral Cert.UpRefIdeal.dot_S16384x1024_S1024x2816_S16384x2816_1_0_0_1_n_n none X W

/-- The same in the short format. -/
abbrev low (x : FVec Ideal S16384x2816 .f32) : FVec Ideal S16384x2816 .bf16 := truncf .bf16 x Cert.UpRefIdeal.Gen.facts.bitsLt_bf16_f32

/-- The reference's combination of the two products: the first times its logistic times the second. -/
abbrev gate (a b : FVec Ideal S16384x2816 .f32) : FVec Ideal S16384x2816 .bf16 :=
  low (mulf (mulf a (Host.divf (broadcastInDim S16384x2816 ![] Cert.UpRefIdeal.Gen.facts.bcast_S_S16384x2816 (constant Cert.UpRefIdeal.S_ .f32 0x3F800000#32))
    (addf (broadcastInDim S16384x2816 ![] Cert.UpRefIdeal.Gen.facts.bcast_S_S16384x2816 (constant Cert.UpRefIdeal.S_ .f32 0x3F800000#32)) (Host.exp (Host.negf a))))) b)

variable (m : (ℓ : Loc nD τ sig) → Buf (Elt Ideal) ℓ) (c : Dev nD)

abbrev ah : FVec Ideal S16384x1024 .f32 := m ((c.tc : Thread nD τ).loc main_arg0)
abbrev aw1 : FVec Ideal S1024x2816 .f32 := m ((c.tc : Thread nD τ).loc main_arg1)
abbrev aw3 : FVec Ideal S1024x2816 .f32 := m ((c.tc : Thread nD τ).loc main_arg2)

theorem idx : ∀ t : Fin cfg0.N, win0_0.index t = ![t.val / 2, 0] ∧ win0_1.index t = ![0, t.val % 2] ∧ win0_2.index t = ![0, t.val % 2]
    ∧ win0_3.index t = ![t.val / 2, t.val % 2] ∧ win0_4.index t = ![t.val / 2, t.val % 2] ∧ win0_5.index t = ![t.val / 2, t.val % 2] :=
  (by decide +kernel : ∀ t : Fin grid0.N, _)

theorem point3 (t : Fin cfg0.N) (y) : k0_pay4 (iblk m c 0 t) (iblk m c 1 t) y = low (prod (ah m c) (aw1 m c)) (((cfg0.win 3).blk t).view.emb y) := by
  pointwise [k0_pay4, k0_pay2, k0_pay1, low, prod]
  blk_point [iblk, V, idx t]
theorem point4 (t : Fin cfg0.N) (y) : k0_pay5 (iblk m c 0 t) (iblk m c 2 t) y = low (prod (ah m c) (aw3 m c)) (((cfg0.win 4).blk t).view.emb y) := by
  pointwise [k0_pay5, k0_pay3, k0_pay1, low, prod]
  blk_point [iblk, V, idx t]
theorem point5 (t : Fin cfg0.N) (y) : k0_pay6 (iblk m c 0 t) (iblk m c 1 t) (iblk m c 2 t) y
    = gate (prod (ah m c) (aw1 m c)) (prod (ah m c) (aw3 m c)) (((cfg0.win 5).blk t).view.emb y) := by
  pointwise [k0_pay6, k0_pay3, k0_pay2, k0_pay1, gate, low, prod]
  simp only [Ideal.logistic]
  blk_point [iblk, V, idx t]

theorem final3 : (dats m 0 c).arrAt 3 cfg0.N = low (prod (ah m c) (aw1 m c)) := by
  refine (dats m 0 c).arrAt_eq_of_covers 3 _ (by decide +kernel) fun t _ y => ?_
  blk_simp
  rw [after0_3]; frame_out
  exact point3 m c t y
theorem final4 : (dats m 0 c).arrAt 4 cfg0.N = low (prod (ah m c) (aw3 m c)) := by
  refine (dats m 0 c).arrAt_eq_of_covers 4 _ (by decide +kernel) fun t _ y => ?_
  blk_simp
  rw [after0_4]; frame_out
  exact point4 m c t y
theorem final5 : (dats m 0 c).arrAt 5 cfg0.N = gate (prod (ah m c) (aw1 m c)) (prod (ah m c) (aw3 m c)) := by
  refine (dats m 0 c).arrAt_eq_of_covers 5 _ (by decide +kernel) fun t _ y => ?_
  blk_simp
  rw [after0_5]; frame_out
  exact point5 m c t y

end Cert.UpIdeal.Val
end
-- ==== Proof.Accum.lean ====
module
public import Idealize.ShloMosaic.Lib.Pipeline.ValueKit
public import Idealize.ShloMosaic.Lib.Pipeline.ReadBack
@[expose] public section
noncomputable section
open Idealize.ShloMosaic Idealize.ShloMosaic.TcCoe Idealize.SL.Sem

/-! What the matrix products have in common: a contraction accumulated block by block, and the claims read off a run. -/

namespace Cert.Accum

abbrev Mat (n k : ℕ) (φ : FTy) := FVec Ideal ⟨2, ![n, k]⟩ φ

/-- The product of two blocks over their rows, at one element. -/
def rows {K a b : ℕ} {φ ψ : FTy} (x : Mat K a φ) (g : Mat K b ψ) (j : (⟨2, ![a, b]⟩ : Shape).Idx) : Ideal .f32 :=
  ∑ k : Fin K, x (ix2 k (j 0)) * g (ix2 k (j 1))

/-- The product of two blocks over their columns, at one element. -/
def cols {K a b : ℕ} {φ ψ : FTy} (x : Mat a K φ) (w : Mat b K ψ) (j : (⟨2, ![a, b]⟩ : Shape).Idx) : Ideal .f32 :=
  ∑ k : Fin K, x (ix2 (j 0) k) * w (ix2 (j 1) k)

section
variable {N P K L : ℕ} [NeZero P] {ι : Type} (f : (n : ℕ) → n < N → ι → EReal) (part : Fin N → ι → EReal)
  (h0 : ∀ t : Fin N, t.val % P = 0 → ∀ j, f t.val t.isLt j = part t j)
  (hs : ∀ t : Fin N, ¬t.val % P = 0 → ∀ j, f t.val t.isLt j = f (t.val - 1) (Nat.lt_of_le_of_lt (Nat.sub_le _ _) t.isLt) j + part t j)
  (t : Fin N) (hr : t.val % P = P - 1)

include h0 hs

/-- An accumulator that starts afresh every `P` points, each adding the products of `K` neighbouring places of an axis, holds at a run's last point
    the sum over the whole axis. -/
theorem at_flush (hL : L = P * K) (j : ι) (F : Fin L → EReal)
    (hp : ∀ s : Fin P, ∃ q : Fin K → EReal, part ⟨P * (t.val / P) + s.val, Pipeline.run_point_lt_of_flush t hr s⟩ j = ∑ k, q k
      ∧ ∀ (k : Fin K) (hl : s.val * K + k.val < L), q k = F ⟨s.val * K + k.val, hl⟩) :
    f t.val t.isLt j = ∑ l : Fin L, F l := by
  rw [Pipeline.eq_sum_fin_of_reset_step_apply_of_flush f P (fun _ => 0) part (fun t h j => by rw [h0 t h, zero_add]) hs t hr j, zero_add]
  choose q hq hF using hp
  rw [Finset.sum_congr rfl fun s _ => hq s]
  exact Fin.sum_mul_add_congr (fun s k hl => hF s k hl) hL
end

/-- A gradient of weights: at a run's last point, the product of the two arrays over all of their rows. -/
theorem rows_at_flush {N P K L a b A B : ℕ} [NeZero P] {φ ψ : FTy} (f : (n : ℕ) → n < N → (⟨2, ![a, b]⟩ : Shape).Idx → EReal)
    (x : Fin N → Mat K a φ) (g : Fin N → Mat K b ψ) (X : Mat L A .f32) (G : Mat L B .f32)
    (h0 : ∀ t : Fin N, t.val % P = 0 → ∀ j, f t.val t.isLt j = rows (x t) (g t) j)
    (hs : ∀ t : Fin N, ¬t.val % P = 0 → ∀ j,
      f t.val t.isLt j = f (t.val - 1) (Nat.lt_of_le_of_lt (Nat.sub_le _ _) t.isLt) j + (rows (x t) (g t) j : EReal))
    (t : Fin N) (hr : t.val % P = P - 1) (hL : L = P * K) (j : (⟨2, ![a, b]⟩ : Shape).Idx) (p : Fin A) (q : Fin B)
    (hx : ∀ (s : Fin P) (k : Fin K) (hl : s.val * K + k.val < L),
      x ⟨P * (t.val / P) + s.val, Pipeline.run_point_lt_of_flush t hr s⟩ (ix2 k (j 0)) = X (ix2 ⟨s.val * K + k.val, hl⟩ p))
    (hg : ∀ (s : Fin P) (k : Fin K) (hl : s.val * K + k.val < L),
      g ⟨P * (t.val / P) + s.val, Pipeline.run_point_lt_of_flush t hr s⟩ (ix2 k (j 1)) = G (ix2 ⟨s.val * K + k.val, hl⟩ q)) :
    f t.val t.isLt j = ∑ l : Fin L, G (ix2 l q) * X (ix2 l p) :=
  at_flush f _ h0 hs t hr hL j _ fun s => ⟨_, rfl, fun k hl => by
    refine (congrArg₂ (fun u v : EReal => u * v) (hx s k hl) (hg s k hl)).trans ?_
    exact mul_comm (X _ : EReal) (G _)⟩

section
variable {nD : ℕ} {τ : Topo} {sig : RefSig} {Val : EltTy → Type} {Λ : Labels} {d : Defs nD τ sig Val Λ}
  {p : (c : Thread nD τ) → Prog (TpuEff nD τ sig Val Λ c.2) PUnit} {s : MemSt nD τ sig Val} {A A' B : Dev nD → PUnit × MemSt nD τ sig Val → Prop}

/-- A run of a program without semaphores that leaves the arguments unchanged ends with every semaphore at rest. -/
theorem frame_of_run (h : θ_run d p s fun r => ∀ c, A c r ∧ B c r) (hs : sig.nSem + sig.nDmaSem = 0 := by decide) :
    θ_run d p s fun r => (∀ c, B c r) ∧ r.2.sem = fun _ => 0 :=
  (θ_run d _ _).mono (fun r h => ⟨fun c => (h c).2, sem_eq_zero_of_no_sems hs r.2⟩) h

/-- What a run computes may be replaced by what it equals. -/
theorem run_congr (h : θ_run d p s fun r => ∀ c, A c r ∧ B c r) (e : ∀ c r, A c r → A' c r) :
    θ_run d p s fun r => ∀ c, A' c r ∧ B c r :=
  (θ_run d _ _).mono (fun r h c => ⟨e c r (h c).1, (h c).2⟩) h
end

end Cert.Accum
end
-- ==== Proof.FfnDw.lean ====
module
public import proofs.«01_k».proof.Proof.Gen.DwIdeal.Value
public import proofs.«01_k».proof.Proof.Gen.DwRefIdeal.Run
public import proofs.«01_k».proof.Proof.Accum
@[expose] public section
set_option maxRecDepth 16384
noncomputable section
open Idealize.ShloMosaic Idealize.ShloMosaic.TcCoe Idealize.SL.Sem
open Idealize.ShloMosaic.Pipeline (Dat)

/-! The gradient of a feed-forward weight matrix: a product contracted over the tokens, accumulated block by block. -/

namespace Cert.DwIdeal.Val
open Cert.DwIdeal Cert.DwIdeal.Gen

/-- The reference's gradient of the weights: the product over the tokens, transposed. -/
abbrev grad (H : FVec Ideal S16384x1024 .f32) (G : FVec Ideal S16384x2816 .f32) : FVec Ideal S1024x2816 .f32 :=
  transpose S1024x2816 [1, 0] (Host.dotGeneral Cert.DwRefIdeal.dot_S16384x2816_S16384x1024_S2816x1024_0_0_1_1_n_n none G H)
    Cert.DwRefIdeal.Gen.facts.transposes_S2816x1024_S1024x2816_1_0

variable (m : (ℓ : Loc nD τ sig) → Buf (Elt Ideal) ℓ) (c : Dev nD)

abbrev ah : FVec Ideal S16384x1024 .f32 := m ((c.tc : Thread nD τ).loc main_arg0)
abbrev ag : FVec Ideal S16384x2816 .f32 := m ((c.tc : Thread nD τ).loc main_arg1)

theorem idx : ∀ t : Fin cfg0.N, win0_0.index t = ![t.val % 16, t.val / 32] ∧ win0_1.index t = ![t.val % 16, t.val / 16 % 2]
    ∧ win0_2.index t = ![t.val / 32, t.val / 16 % 2] :=
  (by decide +kernel : ∀ t : Fin grid0.N, _)

theorem hpay2 (x : FVec Ideal S1024x512 .bf16) (g : FVec Ideal S1024x1408 .bf16) (j : S512x1408.Idx) : k0_pay2 x g j = Accum.rows x g j := by
  pointwise [k0_pay2, k0_pay1, Accum.rows]
theorem hpay3 (x : FVec Ideal S1024x512 .bf16) (g : FVec Ideal S1024x1408 .bf16) (v : FVec Ideal S512x1408 .f32) (j : S512x1408.Idx) :
    k0_pay3 x g v j = v j + Accum.rows x g j := by
  pointwise [k0_pay3, k0_pay1, Accum.rows]

theorem final2 : (dats m 0 c).arrAt 2 cfg0.N = grad (ah m c) (ag m c) := by
  refine (dats m 0 c).arrAt_eq_of_covers 2 _ (by decide +kernel) fun t hf y => ?_
  have h15 := (flush0_2 t).mp hf
  have hl : (outsAt0 m c t.val t.isLt).1 = (outsAt0 m c t.val t.isLt).2 := by
    rw [outsAt0_C m c t (by omega) (by omega) h15]
    dsimp only
    frame_out
  blk_simp
  rw [after0_2, hl]
  pointwise [grad]
  refine Accum.rows_at_flush (P := 16) (K := 1024) (φ := .bf16) (ψ := .bf16) (fun n h => (outsAt0 m c n h).2) (iblk m c 0) (iblk m c 1)
    (ah m c) (ag m c) (fun t h j => ?_) (fun t h j => ?_) t h15 rfl _ _ _ (fun s k hk => ?_) (fun s k hk => ?_)
  · rw [outsAt0_A m c t h (by omega) (by omega)]; frame_out; exact hpay2 _ _ _
  · by_cases h' : t.val % 16 = 15
    · rw [outsAt0_C m c t h (by omega) h']; frame_out; rw [hpay3, read_unread_whole]
    · rw [outsAt0_B m c t h (by omega) h']; frame_out; rw [hpay3, read_unread_whole]
  all_goals blk_point [iblk, V, idx t, idx ⟨_, Pipeline.run_point_lt_of_flush t h15 s⟩]

end Cert.DwIdeal.Val
end
-- ==== Proof.FfnClaim.lean ====
module
public import proofs.«01_k».proof.Defs
public import proofs.«01_k».proof.Proof.FfnUp
public import proofs.«01_k».proof.Proof.FfnDw
public import proofs.«01_k».proof.Proof.Gen.Up.Frame
public import proofs.«01_k».proof.Proof.Gen.UpIdeal.Frame
public import proofs.«01_k».proof.Proof.Gen.Dw.Frame
public import proofs.«01_k».proof.Proof.Gen.DwIdeal.Frame
@[expose] public section
noncomputable section
open Idealize.ShloMosaic Idealize.ShloMosaic.TcCoe Idealize.SL.Sem

/-! The claims of the feed-forward block's first call and of its weight gradients. -/

namespace Cert.UpClaims
open Cert.UpIdeal Cert.UpIdeal.Val

theorem frame_p : Cert.quiescent_Up := fun m ρ _ => Cert.Up.Gen.frame m ρ
theorem frame_pi : Cert.quiescent_UpIdeal := fun m ρ _ => Cert.UpIdeal.Gen.frame m ρ
theorem frame_ri : Cert.quiescent_UpRefIdeal := fun m ρ _ =>
  (θ_run Cert.UpRefIdeal.defs _ _).mono (fun r h => ⟨fun c => (h c).2.2.2, sem_eq_zero_of_no_sems (by decide) r.2⟩)
    (Cert.UpRefIdeal.Value.run (F := Ideal) m ρ)
theorem preserves : Cert.preserves_Up_UpIdeal := trivial

/-- The kernel's three result arrays are the reference's. -/
theorem algebraic : Cert.algebraic_UpIdeal_UpRefIdeal := by
  intro m ρ m' ρ' _ hagree
  refine ⟨_, _, _, Cert.UpIdeal.Value.run_blocks (F := Ideal) m ρ, ?_⟩
  refine (θ_run Cert.UpRefIdeal.defs _ _).mono (fun _ h c => ?_) (Cert.UpRefIdeal.Value.run (F := Ideal) m' ρ')
  obtain ⟨r0, r1, r2, rest⟩ := h c
  obtain ⟨a0, a1, a2⟩ := hagree c
  rw [a0, a1] at r0
  rw [a0, a2] at r1
  rw [a0, a1, a2] at r2
  exact ⟨r0.trans (final3 m c).symm, r1.trans (final4 m c).symm, r2.trans (final5 m c).symm, rest⟩

end Cert.UpClaims

namespace Cert.DwClaims
open Cert.DwIdeal Cert.DwIdeal.Val

theorem frame_p : Cert.quiescent_Dw := fun m ρ _ => Cert.Dw.Gen.frame m ρ
theorem frame_pi : Cert.quiescent_DwIdeal := fun m ρ _ => Cert.DwIdeal.Gen.frame m ρ
theorem frame_ri : Cert.quiescent_DwRefIdeal := fun m ρ _ =>
  (θ_run Cert.DwRefIdeal.defs _ _).mono (fun r h => ⟨fun c => (h c).2, sem_eq_zero_of_no_sems (by decide) r.2⟩)
    (Cert.DwRefIdeal.Value.run (F := Ideal) m ρ)
theorem preserves : Cert.preserves_Dw_DwIdeal := trivial

/-- The kernel's result array is the reference's. -/
theorem algebraic : Cert.algebraic_DwIdeal_DwRefIdeal := by
  intro m ρ m' ρ' _ hagree
  refine ⟨_, Cert.DwIdeal.Value.run_blocks (F := Ideal) m ρ, ?_⟩
  refine (θ_run Cert.DwRefIdeal.defs _ _).mono (fun _ h c => ?_) (Cert.DwRefIdeal.Value.run (F := Ideal) m' ρ')
  obtain ⟨r0, rest⟩ := h c
  obtain ⟨a0, a1⟩ := hagree c
  rw [a0, a1] at r0
  exact ⟨r0.trans (final2 m c).symm, rest⟩

end Cert.DwClaims
end
-- ==== Proof.FfnDhPass.lean ====
module
public import proofs.«01_k».proof.Proof.Gen.DhIdeal.Frame
public import Idealize.ShloMosaic.Lib.Pipeline.ValueKit
public import Idealize.ShloMosaic.Lib.Pipeline.ReadBack
@[expose] public section
set_option maxRecDepth 16384
noncomputable section
open Idealize.ShloMosaic Idealize.ShloMosaic.TcCoe Idealize.SL.Sem
open Idealize.ShloMosaic.Pipeline (Dat)

/-! The feed-forward block's backward pass to its input, call by call: what each of the three calls leaves in its
arrays, over the contents `V` it is entered from. -/

namespace Cert.DhIdeal.Val
open Cert.DhIdeal Cert.DhIdeal.Gen

/-- The upstream gradient's product with the transposed second weight matrix. -/
def up (G : FVec Ideal S16384x1024 .f32) (W : FVec Ideal S2816x1024 .bf16) (j : S16384x2816.Idx) : EReal :=
  ∑ k : Fin 1024, (G (ix2 (j 0) k) : EReal) * W (ix2 (j 1) k)

/-- The gradient of the first product, as the kernel writes it. -/
def dA (G : FVec Ideal S16384x1024 .f32) (W : FVec Ideal S2816x1024 .bf16) (A B : FVec Ideal S16384x2816 .bf16) : FVec Ideal S16384x2816 .bf16 :=
  fun j => up G W j * (B j : EReal) * (Ideal.logistic (A j) * (1 + (A j : EReal) * (1 - Ideal.logistic (A j))))

/-- The gradient of the second product. -/
def dB (G : FVec Ideal S16384x1024 .f32) (W : FVec Ideal S2816x1024 .bf16) (A : FVec Ideal S16384x2816 .bf16) : FVec Ideal S16384x2816 .bf16 :=
  fun j => up G W j * ((A j : EReal) * Ideal.logistic (A j))

/-- A product with a transposed weight matrix. -/
def back (D : FVec Ideal S16384x2816 .bf16) (W : FVec Ideal S1024x2816 .bf16) : FVec Ideal S16384x1024 .f32 :=
  fun j => ∑ k : Fin 2816, (D (ix2 (j 0) k) : EReal) * W (ix2 (j 1) k)

variable (V : (c : Dev nD) → (b : Ref sig .tc) → Buf (Elt Ideal) ((c : Thread nD τ).loc b)) (c : Dev nD)

theorem idx0 : ∀ t : Fin cfg0.N, win0_0.index t = ![t.val / 2, 0] ∧ win0_1.index t = ![t.val % 2, 0] ∧ win0_2.index t = ![t.val / 2, t.val % 2]
    ∧ win0_3.index t = ![t.val / 2, t.val % 2] ∧ win0_4.index t = ![t.val / 2, t.val % 2] ∧ win0_5.index t = ![t.val / 2, t.val % 2] :=
  (by decide +kernel : ∀ t : Fin grid0.N, _)
theorem idx1 : ∀ t : Fin cfg1.N, win1_0.index t = ![t.val, 0] ∧ win1_1.index t = ![0, 0] ∧ win1_2.index t = ![t.val, 0] :=
  (by decide +kernel : ∀ t : Fin grid1.N, _)
theorem idx2 : ∀ t : Fin cfg2.N, win2_0.index t = ![t.val, 0] ∧ win2_1.index t = ![0, 0] ∧ win2_2.index t = ![t.val, 0] ∧ win2_3.index t = ![t.val, 0] :=
  (by decide +kernel : ∀ t : Fin grid2.N, _)

theorem point4 (t : Fin cfg0.N) (y) : k0_pay4 (iblk0 V c 0 t) (iblk0 V c 1 t) (iblk0 V c 2 t) (iblk0 V c 3 t) y
    = dA (V c main_arg4) (V c main_v4) (V c main_v1) (V c main_v3) (((cfg0.win 4).blk t).view.emb y) := by
  pointwise [k0_pay4, k0_pay3, k0_pay2, k0_pay1, dA, up]
  blk_point [iblk0, idx0 t]
theorem point5 (t : Fin cfg0.N) (y) : k0_pay5 (iblk0 V c 0 t) (iblk0 V c 1 t) (iblk0 V c 2 t) y
    = dB (V c main_arg4) (V c main_v4) (V c main_v1) (((cfg0.win 5).blk t).view.emb y) := by
  pointwise [k0_pay5, k0_pay3, k0_pay2, k0_pay1, dB, up]
  blk_point [iblk0, idx0 t]

theorem final4 : (dat0 V c).arrAt 4 cfg0.N = dA (V c main_arg4) (V c main_v4) (V c main_v1) (V c main_v3) := by
  refine (dat0 V c).arrAt_eq_of_covers 4 _ (by decide +kernel) fun t _ y => ?_
  blk_simp
  rw [after0_4]; frame_out
  exact point4 V c t y
theorem final5 : (dat0 V c).arrAt 5 cfg0.N = dB (V c main_arg4) (V c main_v4) (V c main_v1) := by
  refine (dat0 V c).arrAt_eq_of_covers 5 _ (by decide +kernel) fun t _ y => ?_
  blk_simp
  rw [after0_5]; frame_out
  exact point5 V c t y

theorem final1 : (dat1 V c).arrAt 2 cfg1.N = back (V c main_v5_0) (V c main_v7) := by
  refine (dat1 V c).arrAt_eq_of_covers 2 _ (by decide +kernel) fun t _ y => ?_
  blk_simp
  rw [after1_2]; unfold outsAt1; frame_out
  pointwise [k1_pay2, k1_pay1, back]
  blk_point [iblk1, idx1 t]
theorem final2 : (dat2 V c).arrAt 3 cfg2.N = fun j => (back (V c main_v5_1) (V c main_v6) j : EReal) + (V c main_v8 : FVec Ideal S16384x1024 .f32) j := by
  refine (dat2 V c).arrAt_eq_of_covers 3 _ (by decide +kernel) fun t _ y => ?_
  blk_simp
  rw [after2_3]; unfold outsAt2; frame_out
  pointwise [k2_pay4, k2_pay2, k2_pay1, back]
  blk_point [iblk2, idx2 t]

end Cert.DhIdeal.Val
end
-- ==== Proof.FfnDh.lean ====
module
public import proofs.«01_k».proof.Proof.FfnDhPass
public import proofs.«01_k».proof.Proof.Gen.DhRefIdeal.Run
@[expose] public section
set_option maxRecDepth 16384
noncomputable section
open Idealize.ShloMosaic Idealize.ShloMosaic.TcCoe Idealize.SL.Sem
open Idealize.ShloMosaic.Pipeline (Dat)

/-! The feed-forward block's backward pass to its input: the three calls put together, and the reference's gradient. -/

namespace Cert.DhIdeal.Val
open Cert.DhIdeal Cert.DhIdeal.Gen

/-! ## The reference's terms -/

abbrev prod (X : FVec Ideal S16384x1024 .f32) (W : FVec Ideal S1024x2816 .f32) : FVec Ideal S16384x2816 .f32 :=
  Host.dotGeneral Cert.DhRefIdeal.dot_S16384x1024_S1024x2816_S16384x2816_1_0_0_1_n_n none X W
abbrev upR (G : FVec Ideal S16384x1024 .f32) (W : FVec Ideal S2816x1024 .f32) : FVec Ideal S16384x2816 .f32 :=
  Host.dotGeneral Cert.DhRefIdeal.dot_S16384x1024_S2816x1024_S16384x2816_1_1_0_0_n_n none G W
abbrev backR (D : FVec Ideal S16384x2816 .f32) (W : FVec Ideal S1024x2816 .f32) : FVec Ideal S16384x1024 .f32 :=
  Host.dotGeneral Cert.DhRefIdeal.dot_S16384x2816_S1024x2816_S16384x1024_1_1_0_0_n_n none D W
abbrev one : FVec Ideal S16384x2816 .f32 :=
  broadcastInDim S16384x2816 ![] Cert.DhRefIdeal.Gen.facts.bcast_S_S16384x2816 (constant Cert.DhRefIdeal.S_ .f32 0x3F800000#32)
abbrev sg (a : FVec Ideal S16384x2816 .f32) : FVec Ideal S16384x2816 .f32 := Host.divf one (addf one (Host.exp (Host.negf a)))
def dAR (u a b : FVec Ideal S16384x2816 .f32) : FVec Ideal S16384x2816 .f32 :=
  addf (mulf (mulf u b) (sg a)) (mulf (mulf a (mulf u b)) (mulf (sg a) (subf one (sg a))))
def dBR (u a : FVec Ideal S16384x2816 .f32) : FVec Ideal S16384x2816 .f32 := mulf (mulf a (sg a)) u
/-- The reference's gradient. -/
def refDh (H : FVec Ideal S16384x1024 .f32) (W1 W3 : FVec Ideal S1024x2816 .f32) (W2 : FVec Ideal S2816x1024 .f32) (G : FVec Ideal S16384x1024 .f32) :
    FVec Ideal S16384x1024 .f32 :=
  addf (backR (dBR (upR G W2) (prod H W1)) W3) (backR (dAR (upR G W2) (prod H W1) (prod H W3)) W1)

/-- A weight matrix, or a product, in the short format: the same numbers. -/
abbrev low {s : Shape} (x : FVec Ideal s .f32) : FVec Ideal s .bf16 := truncf .bf16 x Cert.DhIdeal.Gen.facts.bitsLt_bf16_f32

/-! ## The two forms of the gated product's derivative -/

/-- The kernel's form of `silu`'s derivative against the reference's, at any extended real where the factor is a real number. -/
theorem silu_deriv (r : ℝ) (a : EReal) : (r : EReal) * (Ideal.logistic a * (1 + a * (1 - Ideal.logistic a)))
    = (r : EReal) * Ideal.logistic a + (a * r) * (Ideal.logistic a * (1 - Ideal.logistic a)) := by
  have h1 : (1 : EReal) - 1 = 0 := by rw [← EReal.coe_one, ← EReal.coe_sub, sub_self]; rfl
  induction a using EReal.rec with
  | bot => simp
  | top => simp [h1]
  | coe a =>
    rw [Ideal.logistic_coe]
    generalize (1 + Real.exp (-a))⁻¹ = s
    norm_cast
    ring

/-- A sum of products of real numbers is a real number. -/
theorem real_sum {n : ℕ} (f g : Fin n → EReal) (hf : ∀ k, ∃ r : ℝ, f k = (r : EReal)) (hg : ∀ k, ∃ r : ℝ, g k = (r : EReal)) :
    ∃ r : ℝ, ∑ k, f k * g k = (r : EReal) :=
  Finset.sum_induction _ (fun x => ∃ r : ℝ, x = (r : EReal)) (fun _ _ ⟨a, ha⟩ ⟨b, hb⟩ => ⟨a + b, by rw [ha, hb, EReal.coe_add]⟩) ⟨0, rfl⟩
    fun k _ => by
      obtain ⟨a, ha⟩ := hf k
      obtain ⟨b, hb⟩ := hg k
      exact ⟨a * b, by rw [ha, hb, EReal.coe_mul]⟩

variable (H : FVec Ideal S16384x1024 .f32) (W1 W3 : FVec Ideal S1024x2816 .f32) (W2 : FVec Ideal S2816x1024 .f32) (G : FVec Ideal S16384x1024 .f32)

theorem dB_eq (j : S16384x2816.Idx) : (dB G (low W2) (low (prod H W1)) j : EReal) = dBR (upR G W2) (prod H W1) j := by
  pointwise [dBR, sg, one, upR, dB, up, low]
  simp only [Ideal.logistic]
  exact mul_comm _ _

theorem dA_eq (hH : ∀ i, ∃ r : ℝ, H i = (r : EReal)) (hW3 : ∀ i, ∃ r : ℝ, W3 i = (r : EReal)) (hW2 : ∀ i, ∃ r : ℝ, W2 i = (r : EReal))
    (hG : ∀ i, ∃ r : ℝ, G i = (r : EReal)) (j : S16384x2816.Idx) :
    (dA G (low W2) (low (prod H W1)) (low (prod H W3)) j : EReal) = dAR (upR G W2) (prod H W1) (prod H W3) j := by
  pointwise [dAR, sg, one, upR, prod, dA, up, low]
  obtain ⟨u, hu⟩ := real_sum (fun k => G (ix2 (j 0) k)) (fun k => W2 (ix2 (j 1) k)) (fun _ => hG _) (fun _ => hW2 _)
  obtain ⟨b, hb⟩ := real_sum (fun k => H (ix2 (j 0) k)) (fun k => W3 (ix2 k (j 1))) (fun _ => hH _) (fun _ => hW3 _)
  rw [hu, hb, ← EReal.coe_mul]
  exact silu_deriv (u * b) _

/-- The kernel's gradient is the reference's. -/
theorem ref_eq (hH : ∀ i, ∃ r : ℝ, H i = (r : EReal)) (hW3 : ∀ i, ∃ r : ℝ, W3 i = (r : EReal)) (hW2 : ∀ i, ∃ r : ℝ, W2 i = (r : EReal))
    (hG : ∀ i, ∃ r : ℝ, G i = (r : EReal)) :
    (fun j => (back (dB G (low W2) (low (prod H W1))) (low W3) j : EReal)
      + back (dA G (low W2) (low (prod H W1)) (low (prod H W3))) (low W1) j) = refDh H W1 W3 W2 G := by
  funext j
  pointwise [refDh, back, low]
  exact congrArg₂ (· + ·) (Finset.sum_congr rfl fun k _ => congrArg (· * _) (dB_eq H W1 W2 G _))
    (Finset.sum_congr rfl fun k _ => congrArg (· * _) (dA_eq H W1 W3 W2 G hH hW3 hW2 hG _))

end Cert.DhIdeal.Val
end
-- ==== Proof.FfnDhRun.lean ====
module
public import proofs.«01_k».proof.Proof.FfnDh
@[expose] public section
set_option maxRecDepth 16384
noncomputable section
open Idealize.ShloMosaic Idealize.ShloMosaic.TcCoe Idealize.SL.Sem
open Idealize.ShloMosaic.Pipeline (Dat)
open Idealize.SL Idealize.SL.RA Idealize.SL.BI Idealize.SL.BI.BIBase Idealize.SL.BI.Laws Idealize.SL.ProofMode Idealize.ShloMosaic.Rounds
open scoped Idealize.SL.BI

/-! The feed-forward block's backward pass to its input: the calls in order, each on what the ones before it left. -/

namespace Cert.DhIdeal.Val
open Cert.DhIdeal Cert.DhIdeal.Gen

/-! ## The buffers between the calls -/

variable (m : (ℓ : Loc nD τ sig) → Buf (Elt Ideal) ℓ) (ρ : Dev nD → PrngReg) (c : Dev nD)

abbrev ah : FVec Ideal S16384x1024 .f32 := m ((c.tc : Thread nD τ).loc main_arg0)
abbrev aw1 : FVec Ideal S1024x2816 .f32 := m ((c.tc : Thread nD τ).loc main_arg1)
abbrev aw3 : FVec Ideal S1024x2816 .f32 := m ((c.tc : Thread nD τ).loc main_arg2)
abbrev aw2 : FVec Ideal S2816x1024 .f32 := m ((c.tc : Thread nD τ).loc main_arg3)
abbrev ag : FVec Ideal S16384x1024 .f32 := m ((c.tc : Thread nD τ).loc main_arg4)

theorem V1_a : V1 m ρ c main_v1 = low (prod (ah m c) (aw1 m c)) := by
  show StableHlo.after hostOps0 (W0 m ρ c) (Proc.devRef .tc main_v1) = _
  after_results
  rfl
theorem V1_b : V1 m ρ c main_v3 = low (prod (ah m c) (aw3 m c)) := by
  show StableHlo.after hostOps0 (W0 m ρ c) (Proc.devRef .tc main_v3) = _
  after_results
  rfl
theorem V1_w2 : V1 m ρ c main_v4 = low (aw2 m c) := by
  show StableHlo.after hostOps0 (W0 m ρ c) (Proc.devRef .tc main_v4) = _
  after_results
theorem V1_g : V1 m ρ c main_arg4 = ag m c := W1_args m ρ c main_arg4 (by decide)

theorem W2_da : W2 m ρ c (Proc.devRef .tc main_v5_0) = dA (ag m c) (low (aw2 m c)) (low (prod (ah m c) (aw1 m c))) (low (prod (ah m c) (aw3 m c))) := by
  refine (W2_arr m ρ c 4).trans ((final4 (V1 m ρ) c).trans ?_)
  rw [V1_a, V1_b, V1_w2, V1_g]
theorem W2_db : W2 m ρ c (Proc.devRef .tc main_v5_1) = dB (ag m c) (low (aw2 m c)) (low (prod (ah m c) (aw1 m c))) := by
  refine (W2_arr m ρ c 5).trans ((final5 (V1 m ρ) c).trans ?_)
  rw [V1_a, V1_w2, V1_g]

theorem W3_w3 : W3 m ρ c (Proc.devRef .tc main_v6) = low (aw3 m c) := by
  rw [← show W2 m ρ c (Proc.devRef .tc main_arg2) = aw3 m c from W2_args m ρ c main_arg2 (by decide)]
  after_results
theorem W3_w1 : W3 m ρ c (Proc.devRef .tc main_v7) = low (aw1 m c) := by
  rw [← show W2 m ρ c (Proc.devRef .tc main_arg1) = aw1 m c from W2_args m ρ c main_arg1 (by decide)]
  after_results

theorem W4_dh : W4 m ρ c (Proc.devRef .tc main_v8)
    = back (dA (ag m c) (low (aw2 m c)) (low (prod (ah m c) (aw1 m c))) (low (prod (ah m c) (aw3 m c)))) (low (aw1 m c)) := by
  refine (W4_arr m ρ c 2).trans ((final1 (V3 m ρ) c).trans ?_)
  exact congrArg₂ back ((W3_of m ρ c main_v5_0 (by decide)).trans (W2_da m ρ c)) (W3_w1 m ρ c)

/-- What the last call leaves: the reference's gradient. -/
theorem W5_dh (hH : ∀ i, ∃ r : ℝ, ah m c i = (r : EReal)) (hW3 : ∀ i, ∃ r : ℝ, aw3 m c i = (r : EReal)) (hW2 : ∀ i, ∃ r : ℝ, aw2 m c i = (r : EReal))
    (hG : ∀ i, ∃ r : ℝ, ag m c i = (r : EReal)) :
    W5 m ρ c (Proc.devRef .tc main_v9) = refDh (ah m c) (aw1 m c) (aw3 m c) (aw2 m c) (ag m c) := by
  refine (W5_arr m ρ c 3).trans ((final2 (V4 m ρ) c).trans (Eq.trans ?_ (ref_eq _ _ _ _ _ hH hW3 hW2 hG)))
  funext j
  exact congrArg₂ (· + ·) (congrFun (congrArg₂ back
      ((W4_of m ρ c main_v5_1 (by decide)).trans ((W3_of m ρ c main_v5_1 (by decide)).trans (W2_db m ρ c)))
      ((W4_of m ρ c main_v6 (by decide)).trans (W3_w3 m ρ c))) j) (congrFun (W4_dh m ρ c) j)

/-! ## The run -/

set_option backward.isDefEq.respectTransparency.types false in
/-- From real arguments, every run ends with the result array at the reference's gradient and the arguments as launched. -/
theorem run (hH : ∀ c i, ∃ r : ℝ, ah m c i = (r : EReal)) (hW3 : ∀ c i, ∃ r : ℝ, aw3 m c i = (r : EReal)) (hW2 : ∀ c i, ∃ r : ℝ, aw2 m c i = (r : EReal))
    (hG : ∀ c i, ∃ r : ℝ, ag m c i = (r : EReal)) :
    θ_run defs (onTc (τ := τ) (main (F := Ideal))) ⟨m, fun _ => 0, ρ⟩ (fun r => ∀ c : Dev nD,
      r.2.mem ((c.tc : Thread nD τ).loc main_v9) = refDh (ah m c) (aw1 m c) (aw3 m c) (aw2 m c) (ag m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h _ => fun c =>
      ⟨(h c _ (mem_uc main_v9 (by decide))).trans (W5_dh m ρ c (hH c) (hW3 c) (hW2 c) (hG c)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c)⟩)

end Cert.DhIdeal.Val
end
-- ==== Proof.FfnDhClaim.lean ====
module
public import proofs.«01_k».proof.Defs
public import proofs.«01_k».proof.Proof.FfnDhRun
public import proofs.«01_k».proof.Proof.MlaClaim
public import proofs.«01_k».proof.Proof.Gen.Dh.Frame
public import proofs.«01_k».proof.Proof.Gen.Pre_finite_dh
@[expose] public section
noncomputable section
open Idealize.ShloMosaic Idealize.ShloMosaic.TcCoe Idealize.SL.Sem

/-! The claims of the feed-forward block's backward pass to its input. -/

namespace Cert.Pre_finite_dh
open Cert.Pre_finite_dh.Facts

/-- The precondition read back: every element of four of the arguments is a real number. -/
theorem real_of_fn [Facts] (h : FVec Ideal S16384x1024 .f32) (w1 w3 : FVec Ideal S1024x2816 .f32) (w2 : FVec Ideal S2816x1024 .f32)
    (g : FVec Ideal S16384x1024 .f32) (e : fn (F := Ideal) h w1 w3 w2 g = fun _ => 1#1) :
    (∀ i, ∃ r : ℝ, h i = (r : EReal)) ∧ (∀ i, ∃ r : ℝ, w3 i = (r : EReal)) ∧ (∀ i, ∃ r : ℝ, w2 i = (r : EReal))
      ∧ (∀ i, ∃ r : ℝ, g i = (r : EReal)) := by
  have i0 : S_.Idx := fun a => a.elim0
  obtain ⟨e3, hg⟩ := IntOp.andi_eq_one.1 (congrFun e i0)
  obtain ⟨e2, hw2⟩ := IntOp.andi_eq_one.1 e3
  obtain ⟨hh, hw3⟩ := IntOp.andi_eq_one.1 e2
  exact ⟨Cert.Pre_finite.real_of_all h _ _ _ i0 hh, Cert.Pre_finite.real_of_all w3 _ _ _ i0 hw3,
    Cert.Pre_finite.real_of_all w2 _ _ _ i0 hw2, Cert.Pre_finite.real_of_all g _ _ _ i0 hg⟩

end Cert.Pre_finite_dh

namespace Cert.DhClaims
open Cert.DhIdeal Cert.DhIdeal.Val

theorem frame_p : Cert.quiescent_Dh := fun m ρ _ => Cert.Dh.Gen.frame m ρ
theorem frame_pi : Cert.quiescent_DhIdeal := fun m ρ _ => Cert.DhIdeal.Gen.frame m ρ
theorem frame_pi_pre : Cert.quiescent_DhIdeal_pre_finite_dh := fun m ρ _ => Cert.DhIdeal.Gen.frame m ρ
theorem frame_ri : Cert.quiescent_DhRefIdeal := fun m ρ _ =>
  (θ_run Cert.DhRefIdeal.defs _ _).mono (fun r h => ⟨fun c => (h c).2, sem_eq_zero_of_no_sems (by decide) r.2⟩)
    (Cert.DhRefIdeal.Value.run (F := Ideal) m ρ)
theorem frame_ri_pre : Cert.quiescent_DhRefIdeal_pre_finite_dh := fun m ρ _ => frame_ri m ρ trivial
theorem preserves : Cert.preserves_Dh_DhIdeal := trivial

/-- The kernel's result array is the reference's. -/
theorem algebraic : Cert.algebraic_DhIdeal_DhRefIdeal_pre_finite_dh := by
  intro m ρ m' ρ' hpre hagree
  have f := fun c => Cert.Pre_finite_dh.real_of_fn _ _ _ _ _ (hpre c)
  refine ⟨_, Cert.DhIdeal.Val.run m ρ (fun c => (f c).1) (fun c => (f c).2.1) (fun c => (f c).2.2.1) (fun c => (f c).2.2.2), ?_⟩
  refine (θ_run Cert.DhRefIdeal.defs _ _).mono (fun _ h c => ?_) (Cert.DhRefIdeal.Value.run (F := Ideal) m' ρ')
  obtain ⟨r0, rest⟩ := h c
  obtain ⟨a0, a1, a2, a3, a4⟩ := hagree c
  rw [a0, a1, a2, a3, a4] at r0
  exact ⟨r0, rest⟩

end Cert.DhClaims
end
-- ==== Proof.FfnDown.lean ====
module
public import proofs.«01_k».proof.Proof.Gen.DownIdeal.Value
public import proofs.«01_k».proof.Proof.Gen.DownRefIdeal.Run
public import proofs.«01_k».proof.Proof.Gen.Dw2Ideal.Value
public import proofs.«01_k».proof.Proof.Gen.Dw2RefIdeal.Run
public import proofs.«01_k».proof.Proof.Accum
@[expose] public section
set_option maxRecDepth 16384
noncomputable section
open Idealize.ShloMosaic Idealize.ShloMosaic.TcCoe Idealize.SL.Sem
open Idealize.ShloMosaic.Pipeline (Dat)

/-! The feed-forward block's third matrix: the product with it, added to the residual stream, and its gradient. -/

namespace Cert.DownIdeal.Val
open Cert.DownIdeal Cert.DownIdeal.Gen

/-- The reference's result: the residual stream plus the product. -/
abbrev down (A : FVec Ideal S16384x2816 .f32) (W : FVec Ideal S2816x1024 .f32) (X : FVec Ideal S16384x1024 .f32) : FVec Ideal S16384x1024 .f32 :=
  addf X (Host.dotGeneral Cert.DownRefIdeal.dot_S16384x2816_S2816x1024_S16384x1024_1_0_0_1_n_n none A W)

variable (m : (ℓ : Loc nD τ sig) → Buf (Elt Ideal) ℓ) (c : Dev nD)

abbrev aa : FVec Ideal S16384x2816 .f32 := m ((c.tc : Thread nD τ).loc main_arg0)
abbrev aw : FVec Ideal S2816x1024 .f32 := m ((c.tc : Thread nD τ).loc main_arg1)
abbrev ax : FVec Ideal S16384x1024 .f32 := m ((c.tc : Thread nD τ).loc main_arg2)

theorem idx : ∀ t : Fin cfg0.N, win0_0.index t = ![t.val, 0] ∧ win0_1.index t = ![0, 0] ∧ win0_2.index t = ![t.val, 0] ∧ win0_3.index t = ![t.val, 0] :=
  (by decide +kernel : ∀ t : Fin grid0.N, _)

theorem final3 : (dats m 0 c).arrAt 3 cfg0.N = down (aa m c) (aw m c) (ax m c) := by
  refine (dats m 0 c).arrAt_eq_of_covers 3 _ (by decide +kernel) fun t _ y => ?_
  blk_simp
  rw [after0_3]; unfold outsAt0; frame_out
  pointwise [k0_pay4, k0_pay2, k0_pay1, down]
  rw [add_comm]
  blk_point [iblk, V, idx t]

end Cert.DownIdeal.Val

namespace Cert.Dw2Ideal.Val
open Cert.Dw2Ideal Cert.Dw2Ideal.Gen

/-- The reference's gradient of the weights: the product over the tokens, transposed. -/
abbrev grad (A : FVec Ideal S16384x2816 .f32) (G : FVec Ideal S16384x1024 .f32) : FVec Ideal S2816x1024 .f32 :=
  transpose S2816x1024 [1, 0] (Host.dotGeneral Cert.Dw2RefIdeal.dot_S16384x1024_S16384x2816_S1024x2816_0_0_1_1_n_n none G A)
    Cert.Dw2RefIdeal.Gen.facts.transposes_S1024x2816_S2816x1024_1_0

variable (m : (ℓ : Loc nD τ sig) → Buf (Elt Ideal) ℓ) (c : Dev nD)

abbrev aa : FVec Ideal S16384x2816 .f32 := m ((c.tc : Thread nD τ).loc main_arg0)
abbrev ag : FVec Ideal S16384x1024 .f32 := m ((c.tc : Thread nD τ).loc main_arg1)

theorem idx : ∀ t : Fin cfg0.N, win0_0.index t = ![t.val % 16, t.val / 16] ∧ win0_1.index t = ![t.val % 16, 0] ∧ win0_2.index t = ![t.val / 16, 0] :=
  (by decide +kernel : ∀ t : Fin grid0.N, _)

theorem hpay2 (x : FVec Ideal S1024x1408 .bf16) (g : FVec Ideal S1024x1024 .f32) (j : S1408x1024.Idx) : k0_pay2 x g j = Accum.rows x g j := by
  pointwise [k0_pay2, k0_pay1, Accum.rows]
theorem hpay3 (x : FVec Ideal S1024x1408 .bf16) (g : FVec Ideal S1024x1024 .f32) (v : FVec Ideal S1408x1024 .f32) (j : S1408x1024.Idx) :
    k0_pay3 x g v j = v j + Accum.rows x g j := by
  pointwise [k0_pay3, k0_pay1, Accum.rows]

theorem final2 : (dats m 0 c).arrAt 2 cfg0.N = grad (aa m c) (ag m c) := by
  refine (dats m 0 c).arrAt_eq_of_covers 2 _ (by decide +kernel) fun t hf y => ?_
  have h15 := (flush0_2 t).mp hf
  have hl : (outsAt0 m c t.val t.isLt).1 = (outsAt0 m c t.val t.isLt).2 := by
    rw [outsAt0_C m c t (by omega) (by omega) h15]
    dsimp only
    frame_out
  blk_simp
  rw [after0_2, hl]
  pointwise [grad]
  refine Accum.rows_at_flush (P := 16) (K := 1024) (φ := .bf16) (ψ := .f32) (fun n h => (outsAt0 m c n h).2) (iblk m c 0) (iblk m c 1)
    (aa m c) (ag m c) (fun t h j => ?_) (fun t h j => ?_) t h15 rfl _ _ _ (fun s k hk => ?_) (fun s k hk => ?_)
  · rw [outsAt0_A m c t h (by omega) (by omega)]; frame_out; exact hpay2 _ _ _
  · by_cases h' : t.val % 16 = 15
    · rw [outsAt0_C m c t h (by omega) h']; frame_out; rw [hpay3, read_unread_whole]
    · rw [outsAt0_B m c t h (by omega) h']; frame_out; rw [hpay3, read_unread_whole]
  all_goals blk_point [iblk, V, idx t, idx ⟨_, Pipeline.run_point_lt_of_flush t h15 s⟩]

end Cert.Dw2Ideal.Val
end
-- ==== Proof.FfnDownClaim.lean ====
module
public import proofs.«01_k».proof.Defs
public import proofs.«01_k».proof.Proof.FfnDown
public import proofs.«01_k».proof.Proof.Gen.Down.Frame
public import proofs.«01_k».proof.Proof.Gen.DownIdeal.Frame
public import proofs.«01_k».proof.Proof.Gen.Dw2.Frame
public import proofs.«01_k».proof.Proof.Gen.Dw2Ideal.Frame
@[expose] public section
noncomputable section
open Idealize.ShloMosaic Idealize.ShloMosaic.TcCoe Idealize.SL.Sem

/-! The claims of the feed-forward block's third matrix. -/

namespace Cert.DownClaims
open Cert.DownIdeal.Val

theorem frame_p : Cert.quiescent_Down := fun m ρ _ => Cert.Down.Gen.frame m ρ
theorem frame_pi : Cert.quiescent_DownIdeal := fun m ρ _ => Cert.DownIdeal.Gen.frame m ρ
theorem frame_ri : Cert.quiescent_DownRefIdeal := fun m ρ _ => Accum.frame_of_run (Cert.DownRefIdeal.Value.run (F := Ideal) m ρ)
theorem preserves : Cert.preserves_Down_DownIdeal := trivial

/-- The kernel's result array is the reference's. -/
theorem algebraic : Cert.algebraic_DownIdeal_DownRefIdeal := fun m ρ m' ρ' _ hagree =>
  ⟨_, Cert.DownIdeal.Value.run_blocks (F := Ideal) m ρ, Accum.run_congr (Cert.DownRefIdeal.Value.run (F := Ideal) m' ρ') fun c _ e => by
    rw [(hagree c).1, (hagree c).2.1, (hagree c).2.2] at e; exact e.trans (final3 m c).symm⟩

end Cert.DownClaims

namespace Cert.Dw2Claims
open Cert.Dw2Ideal.Val

theorem frame_p : Cert.quiescent_Dw2 := fun m ρ _ => Cert.Dw2.Gen.frame m ρ
theorem frame_pi : Cert.quiescent_Dw2Ideal := fun m ρ _ => Cert.Dw2Ideal.Gen.frame m ρ
theorem frame_ri : Cert.quiescent_Dw2RefIdeal := fun m ρ _ => Accum.frame_of_run (Cert.Dw2RefIdeal.Value.run (F := Ideal) m ρ)
theorem preserves : Cert.preserves_Dw2_Dw2Ideal := trivial

/-- The kernel's gradient of the weights is the reference's. -/
theorem algebraic : Cert.algebraic_Dw2Ideal_Dw2RefIdeal := fun m ρ m' ρ' _ hagree =>
  ⟨_, Cert.Dw2Ideal.Value.run_blocks (F := Ideal) m ρ, Accum.run_congr (Cert.Dw2RefIdeal.Value.run (F := Ideal) m' ρ') fun c _ e => by
    rw [(hagree c).1, (hagree c).2] at e; exact e.trans (final2 m c).symm⟩

end Cert.Dw2Claims

end
-- ==== Proof.InProj.lean ====
module
public import proofs.«01_k».proof.Proof.Gen.InBIdeal.Value
public import proofs.«01_k».proof.Proof.Gen.InBRefIdeal.Run
public import proofs.«01_k».proof.Proof.Gen.InGIdeal.Value
public import proofs.«01_k».proof.Proof.Gen.InGRefIdeal.Run
public import proofs.«01_k».proof.Proof.Gen.DhBIdeal.Value
public import proofs.«01_k».proof.Proof.Gen.DhBRefIdeal.Run
public import proofs.«01_k».proof.Proof.Gen.DhGIdeal.Value
public import proofs.«01_k».proof.Proof.Gen.DhGRefIdeal.Run
public import proofs.«01_k».proof.Proof.Accum
@[expose] public section
set_option maxRecDepth 16384
noncomputable section
open Idealize.ShloMosaic Idealize.ShloMosaic.TcCoe Idealize.SL.Sem
open Idealize.ShloMosaic.Pipeline (Dat)

/-! The input projection's parts for HGRN2 and for the merge's gates: the product with the weights, and the gradient brought back to its input. -/

namespace Cert.InBIdeal.Val
open Cert.InBIdeal Cert.InBIdeal.Gen

variable (m : (ℓ : Loc nD τ sig) → Buf (Elt Ideal) ℓ) (c : Dev nD)

/-- The reference's product. -/
abbrev prod (H : FVec Ideal S16384x1024 .f32) (W : FVec Ideal S1024x4096 .f32) : FVec Ideal S16384x4096 .f32 :=
  Host.dotGeneral Cert.InBRefIdeal.dot_S16384x1024_S1024x4096_S16384x4096_1_0_0_1_n_n none H W

theorem idx : ∀ t : Fin cfg0.N, win0_0.index t = ![t.val / 4, 0] ∧ win0_1.index t = ![0, t.val % 4] ∧ win0_2.index t = ![t.val / 4, t.val % 4] :=
  (by decide +kernel : ∀ t : Fin grid0.N, _)

theorem final2 : (dats m 0 c).arrAt 2 cfg0.N = prod (m ((c.tc : Thread nD τ).loc main_arg0)) (m ((c.tc : Thread nD τ).loc main_arg1)) := by
  refine (dats m 0 c).arrAt_eq_of_covers 2 _ (by decide +kernel) fun t _ y => ?_
  blk_simp
  rw [after0_2]; unfold outsAt0; frame_out
  pointwise [k0_pay2, k0_pay1, prod]
  blk_point [iblk, V, idx t]

end Cert.InBIdeal.Val

namespace Cert.InGIdeal.Val
open Cert.InGIdeal Cert.InGIdeal.Gen

variable (m : (ℓ : Loc nD τ sig) → Buf (Elt Ideal) ℓ) (c : Dev nD)

/-- The reference's product, in the short format. -/
abbrev prod (H : FVec Ideal S16384x1024 .f32) (W : FVec Ideal S1024x3072 .f32) : FVec Ideal S16384x3072 .bf16 :=
  truncf .bf16 (Host.dotGeneral Cert.InGRefIdeal.dot_S16384x1024_S1024x3072_S16384x3072_1_0_0_1_n_n none H W) Cert.InGRefIdeal.Gen.facts.bitsLt_bf16_f32

theorem idx : ∀ t : Fin cfg0.N, win0_0.index t = ![t.val / 3, 0] ∧ win0_1.index t = ![0, t.val % 3] ∧ win0_2.index t = ![t.val / 3, t.val % 3] :=
  (by decide +kernel : ∀ t : Fin grid0.N, _)

theorem final2 : (dats m 0 c).arrAt 2 cfg0.N = prod (m ((c.tc : Thread nD τ).loc main_arg0)) (m ((c.tc : Thread nD τ).loc main_arg1)) := by
  refine (dats m 0 c).arrAt_eq_of_covers 2 _ (by decide +kernel) fun t _ y => ?_
  blk_simp
  rw [after0_2]; unfold outsAt0; frame_out
  pointwise [k0_pay4, k0_pay2, k0_pay1, prod]
  blk_point [iblk, V, idx t]

end Cert.InGIdeal.Val

namespace Cert.DhGIdeal.Val
open Cert.DhGIdeal Cert.DhGIdeal.Gen

variable (m : (ℓ : Loc nD τ sig) → Buf (Elt Ideal) ℓ) (c : Dev nD)

/-- The reference's gradient: what is there already, plus the product with the transposed weights. -/
abbrev back (D : FVec Ideal S16384x1024 .f32) (W : FVec Ideal S1024x1024 .f32) (X : FVec Ideal S16384x1024 .f32) : FVec Ideal S16384x1024 .f32 :=
  addf X (Host.dotGeneral Cert.DhGRefIdeal.dot_S16384x1024_S1024x1024_S16384x1024_1_1_0_0_n_n none D W)

theorem idx : ∀ t : Fin cfg0.N, win0_0.index t = ![t.val, 0] ∧ win0_1.index t = ![0, 0] ∧ win0_2.index t = ![t.val, 0] ∧ win0_3.index t = ![t.val, 0] :=
  (by decide +kernel : ∀ t : Fin grid0.N, _)

theorem final3 : (dats m 0 c).arrAt 3 cfg0.N
    = back (m ((c.tc : Thread nD τ).loc main_arg0)) (m ((c.tc : Thread nD τ).loc main_arg1)) (m ((c.tc : Thread nD τ).loc main_arg2)) := by
  refine (dats m 0 c).arrAt_eq_of_covers 3 _ (by decide +kernel) fun t _ y => ?_
  blk_simp
  rw [after0_3]; unfold outsAt0; frame_out
  pointwise [k0_pay4, k0_pay2, k0_pay1, back]
  rw [add_comm]
  blk_point [iblk, V, idx t]

end Cert.DhGIdeal.Val

namespace Cert.DhBIdeal.Val
open Cert.DhBIdeal Cert.DhBIdeal.Gen

variable (m : (ℓ : Loc nD τ sig) → Buf (Elt Ideal) ℓ) (c : Dev nD)

/-- The reference's gradient: what is there already, plus the product with the transposed weights. -/
abbrev back (D : FVec Ideal S16384x4096 .f32) (W : FVec Ideal S1024x4096 .f32) (X : FVec Ideal S16384x1024 .f32) : FVec Ideal S16384x1024 .f32 :=
  addf X (Host.dotGeneral Cert.DhBRefIdeal.dot_S16384x4096_S1024x4096_S16384x1024_1_1_0_0_n_n none D W)

theorem idx : ∀ t : Fin cfg0.N, win0_0.index t = ![t.val / 4, t.val % 4] ∧ win0_1.index t = ![0, t.val % 4] ∧ win0_2.index t = ![t.val / 4, 0]
    ∧ win0_3.index t = ![t.val / 4, 0] :=
  (by decide +kernel : ∀ t : Fin grid0.N, _)

theorem hpay2 (x w : FVec Ideal S1024x1024 .bf16) (j : S1024x1024.Idx) : k0_pay2 x w j = Accum.cols x w j := by
  pointwise [k0_pay2, k0_pay1, Accum.cols]
theorem hpay3 (x w : FVec Ideal S1024x1024 .bf16) (v : FVec Ideal S1024x1024 .f32) (j : S1024x1024.Idx) :
    k0_pay3 x w v j = v j + Accum.cols x w j := by
  pointwise [k0_pay3, k0_pay1, Accum.cols]
theorem hpay4 (v x : Vec Ideal S1024x1024 .f32) (j : S1024x1024.Idx) :
    k0_pay4 v x j = (show FVec Ideal S1024x1024 .f32 from v) j + (show FVec Ideal S1024x1024 .f32 from x) j := by
  pointwise [k0_pay4]

theorem final3 : (dats m 0 c).arrAt 3 cfg0.N
    = back (m ((c.tc : Thread nD τ).loc main_arg0)) (m ((c.tc : Thread nD τ).loc main_arg1)) (m ((c.tc : Thread nD τ).loc main_arg2)) := by
  refine (dats m 0 c).arrAt_eq_of_covers 3 _ (by decide +kernel) fun t hf y => ?_
  have h3 := (flush0_3 t).mp hf
  have hl : (outsAt0 m c t.val t.isLt).1 = k0_pay4 (outsAt0 m c t.val t.isLt).2 (iblk m c 2 t) := by
    rw [outsAt0_C m c t (by omega) (by omega) h3]
    dsimp only
    frame_out
  blk_simp
  rw [after0_3, hl, hpay4]
  dsimp only
  pointwise [back]
  rw [add_comm]
  refine congrArg₂ (· + ·) ?_ ?_
  · blk_point [iblk, V, idx t]
  refine Accum.at_flush (P := 4) (K := 1024) (fun n h => (outsAt0 m c n h).2) (fun p => Accum.cols (φ := .bf16) (ψ := .bf16) (iblk m c 0 p) (iblk m c 1 p))
    (fun t h j => ?_) (fun t h j => ?_) t h3 rfl _ _ (fun s => ⟨_, rfl, fun k hk => ?_⟩)
  · rw [outsAt0_A m c t h (by omega) (by omega)]; frame_out; exact hpay2 _ _ _
  · by_cases h' : t.val % 4 = 3
    · rw [outsAt0_C m c t h (by omega) h']; frame_out; rw [hpay3, read_unread_whole]
    · rw [outsAt0_B m c t h (by omega) h']; frame_out; rw [hpay3, read_unread_whole]
  blk_point [iblk, V, idx t, idx ⟨_, Pipeline.run_point_lt_of_flush t h3 s⟩]

end Cert.DhBIdeal.Val
end
-- ==== Proof.InProjDw.lean ====
module
public import proofs.«01_k».proof.Proof.Accum
public import proofs.«01_k».proof.Proof.Gen.DwBIdeal.Value
public import proofs.«01_k».proof.Proof.Gen.DwBRefIdeal.Run
public import proofs.«01_k».proof.Proof.Gen.DwGIdeal.Value
public import proofs.«01_k».proof.Proof.Gen.DwGRefIdeal.Run
@[expose] public section
set_option maxRecDepth 16384
noncomputable section
open Idealize.ShloMosaic Idealize.ShloMosaic.TcCoe Idealize.SL.Sem
open Idealize.ShloMosaic.Pipeline (Dat)

/-! The gradients of the input projection's weights, for HGRN2 and for the merge's gates. -/

namespace Cert.DwBIdeal.Val
open Cert.DwBIdeal Cert.DwBIdeal.Gen

variable (m : (ℓ : Loc nD τ sig) → Buf (Elt Ideal) ℓ) (c : Dev nD)

abbrev ah : FVec Ideal S16384x1024 .f32 := m ((c.tc : Thread nD τ).loc main_arg0)
abbrev ag : FVec Ideal S16384x4096 .f32 := m ((c.tc : Thread nD τ).loc main_arg1)

/-- The reference's gradient of the weights: the product over the tokens, transposed. -/
abbrev grad : FVec Ideal S1024x4096 .f32 :=
  transpose S1024x4096 [1, 0] (Host.dotGeneral Cert.DwBRefIdeal.dot_S16384x4096_S16384x1024_S4096x1024_0_0_1_1_n_n none (ag m c) (ah m c))
    Cert.DwBRefIdeal.Gen.facts.transposes_S4096x1024_S1024x4096_1_0

theorem idx : ∀ t : Fin cfg0.N, win0_0.index t = ![t.val % 16, t.val / 64] ∧ win0_1.index t = ![t.val % 16, t.val / 16 % 4]
    ∧ win0_2.index t = ![t.val / 64, t.val / 16 % 4] :=
  (by decide +kernel : ∀ t : Fin grid0.N, _)

theorem hpay2 (x : FVec Ideal S1024x512 .bf16) (g : FVec Ideal S1024x1024 .bf16) (j : S512x1024.Idx) : k0_pay2 x g j = Accum.rows x g j := by
  pointwise [k0_pay2, k0_pay1, Accum.rows]
theorem hpay3 (x : FVec Ideal S1024x512 .bf16) (g : FVec Ideal S1024x1024 .bf16) (v : FVec Ideal S512x1024 .f32) (j : S512x1024.Idx) :
    k0_pay3 x g v j = v j + Accum.rows x g j := by
  pointwise [k0_pay3, k0_pay1, Accum.rows]

theorem final2 : (dats m 0 c).arrAt 2 cfg0.N = grad m c := by
  refine (dats m 0 c).arrAt_eq_of_covers 2 _ (by decide +kernel) fun t hf y => ?_
  have h15 := (flush0_2 t).mp hf
  have hl : (outsAt0 m c t.val t.isLt).1 = (outsAt0 m c t.val t.isLt).2 := by
    rw [outsAt0_C m c t (by omega) (by omega) h15]
    dsimp only
    frame_out
  blk_simp
  rw [after0_2, hl]
  pointwise [grad]
  refine Accum.rows_at_flush (P := 16) (K := 1024) (φ := .bf16) (ψ := .bf16) (fun n h => (outsAt0 m c n h).2) (iblk m c 0) (iblk m c 1) (ah m c) (ag m c)
    (fun t h j => ?_) (fun t h j => ?_) t h15 rfl _ _ _ (fun s k hk => ?_) (fun s k hk => ?_)
  · rw [outsAt0_A m c t h (by omega) (by omega)]; frame_out; exact hpay2 _ _ _
  · by_cases h' : t.val % 16 = 15
    · rw [outsAt0_C m c t h (by omega) h']; frame_out; rw [hpay3, read_unread_whole]
    · rw [outsAt0_B m c t h (by omega) h']; frame_out; rw [hpay3, read_unread_whole]
  all_goals blk_point [iblk, V, idx t, idx ⟨_, Pipeline.run_point_lt_of_flush t h15 s⟩]

end Cert.DwBIdeal.Val

namespace Cert.DwGIdeal.Val
open Cert.DwGIdeal Cert.DwGIdeal.Gen

variable (m : (ℓ : Loc nD τ sig) → Buf (Elt Ideal) ℓ) (c : Dev nD)

abbrev ah : FVec Ideal S16384x1024 .f32 := m ((c.tc : Thread nD τ).loc main_arg0)
abbrev ag : FVec Ideal S16384x1024 .f32 := m ((c.tc : Thread nD τ).loc main_arg1)

/-- The reference's gradient of the weights: the product over the tokens, transposed. -/
abbrev grad : FVec Ideal S1024x1024 .f32 :=
  transpose S1024x1024 [1, 0] (Host.dotGeneral Cert.DwGRefIdeal.dot_S16384x1024_S16384x1024_S1024x1024_0_0_1_1_n_n none (ag m c) (ah m c))
    Cert.DwGRefIdeal.Gen.facts.transposes_S1024x1024_S1024x1024_1_0

theorem idx : ∀ t : Fin cfg0.N, win0_0.index t = ![t.val % 16, t.val / 16] ∧ win0_1.index t = ![t.val % 16, 0] ∧ win0_2.index t = ![t.val / 16, 0] :=
  (by decide +kernel : ∀ t : Fin grid0.N, _)

/-- One point's product is the one of the gradient above, whose blocks have the same shapes. -/
theorem final2 : (dats m 0 c).arrAt 2 cfg0.N = grad m c := by
  refine (dats m 0 c).arrAt_eq_of_covers 2 _ (by decide +kernel) fun t hf y => ?_
  have h15 := (flush0_2 t).mp hf
  have hl : (outsAt0 m c t.val t.isLt).1 = (outsAt0 m c t.val t.isLt).2 := by
    rw [outsAt0_C m c t (by omega) (by omega) h15]
    dsimp only
    frame_out
  blk_simp
  rw [after0_2, hl]
  pointwise [grad]
  refine Accum.rows_at_flush (P := 16) (K := 1024) (φ := .bf16) (ψ := .bf16) (fun n h => (outsAt0 m c n h).2) (iblk m c 0) (iblk m c 1)
    (ah m c) (ag m c) (fun t h j => ?_) (fun t h j => ?_) t h15 rfl _ _ _ (fun s k hk => ?_) (fun s k hk => ?_)
  · rw [outsAt0_A m c t h (by omega) (by omega)]; frame_out; exact Cert.DwBIdeal.Val.hpay2 _ _ _
  · by_cases h' : t.val % 16 = 15
    · rw [outsAt0_C m c t h (by omega) h']; frame_out; rw [read_unread_whole]; exact Cert.DwBIdeal.Val.hpay3 _ _ _ _
    · rw [outsAt0_B m c t h (by omega) h']; frame_out; rw [read_unread_whole]; exact Cert.DwBIdeal.Val.hpay3 _ _ _ _
  all_goals blk_point [iblk, V, idx t, idx ⟨_, Pipeline.run_point_lt_of_flush t h15 s⟩]

end Cert.DwGIdeal.Val
end
-- ==== Proof.InProjClaim.lean ====
module
public import proofs.«01_k».proof.Defs
public import proofs.«01_k».proof.Proof.InProj
public import proofs.«01_k».proof.Proof.InProjDw
public import proofs.«01_k».proof.Proof.Gen.InB.Frame
public import proofs.«01_k».proof.Proof.Gen.InBIdeal.Frame
public import proofs.«01_k».proof.Proof.Gen.DhB.Frame
public import proofs.«01_k».proof.Proof.Gen.DhBIdeal.Frame
public import proofs.«01_k».proof.Proof.Gen.DwB.Frame
public import proofs.«01_k».proof.Proof.Gen.DwBIdeal.Frame
public import proofs.«01_k».proof.Proof.Gen.InG.Frame
public import proofs.«01_k».proof.Proof.Gen.InGIdeal.Frame
public import proofs.«01_k».proof.Proof.Gen.DhG.Frame
public import proofs.«01_k».proof.Proof.Gen.DhGIdeal.Frame
public import proofs.«01_k».proof.Proof.Gen.DwG.Frame
public import proofs.«01_k».proof.Proof.Gen.DwGIdeal.Frame
@[expose] public section
noncomputable section
open Idealize.ShloMosaic Idealize.ShloMosaic.TcCoe Idealize.SL.Sem

/-! The claims of the input projection's parts. A reference's frame and each equality of results follow from its run. -/

namespace Cert.InBClaims
open Cert.InBIdeal.Val

theorem frame_p : Cert.quiescent_InB := fun m ρ _ => Cert.InB.Gen.frame m ρ
theorem frame_pi : Cert.quiescent_InBIdeal := fun m ρ _ => Cert.InBIdeal.Gen.frame m ρ
theorem frame_ri : Cert.quiescent_InBRefIdeal := fun m ρ _ => Accum.frame_of_run (Cert.InBRefIdeal.Value.run (F := Ideal) m ρ)
theorem preserves : Cert.preserves_InB_InBIdeal := trivial

/-- The kernel's product is the reference's. -/
theorem algebraic : Cert.algebraic_InBIdeal_InBRefIdeal := fun m ρ m' ρ' _ hagree =>
  ⟨_, Cert.InBIdeal.Value.run_blocks (F := Ideal) m ρ, Accum.run_congr (Cert.InBRefIdeal.Value.run (F := Ideal) m' ρ') fun c _ e => by
    rw [(hagree c).1, (hagree c).2] at e; exact e.trans (final2 m c).symm⟩

end Cert.InBClaims

namespace Cert.DhBClaims
open Cert.DhBIdeal.Val

theorem frame_p : Cert.quiescent_DhB := fun m ρ _ => Cert.DhB.Gen.frame m ρ
theorem frame_pi : Cert.quiescent_DhBIdeal := fun m ρ _ => Cert.DhBIdeal.Gen.frame m ρ
theorem frame_ri : Cert.quiescent_DhBRefIdeal := fun m ρ _ => Accum.frame_of_run (Cert.DhBRefIdeal.Value.run (F := Ideal) m ρ)
theorem preserves : Cert.preserves_DhB_DhBIdeal := trivial

/-- The kernel's gradient is the reference's. -/
theorem algebraic : Cert.algebraic_DhBIdeal_DhBRefIdeal := fun m ρ m' ρ' _ hagree =>
  ⟨_, Cert.DhBIdeal.Value.run_blocks (F := Ideal) m ρ, Accum.run_congr (Cert.DhBRefIdeal.Value.run (F := Ideal) m' ρ') fun c _ e => by
    rw [(hagree c).1, (hagree c).2.1, (hagree c).2.2] at e; exact e.trans (final3 m c).symm⟩

end Cert.DhBClaims

namespace Cert.DwBClaims
open Cert.DwBIdeal.Val

theorem frame_p : Cert.quiescent_DwB := fun m ρ _ => Cert.DwB.Gen.frame m ρ
theorem frame_pi : Cert.quiescent_DwBIdeal := fun m ρ _ => Cert.DwBIdeal.Gen.frame m ρ
theorem frame_ri : Cert.quiescent_DwBRefIdeal := fun m ρ _ => Accum.frame_of_run (Cert.DwBRefIdeal.Value.run (F := Ideal) m ρ)
theorem preserves : Cert.preserves_DwB_DwBIdeal := trivial

/-- The kernel's gradient of the weights is the reference's. -/
theorem algebraic : Cert.algebraic_DwBIdeal_DwBRefIdeal := fun m ρ m' ρ' _ hagree =>
  ⟨_, Cert.DwBIdeal.Value.run_blocks (F := Ideal) m ρ, Accum.run_congr (Cert.DwBRefIdeal.Value.run (F := Ideal) m' ρ') fun c _ e => by
    rw [(hagree c).1, (hagree c).2] at e; exact e.trans (final2 m c).symm⟩

end Cert.DwBClaims

namespace Cert.InGClaims
open Cert.InGIdeal.Val

theorem frame_p : Cert.quiescent_InG := fun m ρ _ => Cert.InG.Gen.frame m ρ
theorem frame_pi : Cert.quiescent_InGIdeal := fun m ρ _ => Cert.InGIdeal.Gen.frame m ρ
theorem frame_ri : Cert.quiescent_InGRefIdeal := fun m ρ _ => Accum.frame_of_run (Cert.InGRefIdeal.Value.run (F := Ideal) m ρ)
theorem preserves : Cert.preserves_InG_InGIdeal := trivial

/-- The kernel's product is the reference's. -/
theorem algebraic : Cert.algebraic_InGIdeal_InGRefIdeal := fun m ρ m' ρ' _ hagree =>
  ⟨_, Cert.InGIdeal.Value.run_blocks (F := Ideal) m ρ, Accum.run_congr (Cert.InGRefIdeal.Value.run (F := Ideal) m' ρ') fun c _ e => by
    rw [(hagree c).1, (hagree c).2] at e; exact e.trans (final2 m c).symm⟩

end Cert.InGClaims

namespace Cert.DhGClaims
open Cert.DhGIdeal.Val

theorem frame_p : Cert.quiescent_DhG := fun m ρ _ => Cert.DhG.Gen.frame m ρ
theorem frame_pi : Cert.quiescent_DhGIdeal := fun m ρ _ => Cert.DhGIdeal.Gen.frame m ρ
theorem frame_ri : Cert.quiescent_DhGRefIdeal := fun m ρ _ => Accum.frame_of_run (Cert.DhGRefIdeal.Value.run (F := Ideal) m ρ)
theorem preserves : Cert.preserves_DhG_DhGIdeal := trivial

/-- The kernel's gradient is the reference's. -/
theorem algebraic : Cert.algebraic_DhGIdeal_DhGRefIdeal := fun m ρ m' ρ' _ hagree =>
  ⟨_, Cert.DhGIdeal.Value.run_blocks (F := Ideal) m ρ, Accum.run_congr (Cert.DhGRefIdeal.Value.run (F := Ideal) m' ρ') fun c _ e => by
    rw [(hagree c).1, (hagree c).2.1, (hagree c).2.2] at e; exact e.trans (final3 m c).symm⟩

end Cert.DhGClaims

namespace Cert.DwGClaims
open Cert.DwGIdeal.Val

theorem frame_p : Cert.quiescent_DwG := fun m ρ _ => Cert.DwG.Gen.frame m ρ
theorem frame_pi : Cert.quiescent_DwGIdeal := fun m ρ _ => Cert.DwGIdeal.Gen.frame m ρ
theorem frame_ri : Cert.quiescent_DwGRefIdeal := fun m ρ _ => Accum.frame_of_run (Cert.DwGRefIdeal.Value.run (F := Ideal) m ρ)
theorem preserves : Cert.preserves_DwG_DwGIdeal := trivial

/-- The kernel's gradient of the weights is the reference's. -/
theorem algebraic : Cert.algebraic_DwGIdeal_DwGRefIdeal := fun m ρ m' ρ' _ hagree =>
  ⟨_, Cert.DwGIdeal.Value.run_blocks (F := Ideal) m ρ, Accum.run_congr (Cert.DwGRefIdeal.Value.run (F := Ideal) m' ρ') fun c _ e => by
    rw [(hagree c).1, (hagree c).2] at e; exact e.trans (final2 m c).symm⟩

end Cert.DwGClaims

end
-- ==== Proof.MergeOut.lean ====
module
public import proofs.«01_k».proof.Proof.Accum
public import proofs.«01_k».proof.Proof.Gen.OutIdeal.Value
public import proofs.«01_k».proof.Proof.Gen.OutRefIdeal.Run
public import proofs.«01_k».proof.Proof.Gen.DwOutIdeal.Value
public import proofs.«01_k».proof.Proof.Gen.DwOutRefIdeal.Run
public import proofs.«01_k».proof.Proof.Gen.MergeIdeal.Value
public import proofs.«01_k».proof.Proof.Gen.MergeRefIdeal.Run
@[expose] public section
set_option maxRecDepth 16384
noncomputable section
open Idealize.ShloMosaic Idealize.ShloMosaic.TcCoe Idealize.SL.Sem
open Idealize.ShloMosaic.Pipeline (Dat)

/-! The gated merge of the three branches, and the square output projection with its gradient. -/

namespace Cert.OutIdeal.Val
open Cert.OutIdeal Cert.OutIdeal.Gen

variable (m : (ℓ : Loc nD τ sig) → Buf (Elt Ideal) ℓ) (c : Dev nD)

/-- The reference's result: the residual stream plus the product. -/
abbrev out (Y : FVec Ideal S16384x1024 .f32) (W : FVec Ideal S1024x1024 .f32) (X : FVec Ideal S16384x1024 .f32) : FVec Ideal S16384x1024 .f32 :=
  addf X (Host.dotGeneral Cert.OutRefIdeal.dot_S16384x1024_S1024x1024_S16384x1024_1_0_0_1_n_n none Y W)

theorem idx : ∀ t : Fin cfg0.N, win0_0.index t = ![t.val, 0] ∧ win0_1.index t = ![0, 0] ∧ win0_2.index t = ![t.val, 0] ∧ win0_3.index t = ![t.val, 0] :=
  (by decide +kernel : ∀ t : Fin grid0.N, _)

theorem final3 : (dats m 0 c).arrAt 3 cfg0.N
    = out (m ((c.tc : Thread nD τ).loc main_arg0)) (m ((c.tc : Thread nD τ).loc main_arg1)) (m ((c.tc : Thread nD τ).loc main_arg2)) := by
  refine (dats m 0 c).arrAt_eq_of_covers 3 _ (by decide +kernel) fun t _ y => ?_
  blk_simp
  rw [after0_3]; unfold outsAt0; frame_out
  pointwise [k0_pay4, k0_pay2, k0_pay1, out]
  rw [add_comm]
  blk_point [iblk, V, idx t]

end Cert.OutIdeal.Val

namespace Cert.DwOutIdeal.Val
open Cert.DwOutIdeal Cert.DwOutIdeal.Gen

variable (m : (ℓ : Loc nD τ sig) → Buf (Elt Ideal) ℓ) (c : Dev nD)

abbrev ay : FVec Ideal S16384x1024 .f32 := m ((c.tc : Thread nD τ).loc main_arg0)
abbrev ag : FVec Ideal S16384x1024 .f32 := m ((c.tc : Thread nD τ).loc main_arg1)

/-- The reference's gradient of the weights: the product over the tokens, transposed. -/
abbrev grad : FVec Ideal S1024x1024 .f32 :=
  transpose S1024x1024 [1, 0] (Host.dotGeneral Cert.DwOutRefIdeal.dot_S16384x1024_S16384x1024_S1024x1024_0_0_1_1_n_n none (ag m c) (ay m c))
    Cert.DwOutRefIdeal.Gen.facts.transposes_S1024x1024_S1024x1024_1_0

theorem idx : ∀ t : Fin cfg0.N, win0_0.index t = ![t.val % 16, t.val / 16] ∧ win0_1.index t = ![t.val % 16, 0] ∧ win0_2.index t = ![t.val / 16, 0] :=
  (by decide +kernel : ∀ t : Fin grid0.N, _)

theorem hpay2 (x : FVec Ideal S1024x512 .bf16) (g : FVec Ideal S1024x1024 .f32) (j : S512x1024.Idx) : k0_pay2 x g j = Accum.rows x g j := by
  pointwise [k0_pay2, k0_pay1, Accum.rows]
theorem hpay3 (x : FVec Ideal S1024x512 .bf16) (g : FVec Ideal S1024x1024 .f32) (v : FVec Ideal S512x1024 .f32) (j : S512x1024.Idx) :
    k0_pay3 x g v j = v j + Accum.rows x g j := by
  pointwise [k0_pay3, k0_pay1, Accum.rows]

theorem final2 : (dats m 0 c).arrAt 2 cfg0.N = grad m c := by
  refine (dats m 0 c).arrAt_eq_of_covers 2 _ (by decide +kernel) fun t hf y => ?_
  have h15 := (flush0_2 t).mp hf
  have hl : (outsAt0 m c t.val t.isLt).1 = (outsAt0 m c t.val t.isLt).2 := by
    rw [outsAt0_C m c t (by omega) (by omega) h15]
    dsimp only
    frame_out
  blk_simp
  rw [after0_2, hl]
  pointwise [grad]
  refine Accum.rows_at_flush (P := 16) (K := 1024) (φ := .bf16) (ψ := .f32) (fun n h => (outsAt0 m c n h).2) (iblk m c 0) (iblk m c 1)
    (ay m c) (ag m c) (fun t h j => ?_) (fun t h j => ?_) t h15 rfl _ _ _ (fun s k hk => ?_) (fun s k hk => ?_)
  · rw [outsAt0_A m c t h (by omega) (by omega)]; frame_out; exact hpay2 _ _ _
  · by_cases h' : t.val % 16 = 15
    · rw [outsAt0_C m c t h (by omega) h']; frame_out; rw [hpay3, read_unread_whole]
    · rw [outsAt0_B m c t h (by omega) h']; frame_out; rw [hpay3, read_unread_whole]
  all_goals blk_point [iblk, V, idx t, idx ⟨_, Pipeline.run_point_lt_of_flush t h15 s⟩]

end Cert.DwOutIdeal.Val

namespace Cert.MergeIdeal.Val
open Cert.MergeIdeal Cert.MergeIdeal.Gen

variable (m : (ℓ : Loc nD τ sig) → Buf (Elt Ideal) ℓ) (c : Dev nD)

abbrev az : FVec Ideal S16384x3072 .f32 := m ((c.tc : Thread nD τ).loc main_arg6)

/-- A constant over the whole array, as the reference writes it. -/
abbrev all (b : BitVec 32) : FVec Ideal S16384x1024 .f32 :=
  broadcastInDim S16384x1024 ![] Cert.MergeRefIdeal.Gen.facts.bcast_S_S16384x1024 (constant Cert.MergeRefIdeal.S_ .f32 b)

/-- One branch: the logistic of its gate times its product with its weights. -/
abbrev branch (z : FVec Ideal S16384x1024 .f32) (Y : FVec Ideal S16384x512 .f32) (W : FVec Ideal S512x1024 .f32) : FVec Ideal S16384x1024 .f32 :=
  mulf (Host.divf (all 0x3F800000#32) (addf (all 0x3F800000#32) (Host.exp (Host.negf z))))
    (Host.dotGeneral Cert.MergeRefIdeal.dot_S16384x512_S512x1024_S16384x1024_1_0_0_1_n_n none Y W)

/-- The reference's sum of the three branches, in the short format. -/
abbrev merged : FVec Ideal S16384x1024 .bf16 :=
  truncf .bf16 (addf (addf (addf (all 0x00000000#32)
    (branch (extractStridedSlice S16384x1024 ![0, 0] (az m c) Cert.MergeRefIdeal.Gen.facts.slices_S16384x3072_S16384x1024_0_0)
      (m ((c.tc : Thread nD τ).loc main_arg0)) (m ((c.tc : Thread nD τ).loc main_arg3))))
    (branch (extractStridedSlice S16384x1024 ![0, 1024] (az m c) Cert.MergeRefIdeal.Gen.facts.slices_S16384x3072_S16384x1024_0_1024)
      (m ((c.tc : Thread nD τ).loc main_arg1)) (m ((c.tc : Thread nD τ).loc main_arg4))))
    (branch (extractStridedSlice S16384x1024 ![0, 2048] (az m c) Cert.MergeRefIdeal.Gen.facts.slices_S16384x3072_S16384x1024_0_2048)
      (m ((c.tc : Thread nD τ).loc main_arg2)) (m ((c.tc : Thread nD τ).loc main_arg5)))) Cert.MergeRefIdeal.Gen.facts.bitsLt_bf16_f32

/-- The branches share their blocks of rows and of columns; the gates lie side by side. -/
theorem idx : ∀ t : Fin cfg0.N, (win0_0.index t = ![t.val / 2, 0] ∧ win0_1.index t = ![t.val / 2, 0] ∧ win0_2.index t = ![t.val / 2, 0])
    ∧ (win0_3.index t = ![0, t.val % 2] ∧ win0_4.index t = ![0, t.val % 2] ∧ win0_5.index t = ![0, t.val % 2])
    ∧ win0_6.index t = ![t.val / 2, t.val % 2] ∧ win0_7.index t = ![t.val / 2, 2 + t.val % 2] ∧ win0_8.index t = ![t.val / 2, 4 + t.val % 2]
    ∧ win0_9.index t = ![t.val / 2, t.val % 2] :=
  (by decide +kernel : ∀ t : Fin grid0.N, _)

theorem final9 : (dats m 0 c).arrAt 9 cfg0.N = merged m c := by
  refine (dats m 0 c).arrAt_eq_of_covers 9 _ (by decide +kernel) fun t _ y => ?_
  blk_simp
  rw [after0_9]; frame_out
  pointwise [k0_pay1, merged, branch, all]
  simp only [Ideal.logistic]
  obtain ⟨⟨i0, i1, i2⟩, ⟨i3, i4, i5⟩, i6, i7, i8, i9⟩ := idx t
  blk_point [iblk, V, i0, i1, i2, i3, i4, i5, i6, i7, i8, i9]

end Cert.MergeIdeal.Val
end
-- ==== Proof.MergeBack.lean ====
module
public import proofs.«01_k».proof.Proof.Accum
public import proofs.«01_k».proof.Proof.Gen.MergeBwdIdeal.Value
public import proofs.«01_k».proof.Proof.Gen.MergeBwdRefIdeal.Run
@[expose] public section
set_option maxRecDepth 16384
noncomputable section
open Idealize.ShloMosaic Idealize.ShloMosaic.TcCoe Idealize.SL.Sem
open Idealize.ShloMosaic.Pipeline (Dat)

/-! The gated merge's backward pass: each branch's gradient to its product and to its gate. -/

namespace Cert.MergeBwdIdeal.Val
open Cert.MergeBwdIdeal Cert.MergeBwdIdeal.Gen

variable (m : (ℓ : Loc nD τ sig) → Buf (Elt Ideal) ℓ) (c : Dev nD)

abbrev az : FVec Ideal S16384x3072 .f32 := m ((c.tc : Thread nD τ).loc main_arg6)
abbrev ad : FVec Ideal S16384x1024 .f32 := m ((c.tc : Thread nD τ).loc main_arg7)

/-- The three gates, side by side in one array. -/
abbrev z0 : FVec Ideal S16384x1024 .f32 :=
  extractStridedSlice S16384x1024 ![0, 0] (az m c) Cert.MergeBwdRefIdeal.Gen.facts.slices_S16384x3072_S16384x1024_0_0
abbrev z1 : FVec Ideal S16384x1024 .f32 :=
  extractStridedSlice S16384x1024 ![0, 1024] (az m c) Cert.MergeBwdRefIdeal.Gen.facts.slices_S16384x3072_S16384x1024_0_1024
abbrev z2 : FVec Ideal S16384x1024 .f32 :=
  extractStridedSlice S16384x1024 ![0, 2048] (az m c) Cert.MergeBwdRefIdeal.Gen.facts.slices_S16384x3072_S16384x1024_0_2048

abbrev one : FVec Ideal S16384x1024 .f32 :=
  broadcastInDim S16384x1024 ![] Cert.MergeBwdRefIdeal.Gen.facts.bcast_S_S16384x1024 (constant Cert.MergeBwdRefIdeal.S_ .f32 0x3F800000#32)
abbrev sg (z : FVec Ideal S16384x1024 .f32) : FVec Ideal S16384x1024 .f32 := Host.divf one (addf one (Host.exp (Host.negf z)))
abbrev low (x : FVec Ideal S16384x1024 .f32) : FVec Ideal S16384x1024 .bf16 := truncf .bf16 x Cert.MergeBwdRefIdeal.Gen.facts.bitsLt_bf16_f32
abbrev ct (d : FVec Ideal S16384x1024 .f32) : FVec Ideal S16384x1024 .f32 :=
  shapeCast _ d Cert.MergeBwdRefIdeal.Gen.facts.shapeCasts_S16384x1024_S16384x1024

/-- The reference's gradient to a branch's product. -/
abbrev du (d z : FVec Ideal S16384x1024 .f32) : FVec Ideal S16384x1024 .bf16 := low (mulf (sg z) (ct d))
/-- The reference's gradient to a branch's gate. -/
abbrev dg (d z : FVec Ideal S16384x1024 .f32) (Y : FVec Ideal S16384x512 .f32) (W : FVec Ideal S512x1024 .f32) : FVec Ideal S16384x1024 .bf16 :=
  low (mulf (mulf (ct d) (Host.dotGeneral Cert.MergeBwdRefIdeal.dot_S16384x512_S512x1024_S16384x1024_1_0_0_1_n_n none Y W))
    (mulf (sg z) (subf one (sg z))))

/-- One element of the gradient to the product, out of the two numbers it is made of. -/
abbrev duAt (d z : EReal) : Ideal .bf16 := (Ideal.logistic z * d : EReal)
/-- One element of the gradient to the gate, out of the three numbers it is made of. -/
abbrev dgAt (d u z : EReal) : Ideal .bf16 := (d * u * (Ideal.logistic z * (Ideal.ofBits .f32 0x3F800000#32 - Ideal.logistic z)) : EReal)

theorem du_apply (d z : FVec Ideal S16384x1024 .f32) (i : S16384x1024.Idx) : du d z i = duAt (d i) (z i) := by
  pointwise [du, sg, low, ct, one, duAt]
  try simp only [Ideal.logistic]
theorem dg_apply (d z : FVec Ideal S16384x1024 .f32) (Y : FVec Ideal S16384x512 .f32) (W : FVec Ideal S512x1024 .f32) (i : S16384x1024.Idx) :
    dg d z Y W i = dgAt (d i) (∑ k : Fin 512, (Y (ix2 (i 0) k) * W (ix2 k (i 1)) : EReal)) (z i) := by
  pointwise [dg, sg, low, ct, one, dgAt]
  try simp only [Ideal.logistic]

/-- The kernel's payloads of the three branches are one term, so each is proved once. -/
theorem pay_du (d : FVec Ideal S512x512 .f32) (z : FVec Ideal S512x512 .bf16) (j : S512x512.Idx) : k0_pay6 d z j = duAt (d j) (z j) := by
  pointwise [k0_pay6, k0_pay5, duAt]
  exact mul_comm (_ : EReal) _
theorem pay_dg (d : FVec Ideal S512x512 .f32) (y w z : FVec Ideal S512x512 .bf16) (j : S512x512.Idx) :
    k0_pay4 d y w z j = dgAt (d j) (∑ k : Fin 512, (y (ix2 (j 0) k) * w (ix2 k (j 1)) : EReal)) (z j) := by
  pointwise [k0_pay4, k0_pay2, dgAt]
  exact mul_assoc (_ : EReal) _ _
theorem pay_du1 (d : FVec Ideal S512x512 .f32) (z : FVec Ideal S512x512 .bf16) : k0_pay10 (F := Ideal) d z = k0_pay6 (F := Ideal) d z := rfl
theorem pay_du2 (d : FVec Ideal S512x512 .f32) (z : FVec Ideal S512x512 .bf16) : k0_pay3 (F := Ideal) d z = k0_pay6 (F := Ideal) d z := rfl
/-- The first branch's operand is rounded inside the kernel. -/
theorem pay_dg0 (d y : FVec Ideal S512x512 .f32) (w z : FVec Ideal S512x512 .bf16) :
    k0_pay7 (F := Ideal) d y w z = k0_pay4 (F := Ideal) d (show FVec Ideal S512x512 .bf16 from y) w z := by
  funext j; pointwise [k0_pay7, k0_pay5, k0_pay4, k0_pay2]
theorem pay_dg1 (d : FVec Ideal S512x512 .f32) (y w z : FVec Ideal S512x512 .bf16) :
    k0_pay1 (F := Ideal) d (k0_pay8 y w) (k0_pay9 z) = k0_pay4 (F := Ideal) d y w z := rfl

theorem idx : ∀ t : Fin cfg0.N, (win0_0.index t = ![t.val / 2, 0] ∧ win0_1.index t = ![t.val / 2, 0] ∧ win0_2.index t = ![t.val / 2, 0])
    ∧ (win0_3.index t = ![0, t.val % 2] ∧ win0_4.index t = ![0, t.val % 2] ∧ win0_5.index t = ![0, t.val % 2])
    ∧ (win0_6.index t = ![t.val / 2, t.val % 2] ∧ win0_7.index t = ![t.val / 2, 2 + t.val % 2] ∧ win0_8.index t = ![t.val / 2, 4 + t.val % 2])
    ∧ win0_9.index t = ![t.val / 2, t.val % 2] :=
  (by decide +kernel : ∀ t : Fin grid0.N, _)
theorem idxOut : ∀ t : Fin cfg0.N, (win0_10.index t = ![t.val / 2, t.val % 2] ∧ win0_11.index t = ![t.val / 2, t.val % 2] ∧ win0_12.index t = ![t.val / 2, t.val % 2])
    ∧ (win0_13.index t = ![t.val / 2, t.val % 2] ∧ win0_14.index t = ![t.val / 2, t.val % 2] ∧ win0_15.index t = ![t.val / 2, t.val % 2]) :=
  (by decide +kernel : ∀ t : Fin grid0.N, _)

theorem final10 : (dats m 0 c).arrAt 10 cfg0.N = du (ad m c) (z0 m c) := by
  refine (dats m 0 c).arrAt_eq_of_covers 10 _ (by decide +kernel) fun t _ y => ?_
  blk_simp
  rw [after0_10]; frame_out
  rw [pay_du, du_apply]
  obtain ⟨-, -, ⟨i6, -, -⟩, i9⟩ := idx t
  obtain ⟨⟨o, -, -⟩, -⟩ := idxOut t
  pointwise [z0]
  blk_point [iblk, V, i6, i9, o]

theorem final13 : (dats m 0 c).arrAt 13 cfg0.N
    = dg (ad m c) (z0 m c) (m ((c.tc : Thread nD τ).loc main_arg0)) (m ((c.tc : Thread nD τ).loc main_arg3)) := by
  refine (dats m 0 c).arrAt_eq_of_covers 13 _ (by decide +kernel) fun t _ y => ?_
  blk_simp
  rw [after0_13]; frame_out
  rw [pay_dg0, pay_dg, dg_apply]
  obtain ⟨⟨i0, -, -⟩, ⟨i3, -, -⟩, ⟨i6, -, -⟩, i9⟩ := idx t
  obtain ⟨-, o, -, -⟩ := idxOut t
  pointwise [z0]
  blk_point [iblk, V, i0, i3, i6, i9, o]

theorem final11 : (dats m 0 c).arrAt 11 cfg0.N = du (ad m c) (z1 m c) := by
  refine (dats m 0 c).arrAt_eq_of_covers 11 _ (by decide +kernel) fun t _ y => ?_
  blk_simp
  rw [after0_11]; frame_out
  rw [pay_du1, pay_du, du_apply]
  obtain ⟨-, -, ⟨-, i7, -⟩, i9⟩ := idx t
  obtain ⟨⟨-, o, -⟩, -⟩ := idxOut t
  pointwise [z1]
  blk_point [iblk, V, i7, i9, o]

theorem final12 : (dats m 0 c).arrAt 12 cfg0.N = du (ad m c) (z2 m c) := by
  refine (dats m 0 c).arrAt_eq_of_covers 12 _ (by decide +kernel) fun t _ y => ?_
  blk_simp
  rw [after0_12]; frame_out
  rw [pay_du2, pay_du, du_apply]
  obtain ⟨-, -, ⟨-, -, i8⟩, i9⟩ := idx t
  obtain ⟨⟨-, -, o⟩, -⟩ := idxOut t
  pointwise [z2]
  blk_point [iblk, V, i8, i9, o]

theorem final14 : (dats m 0 c).arrAt 14 cfg0.N
    = dg (ad m c) (z1 m c) (m ((c.tc : Thread nD τ).loc main_arg1)) (m ((c.tc : Thread nD τ).loc main_arg4)) := by
  refine (dats m 0 c).arrAt_eq_of_covers 14 _ (by decide +kernel) fun t _ y => ?_
  blk_simp
  rw [after0_14]; frame_out
  rw [pay_dg1, pay_dg, dg_apply]
  obtain ⟨⟨-, i1, -⟩, ⟨-, i4, -⟩, ⟨-, i7, -⟩, i9⟩ := idx t
  obtain ⟨-, -, o, -⟩ := idxOut t
  pointwise [z1]
  blk_point [iblk, V, i1, i4, i7, i9, o]

theorem final15 : (dats m 0 c).arrAt 15 cfg0.N
    = dg (ad m c) (z2 m c) (m ((c.tc : Thread nD τ).loc main_arg2)) (m ((c.tc : Thread nD τ).loc main_arg5)) := by
  refine (dats m 0 c).arrAt_eq_of_covers 15 _ (by decide +kernel) fun t _ y => ?_
  blk_simp
  rw [after0_15]; frame_out
  rw [pay_dg, dg_apply]
  obtain ⟨⟨-, -, i2⟩, ⟨-, -, i5⟩, ⟨-, -, i8⟩, i9⟩ := idx t
  obtain ⟨-, -, -, o⟩ := idxOut t
  pointwise [z2]
  blk_point [iblk, V, i2, i5, i8, i9, o]

end Cert.MergeBwdIdeal.Val
end
-- ==== Proof.CrossFwd.lean ====
module
public import proofs.«01_k».proof.Proof.Accum
public import proofs.«01_k».proof.Proof.Gen.CrossIdeal.Value
public import proofs.«01_k».proof.Proof.Gen.CrossRefIdeal.Run
public import Idealize.ShloMosaic.Lib.Pipeline.ReadBack
@[expose] public section
set_option maxRecDepth 16384
noncomputable section
open Idealize.ShloMosaic Idealize.ShloMosaic.TcCoe Idealize.SL.Sem Idealize.ShloMosaic.StableHlo
open Idealize.ShloMosaic.Pipeline (Dat)

/-! Cross-attention: four heads over the memory, one head stated once. -/

namespace Cert.CrossIdeal.Val
open Cert.CrossIdeal Cert.CrossIdeal.Gen

/-- Values mixed by the softmax of the scores. -/
def mix (s v : Fin 256 → EReal) : EReal :=
  ∑ r : Fin 256, Ideal.div (Ideal.exp (s r - Finset.fold max (Ideal.ofBits .f32 0xFF800000#32) s Finset.univ))
    (∑ r' : Fin 256, Ideal.exp (s r' - Finset.fold max (Ideal.ofBits .f32 0xFF800000#32) s Finset.univ)) * v r

/-- Column `d` of head `h`. -/
def col (h : Fin 4) (d : Fin 256) : Fin 1024 := ⟨256 * h.val + d.val, by omega⟩

/-- One head of the kernel. -/
theorem head (q : FVec Ideal S512x256 .bf16) (k v : FVec Ideal S256x256 .bf16) (y : S512x256.Idx) :
    k0_pay2 (F := Ideal) q k v y
      = mix (fun r => (∑ d : Fin 256, q (ix2 (y 0) d) * k (ix2 r d)) * Ideal.ofBits .f32 0x3D800000#32) fun r => v (ix2 r (y 1)) := by
  pointwise [k0_pay2, mix]

theorem head1 (q : FVec Ideal S512x256 .bf16) (k v : FVec Ideal S256x256 .bf16) :
    k0_pay5 (F := Ideal) (k0_pay3 (F := Ideal) q k) (k0_pay4 (F := Ideal) q k) v = k0_pay2 (F := Ideal) q k v := rfl
theorem head2 (q : FVec Ideal S512x256 .bf16) (k v : FVec Ideal S256x256 .bf16) : k0_pay6 (F := Ideal) q k v = k0_pay2 (F := Ideal) q k v := rfl
theorem head3 (q : FVec Ideal S512x256 .bf16) (k v : FVec Ideal S256x256 .bf16) :
    k0_pay1 (F := Ideal) (k0_pay7 (F := Ideal) q k) (Scalar.ofBits .f32 0x3D800000#32) v = k0_pay2 (F := Ideal) q k v := rfl

/-- The head that column `x` belongs to, and its place there. -/
def hd (x : Fin 1024) : Fin 4 := ⟨x.val / 256, by omega⟩

theorem hd_col (h : Fin 4) (d : Fin 256) : hd (col h d) = h := Fin.ext (by show (256 * h.val + d.val) / 256 = h.val; omega)

/-- The scores of a row of queries against the keys, head by head. -/
abbrev score {T : ℕ} (q : (⟨2, ![T, 1024]⟩ : Shape).Idx → EReal) (k : Fin 256 → Fin 1024 → EReal) (h : Fin 4) (a : Fin T) (r : Fin 256) : EReal :=
  (∑ d : Fin 256, q (ix2 a (col h d)) * k r (col h d)) * Ideal.ofBits .f32 0x3D800000#32

/-- What a block of rows computes, all heads together. -/
def rowsOf (x0 : FVec Ideal S512x1024 .bf16) (x1 x2 : FVec Ideal S256x1024 .bf16) : FVec Ideal S512x1024 .bf16 := fun y =>
  mix (score x0 (fun r x => x1 (ix2 r x)) (hd (y 1)) (y 0)) fun r => x2 (ix2 r (y 1))

/-- A head's columns of an array. -/
theorem place {n : ℕ} (h : Fin 4) (i : ∀ a, (![0, 256 * h.val] : Fin 2 → ℕ) a + (![n, 256] : Fin 2 → ℕ) a ≤ (⟨2, ![n, 1024]⟩ : Shape).size a)
    (y : (⟨2, ![n, 256]⟩ : Shape).Idx) :
    (Rect.unit (s := (⟨2, ![n, 1024]⟩ : Shape)) ![0, 256 * h.val] ![n, 256] i).emb y = ix2 (y 0) (col h (y 1)) := by
  refine funext fun k => Fin.ext ?_
  match k with
  | ⟨0, _⟩ => show 0 + 1 * (y 0).val = (y 0).val; omega
  | ⟨1, _⟩ => show 256 * h.val + 1 * (y 1).val = 256 * h.val + (y 1).val; omega

/-- A head's piece of the block. -/
theorem piece (x0 : FVec Ideal S512x1024 .bf16) (x1 x2 : FVec Ideal S256x1024 .bf16) (h : Fin 4) {o : ℕ} (ho : o = 256 * h.val)
    (i0 : ∀ a, (![0, o] : Fin 2 → ℕ) a + S512x256.size a ≤ S512x1024.size a) (i1 : ∀ a, (![0, o] : Fin 2 → ℕ) a + S256x256.size a ≤ S256x1024.size a)
    (y : S512x256.Idx) :
    k0_pay2 (F := Ideal) (View.ld (Val := Elt Ideal) (e' := .bf16) x0 (Rect.unit (s := S512x1024) ![0, o] S512x256.size i0))
      (View.ld (Val := Elt Ideal) (e' := .bf16) x1 (Rect.unit (s := S256x1024) ![0, o] S256x256.size i1))
      (View.ld (Val := Elt Ideal) (e' := .bf16) x2 (Rect.unit (s := S256x1024) ![0, o] S256x256.size i1)) y
      = rowsOf x0 x1 x2 ((Rect.unit (s := S512x1024) ![0, o] S512x256.size i0).emb y) := by
  subst ho
  rw [head]
  refine Eq.trans ?_ (congrArg (rowsOf x0 x1 x2) (place (n := 512) h i0 y)).symm
  refine Eq.trans ?_ (congrArg (fun z => mix (score x0 (fun r x => x1 (ix2 r x)) z (y 0)) fun r => x2 (ix2 r (col h (y 1)))) (hd_col h (y 1)).symm)
  have l0 (b : Fin 512) (d : Fin 256) : View.ld (Val := Elt Ideal) (e' := .bf16) x0 (Rect.unit (s := S512x1024) ![0, 256 * h.val] S512x256.size i0) (ix2 b d)
      = x0 (ix2 b (col h d)) := congrArg x0 (place (n := 512) h i0 (ix2 b d))
  have l1 (x : FVec Ideal S256x1024 .bf16) (b : Fin 256) (d : Fin 256) :
      View.ld (Val := Elt Ideal) (e' := .bf16) x (Rect.unit (s := S256x1024) ![0, 256 * h.val] S256x256.size i1) (ix2 b d)
      = x (ix2 b (col h d)) := congrArg x (place (n := 256) h i1 (ix2 b d))
  refine congrArg₂ mix (funext fun r => ?_) (funext fun r => l1 x2 r _)
  exact congrArg (fun z : EReal => z * Ideal.ofBits .f32 0x3D800000#32) (Finset.sum_congr rfl fun d _ => congrArg₂ (fun u v : EReal => u * v) (l0 _ _) (l1 x1 _ _))

/-- The body's result is the block's four heads. -/
theorem out_eq (x0 : FVec Ideal S512x1024 .bf16) (x1 x2 : FVec Ideal S256x1024 .bf16) : out0_3 (F := Ideal) x0 x1 x2 = rowsOf x0 x1 x2 := by
  funext y
  refine View.canon_apply_of_pieces (Val := Elt Ideal) (S := S512x1024) (e := .bf16) (rowsOf x0 x1 x2) _ ?_ y (cover0_3 _ _ _ _ y)
  refine View.PiecesOf.mem (Val := Elt Ideal) (s := S512x1024) (e := .bf16) (G := rowsOf x0 x1 x2) ?_
  rw [head1, head2, head3]
  exact ⟨piece x0 x1 x2 3 rfl _ _, piece x0 x1 x2 2 rfl _ _, piece x0 x1 x2 1 rfl _ _, piece x0 x1 x2 0 rfl _ _, trivial⟩

end Cert.CrossIdeal.Val

namespace Cert.CrossRefIdeal.Val
open Cert.CrossRefIdeal Cert.CrossRefIdeal.Gen Cert.CrossIdeal.Val
variable (q : FVec Ideal S16384x1024 .f32) (kv : FVec Ideal S256x2048 .f32)

/-- The reference's queries, keys and values, head by head. -/
abbrev heads : FVec Ideal S16384x4x256 .f32 := shapeCast _ q shapeCasts_S16384x1024_S16384x4x256
abbrev both : FVec Ideal S256x2x4x256 .f32 := shapeCast _ kv shapeCasts_S256x2048_S256x2x4x256
abbrev keys : FVec Ideal S256x4x256 .f32 :=
  shapeCast _ (extractStridedSlice S256x1x4x256 ![0, 0, 0, 0] (both kv) slices_S256x2x4x256_S256x1x4x256_0_0_0_0) shapeCasts_S256x1x4x256_S256x4x256
abbrev vals : FVec Ideal S256x4x256 .f32 :=
  shapeCast _ (extractStridedSlice S256x1x4x256 ![0, 1, 0, 0] (both kv) slices_S256x2x4x256_S256x1x4x256_0_1_0_0) shapeCasts_S256x1x4x256_S256x4x256

/-- Its scores. -/
abbrev scores : FVec Ideal S4x16384x256 .f32 :=
  mulf (Host.dotGeneral dot_S16384x4x256_S256x4x256_S4x16384x256_2_2_0_0_1_1 none (heads q) (keys kv))
    (broadcastInDim S4x16384x256 ![] bcast_S_S4x16384x256 (constant S_ .f32 0x3D800000#32))

/-- A statistic of a row, once for every key. -/
abbrev rep (x : FVec Ideal S4x16384 .f32) : FVec Ideal S4x16384x256 .f32 :=
  broadcastInDim S4x16384x256 ![0, 1, 2] bcast_S4x16384x1_S4x16384x256_0_1_2 (broadcastInDim S4x16384x1 ![0, 1] bcast_S4x16384_S4x16384x1_0_1 x)

/-- The exponentials of the scores less their row's largest. -/
abbrev exps (s : FVec Ideal S4x16384x256 .f32) : FVec Ideal S4x16384x256 .f32 :=
  Host.exp (subf s (rep (Host.reduce FloatOps.maximumf s (constant S_ .f32 0xFF800000#32) reducesTo_S4x16384x256_S4x16384_d2 h_S_)))

/-- The softmax of the scores. -/
abbrev soft (s : FVec Ideal S4x16384x256 .f32) : FVec Ideal S4x16384x256 .f32 :=
  Host.divf (exps s) (rep (Host.reduceAdd (exps s) (constant S_ .f32 0x00000000#32) reducesTo_S4x16384x256_S4x16384_d2 h_S_))

/-- The mixed values, head by head. -/
abbrev mixed (s : FVec Ideal S4x16384x256 .f32) (v : FVec Ideal S256x4x256 .f32) : FVec Ideal S16384x4x256 .f32 :=
  transpose S16384x4x256 [2, 0, 1] (Host.dotGeneral dot_S256x4x256_S4x16384x256_S4x256x16384_0_2_2_1_1_0 none v (soft s))
    transposes_S4x256x16384_S16384x4x256_2_0_1

/-- The reference's result, in the short format. -/
abbrev crossed : FVec Ideal S16384x1024 .bf16 :=
  truncf .bf16 (shapeCast _ (mixed (scores q kv) (vals kv)) shapeCasts_S16384x4x256_S16384x1024) bitsLt_bf16_f32

theorem mixed_apply (s : FVec Ideal S4x16384x256 .f32) (v : FVec Ideal S256x4x256 .f32) (a : Fin 16384) (h : Fin 4) (d : Fin 256) :
    mixed s v (ix3 a h d) = mix (fun r => s (ix3 h a r)) fun r => v (ix3 r h d) := by
  pointwise [mixed, soft, exps, rep, mix]
  exact Finset.sum_congr rfl fun r _ => mul_comm _ _

theorem scores_apply (h : Fin 4) (a : Fin 16384) (r : Fin 256) :
    scores q kv (ix3 h a r) = (∑ d : Fin 256, heads q (ix3 a h d) * keys kv (ix3 r h d)) * Ideal.ofBits .f32 0x3D800000#32 := by
  pointwise [scores]

theorem heads_apply (a : Fin 16384) (h : Fin 4) (d : Fin 256) : heads q (ix3 a h d) = q (ix2 a (col h d)) := by
  refine shapeCast_apply _ shapeCasts_S16384x1024_S16384x4x256 _ _ ?_
  rw [Shape.rowMajor_val_three, Shape.rowMajor_val_two]
  show a.val * 1024 + (256 * h.val + d.val) = (a.val * 4 + h.val) * 256 + d.val
  omega

theorem both_apply (r : Fin 256) (p : Fin 2) (h : Fin 4) (d : Fin 256) :
    both kv (ix4 r p h d) = kv (ix2 r (⟨1024 * p.val + (col h d).val, by omega⟩ : Fin 2048)) := by
  refine shapeCast_apply _ shapeCasts_S256x2048_S256x2x4x256 _ _ ?_
  rw [Shape.rowMajor_val_four, Shape.rowMajor_val_two]
  show r.val * 2048 + (1024 * p.val + (256 * h.val + d.val)) = ((r.val * 2 + p.val) * 4 + h.val) * 256 + d.val
  omega

theorem one_apply (x : FVec Ideal S256x1x4x256 .f32) (r : Fin 256) (h : Fin 4) (d : Fin 256) :
    shapeCast S256x4x256 x shapeCasts_S256x1x4x256_S256x4x256 (ix3 r h d) = x (ix4 r 0 h d) := by
  refine shapeCast_apply _ shapeCasts_S256x1x4x256_S256x4x256 _ _ ?_
  rw [Shape.rowMajor_val_three, Shape.rowMajor_val_four]
  show ((r.val * 1 + 0) * 4 + h.val) * 256 + d.val = (r.val * 4 + h.val) * 256 + d.val
  omega

theorem keys_apply (r : Fin 256) (h : Fin 4) (d : Fin 256) : keys kv (ix3 r h d) = kv (ix2 r (⟨1024 * 0 + (col h d).val, by omega⟩ : Fin 2048)) := by
  refine Eq.trans ?_ (both_apply kv r 0 h d)
  refine (one_apply _ r h d).trans ?_
  pointwise []

theorem vals_apply (r : Fin 256) (h : Fin 4) (d : Fin 256) : vals kv (ix3 r h d) = kv (ix2 r (⟨1024 * 1 + (col h d).val, by omega⟩ : Fin 2048)) := by
  refine Eq.trans ?_ (both_apply kv r 1 h d)
  refine (one_apply _ r h d).trans ?_
  pointwise []

/-- The reference's result at a column. -/
theorem crossed_apply (a : Fin 16384) (x : Fin 1024) :
    crossed q kv (ix2 a x) = mix (score q (fun r x => kv (ix2 r (⟨x.val, by omega⟩ : Fin 2048))) (hd x) a)
      fun r => kv (ix2 r (⟨1024 + x.val, by omega⟩ : Fin 2048)) := by
  have ex : col (hd x) ⟨x.val % 256, by omega⟩ = x := Fin.ext (by show 256 * (x.val / 256) + x.val % 256 = x.val; omega)
  have e : crossed q kv (ix2 a x) = mixed (scores q kv) (vals kv) (ix3 a (hd x) ⟨x.val % 256, by omega⟩) := by
    show shapeCast S16384x1024 (mixed (scores q kv) (vals kv)) shapeCasts_S16384x4x256_S16384x1024 (ix2 a x) = _
    refine shapeCast_apply _ shapeCasts_S16384x4x256_S16384x1024 _ _ ?_
    rw [Shape.rowMajor_val_three, Shape.rowMajor_val_two]
    show (a.val * 4 + x.val / 256) * 256 + x.val % 256 = a.val * 1024 + x.val
    omega
  rw [e, mixed_apply]
  simp only [scores_apply, heads_apply, keys_apply, vals_apply, ex]
  refine congrArg₂ mix (funext fun r => ?_) (funext fun r => ?_)
  · simp only [score, Nat.mul_zero, Nat.zero_add]
  · simp only [Nat.mul_one]

end Cert.CrossRefIdeal.Val

namespace Cert.CrossIdeal.Val
open Cert.CrossIdeal Cert.CrossIdeal.Gen
variable (m : (ℓ : Loc nD τ sig) → Buf (Elt Ideal) ℓ) (c : Dev nD)

abbrev aq : FVec Ideal S16384x1024 .f32 := m ((c.tc : Thread nD τ).loc main_arg0)
abbrev akv : FVec Ideal S256x2048 .f32 := m ((c.tc : Thread nD τ).loc main_arg1)

/-- The queries and the result move row block by row block; the keys and the values stay. -/
theorem idx : ∀ t : Fin cfg0.N, win0_0.index t = ![t.val, 0] ∧ win0_1.index t = ![0, 0] ∧ win0_2.index t = ![0, 1] ∧ win0_3.index t = ![t.val, 0] :=
  (by decide +kernel : ∀ t : Fin grid0.N, _)

theorem final3 : (dats m 0 c).arrAt 3 cfg0.N = Cert.CrossRefIdeal.Val.crossed (aq m c) (akv m c) := by
  refine (dats m 0 c).arrAt_eq_of_covers 3 _ (by decide +kernel) fun t _ y => ?_
  blk_simp
  rw [after0_3, out_eq]
  obtain ⟨b, x, rfl⟩ : ∃ (b : Fin 512) (x : Fin 1024), y = ix2 b x := ⟨y 0, y 1, eq_ix2 (n0 := 512) (n1 := 1024) y⟩
  have ht : t.val < 32 := t.isLt
  have e : (win0_3.blk t).view.emb (ix2 b x) = ix2 (⟨512 * t.val + b.val, by omega⟩ : Fin 16384) x := by
    blk_ext [iblk, V, idx t]
  refine Eq.trans ?_ ((congrArg (Cert.CrossRefIdeal.Val.crossed (aq m c) (akv m c)) e).trans (Cert.CrossRefIdeal.Val.crossed_apply _ _ _ _)).symm
  have b0 (x : Fin 1024) : iblk m c 0 t (ix2 b x) = aq m c (ix2 (⟨512 * t.val + b.val, by omega⟩ : Fin 16384) x) := by
    blk_ext [iblk, V, idx t]
  have b1 (r : Fin 256) (x : Fin 1024) : iblk m c 1 t (ix2 r x) = akv m c (ix2 r (⟨x.val, by omega⟩ : Fin 2048)) := by
    blk_point [iblk, V, idx t]
  have b2 (r : Fin 256) (x : Fin 1024) : iblk m c 2 t (ix2 r x) = akv m c (ix2 r (⟨1024 + x.val, by omega⟩ : Fin 2048)) := by
    blk_point [iblk, V, idx t]
  refine congrArg₂ mix (funext fun r => ?_) (funext fun r => b2 r _)
  exact congrArg (fun z : EReal => z * Ideal.ofBits .f32 0x3D800000#32) (Finset.sum_congr rfl fun d _ => congrArg₂ (fun u v : EReal => u * v) (b0 _) (b1 _ _))

end Cert.CrossIdeal.Val
end
-- ==== Proof.MergeClaim.lean ====
module
public import proofs.«01_k».proof.Defs
public import proofs.«01_k».proof.Proof.MergeOut
public import proofs.«01_k».proof.Proof.MergeBack
public import proofs.«01_k».proof.Proof.CrossFwd
public import proofs.«01_k».proof.Proof.Gen.Out.Frame
public import proofs.«01_k».proof.Proof.Gen.OutIdeal.Frame
public import proofs.«01_k».proof.Proof.Gen.DwOut.Frame
public import proofs.«01_k».proof.Proof.Gen.DwOutIdeal.Frame
public import proofs.«01_k».proof.Proof.Gen.Merge.Frame
public import proofs.«01_k».proof.Proof.Gen.MergeIdeal.Frame
public import proofs.«01_k».proof.Proof.Gen.MergeBwd.Frame
public import proofs.«01_k».proof.Proof.Gen.MergeBwdIdeal.Frame
public import proofs.«01_k».proof.Proof.Gen.Cross.Frame
public import proofs.«01_k».proof.Proof.Gen.CrossIdeal.Frame
@[expose] public section
noncomputable section
open Idealize.ShloMosaic Idealize.ShloMosaic.TcCoe Idealize.SL.Sem

/-! The claims of the square output projection, of its gradient, and of the gated merge and its gradient, and of cross-attention. -/

namespace Cert.OutClaims
open Cert.OutIdeal.Val

theorem frame_p : Cert.quiescent_Out := fun m ρ _ => Cert.Out.Gen.frame m ρ
theorem frame_pi : Cert.quiescent_OutIdeal := fun m ρ _ => Cert.OutIdeal.Gen.frame m ρ
theorem frame_ri : Cert.quiescent_OutRefIdeal := fun m ρ _ => Accum.frame_of_run (Cert.OutRefIdeal.Value.run (F := Ideal) m ρ)
theorem preserves : Cert.preserves_Out_OutIdeal := trivial
theorem algebraic : Cert.algebraic_OutIdeal_OutRefIdeal := fun m ρ m' ρ' _ hagree =>
  ⟨_, Cert.OutIdeal.Value.run_blocks (F := Ideal) m ρ, Accum.run_congr (Cert.OutRefIdeal.Value.run (F := Ideal) m' ρ') fun c _ e => by
    obtain ⟨a0, a1, a2⟩ := hagree c
    rw [a0, a1, a2] at e
    exact e.trans (final3 m c).symm⟩

end Cert.OutClaims

namespace Cert.DwOutClaims
open Cert.DwOutIdeal.Val

theorem frame_p : Cert.quiescent_DwOut := fun m ρ _ => Cert.DwOut.Gen.frame m ρ
theorem frame_pi : Cert.quiescent_DwOutIdeal := fun m ρ _ => Cert.DwOutIdeal.Gen.frame m ρ
theorem frame_ri : Cert.quiescent_DwOutRefIdeal := fun m ρ _ => Accum.frame_of_run (Cert.DwOutRefIdeal.Value.run (F := Ideal) m ρ)
theorem preserves : Cert.preserves_DwOut_DwOutIdeal := trivial
theorem algebraic : Cert.algebraic_DwOutIdeal_DwOutRefIdeal := fun m ρ m' ρ' _ hagree =>
  ⟨_, Cert.DwOutIdeal.Value.run_blocks (F := Ideal) m ρ, Accum.run_congr (Cert.DwOutRefIdeal.Value.run (F := Ideal) m' ρ') fun c _ e => by
    rw [(hagree c).1, (hagree c).2] at e
    exact e.trans (final2 m c).symm⟩

end Cert.DwOutClaims

namespace Cert.MergeClaims
open Cert.MergeIdeal.Val

theorem frame_p : Cert.quiescent_Merge := fun m ρ _ => Cert.Merge.Gen.frame m ρ
theorem frame_pi : Cert.quiescent_MergeIdeal := fun m ρ _ => Cert.MergeIdeal.Gen.frame m ρ
theorem frame_ri : Cert.quiescent_MergeRefIdeal := fun m ρ _ => Accum.frame_of_run (Cert.MergeRefIdeal.Value.run (F := Ideal) m ρ)
theorem preserves : Cert.preserves_Merge_MergeIdeal := trivial
theorem algebraic : Cert.algebraic_MergeIdeal_MergeRefIdeal := fun m ρ m' ρ' _ hagree =>
  ⟨_, Cert.MergeIdeal.Value.run_blocks (F := Ideal) m ρ, Accum.run_congr (Cert.MergeRefIdeal.Value.run (F := Ideal) m' ρ') fun c _ e => by
    obtain ⟨a0, a1, a2, a3, a4, a5, a6⟩ := hagree c
    rw [a0, a1, a2, a3, a4, a5, a6] at e
    exact e.trans (final9 m c).symm⟩

end Cert.MergeClaims

namespace Cert.MergeBwdClaims
open Cert.MergeBwdIdeal.Val

theorem frame_p : Cert.quiescent_MergeBwd := fun m ρ _ => Cert.MergeBwd.Gen.frame m ρ
theorem frame_pi : Cert.quiescent_MergeBwdIdeal := fun m ρ _ => Cert.MergeBwdIdeal.Gen.frame m ρ
theorem frame_ri : Cert.quiescent_MergeBwdRefIdeal := fun m ρ _ =>
  (θ_run Cert.MergeBwdRefIdeal.defs _ _).mono (fun r h => ⟨fun c => (h c).2.2.2.2.2.2, sem_eq_zero_of_no_sems (by decide) r.2⟩)
    (Cert.MergeBwdRefIdeal.Value.run (F := Ideal) m ρ)
theorem preserves : Cert.preserves_MergeBwd_MergeBwdIdeal := trivial

/-- The kernel's six result arrays are the reference's. -/
theorem algebraic : Cert.algebraic_MergeBwdIdeal_MergeBwdRefIdeal := by
  intro m ρ m' ρ' _ hagree
  refine ⟨_, _, _, _, _, _, Cert.MergeBwdIdeal.Value.run_blocks (F := Ideal) m ρ, ?_⟩
  refine (θ_run Cert.MergeBwdRefIdeal.defs _ _).mono (fun _ h c => ?_) (Cert.MergeBwdRefIdeal.Value.run (F := Ideal) m' ρ')
  obtain ⟨r0, r1, r2, r3, r4, r5, rest⟩ := h c
  obtain ⟨a0, a1, a2, a3, a4, a5, a6, a7⟩ := hagree c
  rw [a6, a7] at r0 r1 r2
  rw [a0, a3, a6, a7] at r3
  rw [a1, a4, a6, a7] at r4
  rw [a2, a5, a6, a7] at r5
  exact ⟨r0.trans (final10 m c).symm, r1.trans (final11 m c).symm, r2.trans (final12 m c).symm, r3.trans (final13 m c).symm,
    r4.trans (final14 m c).symm, r5.trans (final15 m c).symm, rest⟩

end Cert.MergeBwdClaims

namespace Cert.CrossClaims
open Cert.CrossIdeal.Val

theorem frame_p : Cert.quiescent_Cross := fun m ρ _ => Cert.Cross.Gen.frame m ρ
theorem frame_pi : Cert.quiescent_CrossIdeal := fun m ρ _ => Cert.CrossIdeal.Gen.frame m ρ
theorem frame_ri : Cert.quiescent_CrossRefIdeal := fun m ρ _ => Accum.frame_of_run (Cert.CrossRefIdeal.Value.run (F := Ideal) m ρ)
theorem preserves : Cert.preserves_Cross_CrossIdeal := trivial
theorem algebraic : Cert.algebraic_CrossIdeal_CrossRefIdeal := fun m ρ m' ρ' _ hagree =>
  ⟨_, Cert.CrossIdeal.Value.run_blocks (F := Ideal) m ρ, Accum.run_congr (Cert.CrossRefIdeal.Value.run (F := Ideal) m' ρ') fun c _ e => by
    rw [(hagree c).1, (hagree c).2] at e
    exact e.trans (final3 m c).symm⟩

end Cert.CrossClaims
end
-- ==== Proof.SquareMm.lean ====
module
public import proofs.«01_k».proof.Proof.Accum
public import proofs.«01_k».proof.Proof.Gen.XqIdeal.Value
public import proofs.«01_k».proof.Proof.Gen.XqRefIdeal.Run
public import proofs.«01_k».proof.Proof.Gen.DoxIdeal.Value
public import proofs.«01_k».proof.Proof.Gen.DoxRefIdeal.Run
public import proofs.«01_k».proof.Proof.Gen.DmergedIdeal.Value
public import proofs.«01_k».proof.Proof.Gen.DmergedRefIdeal.Run
public import proofs.«01_k».proof.Proof.Gen.Dh1Ideal.Value
public import proofs.«01_k».proof.Proof.Gen.Dh1RefIdeal.Run
@[expose] public section
set_option maxRecDepth 16384
noncomputable section
open Idealize.ShloMosaic Idealize.ShloMosaic.TcCoe Idealize.SL.Sem
open Idealize.ShloMosaic.Pipeline (Dat)

/-! The square products: the cross-attention's queries with the gradient of their input, and the gradients of the inputs of the output projections. -/

namespace Cert.XqIdeal.Val
open Cert.XqIdeal Cert.XqIdeal.Gen

variable (m : (ℓ : Loc nD τ sig) → Buf (Elt Ideal) ℓ) (c : Dev nD)

/-- The reference's product, in the short format. -/
abbrev prod (H : FVec Ideal S16384x1024 .f32) (W : FVec Ideal S1024x1024 .f32) : FVec Ideal S16384x1024 .bf16 :=
  truncf .bf16 (Host.dotGeneral Cert.XqRefIdeal.dot_S16384x1024_S1024x1024_S16384x1024_1_0_0_1_n_n none H W) Cert.XqRefIdeal.Gen.facts.bitsLt_bf16_f32

theorem idx : ∀ t : Fin cfg0.N, win0_0.index t = ![t.val, 0] ∧ win0_1.index t = ![0, 0] ∧ win0_2.index t = ![t.val, 0] :=
  (by decide +kernel : ∀ t : Fin grid0.N, _)

theorem final2 : (dats m 0 c).arrAt 2 cfg0.N = prod (m ((c.tc : Thread nD τ).loc main_arg0)) (m ((c.tc : Thread nD τ).loc main_arg1)) := by
  refine (dats m 0 c).arrAt_eq_of_covers 2 _ (by decide +kernel) fun t _ y => ?_
  blk_simp
  rw [after0_2]; unfold outsAt0; frame_out
  pointwise [k0_pay4, k0_pay2, k0_pay1, prod]
  blk_point [iblk, V, idx t]

end Cert.XqIdeal.Val

namespace Cert.DoxIdeal.Val
open Cert.DoxIdeal Cert.DoxIdeal.Gen

variable (m : (ℓ : Loc nD τ sig) → Buf (Elt Ideal) ℓ) (c : Dev nD)

/-- The reference's gradient of the input, in the short format: the product with the transposed weights. -/
abbrev back (D : FVec Ideal S16384x1024 .f32) (W : FVec Ideal S1024x1024 .f32) : FVec Ideal S16384x1024 .bf16 :=
  truncf .bf16 (Host.dotGeneral Cert.DoxRefIdeal.dot_S16384x1024_S1024x1024_S16384x1024_1_1_0_0_n_n none D W) Cert.DoxRefIdeal.Gen.facts.bitsLt_bf16_f32

theorem idx : ∀ t : Fin cfg0.N, win0_0.index t = ![t.val, 0] ∧ win0_1.index t = ![0, 0] ∧ win0_2.index t = ![t.val, 0] :=
  (by decide +kernel : ∀ t : Fin grid0.N, _)

theorem final2 : (dats m 0 c).arrAt 2 cfg0.N = back (m ((c.tc : Thread nD τ).loc main_arg0)) (m ((c.tc : Thread nD τ).loc main_arg1)) := by
  refine (dats m 0 c).arrAt_eq_of_covers 2 _ (by decide +kernel) fun t _ y => ?_
  blk_simp
  rw [after0_2]; unfold outsAt0; frame_out
  pointwise [k0_pay4, k0_pay2, k0_pay1, back]
  blk_point [iblk, V, idx t]

end Cert.DoxIdeal.Val

namespace Cert.DmergedIdeal.Val
open Cert.DmergedIdeal Cert.DmergedIdeal.Gen

variable (m : (ℓ : Loc nD τ sig) → Buf (Elt Ideal) ℓ) (c : Dev nD)

/-- The reference's gradient of the merged branches. -/
abbrev back (D : FVec Ideal S16384x1024 .f32) (W : FVec Ideal S1024x1024 .f32) : FVec Ideal S16384x1024 .f32 :=
  Host.dotGeneral Cert.DmergedRefIdeal.dot_S16384x1024_S1024x1024_S16384x1024_1_1_0_0_n_n none D W

theorem idx : ∀ t : Fin cfg0.N, win0_0.index t = ![t.val, 0] ∧ win0_1.index t = ![0, 0] ∧ win0_2.index t = ![t.val, 0] :=
  (by decide +kernel : ∀ t : Fin grid0.N, _)

theorem final2 : (dats m 0 c).arrAt 2 cfg0.N = back (m ((c.tc : Thread nD τ).loc main_arg0)) (m ((c.tc : Thread nD τ).loc main_arg1)) := by
  refine (dats m 0 c).arrAt_eq_of_covers 2 _ (by decide +kernel) fun t _ y => ?_
  blk_simp
  rw [after0_2]; unfold outsAt0; frame_out
  pointwise [k0_pay2, k0_pay1, back]
  blk_point [iblk, V, idx t]

end Cert.DmergedIdeal.Val

namespace Cert.Dh1Ideal.Val
open Cert.Dh1Ideal Cert.Dh1Ideal.Gen

variable (m : (ℓ : Loc nD τ sig) → Buf (Elt Ideal) ℓ) (c : Dev nD)

/-- The reference's gradient of the queries' input. -/
abbrev back (D : FVec Ideal S16384x1024 .f32) (W : FVec Ideal S1024x1024 .f32) : FVec Ideal S16384x1024 .f32 :=
  Host.dotGeneral Cert.Dh1RefIdeal.dot_S16384x1024_S1024x1024_S16384x1024_1_1_0_0_n_n none D W

theorem idx : ∀ t : Fin cfg0.N, win0_0.index t = ![t.val, 0] ∧ win0_1.index t = ![0, 0] ∧ win0_2.index t = ![t.val, 0] :=
  (by decide +kernel : ∀ t : Fin grid0.N, _)

theorem final2 : (dats m 0 c).arrAt 2 cfg0.N = back (m ((c.tc : Thread nD τ).loc main_arg0)) (m ((c.tc : Thread nD τ).loc main_arg1)) := by
  refine (dats m 0 c).arrAt_eq_of_covers 2 _ (by decide +kernel) fun t _ y => ?_
  blk_simp
  rw [after0_2]; unfold outsAt0; frame_out
  pointwise [k0_pay2, k0_pay1, back]
  blk_point [iblk, V, idx t]

end Cert.Dh1Ideal.Val
end
-- ==== Proof.Branch.lean ====
module
public import proofs.«01_k».proof.Proof.Accum
public import proofs.«01_k».proof.Proof.Gen.DyAIdeal.Value
public import proofs.«01_k».proof.Proof.Gen.DyARefIdeal.Run
public import proofs.«01_k».proof.Proof.Gen.DyBIdeal.Value
public import proofs.«01_k».proof.Proof.Gen.DyBRefIdeal.Run
public import proofs.«01_k».proof.Proof.Gen.DwBrAIdeal.Value
public import proofs.«01_k».proof.Proof.Gen.DwBrARefIdeal.Run
public import proofs.«01_k».proof.Proof.Gen.DwBrBIdeal.Value
public import proofs.«01_k».proof.Proof.Gen.DwBrBRefIdeal.Run
@[expose] public section
set_option maxRecDepth 16384
noncomputable section
open Idealize.ShloMosaic Idealize.ShloMosaic.TcCoe Idealize.SL.Sem
open Idealize.ShloMosaic.Pipeline (Dat)

/-! The branches' products backward: the gradients of the branches' outputs and of their weights. -/

namespace Cert.DyAIdeal.Val
open Cert.DyAIdeal Cert.DyAIdeal.Gen

variable (m : (ℓ : Loc nD τ sig) → Buf (Elt Ideal) ℓ) (c : Dev nD)

/-- The reference's gradient of a branch's output, in the short format. -/
abbrev back (D : FVec Ideal S16384x1024 .f32) (W : FVec Ideal S512x1024 .f32) : FVec Ideal S16384x512 .bf16 :=
  truncf .bf16 (Host.dotGeneral Cert.DyARefIdeal.dot_S16384x1024_S512x1024_S16384x512_1_1_0_0_n_n none D W) Cert.DyARefIdeal.Gen.facts.bitsLt_bf16_f32

theorem idx : ∀ t : Fin cfg0.N, win0_0.index t = ![t.val, 0] ∧ win0_1.index t = ![0, 0] ∧ win0_2.index t = ![t.val, 0] :=
  (by decide +kernel : ∀ t : Fin grid0.N, _)

theorem final2 : (dats m 0 c).arrAt 2 cfg0.N = back (m ((c.tc : Thread nD τ).loc main_arg0)) (m ((c.tc : Thread nD τ).loc main_arg1)) := by
  refine (dats m 0 c).arrAt_eq_of_covers 2 _ (by decide +kernel) fun t _ y => ?_
  blk_simp
  rw [after0_2]; unfold outsAt0; frame_out
  pointwise [k0_pay4, k0_pay2, k0_pay1, back]
  blk_point [iblk, V, idx t]

end Cert.DyAIdeal.Val

namespace Cert.DyBIdeal.Val
open Cert.DyBIdeal Cert.DyBIdeal.Gen

variable (m : (ℓ : Loc nD τ sig) → Buf (Elt Ideal) ℓ) (c : Dev nD)

/-- The reference's gradient of a branch's output. -/
abbrev back (D : FVec Ideal S16384x1024 .f32) (W : FVec Ideal S512x1024 .f32) : FVec Ideal S16384x512 .f32 :=
  Host.dotGeneral Cert.DyBRefIdeal.dot_S16384x1024_S512x1024_S16384x512_1_1_0_0_n_n none D W

theorem idx : ∀ t : Fin cfg0.N, win0_0.index t = ![t.val, 0] ∧ win0_1.index t = ![0, 0] ∧ win0_2.index t = ![t.val, 0] :=
  (by decide +kernel : ∀ t : Fin grid0.N, _)

theorem final2 : (dats m 0 c).arrAt 2 cfg0.N = back (m ((c.tc : Thread nD τ).loc main_arg0)) (m ((c.tc : Thread nD τ).loc main_arg1)) := by
  refine (dats m 0 c).arrAt_eq_of_covers 2 _ (by decide +kernel) fun t _ y => ?_
  blk_simp
  rw [after0_2]; unfold outsAt0; frame_out
  pointwise [k0_pay2, k0_pay1, back]
  blk_point [iblk, V, idx t]

end Cert.DyBIdeal.Val

namespace Cert.DwBrAIdeal.Val
open Cert.DwBrAIdeal Cert.DwBrAIdeal.Gen

variable (m : (ℓ : Loc nD τ sig) → Buf (Elt Ideal) ℓ) (c : Dev nD)

abbrev ay : FVec Ideal S16384x512 .f32 := m ((c.tc : Thread nD τ).loc main_arg0)
abbrev ag : FVec Ideal S16384x1024 .f32 := m ((c.tc : Thread nD τ).loc main_arg1)

/-- The reference's gradient of the weights: the product over the tokens, transposed. -/
abbrev grad : FVec Ideal S512x1024 .f32 :=
  transpose S512x1024 [1, 0] (Host.dotGeneral Cert.DwBrARefIdeal.dot_S16384x1024_S16384x512_S1024x512_0_0_1_1_n_n none (ag m c) (ay m c))
    Cert.DwBrARefIdeal.Gen.facts.transposes_S1024x512_S512x1024_1_0

theorem idx : ∀ t : Fin cfg0.N, win0_0.index t = ![t.val % 16, 0] ∧ win0_1.index t = ![t.val % 16, 0] ∧ win0_2.index t = ![0, 0] :=
  (by decide +kernel : ∀ t : Fin grid0.N, _)

theorem hpay2 (x : FVec Ideal S1024x512 .f32) (g : FVec Ideal S1024x1024 .bf16) (j : S512x1024.Idx) : k0_pay2 x g j = Accum.rows x g j := by
  pointwise [k0_pay2, k0_pay1, Accum.rows]
theorem hpay3 (x : FVec Ideal S1024x512 .f32) (g : FVec Ideal S1024x1024 .bf16) (v : FVec Ideal S512x1024 .f32) (j : S512x1024.Idx) :
    k0_pay3 x g v j = v j + Accum.rows x g j := by
  pointwise [k0_pay3, k0_pay1, Accum.rows]

theorem final2 : (dats m 0 c).arrAt 2 cfg0.N = grad m c := by
  have hN : ∀ t : Fin cfg0.N, t.val < 16 := fun t => t.isLt
  refine (dats m 0 c).arrAt_eq_of_covers 2 _ (by decide +kernel) fun t hf y => ?_
  have h15 := (flush0_2 t).mp hf
  have hl : (outsAt0 m c t.val t.isLt).1 = (outsAt0 m c t.val t.isLt).2 := by
    rw [outsAt0_C m c t (by omega) (by omega) h15]
    dsimp only
    frame_out
  blk_simp
  rw [after0_2, hl]
  pointwise [grad]
  refine Accum.rows_at_flush (P := 16) (K := 1024) (φ := .f32) (ψ := .bf16) (fun n h => (outsAt0 m c n h).2) (iblk m c 0) (iblk m c 1)
    (ay m c) (ag m c) (fun t h j => ?_) (fun t h j => ?_) t h15 rfl _ _ _ (fun s k hk => ?_) (fun s k hk => ?_)
  · rw [outsAt0_A m c t h (by have := hN t; omega) (by omega)]; frame_out; exact hpay2 _ _ _
  · by_cases h' : t.val % 16 = 15
    · rw [outsAt0_C m c t h (by omega) h']; frame_out; rw [hpay3, read_unread_whole]
    · rw [outsAt0_B m c t h (by omega) h']; frame_out; rw [hpay3, read_unread_whole]
  all_goals blk_point [iblk, V, idx t, idx ⟨_, Pipeline.run_point_lt_of_flush t h15 s⟩]

end Cert.DwBrAIdeal.Val

namespace Cert.DwBrBIdeal.Val
open Cert.DwBrBIdeal Cert.DwBrBIdeal.Gen

variable (m : (ℓ : Loc nD τ sig) → Buf (Elt Ideal) ℓ) (c : Dev nD)

abbrev ay : FVec Ideal S16384x512 .f32 := m ((c.tc : Thread nD τ).loc main_arg0)
abbrev ag : FVec Ideal S16384x1024 .f32 := m ((c.tc : Thread nD τ).loc main_arg1)

/-- The reference's gradient of the weights: the product over the tokens, transposed. -/
abbrev grad : FVec Ideal S512x1024 .f32 :=
  transpose S512x1024 [1, 0] (Host.dotGeneral Cert.DwBrBRefIdeal.dot_S16384x1024_S16384x512_S1024x512_0_0_1_1_n_n none (ag m c) (ay m c))
    Cert.DwBrBRefIdeal.Gen.facts.transposes_S1024x512_S512x1024_1_0

theorem idx : ∀ t : Fin cfg0.N, win0_0.index t = ![t.val % 16, 0] ∧ win0_1.index t = ![t.val % 16, 0] ∧ win0_2.index t = ![0, 0] :=
  (by decide +kernel : ∀ t : Fin grid0.N, _)

theorem hpay2 (x : FVec Ideal S1024x512 .bf16) (g : FVec Ideal S1024x1024 .bf16) (j : S512x1024.Idx) : k0_pay2 x g j = Accum.rows x g j := by
  pointwise [k0_pay2, k0_pay1, Accum.rows]
theorem hpay3 (x : FVec Ideal S1024x512 .bf16) (g : FVec Ideal S1024x1024 .bf16) (v : FVec Ideal S512x1024 .f32) (j : S512x1024.Idx) :
    k0_pay3 x g v j = v j + Accum.rows x g j := by
  pointwise [k0_pay3, k0_pay1, Accum.rows]

theorem final2 : (dats m 0 c).arrAt 2 cfg0.N = grad m c := by
  have hN : ∀ t : Fin cfg0.N, t.val < 16 := fun t => t.isLt
  refine (dats m 0 c).arrAt_eq_of_covers 2 _ (by decide +kernel) fun t hf y => ?_
  have h15 := (flush0_2 t).mp hf
  have hl : (outsAt0 m c t.val t.isLt).1 = (outsAt0 m c t.val t.isLt).2 := by
    rw [outsAt0_C m c t (by omega) (by omega) h15]
    dsimp only
    frame_out
  blk_simp
  rw [after0_2, hl]
  pointwise [grad]
  refine Accum.rows_at_flush (P := 16) (K := 1024) (φ := .bf16) (ψ := .bf16) (fun n h => (outsAt0 m c n h).2) (iblk m c 0) (iblk m c 1)
    (ay m c) (ag m c) (fun t h j => ?_) (fun t h j => ?_) t h15 rfl _ _ _ (fun s k hk => ?_) (fun s k hk => ?_)
  · rw [outsAt0_A m c t h (by have := hN t; omega) (by omega)]; frame_out; exact hpay2 _ _ _
  · by_cases h' : t.val % 16 = 15
    · rw [outsAt0_C m c t h (by omega) h']; frame_out; rw [hpay3, read_unread_whole]
    · rw [outsAt0_B m c t h (by omega) h']; frame_out; rw [hpay3, read_unread_whole]
  all_goals blk_point [iblk, V, idx t, idx ⟨_, Pipeline.run_point_lt_of_flush t h15 s⟩]

end Cert.DwBrBIdeal.Val
end
-- ==== Proof.InProjC.lean ====
module
public import proofs.«01_k».proof.Proof.Accum
public import proofs.«01_k».proof.Proof.Gen.InCIdeal.Value
public import proofs.«01_k».proof.Proof.Gen.InCRefIdeal.Run
public import proofs.«01_k».proof.Proof.Gen.DhCIdeal.Value
public import proofs.«01_k».proof.Proof.Gen.DhCRefIdeal.Run
public import proofs.«01_k».proof.Proof.Gen.DwCIdeal.Value
public import proofs.«01_k».proof.Proof.Gen.DwCRefIdeal.Run
@[expose] public section
set_option maxRecDepth 16384
noncomputable section
open Idealize.ShloMosaic Idealize.ShloMosaic.TcCoe Idealize.SL.Sem
open Idealize.ShloMosaic.Pipeline (Dat)

/-! The input projection's part for the windowed attention: the product, the gradient brought back to its input, and that of its weights. -/

namespace Cert.InCIdeal.Val
open Cert.InCIdeal Cert.InCIdeal.Gen

variable (m : (ℓ : Loc nD τ sig) → Buf (Elt Ideal) ℓ) (c : Dev nD)

/-- The reference's product, in the short format. -/
abbrev prod (H : FVec Ideal S16384x1024 .f32) (W : FVec Ideal S1024x768 .f32) : FVec Ideal S16384x768 .bf16 :=
  truncf .bf16 (Host.dotGeneral Cert.InCRefIdeal.dot_S16384x1024_S1024x768_S16384x768_1_0_0_1_n_n none H W) Cert.InCRefIdeal.Gen.facts.bitsLt_bf16_f32

theorem idx : ∀ t : Fin cfg0.N, win0_0.index t = ![t.val, 0] ∧ win0_1.index t = ![0, 0] ∧ win0_2.index t = ![t.val, 0] :=
  (by decide +kernel : ∀ t : Fin grid0.N, _)

theorem final2 : (dats m 0 c).arrAt 2 cfg0.N = prod (m ((c.tc : Thread nD τ).loc main_arg0)) (m ((c.tc : Thread nD τ).loc main_arg1)) := by
  refine (dats m 0 c).arrAt_eq_of_covers 2 _ (by decide +kernel) fun t _ y => ?_
  blk_simp
  rw [after0_2]; unfold outsAt0; frame_out
  pointwise [k0_pay4, k0_pay2, k0_pay1, prod]
  blk_point [iblk, V, idx t]

end Cert.InCIdeal.Val

namespace Cert.DhCIdeal.Val
open Cert.DhCIdeal Cert.DhCIdeal.Gen

variable (m : (ℓ : Loc nD τ sig) → Buf (Elt Ideal) ℓ) (c : Dev nD)

/-- The reference's gradient: what is there already, plus the product with the transposed weights. -/
abbrev back (D : FVec Ideal S16384x768 .f32) (W : FVec Ideal S1024x768 .f32) (X : FVec Ideal S16384x1024 .f32) : FVec Ideal S16384x1024 .f32 :=
  addf X (Host.dotGeneral Cert.DhCRefIdeal.dot_S16384x768_S1024x768_S16384x1024_1_1_0_0_n_n none D W)

theorem idx : ∀ t : Fin cfg0.N, win0_0.index t = ![t.val, 0] ∧ win0_1.index t = ![0, 0] ∧ win0_2.index t = ![t.val, 0] ∧ win0_3.index t = ![t.val, 0] :=
  (by decide +kernel : ∀ t : Fin grid0.N, _)

theorem final3 : (dats m 0 c).arrAt 3 cfg0.N
    = back (m ((c.tc : Thread nD τ).loc main_arg0)) (m ((c.tc : Thread nD τ).loc main_arg1)) (m ((c.tc : Thread nD τ).loc main_arg2)) := by
  refine (dats m 0 c).arrAt_eq_of_covers 3 _ (by decide +kernel) fun t _ y => ?_
  blk_simp
  rw [after0_3]; unfold outsAt0; frame_out
  pointwise [k0_pay4, k0_pay2, k0_pay1, back]
  rw [add_comm]
  blk_point [iblk, V, idx t]

end Cert.DhCIdeal.Val

namespace Cert.DwCIdeal.Val
open Cert.DwCIdeal Cert.DwCIdeal.Gen

variable (m : (ℓ : Loc nD τ sig) → Buf (Elt Ideal) ℓ) (c : Dev nD)

abbrev ah : FVec Ideal S16384x1024 .f32 := m ((c.tc : Thread nD τ).loc main_arg0)
abbrev ag : FVec Ideal S16384x768 .f32 := m ((c.tc : Thread nD τ).loc main_arg1)

/-- The reference's gradient of the weights: the product over the tokens, transposed. -/
abbrev grad : FVec Ideal S1024x768 .f32 :=
  transpose S1024x768 [1, 0] (Host.dotGeneral Cert.DwCRefIdeal.dot_S16384x768_S16384x1024_S768x1024_0_0_1_1_n_n none (ag m c) (ah m c))
    Cert.DwCRefIdeal.Gen.facts.transposes_S768x1024_S1024x768_1_0

theorem idx : ∀ t : Fin cfg0.N, win0_0.index t = ![t.val % 16, t.val / 16] ∧ win0_1.index t = ![t.val % 16, 0] ∧ win0_2.index t = ![t.val / 16, 0] :=
  (by decide +kernel : ∀ t : Fin grid0.N, _)

theorem hpay2 (x : FVec Ideal S1024x512 .bf16) (g : FVec Ideal S1024x768 .bf16) (j : S512x768.Idx) : k0_pay2 x g j = Accum.rows x g j := by
  pointwise [k0_pay2, k0_pay1, Accum.rows]
theorem hpay3 (x : FVec Ideal S1024x512 .bf16) (g : FVec Ideal S1024x768 .bf16) (v : FVec Ideal S512x768 .f32) (j : S512x768.Idx) :
    k0_pay3 x g v j = v j + Accum.rows x g j := by
  pointwise [k0_pay3, k0_pay1, Accum.rows]

theorem final2 : (dats m 0 c).arrAt 2 cfg0.N = grad m c := by
  refine (dats m 0 c).arrAt_eq_of_covers 2 _ (by decide +kernel) fun t hf y => ?_
  have h15 := (flush0_2 t).mp hf
  have hl : (outsAt0 m c t.val t.isLt).1 = (outsAt0 m c t.val t.isLt).2 := by
    rw [outsAt0_C m c t (by omega) (by omega) h15]
    dsimp only
    frame_out
  blk_simp
  rw [after0_2, hl]
  pointwise [grad]
  refine Accum.rows_at_flush (P := 16) (K := 1024) (φ := .bf16) (ψ := .bf16) (fun n h => (outsAt0 m c n h).2) (iblk m c 0) (iblk m c 1)
    (ah m c) (ag m c) (fun t h j => ?_) (fun t h j => ?_) t h15 rfl _ _ _ (fun s k hk => ?_) (fun s k hk => ?_)
  · rw [outsAt0_A m c t h (by omega) (by omega)]; frame_out; exact hpay2 _ _ _
  · by_cases h' : t.val % 16 = 15
    · rw [outsAt0_C m c t h (by omega) h']; frame_out; rw [hpay3, read_unread_whole]
    · rw [outsAt0_B m c t h (by omega) h']; frame_out; rw [hpay3, read_unread_whole]
  all_goals blk_point [iblk, V, idx t, idx ⟨_, Pipeline.run_point_lt_of_flush t h15 s⟩]

end Cert.DwCIdeal.Val
end
-- ==== Proof.MmClaim.lean ====
module
public import proofs.«01_k».proof.Defs
public import proofs.«01_k».proof.Proof.SquareMm
public import proofs.«01_k».proof.Proof.Branch
public import proofs.«01_k».proof.Proof.InProjC
public import proofs.«01_k».proof.Proof.Gen.Xq.Frame
public import proofs.«01_k».proof.Proof.Gen.XqIdeal.Frame
public import proofs.«01_k».proof.Proof.Gen.Dox.Frame
public import proofs.«01_k».proof.Proof.Gen.DoxIdeal.Frame
public import proofs.«01_k».proof.Proof.Gen.Dmerged.Frame
public import proofs.«01_k».proof.Proof.Gen.DmergedIdeal.Frame
public import proofs.«01_k».proof.Proof.Gen.Dh1.Frame
public import proofs.«01_k».proof.Proof.Gen.Dh1Ideal.Frame
public import proofs.«01_k».proof.Proof.Gen.DyA.Frame
public import proofs.«01_k».proof.Proof.Gen.DyAIdeal.Frame
public import proofs.«01_k».proof.Proof.Gen.DyB.Frame
public import proofs.«01_k».proof.Proof.Gen.DyBIdeal.Frame
public import proofs.«01_k».proof.Proof.Gen.DwBrA.Frame
public import proofs.«01_k».proof.Proof.Gen.DwBrAIdeal.Frame
public import proofs.«01_k».proof.Proof.Gen.DwBrB.Frame
public import proofs.«01_k».proof.Proof.Gen.DwBrBIdeal.Frame
public import proofs.«01_k».proof.Proof.Gen.InC.Frame
public import proofs.«01_k».proof.Proof.Gen.InCIdeal.Frame
public import proofs.«01_k».proof.Proof.Gen.DhC.Frame
public import proofs.«01_k».proof.Proof.Gen.DhCIdeal.Frame
public import proofs.«01_k».proof.Proof.Gen.DwC.Frame
public import proofs.«01_k».proof.Proof.Gen.DwCIdeal.Frame
@[expose] public section
noncomputable section
open Idealize.ShloMosaic Idealize.ShloMosaic.TcCoe Idealize.SL.Sem

/-! The claims of the square products, of the branches' products backward, and of the input projection's part for the windowed attention. -/

namespace Cert.XqClaims
open Cert.XqIdeal.Val

theorem frame_p : Cert.quiescent_Xq := fun m ρ _ => Cert.Xq.Gen.frame m ρ
theorem frame_pi : Cert.quiescent_XqIdeal := fun m ρ _ => Cert.XqIdeal.Gen.frame m ρ
theorem frame_ri : Cert.quiescent_XqRefIdeal := fun m ρ _ => Accum.frame_of_run (Cert.XqRefIdeal.Value.run (F := Ideal) m ρ)
theorem preserves : Cert.preserves_Xq_XqIdeal := trivial
theorem algebraic : Cert.algebraic_XqIdeal_XqRefIdeal := fun m ρ m' ρ' _ hagree =>
  ⟨_, Cert.XqIdeal.Value.run_blocks (F := Ideal) m ρ, Accum.run_congr (Cert.XqRefIdeal.Value.run (F := Ideal) m' ρ') fun c _ e => by
    rw [(hagree c).1, (hagree c).2] at e
    exact e.trans (final2 m c).symm⟩

end Cert.XqClaims

namespace Cert.DoxClaims
open Cert.DoxIdeal.Val

theorem frame_p : Cert.quiescent_Dox := fun m ρ _ => Cert.Dox.Gen.frame m ρ
theorem frame_pi : Cert.quiescent_DoxIdeal := fun m ρ _ => Cert.DoxIdeal.Gen.frame m ρ
theorem frame_ri : Cert.quiescent_DoxRefIdeal := fun m ρ _ => Accum.frame_of_run (Cert.DoxRefIdeal.Value.run (F := Ideal) m ρ)
theorem preserves : Cert.preserves_Dox_DoxIdeal := trivial
theorem algebraic : Cert.algebraic_DoxIdeal_DoxRefIdeal := fun m ρ m' ρ' _ hagree =>
  ⟨_, Cert.DoxIdeal.Value.run_blocks (F := Ideal) m ρ, Accum.run_congr (Cert.DoxRefIdeal.Value.run (F := Ideal) m' ρ') fun c _ e => by
    rw [(hagree c).1, (hagree c).2] at e
    exact e.trans (final2 m c).symm⟩

end Cert.DoxClaims

namespace Cert.DmergedClaims
open Cert.DmergedIdeal.Val

theorem frame_p : Cert.quiescent_Dmerged := fun m ρ _ => Cert.Dmerged.Gen.frame m ρ
theorem frame_pi : Cert.quiescent_DmergedIdeal := fun m ρ _ => Cert.DmergedIdeal.Gen.frame m ρ
theorem frame_ri : Cert.quiescent_DmergedRefIdeal := fun m ρ _ => Accum.frame_of_run (Cert.DmergedRefIdeal.Value.run (F := Ideal) m ρ)
theorem preserves : Cert.preserves_Dmerged_DmergedIdeal := trivial
theorem algebraic : Cert.algebraic_DmergedIdeal_DmergedRefIdeal := fun m ρ m' ρ' _ hagree =>
  ⟨_, Cert.DmergedIdeal.Value.run_blocks (F := Ideal) m ρ, Accum.run_congr (Cert.DmergedRefIdeal.Value.run (F := Ideal) m' ρ') fun c _ e => by
    rw [(hagree c).1, (hagree c).2] at e
    exact e.trans (final2 m c).symm⟩

end Cert.DmergedClaims

namespace Cert.Dh1Claims
open Cert.Dh1Ideal.Val

theorem frame_p : Cert.quiescent_Dh1 := fun m ρ _ => Cert.Dh1.Gen.frame m ρ
theorem frame_pi : Cert.quiescent_Dh1Ideal := fun m ρ _ => Cert.Dh1Ideal.Gen.frame m ρ
theorem frame_ri : Cert.quiescent_Dh1RefIdeal := fun m ρ _ => Accum.frame_of_run (Cert.Dh1RefIdeal.Value.run (F := Ideal) m ρ)
theorem preserves : Cert.preserves_Dh1_Dh1Ideal := trivial
theorem algebraic : Cert.algebraic_Dh1Ideal_Dh1RefIdeal := fun m ρ m' ρ' _ hagree =>
  ⟨_, Cert.Dh1Ideal.Value.run_blocks (F := Ideal) m ρ, Accum.run_congr (Cert.Dh1RefIdeal.Value.run (F := Ideal) m' ρ') fun c _ e => by
    rw [(hagree c).1, (hagree c).2] at e
    exact e.trans (final2 m c).symm⟩

end Cert.Dh1Claims

namespace Cert.DyAClaims
open Cert.DyAIdeal.Val

theorem frame_p : Cert.quiescent_DyA := fun m ρ _ => Cert.DyA.Gen.frame m ρ
theorem frame_pi : Cert.quiescent_DyAIdeal := fun m ρ _ => Cert.DyAIdeal.Gen.frame m ρ
theorem frame_ri : Cert.quiescent_DyARefIdeal := fun m ρ _ => Accum.frame_of_run (Cert.DyARefIdeal.Value.run (F := Ideal) m ρ)
theorem preserves : Cert.preserves_DyA_DyAIdeal := trivial
theorem algebraic : Cert.algebraic_DyAIdeal_DyARefIdeal := fun m ρ m' ρ' _ hagree =>
  ⟨_, Cert.DyAIdeal.Value.run_blocks (F := Ideal) m ρ, Accum.run_congr (Cert.DyARefIdeal.Value.run (F := Ideal) m' ρ') fun c _ e => by
    rw [(hagree c).1, (hagree c).2] at e
    exact e.trans (final2 m c).symm⟩

end Cert.DyAClaims

namespace Cert.DyBClaims
open Cert.DyBIdeal.Val

theorem frame_p : Cert.quiescent_DyB := fun m ρ _ => Cert.DyB.Gen.frame m ρ
theorem frame_pi : Cert.quiescent_DyBIdeal := fun m ρ _ => Cert.DyBIdeal.Gen.frame m ρ
theorem frame_ri : Cert.quiescent_DyBRefIdeal := fun m ρ _ => Accum.frame_of_run (Cert.DyBRefIdeal.Value.run (F := Ideal) m ρ)
theorem preserves : Cert.preserves_DyB_DyBIdeal := trivial
theorem algebraic : Cert.algebraic_DyBIdeal_DyBRefIdeal := fun m ρ m' ρ' _ hagree =>
  ⟨_, Cert.DyBIdeal.Value.run_blocks (F := Ideal) m ρ, Accum.run_congr (Cert.DyBRefIdeal.Value.run (F := Ideal) m' ρ') fun c _ e => by
    rw [(hagree c).1, (hagree c).2] at e
    exact e.trans (final2 m c).symm⟩

end Cert.DyBClaims

namespace Cert.DwBrAClaims
open Cert.DwBrAIdeal.Val

theorem frame_p : Cert.quiescent_DwBrA := fun m ρ _ => Cert.DwBrA.Gen.frame m ρ
theorem frame_pi : Cert.quiescent_DwBrAIdeal := fun m ρ _ => Cert.DwBrAIdeal.Gen.frame m ρ
theorem frame_ri : Cert.quiescent_DwBrARefIdeal := fun m ρ _ => Accum.frame_of_run (Cert.DwBrARefIdeal.Value.run (F := Ideal) m ρ)
theorem preserves : Cert.preserves_DwBrA_DwBrAIdeal := trivial
theorem algebraic : Cert.algebraic_DwBrAIdeal_DwBrARefIdeal := fun m ρ m' ρ' _ hagree =>
  ⟨_, Cert.DwBrAIdeal.Value.run_blocks (F := Ideal) m ρ, Accum.run_congr (Cert.DwBrARefIdeal.Value.run (F := Ideal) m' ρ') fun c _ e => by
    rw [(hagree c).1, (hagree c).2] at e
    exact e.trans (final2 m c).symm⟩

end Cert.DwBrAClaims

namespace Cert.DwBrBClaims
open Cert.DwBrBIdeal.Val

theorem frame_p : Cert.quiescent_DwBrB := fun m ρ _ => Cert.DwBrB.Gen.frame m ρ
theorem frame_pi : Cert.quiescent_DwBrBIdeal := fun m ρ _ => Cert.DwBrBIdeal.Gen.frame m ρ
theorem frame_ri : Cert.quiescent_DwBrBRefIdeal := fun m ρ _ => Accum.frame_of_run (Cert.DwBrBRefIdeal.Value.run (F := Ideal) m ρ)
theorem preserves : Cert.preserves_DwBrB_DwBrBIdeal := trivial
theorem algebraic : Cert.algebraic_DwBrBIdeal_DwBrBRefIdeal := fun m ρ m' ρ' _ hagree =>
  ⟨_, Cert.DwBrBIdeal.Value.run_blocks (F := Ideal) m ρ, Accum.run_congr (Cert.DwBrBRefIdeal.Value.run (F := Ideal) m' ρ') fun c _ e => by
    rw [(hagree c).1, (hagree c).2] at e
    exact e.trans (final2 m c).symm⟩

end Cert.DwBrBClaims

namespace Cert.InCClaims
open Cert.InCIdeal.Val

theorem frame_p : Cert.quiescent_InC := fun m ρ _ => Cert.InC.Gen.frame m ρ
theorem frame_pi : Cert.quiescent_InCIdeal := fun m ρ _ => Cert.InCIdeal.Gen.frame m ρ
theorem frame_ri : Cert.quiescent_InCRefIdeal := fun m ρ _ => Accum.frame_of_run (Cert.InCRefIdeal.Value.run (F := Ideal) m ρ)
theorem preserves : Cert.preserves_InC_InCIdeal := trivial
theorem algebraic : Cert.algebraic_InCIdeal_InCRefIdeal := fun m ρ m' ρ' _ hagree =>
  ⟨_, Cert.InCIdeal.Value.run_blocks (F := Ideal) m ρ, Accum.run_congr (Cert.InCRefIdeal.Value.run (F := Ideal) m' ρ') fun c _ e => by
    rw [(hagree c).1, (hagree c).2] at e
    exact e.trans (final2 m c).symm⟩

end Cert.InCClaims

namespace Cert.DhCClaims
open Cert.DhCIdeal.Val

theorem frame_p : Cert.quiescent_DhC := fun m ρ _ => Cert.DhC.Gen.frame m ρ
theorem frame_pi : Cert.quiescent_DhCIdeal := fun m ρ _ => Cert.DhCIdeal.Gen.frame m ρ
theorem frame_ri : Cert.quiescent_DhCRefIdeal := fun m ρ _ => Accum.frame_of_run (Cert.DhCRefIdeal.Value.run (F := Ideal) m ρ)
theorem preserves : Cert.preserves_DhC_DhCIdeal := trivial
theorem algebraic : Cert.algebraic_DhCIdeal_DhCRefIdeal := fun m ρ m' ρ' _ hagree =>
  ⟨_, Cert.DhCIdeal.Value.run_blocks (F := Ideal) m ρ, Accum.run_congr (Cert.DhCRefIdeal.Value.run (F := Ideal) m' ρ') fun c _ e => by
    obtain ⟨a0, a1, a2⟩ := hagree c
    rw [a0, a1, a2] at e
    exact e.trans (final3 m c).symm⟩

end Cert.DhCClaims

namespace Cert.DwCClaims
open Cert.DwCIdeal.Val

theorem frame_p : Cert.quiescent_DwC := fun m ρ _ => Cert.DwC.Gen.frame m ρ
theorem frame_pi : Cert.quiescent_DwCIdeal := fun m ρ _ => Cert.DwCIdeal.Gen.frame m ρ
theorem frame_ri : Cert.quiescent_DwCRefIdeal := fun m ρ _ => Accum.frame_of_run (Cert.DwCRefIdeal.Value.run (F := Ideal) m ρ)
theorem preserves : Cert.preserves_DwC_DwCIdeal := trivial
theorem algebraic : Cert.algebraic_DwCIdeal_DwCRefIdeal := fun m ρ m' ρ' _ hagree =>
  ⟨_, Cert.DwCIdeal.Value.run_blocks (F := Ideal) m ρ, Accum.run_congr (Cert.DwCRefIdeal.Value.run (F := Ideal) m' ρ') fun c _ e => by
    rw [(hagree c).1, (hagree c).2] at e
    exact e.trans (final2 m c).symm⟩

end Cert.DwCClaims
end
-- ==== Proof.Norms.lean ====
module
public import Idealize.ShloMosaic.Lib.Pipeline.ValueKit
public import proofs.«01_k».proof.Proof.Gen.RmsIdeal.Value
public import proofs.«01_k».proof.Proof.Gen.RmsRefIdeal.Run
public import proofs.«01_k».proof.Proof.Gen.RmsMemIdeal.Value
public import proofs.«01_k».proof.Proof.Gen.RmsMemRefIdeal.Run
public import proofs.«01_k».proof.Proof.Gen.RmsCqIdeal.Value
public import proofs.«01_k».proof.Proof.Gen.RmsCqRefIdeal.Run
public import proofs.«01_k».proof.Proof.Gen.RmsCkvIdeal.Value
public import proofs.«01_k».proof.Proof.Gen.RmsCkvRefIdeal.Run
@[expose] public section
set_option maxRecDepth 16384
noncomputable section
open Idealize.ShloMosaic Idealize.ShloMosaic.TcCoe Idealize.SL.Sem
open Idealize.ShloMosaic.Pipeline (Dat)

/-! The root-mean-square norms of the layer's streams, of the memory and of the latent attention's two low-rank projections. -/

namespace Cert.RmsRefIdeal.Val
open Cert.RmsRefIdeal Cert.RmsRefIdeal.Gen

/-- The reference's norm, in the short format. -/
abbrev rms (X : FVec Ideal S16384x1024 .f32) (G : FVec Ideal S1024 .f32) : FVec Ideal S16384x1024 .bf16 :=
  truncf .bf16 (mulf (mulf X (broadcastInDim S16384x1024 ![0, 1] facts.bcast_S16384x1_S16384x1024_0_1 (Host.rsqrt (addf
    (Host.divf (broadcastInDim S16384x1 ![0] facts.bcast_S16384_S16384x1_0
        (Host.reduceAdd (mulf X X) (constant S_ .f32 0x00000000#32) facts.reducesTo_S16384x1024_S16384_d1 facts.h_S_))
      (broadcastInDim S16384x1 ![] facts.bcast_S_S16384x1 (constant S_ .f32 0x44800000#32)))
    (broadcastInDim S16384x1 ![] facts.bcast_S_S16384x1 (constant S_ .f32 0x358637BD#32))))))
    (broadcastInDim S16384x1024 ![0, 1] facts.bcast_S1x1024_S16384x1024_0_1 (broadcastInDim S1x1024 ![1] facts.bcast_S1024_S1x1024_1 G))) facts.bitsLt_bf16_f32

end Cert.RmsRefIdeal.Val

namespace Cert.RmsIdeal.Val
open Cert.RmsIdeal Cert.RmsIdeal.Gen Cert.RmsRefIdeal.Val

variable (m : (ℓ : Loc nD τ sig) → Buf (Elt Ideal) ℓ) (c : Dev nD)

theorem idx : ∀ t : Fin cfg0.N, win0_0.index t = ![t.val, 0] ∧ win0_1.index t = ![0, 0] ∧ win0_2.index t = ![t.val, 0] :=
  (by decide +kernel : ∀ t : Fin grid0.N, _)

theorem final2 : (dats m 0 c).arrAt 2 cfg0.N = rms (m ((c.tc : Thread nD τ).loc main_arg0)) (m ((c.tc : Thread nD τ).loc main_arg1)) := by
  refine (dats m 0 c).arrAt_eq_of_covers 2 _ (by decide +kernel) fun t _ y => ?_
  blk_simp
  rw [after0_2]; frame_out
  pointwise [k0_pay1, rms]
  blk_point [iblk, V, idx t]

end Cert.RmsIdeal.Val

namespace Cert.RmsMemRefIdeal.Val
open Cert.RmsMemRefIdeal Cert.RmsMemRefIdeal.Gen

/-- The reference's norm of the memory, in the short format. -/
abbrev rms (X : FVec Ideal S256x1024 .f32) (G : FVec Ideal S1024 .f32) : FVec Ideal S256x1024 .bf16 :=
  truncf .bf16 (mulf (mulf X (broadcastInDim S256x1024 ![0, 1] facts.bcast_S256x1_S256x1024_0_1 (Host.rsqrt (addf
    (Host.divf (broadcastInDim S256x1 ![0] facts.bcast_S256_S256x1_0
        (Host.reduceAdd (mulf X X) (constant S_ .f32 0x00000000#32) facts.reducesTo_S256x1024_S256_d1 facts.h_S_))
      (broadcastInDim S256x1 ![] facts.bcast_S_S256x1 (constant S_ .f32 0x44800000#32)))
    (broadcastInDim S256x1 ![] facts.bcast_S_S256x1 (constant S_ .f32 0x358637BD#32))))))
    (broadcastInDim S256x1024 ![0, 1] facts.bcast_S1x1024_S256x1024_0_1 (broadcastInDim S1x1024 ![1] facts.bcast_S1024_S1x1024_1 G))) facts.bitsLt_bf16_f32

end Cert.RmsMemRefIdeal.Val

namespace Cert.RmsMemIdeal.Val
open Cert.RmsMemIdeal Cert.RmsMemIdeal.Gen Cert.RmsMemRefIdeal.Val

variable (m : (ℓ : Loc nD τ sig) → Buf (Elt Ideal) ℓ) (c : Dev nD)

theorem idx : ∀ t : Fin cfg0.N, win0_0.index t = ![0, 0] ∧ win0_1.index t = ![0, 0] ∧ win0_2.index t = ![0, 0] :=
  (by decide +kernel : ∀ t : Fin grid0.N, _)

theorem final2 : (dats m 0 c).arrAt 2 cfg0.N = rms (m ((c.tc : Thread nD τ).loc main_arg0)) (m ((c.tc : Thread nD τ).loc main_arg1)) := by
  refine (dats m 0 c).arrAt_eq_of_covers 2 _ (by decide +kernel) fun t _ y => ?_
  blk_simp
  rw [after0_2]; frame_out
  pointwise [k0_pay1, rms]
  blk_point [iblk, V, idx t]

end Cert.RmsMemIdeal.Val

namespace Cert.RmsCqRefIdeal.Val
open Cert.RmsCqRefIdeal Cert.RmsCqRefIdeal.Gen

/-- The reference's norm, in the short format. -/
abbrev rms (X : FVec Ideal S16384x384 .f32) (G : FVec Ideal S384 .f32) : FVec Ideal S16384x384 .bf16 :=
  truncf .bf16 (mulf (mulf X (broadcastInDim S16384x384 ![0, 1] facts.bcast_S16384x1_S16384x384_0_1 (Host.rsqrt (addf
    (Host.divf (broadcastInDim S16384x1 ![0] facts.bcast_S16384_S16384x1_0
        (Host.reduceAdd (mulf X X) (constant S_ .f32 0x00000000#32) facts.reducesTo_S16384x384_S16384_d1 facts.h_S_))
      (broadcastInDim S16384x1 ![] facts.bcast_S_S16384x1 (constant S_ .f32 0x43C00000#32)))
    (broadcastInDim S16384x1 ![] facts.bcast_S_S16384x1 (constant S_ .f32 0x358637BD#32))))))
    (broadcastInDim S16384x384 ![0, 1] facts.bcast_S1x384_S16384x384_0_1 (broadcastInDim S1x384 ![1] facts.bcast_S384_S1x384_1 G))) facts.bitsLt_bf16_f32

/-- The queries' columns. -/
abbrev part (Z : FVec Ideal S16384x768 .f32) : FVec Ideal S16384x384 .f32 :=
  extractStridedSlice S16384x384 ![0, 0] Z facts.slices_S16384x768_S16384x384_0_0

end Cert.RmsCqRefIdeal.Val

namespace Cert.RmsCqIdeal.Val
open Cert.RmsCqIdeal Cert.RmsCqIdeal.Gen Cert.RmsCqRefIdeal.Val

variable (m : (ℓ : Loc nD τ sig) → Buf (Elt Ideal) ℓ) (c : Dev nD)

theorem idx : ∀ t : Fin cfg0.N, win0_0.index t = ![t.val, 0] ∧ win0_1.index t = ![0, 0] ∧ win0_2.index t = ![t.val, 0] :=
  (by decide +kernel : ∀ t : Fin grid0.N, _)

theorem final2 : (dats m 0 c).arrAt 2 cfg0.N = rms (part (m ((c.tc : Thread nD τ).loc main_arg0))) (m ((c.tc : Thread nD τ).loc main_arg1)) := by
  refine (dats m 0 c).arrAt_eq_of_covers 2 _ (by decide +kernel) fun t _ y => ?_
  blk_simp
  rw [after0_2]; frame_out
  pointwise [k0_pay1, rms, part]
  blk_point [iblk, V, idx t]

end Cert.RmsCqIdeal.Val

namespace Cert.RmsCkvRefIdeal.Val
open Cert.RmsCkvRefIdeal Cert.RmsCkvRefIdeal.Gen

/-- The reference's norm, in the short format. -/
abbrev rms (X : FVec Ideal S16384x256 .f32) (G : FVec Ideal S256 .f32) : FVec Ideal S16384x256 .bf16 :=
  truncf .bf16 (mulf (mulf X (broadcastInDim S16384x256 ![0, 1] facts.bcast_S16384x1_S16384x256_0_1 (Host.rsqrt (addf
    (Host.divf (broadcastInDim S16384x1 ![0] facts.bcast_S16384_S16384x1_0
        (Host.reduceAdd (mulf X X) (constant S_ .f32 0x00000000#32) facts.reducesTo_S16384x256_S16384_d1 facts.h_S_))
      (broadcastInDim S16384x1 ![] facts.bcast_S_S16384x1 (constant S_ .f32 0x43800000#32)))
    (broadcastInDim S16384x1 ![] facts.bcast_S_S16384x1 (constant S_ .f32 0x358637BD#32))))))
    (broadcastInDim S16384x256 ![0, 1] facts.bcast_S1x256_S16384x256_0_1 (broadcastInDim S1x256 ![1] facts.bcast_S256_S1x256_1 G))) facts.bitsLt_bf16_f32

/-- The columns of the keys and values. -/
abbrev part (Z : FVec Ideal S16384x768 .f32) : FVec Ideal S16384x256 .f32 :=
  extractStridedSlice S16384x256 ![0, 512] Z facts.slices_S16384x768_S16384x256_0_512

end Cert.RmsCkvRefIdeal.Val

namespace Cert.RmsCkvIdeal.Val
open Cert.RmsCkvIdeal Cert.RmsCkvIdeal.Gen Cert.RmsCkvRefIdeal.Val

variable (m : (ℓ : Loc nD τ sig) → Buf (Elt Ideal) ℓ) (c : Dev nD)

theorem idx : ∀ t : Fin cfg0.N, win0_0.index t = ![t.val, 2] ∧ win0_1.index t = ![0, 0] ∧ win0_2.index t = ![t.val, 0] :=
  (by decide +kernel : ∀ t : Fin grid0.N, _)

theorem final2 : (dats m 0 c).arrAt 2 cfg0.N = rms (part (m ((c.tc : Thread nD τ).loc main_arg0))) (m ((c.tc : Thread nD τ).loc main_arg1)) := by
  refine (dats m 0 c).arrAt_eq_of_covers 2 _ (by decide +kernel) fun t _ y => ?_
  blk_simp
  rw [after0_2]; frame_out
  pointwise [k0_pay1, rms, part]
  blk_point [iblk, V, idx t]

end Cert.RmsCkvIdeal.Val
end
-- ==== Proof.NormClaim.lean ====
module
public import proofs.«01_k».proof.Defs
public import proofs.«01_k».proof.Proof.Accum
public import proofs.«01_k».proof.Proof.Norms
public import proofs.«01_k».proof.Proof.Gen.Rms.Frame
public import proofs.«01_k».proof.Proof.Gen.RmsIdeal.Frame
public import proofs.«01_k».proof.Proof.Gen.RmsMem.Frame
public import proofs.«01_k».proof.Proof.Gen.RmsMemIdeal.Frame
public import proofs.«01_k».proof.Proof.Gen.RmsCq.Frame
public import proofs.«01_k».proof.Proof.Gen.RmsCqIdeal.Frame
public import proofs.«01_k».proof.Proof.Gen.RmsCkv.Frame
public import proofs.«01_k».proof.Proof.Gen.RmsCkvIdeal.Frame
@[expose] public section
noncomputable section
open Idealize.ShloMosaic Idealize.ShloMosaic.TcCoe Idealize.SL.Sem

/-! The claims of the norms. -/

namespace Cert.RmsClaims
open Cert.RmsIdeal.Val

theorem frame_p : Cert.quiescent_Rms := fun m ρ _ => Cert.Rms.Gen.frame m ρ
theorem frame_pi : Cert.quiescent_RmsIdeal := fun m ρ _ => Cert.RmsIdeal.Gen.frame m ρ
theorem frame_ri : Cert.quiescent_RmsRefIdeal := fun m ρ _ => Accum.frame_of_run (Cert.RmsRefIdeal.Value.run (F := Ideal) m ρ)
theorem preserves : Cert.preserves_Rms_RmsIdeal := trivial
theorem algebraic : Cert.algebraic_RmsIdeal_RmsRefIdeal := fun m ρ m' ρ' _ hagree =>
  ⟨_, Cert.RmsIdeal.Value.run_blocks (F := Ideal) m ρ, Accum.run_congr (Cert.RmsRefIdeal.Value.run (F := Ideal) m' ρ') fun c _ e => by
    rw [(hagree c).1, (hagree c).2] at e
    exact e.trans (final2 m c).symm⟩

end Cert.RmsClaims

namespace Cert.RmsMemClaims
open Cert.RmsMemIdeal.Val

theorem frame_p : Cert.quiescent_RmsMem := fun m ρ _ => Cert.RmsMem.Gen.frame m ρ
theorem frame_pi : Cert.quiescent_RmsMemIdeal := fun m ρ _ => Cert.RmsMemIdeal.Gen.frame m ρ
theorem frame_ri : Cert.quiescent_RmsMemRefIdeal := fun m ρ _ => Accum.frame_of_run (Cert.RmsMemRefIdeal.Value.run (F := Ideal) m ρ)
theorem preserves : Cert.preserves_RmsMem_RmsMemIdeal := trivial
theorem algebraic : Cert.algebraic_RmsMemIdeal_RmsMemRefIdeal := fun m ρ m' ρ' _ hagree =>
  ⟨_, Cert.RmsMemIdeal.Value.run_blocks (F := Ideal) m ρ, Accum.run_congr (Cert.RmsMemRefIdeal.Value.run (F := Ideal) m' ρ') fun c _ e => by
    rw [(hagree c).1, (hagree c).2] at e
    exact e.trans (final2 m c).symm⟩

end Cert.RmsMemClaims

namespace Cert.RmsCqClaims
open Cert.RmsCqIdeal.Val

theorem frame_p : Cert.quiescent_RmsCq := fun m ρ _ => Cert.RmsCq.Gen.frame m ρ
theorem frame_pi : Cert.quiescent_RmsCqIdeal := fun m ρ _ => Cert.RmsCqIdeal.Gen.frame m ρ
theorem frame_ri : Cert.quiescent_RmsCqRefIdeal := fun m ρ _ => Accum.frame_of_run (Cert.RmsCqRefIdeal.Value.run (F := Ideal) m ρ)
theorem preserves : Cert.preserves_RmsCq_RmsCqIdeal := trivial
theorem algebraic : Cert.algebraic_RmsCqIdeal_RmsCqRefIdeal := fun m ρ m' ρ' _ hagree =>
  ⟨_, Cert.RmsCqIdeal.Value.run_blocks (F := Ideal) m ρ, Accum.run_congr (Cert.RmsCqRefIdeal.Value.run (F := Ideal) m' ρ') fun c _ e => by
    rw [(hagree c).1, (hagree c).2] at e
    exact e.trans (final2 m c).symm⟩

end Cert.RmsCqClaims

namespace Cert.RmsCkvClaims
open Cert.RmsCkvIdeal.Val

theorem frame_p : Cert.quiescent_RmsCkv := fun m ρ _ => Cert.RmsCkv.Gen.frame m ρ
theorem frame_pi : Cert.quiescent_RmsCkvIdeal := fun m ρ _ => Cert.RmsCkvIdeal.Gen.frame m ρ
theorem frame_ri : Cert.quiescent_RmsCkvRefIdeal := fun m ρ _ => Accum.frame_of_run (Cert.RmsCkvRefIdeal.Value.run (F := Ideal) m ρ)
theorem preserves : Cert.preserves_RmsCkv_RmsCkvIdeal := trivial
theorem algebraic : Cert.algebraic_RmsCkvIdeal_RmsCkvRefIdeal := fun m ρ m' ρ' _ hagree =>
  ⟨_, Cert.RmsCkvIdeal.Value.run_blocks (F := Ideal) m ρ, Accum.run_congr (Cert.RmsCkvRefIdeal.Value.run (F := Ideal) m' ρ') fun c _ e => by
    rw [(hagree c).1, (hagree c).2] at e
    exact e.trans (final2 m c).symm⟩

end Cert.RmsCkvClaims
end
-- ==== Proof.Latent.lean ====
module
public import proofs.«01_k».proof.Proof.Accum
public import proofs.«01_k».proof.Proof.Gen.InAIdeal.Value
public import proofs.«01_k».proof.Proof.Gen.InARefIdeal.Run
public import proofs.«01_k».proof.Proof.Gen.UkvIdeal.Value
public import proofs.«01_k».proof.Proof.Gen.UkvRefIdeal.Run
public import proofs.«01_k».proof.Proof.Gen.DhCqIdeal.Value
public import proofs.«01_k».proof.Proof.Gen.DhCqRefIdeal.Run
public import proofs.«01_k».proof.Proof.Gen.DhCkvIdeal.Value
public import proofs.«01_k».proof.Proof.Gen.DhCkvRefIdeal.Run
public import proofs.«01_k».proof.Proof.Gen.DwCqIdeal.Value
public import proofs.«01_k».proof.Proof.Gen.DwCqRefIdeal.Run
public import proofs.«01_k».proof.Proof.Gen.DwCkvIdeal.Value
public import proofs.«01_k».proof.Proof.Gen.DwCkvRefIdeal.Run
@[expose] public section
set_option maxRecDepth 16384
noncomputable section
open Idealize.ShloMosaic Idealize.ShloMosaic.TcCoe Idealize.SL.Sem
open Idealize.ShloMosaic.Pipeline (Dat)

/-! The latent attention's projections: its part of the input projection with the gradients, and the keys and values from their low-rank form. -/

namespace Cert.InAIdeal.Val
open Cert.InAIdeal Cert.InAIdeal.Gen

variable (m : (ℓ : Loc nD τ sig) → Buf (Elt Ideal) ℓ) (c : Dev nD)

/-- The reference's product. -/
abbrev prod (H : FVec Ideal S16384x1024 .f32) (W : FVec Ideal S1024x768 .f32) : FVec Ideal S16384x768 .f32 :=
  Host.dotGeneral Cert.InARefIdeal.dot_S16384x1024_S1024x768_S16384x768_1_0_0_1_n_n none H W

theorem idx : ∀ t : Fin cfg0.N, win0_0.index t = ![t.val, 0] ∧ win0_1.index t = ![0, 0] ∧ win0_2.index t = ![t.val, 0] :=
  (by decide +kernel : ∀ t : Fin grid0.N, _)

theorem final2 : (dats m 0 c).arrAt 2 cfg0.N = prod (m ((c.tc : Thread nD τ).loc main_arg0)) (m ((c.tc : Thread nD τ).loc main_arg1)) := by
  refine (dats m 0 c).arrAt_eq_of_covers 2 _ (by decide +kernel) fun t _ y => ?_
  blk_simp
  rw [after0_2]; unfold outsAt0; frame_out
  pointwise [k0_pay2, k0_pay1, prod]
  blk_point [iblk, V, idx t]

end Cert.InAIdeal.Val

namespace Cert.UkvIdeal.Val
open Cert.UkvIdeal Cert.UkvIdeal.Gen

variable (m : (ℓ : Loc nD τ sig) → Buf (Elt Ideal) ℓ) (c : Dev nD)

/-- The reference's keys and values, in the short format. -/
abbrev prod (H : FVec Ideal S16384x256 .f32) (W : FVec Ideal S256x1024 .f32) : FVec Ideal S16384x1024 .bf16 :=
  truncf .bf16 (Host.dotGeneral Cert.UkvRefIdeal.dot_S16384x256_S256x1024_S16384x1024_1_0_0_1_n_n none H W) Cert.UkvRefIdeal.Gen.facts.bitsLt_bf16_f32

theorem idx : ∀ t : Fin cfg0.N, win0_0.index t = ![t.val, 0] ∧ win0_1.index t = ![0, 0] ∧ win0_2.index t = ![t.val, 0] :=
  (by decide +kernel : ∀ t : Fin grid0.N, _)

theorem final2 : (dats m 0 c).arrAt 2 cfg0.N = prod (m ((c.tc : Thread nD τ).loc main_arg0)) (m ((c.tc : Thread nD τ).loc main_arg1)) := by
  refine (dats m 0 c).arrAt_eq_of_covers 2 _ (by decide +kernel) fun t _ y => ?_
  blk_simp
  rw [after0_2]; unfold outsAt0; frame_out
  pointwise [k0_pay4, k0_pay2, k0_pay1, prod]
  blk_point [iblk, V, idx t]

end Cert.UkvIdeal.Val

namespace Cert.DhCqIdeal.Val
open Cert.DhCqIdeal Cert.DhCqIdeal.Gen

variable (m : (ℓ : Loc nD τ sig) → Buf (Elt Ideal) ℓ) (c : Dev nD)

/-- The reference's gradient: what is there already, plus the product with the transposed weights of the queries. -/
abbrev back (D : FVec Ideal S16384x384 .f32) (W : FVec Ideal S1024x384 .f32) (X : FVec Ideal S16384x1024 .f32) : FVec Ideal S16384x1024 .f32 :=
  addf X (Host.dotGeneral Cert.DhCqRefIdeal.dot_S16384x384_S1024x384_S16384x1024_1_1_0_0_n_n none D W)

theorem idx : ∀ t : Fin cfg0.N, win0_0.index t = ![t.val, 0] ∧ win0_1.index t = ![0, 0] ∧ win0_2.index t = ![t.val, 0] ∧ win0_3.index t = ![t.val, 0] :=
  (by decide +kernel : ∀ t : Fin grid0.N, _)

theorem final3 : (dats m 0 c).arrAt 3 cfg0.N
    = back (m ((c.tc : Thread nD τ).loc main_arg0)) (m ((c.tc : Thread nD τ).loc main_arg1)) (m ((c.tc : Thread nD τ).loc main_arg2)) := by
  refine (dats m 0 c).arrAt_eq_of_covers 3 _ (by decide +kernel) fun t _ y => ?_
  blk_simp
  rw [after0_3]; unfold outsAt0; frame_out
  pointwise [k0_pay4, k0_pay2, k0_pay1, back]
  rw [add_comm]
  blk_point [iblk, V, idx t]

end Cert.DhCqIdeal.Val

namespace Cert.DhCkvIdeal.Val
open Cert.DhCkvIdeal Cert.DhCkvIdeal.Gen

variable (m : (ℓ : Loc nD τ sig) → Buf (Elt Ideal) ℓ) (c : Dev nD)

/-- The reference's gradient: what is there already, plus the product with the transposed weights of the keys and values. -/
abbrev back (D : FVec Ideal S16384x256 .f32) (W : FVec Ideal S1024x256 .f32) (X : FVec Ideal S16384x1024 .f32) : FVec Ideal S16384x1024 .f32 :=
  addf X (Host.dotGeneral Cert.DhCkvRefIdeal.dot_S16384x256_S1024x256_S16384x1024_1_1_0_0_n_n none D W)

theorem idx : ∀ t : Fin cfg0.N, win0_0.index t = ![t.val, 0] ∧ win0_1.index t = ![0, 0] ∧ win0_2.index t = ![t.val, 0] ∧ win0_3.index t = ![t.val, 0] :=
  (by decide +kernel : ∀ t : Fin grid0.N, _)

theorem final3 : (dats m 0 c).arrAt 3 cfg0.N
    = back (m ((c.tc : Thread nD τ).loc main_arg0)) (m ((c.tc : Thread nD τ).loc main_arg1)) (m ((c.tc : Thread nD τ).loc main_arg2)) := by
  refine (dats m 0 c).arrAt_eq_of_covers 3 _ (by decide +kernel) fun t _ y => ?_
  blk_simp
  rw [after0_3]; unfold outsAt0; frame_out
  pointwise [k0_pay4, k0_pay2, k0_pay1, back]
  rw [add_comm]
  blk_point [iblk, V, idx t]

end Cert.DhCkvIdeal.Val

namespace Cert.DwCqIdeal.Val
open Cert.DwCqIdeal Cert.DwCqIdeal.Gen

variable (m : (ℓ : Loc nD τ sig) → Buf (Elt Ideal) ℓ) (c : Dev nD)

abbrev ah : FVec Ideal S16384x1024 .f32 := m ((c.tc : Thread nD τ).loc main_arg0)
abbrev ag : FVec Ideal S16384x384 .f32 := m ((c.tc : Thread nD τ).loc main_arg1)

/-- The reference's gradient of the queries' weights: the product over the tokens, transposed. -/
abbrev grad : FVec Ideal S1024x384 .f32 :=
  transpose S1024x384 [1, 0] (Host.dotGeneral Cert.DwCqRefIdeal.dot_S16384x384_S16384x1024_S384x1024_0_0_1_1_n_n none (ag m c) (ah m c))
    Cert.DwCqRefIdeal.Gen.facts.transposes_S384x1024_S1024x384_1_0

theorem idx : ∀ t : Fin cfg0.N, win0_0.index t = ![t.val % 16, t.val / 16] ∧ win0_1.index t = ![t.val % 16, 0] ∧ win0_2.index t = ![t.val / 16, 0] :=
  (by decide +kernel : ∀ t : Fin grid0.N, _)

theorem hpay2 (x : FVec Ideal S1024x512 .bf16) (g : FVec Ideal S1024x384 .bf16) (j : S512x384.Idx) : k0_pay2 x g j = Accum.rows x g j := by
  pointwise [k0_pay2, k0_pay1, Accum.rows]
theorem hpay3 (x : FVec Ideal S1024x512 .bf16) (g : FVec Ideal S1024x384 .bf16) (v : FVec Ideal S512x384 .f32) (j : S512x384.Idx) :
    k0_pay3 x g v j = v j + Accum.rows x g j := by
  pointwise [k0_pay3, k0_pay1, Accum.rows]

theorem final2 : (dats m 0 c).arrAt 2 cfg0.N = grad m c := by
  refine (dats m 0 c).arrAt_eq_of_covers 2 _ (by decide +kernel) fun t hf y => ?_
  have h15 := (flush0_2 t).mp hf
  have hl : (outsAt0 m c t.val t.isLt).1 = (outsAt0 m c t.val t.isLt).2 := by
    rw [outsAt0_C m c t (by omega) (by omega) h15]
    dsimp only
    frame_out
  blk_simp
  rw [after0_2, hl]
  pointwise [grad]
  refine Accum.rows_at_flush (P := 16) (K := 1024) (φ := .bf16) (ψ := .bf16) (fun n h => (outsAt0 m c n h).2) (iblk m c 0) (iblk m c 1)
    (ah m c) (ag m c) (fun t h j => ?_) (fun t h j => ?_) t h15 rfl _ _ _ (fun s k hk => ?_) (fun s k hk => ?_)
  · rw [outsAt0_A m c t h (by omega) (by omega)]; frame_out; exact hpay2 _ _ _
  · by_cases h' : t.val % 16 = 15
    · rw [outsAt0_C m c t h (by omega) h']; frame_out; rw [hpay3, read_unread_whole]
    · rw [outsAt0_B m c t h (by omega) h']; frame_out; rw [hpay3, read_unread_whole]
  all_goals blk_point [iblk, V, idx t, idx ⟨_, Pipeline.run_point_lt_of_flush t h15 s⟩]

end Cert.DwCqIdeal.Val

namespace Cert.DwCkvIdeal.Val
open Cert.DwCkvIdeal Cert.DwCkvIdeal.Gen

variable (m : (ℓ : Loc nD τ sig) → Buf (Elt Ideal) ℓ) (c : Dev nD)

abbrev ah : FVec Ideal S16384x1024 .f32 := m ((c.tc : Thread nD τ).loc main_arg0)
abbrev ag : FVec Ideal S16384x256 .f32 := m ((c.tc : Thread nD τ).loc main_arg1)

/-- The reference's gradient of the weights of the keys and values: the product over the tokens, transposed. -/
abbrev grad : FVec Ideal S1024x256 .f32 :=
  transpose S1024x256 [1, 0] (Host.dotGeneral Cert.DwCkvRefIdeal.dot_S16384x256_S16384x1024_S256x1024_0_0_1_1_n_n none (ag m c) (ah m c))
    Cert.DwCkvRefIdeal.Gen.facts.transposes_S256x1024_S1024x256_1_0

theorem idx : ∀ t : Fin cfg0.N, win0_0.index t = ![t.val % 16, t.val / 16] ∧ win0_1.index t = ![t.val % 16, 0] ∧ win0_2.index t = ![t.val / 16, 0] :=
  (by decide +kernel : ∀ t : Fin grid0.N, _)

theorem hpay2 (x : FVec Ideal S1024x512 .bf16) (g : FVec Ideal S1024x256 .bf16) (j : S512x256.Idx) : k0_pay2 x g j = Accum.rows x g j := by
  pointwise [k0_pay2, k0_pay1, Accum.rows]
theorem hpay3 (x : FVec Ideal S1024x512 .bf16) (g : FVec Ideal S1024x256 .bf16) (v : FVec Ideal S512x256 .f32) (j : S512x256.Idx) :
    k0_pay3 x g v j = v j + Accum.rows x g j := by
  pointwise [k0_pay3, k0_pay1, Accum.rows]

theorem final2 : (dats m 0 c).arrAt 2 cfg0.N = grad m c := by
  refine (dats m 0 c).arrAt_eq_of_covers 2 _ (by decide +kernel) fun t hf y => ?_
  have h15 := (flush0_2 t).mp hf
  have hl : (outsAt0 m c t.val t.isLt).1 = (outsAt0 m c t.val t.isLt).2 := by
    rw [outsAt0_C m c t (by omega) (by omega) h15]
    dsimp only
    frame_out
  blk_simp
  rw [after0_2, hl]
  pointwise [grad]
  refine Accum.rows_at_flush (P := 16) (K := 1024) (φ := .bf16) (ψ := .bf16) (fun n h => (outsAt0 m c n h).2) (iblk m c 0) (iblk m c 1)
    (ah m c) (ag m c) (fun t h j => ?_) (fun t h j => ?_) t h15 rfl _ _ _ (fun s k hk => ?_) (fun s k hk => ?_)
  · rw [outsAt0_A m c t h (by omega) (by omega)]; frame_out; exact hpay2 _ _ _
  · by_cases h' : t.val % 16 = 15
    · rw [outsAt0_C m c t h (by omega) h']; frame_out; rw [hpay3, read_unread_whole]
    · rw [outsAt0_B m c t h (by omega) h']; frame_out; rw [hpay3, read_unread_whole]
  all_goals blk_point [iblk, V, idx t, idx ⟨_, Pipeline.run_point_lt_of_flush t h15 s⟩]

end Cert.DwCkvIdeal.Val
end
-- ==== Proof.Memory.lean ====
module
public import proofs.«01_k».proof.Proof.Accum
public import proofs.«01_k».proof.Proof.Gen.XkvIdeal.Value
public import proofs.«01_k».proof.Proof.Gen.XkvRefIdeal.Run
public import proofs.«01_k».proof.Proof.Gen.DmemnIdeal.Value
public import proofs.«01_k».proof.Proof.Gen.DmemnRefIdeal.Run
public import proofs.«01_k».proof.Proof.Gen.DwkvIdeal.Value
public import proofs.«01_k».proof.Proof.Gen.DwkvRefIdeal.Run
@[expose] public section
set_option maxRecDepth 16384
noncomputable section
open Idealize.ShloMosaic Idealize.ShloMosaic.TcCoe Idealize.SL.Sem
open Idealize.ShloMosaic.Pipeline (Dat)

/-! The memory's keys and values: the product with their weights, and its gradients. -/

namespace Cert.XkvIdeal.Val
open Cert.XkvIdeal Cert.XkvIdeal.Gen

variable (m : (ℓ : Loc nD τ sig) → Buf (Elt Ideal) ℓ) (c : Dev nD)

/-- The reference's product, in the short format. -/
abbrev prod (H : FVec Ideal S256x1024 .f32) (W : FVec Ideal S1024x2048 .f32) : FVec Ideal S256x2048 .bf16 :=
  truncf .bf16 (Host.dotGeneral Cert.XkvRefIdeal.dot_S256x1024_S1024x2048_S256x2048_1_0_0_1_n_n none H W) Cert.XkvRefIdeal.Gen.facts.bitsLt_bf16_f32

theorem idx : ∀ t : Fin cfg0.N, win0_0.index t = ![0, 0] ∧ win0_1.index t = ![0, t.val] ∧ win0_2.index t = ![0, t.val] :=
  (by decide +kernel : ∀ t : Fin grid0.N, _)

theorem final2 : (dats m 0 c).arrAt 2 cfg0.N = prod (m ((c.tc : Thread nD τ).loc main_arg0)) (m ((c.tc : Thread nD τ).loc main_arg1)) := by
  refine (dats m 0 c).arrAt_eq_of_covers 2 _ (by decide +kernel) fun t _ y => ?_
  blk_simp
  rw [after0_2]; unfold outsAt0; frame_out
  pointwise [k0_pay4, k0_pay2, k0_pay1, prod]
  blk_point [iblk, V, idx t]

end Cert.XkvIdeal.Val

namespace Cert.DmemnIdeal.Val
open Cert.DmemnIdeal Cert.DmemnIdeal.Gen

variable (m : (ℓ : Loc nD τ sig) → Buf (Elt Ideal) ℓ) (c : Dev nD)

/-- The reference's gradient of the normed memory. -/
abbrev back (D : FVec Ideal S256x2048 .f32) (W : FVec Ideal S1024x2048 .f32) : FVec Ideal S256x1024 .f32 :=
  Host.dotGeneral Cert.DmemnRefIdeal.dot_S256x2048_S1024x2048_S256x1024_1_1_0_0_n_n none D W

theorem idx : ∀ t : Fin cfg0.N, win0_0.index t = ![0, 0] ∧ win0_1.index t = ![0, 0] ∧ win0_2.index t = ![0, 0] :=
  (by decide +kernel : ∀ t : Fin grid0.N, _)

theorem final2 : (dats m 0 c).arrAt 2 cfg0.N = back (m ((c.tc : Thread nD τ).loc main_arg0)) (m ((c.tc : Thread nD τ).loc main_arg1)) := by
  refine (dats m 0 c).arrAt_eq_of_covers 2 _ (by decide +kernel) fun t _ y => ?_
  blk_simp
  rw [after0_2]; unfold outsAt0; frame_out
  pointwise [k0_pay2, k0_pay1, back]
  blk_point [iblk, V, idx t]

end Cert.DmemnIdeal.Val

namespace Cert.DwkvIdeal.Val
open Cert.DwkvIdeal Cert.DwkvIdeal.Gen

variable (m : (ℓ : Loc nD τ sig) → Buf (Elt Ideal) ℓ) (c : Dev nD)

/-- The reference's gradient of the weights: the product over the memory's rows, transposed. -/
abbrev grad (H : FVec Ideal S256x1024 .f32) (D : FVec Ideal S256x2048 .f32) : FVec Ideal S1024x2048 .f32 :=
  transpose S1024x2048 [1, 0] (Host.dotGeneral Cert.DwkvRefIdeal.dot_S256x2048_S256x1024_S2048x1024_0_0_1_1_n_n none D H)
    Cert.DwkvRefIdeal.Gen.facts.transposes_S2048x1024_S1024x2048_1_0

theorem idx : ∀ t : Fin cfg0.N, win0_0.index t = ![0, t.val / 2] ∧ win0_1.index t = ![0, t.val % 2] ∧ win0_2.index t = ![t.val / 2, t.val % 2] :=
  (by decide +kernel : ∀ t : Fin grid0.N, _)

theorem final2 : (dats m 0 c).arrAt 2 cfg0.N = grad (m ((c.tc : Thread nD τ).loc main_arg0)) (m ((c.tc : Thread nD τ).loc main_arg1)) := by
  refine (dats m 0 c).arrAt_eq_of_covers 2 _ (by decide +kernel) fun t _ y => ?_
  blk_simp
  rw [after0_2]; unfold outsAt0; frame_out
  pointwise [k0_pay2, k0_pay1, grad]
  refine Finset.sum_congr (M := EReal) rfl fun k _ => (mul_comm (G := EReal) _ _).trans ?_
  blk_point [iblk, V, idx t]

end Cert.DwkvIdeal.Val
end
-- ==== Proof.LatentClaim.lean ====
module
public import proofs.«01_k».proof.Defs
public import proofs.«01_k».proof.Proof.Latent
public import proofs.«01_k».proof.Proof.Memory
public import proofs.«01_k».proof.Proof.Gen.Xkv.Frame
public import proofs.«01_k».proof.Proof.Gen.XkvIdeal.Frame
public import proofs.«01_k».proof.Proof.Gen.Dmemn.Frame
public import proofs.«01_k».proof.Proof.Gen.DmemnIdeal.Frame
public import proofs.«01_k».proof.Proof.Gen.Dwkv.Frame
public import proofs.«01_k».proof.Proof.Gen.DwkvIdeal.Frame
public import proofs.«01_k».proof.Proof.Gen.InA.Frame
public import proofs.«01_k».proof.Proof.Gen.InAIdeal.Frame
public import proofs.«01_k».proof.Proof.Gen.Ukv.Frame
public import proofs.«01_k».proof.Proof.Gen.UkvIdeal.Frame
public import proofs.«01_k».proof.Proof.Gen.DhCq.Frame
public import proofs.«01_k».proof.Proof.Gen.DhCqIdeal.Frame
public import proofs.«01_k».proof.Proof.Gen.DhCkv.Frame
public import proofs.«01_k».proof.Proof.Gen.DhCkvIdeal.Frame
public import proofs.«01_k».proof.Proof.Gen.DwCq.Frame
public import proofs.«01_k».proof.Proof.Gen.DwCqIdeal.Frame
public import proofs.«01_k».proof.Proof.Gen.DwCkv.Frame
public import proofs.«01_k».proof.Proof.Gen.DwCkvIdeal.Frame
@[expose] public section
noncomputable section
open Idealize.ShloMosaic Idealize.ShloMosaic.TcCoe Idealize.SL.Sem

/-! The claims of the memory's keys and values and of the latent attention's projections. -/

namespace Cert.XkvClaims
open Cert.XkvIdeal.Val

theorem frame_p : Cert.quiescent_Xkv := fun m ρ _ => Cert.Xkv.Gen.frame m ρ
theorem frame_pi : Cert.quiescent_XkvIdeal := fun m ρ _ => Cert.XkvIdeal.Gen.frame m ρ
theorem frame_ri : Cert.quiescent_XkvRefIdeal := fun m ρ _ => Accum.frame_of_run (Cert.XkvRefIdeal.Value.run (F := Ideal) m ρ)
theorem preserves : Cert.preserves_Xkv_XkvIdeal := trivial
theorem algebraic : Cert.algebraic_XkvIdeal_XkvRefIdeal := fun m ρ m' ρ' _ hagree =>
  ⟨_, Cert.XkvIdeal.Value.run_blocks (F := Ideal) m ρ, Accum.run_congr (Cert.XkvRefIdeal.Value.run (F := Ideal) m' ρ') fun c _ e => by
    rw [(hagree c).1, (hagree c).2] at e
    exact e.trans (final2 m c).symm⟩

end Cert.XkvClaims

namespace Cert.DmemnClaims
open Cert.DmemnIdeal.Val

theorem frame_p : Cert.quiescent_Dmemn := fun m ρ _ => Cert.Dmemn.Gen.frame m ρ
theorem frame_pi : Cert.quiescent_DmemnIdeal := fun m ρ _ => Cert.DmemnIdeal.Gen.frame m ρ
theorem frame_ri : Cert.quiescent_DmemnRefIdeal := fun m ρ _ => Accum.frame_of_run (Cert.DmemnRefIdeal.Value.run (F := Ideal) m ρ)
theorem preserves : Cert.preserves_Dmemn_DmemnIdeal := trivial
theorem algebraic : Cert.algebraic_DmemnIdeal_DmemnRefIdeal := fun m ρ m' ρ' _ hagree =>
  ⟨_, Cert.DmemnIdeal.Value.run_blocks (F := Ideal) m ρ, Accum.run_congr (Cert.DmemnRefIdeal.Value.run (F := Ideal) m' ρ') fun c _ e => by
    rw [(hagree c).1, (hagree c).2] at e
    exact e.trans (final2 m c).symm⟩

end Cert.DmemnClaims

namespace Cert.DwkvClaims
open Cert.DwkvIdeal.Val

theorem frame_p : Cert.quiescent_Dwkv := fun m ρ _ => Cert.Dwkv.Gen.frame m ρ
theorem frame_pi : Cert.quiescent_DwkvIdeal := fun m ρ _ => Cert.DwkvIdeal.Gen.frame m ρ
theorem frame_ri : Cert.quiescent_DwkvRefIdeal := fun m ρ _ => Accum.frame_of_run (Cert.DwkvRefIdeal.Value.run (F := Ideal) m ρ)
theorem preserves : Cert.preserves_Dwkv_DwkvIdeal := trivial
theorem algebraic : Cert.algebraic_DwkvIdeal_DwkvRefIdeal := fun m ρ m' ρ' _ hagree =>
  ⟨_, Cert.DwkvIdeal.Value.run_blocks (F := Ideal) m ρ, Accum.run_congr (Cert.DwkvRefIdeal.Value.run (F := Ideal) m' ρ') fun c _ e => by
    rw [(hagree c).1, (hagree c).2] at e
    exact e.trans (final2 m c).symm⟩

end Cert.DwkvClaims

namespace Cert.InAClaims
open Cert.InAIdeal.Val

theorem frame_p : Cert.quiescent_InA := fun m ρ _ => Cert.InA.Gen.frame m ρ
theorem frame_pi : Cert.quiescent_InAIdeal := fun m ρ _ => Cert.InAIdeal.Gen.frame m ρ
theorem frame_ri : Cert.quiescent_InARefIdeal := fun m ρ _ => Accum.frame_of_run (Cert.InARefIdeal.Value.run (F := Ideal) m ρ)
theorem preserves : Cert.preserves_InA_InAIdeal := trivial
theorem algebraic : Cert.algebraic_InAIdeal_InARefIdeal := fun m ρ m' ρ' _ hagree =>
  ⟨_, Cert.InAIdeal.Value.run_blocks (F := Ideal) m ρ, Accum.run_congr (Cert.InARefIdeal.Value.run (F := Ideal) m' ρ') fun c _ e => by
    rw [(hagree c).1, (hagree c).2] at e
    exact e.trans (final2 m c).symm⟩

end Cert.InAClaims

namespace Cert.UkvClaims
open Cert.UkvIdeal.Val

theorem frame_p : Cert.quiescent_Ukv := fun m ρ _ => Cert.Ukv.Gen.frame m ρ
theorem frame_pi : Cert.quiescent_UkvIdeal := fun m ρ _ => Cert.UkvIdeal.Gen.frame m ρ
theorem frame_ri : Cert.quiescent_UkvRefIdeal := fun m ρ _ => Accum.frame_of_run (Cert.UkvRefIdeal.Value.run (F := Ideal) m ρ)
theorem preserves : Cert.preserves_Ukv_UkvIdeal := trivial
theorem algebraic : Cert.algebraic_UkvIdeal_UkvRefIdeal := fun m ρ m' ρ' _ hagree =>
  ⟨_, Cert.UkvIdeal.Value.run_blocks (F := Ideal) m ρ, Accum.run_congr (Cert.UkvRefIdeal.Value.run (F := Ideal) m' ρ') fun c _ e => by
    rw [(hagree c).1, (hagree c).2] at e
    exact e.trans (final2 m c).symm⟩

end Cert.UkvClaims

namespace Cert.DhCqClaims
open Cert.DhCqIdeal.Val

theorem frame_p : Cert.quiescent_DhCq := fun m ρ _ => Cert.DhCq.Gen.frame m ρ
theorem frame_pi : Cert.quiescent_DhCqIdeal := fun m ρ _ => Cert.DhCqIdeal.Gen.frame m ρ
theorem frame_ri : Cert.quiescent_DhCqRefIdeal := fun m ρ _ => Accum.frame_of_run (Cert.DhCqRefIdeal.Value.run (F := Ideal) m ρ)
theorem preserves : Cert.preserves_DhCq_DhCqIdeal := trivial
theorem algebraic : Cert.algebraic_DhCqIdeal_DhCqRefIdeal := fun m ρ m' ρ' _ hagree =>
  ⟨_, Cert.DhCqIdeal.Value.run_blocks (F := Ideal) m ρ, Accum.run_congr (Cert.DhCqRefIdeal.Value.run (F := Ideal) m' ρ') fun c _ e => by
    obtain ⟨a0, a1, a2⟩ := hagree c
    rw [a0, a1, a2] at e
    exact e.trans (final3 m c).symm⟩

end Cert.DhCqClaims

namespace Cert.DhCkvClaims
open Cert.DhCkvIdeal.Val

theorem frame_p : Cert.quiescent_DhCkv := fun m ρ _ => Cert.DhCkv.Gen.frame m ρ
theorem frame_pi : Cert.quiescent_DhCkvIdeal := fun m ρ _ => Cert.DhCkvIdeal.Gen.frame m ρ
theorem frame_ri : Cert.quiescent_DhCkvRefIdeal := fun m ρ _ => Accum.frame_of_run (Cert.DhCkvRefIdeal.Value.run (F := Ideal) m ρ)
theorem preserves : Cert.preserves_DhCkv_DhCkvIdeal := trivial
theorem algebraic : Cert.algebraic_DhCkvIdeal_DhCkvRefIdeal := fun m ρ m' ρ' _ hagree =>
  ⟨_, Cert.DhCkvIdeal.Value.run_blocks (F := Ideal) m ρ, Accum.run_congr (Cert.DhCkvRefIdeal.Value.run (F := Ideal) m' ρ') fun c _ e => by
    obtain ⟨a0, a1, a2⟩ := hagree c
    rw [a0, a1, a2] at e
    exact e.trans (final3 m c).symm⟩

end Cert.DhCkvClaims

namespace Cert.DwCqClaims
open Cert.DwCqIdeal.Val

theorem frame_p : Cert.quiescent_DwCq := fun m ρ _ => Cert.DwCq.Gen.frame m ρ
theorem frame_pi : Cert.quiescent_DwCqIdeal := fun m ρ _ => Cert.DwCqIdeal.Gen.frame m ρ
theorem frame_ri : Cert.quiescent_DwCqRefIdeal := fun m ρ _ => Accum.frame_of_run (Cert.DwCqRefIdeal.Value.run (F := Ideal) m ρ)
theorem preserves : Cert.preserves_DwCq_DwCqIdeal := trivial
theorem algebraic : Cert.algebraic_DwCqIdeal_DwCqRefIdeal := fun m ρ m' ρ' _ hagree =>
  ⟨_, Cert.DwCqIdeal.Value.run_blocks (F := Ideal) m ρ, Accum.run_congr (Cert.DwCqRefIdeal.Value.run (F := Ideal) m' ρ') fun c _ e => by
    rw [(hagree c).1, (hagree c).2] at e
    exact e.trans (final2 m c).symm⟩

end Cert.DwCqClaims

namespace Cert.DwCkvClaims
open Cert.DwCkvIdeal.Val

theorem frame_p : Cert.quiescent_DwCkv := fun m ρ _ => Cert.DwCkv.Gen.frame m ρ
theorem frame_pi : Cert.quiescent_DwCkvIdeal := fun m ρ _ => Cert.DwCkvIdeal.Gen.frame m ρ
theorem frame_ri : Cert.quiescent_DwCkvRefIdeal := fun m ρ _ => Accum.frame_of_run (Cert.DwCkvRefIdeal.Value.run (F := Ideal) m ρ)
theorem preserves : Cert.preserves_DwCkv_DwCkvIdeal := trivial
theorem algebraic : Cert.algebraic_DwCkvIdeal_DwCkvRefIdeal := fun m ρ m' ρ' _ hagree =>
  ⟨_, Cert.DwCkvIdeal.Value.run_blocks (F := Ideal) m ρ, Accum.run_congr (Cert.DwCkvRefIdeal.Value.run (F := Ideal) m' ρ') fun c _ e => by
    rw [(hagree c).1, (hagree c).2] at e
    exact e.trans (final2 m c).symm⟩

end Cert.DwCkvClaims
end
-- ==== Proof.LatentBack.lean ====
module
public import proofs.«01_k».proof.Proof.Accum
public import proofs.«01_k».proof.Proof.Gen.DcqnIdeal.Value
public import proofs.«01_k».proof.Proof.Gen.DcqnRefIdeal.Run
public import proofs.«01_k».proof.Proof.Gen.Dwq2Ideal.Value
public import proofs.«01_k».proof.Proof.Gen.Dwq2RefIdeal.Run
public import proofs.«01_k».proof.Proof.Gen.DckvnKIdeal.Value
public import proofs.«01_k».proof.Proof.Gen.DckvnKRefIdeal.Run
public import proofs.«01_k».proof.Proof.Gen.DckvnVIdeal.Value
public import proofs.«01_k».proof.Proof.Gen.DckvnVRefIdeal.Run
public import proofs.«01_k».proof.Proof.Gen.DhKrIdeal.Value
public import proofs.«01_k».proof.Proof.Gen.DhKrRefIdeal.Run
public import proofs.«01_k».proof.Proof.Gen.DwknIdeal.Value
public import proofs.«01_k».proof.Proof.Gen.DwknRefIdeal.Run
public import proofs.«01_k».proof.Proof.Gen.DwvIdeal.Value
public import proofs.«01_k».proof.Proof.Gen.DwvRefIdeal.Run
public import proofs.«01_k».proof.Proof.Gen.DwKrIdeal.Value
public import proofs.«01_k».proof.Proof.Gen.DwKrRefIdeal.Run
@[expose] public section
set_option maxRecDepth 16384
noncomputable section
open Idealize.ShloMosaic Idealize.ShloMosaic.TcCoe Idealize.SL.Sem
open Idealize.ShloMosaic.Pipeline (Dat)

/-! The latent attention's up-projections and its rotary columns, backward. The attention's gradients of keys and values come transposed. -/

namespace Cert.Accum

/-- The product of two blocks, the first by its columns and the second by its rows, at one element. -/
def mid {K a b : ℕ} {φ ψ : FTy} (x : Mat a K φ) (g : Mat K b ψ) (j : (⟨2, ![a, b]⟩ : Shape).Idx) : Ideal .f32 :=
  ∑ k : Fin K, x (ix2 (j 0) k) * g (ix2 k (j 1))

/-- A product accumulated over the columns of its first array: at a run's last point, the product over all of them. -/
theorem mid_at_flush {N P K L a b A B : ℕ} [NeZero P] {φ ψ : FTy} (f : (n : ℕ) → n < N → (⟨2, ![a, b]⟩ : Shape).Idx → EReal)
    (x : Fin N → Mat a K φ) (g : Fin N → Mat K b ψ) (X : Mat A L .f32) (G : Mat L B .f32)
    (h0 : ∀ t : Fin N, t.val % P = 0 → ∀ j, f t.val t.isLt j = mid (x t) (g t) j)
    (hs : ∀ t : Fin N, ¬t.val % P = 0 → ∀ j,
      f t.val t.isLt j = f (t.val - 1) (Nat.lt_of_le_of_lt (Nat.sub_le _ _) t.isLt) j + (mid (x t) (g t) j : EReal))
    (t : Fin N) (hr : t.val % P = P - 1) (hL : L = P * K) (j : (⟨2, ![a, b]⟩ : Shape).Idx) (p : Fin A) (q : Fin B)
    (hx : ∀ (s : Fin P) (k : Fin K) (hl : s.val * K + k.val < L),
      x ⟨P * (t.val / P) + s.val, Pipeline.run_point_lt_of_flush t hr s⟩ (ix2 (j 0) k) = X (ix2 p ⟨s.val * K + k.val, hl⟩))
    (hg : ∀ (s : Fin P) (k : Fin K) (hl : s.val * K + k.val < L),
      g ⟨P * (t.val / P) + s.val, Pipeline.run_point_lt_of_flush t hr s⟩ (ix2 k (j 1)) = G (ix2 ⟨s.val * K + k.val, hl⟩ q)) :
    f t.val t.isLt j = ∑ l : Fin L, X (ix2 p l) * G (ix2 l q) :=
  at_flush f _ h0 hs t hr hL j _ fun s => ⟨_, rfl, fun k hl => congrArg₂ (fun u v : EReal => u * v) (hx s k hl) (hg s k hl)⟩

end Cert.Accum

namespace Cert.DcqnIdeal.Val
open Cert.DcqnIdeal Cert.DcqnIdeal.Gen

variable (m : (ℓ : Loc nD τ sig) → Buf (Elt Ideal) ℓ) (c : Dev nD)

/-- The reference's gradient of the normed low-rank queries. -/
abbrev back (D : FVec Ideal S16384x2048 .f32) (W : FVec Ideal S384x2048 .f32) : FVec Ideal S16384x384 .f32 :=
  Host.dotGeneral Cert.DcqnRefIdeal.dot_S16384x2048_S384x2048_S16384x384_1_1_0_0_n_n none D W

theorem idx : ∀ t : Fin cfg0.N, win0_0.index t = ![t.val, 0] ∧ win0_1.index t = ![0, 0] ∧ win0_2.index t = ![t.val, 0] :=
  (by decide +kernel : ∀ t : Fin grid0.N, _)

theorem final2 : (dats m 0 c).arrAt 2 cfg0.N
    = back (m ((c.tc : Thread nD τ).loc main_arg0)) (m ((c.tc : Thread nD τ).loc main_arg1)) := by
  refine (dats m 0 c).arrAt_eq_of_covers 2 _ (by decide +kernel) fun t _ y => ?_
  blk_simp
  rw [after0_2]; unfold outsAt0; frame_out
  pointwise [k0_pay2, k0_pay1, back]
  blk_point [iblk, V, idx t]

end Cert.DcqnIdeal.Val

namespace Cert.DckvnKIdeal.Val
open Cert.DckvnKIdeal Cert.DckvnKIdeal.Gen

variable (m : (ℓ : Loc nD τ sig) → Buf (Elt Ideal) ℓ) (c : Dev nD)

/-- The reference's gradient of the normed low-rank keys and values, from the keys. -/
abbrev back (D : FVec Ideal S512x16384 .f32) (W : FVec Ideal S256x512 .f32) : FVec Ideal S16384x256 .f32 :=
  Host.dotGeneral Cert.DckvnKRefIdeal.dot_S16384x512_S256x512_S16384x256_1_1_0_0_n_n none
    (transpose Cert.DckvnKRefIdeal.S16384x512 [1, 0] D Cert.DckvnKRefIdeal.Gen.facts.transposes_S512x16384_S16384x512_1_0) W

theorem idx : ∀ t : Fin cfg0.N, win0_0.index t = ![0, t.val] ∧ win0_1.index t = ![0, 0] ∧ win0_2.index t = ![t.val, 0] :=
  (by decide +kernel : ∀ t : Fin grid0.N, _)

theorem final2 : (dats m 0 c).arrAt 2 cfg0.N
    = back (m ((c.tc : Thread nD τ).loc main_arg0)) (m ((c.tc : Thread nD τ).loc main_arg1)) := by
  refine (dats m 0 c).arrAt_eq_of_covers 2 _ (by decide +kernel) fun t _ y => ?_
  blk_simp
  rw [after0_2]; unfold outsAt0; frame_out
  pointwise [k0_pay2, k0_pay1, back]
  blk_point [iblk, V, idx t]

end Cert.DckvnKIdeal.Val

namespace Cert.DckvnVIdeal.Val
open Cert.DckvnVIdeal Cert.DckvnVIdeal.Gen

variable (m : (ℓ : Loc nD τ sig) → Buf (Elt Ideal) ℓ) (c : Dev nD)

/-- The reference's gradient of the normed low-rank keys and values: what the keys left, plus the values' part. -/
abbrev back (D : FVec Ideal S512x16384 .f32) (W : FVec Ideal S256x512 .f32) (X : FVec Ideal S16384x256 .f32) : FVec Ideal S16384x256 .f32 :=
  addf X (Host.dotGeneral Cert.DckvnVRefIdeal.dot_S16384x512_S256x512_S16384x256_1_1_0_0_n_n none
    (transpose Cert.DckvnVRefIdeal.S16384x512 [1, 0] D Cert.DckvnVRefIdeal.Gen.facts.transposes_S512x16384_S16384x512_1_0) W)

theorem idx : ∀ t : Fin cfg0.N, win0_0.index t = ![0, t.val] ∧ win0_1.index t = ![0, 0] ∧ win0_2.index t = ![t.val, 0] ∧ win0_3.index t = ![t.val, 0] :=
  (by decide +kernel : ∀ t : Fin grid0.N, _)

theorem final3 : (dats m 0 c).arrAt 3 cfg0.N
    = back (m ((c.tc : Thread nD τ).loc main_arg0)) (m ((c.tc : Thread nD τ).loc main_arg1)) (m ((c.tc : Thread nD τ).loc main_arg2)) := by
  refine (dats m 0 c).arrAt_eq_of_covers 3 _ (by decide +kernel) fun t _ y => ?_
  blk_simp
  rw [after0_3]; unfold outsAt0; frame_out
  pointwise [k0_pay4, k0_pay2, k0_pay1, back]
  rw [add_comm]
  blk_point [iblk, V, idx t]

end Cert.DckvnVIdeal.Val

namespace Cert.DhKrIdeal.Val
open Cert.DhKrIdeal Cert.DhKrIdeal.Gen

variable (m : (ℓ : Loc nD τ sig) → Buf (Elt Ideal) ℓ) (c : Dev nD)

/-- The reference's part of the gradient of the layer's input that comes from the rotary keys. -/
abbrev back (D : FVec Ideal S128x16384 .f32) (W : FVec Ideal S1024x128 .f32) : FVec Ideal S16384x1024 .f32 :=
  Host.dotGeneral Cert.DhKrRefIdeal.dot_S16384x128_S1024x128_S16384x1024_1_1_0_0_n_n none
    (transpose Cert.DhKrRefIdeal.S16384x128 [1, 0] D Cert.DhKrRefIdeal.Gen.facts.transposes_S128x16384_S16384x128_1_0) W

theorem idx : ∀ t : Fin cfg0.N, win0_0.index t = ![0, t.val] ∧ win0_1.index t = ![0, 0] ∧ win0_2.index t = ![t.val, 0] :=
  (by decide +kernel : ∀ t : Fin grid0.N, _)

theorem final2 : (dats m 0 c).arrAt 2 cfg0.N
    = back (m ((c.tc : Thread nD τ).loc main_arg0)) (m ((c.tc : Thread nD τ).loc main_arg1)) := by
  refine (dats m 0 c).arrAt_eq_of_covers 2 _ (by decide +kernel) fun t _ y => ?_
  blk_simp
  rw [after0_2]; unfold outsAt0; frame_out
  pointwise [k0_pay2, k0_pay1, back]
  blk_point [iblk, V, idx t]

end Cert.DhKrIdeal.Val

namespace Cert.Dwq2Ideal.Val
open Cert.Dwq2Ideal Cert.Dwq2Ideal.Gen

variable (m : (ℓ : Loc nD τ sig) → Buf (Elt Ideal) ℓ) (c : Dev nD)

abbrev ax : FVec Ideal S16384x384 .f32 := m ((c.tc : Thread nD τ).loc main_arg0)
abbrev ag : FVec Ideal S16384x2048 .f32 := m ((c.tc : Thread nD τ).loc main_arg1)

/-- The reference's gradient of the weights of the queries' up-projection: the product over the tokens, transposed. -/
abbrev grad : FVec Ideal S384x2048 .f32 :=
  transpose S384x2048 [1, 0] (Host.dotGeneral Cert.Dwq2RefIdeal.dot_S16384x2048_S16384x384_S2048x384_0_0_1_1_n_n none (ag m c) (ax m c))
    Cert.Dwq2RefIdeal.Gen.facts.transposes_S2048x384_S384x2048_1_0

theorem idx : ∀ t : Fin cfg0.N, win0_0.index t = ![t.val % 16, 0] ∧ win0_1.index t = ![t.val % 16, t.val / 16] ∧ win0_2.index t = ![0, t.val / 16] :=
  (by decide +kernel : ∀ t : Fin grid0.N, _)

theorem hpay2 (x : FVec Ideal S1024x384 .bf16) (g : FVec Ideal S1024x1024 .bf16) (j : S384x1024.Idx) : k0_pay2 x g j = Accum.rows x g j := by
  pointwise [k0_pay2, k0_pay1, Accum.rows]
theorem hpay3 (x : FVec Ideal S1024x384 .bf16) (g : FVec Ideal S1024x1024 .bf16) (v : FVec Ideal S384x1024 .f32) (j : S384x1024.Idx) :
    k0_pay3 x g v j = v j + Accum.rows x g j := by
  pointwise [k0_pay3, k0_pay1, Accum.rows]

theorem final2 : (dats m 0 c).arrAt 2 cfg0.N = grad m c := by
  refine (dats m 0 c).arrAt_eq_of_covers 2 _ (by decide +kernel) fun t hf y => ?_
  have h15 := (flush0_2 t).mp hf
  have hl : (outsAt0 m c t.val t.isLt).1 = (outsAt0 m c t.val t.isLt).2 := by
    rw [outsAt0_C m c t (by omega) (by omega) h15]
    dsimp only
    frame_out
  blk_simp
  rw [after0_2, hl]
  pointwise [grad]
  refine Accum.rows_at_flush (P := 16) (K := 1024) (φ := .bf16) (ψ := .bf16) (fun n h => (outsAt0 m c n h).2) (iblk m c 0) (iblk m c 1)
    (ax m c) (ag m c) (fun t h j => ?_) (fun t h j => ?_) t h15 rfl _ _ _ (fun s k hk => ?_) (fun s k hk => ?_)
  · rw [outsAt0_A m c t h (by omega) (by omega)]; frame_out; exact hpay2 _ _ _
  · by_cases h' : t.val % 16 = 15
    · rw [outsAt0_C m c t h (by omega) h']; frame_out; rw [hpay3, read_unread_whole]
    · rw [outsAt0_B m c t h (by omega) h']; frame_out; rw [hpay3, read_unread_whole]
  all_goals blk_point [iblk, V, idx t, idx ⟨_, Pipeline.run_point_lt_of_flush t h15 s⟩]

end Cert.Dwq2Ideal.Val

namespace Cert.DwknIdeal.Val
open Cert.DwknIdeal Cert.DwknIdeal.Gen

variable (m : (ℓ : Loc nD τ sig) → Buf (Elt Ideal) ℓ) (c : Dev nD)

abbrev ax : FVec Ideal S512x16384 .f32 := m ((c.tc : Thread nD τ).loc main_arg0)
abbrev ag : FVec Ideal S16384x256 .f32 := m ((c.tc : Thread nD τ).loc main_arg1)

/-- The reference's gradient of the weights of the keys' up-projection, transposed. -/
abbrev grad : FVec Ideal S512x256 .f32 :=
  transpose S512x256 [1, 0] (transpose Cert.DwknRefIdeal.S256x512 [1, 0]
    (Host.dotGeneral Cert.DwknRefIdeal.dot_S16384x512_S16384x256_S512x256_0_0_1_1_n_n none
      (transpose Cert.DwknRefIdeal.S16384x512 [1, 0] (ax m c) Cert.DwknRefIdeal.Gen.facts.transposes_S512x16384_S16384x512_1_0) (ag m c))
    Cert.DwknRefIdeal.Gen.facts.transposes_S512x256_S256x512_1_0) Cert.DwknRefIdeal.Gen.facts.transposes_S256x512_S512x256_1_0

theorem idx : ∀ t : Fin cfg0.N, win0_0.index t = ![0, t.val] ∧ win0_1.index t = ![t.val, 0] ∧ win0_2.index t = ![0, 0] :=
  (by decide +kernel : ∀ t : Fin grid0.N, _)

theorem hpay2 (x : FVec Ideal S512x1024 .bf16) (g : FVec Ideal S1024x256 .bf16) (j : S512x256.Idx) : k0_pay2 x g j = Accum.mid x g j := by
  pointwise [k0_pay2, k0_pay1, Accum.mid]
theorem hpay3 (x : FVec Ideal S512x1024 .bf16) (g : FVec Ideal S1024x256 .bf16) (v : FVec Ideal S512x256 .f32) (j : S512x256.Idx) :
    k0_pay3 x g v j = v j + Accum.mid x g j := by
  pointwise [k0_pay3, k0_pay1, Accum.mid]

theorem final2 : (dats m 0 c).arrAt 2 cfg0.N = grad m c := by
  have hN : ∀ t : Fin cfg0.N, t.val < 16 := fun t => t.isLt
  refine (dats m 0 c).arrAt_eq_of_covers 2 _ (by decide +kernel) fun t hf y => ?_
  have h15 := (flush0_2 t).mp hf
  have hl : (outsAt0 m c t.val t.isLt).1 = (outsAt0 m c t.val t.isLt).2 := by
    rw [outsAt0_C m c t (by omega) (by omega) h15]
    dsimp only
    frame_out
  blk_simp
  rw [after0_2, hl]
  pointwise [grad]
  refine Accum.mid_at_flush (P := 16) (K := 1024) (φ := .bf16) (ψ := .bf16) (fun n h => (outsAt0 m c n h).2) (iblk m c 0) (iblk m c 1)
    (ax m c) (ag m c) (fun t h j => ?_) (fun t h j => ?_) t h15 rfl _ _ _ (fun s k hk => ?_) (fun s k hk => ?_)
  · have := hN t; rw [outsAt0_A m c t h (by omega) (by omega)]; frame_out; exact hpay2 _ _ _
  · by_cases h' : t.val % 16 = 15
    · rw [outsAt0_C m c t h (by omega) h']; frame_out; rw [hpay3, read_unread_whole]
    · rw [outsAt0_B m c t h (by omega) h']; frame_out; rw [hpay3, read_unread_whole]
  all_goals blk_point [iblk, V, idx t, idx ⟨_, Pipeline.run_point_lt_of_flush t h15 s⟩]

end Cert.DwknIdeal.Val

namespace Cert.DwvIdeal.Val
open Cert.DwvIdeal Cert.DwvIdeal.Gen

variable (m : (ℓ : Loc nD τ sig) → Buf (Elt Ideal) ℓ) (c : Dev nD)

abbrev ax : FVec Ideal S512x16384 .f32 := m ((c.tc : Thread nD τ).loc main_arg0)
abbrev ag : FVec Ideal S16384x256 .f32 := m ((c.tc : Thread nD τ).loc main_arg1)

/-- The reference's gradient of the weights of the values' up-projection, transposed. -/
abbrev grad : FVec Ideal S512x256 .f32 :=
  transpose S512x256 [1, 0] (transpose Cert.DwvRefIdeal.S256x512 [1, 0]
    (Host.dotGeneral Cert.DwvRefIdeal.dot_S16384x512_S16384x256_S512x256_0_0_1_1_n_n none
      (transpose Cert.DwvRefIdeal.S16384x512 [1, 0] (ax m c) Cert.DwvRefIdeal.Gen.facts.transposes_S512x16384_S16384x512_1_0) (ag m c))
    Cert.DwvRefIdeal.Gen.facts.transposes_S512x256_S256x512_1_0) Cert.DwvRefIdeal.Gen.facts.transposes_S256x512_S512x256_1_0

theorem idx : ∀ t : Fin cfg0.N, win0_0.index t = ![0, t.val] ∧ win0_1.index t = ![t.val, 0] ∧ win0_2.index t = ![0, 0] :=
  (by decide +kernel : ∀ t : Fin grid0.N, _)

theorem hpay2 (x : FVec Ideal S512x1024 .f32) (g : FVec Ideal S1024x256 .bf16) (j : S512x256.Idx) : k0_pay2 x g j = Accum.mid x g j := by
  pointwise [k0_pay2, k0_pay1, Accum.mid]
theorem hpay3 (x : FVec Ideal S512x1024 .f32) (g : FVec Ideal S1024x256 .bf16) (v : FVec Ideal S512x256 .f32) (j : S512x256.Idx) :
    k0_pay3 x g v j = v j + Accum.mid x g j := by
  pointwise [k0_pay3, k0_pay1, Accum.mid]

theorem final2 : (dats m 0 c).arrAt 2 cfg0.N = grad m c := by
  have hN : ∀ t : Fin cfg0.N, t.val < 16 := fun t => t.isLt
  refine (dats m 0 c).arrAt_eq_of_covers 2 _ (by decide +kernel) fun t hf y => ?_
  have h15 := (flush0_2 t).mp hf
  have hl : (outsAt0 m c t.val t.isLt).1 = (outsAt0 m c t.val t.isLt).2 := by
    rw [outsAt0_C m c t (by omega) (by omega) h15]
    dsimp only
    frame_out
  blk_simp
  rw [after0_2, hl]
  pointwise [grad]
  refine Accum.mid_at_flush (P := 16) (K := 1024) (φ := .f32) (ψ := .bf16) (fun n h => (outsAt0 m c n h).2) (iblk m c 0) (iblk m c 1)
    (ax m c) (ag m c) (fun t h j => ?_) (fun t h j => ?_) t h15 rfl _ _ _ (fun s k hk => ?_) (fun s k hk => ?_)
  · have := hN t; rw [outsAt0_A m c t h (by omega) (by omega)]; frame_out; exact hpay2 _ _ _
  · by_cases h' : t.val % 16 = 15
    · rw [outsAt0_C m c t h (by omega) h']; frame_out; rw [hpay3, read_unread_whole]
    · rw [outsAt0_B m c t h (by omega) h']; frame_out; rw [hpay3, read_unread_whole]
  all_goals blk_point [iblk, V, idx t, idx ⟨_, Pipeline.run_point_lt_of_flush t h15 s⟩]

end Cert.DwvIdeal.Val

namespace Cert.DwKrIdeal.Val
open Cert.DwKrIdeal Cert.DwKrIdeal.Gen

variable (m : (ℓ : Loc nD τ sig) → Buf (Elt Ideal) ℓ) (c : Dev nD)

abbrev ax : FVec Ideal S128x16384 .f32 := m ((c.tc : Thread nD τ).loc main_arg0)
abbrev ag : FVec Ideal S16384x1024 .f32 := m ((c.tc : Thread nD τ).loc main_arg1)

/-- The reference's gradient of the rotary keys' columns of the input projection, transposed. -/
abbrev grad : FVec Ideal S128x1024 .f32 :=
  transpose S128x1024 [1, 0] (transpose Cert.DwKrRefIdeal.S1024x128 [1, 0]
    (Host.dotGeneral Cert.DwKrRefIdeal.dot_S16384x128_S16384x1024_S128x1024_0_0_1_1_n_n none
      (transpose Cert.DwKrRefIdeal.S16384x128 [1, 0] (ax m c) Cert.DwKrRefIdeal.Gen.facts.transposes_S128x16384_S16384x128_1_0) (ag m c))
    Cert.DwKrRefIdeal.Gen.facts.transposes_S128x1024_S1024x128_1_0) Cert.DwKrRefIdeal.Gen.facts.transposes_S1024x128_S128x1024_1_0

theorem idx : ∀ t : Fin cfg0.N, win0_0.index t = ![0, t.val] ∧ win0_1.index t = ![t.val, 0] ∧ win0_2.index t = ![0, 0] :=
  (by decide +kernel : ∀ t : Fin grid0.N, _)

theorem hpay2 (x : FVec Ideal S128x1024 .bf16) (g : FVec Ideal S1024x1024 .bf16) (j : S128x1024.Idx) : k0_pay2 x g j = Accum.mid x g j := by
  pointwise [k0_pay2, k0_pay1, Accum.mid]
theorem hpay3 (x : FVec Ideal S128x1024 .bf16) (g : FVec Ideal S1024x1024 .bf16) (v : FVec Ideal S128x1024 .f32) (j : S128x1024.Idx) :
    k0_pay3 x g v j = v j + Accum.mid x g j := by
  pointwise [k0_pay3, k0_pay1, Accum.mid]

theorem final2 : (dats m 0 c).arrAt 2 cfg0.N = grad m c := by
  have hN : ∀ t : Fin cfg0.N, t.val < 16 := fun t => t.isLt
  refine (dats m 0 c).arrAt_eq_of_covers 2 _ (by decide +kernel) fun t hf y => ?_
  have h15 := (flush0_2 t).mp hf
  have hl : (outsAt0 m c t.val t.isLt).1 = (outsAt0 m c t.val t.isLt).2 := by
    rw [outsAt0_C m c t (by omega) (by omega) h15]
    dsimp only
    frame_out
  blk_simp
  rw [after0_2, hl]
  pointwise [grad]
  refine Accum.mid_at_flush (P := 16) (K := 1024) (φ := .bf16) (ψ := .bf16) (fun n h => (outsAt0 m c n h).2) (iblk m c 0) (iblk m c 1)
    (ax m c) (ag m c) (fun t h j => ?_) (fun t h j => ?_) t h15 rfl _ _ _ (fun s k hk => ?_) (fun s k hk => ?_)
  · have := hN t; rw [outsAt0_A m c t h (by omega) (by omega)]; frame_out; exact hpay2 _ _ _
  · by_cases h' : t.val % 16 = 15
    · rw [outsAt0_C m c t h (by omega) h']; frame_out; rw [hpay3, read_unread_whole]
    · rw [outsAt0_B m c t h (by omega) h']; frame_out; rw [hpay3, read_unread_whole]
  all_goals blk_point [iblk, V, idx t, idx ⟨_, Pipeline.run_point_lt_of_flush t h15 s⟩]

end Cert.DwKrIdeal.Val
end
-- ==== Proof.Delta.lean ====
module
public import proofs.«01_k».proof.Proof.Accum
public import proofs.«01_k».proof.Proof.Gen.DeltaIdeal.Value
public import proofs.«01_k».proof.Proof.Gen.DeltaRefIdeal.Run
@[expose] public section
set_option maxRecDepth 16384
noncomputable section
open Idealize.ShloMosaic Idealize.ShloMosaic.TcCoe Idealize.SL.Sem
open Idealize.ShloMosaic.Pipeline (Dat)

/-! The rows' sums of output times cotangent, head by head; one head stated once. -/

namespace Cert.DeltaIdeal.Val
open Cert.DeltaIdeal Cert.DeltaIdeal.Gen

/-- One head of the kernel: a row's sum over 64 columns. -/
theorem head {o : ℕ} (p : FVec Ideal S512x512 .f32) (h : S512x512.Slices ![0, o] S512x64) (ho : o + 64 ≤ 512) (y : S1x512x1.Idx) :
    shapeCast S1x512x1 (shapeCast S512x1 (multiReduction .add [1] S512 (extractStridedSlice S512x64 ![0, o] p h) 0x00000000#32 reduces_S512x64_S512 (.inl rfl) rfl)
      shapeCasts_S512_S512x1) shapeCasts_S512x1_S1x512x1 y = ∑ d : Fin 64, p (ix2 (y 1) (⟨o + d.val, by omega⟩ : Fin 512)) := by
  pointwise []

/-- Column `d` of head `h`. -/
def col (h : Fin 8) (d : Fin 64) : Fin 512 := ⟨64 * h.val + d.val, by omega⟩

/-- What a block of rows computes, all heads together. -/
def rowsOf (x0 : FVec Ideal S512x512 .f32) (x1 : FVec Ideal S512x512 .bf16) : FVec Ideal S8x512x1 .f32 := fun y =>
  ∑ d : Fin 64, x0 (ix2 (y 1) (col (y 0) d)) * x1 (ix2 (y 1) (col (y 0) d))

/-- A head's place in the result. -/
theorem place (h : Fin 8) (i : ∀ a, (![h.val, 0, 0] : Fin 3 → ℕ) a + S1x512x1.size a ≤ S8x512x1.size a) (y : S1x512x1.Idx) :
    (Rect.unit (s := S8x512x1) ![h.val, 0, 0] S1x512x1.size i).emb y = ix3 h (y 1) (y 2) := by
  have h0 : (y 0).val < 1 := (y 0).isLt
  refine funext fun k => Fin.ext ?_
  match k with
  | ⟨0, _⟩ => show h.val + 1 * (y 0).val = h.val; omega
  | ⟨1, _⟩ => show 0 + 1 * (y 1).val = (y 1).val; omega
  | ⟨2, _⟩ => show 0 + 1 * (y 2).val = (y 2).val; omega

theorem prod_apply (x0 : FVec Ideal S512x512 .f32) (x1 : FVec Ideal S512x512 .bf16) (j : S512x512.Idx) :
    k0_pay11 (F := Ideal) x0 x1 j = x0 j * x1 j := by
  pointwise [k0_pay11, k0_pay5]

/-- A head's piece of the block. -/
theorem piece (x0 : FVec Ideal S512x512 .f32) (x1 : FVec Ideal S512x512 .bf16) (h : Fin 8) {o n : ℕ} (ho : o = 64 * h.val) (hn : n = h.val)
    (sl : S512x512.Slices ![0, o] S512x64) (i : ∀ a, (![n, 0, 0] : Fin 3 → ℕ) a + S1x512x1.size a ≤ S8x512x1.size a) (y : S1x512x1.Idx) :
    shapeCast S1x512x1 (shapeCast S512x1 (multiReduction (F := Ideal) .add [1] S512 (extractStridedSlice S512x64 ![0, o] (k0_pay11 (F := Ideal) x0 x1) sl)
      0x00000000#32 reduces_S512x64_S512 (.inl rfl) rfl) shapeCasts_S512_S512x1) shapeCasts_S512x1_S1x512x1 y
      = rowsOf x0 x1 ((Rect.unit (s := S8x512x1) ![n, 0, 0] S1x512x1.size i).emb y) := by
  subst ho hn
  rw [head _ sl (by omega)]
  refine Eq.trans ?_ (congrArg (rowsOf x0 x1) (place h i y)).symm
  exact Finset.sum_congr rfl fun d _ => prod_apply x0 x1 _

/-- The body's result is the block's eight heads. -/
theorem out_eq (x0 : FVec Ideal S512x512 .f32) (x1 : FVec Ideal S512x512 .bf16) : out0_2 (F := Ideal) x0 x1 = rowsOf x0 x1 := by
  funext y
  refine View.canon_apply_of_pieces (Val := Elt Ideal) (S := S8x512x1) (e := .f32) (rowsOf x0 x1) _ ?_ y (cover0_2 _ _ _ _ _ _ _ _ y)
  refine View.PiecesOf.mem (Val := Elt Ideal) (s := S8x512x1) (e := .f32) (G := rowsOf x0 x1) ?_
  exact ⟨piece x0 x1 7 (o := 448) (n := 7) rfl rfl slices_S512x512_o0_448_S512x64 inb_S8x512x1_S1x512x1_7_0_0,
    piece x0 x1 6 (o := 384) (n := 6) rfl rfl slices_S512x512_o0_384_S512x64 inb_S8x512x1_S1x512x1_6_0_0,
    piece x0 x1 5 (o := 320) (n := 5) rfl rfl slices_S512x512_o0_320_S512x64 inb_S8x512x1_S1x512x1_5_0_0,
    piece x0 x1 4 (o := 256) (n := 4) rfl rfl slices_S512x512_o0_256_S512x64 inb_S8x512x1_S1x512x1_4_0_0,
    piece x0 x1 3 (o := 192) (n := 3) rfl rfl slices_S512x512_o0_192_S512x64 inb_S8x512x1_S1x512x1_3_0_0,
    piece x0 x1 2 (o := 128) (n := 2) rfl rfl slices_S512x512_o0_128_S512x64 inb_S8x512x1_S1x512x1_2_0_0,
    piece x0 x1 1 (o := 64) (n := 1) rfl rfl slices_S512x512_o0_64_S512x64 inb_S8x512x1_S1x512x1_1_0_0,
    piece x0 x1 0 (o := 0) (n := 0) rfl rfl slices_S512x512_o0_0_S512x64 inb_S8x512x1_S1x512x1_0_0_0,
    trivial⟩

end Cert.DeltaIdeal.Val

namespace Cert.DeltaRefIdeal.Val
open Cert.DeltaRefIdeal Cert.DeltaRefIdeal.Gen Cert.DeltaIdeal.Val
variable (o g : FVec Ideal S16384x512 .f32)

/-- The products, head by head. -/
abbrev heads : FVec Ideal S16384x8x64 .f32 := shapeCast _ (mulf o g) shapeCasts_S16384x512_S16384x8x64

/-- The sums of the reference, by head. -/
abbrev sums : FVec Ideal S8x16384 .f32 :=
  transpose S8x16384 [1, 0] (Host.reduceAdd (heads o g) (constant S_ .f32 0x00000000#32) reducesTo_S16384x8x64_S16384x8_d2 h_S_) transposes_S16384x8_S8x16384_1_0

/-- The reference's result. -/
abbrev delta : FVec Ideal S8x16384x1 .f32 := shapeCast _ (sums o g) shapeCasts_S8x16384_S8x16384x1

theorem heads_apply (a : Fin 16384) (h : Fin 8) (d : Fin 64) : heads o g (ix3 a h d) = o (ix2 a (col h d)) * g (ix2 a (col h d)) := by
  refine (shapeCast_apply _ shapeCasts_S16384x512_S16384x8x64 _ (ix2 a (col h d)) ?_).trans ?_
  · rw [Shape.rowMajor_val_three, Shape.rowMajor_val_two]
    show a.val * 512 + (64 * h.val + d.val) = (a.val * 8 + h.val) * 64 + d.val
    omega
  · pointwise []

theorem sums_apply (h : Fin 8) (a : Fin 16384) : sums o g (ix2 h a) = ∑ d : Fin 64, heads o g (ix3 a h d) := by
  pointwise [sums]

theorem delta_apply (h : Fin 8) (a : Fin 16384) (z : Fin 1) :
    delta o g (ix3 h a z) = ∑ d : Fin 64, o (ix2 a (col h d)) * g (ix2 a (col h d)) := by
  refine (shapeCast_apply _ shapeCasts_S8x16384_S8x16384x1 _ (ix2 h a) ?_).trans ?_
  · rw [Shape.rowMajor_val_three, Shape.rowMajor_val_two]
    show h.val * 16384 + a.val = (h.val * 16384 + a.val) * 1 + z.val
    omega
  · exact (sums_apply o g h a).trans (Finset.sum_congr rfl fun d _ => heads_apply o g a h d)

end Cert.DeltaRefIdeal.Val

namespace Cert.DeltaIdeal.Val
open Cert.DeltaIdeal Cert.DeltaIdeal.Gen
variable (m : (ℓ : Loc nD τ sig) → Buf (Elt Ideal) ℓ) (c : Dev nD)

abbrev ao : FVec Ideal S16384x512 .f32 := m ((c.tc : Thread nD τ).loc main_arg0)
abbrev ag : FVec Ideal S16384x512 .f32 := m ((c.tc : Thread nD τ).loc main_arg1)

theorem idx : ∀ t : Fin cfg0.N, win0_0.index t = ![t.val, 0] ∧ win0_1.index t = ![t.val, 0] ∧ win0_2.index t = ![0, t.val, 0] :=
  (by decide +kernel : ∀ t : Fin grid0.N, _)

theorem final2 : (dats m 0 c).arrAt 2 cfg0.N = Cert.DeltaRefIdeal.Val.delta (ao m c) (ag m c) := by
  refine (dats m 0 c).arrAt_eq_of_covers 2 _ (by decide +kernel) fun t _ y => ?_
  blk_simp
  rw [after0_2, out_eq]
  obtain ⟨h, b, z, rfl⟩ : ∃ (h : Fin 8) (b : Fin 512) (z : Fin 1), y = ix3 h b z := ⟨y 0, y 1, y 2, eq_ix3 (n0 := 8) (n1 := 512) (n2 := 1) y⟩
  have ht : t.val < 32 := t.isLt
  have e : (win0_2.blk t).view.emb (ix3 h b z) = ix3 h (⟨512 * t.val + b.val, by omega⟩ : Fin 16384) z := by
    blk_ext [iblk, V, idx t]
  refine Eq.trans ?_ ((congrArg (Cert.DeltaRefIdeal.Val.delta (ao m c) (ag m c)) e).trans (Cert.DeltaRefIdeal.Val.delta_apply _ _ _ _ _)).symm
  have b0 (x : Fin 512) : iblk m c 0 t (ix2 b x) = ao m c (ix2 (⟨512 * t.val + b.val, by omega⟩ : Fin 16384) x) := by
    blk_ext [iblk, V, idx t]
  have b1 (x : Fin 512) : iblk m c 1 t (ix2 b x) = ag m c (ix2 (⟨512 * t.val + b.val, by omega⟩ : Fin 16384) x) := by
    blk_point [iblk, V, idx t]
  exact Finset.sum_congr (M := EReal) rfl fun d _ => congrArg₂ (fun u v : EReal => u * v) (b0 _) (b1 _)

end Cert.DeltaIdeal.Val
end
-- ==== Proof.LatentBackClaim.lean ====
module
public import proofs.«01_k».proof.Defs
public import proofs.«01_k».proof.Proof.LatentBack
public import proofs.«01_k».proof.Proof.Delta
public import proofs.«01_k».proof.Proof.Gen.Delta.Frame
public import proofs.«01_k».proof.Proof.Gen.DeltaIdeal.Frame
public import proofs.«01_k».proof.Proof.Gen.Dcqn.Frame
public import proofs.«01_k».proof.Proof.Gen.DcqnIdeal.Frame
public import proofs.«01_k».proof.Proof.Gen.Dwq2.Frame
public import proofs.«01_k».proof.Proof.Gen.Dwq2Ideal.Frame
public import proofs.«01_k».proof.Proof.Gen.DckvnK.Frame
public import proofs.«01_k».proof.Proof.Gen.DckvnKIdeal.Frame
public import proofs.«01_k».proof.Proof.Gen.DckvnV.Frame
public import proofs.«01_k».proof.Proof.Gen.DckvnVIdeal.Frame
public import proofs.«01_k».proof.Proof.Gen.DhKr.Frame
public import proofs.«01_k».proof.Proof.Gen.DhKrIdeal.Frame
public import proofs.«01_k».proof.Proof.Gen.Dwkn.Frame
public import proofs.«01_k».proof.Proof.Gen.DwknIdeal.Frame
public import proofs.«01_k».proof.Proof.Gen.Dwv.Frame
public import proofs.«01_k».proof.Proof.Gen.DwvIdeal.Frame
public import proofs.«01_k».proof.Proof.Gen.DwKr.Frame
public import proofs.«01_k».proof.Proof.Gen.DwKrIdeal.Frame
@[expose] public section
noncomputable section
open Idealize.ShloMosaic Idealize.ShloMosaic.TcCoe Idealize.SL.Sem

/-! The claims of the latent attention's up-projections, backward, and of the rows' sums its backward pass takes. -/

namespace Cert.DcqnClaims
open Cert.DcqnIdeal.Val

theorem frame_p : Cert.quiescent_Dcqn := fun m ρ _ => Cert.Dcqn.Gen.frame m ρ
theorem frame_pi : Cert.quiescent_DcqnIdeal := fun m ρ _ => Cert.DcqnIdeal.Gen.frame m ρ
theorem frame_ri : Cert.quiescent_DcqnRefIdeal := fun m ρ _ => Accum.frame_of_run (Cert.DcqnRefIdeal.Value.run (F := Ideal) m ρ)
theorem preserves : Cert.preserves_Dcqn_DcqnIdeal := trivial
theorem algebraic : Cert.algebraic_DcqnIdeal_DcqnRefIdeal := fun m ρ m' ρ' _ hagree =>
  ⟨_, Cert.DcqnIdeal.Value.run_blocks (F := Ideal) m ρ, Accum.run_congr (Cert.DcqnRefIdeal.Value.run (F := Ideal) m' ρ') fun c _ e => by
    rw [(hagree c).1, (hagree c).2] at e
    exact e.trans (final2 m c).symm⟩

end Cert.DcqnClaims

namespace Cert.Dwq2Claims
open Cert.Dwq2Ideal.Val

theorem frame_p : Cert.quiescent_Dwq2 := fun m ρ _ => Cert.Dwq2.Gen.frame m ρ
theorem frame_pi : Cert.quiescent_Dwq2Ideal := fun m ρ _ => Cert.Dwq2Ideal.Gen.frame m ρ
theorem frame_ri : Cert.quiescent_Dwq2RefIdeal := fun m ρ _ => Accum.frame_of_run (Cert.Dwq2RefIdeal.Value.run (F := Ideal) m ρ)
theorem preserves : Cert.preserves_Dwq2_Dwq2Ideal := trivial
theorem algebraic : Cert.algebraic_Dwq2Ideal_Dwq2RefIdeal := fun m ρ m' ρ' _ hagree =>
  ⟨_, Cert.Dwq2Ideal.Value.run_blocks (F := Ideal) m ρ, Accum.run_congr (Cert.Dwq2RefIdeal.Value.run (F := Ideal) m' ρ') fun c _ e => by
    rw [(hagree c).1, (hagree c).2] at e
    exact e.trans (final2 m c).symm⟩

end Cert.Dwq2Claims

namespace Cert.DckvnKClaims
open Cert.DckvnKIdeal.Val

theorem frame_p : Cert.quiescent_DckvnK := fun m ρ _ => Cert.DckvnK.Gen.frame m ρ
theorem frame_pi : Cert.quiescent_DckvnKIdeal := fun m ρ _ => Cert.DckvnKIdeal.Gen.frame m ρ
theorem frame_ri : Cert.quiescent_DckvnKRefIdeal := fun m ρ _ => Accum.frame_of_run (Cert.DckvnKRefIdeal.Value.run (F := Ideal) m ρ)
theorem preserves : Cert.preserves_DckvnK_DckvnKIdeal := trivial
theorem algebraic : Cert.algebraic_DckvnKIdeal_DckvnKRefIdeal := fun m ρ m' ρ' _ hagree =>
  ⟨_, Cert.DckvnKIdeal.Value.run_blocks (F := Ideal) m ρ, Accum.run_congr (Cert.DckvnKRefIdeal.Value.run (F := Ideal) m' ρ') fun c _ e => by
    rw [(hagree c).1, (hagree c).2] at e
    exact e.trans (final2 m c).symm⟩

end Cert.DckvnKClaims

namespace Cert.DckvnVClaims
open Cert.DckvnVIdeal.Val

theorem frame_p : Cert.quiescent_DckvnV := fun m ρ _ => Cert.DckvnV.Gen.frame m ρ
theorem frame_pi : Cert.quiescent_DckvnVIdeal := fun m ρ _ => Cert.DckvnVIdeal.Gen.frame m ρ
theorem frame_ri : Cert.quiescent_DckvnVRefIdeal := fun m ρ _ => Accum.frame_of_run (Cert.DckvnVRefIdeal.Value.run (F := Ideal) m ρ)
theorem preserves : Cert.preserves_DckvnV_DckvnVIdeal := trivial
theorem algebraic : Cert.algebraic_DckvnVIdeal_DckvnVRefIdeal := fun m ρ m' ρ' _ hagree =>
  ⟨_, Cert.DckvnVIdeal.Value.run_blocks (F := Ideal) m ρ, Accum.run_congr (Cert.DckvnVRefIdeal.Value.run (F := Ideal) m' ρ') fun c _ e => by
    obtain ⟨a0, a1, a2⟩ := hagree c
    rw [a0, a1, a2] at e
    exact e.trans (final3 m c).symm⟩

end Cert.DckvnVClaims

namespace Cert.DhKrClaims
open Cert.DhKrIdeal.Val

theorem frame_p : Cert.quiescent_DhKr := fun m ρ _ => Cert.DhKr.Gen.frame m ρ
theorem frame_pi : Cert.quiescent_DhKrIdeal := fun m ρ _ => Cert.DhKrIdeal.Gen.frame m ρ
theorem frame_ri : Cert.quiescent_DhKrRefIdeal := fun m ρ _ => Accum.frame_of_run (Cert.DhKrRefIdeal.Value.run (F := Ideal) m ρ)
theorem preserves : Cert.preserves_DhKr_DhKrIdeal := trivial
theorem algebraic : Cert.algebraic_DhKrIdeal_DhKrRefIdeal := fun m ρ m' ρ' _ hagree =>
  ⟨_, Cert.DhKrIdeal.Value.run_blocks (F := Ideal) m ρ, Accum.run_congr (Cert.DhKrRefIdeal.Value.run (F := Ideal) m' ρ') fun c _ e => by
    rw [(hagree c).1, (hagree c).2] at e
    exact e.trans (final2 m c).symm⟩

end Cert.DhKrClaims

namespace Cert.DwknClaims
open Cert.DwknIdeal.Val

theorem frame_p : Cert.quiescent_Dwkn := fun m ρ _ => Cert.Dwkn.Gen.frame m ρ
theorem frame_pi : Cert.quiescent_DwknIdeal := fun m ρ _ => Cert.DwknIdeal.Gen.frame m ρ
theorem frame_ri : Cert.quiescent_DwknRefIdeal := fun m ρ _ => Accum.frame_of_run (Cert.DwknRefIdeal.Value.run (F := Ideal) m ρ)
theorem preserves : Cert.preserves_Dwkn_DwknIdeal := trivial
theorem algebraic : Cert.algebraic_DwknIdeal_DwknRefIdeal := fun m ρ m' ρ' _ hagree =>
  ⟨_, Cert.DwknIdeal.Value.run_blocks (F := Ideal) m ρ, Accum.run_congr (Cert.DwknRefIdeal.Value.run (F := Ideal) m' ρ') fun c _ e => by
    rw [(hagree c).1, (hagree c).2] at e
    exact e.trans (final2 m c).symm⟩

end Cert.DwknClaims

namespace Cert.DwvClaims
open Cert.DwvIdeal.Val

theorem frame_p : Cert.quiescent_Dwv := fun m ρ _ => Cert.Dwv.Gen.frame m ρ
theorem frame_pi : Cert.quiescent_DwvIdeal := fun m ρ _ => Cert.DwvIdeal.Gen.frame m ρ
theorem frame_ri : Cert.quiescent_DwvRefIdeal := fun m ρ _ => Accum.frame_of_run (Cert.DwvRefIdeal.Value.run (F := Ideal) m ρ)
theorem preserves : Cert.preserves_Dwv_DwvIdeal := trivial
theorem algebraic : Cert.algebraic_DwvIdeal_DwvRefIdeal := fun m ρ m' ρ' _ hagree =>
  ⟨_, Cert.DwvIdeal.Value.run_blocks (F := Ideal) m ρ, Accum.run_congr (Cert.DwvRefIdeal.Value.run (F := Ideal) m' ρ') fun c _ e => by
    rw [(hagree c).1, (hagree c).2] at e
    exact e.trans (final2 m c).symm⟩

end Cert.DwvClaims

namespace Cert.DwKrClaims
open Cert.DwKrIdeal.Val

theorem frame_p : Cert.quiescent_DwKr := fun m ρ _ => Cert.DwKr.Gen.frame m ρ
theorem frame_pi : Cert.quiescent_DwKrIdeal := fun m ρ _ => Cert.DwKrIdeal.Gen.frame m ρ
theorem frame_ri : Cert.quiescent_DwKrRefIdeal := fun m ρ _ => Accum.frame_of_run (Cert.DwKrRefIdeal.Value.run (F := Ideal) m ρ)
theorem preserves : Cert.preserves_DwKr_DwKrIdeal := trivial
theorem algebraic : Cert.algebraic_DwKrIdeal_DwKrRefIdeal := fun m ρ m' ρ' _ hagree =>
  ⟨_, Cert.DwKrIdeal.Value.run_blocks (F := Ideal) m ρ, Accum.run_congr (Cert.DwKrRefIdeal.Value.run (F := Ideal) m' ρ') fun c _ e => by
    rw [(hagree c).1, (hagree c).2] at e
    exact e.trans (final2 m c).symm⟩

end Cert.DwKrClaims

namespace Cert.DeltaClaims
open Cert.DeltaIdeal.Val

theorem frame_p : Cert.quiescent_Delta := fun m ρ _ => Cert.Delta.Gen.frame m ρ
theorem frame_pi : Cert.quiescent_DeltaIdeal := fun m ρ _ => Cert.DeltaIdeal.Gen.frame m ρ
theorem frame_ri : Cert.quiescent_DeltaRefIdeal := fun m ρ _ => Accum.frame_of_run (Cert.DeltaRefIdeal.Value.run (F := Ideal) m ρ)
theorem preserves : Cert.preserves_Delta_DeltaIdeal := trivial
theorem algebraic : Cert.algebraic_DeltaIdeal_DeltaRefIdeal := fun m ρ m' ρ' _ hagree =>
  ⟨_, Cert.DeltaIdeal.Value.run_blocks (F := Ideal) m ρ, Accum.run_congr (Cert.DeltaRefIdeal.Value.run (F := Ideal) m' ρ') fun c _ e => by
    rw [(hagree c).1, (hagree c).2] at e
    exact e.trans (final2 m c).symm⟩

end Cert.DeltaClaims
end
-- ==== Proof.lean ====
module

public import proofs.«01_k».proof.Defs
public import proofs.«01_k».proof.Proof.MlaClaim
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.Pre_finite
public import proofs.«01_k».proof.Proof.Gen.Pre_finite_fwd
public import proofs.«01_k».proof.Proof.Gen.FwdRefIdeal
public import proofs.«01_k».proof.Proof.Gen.FwdRefIdeal.Run
public import proofs.«01_k».proof.Proof.Gen.Fwd
public import proofs.«01_k».proof.Proof.Gen.Fwd.Skeleton
public import proofs.«01_k».proof.Proof.Gen.Fwd.Launch
public import proofs.«01_k».proof.Proof.Gen.Fwd.Points
public import proofs.«01_k».proof.Proof.Gen.Fwd.Frame
public import proofs.«01_k».proof.Proof.Gen.FwdIdeal
public import proofs.«01_k».proof.Proof.Gen.FwdIdeal.Skeleton
public import proofs.«01_k».proof.Proof.Gen.FwdIdeal.Launch
public import proofs.«01_k».proof.Proof.Gen.FwdIdeal.Points
public import proofs.«01_k».proof.Proof.Gen.FwdIdeal.Frame
public import proofs.«01_k».proof.Proof.Gen.FwdIdeal.Value
public import proofs.«01_k».proof.Proof.FwdClaim
public import proofs.«01_k».proof.Proof.FfnClaim
public import proofs.«01_k».proof.Proof.FfnDhClaim
public import proofs.«01_k».proof.Proof.FfnDownClaim
public import proofs.«01_k».proof.Proof.InProjClaim
public import proofs.«01_k».proof.Proof.MergeClaim
public import proofs.«01_k».proof.Proof.MmClaim
public import proofs.«01_k».proof.Proof.NormClaim
public import proofs.«01_k».proof.Proof.LatentClaim
public import proofs.«01_k».proof.Proof.LatentBackClaim
public import Idealize.ShloMosaic.Adequacy
public import Idealize.ShloMosaic.Init
public import proofs.«01_k».proof.Proof.Gen.Up
public import proofs.«01_k».proof.Proof.Gen.Up.Skeleton
public import proofs.«01_k».proof.Proof.Gen.Up.Launch
public import proofs.«01_k».proof.Proof.Gen.Up.Points
public import proofs.«01_k».proof.Proof.Gen.Up.Frame
public import proofs.«01_k».proof.Proof.Gen.UpIdeal
public import proofs.«01_k».proof.Proof.Gen.UpIdeal.Skeleton
public import proofs.«01_k».proof.Proof.Gen.UpIdeal.Launch
public import proofs.«01_k».proof.Proof.Gen.UpIdeal.Points
public import proofs.«01_k».proof.Proof.Gen.UpIdeal.Frame
public import proofs.«01_k».proof.Proof.Gen.UpIdeal.Value
public import proofs.«01_k».proof.Proof.Gen.UpRefIdeal
public import proofs.«01_k».proof.Proof.Gen.UpRefIdeal.Run
public import proofs.«01_k».proof.Proof.Gen.Dh
public import proofs.«01_k».proof.Proof.Gen.Dh.Skeleton
public import proofs.«01_k».proof.Proof.Gen.Dh.Launch
public import proofs.«01_k».proof.Proof.Gen.Dh.Points
public import proofs.«01_k».proof.Proof.Gen.Dh.Frame
public import proofs.«01_k».proof.Proof.Gen.DhIdeal
public import proofs.«01_k».proof.Proof.Gen.DhIdeal.Skeleton
public import proofs.«01_k».proof.Proof.Gen.DhIdeal.Launch
public import proofs.«01_k».proof.Proof.Gen.DhIdeal.Points
public import proofs.«01_k».proof.Proof.Gen.DhIdeal.Frame
public import proofs.«01_k».proof.Proof.Gen.DhRefIdeal
public import proofs.«01_k».proof.Proof.Gen.DhRefIdeal.Run
public import proofs.«01_k».proof.Proof.Gen.Dw
public import proofs.«01_k».proof.Proof.Gen.Dw.Skeleton
public import proofs.«01_k».proof.Proof.Gen.Dw.Launch
public import proofs.«01_k».proof.Proof.Gen.Dw.Points
public import proofs.«01_k».proof.Proof.Gen.Dw.Frame
public import proofs.«01_k».proof.Proof.Gen.DwIdeal
public import proofs.«01_k».proof.Proof.Gen.DwIdeal.Skeleton
public import proofs.«01_k».proof.Proof.Gen.DwIdeal.Launch
public import proofs.«01_k».proof.Proof.Gen.DwIdeal.Points
public import proofs.«01_k».proof.Proof.Gen.DwIdeal.Frame
public import proofs.«01_k».proof.Proof.Gen.DwIdeal.Value
public import proofs.«01_k».proof.Proof.Gen.DwRefIdeal
public import proofs.«01_k».proof.Proof.Gen.DwRefIdeal.Run
public import proofs.«01_k».proof.Proof.Gen.Down
public import proofs.«01_k».proof.Proof.Gen.Down.Skeleton
public import proofs.«01_k».proof.Proof.Gen.Down.Launch
public import proofs.«01_k».proof.Proof.Gen.Down.Points
public import proofs.«01_k».proof.Proof.Gen.Down.Frame
public import proofs.«01_k».proof.Proof.Gen.DownIdeal
public import proofs.«01_k».proof.Proof.Gen.DownIdeal.Skeleton
public import proofs.«01_k».proof.Proof.Gen.DownIdeal.Launch
public import proofs.«01_k».proof.Proof.Gen.DownIdeal.Points
public import proofs.«01_k».proof.Proof.Gen.DownIdeal.Frame
public import proofs.«01_k».proof.Proof.Gen.DownIdeal.Value
public import proofs.«01_k».proof.Proof.Gen.DownRefIdeal
public import proofs.«01_k».proof.Proof.Gen.DownRefIdeal.Run
public import proofs.«01_k».proof.Proof.Gen.Dw2
public import proofs.«01_k».proof.Proof.Gen.Dw2.Skeleton
public import proofs.«01_k».proof.Proof.Gen.Dw2.Launch
public import proofs.«01_k».proof.Proof.Gen.Dw2.Points
public import proofs.«01_k».proof.Proof.Gen.Dw2.Frame
public import proofs.«01_k».proof.Proof.Gen.Dw2Ideal
public import proofs.«01_k».proof.Proof.Gen.Dw2Ideal.Skeleton
public import proofs.«01_k».proof.Proof.Gen.Dw2Ideal.Launch
public import proofs.«01_k».proof.Proof.Gen.Dw2Ideal.Points
public import proofs.«01_k».proof.Proof.Gen.Dw2Ideal.Frame
public import proofs.«01_k».proof.Proof.Gen.Dw2Ideal.Value
public import proofs.«01_k».proof.Proof.Gen.Dw2RefIdeal
public import proofs.«01_k».proof.Proof.Gen.Dw2RefIdeal.Run
public import proofs.«01_k».proof.Proof.Gen.InB
public import proofs.«01_k».proof.Proof.Gen.InB.Skeleton
public import proofs.«01_k».proof.Proof.Gen.InB.Launch
public import proofs.«01_k».proof.Proof.Gen.InB.Points
public import proofs.«01_k».proof.Proof.Gen.InB.Frame
public import proofs.«01_k».proof.Proof.Gen.InBIdeal
public import proofs.«01_k».proof.Proof.Gen.InBIdeal.Skeleton
public import proofs.«01_k».proof.Proof.Gen.InBIdeal.Launch
public import proofs.«01_k».proof.Proof.Gen.InBIdeal.Points
public import proofs.«01_k».proof.Proof.Gen.InBIdeal.Frame
public import proofs.«01_k».proof.Proof.Gen.InBIdeal.Value
public import proofs.«01_k».proof.Proof.Gen.InBRefIdeal
public import proofs.«01_k».proof.Proof.Gen.InBRefIdeal.Run
public import proofs.«01_k».proof.Proof.Gen.DhB
public import proofs.«01_k».proof.Proof.Gen.DhB.Skeleton
public import proofs.«01_k».proof.Proof.Gen.DhB.Launch
public import proofs.«01_k».proof.Proof.Gen.DhB.Points
public import proofs.«01_k».proof.Proof.Gen.DhB.Frame
public import proofs.«01_k».proof.Proof.Gen.DhBIdeal
public import proofs.«01_k».proof.Proof.Gen.DhBIdeal.Skeleton
public import proofs.«01_k».proof.Proof.Gen.DhBIdeal.Launch
public import proofs.«01_k».proof.Proof.Gen.DhBIdeal.Points
public import proofs.«01_k».proof.Proof.Gen.DhBIdeal.Frame
public import proofs.«01_k».proof.Proof.Gen.DhBIdeal.Value
public import proofs.«01_k».proof.Proof.Gen.DhBRefIdeal
public import proofs.«01_k».proof.Proof.Gen.DhBRefIdeal.Run
public import proofs.«01_k».proof.Proof.Gen.DwB
public import proofs.«01_k».proof.Proof.Gen.DwB.Skeleton
public import proofs.«01_k».proof.Proof.Gen.DwB.Launch
public import proofs.«01_k».proof.Proof.Gen.DwB.Points
public import proofs.«01_k».proof.Proof.Gen.DwB.Frame
public import proofs.«01_k».proof.Proof.Gen.DwBIdeal
public import proofs.«01_k».proof.Proof.Gen.DwBIdeal.Skeleton
public import proofs.«01_k».proof.Proof.Gen.DwBIdeal.Launch
public import proofs.«01_k».proof.Proof.Gen.DwBIdeal.Points
public import proofs.«01_k».proof.Proof.Gen.DwBIdeal.Frame
public import proofs.«01_k».proof.Proof.Gen.DwBIdeal.Value
public import proofs.«01_k».proof.Proof.Gen.DwBRefIdeal
public import proofs.«01_k».proof.Proof.Gen.DwBRefIdeal.Run
public import proofs.«01_k».proof.Proof.Gen.InG
public import proofs.«01_k».proof.Proof.Gen.InG.Skeleton
public import proofs.«01_k».proof.Proof.Gen.InG.Launch
public import proofs.«01_k».proof.Proof.Gen.InG.Points
public import proofs.«01_k».proof.Proof.Gen.InG.Frame
public import proofs.«01_k».proof.Proof.Gen.InGIdeal
public import proofs.«01_k».proof.Proof.Gen.InGIdeal.Skeleton
public import proofs.«01_k».proof.Proof.Gen.InGIdeal.Launch
public import proofs.«01_k».proof.Proof.Gen.InGIdeal.Points
public import proofs.«01_k».proof.Proof.Gen.InGIdeal.Frame
public import proofs.«01_k».proof.Proof.Gen.InGIdeal.Value
public import proofs.«01_k».proof.Proof.Gen.InGRefIdeal
public import proofs.«01_k».proof.Proof.Gen.InGRefIdeal.Run
public import proofs.«01_k».proof.Proof.Gen.DhG
public import proofs.«01_k».proof.Proof.Gen.DhG.Skeleton
public import proofs.«01_k».proof.Proof.Gen.DhG.Launch
public import proofs.«01_k».proof.Proof.Gen.DhG.Points
public import proofs.«01_k».proof.Proof.Gen.DhG.Frame
public import proofs.«01_k».proof.Proof.Gen.DhGIdeal
public import proofs.«01_k».proof.Proof.Gen.DhGIdeal.Skeleton
public import proofs.«01_k».proof.Proof.Gen.DhGIdeal.Launch
public import proofs.«01_k».proof.Proof.Gen.DhGIdeal.Points
public import proofs.«01_k».proof.Proof.Gen.DhGIdeal.Frame
public import proofs.«01_k».proof.Proof.Gen.DhGIdeal.Value
public import proofs.«01_k».proof.Proof.Gen.DhGRefIdeal
public import proofs.«01_k».proof.Proof.Gen.DhGRefIdeal.Run
public import proofs.«01_k».proof.Proof.Gen.DwG
public import proofs.«01_k».proof.Proof.Gen.DwG.Skeleton
public import proofs.«01_k».proof.Proof.Gen.DwG.Launch
public import proofs.«01_k».proof.Proof.Gen.DwG.Points
public import proofs.«01_k».proof.Proof.Gen.DwG.Frame
public import proofs.«01_k».proof.Proof.Gen.DwGIdeal
public import proofs.«01_k».proof.Proof.Gen.DwGIdeal.Skeleton
public import proofs.«01_k».proof.Proof.Gen.DwGIdeal.Launch
public import proofs.«01_k».proof.Proof.Gen.DwGIdeal.Points
public import proofs.«01_k».proof.Proof.Gen.DwGIdeal.Frame
public import proofs.«01_k».proof.Proof.Gen.DwGIdeal.Value
public import proofs.«01_k».proof.Proof.Gen.DwGRefIdeal
public import proofs.«01_k».proof.Proof.Gen.DwGRefIdeal.Run
public import proofs.«01_k».proof.Proof.Gen.Out
public import proofs.«01_k».proof.Proof.Gen.Out.Skeleton
public import proofs.«01_k».proof.Proof.Gen.Out.Launch
public import proofs.«01_k».proof.Proof.Gen.Out.Points
public import proofs.«01_k».proof.Proof.Gen.Out.Frame
public import proofs.«01_k».proof.Proof.Gen.OutIdeal
public import proofs.«01_k».proof.Proof.Gen.OutIdeal.Skeleton
public import proofs.«01_k».proof.Proof.Gen.OutIdeal.Launch
public import proofs.«01_k».proof.Proof.Gen.OutIdeal.Points
public import proofs.«01_k».proof.Proof.Gen.OutIdeal.Frame
public import proofs.«01_k».proof.Proof.Gen.OutIdeal.Value
public import proofs.«01_k».proof.Proof.Gen.OutRefIdeal
public import proofs.«01_k».proof.Proof.Gen.OutRefIdeal.Run
public import proofs.«01_k».proof.Proof.Gen.DwOut
public import proofs.«01_k».proof.Proof.Gen.DwOut.Skeleton
public import proofs.«01_k».proof.Proof.Gen.DwOut.Launch
public import proofs.«01_k».proof.Proof.Gen.DwOut.Points
public import proofs.«01_k».proof.Proof.Gen.DwOut.Frame
public import proofs.«01_k».proof.Proof.Gen.DwOutIdeal
public import proofs.«01_k».proof.Proof.Gen.DwOutIdeal.Skeleton
public import proofs.«01_k».proof.Proof.Gen.DwOutIdeal.Launch
public import proofs.«01_k».proof.Proof.Gen.DwOutIdeal.Points
public import proofs.«01_k».proof.Proof.Gen.DwOutIdeal.Frame
public import proofs.«01_k».proof.Proof.Gen.DwOutIdeal.Value
public import proofs.«01_k».proof.Proof.Gen.DwOutRefIdeal
public import proofs.«01_k».proof.Proof.Gen.DwOutRefIdeal.Run
public import proofs.«01_k».proof.Proof.Gen.Merge
public import proofs.«01_k».proof.Proof.Gen.Merge.Skeleton
public import proofs.«01_k».proof.Proof.Gen.Merge.Launch
public import proofs.«01_k».proof.Proof.Gen.Merge.Points
public import proofs.«01_k».proof.Proof.Gen.Merge.Frame
public import proofs.«01_k».proof.Proof.Gen.MergeIdeal
public import proofs.«01_k».proof.Proof.Gen.MergeIdeal.Skeleton
public import proofs.«01_k».proof.Proof.Gen.MergeIdeal.Launch
public import proofs.«01_k».proof.Proof.Gen.MergeIdeal.Points
public import proofs.«01_k».proof.Proof.Gen.MergeIdeal.Frame
public import proofs.«01_k».proof.Proof.Gen.MergeIdeal.Value
public import proofs.«01_k».proof.Proof.Gen.MergeRefIdeal
public import proofs.«01_k».proof.Proof.Gen.MergeRefIdeal.Run
public import proofs.«01_k».proof.Proof.Gen.MergeBwd
public import proofs.«01_k».proof.Proof.Gen.MergeBwd.Skeleton
public import proofs.«01_k».proof.Proof.Gen.MergeBwd.Launch
public import proofs.«01_k».proof.Proof.Gen.MergeBwd.Points
public import proofs.«01_k».proof.Proof.Gen.MergeBwd.Frame
public import proofs.«01_k».proof.Proof.Gen.MergeBwdIdeal
public import proofs.«01_k».proof.Proof.Gen.MergeBwdIdeal.Skeleton
public import proofs.«01_k».proof.Proof.Gen.MergeBwdIdeal.Launch
public import proofs.«01_k».proof.Proof.Gen.MergeBwdIdeal.Points
public import proofs.«01_k».proof.Proof.Gen.MergeBwdIdeal.Frame
public import proofs.«01_k».proof.Proof.Gen.MergeBwdIdeal.Value
public import proofs.«01_k».proof.Proof.Gen.MergeBwdRefIdeal
public import proofs.«01_k».proof.Proof.Gen.MergeBwdRefIdeal.Run
public import proofs.«01_k».proof.Proof.Gen.Cross
public import proofs.«01_k».proof.Proof.Gen.Cross.Skeleton
public import proofs.«01_k».proof.Proof.Gen.Cross.Launch
public import proofs.«01_k».proof.Proof.Gen.Cross.Points
public import proofs.«01_k».proof.Proof.Gen.Cross.Frame
public import proofs.«01_k».proof.Proof.Gen.CrossIdeal
public import proofs.«01_k».proof.Proof.Gen.CrossIdeal.Skeleton
public import proofs.«01_k».proof.Proof.Gen.CrossIdeal.Launch
public import proofs.«01_k».proof.Proof.Gen.CrossIdeal.Points
public import proofs.«01_k».proof.Proof.Gen.CrossIdeal.Frame
public import proofs.«01_k».proof.Proof.Gen.CrossIdeal.Value
public import proofs.«01_k».proof.Proof.Gen.CrossRefIdeal
public import proofs.«01_k».proof.Proof.Gen.CrossRefIdeal.Run
public import proofs.«01_k».proof.Proof.Gen.Xq
public import proofs.«01_k».proof.Proof.Gen.Xq.Skeleton
public import proofs.«01_k».proof.Proof.Gen.Xq.Launch
public import proofs.«01_k».proof.Proof.Gen.Xq.Points
public import proofs.«01_k».proof.Proof.Gen.Xq.Frame
public import proofs.«01_k».proof.Proof.Gen.XqIdeal
public import proofs.«01_k».proof.Proof.Gen.XqIdeal.Skeleton
public import proofs.«01_k».proof.Proof.Gen.XqIdeal.Launch
public import proofs.«01_k».proof.Proof.Gen.XqIdeal.Points
public import proofs.«01_k».proof.Proof.Gen.XqIdeal.Frame
public import proofs.«01_k».proof.Proof.Gen.XqIdeal.Value
public import proofs.«01_k».proof.Proof.Gen.XqRefIdeal
public import proofs.«01_k».proof.Proof.Gen.XqRefIdeal.Run
public import proofs.«01_k».proof.Proof.Gen.Dox
public import proofs.«01_k».proof.Proof.Gen.Dox.Skeleton
public import proofs.«01_k».proof.Proof.Gen.Dox.Launch
public import proofs.«01_k».proof.Proof.Gen.Dox.Points
public import proofs.«01_k».proof.Proof.Gen.Dox.Frame
public import proofs.«01_k».proof.Proof.Gen.DoxIdeal
public import proofs.«01_k».proof.Proof.Gen.DoxIdeal.Skeleton
public import proofs.«01_k».proof.Proof.Gen.DoxIdeal.Launch
public import proofs.«01_k».proof.Proof.Gen.DoxIdeal.Points
public import proofs.«01_k».proof.Proof.Gen.DoxIdeal.Frame
public import proofs.«01_k».proof.Proof.Gen.DoxIdeal.Value
public import proofs.«01_k».proof.Proof.Gen.DoxRefIdeal
public import proofs.«01_k».proof.Proof.Gen.DoxRefIdeal.Run
public import proofs.«01_k».proof.Proof.Gen.Dmerged
public import proofs.«01_k».proof.Proof.Gen.Dmerged.Skeleton
public import proofs.«01_k».proof.Proof.Gen.Dmerged.Launch
public import proofs.«01_k».proof.Proof.Gen.Dmerged.Points
public import proofs.«01_k».proof.Proof.Gen.Dmerged.Frame
public import proofs.«01_k».proof.Proof.Gen.DmergedIdeal
public import proofs.«01_k».proof.Proof.Gen.DmergedIdeal.Skeleton
public import proofs.«01_k».proof.Proof.Gen.DmergedIdeal.Launch
public import proofs.«01_k».proof.Proof.Gen.DmergedIdeal.Points
public import proofs.«01_k».proof.Proof.Gen.DmergedIdeal.Frame
public import proofs.«01_k».proof.Proof.Gen.DmergedIdeal.Value
public import proofs.«01_k».proof.Proof.Gen.DmergedRefIdeal
public import proofs.«01_k».proof.Proof.Gen.DmergedRefIdeal.Run
public import proofs.«01_k».proof.Proof.Gen.Dh1
public import proofs.«01_k».proof.Proof.Gen.Dh1.Skeleton
public import proofs.«01_k».proof.Proof.Gen.Dh1.Launch
public import proofs.«01_k».proof.Proof.Gen.Dh1.Points
public import proofs.«01_k».proof.Proof.Gen.Dh1.Frame
public import proofs.«01_k».proof.Proof.Gen.Dh1Ideal
public import proofs.«01_k».proof.Proof.Gen.Dh1Ideal.Skeleton
public import proofs.«01_k».proof.Proof.Gen.Dh1Ideal.Launch
public import proofs.«01_k».proof.Proof.Gen.Dh1Ideal.Points
public import proofs.«01_k».proof.Proof.Gen.Dh1Ideal.Frame
public import proofs.«01_k».proof.Proof.Gen.Dh1Ideal.Value
public import proofs.«01_k».proof.Proof.Gen.Dh1RefIdeal
public import proofs.«01_k».proof.Proof.Gen.Dh1RefIdeal.Run
public import proofs.«01_k».proof.Proof.Gen.DyA
public import proofs.«01_k».proof.Proof.Gen.DyA.Skeleton
public import proofs.«01_k».proof.Proof.Gen.DyA.Launch
public import proofs.«01_k».proof.Proof.Gen.DyA.Points
public import proofs.«01_k».proof.Proof.Gen.DyA.Frame
public import proofs.«01_k».proof.Proof.Gen.DyAIdeal
public import proofs.«01_k».proof.Proof.Gen.DyAIdeal.Skeleton
public import proofs.«01_k».proof.Proof.Gen.DyAIdeal.Launch
public import proofs.«01_k».proof.Proof.Gen.DyAIdeal.Points
public import proofs.«01_k».proof.Proof.Gen.DyAIdeal.Frame
public import proofs.«01_k».proof.Proof.Gen.DyAIdeal.Value
public import proofs.«01_k».proof.Proof.Gen.DyARefIdeal
public import proofs.«01_k».proof.Proof.Gen.DyARefIdeal.Run
public import proofs.«01_k».proof.Proof.Gen.DyB
public import proofs.«01_k».proof.Proof.Gen.DyB.Skeleton
public import proofs.«01_k».proof.Proof.Gen.DyB.Launch
public import proofs.«01_k».proof.Proof.Gen.DyB.Points
public import proofs.«01_k».proof.Proof.Gen.DyB.Frame
public import proofs.«01_k».proof.Proof.Gen.DyBIdeal
public import proofs.«01_k».proof.Proof.Gen.DyBIdeal.Skeleton
public import proofs.«01_k».proof.Proof.Gen.DyBIdeal.Launch
public import proofs.«01_k».proof.Proof.Gen.DyBIdeal.Points
public import proofs.«01_k».proof.Proof.Gen.DyBIdeal.Frame
public import proofs.«01_k».proof.Proof.Gen.DyBIdeal.Value
public import proofs.«01_k».proof.Proof.Gen.DyBRefIdeal
public import proofs.«01_k».proof.Proof.Gen.DyBRefIdeal.Run
public import proofs.«01_k».proof.Proof.Gen.DwBrA
public import proofs.«01_k».proof.Proof.Gen.DwBrA.Skeleton
public import proofs.«01_k».proof.Proof.Gen.DwBrA.Launch
public import proofs.«01_k».proof.Proof.Gen.DwBrA.Points
public import proofs.«01_k».proof.Proof.Gen.DwBrA.Frame
public import proofs.«01_k».proof.Proof.Gen.DwBrAIdeal
public import proofs.«01_k».proof.Proof.Gen.DwBrAIdeal.Skeleton
public import proofs.«01_k».proof.Proof.Gen.DwBrAIdeal.Launch
public import proofs.«01_k».proof.Proof.Gen.DwBrAIdeal.Points
public import proofs.«01_k».proof.Proof.Gen.DwBrAIdeal.Frame
public import proofs.«01_k».proof.Proof.Gen.DwBrAIdeal.Value
public import proofs.«01_k».proof.Proof.Gen.DwBrARefIdeal
public import proofs.«01_k».proof.Proof.Gen.DwBrARefIdeal.Run
public import proofs.«01_k».proof.Proof.Gen.DwBrB
public import proofs.«01_k».proof.Proof.Gen.DwBrB.Skeleton
public import proofs.«01_k».proof.Proof.Gen.DwBrB.Launch
public import proofs.«01_k».proof.Proof.Gen.DwBrB.Points
public import proofs.«01_k».proof.Proof.Gen.DwBrB.Frame
public import proofs.«01_k».proof.Proof.Gen.DwBrBIdeal
public import proofs.«01_k».proof.Proof.Gen.DwBrBIdeal.Skeleton
public import proofs.«01_k».proof.Proof.Gen.DwBrBIdeal.Launch
public import proofs.«01_k».proof.Proof.Gen.DwBrBIdeal.Points
public import proofs.«01_k».proof.Proof.Gen.DwBrBIdeal.Frame
public import proofs.«01_k».proof.Proof.Gen.DwBrBIdeal.Value
public import proofs.«01_k».proof.Proof.Gen.DwBrBRefIdeal
public import proofs.«01_k».proof.Proof.Gen.DwBrBRefIdeal.Run
public import proofs.«01_k».proof.Proof.Gen.InC
public import proofs.«01_k».proof.Proof.Gen.InC.Skeleton
public import proofs.«01_k».proof.Proof.Gen.InC.Launch
public import proofs.«01_k».proof.Proof.Gen.InC.Points
public import proofs.«01_k».proof.Proof.Gen.InC.Frame
public import proofs.«01_k».proof.Proof.Gen.InCIdeal
public import proofs.«01_k».proof.Proof.Gen.InCIdeal.Skeleton
public import proofs.«01_k».proof.Proof.Gen.InCIdeal.Launch
public import proofs.«01_k».proof.Proof.Gen.InCIdeal.Points
public import proofs.«01_k».proof.Proof.Gen.InCIdeal.Frame
public import proofs.«01_k».proof.Proof.Gen.InCIdeal.Value
public import proofs.«01_k».proof.Proof.Gen.InCRefIdeal
public import proofs.«01_k».proof.Proof.Gen.InCRefIdeal.Run
public import proofs.«01_k».proof.Proof.Gen.DhC
public import proofs.«01_k».proof.Proof.Gen.DhC.Skeleton
public import proofs.«01_k».proof.Proof.Gen.DhC.Launch
public import proofs.«01_k».proof.Proof.Gen.DhC.Points
public import proofs.«01_k».proof.Proof.Gen.DhC.Frame
public import proofs.«01_k».proof.Proof.Gen.DhCIdeal
public import proofs.«01_k».proof.Proof.Gen.DhCIdeal.Skeleton
public import proofs.«01_k».proof.Proof.Gen.DhCIdeal.Launch
public import proofs.«01_k».proof.Proof.Gen.DhCIdeal.Points
public import proofs.«01_k».proof.Proof.Gen.DhCIdeal.Frame
public import proofs.«01_k».proof.Proof.Gen.DhCIdeal.Value
public import proofs.«01_k».proof.Proof.Gen.DhCRefIdeal
public import proofs.«01_k».proof.Proof.Gen.DhCRefIdeal.Run
public import proofs.«01_k».proof.Proof.Gen.DwC
public import proofs.«01_k».proof.Proof.Gen.DwC.Skeleton
public import proofs.«01_k».proof.Proof.Gen.DwC.Launch
public import proofs.«01_k».proof.Proof.Gen.DwC.Points
public import proofs.«01_k».proof.Proof.Gen.DwC.Frame
public import proofs.«01_k».proof.Proof.Gen.DwCIdeal
public import proofs.«01_k».proof.Proof.Gen.DwCIdeal.Skeleton
public import proofs.«01_k».proof.Proof.Gen.DwCIdeal.Launch
public import proofs.«01_k».proof.Proof.Gen.DwCIdeal.Points
public import proofs.«01_k».proof.Proof.Gen.DwCIdeal.Frame
public import proofs.«01_k».proof.Proof.Gen.DwCIdeal.Value
public import proofs.«01_k».proof.Proof.Gen.DwCRefIdeal
public import proofs.«01_k».proof.Proof.Gen.DwCRefIdeal.Run
public import proofs.«01_k».proof.Proof.Gen.Rms
public import proofs.«01_k».proof.Proof.Gen.Rms.Skeleton
public import proofs.«01_k».proof.Proof.Gen.Rms.Launch
public import proofs.«01_k».proof.Proof.Gen.Rms.Points
public import proofs.«01_k».proof.Proof.Gen.Rms.Frame
public import proofs.«01_k».proof.Proof.Gen.RmsIdeal
public import proofs.«01_k».proof.Proof.Gen.RmsIdeal.Skeleton
public import proofs.«01_k».proof.Proof.Gen.RmsIdeal.Launch
public import proofs.«01_k».proof.Proof.Gen.RmsIdeal.Points
public import proofs.«01_k».proof.Proof.Gen.RmsIdeal.Frame
public import proofs.«01_k».proof.Proof.Gen.RmsIdeal.Value
public import proofs.«01_k».proof.Proof.Gen.RmsRefIdeal
public import proofs.«01_k».proof.Proof.Gen.RmsRefIdeal.Run
public import proofs.«01_k».proof.Proof.Gen.RmsMem
public import proofs.«01_k».proof.Proof.Gen.RmsMem.Skeleton
public import proofs.«01_k».proof.Proof.Gen.RmsMem.Launch
public import proofs.«01_k».proof.Proof.Gen.RmsMem.Points
public import proofs.«01_k».proof.Proof.Gen.RmsMem.Frame
public import proofs.«01_k».proof.Proof.Gen.RmsMemIdeal
public import proofs.«01_k».proof.Proof.Gen.RmsMemIdeal.Skeleton
public import proofs.«01_k».proof.Proof.Gen.RmsMemIdeal.Launch
public import proofs.«01_k».proof.Proof.Gen.RmsMemIdeal.Points
public import proofs.«01_k».proof.Proof.Gen.RmsMemIdeal.Frame
public import proofs.«01_k».proof.Proof.Gen.RmsMemIdeal.Value
public import proofs.«01_k».proof.Proof.Gen.RmsMemRefIdeal
public import proofs.«01_k».proof.Proof.Gen.RmsMemRefIdeal.Run
public import proofs.«01_k».proof.Proof.Gen.RmsCq
public import proofs.«01_k».proof.Proof.Gen.RmsCq.Skeleton
public import proofs.«01_k».proof.Proof.Gen.RmsCq.Launch
public import proofs.«01_k».proof.Proof.Gen.RmsCq.Points
public import proofs.«01_k».proof.Proof.Gen.RmsCq.Frame
public import proofs.«01_k».proof.Proof.Gen.RmsCqIdeal
public import proofs.«01_k».proof.Proof.Gen.RmsCqIdeal.Skeleton
public import proofs.«01_k».proof.Proof.Gen.RmsCqIdeal.Launch
public import proofs.«01_k».proof.Proof.Gen.RmsCqIdeal.Points
public import proofs.«01_k».proof.Proof.Gen.RmsCqIdeal.Frame
public import proofs.«01_k».proof.Proof.Gen.RmsCqIdeal.Value
public import proofs.«01_k».proof.Proof.Gen.RmsCqRefIdeal
public import proofs.«01_k».proof.Proof.Gen.RmsCqRefIdeal.Run
public import proofs.«01_k».proof.Proof.Gen.RmsCkv
public import proofs.«01_k».proof.Proof.Gen.RmsCkv.Skeleton
public import proofs.«01_k».proof.Proof.Gen.RmsCkv.Launch
public import proofs.«01_k».proof.Proof.Gen.RmsCkv.Points
public import proofs.«01_k».proof.Proof.Gen.RmsCkv.Frame
public import proofs.«01_k».proof.Proof.Gen.RmsCkvIdeal
public import proofs.«01_k».proof.Proof.Gen.RmsCkvIdeal.Skeleton
public import proofs.«01_k».proof.Proof.Gen.RmsCkvIdeal.Launch
public import proofs.«01_k».proof.Proof.Gen.RmsCkvIdeal.Points
public import proofs.«01_k».proof.Proof.Gen.RmsCkvIdeal.Frame
public import proofs.«01_k».proof.Proof.Gen.RmsCkvIdeal.Value
public import proofs.«01_k».proof.Proof.Gen.RmsCkvRefIdeal
public import proofs.«01_k».proof.Proof.Gen.RmsCkvRefIdeal.Run
public import proofs.«01_k».proof.Proof.Gen.Xkv
public import proofs.«01_k».proof.Proof.Gen.Xkv.Skeleton
public import proofs.«01_k».proof.Proof.Gen.Xkv.Launch
public import proofs.«01_k».proof.Proof.Gen.Xkv.Points
public import proofs.«01_k».proof.Proof.Gen.Xkv.Frame
public import proofs.«01_k».proof.Proof.Gen.XkvIdeal
public import proofs.«01_k».proof.Proof.Gen.XkvIdeal.Skeleton
public import proofs.«01_k».proof.Proof.Gen.XkvIdeal.Launch
public import proofs.«01_k».proof.Proof.Gen.XkvIdeal.Points
public import proofs.«01_k».proof.Proof.Gen.XkvIdeal.Frame
public import proofs.«01_k».proof.Proof.Gen.XkvIdeal.Value
public import proofs.«01_k».proof.Proof.Gen.XkvRefIdeal
public import proofs.«01_k».proof.Proof.Gen.XkvRefIdeal.Run
public import proofs.«01_k».proof.Proof.Gen.Dmemn
public import proofs.«01_k».proof.Proof.Gen.Dmemn.Skeleton
public import proofs.«01_k».proof.Proof.Gen.Dmemn.Launch
public import proofs.«01_k».proof.Proof.Gen.Dmemn.Points
public import proofs.«01_k».proof.Proof.Gen.Dmemn.Frame
public import proofs.«01_k».proof.Proof.Gen.DmemnIdeal
public import proofs.«01_k».proof.Proof.Gen.DmemnIdeal.Skeleton
public import proofs.«01_k».proof.Proof.Gen.DmemnIdeal.Launch
public import proofs.«01_k».proof.Proof.Gen.DmemnIdeal.Points
public import proofs.«01_k».proof.Proof.Gen.DmemnIdeal.Frame
public import proofs.«01_k».proof.Proof.Gen.DmemnIdeal.Value
public import proofs.«01_k».proof.Proof.Gen.DmemnRefIdeal
public import proofs.«01_k».proof.Proof.Gen.DmemnRefIdeal.Run
public import proofs.«01_k».proof.Proof.Gen.Dwkv
public import proofs.«01_k».proof.Proof.Gen.Dwkv.Skeleton
public import proofs.«01_k».proof.Proof.Gen.Dwkv.Launch
public import proofs.«01_k».proof.Proof.Gen.Dwkv.Points
public import proofs.«01_k».proof.Proof.Gen.Dwkv.Frame
public import proofs.«01_k».proof.Proof.Gen.DwkvIdeal
public import proofs.«01_k».proof.Proof.Gen.DwkvIdeal.Skeleton
public import proofs.«01_k».proof.Proof.Gen.DwkvIdeal.Launch
public import proofs.«01_k».proof.Proof.Gen.DwkvIdeal.Points
public import proofs.«01_k».proof.Proof.Gen.DwkvIdeal.Frame
public import proofs.«01_k».proof.Proof.Gen.DwkvIdeal.Value
public import proofs.«01_k».proof.Proof.Gen.DwkvRefIdeal
public import proofs.«01_k».proof.Proof.Gen.DwkvRefIdeal.Run
public import proofs.«01_k».proof.Proof.Gen.InA
public import proofs.«01_k».proof.Proof.Gen.InA.Skeleton
public import proofs.«01_k».proof.Proof.Gen.InA.Launch
public import proofs.«01_k».proof.Proof.Gen.InA.Points
public import proofs.«01_k».proof.Proof.Gen.InA.Frame
public import proofs.«01_k».proof.Proof.Gen.InAIdeal
public import proofs.«01_k».proof.Proof.Gen.InAIdeal.Skeleton
public import proofs.«01_k».proof.Proof.Gen.InAIdeal.Launch
public import proofs.«01_k».proof.Proof.Gen.InAIdeal.Points
public import proofs.«01_k».proof.Proof.Gen.InAIdeal.Frame
public import proofs.«01_k».proof.Proof.Gen.InAIdeal.Value
public import proofs.«01_k».proof.Proof.Gen.InARefIdeal
public import proofs.«01_k».proof.Proof.Gen.InARefIdeal.Run
public import proofs.«01_k».proof.Proof.Gen.Ukv
public import proofs.«01_k».proof.Proof.Gen.Ukv.Skeleton
public import proofs.«01_k».proof.Proof.Gen.Ukv.Launch
public import proofs.«01_k».proof.Proof.Gen.Ukv.Points
public import proofs.«01_k».proof.Proof.Gen.Ukv.Frame
public import proofs.«01_k».proof.Proof.Gen.UkvIdeal
public import proofs.«01_k».proof.Proof.Gen.UkvIdeal.Skeleton
public import proofs.«01_k».proof.Proof.Gen.UkvIdeal.Launch
public import proofs.«01_k».proof.Proof.Gen.UkvIdeal.Points
public import proofs.«01_k».proof.Proof.Gen.UkvIdeal.Frame
public import proofs.«01_k».proof.Proof.Gen.UkvIdeal.Value
public import proofs.«01_k».proof.Proof.Gen.UkvRefIdeal
public import proofs.«01_k».proof.Proof.Gen.UkvRefIdeal.Run
public import proofs.«01_k».proof.Proof.Gen.DhCq
public import proofs.«01_k».proof.Proof.Gen.DhCq.Skeleton
public import proofs.«01_k».proof.Proof.Gen.DhCq.Launch
public import proofs.«01_k».proof.Proof.Gen.DhCq.Points
public import proofs.«01_k».proof.Proof.Gen.DhCq.Frame
public import proofs.«01_k».proof.Proof.Gen.DhCqIdeal
public import proofs.«01_k».proof.Proof.Gen.DhCqIdeal.Skeleton
public import proofs.«01_k».proof.Proof.Gen.DhCqIdeal.Launch
public import proofs.«01_k».proof.Proof.Gen.DhCqIdeal.Points
public import proofs.«01_k».proof.Proof.Gen.DhCqIdeal.Frame
public import proofs.«01_k».proof.Proof.Gen.DhCqIdeal.Value
public import proofs.«01_k».proof.Proof.Gen.DhCqRefIdeal
public import proofs.«01_k».proof.Proof.Gen.DhCqRefIdeal.Run
public import proofs.«01_k».proof.Proof.Gen.DhCkv
public import proofs.«01_k».proof.Proof.Gen.DhCkv.Skeleton
public import proofs.«01_k».proof.Proof.Gen.DhCkv.Launch
public import proofs.«01_k».proof.Proof.Gen.DhCkv.Points
public import proofs.«01_k».proof.Proof.Gen.DhCkv.Frame
public import proofs.«01_k».proof.Proof.Gen.DhCkvIdeal
public import proofs.«01_k».proof.Proof.Gen.DhCkvIdeal.Skeleton
public import proofs.«01_k».proof.Proof.Gen.DhCkvIdeal.Launch
public import proofs.«01_k».proof.Proof.Gen.DhCkvIdeal.Points
public import proofs.«01_k».proof.Proof.Gen.DhCkvIdeal.Frame
public import proofs.«01_k».proof.Proof.Gen.DhCkvIdeal.Value
public import proofs.«01_k».proof.Proof.Gen.DhCkvRefIdeal
public import proofs.«01_k».proof.Proof.Gen.DhCkvRefIdeal.Run
public import proofs.«01_k».proof.Proof.Gen.DwCq
public import proofs.«01_k».proof.Proof.Gen.DwCq.Skeleton
public import proofs.«01_k».proof.Proof.Gen.DwCq.Launch
public import proofs.«01_k».proof.Proof.Gen.DwCq.Points
public import proofs.«01_k».proof.Proof.Gen.DwCq.Frame
public import proofs.«01_k».proof.Proof.Gen.DwCqIdeal
public import proofs.«01_k».proof.Proof.Gen.DwCqIdeal.Skeleton
public import proofs.«01_k».proof.Proof.Gen.DwCqIdeal.Launch
public import proofs.«01_k».proof.Proof.Gen.DwCqIdeal.Points
public import proofs.«01_k».proof.Proof.Gen.DwCqIdeal.Frame
public import proofs.«01_k».proof.Proof.Gen.DwCqIdeal.Value
public import proofs.«01_k».proof.Proof.Gen.DwCqRefIdeal
public import proofs.«01_k».proof.Proof.Gen.DwCqRefIdeal.Run
public import proofs.«01_k».proof.Proof.Gen.DwCkv
public import proofs.«01_k».proof.Proof.Gen.DwCkv.Skeleton
public import proofs.«01_k».proof.Proof.Gen.DwCkv.Launch
public import proofs.«01_k».proof.Proof.Gen.DwCkv.Points
public import proofs.«01_k».proof.Proof.Gen.DwCkv.Frame
public import proofs.«01_k».proof.Proof.Gen.DwCkvIdeal
public import proofs.«01_k».proof.Proof.Gen.DwCkvIdeal.Skeleton
public import proofs.«01_k».proof.Proof.Gen.DwCkvIdeal.Launch
public import proofs.«01_k».proof.Proof.Gen.DwCkvIdeal.Points
public import proofs.«01_k».proof.Proof.Gen.DwCkvIdeal.Frame
public import proofs.«01_k».proof.Proof.Gen.DwCkvIdeal.Value
public import proofs.«01_k».proof.Proof.Gen.DwCkvRefIdeal
public import proofs.«01_k».proof.Proof.Gen.DwCkvRefIdeal.Run
public import proofs.«01_k».proof.Proof.Gen.Dcqn
public import proofs.«01_k».proof.Proof.Gen.Dcqn.Skeleton
public import proofs.«01_k».proof.Proof.Gen.Dcqn.Launch
public import proofs.«01_k».proof.Proof.Gen.Dcqn.Points
public import proofs.«01_k».proof.Proof.Gen.Dcqn.Frame
public import proofs.«01_k».proof.Proof.Gen.DcqnIdeal
public import proofs.«01_k».proof.Proof.Gen.DcqnIdeal.Skeleton
public import proofs.«01_k».proof.Proof.Gen.DcqnIdeal.Launch
public import proofs.«01_k».proof.Proof.Gen.DcqnIdeal.Points
public import proofs.«01_k».proof.Proof.Gen.DcqnIdeal.Frame
public import proofs.«01_k».proof.Proof.Gen.DcqnIdeal.Value
public import proofs.«01_k».proof.Proof.Gen.DcqnRefIdeal
public import proofs.«01_k».proof.Proof.Gen.DcqnRefIdeal.Run
public import proofs.«01_k».proof.Proof.Gen.Dwq2
public import proofs.«01_k».proof.Proof.Gen.Dwq2.Skeleton
public import proofs.«01_k».proof.Proof.Gen.Dwq2.Launch
public import proofs.«01_k».proof.Proof.Gen.Dwq2.Points
public import proofs.«01_k».proof.Proof.Gen.Dwq2.Frame
public import proofs.«01_k».proof.Proof.Gen.Dwq2Ideal
public import proofs.«01_k».proof.Proof.Gen.Dwq2Ideal.Skeleton
public import proofs.«01_k».proof.Proof.Gen.Dwq2Ideal.Launch
public import proofs.«01_k».proof.Proof.Gen.Dwq2Ideal.Points
public import proofs.«01_k».proof.Proof.Gen.Dwq2Ideal.Frame
public import proofs.«01_k».proof.Proof.Gen.Dwq2Ideal.Value
public import proofs.«01_k».proof.Proof.Gen.Dwq2RefIdeal
public import proofs.«01_k».proof.Proof.Gen.Dwq2RefIdeal.Run
public import proofs.«01_k».proof.Proof.Gen.DckvnK
public import proofs.«01_k».proof.Proof.Gen.DckvnK.Skeleton
public import proofs.«01_k».proof.Proof.Gen.DckvnK.Launch
public import proofs.«01_k».proof.Proof.Gen.DckvnK.Points
public import proofs.«01_k».proof.Proof.Gen.DckvnK.Frame
public import proofs.«01_k».proof.Proof.Gen.DckvnKIdeal
public import proofs.«01_k».proof.Proof.Gen.DckvnKIdeal.Skeleton
public import proofs.«01_k».proof.Proof.Gen.DckvnKIdeal.Launch
public import proofs.«01_k».proof.Proof.Gen.DckvnKIdeal.Points
public import proofs.«01_k».proof.Proof.Gen.DckvnKIdeal.Frame
public import proofs.«01_k».proof.Proof.Gen.DckvnKIdeal.Value
public import proofs.«01_k».proof.Proof.Gen.DckvnKRefIdeal
public import proofs.«01_k».proof.Proof.Gen.DckvnKRefIdeal.Run
public import proofs.«01_k».proof.Proof.Gen.DckvnV
public import proofs.«01_k».proof.Proof.Gen.DckvnV.Skeleton
public import proofs.«01_k».proof.Proof.Gen.DckvnV.Launch
public import proofs.«01_k».proof.Proof.Gen.DckvnV.Points
public import proofs.«01_k».proof.Proof.Gen.DckvnV.Frame
public import proofs.«01_k».proof.Proof.Gen.DckvnVIdeal
public import proofs.«01_k».proof.Proof.Gen.DckvnVIdeal.Skeleton
public import proofs.«01_k».proof.Proof.Gen.DckvnVIdeal.Launch
public import proofs.«01_k».proof.Proof.Gen.DckvnVIdeal.Points
public import proofs.«01_k».proof.Proof.Gen.DckvnVIdeal.Frame
public import proofs.«01_k».proof.Proof.Gen.DckvnVIdeal.Value
public import proofs.«01_k».proof.Proof.Gen.DckvnVRefIdeal
public import proofs.«01_k».proof.Proof.Gen.DckvnVRefIdeal.Run
public import proofs.«01_k».proof.Proof.Gen.DhKr
public import proofs.«01_k».proof.Proof.Gen.DhKr.Skeleton
public import proofs.«01_k».proof.Proof.Gen.DhKr.Launch
public import proofs.«01_k».proof.Proof.Gen.DhKr.Points
public import proofs.«01_k».proof.Proof.Gen.DhKr.Frame
public import proofs.«01_k».proof.Proof.Gen.DhKrIdeal
public import proofs.«01_k».proof.Proof.Gen.DhKrIdeal.Skeleton
public import proofs.«01_k».proof.Proof.Gen.DhKrIdeal.Launch
public import proofs.«01_k».proof.Proof.Gen.DhKrIdeal.Points
public import proofs.«01_k».proof.Proof.Gen.DhKrIdeal.Frame
public import proofs.«01_k».proof.Proof.Gen.DhKrIdeal.Value
public import proofs.«01_k».proof.Proof.Gen.DhKrRefIdeal
public import proofs.«01_k».proof.Proof.Gen.DhKrRefIdeal.Run
public import proofs.«01_k».proof.Proof.Gen.Dwkn
public import proofs.«01_k».proof.Proof.Gen.Dwkn.Skeleton
public import proofs.«01_k».proof.Proof.Gen.Dwkn.Launch
public import proofs.«01_k».proof.Proof.Gen.Dwkn.Points
public import proofs.«01_k».proof.Proof.Gen.Dwkn.Frame
public import proofs.«01_k».proof.Proof.Gen.DwknIdeal
public import proofs.«01_k».proof.Proof.Gen.DwknIdeal.Skeleton
public import proofs.«01_k».proof.Proof.Gen.DwknIdeal.Launch
public import proofs.«01_k».proof.Proof.Gen.DwknIdeal.Points
public import proofs.«01_k».proof.Proof.Gen.DwknIdeal.Frame
public import proofs.«01_k».proof.Proof.Gen.DwknIdeal.Value
public import proofs.«01_k».proof.Proof.Gen.DwknRefIdeal
public import proofs.«01_k».proof.Proof.Gen.DwknRefIdeal.Run
public import proofs.«01_k».proof.Proof.Gen.Dwv
public import proofs.«01_k».proof.Proof.Gen.Dwv.Skeleton
public import proofs.«01_k».proof.Proof.Gen.Dwv.Launch
public import proofs.«01_k».proof.Proof.Gen.Dwv.Points
public import proofs.«01_k».proof.Proof.Gen.Dwv.Frame
public import proofs.«01_k».proof.Proof.Gen.DwvIdeal
public import proofs.«01_k».proof.Proof.Gen.DwvIdeal.Skeleton
public import proofs.«01_k».proof.Proof.Gen.DwvIdeal.Launch
public import proofs.«01_k».proof.Proof.Gen.DwvIdeal.Points
public import proofs.«01_k».proof.Proof.Gen.DwvIdeal.Frame
public import proofs.«01_k».proof.Proof.Gen.DwvIdeal.Value
public import proofs.«01_k».proof.Proof.Gen.DwvRefIdeal
public import proofs.«01_k».proof.Proof.Gen.DwvRefIdeal.Run
public import proofs.«01_k».proof.Proof.Gen.DwKr
public import proofs.«01_k».proof.Proof.Gen.DwKr.Skeleton
public import proofs.«01_k».proof.Proof.Gen.DwKr.Launch
public import proofs.«01_k».proof.Proof.Gen.DwKr.Points
public import proofs.«01_k».proof.Proof.Gen.DwKr.Frame
public import proofs.«01_k».proof.Proof.Gen.DwKrIdeal
public import proofs.«01_k».proof.Proof.Gen.DwKrIdeal.Skeleton
public import proofs.«01_k».proof.Proof.Gen.DwKrIdeal.Launch
public import proofs.«01_k».proof.Proof.Gen.DwKrIdeal.Points
public import proofs.«01_k».proof.Proof.Gen.DwKrIdeal.Frame
public import proofs.«01_k».proof.Proof.Gen.DwKrIdeal.Value
public import proofs.«01_k».proof.Proof.Gen.DwKrRefIdeal
public import proofs.«01_k».proof.Proof.Gen.DwKrRefIdeal.Run
public import proofs.«01_k».proof.Proof.Gen.Delta
public import proofs.«01_k».proof.Proof.Gen.Delta.Skeleton
public import proofs.«01_k».proof.Proof.Gen.Delta.Launch
public import proofs.«01_k».proof.Proof.Gen.Delta.Points
public import proofs.«01_k».proof.Proof.Gen.Delta.Frame
public import proofs.«01_k».proof.Proof.Gen.DeltaIdeal
public import proofs.«01_k».proof.Proof.Gen.DeltaIdeal.Skeleton
public import proofs.«01_k».proof.Proof.Gen.DeltaIdeal.Launch
public import proofs.«01_k».proof.Proof.Gen.DeltaIdeal.Points
public import proofs.«01_k».proof.Proof.Gen.DeltaIdeal.Frame
public import proofs.«01_k».proof.Proof.Gen.DeltaIdeal.Value
public import proofs.«01_k».proof.Proof.Gen.DeltaRefIdeal
public import proofs.«01_k».proof.Proof.Gen.DeltaRefIdeal.Run
public import proofs.«01_k».proof.Proof.Gen.Pre_finite_dh

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Fwd.Gen.facts, Cert.FwdIdeal.Gen.facts,
    Cert.FwdRefIdeal.Gen.facts, Cert.Up.Gen.facts, Cert.UpIdeal.Gen.facts, Cert.UpRefIdeal.Gen.facts, Cert.Dh.Gen.facts,
    Cert.DhIdeal.Gen.facts, Cert.DhRefIdeal.Gen.facts, Cert.Dw.Gen.facts, Cert.DwIdeal.Gen.facts, Cert.DwRefIdeal.Gen.facts,
    Cert.Down.Gen.facts, Cert.DownIdeal.Gen.facts, Cert.DownRefIdeal.Gen.facts,
    Cert.Dw2.Gen.facts, Cert.Dw2Ideal.Gen.facts, Cert.Dw2RefIdeal.Gen.facts,
    Cert.InB.Gen.facts, Cert.InBIdeal.Gen.facts, Cert.InBRefIdeal.Gen.facts,
    Cert.DhB.Gen.facts, Cert.DhBIdeal.Gen.facts, Cert.DhBRefIdeal.Gen.facts,
    Cert.DwB.Gen.facts, Cert.DwBIdeal.Gen.facts, Cert.DwBRefIdeal.Gen.facts,
    Cert.InG.Gen.facts, Cert.InGIdeal.Gen.facts, Cert.InGRefIdeal.Gen.facts,
    Cert.DhG.Gen.facts, Cert.DhGIdeal.Gen.facts, Cert.DhGRefIdeal.Gen.facts,
    Cert.DwG.Gen.facts, Cert.DwGIdeal.Gen.facts, Cert.DwGRefIdeal.Gen.facts,
    Cert.Out.Gen.facts, Cert.OutIdeal.Gen.facts, Cert.OutRefIdeal.Gen.facts,
    Cert.DwOut.Gen.facts, Cert.DwOutIdeal.Gen.facts, Cert.DwOutRefIdeal.Gen.facts,
    Cert.Merge.Gen.facts, Cert.MergeIdeal.Gen.facts, Cert.MergeRefIdeal.Gen.facts,
    Cert.MergeBwd.Gen.facts, Cert.MergeBwdIdeal.Gen.facts, Cert.MergeBwdRefIdeal.Gen.facts,
    Cert.Cross.Gen.facts, Cert.CrossIdeal.Gen.facts, Cert.CrossRefIdeal.Gen.facts,
    Cert.Xq.Gen.facts, Cert.XqIdeal.Gen.facts, Cert.XqRefIdeal.Gen.facts,
    Cert.Dox.Gen.facts, Cert.DoxIdeal.Gen.facts, Cert.DoxRefIdeal.Gen.facts,
    Cert.Dmerged.Gen.facts, Cert.DmergedIdeal.Gen.facts, Cert.DmergedRefIdeal.Gen.facts,
    Cert.Dh1.Gen.facts, Cert.Dh1Ideal.Gen.facts, Cert.Dh1RefIdeal.Gen.facts,
    Cert.DyA.Gen.facts, Cert.DyAIdeal.Gen.facts, Cert.DyARefIdeal.Gen.facts,
    Cert.DyB.Gen.facts, Cert.DyBIdeal.Gen.facts, Cert.DyBRefIdeal.Gen.facts,
    Cert.DwBrA.Gen.facts, Cert.DwBrAIdeal.Gen.facts, Cert.DwBrARefIdeal.Gen.facts,
    Cert.DwBrB.Gen.facts, Cert.DwBrBIdeal.Gen.facts, Cert.DwBrBRefIdeal.Gen.facts,
    Cert.InC.Gen.facts, Cert.InCIdeal.Gen.facts, Cert.InCRefIdeal.Gen.facts,
    Cert.DhC.Gen.facts, Cert.DhCIdeal.Gen.facts, Cert.DhCRefIdeal.Gen.facts,
    Cert.DwC.Gen.facts, Cert.DwCIdeal.Gen.facts, Cert.DwCRefIdeal.Gen.facts,
    Cert.Rms.Gen.facts, Cert.RmsIdeal.Gen.facts, Cert.RmsRefIdeal.Gen.facts,
    Cert.RmsMem.Gen.facts, Cert.RmsMemIdeal.Gen.facts, Cert.RmsMemRefIdeal.Gen.facts,
    Cert.RmsCq.Gen.facts, Cert.RmsCqIdeal.Gen.facts, Cert.RmsCqRefIdeal.Gen.facts,
    Cert.RmsCkv.Gen.facts, Cert.RmsCkvIdeal.Gen.facts, Cert.RmsCkvRefIdeal.Gen.facts,
    Cert.Xkv.Gen.facts, Cert.XkvIdeal.Gen.facts, Cert.XkvRefIdeal.Gen.facts,
    Cert.Dmemn.Gen.facts, Cert.DmemnIdeal.Gen.facts, Cert.DmemnRefIdeal.Gen.facts,
    Cert.Dwkv.Gen.facts, Cert.DwkvIdeal.Gen.facts, Cert.DwkvRefIdeal.Gen.facts,
    Cert.InA.Gen.facts, Cert.InAIdeal.Gen.facts, Cert.InARefIdeal.Gen.facts,
    Cert.Ukv.Gen.facts, Cert.UkvIdeal.Gen.facts, Cert.UkvRefIdeal.Gen.facts,
    Cert.DhCq.Gen.facts, Cert.DhCqIdeal.Gen.facts, Cert.DhCqRefIdeal.Gen.facts,
    Cert.DhCkv.Gen.facts, Cert.DhCkvIdeal.Gen.facts, Cert.DhCkvRefIdeal.Gen.facts,
    Cert.DwCq.Gen.facts, Cert.DwCqIdeal.Gen.facts, Cert.DwCqRefIdeal.Gen.facts,
    Cert.DwCkv.Gen.facts, Cert.DwCkvIdeal.Gen.facts, Cert.DwCkvRefIdeal.Gen.facts,
    Cert.Dcqn.Gen.facts, Cert.DcqnIdeal.Gen.facts, Cert.DcqnRefIdeal.Gen.facts,
    Cert.Dwq2.Gen.facts, Cert.Dwq2Ideal.Gen.facts, Cert.Dwq2RefIdeal.Gen.facts,
    Cert.DckvnK.Gen.facts, Cert.DckvnKIdeal.Gen.facts, Cert.DckvnKRefIdeal.Gen.facts,
    Cert.DckvnV.Gen.facts, Cert.DckvnVIdeal.Gen.facts, Cert.DckvnVRefIdeal.Gen.facts,
    Cert.DhKr.Gen.facts, Cert.DhKrIdeal.Gen.facts, Cert.DhKrRefIdeal.Gen.facts,
    Cert.Dwkn.Gen.facts, Cert.DwknIdeal.Gen.facts, Cert.DwknRefIdeal.Gen.facts,
    Cert.Dwv.Gen.facts, Cert.DwvIdeal.Gen.facts, Cert.DwvRefIdeal.Gen.facts,
    Cert.DwKr.Gen.facts, Cert.DwKrIdeal.Gen.facts, Cert.DwKrRefIdeal.Gen.facts,
    Cert.Delta.Gen.facts, Cert.DeltaIdeal.Gen.facts, Cert.DeltaRefIdeal.Gen.facts,
    Cert.Pre_finite.Gen.facts, Cert.Pre_finite_fwd.Gen.facts, Cert.Pre_finite_dh.Gen.facts,
    MlaClaims.frame_p, MlaClaims.frame_pi, MlaClaims.frame_pi_pre, MlaClaims.frame_ri, MlaClaims.frame_ri_pre,
    FwdClaims.frame_p, FwdClaims.frame_pi, FwdClaims.frame_pi_pre, FwdClaims.frame_ri, FwdClaims.frame_ri_pre,
    UpClaims.frame_p, UpClaims.frame_pi, UpClaims.frame_ri,
    DhClaims.frame_p, DhClaims.frame_pi, DhClaims.frame_pi_pre, DhClaims.frame_ri, DhClaims.frame_ri_pre,
    DwClaims.frame_p, DwClaims.frame_pi, DwClaims.frame_ri,
    DownClaims.frame_p, DownClaims.frame_pi, DownClaims.frame_ri,
    Dw2Claims.frame_p, Dw2Claims.frame_pi, Dw2Claims.frame_ri,
    InBClaims.frame_p, InBClaims.frame_pi, InBClaims.frame_ri,
    DhBClaims.frame_p, DhBClaims.frame_pi, DhBClaims.frame_ri,
    DwBClaims.frame_p, DwBClaims.frame_pi, DwBClaims.frame_ri,
    InGClaims.frame_p, InGClaims.frame_pi, InGClaims.frame_ri,
    DhGClaims.frame_p, DhGClaims.frame_pi, DhGClaims.frame_ri,
    DwGClaims.frame_p, DwGClaims.frame_pi, DwGClaims.frame_ri,
    OutClaims.frame_p, OutClaims.frame_pi, OutClaims.frame_ri,
    DwOutClaims.frame_p, DwOutClaims.frame_pi, DwOutClaims.frame_ri,
    MergeClaims.frame_p, MergeClaims.frame_pi, MergeClaims.frame_ri,
    MergeBwdClaims.frame_p, MergeBwdClaims.frame_pi, MergeBwdClaims.frame_ri,
    CrossClaims.frame_p, CrossClaims.frame_pi, CrossClaims.frame_ri,
    XqClaims.frame_p, XqClaims.frame_pi, XqClaims.frame_ri,
    DoxClaims.frame_p, DoxClaims.frame_pi, DoxClaims.frame_ri,
    DmergedClaims.frame_p, DmergedClaims.frame_pi, DmergedClaims.frame_ri,
    Dh1Claims.frame_p, Dh1Claims.frame_pi, Dh1Claims.frame_ri,
    DyAClaims.frame_p, DyAClaims.frame_pi, DyAClaims.frame_ri,
    DyBClaims.frame_p, DyBClaims.frame_pi, DyBClaims.frame_ri,
    DwBrAClaims.frame_p, DwBrAClaims.frame_pi, DwBrAClaims.frame_ri,
    DwBrBClaims.frame_p, DwBrBClaims.frame_pi, DwBrBClaims.frame_ri,
    InCClaims.frame_p, InCClaims.frame_pi, InCClaims.frame_ri,
    DhCClaims.frame_p, DhCClaims.frame_pi, DhCClaims.frame_ri,
    DwCClaims.frame_p, DwCClaims.frame_pi, DwCClaims.frame_ri,
    RmsClaims.frame_p, RmsClaims.frame_pi, RmsClaims.frame_ri,
    RmsMemClaims.frame_p, RmsMemClaims.frame_pi, RmsMemClaims.frame_ri,
    RmsCqClaims.frame_p, RmsCqClaims.frame_pi, RmsCqClaims.frame_ri,
    RmsCkvClaims.frame_p, RmsCkvClaims.frame_pi, RmsCkvClaims.frame_ri,
    XkvClaims.frame_p, XkvClaims.frame_pi, XkvClaims.frame_ri,
    DmemnClaims.frame_p, DmemnClaims.frame_pi, DmemnClaims.frame_ri,
    DwkvClaims.frame_p, DwkvClaims.frame_pi, DwkvClaims.frame_ri,
    InAClaims.frame_p, InAClaims.frame_pi, InAClaims.frame_ri,
    UkvClaims.frame_p, UkvClaims.frame_pi, UkvClaims.frame_ri,
    DhCqClaims.frame_p, DhCqClaims.frame_pi, DhCqClaims.frame_ri,
    DhCkvClaims.frame_p, DhCkvClaims.frame_pi, DhCkvClaims.frame_ri,
    DwCqClaims.frame_p, DwCqClaims.frame_pi, DwCqClaims.frame_ri,
    DwCkvClaims.frame_p, DwCkvClaims.frame_pi, DwCkvClaims.frame_ri,
    DcqnClaims.frame_p, DcqnClaims.frame_pi, DcqnClaims.frame_ri,
    Dwq2Claims.frame_p, Dwq2Claims.frame_pi, Dwq2Claims.frame_ri,
    DckvnKClaims.frame_p, DckvnKClaims.frame_pi, DckvnKClaims.frame_ri,
    DckvnVClaims.frame_p, DckvnVClaims.frame_pi, DckvnVClaims.frame_ri,
    DhKrClaims.frame_p, DhKrClaims.frame_pi, DhKrClaims.frame_ri,
    DwknClaims.frame_p, DwknClaims.frame_pi, DwknClaims.frame_ri,
    DwvClaims.frame_p, DwvClaims.frame_pi, DwvClaims.frame_ri,
    DwKrClaims.frame_p, DwKrClaims.frame_pi, DwKrClaims.frame_ri,
    DeltaClaims.frame_p, DeltaClaims.frame_pi, DeltaClaims.frame_ri,
    MlaClaims.preserves, MlaClaims.algebraic, FwdClaims.preserves, FwdClaims.algebraic,
    UpClaims.preserves, UpClaims.algebraic, DhClaims.preserves, DhClaims.algebraic, DwClaims.preserves, DwClaims.algebraic,
    DownClaims.preserves, DownClaims.algebraic, Dw2Claims.preserves, Dw2Claims.algebraic, InBClaims.preserves, InBClaims.algebraic, DhBClaims.preserves, DhBClaims.algebraic,
    DwBClaims.preserves, DwBClaims.algebraic, InGClaims.preserves, InGClaims.algebraic, DhGClaims.preserves, DhGClaims.algebraic, DwGClaims.preserves, DwGClaims.algebraic,
    OutClaims.preserves, OutClaims.algebraic, DwOutClaims.preserves, DwOutClaims.algebraic, MergeClaims.preserves, MergeClaims.algebraic,
    MergeBwdClaims.preserves, MergeBwdClaims.algebraic, CrossClaims.preserves, CrossClaims.algebraic,
    XqClaims.preserves, XqClaims.algebraic,
    DoxClaims.preserves, DoxClaims.algebraic,
    DmergedClaims.preserves, DmergedClaims.algebraic,
    Dh1Claims.preserves, Dh1Claims.algebraic,
    DyAClaims.preserves, DyAClaims.algebraic,
    DyBClaims.preserves, DyBClaims.algebraic,
    DwBrAClaims.preserves, DwBrAClaims.algebraic,
    DwBrBClaims.preserves, DwBrBClaims.algebraic,
    InCClaims.preserves, InCClaims.algebraic,
    DhCClaims.preserves, DhCClaims.algebraic,
    DwCClaims.preserves, DwCClaims.algebraic,
    RmsClaims.preserves, RmsClaims.algebraic,
    RmsMemClaims.preserves, RmsMemClaims.algebraic,
    RmsCqClaims.preserves, RmsCqClaims.algebraic,
    RmsCkvClaims.preserves, RmsCkvClaims.algebraic,
    XkvClaims.preserves, XkvClaims.algebraic,
    DmemnClaims.preserves, DmemnClaims.algebraic,
    DwkvClaims.preserves, DwkvClaims.algebraic,
    InAClaims.preserves, InAClaims.algebraic,
    UkvClaims.preserves, UkvClaims.algebraic,
    DhCqClaims.preserves, DhCqClaims.algebraic,
    DhCkvClaims.preserves, DhCkvClaims.algebraic,
    DwCqClaims.preserves, DwCqClaims.algebraic,
    DwCkvClaims.preserves, DwCkvClaims.algebraic,
    DcqnClaims.preserves, DcqnClaims.algebraic,
    Dwq2Claims.preserves, Dwq2Claims.algebraic,
    DckvnKClaims.preserves, DckvnKClaims.algebraic,
    DckvnVClaims.preserves, DckvnVClaims.algebraic,
    DhKrClaims.preserves, DhKrClaims.algebraic,
    DwknClaims.preserves, DwknClaims.algebraic,
    DwvClaims.preserves, DwvClaims.algebraic,
    DwKrClaims.preserves, DwKrClaims.algebraic,
    DeltaClaims.preserves, DeltaClaims.algebraic⟩

end Cert.Proof

end
